-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_FfnDownDx (m : (ℓ : Loc Cert.FfnDownDx.nD Cert.FfnDownDx.τ Cert.FfnDownDx.sig) → Buf (Elt Bits) ℓ) : Prop :=
  True

def Pre_FfnDownDxIdeal (m : (ℓ : Loc Cert.FfnDownDxIdeal.nD Cert.FfnDownDxIdeal.τ Cert.FfnDownDxIdeal.sig) → Buf (Elt Ideal) ℓ) : Prop :=
  True

def Pre_FfnDownDxRefIdeal (m : (ℓ : Loc Cert.FfnDownDxRefIdeal.nD Cert.FfnDownDxRefIdeal.τ Cert.FfnDownDxRefIdeal.sig) → Buf (Elt Ideal) ℓ) : Prop :=
  True

def Pre_FfnDownDw (m : (ℓ : Loc Cert.FfnDownDw.nD Cert.FfnDownDw.τ Cert.FfnDownDw.sig) → Buf (Elt Bits) ℓ) : Prop :=
  True

def Pre_FfnDownDwIdeal (m : (ℓ : Loc Cert.FfnDownDwIdeal.nD Cert.FfnDownDwIdeal.τ Cert.FfnDownDwIdeal.sig) → Buf (Elt Ideal) ℓ) : Prop :=
  True

def Pre_FfnDownDwRefIdeal (m : (ℓ : Loc Cert.FfnDownDwRefIdeal.nD Cert.FfnDownDwRefIdeal.τ Cert.FfnDownDwRefIdeal.sig) → Buf (Elt Ideal) ℓ) : Prop :=
  True

def Pre_FfnUpDx (m : (ℓ : Loc Cert.FfnUpDx.nD Cert.FfnUpDx.τ Cert.FfnUpDx.sig) → Buf (Elt Bits) ℓ) : Prop :=
  True

def Pre_FfnUpDxIdeal (m : (ℓ : Loc Cert.FfnUpDxIdeal.nD Cert.FfnUpDxIdeal.τ Cert.FfnUpDxIdeal.sig) → Buf (Elt Ideal) ℓ) : Prop :=
  True

def Pre_FfnUpDxRefIdeal (m : (ℓ : Loc Cert.FfnUpDxRefIdeal.nD Cert.FfnUpDxRefIdeal.τ Cert.FfnUpDxRefIdeal.sig) → Buf (Elt Ideal) ℓ) : Prop :=
  True

def Pre_FfnUp1 (m : (ℓ : Loc Cert.FfnUp1.nD Cert.FfnUp1.τ Cert.FfnUp1.sig) → Buf (Elt Bits) ℓ) : Prop :=
  True

def Pre_FfnUp1Ideal (m : (ℓ : Loc Cert.FfnUp1Ideal.nD Cert.FfnUp1Ideal.τ Cert.FfnUp1Ideal.sig) → Buf (Elt Ideal) ℓ) : Prop :=
  True

def Pre_FfnUp1RefIdeal (m : (ℓ : Loc Cert.FfnUp1RefIdeal.nD Cert.FfnUp1RefIdeal.τ Cert.FfnUp1RefIdeal.sig) → Buf (Elt Ideal) ℓ) : Prop :=
  True

def Pre_FfnUp1Dx (m : (ℓ : Loc Cert.FfnUp1Dx.nD Cert.FfnUp1Dx.τ Cert.FfnUp1Dx.sig) → Buf (Elt Bits) ℓ) : Prop :=
  True

def Pre_FfnUp1DxIdeal (m : (ℓ : Loc Cert.FfnUp1DxIdeal.nD Cert.FfnUp1DxIdeal.τ Cert.FfnUp1DxIdeal.sig) → Buf (Elt Ideal) ℓ) : Prop :=
  True

def Pre_FfnUp1DxRefIdeal (m : (ℓ : Loc Cert.FfnUp1DxRefIdeal.nD Cert.FfnUp1DxRefIdeal.τ Cert.FfnUp1DxRefIdeal.sig) → Buf (Elt Ideal) ℓ) : Prop :=
  True

def Pre_FfnUpDw (m : (ℓ : Loc Cert.FfnUpDw.nD Cert.FfnUpDw.τ Cert.FfnUpDw.sig) → Buf (Elt Bits) ℓ) : Prop :=
  True

def Pre_FfnUpDwIdeal (m : (ℓ : Loc Cert.FfnUpDwIdeal.nD Cert.FfnUpDwIdeal.τ Cert.FfnUpDwIdeal.sig) → Buf (Elt Ideal) ℓ) : Prop :=
  True

def Pre_FfnUpDwRefIdeal (m : (ℓ : Loc Cert.FfnUpDwRefIdeal.nD Cert.FfnUpDwRefIdeal.τ Cert.FfnUpDwRefIdeal.sig) → Buf (Elt Ideal) ℓ) : Prop :=
  True

def Pre_LruIn (m : (ℓ : Loc Cert.LruIn.nD Cert.LruIn.τ Cert.LruIn.sig) → Buf (Elt Bits) ℓ) : Prop :=
  True

def Pre_LruInIdeal (m : (ℓ : Loc Cert.LruInIdeal.nD Cert.LruInIdeal.τ Cert.LruInIdeal.sig) → Buf (Elt Ideal) ℓ) : Prop :=
  True

def Pre_LruInRefIdeal (m : (ℓ : Loc Cert.LruInRefIdeal.nD Cert.LruInRefIdeal.τ Cert.LruInRefIdeal.sig) → Buf (Elt Ideal) ℓ) : Prop :=
  True

def Pre_LruInDx (m : (ℓ : Loc Cert.LruInDx.nD Cert.LruInDx.τ Cert.LruInDx.sig) → Buf (Elt Bits) ℓ) : Prop :=
  True

def Pre_LruInDxIdeal (m : (ℓ : Loc Cert.LruInDxIdeal.nD Cert.LruInDxIdeal.τ Cert.LruInDxIdeal.sig) → Buf (Elt Ideal) ℓ) : Prop :=
  True

def Pre_LruInDxRefIdeal (m : (ℓ : Loc Cert.LruInDxRefIdeal.nD Cert.LruInDxRefIdeal.τ Cert.LruInDxRefIdeal.sig) → Buf (Elt Ideal) ℓ) : Prop :=
  True

def Pre_LruInDw (m : (ℓ : Loc Cert.LruInDw.nD Cert.LruInDw.τ Cert.LruInDw.sig) → Buf (Elt Bits) ℓ) : Prop :=
  True

def Pre_LruInDwIdeal (m : (ℓ : Loc Cert.LruInDwIdeal.nD Cert.LruInDwIdeal.τ Cert.LruInDwIdeal.sig) → Buf (Elt Ideal) ℓ) : Prop :=
  True

def Pre_LruInDwRefIdeal (m : (ℓ : Loc Cert.LruInDwRefIdeal.nD Cert.LruInDwRefIdeal.τ Cert.LruInDwRefIdeal.sig) → Buf (Elt Ideal) ℓ) : Prop :=
  True

def Pre_LruOut (m : (ℓ : Loc Cert.LruOut.nD Cert.LruOut.τ Cert.LruOut.sig) → Buf (Elt Bits) ℓ) : Prop :=
  True

def Pre_LruOutIdeal (m : (ℓ : Loc Cert.LruOutIdeal.nD Cert.LruOutIdeal.τ Cert.LruOutIdeal.sig) → Buf (Elt Ideal) ℓ) : Prop :=
  True

def Pre_LruOutRefIdeal (m : (ℓ : Loc Cert.LruOutRefIdeal.nD Cert.LruOutRefIdeal.τ Cert.LruOutRefIdeal.sig) → Buf (Elt Ideal) ℓ) : Prop :=
  True

def Pre_LruOutDx (m : (ℓ : Loc Cert.LruOutDx.nD Cert.LruOutDx.τ Cert.LruOutDx.sig) → Buf (Elt Bits) ℓ) : Prop :=
  True

def Pre_LruOutDxIdeal (m : (ℓ : Loc Cert.LruOutDxIdeal.nD Cert.LruOutDxIdeal.τ Cert.LruOutDxIdeal.sig) → Buf (Elt Ideal) ℓ) : Prop :=
  True

def Pre_LruOutDxRefIdeal (m : (ℓ : Loc Cert.LruOutDxRefIdeal.nD Cert.LruOutDxRefIdeal.τ Cert.LruOutDxRefIdeal.sig) → Buf (Elt Ideal) ℓ) : Prop :=
  True

def Pre_LruOutDw (m : (ℓ : Loc Cert.LruOutDw.nD Cert.LruOutDw.τ Cert.LruOutDw.sig) → Buf (Elt Bits) ℓ) : Prop :=
  True

def Pre_LruOutDwIdeal (m : (ℓ : Loc Cert.LruOutDwIdeal.nD Cert.LruOutDwIdeal.τ Cert.LruOutDwIdeal.sig) → Buf (Elt Ideal) ℓ) : Prop :=
  True

def Pre_LruOutDwRefIdeal (m : (ℓ : Loc Cert.LruOutDwRefIdeal.nD Cert.LruOutDwRefIdeal.τ Cert.LruOutDwRefIdeal.sig) → Buf (Elt Ideal) ℓ) : Prop :=
  True

def Pre_RwkvR (m : (ℓ : Loc Cert.RwkvR.nD Cert.RwkvR.τ Cert.RwkvR.sig) → Buf (Elt Bits) ℓ) : Prop :=
  True

def Pre_RwkvRIdeal (m : (ℓ : Loc Cert.RwkvRIdeal.nD Cert.RwkvRIdeal.τ Cert.RwkvRIdeal.sig) → Buf (Elt Ideal) ℓ) : Prop :=
  True

def Pre_RwkvRRefIdeal (m : (ℓ : Loc Cert.RwkvRRefIdeal.nD Cert.RwkvRRefIdeal.τ Cert.RwkvRRefIdeal.sig) → Buf (Elt Ideal) ℓ) : Prop :=
  True

def Pre_RwkvOut (m : (ℓ : Loc Cert.RwkvOut.nD Cert.RwkvOut.τ Cert.RwkvOut.sig) → Buf (Elt Bits) ℓ) : Prop :=
  True

def Pre_RwkvOutIdeal (m : (ℓ : Loc Cert.RwkvOutIdeal.nD Cert.RwkvOutIdeal.τ Cert.RwkvOutIdeal.sig) → Buf (Elt Ideal) ℓ) : Prop :=
  True

def Pre_RwkvOutRefIdeal (m : (ℓ : Loc Cert.RwkvOutRefIdeal.nD Cert.RwkvOutRefIdeal.τ Cert.RwkvOutRefIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdRefIdeal (m : (ℓ : Loc Cert.NormBwdRefIdeal.nD Cert.NormBwdRefIdeal.τ Cert.NormBwdRefIdeal.sig) → Buf (Elt Ideal) ℓ) : Prop :=
  True

def Pre_FfnAct (m : (ℓ : Loc Cert.FfnAct.nD Cert.FfnAct.τ Cert.FfnAct.sig) → Buf (Elt Bits) ℓ) : Prop :=
  True

def Pre_FfnActIdeal (m : (ℓ : Loc Cert.FfnActIdeal.nD Cert.FfnActIdeal.τ Cert.FfnActIdeal.sig) → Buf (Elt Ideal) ℓ) : Prop :=
  True

def Pre_FfnActRefIdeal (m : (ℓ : Loc Cert.FfnActRefIdeal.nD Cert.FfnActRefIdeal.τ Cert.FfnActRefIdeal.sig) → Buf (Elt Ideal) ℓ) : Prop :=
  True

def Pre_FfnActBwd (m : (ℓ : Loc Cert.FfnActBwd.nD Cert.FfnActBwd.τ Cert.FfnActBwd.sig) → Buf (Elt Bits) ℓ) : Prop :=
  True

def Pre_FfnActBwdIdeal (m : (ℓ : Loc Cert.FfnActBwdIdeal.nD Cert.FfnActBwdIdeal.τ Cert.FfnActBwdIdeal.sig) → Buf (Elt Ideal) ℓ) : Prop :=
  True

def Pre_FfnActBwdIdeal_finite_act [hPre_finite_act : Cert.Pre_finite_act.Facts] (m : (ℓ : Loc Cert.FfnActBwdIdeal.nD Cert.FfnActBwdIdeal.τ Cert.FfnActBwdIdeal.sig) → Buf (Elt Ideal) ℓ) : Prop :=
  ∀ c : Dev Cert.FfnActBwdIdeal.nD,
    (Cert.Pre_finite_act.fn (F := Ideal) (m ((c.tc : Thread Cert.FfnActBwdIdeal.nD Cert.FfnActBwdIdeal.τ).loc Cert.FfnActBwdIdeal.main_arg0)) (m ((c.tc : Thread Cert.FfnActBwdIdeal.nD Cert.FfnActBwdIdeal.τ).loc Cert.FfnActBwdIdeal.main_arg1)) (m ((c.tc : Thread Cert.FfnActBwdIdeal.nD Cert.FfnActBwdIdeal.τ).loc Cert.FfnActBwdIdeal.main_arg2)) (m ((c.tc : Thread Cert.FfnActBwdIdeal.nD Cert.FfnActBwdIdeal.τ).loc Cert.FfnActBwdIdeal.main_arg3))).1 = (fun _ => 1#1)
    ∧ (Cert.Pre_finite_act.fn (F := Ideal) (m ((c.tc : Thread Cert.FfnActBwdIdeal.nD Cert.FfnActBwdIdeal.τ).loc Cert.FfnActBwdIdeal.main_arg0)) (m ((c.tc : Thread Cert.FfnActBwdIdeal.nD Cert.FfnActBwdIdeal.τ).loc Cert.FfnActBwdIdeal.main_arg1)) (m ((c.tc : Thread Cert.FfnActBwdIdeal.nD Cert.FfnActBwdIdeal.τ).loc Cert.FfnActBwdIdeal.main_arg2)) (m ((c.tc : Thread Cert.FfnActBwdIdeal.nD Cert.FfnActBwdIdeal.τ).loc Cert.FfnActBwdIdeal.main_arg3))).2.1 = (fun _ => 1#1)
    ∧ (Cert.Pre_finite_act.fn (F := Ideal) (m ((c.tc : Thread Cert.FfnActBwdIdeal.nD Cert.FfnActBwdIdeal.τ).loc Cert.FfnActBwdIdeal.main_arg0)) (m ((c.tc : Thread Cert.FfnActBwdIdeal.nD Cert.FfnActBwdIdeal.τ).loc Cert.FfnActBwdIdeal.main_arg1)) (m ((c.tc : Thread Cert.FfnActBwdIdeal.nD Cert.FfnActBwdIdeal.τ).loc Cert.FfnActBwdIdeal.main_arg2)) (m ((c.tc : Thread Cert.FfnActBwdIdeal.nD Cert.FfnActBwdIdeal.τ).loc Cert.FfnActBwdIdeal.main_arg3))).2.2.1 = (fun _ => 1#1)
    ∧ (Cert.Pre_finite_act.fn (F := Ideal) (m ((c.tc : Thread Cert.FfnActBwdIdeal.nD Cert.FfnActBwdIdeal.τ).loc Cert.FfnActBwdIdeal.main_arg0)) (m ((c.tc : Thread Cert.FfnActBwdIdeal.nD Cert.FfnActBwdIdeal.τ).loc Cert.FfnActBwdIdeal.main_arg1)) (m ((c.tc : Thread Cert.FfnActBwdIdeal.nD Cert.FfnActBwdIdeal.τ).loc Cert.FfnActBwdIdeal.main_arg2)) (m ((c.tc : Thread Cert.FfnActBwdIdeal.nD Cert.FfnActBwdIdeal.τ).loc Cert.FfnActBwdIdeal.main_arg3))).2.2.2 = (fun _ => 1#1)

def Pre_FfnActBwdRefIdeal (m : (ℓ : Loc Cert.FfnActBwdRefIdeal.nD Cert.FfnActBwdRefIdeal.τ Cert.FfnActBwdRefIdeal.sig) → Buf (Elt Ideal) ℓ) : Prop :=
  True

def Pre_FfnActBwdRefIdeal_finite_act [hPre_finite_act : Cert.Pre_finite_act.Facts] (m : (ℓ : Loc Cert.FfnActBwdRefIdeal.nD Cert.FfnActBwdRefIdeal.τ Cert.FfnActBwdRefIdeal.sig) → Buf (Elt Ideal) ℓ) : Prop :=
  ∀ c : Dev Cert.FfnActBwdRefIdeal.nD,
    (Cert.Pre_finite_act.fn (F := Ideal) (m ((c.tc : Thread Cert.FfnActBwdRefIdeal.nD Cert.FfnActBwdRefIdeal.τ).loc Cert.FfnActBwdRefIdeal.main_arg0)) (m ((c.tc : Thread Cert.FfnActBwdRefIdeal.nD Cert.FfnActBwdRefIdeal.τ).loc Cert.FfnActBwdRefIdeal.main_arg1)) (m ((c.tc : Thread Cert.FfnActBwdRefIdeal.nD Cert.FfnActBwdRefIdeal.τ).loc Cert.FfnActBwdRefIdeal.main_arg2)) (m ((c.tc : Thread Cert.FfnActBwdRefIdeal.nD Cert.FfnActBwdRefIdeal.τ).loc Cert.FfnActBwdRefIdeal.main_arg3))).1 = (fun _ => 1#1)
    ∧ (Cert.Pre_finite_act.fn (F := Ideal) (m ((c.tc : Thread Cert.FfnActBwdRefIdeal.nD Cert.FfnActBwdRefIdeal.τ).loc Cert.FfnActBwdRefIdeal.main_arg0)) (m ((c.tc : Thread Cert.FfnActBwdRefIdeal.nD Cert.FfnActBwdRefIdeal.τ).loc Cert.FfnActBwdRefIdeal.main_arg1)) (m ((c.tc : Thread Cert.FfnActBwdRefIdeal.nD Cert.FfnActBwdRefIdeal.τ).loc Cert.FfnActBwdRefIdeal.main_arg2)) (m ((c.tc : Thread Cert.FfnActBwdRefIdeal.nD Cert.FfnActBwdRefIdeal.τ).loc Cert.FfnActBwdRefIdeal.main_arg3))).2.1 = (fun _ => 1#1)
    ∧ (Cert.Pre_finite_act.fn (F := Ideal) (m ((c.tc : Thread Cert.FfnActBwdRefIdeal.nD Cert.FfnActBwdRefIdeal.τ).loc Cert.FfnActBwdRefIdeal.main_arg0)) (m ((c.tc : Thread Cert.FfnActBwdRefIdeal.nD Cert.FfnActBwdRefIdeal.τ).loc Cert.FfnActBwdRefIdeal.main_arg1)) (m ((c.tc : Thread Cert.FfnActBwdRefIdeal.nD Cert.FfnActBwdRefIdeal.τ).loc Cert.FfnActBwdRefIdeal.main_arg2)) (m ((c.tc : Thread Cert.FfnActBwdRefIdeal.nD Cert.FfnActBwdRefIdeal.τ).loc Cert.FfnActBwdRefIdeal.main_arg3))).2.2.1 = (fun _ => 1#1)
    ∧ (Cert.Pre_finite_act.fn (F := Ideal) (m ((c.tc : Thread Cert.FfnActBwdRefIdeal.nD Cert.FfnActBwdRefIdeal.τ).loc Cert.FfnActBwdRefIdeal.main_arg0)) (m ((c.tc : Thread Cert.FfnActBwdRefIdeal.nD Cert.FfnActBwdRefIdeal.τ).loc Cert.FfnActBwdRefIdeal.main_arg1)) (m ((c.tc : Thread Cert.FfnActBwdRefIdeal.nD Cert.FfnActBwdRefIdeal.τ).loc Cert.FfnActBwdRefIdeal.main_arg2)) (m ((c.tc : Thread Cert.FfnActBwdRefIdeal.nD Cert.FfnActBwdRefIdeal.τ).loc Cert.FfnActBwdRefIdeal.main_arg3))).2.2.2 = (fun _ => 1#1)

def Pre_LruMixBwd (m : (ℓ : Loc Cert.LruMixBwd.nD Cert.LruMixBwd.τ Cert.LruMixBwd.sig) → Buf (Elt Bits) ℓ) : Prop :=
  True

def Pre_LruMixBwdIdeal (m : (ℓ : Loc Cert.LruMixBwdIdeal.nD Cert.LruMixBwdIdeal.τ Cert.LruMixBwdIdeal.sig) → Buf (Elt Ideal) ℓ) : Prop :=
  True

def Pre_LruMixBwdIdeal_finite_mix [hPre_finite_mix : Cert.Pre_finite_mix.Facts] (m : (ℓ : Loc Cert.LruMixBwdIdeal.nD Cert.LruMixBwdIdeal.τ Cert.LruMixBwdIdeal.sig) → Buf (Elt Ideal) ℓ) : Prop :=
  ∀ c : Dev Cert.LruMixBwdIdeal.nD,
    (Cert.Pre_finite_mix.fn (F := Ideal) (m ((c.tc : Thread Cert.LruMixBwdIdeal.nD Cert.LruMixBwdIdeal.τ).loc Cert.LruMixBwdIdeal.main_arg0)) (m ((c.tc : Thread Cert.LruMixBwdIdeal.nD Cert.LruMixBwdIdeal.τ).loc Cert.LruMixBwdIdeal.main_arg1)) (m ((c.tc : Thread Cert.LruMixBwdIdeal.nD Cert.LruMixBwdIdeal.τ).loc Cert.LruMixBwdIdeal.main_arg2)) (m ((c.tc : Thread Cert.LruMixBwdIdeal.nD Cert.LruMixBwdIdeal.τ).loc Cert.LruMixBwdIdeal.main_arg3))).1 = (fun _ => 1#1)
    ∧ (Cert.Pre_finite_mix.fn (F := Ideal) (m ((c.tc : Thread Cert.LruMixBwdIdeal.nD Cert.LruMixBwdIdeal.τ).loc Cert.LruMixBwdIdeal.main_arg0)) (m ((c.tc : Thread Cert.LruMixBwdIdeal.nD Cert.LruMixBwdIdeal.τ).loc Cert.LruMixBwdIdeal.main_arg1)) (m ((c.tc : Thread Cert.LruMixBwdIdeal.nD Cert.LruMixBwdIdeal.τ).loc Cert.LruMixBwdIdeal.main_arg2)) (m ((c.tc : Thread Cert.LruMixBwdIdeal.nD Cert.LruMixBwdIdeal.τ).loc Cert.LruMixBwdIdeal.main_arg3))).2.1 = (fun _ => 1#1)
    ∧ (Cert.Pre_finite_mix.fn (F := Ideal) (m ((c.tc : Thread Cert.LruMixBwdIdeal.nD Cert.LruMixBwdIdeal.τ).loc Cert.LruMixBwdIdeal.main_arg0)) (m ((c.tc : Thread Cert.LruMixBwdIdeal.nD Cert.LruMixBwdIdeal.τ).loc Cert.LruMixBwdIdeal.main_arg1)) (m ((c.tc : Thread Cert.LruMixBwdIdeal.nD Cert.LruMixBwdIdeal.τ).loc Cert.LruMixBwdIdeal.main_arg2)) (m ((c.tc : Thread Cert.LruMixBwdIdeal.nD Cert.LruMixBwdIdeal.τ).loc Cert.LruMixBwdIdeal.main_arg3))).2.2 = (fun _ => 1#1)

def Pre_LruMixBwdRefIdeal (m : (ℓ : Loc Cert.LruMixBwdRefIdeal.nD Cert.LruMixBwdRefIdeal.τ Cert.LruMixBwdRefIdeal.sig) → Buf (Elt Ideal) ℓ) : Prop :=
  True

def Pre_LruMixBwdRefIdeal_finite_mix [hPre_finite_mix : Cert.Pre_finite_mix.Facts] (m : (ℓ : Loc Cert.LruMixBwdRefIdeal.nD Cert.LruMixBwdRefIdeal.τ Cert.LruMixBwdRefIdeal.sig) → Buf (Elt Ideal) ℓ) : Prop :=
  ∀ c : Dev Cert.LruMixBwdRefIdeal.nD,
    (Cert.Pre_finite_mix.fn (F := Ideal) (m ((c.tc : Thread Cert.LruMixBwdRefIdeal.nD Cert.LruMixBwdRefIdeal.τ).loc Cert.LruMixBwdRefIdeal.main_arg0)) (m ((c.tc : Thread Cert.LruMixBwdRefIdeal.nD Cert.LruMixBwdRefIdeal.τ).loc Cert.LruMixBwdRefIdeal.main_arg1)) (m ((c.tc : Thread Cert.LruMixBwdRefIdeal.nD Cert.LruMixBwdRefIdeal.τ).loc Cert.LruMixBwdRefIdeal.main_arg2)) (m ((c.tc : Thread Cert.LruMixBwdRefIdeal.nD Cert.LruMixBwdRefIdeal.τ).loc Cert.LruMixBwdRefIdeal.main_arg3))).1 = (fun _ => 1#1)
    ∧ (Cert.Pre_finite_mix.fn (F := Ideal) (m ((c.tc : Thread Cert.LruMixBwdRefIdeal.nD Cert.LruMixBwdRefIdeal.τ).loc Cert.LruMixBwdRefIdeal.main_arg0)) (m ((c.tc : Thread Cert.LruMixBwdRefIdeal.nD Cert.LruMixBwdRefIdeal.τ).loc Cert.LruMixBwdRefIdeal.main_arg1)) (m ((c.tc : Thread Cert.LruMixBwdRefIdeal.nD Cert.LruMixBwdRefIdeal.τ).loc Cert.LruMixBwdRefIdeal.main_arg2)) (m ((c.tc : Thread Cert.LruMixBwdRefIdeal.nD Cert.LruMixBwdRefIdeal.τ).loc Cert.LruMixBwdRefIdeal.main_arg3))).2.1 = (fun _ => 1#1)
    ∧ (Cert.Pre_finite_mix.fn (F := Ideal) (m ((c.tc : Thread Cert.LruMixBwdRefIdeal.nD Cert.LruMixBwdRefIdeal.τ).loc Cert.LruMixBwdRefIdeal.main_arg0)) (m ((c.tc : Thread Cert.LruMixBwdRefIdeal.nD Cert.LruMixBwdRefIdeal.τ).loc Cert.LruMixBwdRefIdeal.main_arg1)) (m ((c.tc : Thread Cert.LruMixBwdRefIdeal.nD Cert.LruMixBwdRefIdeal.τ).loc Cert.LruMixBwdRefIdeal.main_arg2)) (m ((c.tc : Thread Cert.LruMixBwdRefIdeal.nD Cert.LruMixBwdRefIdeal.τ).loc Cert.LruMixBwdRefIdeal.main_arg3))).2.2 = (fun _ => 1#1)

def Pre_RwkvMixBwd (m : (ℓ : Loc Cert.RwkvMixBwd.nD Cert.RwkvMixBwd.τ Cert.RwkvMixBwd.sig) → Buf (Elt Bits) ℓ) : Prop :=
  True

def Pre_RwkvMixBwdIdeal (m : (ℓ : Loc Cert.RwkvMixBwdIdeal.nD Cert.RwkvMixBwdIdeal.τ Cert.RwkvMixBwdIdeal.sig) → Buf (Elt Ideal) ℓ) : Prop :=
  True

def Pre_RwkvMixBwdIdeal_finite_shift [hPre_finite_shift : Cert.Pre_finite_shift.Facts] (m : (ℓ : Loc Cert.RwkvMixBwdIdeal.nD Cert.RwkvMixBwdIdeal.τ Cert.RwkvMixBwdIdeal.sig) → Buf (Elt Ideal) ℓ) : Prop :=
  ∀ c : Dev Cert.RwkvMixBwdIdeal.nD,
    (Cert.Pre_finite_shift.fn (F := Ideal) (m ((c.tc : Thread Cert.RwkvMixBwdIdeal.nD Cert.RwkvMixBwdIdeal.τ).loc Cert.RwkvMixBwdIdeal.main_arg0)) (m ((c.tc : Thread Cert.RwkvMixBwdIdeal.nD Cert.RwkvMixBwdIdeal.τ).loc Cert.RwkvMixBwdIdeal.main_arg1)) (m ((c.tc : Thread Cert.RwkvMixBwdIdeal.nD Cert.RwkvMixBwdIdeal.τ).loc Cert.RwkvMixBwdIdeal.main_arg2)) (m ((c.tc : Thread Cert.RwkvMixBwdIdeal.nD Cert.RwkvMixBwdIdeal.τ).loc Cert.RwkvMixBwdIdeal.main_arg3)) (m ((c.tc : Thread Cert.RwkvMixBwdIdeal.nD Cert.RwkvMixBwdIdeal.τ).loc Cert.RwkvMixBwdIdeal.main_arg4)) (m ((c.tc : Thread Cert.RwkvMixBwdIdeal.nD Cert.RwkvMixBwdIdeal.τ).loc Cert.RwkvMixBwdIdeal.main_arg5)) (m ((c.tc : Thread Cert.RwkvMixBwdIdeal.nD Cert.RwkvMixBwdIdeal.τ).loc Cert.RwkvMixBwdIdeal.main_arg6)) (m ((c.tc : Thread Cert.RwkvMixBwdIdeal.nD Cert.RwkvMixBwdIdeal.τ).loc Cert.RwkvMixBwdIdeal.main_arg7)) (m ((c.tc : Thread Cert.RwkvMixBwdIdeal.nD Cert.RwkvMixBwdIdeal.τ).loc Cert.RwkvMixBwdIdeal.main_arg8)) (m ((c.tc : Thread Cert.RwkvMixBwdIdeal.nD Cert.RwkvMixBwdIdeal.τ).loc Cert.RwkvMixBwdIdeal.main_arg9))).1 = (fun _ => 1#1)
    ∧ (Cert.Pre_finite_shift.fn (F := Ideal) (m ((c.tc : Thread Cert.RwkvMixBwdIdeal.nD Cert.RwkvMixBwdIdeal.τ).loc Cert.RwkvMixBwdIdeal.main_arg0)) (m ((c.tc : Thread Cert.RwkvMixBwdIdeal.nD Cert.RwkvMixBwdIdeal.τ).loc Cert.RwkvMixBwdIdeal.main_arg1)) (m ((c.tc : Thread Cert.RwkvMixBwdIdeal.nD Cert.RwkvMixBwdIdeal.τ).loc Cert.RwkvMixBwdIdeal.main_arg2)) (m ((c.tc : Thread Cert.RwkvMixBwdIdeal.nD Cert.RwkvMixBwdIdeal.τ).loc Cert.RwkvMixBwdIdeal.main_arg3)) (m ((c.tc : Thread Cert.RwkvMixBwdIdeal.nD Cert.RwkvMixBwdIdeal.τ).loc Cert.RwkvMixBwdIdeal.main_arg4)) (m ((c.tc : Thread Cert.RwkvMixBwdIdeal.nD Cert.RwkvMixBwdIdeal.τ).loc Cert.RwkvMixBwdIdeal.main_arg5)) (m ((c.tc : Thread Cert.RwkvMixBwdIdeal.nD Cert.RwkvMixBwdIdeal.τ).loc Cert.RwkvMixBwdIdeal.main_arg6)) (m ((c.tc : Thread Cert.RwkvMixBwdIdeal.nD Cert.RwkvMixBwdIdeal.τ).loc Cert.RwkvMixBwdIdeal.main_arg7)) (m ((c.tc : Thread Cert.RwkvMixBwdIdeal.nD Cert.RwkvMixBwdIdeal.τ).loc Cert.RwkvMixBwdIdeal.main_arg8)) (m ((c.tc : Thread Cert.RwkvMixBwdIdeal.nD Cert.RwkvMixBwdIdeal.τ).loc Cert.RwkvMixBwdIdeal.main_arg9))).2.1 = (fun _ => 1#1)
    ∧ (Cert.Pre_finite_shift.fn (F := Ideal) (m ((c.tc : Thread Cert.RwkvMixBwdIdeal.nD Cert.RwkvMixBwdIdeal.τ).loc Cert.RwkvMixBwdIdeal.main_arg0)) (m ((c.tc : Thread Cert.RwkvMixBwdIdeal.nD Cert.RwkvMixBwdIdeal.τ).loc Cert.RwkvMixBwdIdeal.main_arg1)) (m ((c.tc : Thread Cert.RwkvMixBwdIdeal.nD Cert.RwkvMixBwdIdeal.τ).loc Cert.RwkvMixBwdIdeal.main_arg2)) (m ((c.tc : Thread Cert.RwkvMixBwdIdeal.nD Cert.RwkvMixBwdIdeal.τ).loc Cert.RwkvMixBwdIdeal.main_arg3)) (m ((c.tc : Thread Cert.RwkvMixBwdIdeal.nD Cert.RwkvMixBwdIdeal.τ).loc Cert.RwkvMixBwdIdeal.main_arg4)) (m ((c.tc : Thread Cert.RwkvMixBwdIdeal.nD Cert.RwkvMixBwdIdeal.τ).loc Cert.RwkvMixBwdIdeal.main_arg5)) (m ((c.tc : Thread Cert.RwkvMixBwdIdeal.nD Cert.RwkvMixBwdIdeal.τ).loc Cert.RwkvMixBwdIdeal.main_arg6)) (m ((c.tc : Thread Cert.RwkvMixBwdIdeal.nD Cert.RwkvMixBwdIdeal.τ).loc Cert.RwkvMixBwdIdeal.main_arg7)) (m ((c.tc : Thread Cert.RwkvMixBwdIdeal.nD Cert.RwkvMixBwdIdeal.τ).loc Cert.RwkvMixBwdIdeal.main_arg8)) (m ((c.tc : Thread Cert.RwkvMixBwdIdeal.nD Cert.RwkvMixBwdIdeal.τ).loc Cert.RwkvMixBwdIdeal.main_arg9))).2.2.1 = (fun _ => 1#1)
    ∧ (Cert.Pre_finite_shift.fn (F := Ideal) (m ((c.tc : Thread Cert.RwkvMixBwdIdeal.nD Cert.RwkvMixBwdIdeal.τ).loc Cert.RwkvMixBwdIdeal.main_arg0)) (m ((c.tc : Thread Cert.RwkvMixBwdIdeal.nD Cert.RwkvMixBwdIdeal.τ).loc Cert.RwkvMixBwdIdeal.main_arg1)) (m ((c.tc : Thread Cert.RwkvMixBwdIdeal.nD Cert.RwkvMixBwdIdeal.τ).loc Cert.RwkvMixBwdIdeal.main_arg2)) (m ((c.tc : Thread Cert.RwkvMixBwdIdeal.nD Cert.RwkvMixBwdIdeal.τ).loc Cert.RwkvMixBwdIdeal.main_arg3)) (m ((c.tc : Thread Cert.RwkvMixBwdIdeal.nD Cert.RwkvMixBwdIdeal.τ).loc Cert.RwkvMixBwdIdeal.main_arg4)) (m ((c.tc : Thread Cert.RwkvMixBwdIdeal.nD Cert.RwkvMixBwdIdeal.τ).loc Cert.RwkvMixBwdIdeal.main_arg5)) (m ((c.tc : Thread Cert.RwkvMixBwdIdeal.nD Cert.RwkvMixBwdIdeal.τ).loc Cert.RwkvMixBwdIdeal.main_arg6)) (m ((c.tc : Thread Cert.RwkvMixBwdIdeal.nD Cert.RwkvMixBwdIdeal.τ).loc Cert.RwkvMixBwdIdeal.main_arg7)) (m ((c.tc : Thread Cert.RwkvMixBwdIdeal.nD Cert.RwkvMixBwdIdeal.τ).loc Cert.RwkvMixBwdIdeal.main_arg8)) (m ((c.tc : Thread Cert.RwkvMixBwdIdeal.nD Cert.RwkvMixBwdIdeal.τ).loc Cert.RwkvMixBwdIdeal.main_arg9))).2.2.2.1 = (fun _ => 1#1)
    ∧ (Cert.Pre_finite_shift.fn (F := Ideal) (m ((c.tc : Thread Cert.RwkvMixBwdIdeal.nD Cert.RwkvMixBwdIdeal.τ).loc Cert.RwkvMixBwdIdeal.main_arg0)) (m ((c.tc : Thread Cert.RwkvMixBwdIdeal.nD Cert.RwkvMixBwdIdeal.τ).loc Cert.RwkvMixBwdIdeal.main_arg1)) (m ((c.tc : Thread Cert.RwkvMixBwdIdeal.nD Cert.RwkvMixBwdIdeal.τ).loc Cert.RwkvMixBwdIdeal.main_arg2)) (m ((c.tc : Thread Cert.RwkvMixBwdIdeal.nD Cert.RwkvMixBwdIdeal.τ).loc Cert.RwkvMixBwdIdeal.main_arg3)) (m ((c.tc : Thread Cert.RwkvMixBwdIdeal.nD Cert.RwkvMixBwdIdeal.τ).loc Cert.RwkvMixBwdIdeal.main_arg4)) (m ((c.tc : Thread Cert.RwkvMixBwdIdeal.nD Cert.RwkvMixBwdIdeal.τ).loc Cert.RwkvMixBwdIdeal.main_arg5)) (m ((c.tc : Thread Cert.RwkvMixBwdIdeal.nD Cert.RwkvMixBwdIdeal.τ).loc Cert.RwkvMixBwdIdeal.main_arg6)) (m ((c.tc : Thread Cert.RwkvMixBwdIdeal.nD Cert.RwkvMixBwdIdeal.τ).loc Cert.RwkvMixBwdIdeal.main_arg7)) (m ((c.tc : Thread Cert.RwkvMixBwdIdeal.nD Cert.RwkvMixBwdIdeal.τ).loc Cert.RwkvMixBwdIdeal.main_arg8)) (m ((c.tc : Thread Cert.RwkvMixBwdIdeal.nD Cert.RwkvMixBwdIdeal.τ).loc Cert.RwkvMixBwdIdeal.main_arg9))).2.2.2.2.1 = (fun _ => 1#1)
    ∧ (Cert.Pre_finite_shift.fn (F := Ideal) (m ((c.tc : Thread Cert.RwkvMixBwdIdeal.nD Cert.RwkvMixBwdIdeal.τ).loc Cert.RwkvMixBwdIdeal.main_arg0)) (m ((c.tc : Thread Cert.RwkvMixBwdIdeal.nD Cert.RwkvMixBwdIdeal.τ).loc Cert.RwkvMixBwdIdeal.main_arg1)) (m ((c.tc : Thread Cert.RwkvMixBwdIdeal.nD Cert.RwkvMixBwdIdeal.τ).loc Cert.RwkvMixBwdIdeal.main_arg2)) (m ((c.tc : Thread Cert.RwkvMixBwdIdeal.nD Cert.RwkvMixBwdIdeal.τ).loc Cert.RwkvMixBwdIdeal.main_arg3)) (m ((c.tc : Thread Cert.RwkvMixBwdIdeal.nD Cert.RwkvMixBwdIdeal.τ).loc Cert.RwkvMixBwdIdeal.main_arg4)) (m ((c.tc : Thread Cert.RwkvMixBwdIdeal.nD Cert.RwkvMixBwdIdeal.τ).loc Cert.RwkvMixBwdIdeal.main_arg5)) (m ((c.tc : Thread Cert.RwkvMixBwdIdeal.nD Cert.RwkvMixBwdIdeal.τ).loc Cert.RwkvMixBwdIdeal.main_arg6)) (m ((c.tc : Thread Cert.RwkvMixBwdIdeal.nD Cert.RwkvMixBwdIdeal.τ).loc Cert.RwkvMixBwdIdeal.main_arg7)) (m ((c.tc : Thread Cert.RwkvMixBwdIdeal.nD Cert.RwkvMixBwdIdeal.τ).loc Cert.RwkvMixBwdIdeal.main_arg8)) (m ((c.tc : Thread Cert.RwkvMixBwdIdeal.nD Cert.RwkvMixBwdIdeal.τ).loc Cert.RwkvMixBwdIdeal.main_arg9))).2.2.2.2.2.1 = (fun _ => 1#1)
    ∧ (Cert.Pre_finite_shift.fn (F := Ideal) (m ((c.tc : Thread Cert.RwkvMixBwdIdeal.nD Cert.RwkvMixBwdIdeal.τ).loc Cert.RwkvMixBwdIdeal.main_arg0)) (m ((c.tc : Thread Cert.RwkvMixBwdIdeal.nD Cert.RwkvMixBwdIdeal.τ).loc Cert.RwkvMixBwdIdeal.main_arg1)) (m ((c.tc : Thread Cert.RwkvMixBwdIdeal.nD Cert.RwkvMixBwdIdeal.τ).loc Cert.RwkvMixBwdIdeal.main_arg2)) (m ((c.tc : Thread Cert.RwkvMixBwdIdeal.nD Cert.RwkvMixBwdIdeal.τ).loc Cert.RwkvMixBwdIdeal.main_arg3)) (m ((c.tc : Thread Cert.RwkvMixBwdIdeal.nD Cert.RwkvMixBwdIdeal.τ).loc Cert.RwkvMixBwdIdeal.main_arg4)) (m ((c.tc : Thread Cert.RwkvMixBwdIdeal.nD Cert.RwkvMixBwdIdeal.τ).loc Cert.RwkvMixBwdIdeal.main_arg5)) (m ((c.tc : Thread Cert.RwkvMixBwdIdeal.nD Cert.RwkvMixBwdIdeal.τ).loc Cert.RwkvMixBwdIdeal.main_arg6)) (m ((c.tc : Thread Cert.RwkvMixBwdIdeal.nD Cert.RwkvMixBwdIdeal.τ).loc Cert.RwkvMixBwdIdeal.main_arg7)) (m ((c.tc : Thread Cert.RwkvMixBwdIdeal.nD Cert.RwkvMixBwdIdeal.τ).loc Cert.RwkvMixBwdIdeal.main_arg8)) (m ((c.tc : Thread Cert.RwkvMixBwdIdeal.nD Cert.RwkvMixBwdIdeal.τ).loc Cert.RwkvMixBwdIdeal.main_arg9))).2.2.2.2.2.2 = (fun _ => 1#1)

def Pre_RwkvMixBwdRefIdeal (m : (ℓ : Loc Cert.RwkvMixBwdRefIdeal.nD Cert.RwkvMixBwdRefIdeal.τ Cert.RwkvMixBwdRefIdeal.sig) → Buf (Elt Ideal) ℓ) : Prop :=
  True

def Pre_RwkvMixBwdRefIdeal_finite_shift [hPre_finite_shift : Cert.Pre_finite_shift.Facts] (m : (ℓ : Loc Cert.RwkvMixBwdRefIdeal.nD Cert.RwkvMixBwdRefIdeal.τ Cert.RwkvMixBwdRefIdeal.sig) → Buf (Elt Ideal) ℓ) : Prop :=
  ∀ c : Dev Cert.RwkvMixBwdRefIdeal.nD,
    (Cert.Pre_finite_shift.fn (F := Ideal) (m ((c.tc : Thread Cert.RwkvMixBwdRefIdeal.nD Cert.RwkvMixBwdRefIdeal.τ).loc Cert.RwkvMixBwdRefIdeal.main_arg0)) (m ((c.tc : Thread Cert.RwkvMixBwdRefIdeal.nD Cert.RwkvMixBwdRefIdeal.τ).loc Cert.RwkvMixBwdRefIdeal.main_arg1)) (m ((c.tc : Thread Cert.RwkvMixBwdRefIdeal.nD Cert.RwkvMixBwdRefIdeal.τ).loc Cert.RwkvMixBwdRefIdeal.main_arg2)) (m ((c.tc : Thread Cert.RwkvMixBwdRefIdeal.nD Cert.RwkvMixBwdRefIdeal.τ).loc Cert.RwkvMixBwdRefIdeal.main_arg3)) (m ((c.tc : Thread Cert.RwkvMixBwdRefIdeal.nD Cert.RwkvMixBwdRefIdeal.τ).loc Cert.RwkvMixBwdRefIdeal.main_arg4)) (m ((c.tc : Thread Cert.RwkvMixBwdRefIdeal.nD Cert.RwkvMixBwdRefIdeal.τ).loc Cert.RwkvMixBwdRefIdeal.main_arg5)) (m ((c.tc : Thread Cert.RwkvMixBwdRefIdeal.nD Cert.RwkvMixBwdRefIdeal.τ).loc Cert.RwkvMixBwdRefIdeal.main_arg6)) (m ((c.tc : Thread Cert.RwkvMixBwdRefIdeal.nD Cert.RwkvMixBwdRefIdeal.τ).loc Cert.RwkvMixBwdRefIdeal.main_arg7)) (m ((c.tc : Thread Cert.RwkvMixBwdRefIdeal.nD Cert.RwkvMixBwdRefIdeal.τ).loc Cert.RwkvMixBwdRefIdeal.main_arg8)) (m ((c.tc : Thread Cert.RwkvMixBwdRefIdeal.nD Cert.RwkvMixBwdRefIdeal.τ).loc Cert.RwkvMixBwdRefIdeal.main_arg9))).1 = (fun _ => 1#1)
    ∧ (Cert.Pre_finite_shift.fn (F := Ideal) (m ((c.tc : Thread Cert.RwkvMixBwdRefIdeal.nD Cert.RwkvMixBwdRefIdeal.τ).loc Cert.RwkvMixBwdRefIdeal.main_arg0)) (m ((c.tc : Thread Cert.RwkvMixBwdRefIdeal.nD Cert.RwkvMixBwdRefIdeal.τ).loc Cert.RwkvMixBwdRefIdeal.main_arg1)) (m ((c.tc : Thread Cert.RwkvMixBwdRefIdeal.nD Cert.RwkvMixBwdRefIdeal.τ).loc Cert.RwkvMixBwdRefIdeal.main_arg2)) (m ((c.tc : Thread Cert.RwkvMixBwdRefIdeal.nD Cert.RwkvMixBwdRefIdeal.τ).loc Cert.RwkvMixBwdRefIdeal.main_arg3)) (m ((c.tc : Thread Cert.RwkvMixBwdRefIdeal.nD Cert.RwkvMixBwdRefIdeal.τ).loc Cert.RwkvMixBwdRefIdeal.main_arg4)) (m ((c.tc : Thread Cert.RwkvMixBwdRefIdeal.nD Cert.RwkvMixBwdRefIdeal.τ).loc Cert.RwkvMixBwdRefIdeal.main_arg5)) (m ((c.tc : Thread Cert.RwkvMixBwdRefIdeal.nD Cert.RwkvMixBwdRefIdeal.τ).loc Cert.RwkvMixBwdRefIdeal.main_arg6)) (m ((c.tc : Thread Cert.RwkvMixBwdRefIdeal.nD Cert.RwkvMixBwdRefIdeal.τ).loc Cert.RwkvMixBwdRefIdeal.main_arg7)) (m ((c.tc : Thread Cert.RwkvMixBwdRefIdeal.nD Cert.RwkvMixBwdRefIdeal.τ).loc Cert.RwkvMixBwdRefIdeal.main_arg8)) (m ((c.tc : Thread Cert.RwkvMixBwdRefIdeal.nD Cert.RwkvMixBwdRefIdeal.τ).loc Cert.RwkvMixBwdRefIdeal.main_arg9))).2.1 = (fun _ => 1#1)
    ∧ (Cert.Pre_finite_shift.fn (F := Ideal) (m ((c.tc : Thread Cert.RwkvMixBwdRefIdeal.nD Cert.RwkvMixBwdRefIdeal.τ).loc Cert.RwkvMixBwdRefIdeal.main_arg0)) (m ((c.tc : Thread Cert.RwkvMixBwdRefIdeal.nD Cert.RwkvMixBwdRefIdeal.τ).loc Cert.RwkvMixBwdRefIdeal.main_arg1)) (m ((c.tc : Thread Cert.RwkvMixBwdRefIdeal.nD Cert.RwkvMixBwdRefIdeal.τ).loc Cert.RwkvMixBwdRefIdeal.main_arg2)) (m ((c.tc : Thread Cert.RwkvMixBwdRefIdeal.nD Cert.RwkvMixBwdRefIdeal.τ).loc Cert.RwkvMixBwdRefIdeal.main_arg3)) (m ((c.tc : Thread Cert.RwkvMixBwdRefIdeal.nD Cert.RwkvMixBwdRefIdeal.τ).loc Cert.RwkvMixBwdRefIdeal.main_arg4)) (m ((c.tc : Thread Cert.RwkvMixBwdRefIdeal.nD Cert.RwkvMixBwdRefIdeal.τ).loc Cert.RwkvMixBwdRefIdeal.main_arg5)) (m ((c.tc : Thread Cert.RwkvMixBwdRefIdeal.nD Cert.RwkvMixBwdRefIdeal.τ).loc Cert.RwkvMixBwdRefIdeal.main_arg6)) (m ((c.tc : Thread Cert.RwkvMixBwdRefIdeal.nD Cert.RwkvMixBwdRefIdeal.τ).loc Cert.RwkvMixBwdRefIdeal.main_arg7)) (m ((c.tc : Thread Cert.RwkvMixBwdRefIdeal.nD Cert.RwkvMixBwdRefIdeal.τ).loc Cert.RwkvMixBwdRefIdeal.main_arg8)) (m ((c.tc : Thread Cert.RwkvMixBwdRefIdeal.nD Cert.RwkvMixBwdRefIdeal.τ).loc Cert.RwkvMixBwdRefIdeal.main_arg9))).2.2.1 = (fun _ => 1#1)
    ∧ (Cert.Pre_finite_shift.fn (F := Ideal) (m ((c.tc : Thread Cert.RwkvMixBwdRefIdeal.nD Cert.RwkvMixBwdRefIdeal.τ).loc Cert.RwkvMixBwdRefIdeal.main_arg0)) (m ((c.tc : Thread Cert.RwkvMixBwdRefIdeal.nD Cert.RwkvMixBwdRefIdeal.τ).loc Cert.RwkvMixBwdRefIdeal.main_arg1)) (m ((c.tc : Thread Cert.RwkvMixBwdRefIdeal.nD Cert.RwkvMixBwdRefIdeal.τ).loc Cert.RwkvMixBwdRefIdeal.main_arg2)) (m ((c.tc : Thread Cert.RwkvMixBwdRefIdeal.nD Cert.RwkvMixBwdRefIdeal.τ).loc Cert.RwkvMixBwdRefIdeal.main_arg3)) (m ((c.tc : Thread Cert.RwkvMixBwdRefIdeal.nD Cert.RwkvMixBwdRefIdeal.τ).loc Cert.RwkvMixBwdRefIdeal.main_arg4)) (m ((c.tc : Thread Cert.RwkvMixBwdRefIdeal.nD Cert.RwkvMixBwdRefIdeal.τ).loc Cert.RwkvMixBwdRefIdeal.main_arg5)) (m ((c.tc : Thread Cert.RwkvMixBwdRefIdeal.nD Cert.RwkvMixBwdRefIdeal.τ).loc Cert.RwkvMixBwdRefIdeal.main_arg6)) (m ((c.tc : Thread Cert.RwkvMixBwdRefIdeal.nD Cert.RwkvMixBwdRefIdeal.τ).loc Cert.RwkvMixBwdRefIdeal.main_arg7)) (m ((c.tc : Thread Cert.RwkvMixBwdRefIdeal.nD Cert.RwkvMixBwdRefIdeal.τ).loc Cert.RwkvMixBwdRefIdeal.main_arg8)) (m ((c.tc : Thread Cert.RwkvMixBwdRefIdeal.nD Cert.RwkvMixBwdRefIdeal.τ).loc Cert.RwkvMixBwdRefIdeal.main_arg9))).2.2.2.1 = (fun _ => 1#1)
    ∧ (Cert.Pre_finite_shift.fn (F := Ideal) (m ((c.tc : Thread Cert.RwkvMixBwdRefIdeal.nD Cert.RwkvMixBwdRefIdeal.τ).loc Cert.RwkvMixBwdRefIdeal.main_arg0)) (m ((c.tc : Thread Cert.RwkvMixBwdRefIdeal.nD Cert.RwkvMixBwdRefIdeal.τ).loc Cert.RwkvMixBwdRefIdeal.main_arg1)) (m ((c.tc : Thread Cert.RwkvMixBwdRefIdeal.nD Cert.RwkvMixBwdRefIdeal.τ).loc Cert.RwkvMixBwdRefIdeal.main_arg2)) (m ((c.tc : Thread Cert.RwkvMixBwdRefIdeal.nD Cert.RwkvMixBwdRefIdeal.τ).loc Cert.RwkvMixBwdRefIdeal.main_arg3)) (m ((c.tc : Thread Cert.RwkvMixBwdRefIdeal.nD Cert.RwkvMixBwdRefIdeal.τ).loc Cert.RwkvMixBwdRefIdeal.main_arg4)) (m ((c.tc : Thread Cert.RwkvMixBwdRefIdeal.nD Cert.RwkvMixBwdRefIdeal.τ).loc Cert.RwkvMixBwdRefIdeal.main_arg5)) (m ((c.tc : Thread Cert.RwkvMixBwdRefIdeal.nD Cert.RwkvMixBwdRefIdeal.τ).loc Cert.RwkvMixBwdRefIdeal.main_arg6)) (m ((c.tc : Thread Cert.RwkvMixBwdRefIdeal.nD Cert.RwkvMixBwdRefIdeal.τ).loc Cert.RwkvMixBwdRefIdeal.main_arg7)) (m ((c.tc : Thread Cert.RwkvMixBwdRefIdeal.nD Cert.RwkvMixBwdRefIdeal.τ).loc Cert.RwkvMixBwdRefIdeal.main_arg8)) (m ((c.tc : Thread Cert.RwkvMixBwdRefIdeal.nD Cert.RwkvMixBwdRefIdeal.τ).loc Cert.RwkvMixBwdRefIdeal.main_arg9))).2.2.2.2.1 = (fun _ => 1#1)
    ∧ (Cert.Pre_finite_shift.fn (F := Ideal) (m ((c.tc : Thread Cert.RwkvMixBwdRefIdeal.nD Cert.RwkvMixBwdRefIdeal.τ).loc Cert.RwkvMixBwdRefIdeal.main_arg0)) (m ((c.tc : Thread Cert.RwkvMixBwdRefIdeal.nD Cert.RwkvMixBwdRefIdeal.τ).loc Cert.RwkvMixBwdRefIdeal.main_arg1)) (m ((c.tc : Thread Cert.RwkvMixBwdRefIdeal.nD Cert.RwkvMixBwdRefIdeal.τ).loc Cert.RwkvMixBwdRefIdeal.main_arg2)) (m ((c.tc : Thread Cert.RwkvMixBwdRefIdeal.nD Cert.RwkvMixBwdRefIdeal.τ).loc Cert.RwkvMixBwdRefIdeal.main_arg3)) (m ((c.tc : Thread Cert.RwkvMixBwdRefIdeal.nD Cert.RwkvMixBwdRefIdeal.τ).loc Cert.RwkvMixBwdRefIdeal.main_arg4)) (m ((c.tc : Thread Cert.RwkvMixBwdRefIdeal.nD Cert.RwkvMixBwdRefIdeal.τ).loc Cert.RwkvMixBwdRefIdeal.main_arg5)) (m ((c.tc : Thread Cert.RwkvMixBwdRefIdeal.nD Cert.RwkvMixBwdRefIdeal.τ).loc Cert.RwkvMixBwdRefIdeal.main_arg6)) (m ((c.tc : Thread Cert.RwkvMixBwdRefIdeal.nD Cert.RwkvMixBwdRefIdeal.τ).loc Cert.RwkvMixBwdRefIdeal.main_arg7)) (m ((c.tc : Thread Cert.RwkvMixBwdRefIdeal.nD Cert.RwkvMixBwdRefIdeal.τ).loc Cert.RwkvMixBwdRefIdeal.main_arg8)) (m ((c.tc : Thread Cert.RwkvMixBwdRefIdeal.nD Cert.RwkvMixBwdRefIdeal.τ).loc Cert.RwkvMixBwdRefIdeal.main_arg9))).2.2.2.2.2.1 = (fun _ => 1#1)
    ∧ (Cert.Pre_finite_shift.fn (F := Ideal) (m ((c.tc : Thread Cert.RwkvMixBwdRefIdeal.nD Cert.RwkvMixBwdRefIdeal.τ).loc Cert.RwkvMixBwdRefIdeal.main_arg0)) (m ((c.tc : Thread Cert.RwkvMixBwdRefIdeal.nD Cert.RwkvMixBwdRefIdeal.τ).loc Cert.RwkvMixBwdRefIdeal.main_arg1)) (m ((c.tc : Thread Cert.RwkvMixBwdRefIdeal.nD Cert.RwkvMixBwdRefIdeal.τ).loc Cert.RwkvMixBwdRefIdeal.main_arg2)) (m ((c.tc : Thread Cert.RwkvMixBwdRefIdeal.nD Cert.RwkvMixBwdRefIdeal.τ).loc Cert.RwkvMixBwdRefIdeal.main_arg3)) (m ((c.tc : Thread Cert.RwkvMixBwdRefIdeal.nD Cert.RwkvMixBwdRefIdeal.τ).loc Cert.RwkvMixBwdRefIdeal.main_arg4)) (m ((c.tc : Thread Cert.RwkvMixBwdRefIdeal.nD Cert.RwkvMixBwdRefIdeal.τ).loc Cert.RwkvMixBwdRefIdeal.main_arg5)) (m ((c.tc : Thread Cert.RwkvMixBwdRefIdeal.nD Cert.RwkvMixBwdRefIdeal.τ).loc Cert.RwkvMixBwdRefIdeal.main_arg6)) (m ((c.tc : Thread Cert.RwkvMixBwdRefIdeal.nD Cert.RwkvMixBwdRefIdeal.τ).loc Cert.RwkvMixBwdRefIdeal.main_arg7)) (m ((c.tc : Thread Cert.RwkvMixBwdRefIdeal.nD Cert.RwkvMixBwdRefIdeal.τ).loc Cert.RwkvMixBwdRefIdeal.main_arg8)) (m ((c.tc : Thread Cert.RwkvMixBwdRefIdeal.nD Cert.RwkvMixBwdRefIdeal.τ).loc Cert.RwkvMixBwdRefIdeal.main_arg9))).2.2.2.2.2.2 = (fun _ => 1#1)

def Pre_RwkvPostBwd (m : (ℓ : Loc Cert.RwkvPostBwd.nD Cert.RwkvPostBwd.τ Cert.RwkvPostBwd.sig) → Buf (Elt Bits) ℓ) : Prop :=
  True

def Pre_RwkvPostBwdIdeal (m : (ℓ : Loc Cert.RwkvPostBwdIdeal.nD Cert.RwkvPostBwdIdeal.τ Cert.RwkvPostBwdIdeal.sig) → Buf (Elt Ideal) ℓ) : Prop :=
  True

def Pre_RwkvPostBwdIdeal_finite_post [hPre_finite_post : Cert.Pre_finite_post.Facts] (m : (ℓ : Loc Cert.RwkvPostBwdIdeal.nD Cert.RwkvPostBwdIdeal.τ Cert.RwkvPostBwdIdeal.sig) → Buf (Elt Ideal) ℓ) : Prop :=
  ∀ c : Dev Cert.RwkvPostBwdIdeal.nD,
    (Cert.Pre_finite_post.fn (F := Ideal) (m ((c.tc : Thread Cert.RwkvPostBwdIdeal.nD Cert.RwkvPostBwdIdeal.τ).loc Cert.RwkvPostBwdIdeal.main_arg0)) (m ((c.tc : Thread Cert.RwkvPostBwdIdeal.nD Cert.RwkvPostBwdIdeal.τ).loc Cert.RwkvPostBwdIdeal.main_arg1)) (m ((c.tc : Thread Cert.RwkvPostBwdIdeal.nD Cert.RwkvPostBwdIdeal.τ).loc Cert.RwkvPostBwdIdeal.main_arg2)) (m ((c.tc : Thread Cert.RwkvPostBwdIdeal.nD Cert.RwkvPostBwdIdeal.τ).loc Cert.RwkvPostBwdIdeal.main_arg3)) (m ((c.tc : Thread Cert.RwkvPostBwdIdeal.nD Cert.RwkvPostBwdIdeal.τ).loc Cert.RwkvPostBwdIdeal.main_arg4)) (m ((c.tc : Thread Cert.RwkvPostBwdIdeal.nD Cert.RwkvPostBwdIdeal.τ).loc Cert.RwkvPostBwdIdeal.main_arg5)) (m ((c.tc : Thread Cert.RwkvPostBwdIdeal.nD Cert.RwkvPostBwdIdeal.τ).loc Cert.RwkvPostBwdIdeal.main_arg6)) (m ((c.tc : Thread Cert.RwkvPostBwdIdeal.nD Cert.RwkvPostBwdIdeal.τ).loc Cert.RwkvPostBwdIdeal.main_arg7)) (m ((c.tc : Thread Cert.RwkvPostBwdIdeal.nD Cert.RwkvPostBwdIdeal.τ).loc Cert.RwkvPostBwdIdeal.main_arg8))).1 = (fun _ => 1#1)
    ∧ (Cert.Pre_finite_post.fn (F := Ideal) (m ((c.tc : Thread Cert.RwkvPostBwdIdeal.nD Cert.RwkvPostBwdIdeal.τ).loc Cert.RwkvPostBwdIdeal.main_arg0)) (m ((c.tc : Thread Cert.RwkvPostBwdIdeal.nD Cert.RwkvPostBwdIdeal.τ).loc Cert.RwkvPostBwdIdeal.main_arg1)) (m ((c.tc : Thread Cert.RwkvPostBwdIdeal.nD Cert.RwkvPostBwdIdeal.τ).loc Cert.RwkvPostBwdIdeal.main_arg2)) (m ((c.tc : Thread Cert.RwkvPostBwdIdeal.nD Cert.RwkvPostBwdIdeal.τ).loc Cert.RwkvPostBwdIdeal.main_arg3)) (m ((c.tc : Thread Cert.RwkvPostBwdIdeal.nD Cert.RwkvPostBwdIdeal.τ).loc Cert.RwkvPostBwdIdeal.main_arg4)) (m ((c.tc : Thread Cert.RwkvPostBwdIdeal.nD Cert.RwkvPostBwdIdeal.τ).loc Cert.RwkvPostBwdIdeal.main_arg5)) (m ((c.tc : Thread Cert.RwkvPostBwdIdeal.nD Cert.RwkvPostBwdIdeal.τ).loc Cert.RwkvPostBwdIdeal.main_arg6)) (m ((c.tc : Thread Cert.RwkvPostBwdIdeal.nD Cert.RwkvPostBwdIdeal.τ).loc Cert.RwkvPostBwdIdeal.main_arg7)) (m ((c.tc : Thread Cert.RwkvPostBwdIdeal.nD Cert.RwkvPostBwdIdeal.τ).loc Cert.RwkvPostBwdIdeal.main_arg8))).2.1 = (fun _ => 1#1)
    ∧ (Cert.Pre_finite_post.fn (F := Ideal) (m ((c.tc : Thread Cert.RwkvPostBwdIdeal.nD Cert.RwkvPostBwdIdeal.τ).loc Cert.RwkvPostBwdIdeal.main_arg0)) (m ((c.tc : Thread Cert.RwkvPostBwdIdeal.nD Cert.RwkvPostBwdIdeal.τ).loc Cert.RwkvPostBwdIdeal.main_arg1)) (m ((c.tc : Thread Cert.RwkvPostBwdIdeal.nD Cert.RwkvPostBwdIdeal.τ).loc Cert.RwkvPostBwdIdeal.main_arg2)) (m ((c.tc : Thread Cert.RwkvPostBwdIdeal.nD Cert.RwkvPostBwdIdeal.τ).loc Cert.RwkvPostBwdIdeal.main_arg3)) (m ((c.tc : Thread Cert.RwkvPostBwdIdeal.nD Cert.RwkvPostBwdIdeal.τ).loc Cert.RwkvPostBwdIdeal.main_arg4)) (m ((c.tc : Thread Cert.RwkvPostBwdIdeal.nD Cert.RwkvPostBwdIdeal.τ).loc Cert.RwkvPostBwdIdeal.main_arg5)) (m ((c.tc : Thread Cert.RwkvPostBwdIdeal.nD Cert.RwkvPostBwdIdeal.τ).loc Cert.RwkvPostBwdIdeal.main_arg6)) (m ((c.tc : Thread Cert.RwkvPostBwdIdeal.nD Cert.RwkvPostBwdIdeal.τ).loc Cert.RwkvPostBwdIdeal.main_arg7)) (m ((c.tc : Thread Cert.RwkvPostBwdIdeal.nD Cert.RwkvPostBwdIdeal.τ).loc Cert.RwkvPostBwdIdeal.main_arg8))).2.2.1 = (fun _ => 1#1)
    ∧ (Cert.Pre_finite_post.fn (F := Ideal) (m ((c.tc : Thread Cert.RwkvPostBwdIdeal.nD Cert.RwkvPostBwdIdeal.τ).loc Cert.RwkvPostBwdIdeal.main_arg0)) (m ((c.tc : Thread Cert.RwkvPostBwdIdeal.nD Cert.RwkvPostBwdIdeal.τ).loc Cert.RwkvPostBwdIdeal.main_arg1)) (m ((c.tc : Thread Cert.RwkvPostBwdIdeal.nD Cert.RwkvPostBwdIdeal.τ).loc Cert.RwkvPostBwdIdeal.main_arg2)) (m ((c.tc : Thread Cert.RwkvPostBwdIdeal.nD Cert.RwkvPostBwdIdeal.τ).loc Cert.RwkvPostBwdIdeal.main_arg3)) (m ((c.tc : Thread Cert.RwkvPostBwdIdeal.nD Cert.RwkvPostBwdIdeal.τ).loc Cert.RwkvPostBwdIdeal.main_arg4)) (m ((c.tc : Thread Cert.RwkvPostBwdIdeal.nD Cert.RwkvPostBwdIdeal.τ).loc Cert.RwkvPostBwdIdeal.main_arg5)) (m ((c.tc : Thread Cert.RwkvPostBwdIdeal.nD Cert.RwkvPostBwdIdeal.τ).loc Cert.RwkvPostBwdIdeal.main_arg6)) (m ((c.tc : Thread Cert.RwkvPostBwdIdeal.nD Cert.RwkvPostBwdIdeal.τ).loc Cert.RwkvPostBwdIdeal.main_arg7)) (m ((c.tc : Thread Cert.RwkvPostBwdIdeal.nD Cert.RwkvPostBwdIdeal.τ).loc Cert.RwkvPostBwdIdeal.main_arg8))).2.2.2.1 = (fun _ => 1#1)
    ∧ (Cert.Pre_finite_post.fn (F := Ideal) (m ((c.tc : Thread Cert.RwkvPostBwdIdeal.nD Cert.RwkvPostBwdIdeal.τ).loc Cert.RwkvPostBwdIdeal.main_arg0)) (m ((c.tc : Thread Cert.RwkvPostBwdIdeal.nD Cert.RwkvPostBwdIdeal.τ).loc Cert.RwkvPostBwdIdeal.main_arg1)) (m ((c.tc : Thread Cert.RwkvPostBwdIdeal.nD Cert.RwkvPostBwdIdeal.τ).loc Cert.RwkvPostBwdIdeal.main_arg2)) (m ((c.tc : Thread Cert.RwkvPostBwdIdeal.nD Cert.RwkvPostBwdIdeal.τ).loc Cert.RwkvPostBwdIdeal.main_arg3)) (m ((c.tc : Thread Cert.RwkvPostBwdIdeal.nD Cert.RwkvPostBwdIdeal.τ).loc Cert.RwkvPostBwdIdeal.main_arg4)) (m ((c.tc : Thread Cert.RwkvPostBwdIdeal.nD Cert.RwkvPostBwdIdeal.τ).loc Cert.RwkvPostBwdIdeal.main_arg5)) (m ((c.tc : Thread Cert.RwkvPostBwdIdeal.nD Cert.RwkvPostBwdIdeal.τ).loc Cert.RwkvPostBwdIdeal.main_arg6)) (m ((c.tc : Thread Cert.RwkvPostBwdIdeal.nD Cert.RwkvPostBwdIdeal.τ).loc Cert.RwkvPostBwdIdeal.main_arg7)) (m ((c.tc : Thread Cert.RwkvPostBwdIdeal.nD Cert.RwkvPostBwdIdeal.τ).loc Cert.RwkvPostBwdIdeal.main_arg8))).2.2.2.2.1 = (fun _ => 1#1)
    ∧ (Cert.Pre_finite_post.fn (F := Ideal) (m ((c.tc : Thread Cert.RwkvPostBwdIdeal.nD Cert.RwkvPostBwdIdeal.τ).loc Cert.RwkvPostBwdIdeal.main_arg0)) (m ((c.tc : Thread Cert.RwkvPostBwdIdeal.nD Cert.RwkvPostBwdIdeal.τ).loc Cert.RwkvPostBwdIdeal.main_arg1)) (m ((c.tc : Thread Cert.RwkvPostBwdIdeal.nD Cert.RwkvPostBwdIdeal.τ).loc Cert.RwkvPostBwdIdeal.main_arg2)) (m ((c.tc : Thread Cert.RwkvPostBwdIdeal.nD Cert.RwkvPostBwdIdeal.τ).loc Cert.RwkvPostBwdIdeal.main_arg3)) (m ((c.tc : Thread Cert.RwkvPostBwdIdeal.nD Cert.RwkvPostBwdIdeal.τ).loc Cert.RwkvPostBwdIdeal.main_arg4)) (m ((c.tc : Thread Cert.RwkvPostBwdIdeal.nD Cert.RwkvPostBwdIdeal.τ).loc Cert.RwkvPostBwdIdeal.main_arg5)) (m ((c.tc : Thread Cert.RwkvPostBwdIdeal.nD Cert.RwkvPostBwdIdeal.τ).loc Cert.RwkvPostBwdIdeal.main_arg6)) (m ((c.tc : Thread Cert.RwkvPostBwdIdeal.nD Cert.RwkvPostBwdIdeal.τ).loc Cert.RwkvPostBwdIdeal.main_arg7)) (m ((c.tc : Thread Cert.RwkvPostBwdIdeal.nD Cert.RwkvPostBwdIdeal.τ).loc Cert.RwkvPostBwdIdeal.main_arg8))).2.2.2.2.2.1 = (fun _ => 1#1)
    ∧ (Cert.Pre_finite_post.fn (F := Ideal) (m ((c.tc : Thread Cert.RwkvPostBwdIdeal.nD Cert.RwkvPostBwdIdeal.τ).loc Cert.RwkvPostBwdIdeal.main_arg0)) (m ((c.tc : Thread Cert.RwkvPostBwdIdeal.nD Cert.RwkvPostBwdIdeal.τ).loc Cert.RwkvPostBwdIdeal.main_arg1)) (m ((c.tc : Thread Cert.RwkvPostBwdIdeal.nD Cert.RwkvPostBwdIdeal.τ).loc Cert.RwkvPostBwdIdeal.main_arg2)) (m ((c.tc : Thread Cert.RwkvPostBwdIdeal.nD Cert.RwkvPostBwdIdeal.τ).loc Cert.RwkvPostBwdIdeal.main_arg3)) (m ((c.tc : Thread Cert.RwkvPostBwdIdeal.nD Cert.RwkvPostBwdIdeal.τ).loc Cert.RwkvPostBwdIdeal.main_arg4)) (m ((c.tc : Thread Cert.RwkvPostBwdIdeal.nD Cert.RwkvPostBwdIdeal.τ).loc Cert.RwkvPostBwdIdeal.main_arg5)) (m ((c.tc : Thread Cert.RwkvPostBwdIdeal.nD Cert.RwkvPostBwdIdeal.τ).loc Cert.RwkvPostBwdIdeal.main_arg6)) (m ((c.tc : Thread Cert.RwkvPostBwdIdeal.nD Cert.RwkvPostBwdIdeal.τ).loc Cert.RwkvPostBwdIdeal.main_arg7)) (m ((c.tc : Thread Cert.RwkvPostBwdIdeal.nD Cert.RwkvPostBwdIdeal.τ).loc Cert.RwkvPostBwdIdeal.main_arg8))).2.2.2.2.2.2.1 = (fun _ => 1#1)
    ∧ (Cert.Pre_finite_post.fn (F := Ideal) (m ((c.tc : Thread Cert.RwkvPostBwdIdeal.nD Cert.RwkvPostBwdIdeal.τ).loc Cert.RwkvPostBwdIdeal.main_arg0)) (m ((c.tc : Thread Cert.RwkvPostBwdIdeal.nD Cert.RwkvPostBwdIdeal.τ).loc Cert.RwkvPostBwdIdeal.main_arg1)) (m ((c.tc : Thread Cert.RwkvPostBwdIdeal.nD Cert.RwkvPostBwdIdeal.τ).loc Cert.RwkvPostBwdIdeal.main_arg2)) (m ((c.tc : Thread Cert.RwkvPostBwdIdeal.nD Cert.RwkvPostBwdIdeal.τ).loc Cert.RwkvPostBwdIdeal.main_arg3)) (m ((c.tc : Thread Cert.RwkvPostBwdIdeal.nD Cert.RwkvPostBwdIdeal.τ).loc Cert.RwkvPostBwdIdeal.main_arg4)) (m ((c.tc : Thread Cert.RwkvPostBwdIdeal.nD Cert.RwkvPostBwdIdeal.τ).loc Cert.RwkvPostBwdIdeal.main_arg5)) (m ((c.tc : Thread Cert.RwkvPostBwdIdeal.nD Cert.RwkvPostBwdIdeal.τ).loc Cert.RwkvPostBwdIdeal.main_arg6)) (m ((c.tc : Thread Cert.RwkvPostBwdIdeal.nD Cert.RwkvPostBwdIdeal.τ).loc Cert.RwkvPostBwdIdeal.main_arg7)) (m ((c.tc : Thread Cert.RwkvPostBwdIdeal.nD Cert.RwkvPostBwdIdeal.τ).loc Cert.RwkvPostBwdIdeal.main_arg8))).2.2.2.2.2.2.2.1 = (fun _ => 1#1)
    ∧ (Cert.Pre_finite_post.fn (F := Ideal) (m ((c.tc : Thread Cert.RwkvPostBwdIdeal.nD Cert.RwkvPostBwdIdeal.τ).loc Cert.RwkvPostBwdIdeal.main_arg0)) (m ((c.tc : Thread Cert.RwkvPostBwdIdeal.nD Cert.RwkvPostBwdIdeal.τ).loc Cert.RwkvPostBwdIdeal.main_arg1)) (m ((c.tc : Thread Cert.RwkvPostBwdIdeal.nD Cert.RwkvPostBwdIdeal.τ).loc Cert.RwkvPostBwdIdeal.main_arg2)) (m ((c.tc : Thread Cert.RwkvPostBwdIdeal.nD Cert.RwkvPostBwdIdeal.τ).loc Cert.RwkvPostBwdIdeal.main_arg3)) (m ((c.tc : Thread Cert.RwkvPostBwdIdeal.nD Cert.RwkvPostBwdIdeal.τ).loc Cert.RwkvPostBwdIdeal.main_arg4)) (m ((c.tc : Thread Cert.RwkvPostBwdIdeal.nD Cert.RwkvPostBwdIdeal.τ).loc Cert.RwkvPostBwdIdeal.main_arg5)) (m ((c.tc : Thread Cert.RwkvPostBwdIdeal.nD Cert.RwkvPostBwdIdeal.τ).loc Cert.RwkvPostBwdIdeal.main_arg6)) (m ((c.tc : Thread Cert.RwkvPostBwdIdeal.nD Cert.RwkvPostBwdIdeal.τ).loc Cert.RwkvPostBwdIdeal.main_arg7)) (m ((c.tc : Thread Cert.RwkvPostBwdIdeal.nD Cert.RwkvPostBwdIdeal.τ).loc Cert.RwkvPostBwdIdeal.main_arg8))).2.2.2.2.2.2.2.2 = (fun _ => 1#1)

def Pre_RwkvPostBwdRefIdeal (m : (ℓ : Loc Cert.RwkvPostBwdRefIdeal.nD Cert.RwkvPostBwdRefIdeal.τ Cert.RwkvPostBwdRefIdeal.sig) → Buf (Elt Ideal) ℓ) : Prop :=
  True

def Pre_RwkvPostBwdRefIdeal_finite_post [hPre_finite_post : Cert.Pre_finite_post.Facts] (m : (ℓ : Loc Cert.RwkvPostBwdRefIdeal.nD Cert.RwkvPostBwdRefIdeal.τ Cert.RwkvPostBwdRefIdeal.sig) → Buf (Elt Ideal) ℓ) : Prop :=
  ∀ c : Dev Cert.RwkvPostBwdRefIdeal.nD,
    (Cert.Pre_finite_post.fn (F := Ideal) (m ((c.tc : Thread Cert.RwkvPostBwdRefIdeal.nD Cert.RwkvPostBwdRefIdeal.τ).loc Cert.RwkvPostBwdRefIdeal.main_arg0)) (m ((c.tc : Thread Cert.RwkvPostBwdRefIdeal.nD Cert.RwkvPostBwdRefIdeal.τ).loc Cert.RwkvPostBwdRefIdeal.main_arg1)) (m ((c.tc : Thread Cert.RwkvPostBwdRefIdeal.nD Cert.RwkvPostBwdRefIdeal.τ).loc Cert.RwkvPostBwdRefIdeal.main_arg2)) (m ((c.tc : Thread Cert.RwkvPostBwdRefIdeal.nD Cert.RwkvPostBwdRefIdeal.τ).loc Cert.RwkvPostBwdRefIdeal.main_arg3)) (m ((c.tc : Thread Cert.RwkvPostBwdRefIdeal.nD Cert.RwkvPostBwdRefIdeal.τ).loc Cert.RwkvPostBwdRefIdeal.main_arg4)) (m ((c.tc : Thread Cert.RwkvPostBwdRefIdeal.nD Cert.RwkvPostBwdRefIdeal.τ).loc Cert.RwkvPostBwdRefIdeal.main_arg5)) (m ((c.tc : Thread Cert.RwkvPostBwdRefIdeal.nD Cert.RwkvPostBwdRefIdeal.τ).loc Cert.RwkvPostBwdRefIdeal.main_arg6)) (m ((c.tc : Thread Cert.RwkvPostBwdRefIdeal.nD Cert.RwkvPostBwdRefIdeal.τ).loc Cert.RwkvPostBwdRefIdeal.main_arg7)) (m ((c.tc : Thread Cert.RwkvPostBwdRefIdeal.nD Cert.RwkvPostBwdRefIdeal.τ).loc Cert.RwkvPostBwdRefIdeal.main_arg8))).1 = (fun _ => 1#1)
    ∧ (Cert.Pre_finite_post.fn (F := Ideal) (m ((c.tc : Thread Cert.RwkvPostBwdRefIdeal.nD Cert.RwkvPostBwdRefIdeal.τ).loc Cert.RwkvPostBwdRefIdeal.main_arg0)) (m ((c.tc : Thread Cert.RwkvPostBwdRefIdeal.nD Cert.RwkvPostBwdRefIdeal.τ).loc Cert.RwkvPostBwdRefIdeal.main_arg1)) (m ((c.tc : Thread Cert.RwkvPostBwdRefIdeal.nD Cert.RwkvPostBwdRefIdeal.τ).loc Cert.RwkvPostBwdRefIdeal.main_arg2)) (m ((c.tc : Thread Cert.RwkvPostBwdRefIdeal.nD Cert.RwkvPostBwdRefIdeal.τ).loc Cert.RwkvPostBwdRefIdeal.main_arg3)) (m ((c.tc : Thread Cert.RwkvPostBwdRefIdeal.nD Cert.RwkvPostBwdRefIdeal.τ).loc Cert.RwkvPostBwdRefIdeal.main_arg4)) (m ((c.tc : Thread Cert.RwkvPostBwdRefIdeal.nD Cert.RwkvPostBwdRefIdeal.τ).loc Cert.RwkvPostBwdRefIdeal.main_arg5)) (m ((c.tc : Thread Cert.RwkvPostBwdRefIdeal.nD Cert.RwkvPostBwdRefIdeal.τ).loc Cert.RwkvPostBwdRefIdeal.main_arg6)) (m ((c.tc : Thread Cert.RwkvPostBwdRefIdeal.nD Cert.RwkvPostBwdRefIdeal.τ).loc Cert.RwkvPostBwdRefIdeal.main_arg7)) (m ((c.tc : Thread Cert.RwkvPostBwdRefIdeal.nD Cert.RwkvPostBwdRefIdeal.τ).loc Cert.RwkvPostBwdRefIdeal.main_arg8))).2.1 = (fun _ => 1#1)
    ∧ (Cert.Pre_finite_post.fn (F := Ideal) (m ((c.tc : Thread Cert.RwkvPostBwdRefIdeal.nD Cert.RwkvPostBwdRefIdeal.τ).loc Cert.RwkvPostBwdRefIdeal.main_arg0)) (m ((c.tc : Thread Cert.RwkvPostBwdRefIdeal.nD Cert.RwkvPostBwdRefIdeal.τ).loc Cert.RwkvPostBwdRefIdeal.main_arg1)) (m ((c.tc : Thread Cert.RwkvPostBwdRefIdeal.nD Cert.RwkvPostBwdRefIdeal.τ).loc Cert.RwkvPostBwdRefIdeal.main_arg2)) (m ((c.tc : Thread Cert.RwkvPostBwdRefIdeal.nD Cert.RwkvPostBwdRefIdeal.τ).loc Cert.RwkvPostBwdRefIdeal.main_arg3)) (m ((c.tc : Thread Cert.RwkvPostBwdRefIdeal.nD Cert.RwkvPostBwdRefIdeal.τ).loc Cert.RwkvPostBwdRefIdeal.main_arg4)) (m ((c.tc : Thread Cert.RwkvPostBwdRefIdeal.nD Cert.RwkvPostBwdRefIdeal.τ).loc Cert.RwkvPostBwdRefIdeal.main_arg5)) (m ((c.tc : Thread Cert.RwkvPostBwdRefIdeal.nD Cert.RwkvPostBwdRefIdeal.τ).loc Cert.RwkvPostBwdRefIdeal.main_arg6)) (m ((c.tc : Thread Cert.RwkvPostBwdRefIdeal.nD Cert.RwkvPostBwdRefIdeal.τ).loc Cert.RwkvPostBwdRefIdeal.main_arg7)) (m ((c.tc : Thread Cert.RwkvPostBwdRefIdeal.nD Cert.RwkvPostBwdRefIdeal.τ).loc Cert.RwkvPostBwdRefIdeal.main_arg8))).2.2.1 = (fun _ => 1#1)
    ∧ (Cert.Pre_finite_post.fn (F := Ideal) (m ((c.tc : Thread Cert.RwkvPostBwdRefIdeal.nD Cert.RwkvPostBwdRefIdeal.τ).loc Cert.RwkvPostBwdRefIdeal.main_arg0)) (m ((c.tc : Thread Cert.RwkvPostBwdRefIdeal.nD Cert.RwkvPostBwdRefIdeal.τ).loc Cert.RwkvPostBwdRefIdeal.main_arg1)) (m ((c.tc : Thread Cert.RwkvPostBwdRefIdeal.nD Cert.RwkvPostBwdRefIdeal.τ).loc Cert.RwkvPostBwdRefIdeal.main_arg2)) (m ((c.tc : Thread Cert.RwkvPostBwdRefIdeal.nD Cert.RwkvPostBwdRefIdeal.τ).loc Cert.RwkvPostBwdRefIdeal.main_arg3)) (m ((c.tc : Thread Cert.RwkvPostBwdRefIdeal.nD Cert.RwkvPostBwdRefIdeal.τ).loc Cert.RwkvPostBwdRefIdeal.main_arg4)) (m ((c.tc : Thread Cert.RwkvPostBwdRefIdeal.nD Cert.RwkvPostBwdRefIdeal.τ).loc Cert.RwkvPostBwdRefIdeal.main_arg5)) (m ((c.tc : Thread Cert.RwkvPostBwdRefIdeal.nD Cert.RwkvPostBwdRefIdeal.τ).loc Cert.RwkvPostBwdRefIdeal.main_arg6)) (m ((c.tc : Thread Cert.RwkvPostBwdRefIdeal.nD Cert.RwkvPostBwdRefIdeal.τ).loc Cert.RwkvPostBwdRefIdeal.main_arg7)) (m ((c.tc : Thread Cert.RwkvPostBwdRefIdeal.nD Cert.RwkvPostBwdRefIdeal.τ).loc Cert.RwkvPostBwdRefIdeal.main_arg8))).2.2.2.1 = (fun _ => 1#1)
    ∧ (Cert.Pre_finite_post.fn (F := Ideal) (m ((c.tc : Thread Cert.RwkvPostBwdRefIdeal.nD Cert.RwkvPostBwdRefIdeal.τ).loc Cert.RwkvPostBwdRefIdeal.main_arg0)) (m ((c.tc : Thread Cert.RwkvPostBwdRefIdeal.nD Cert.RwkvPostBwdRefIdeal.τ).loc Cert.RwkvPostBwdRefIdeal.main_arg1)) (m ((c.tc : Thread Cert.RwkvPostBwdRefIdeal.nD Cert.RwkvPostBwdRefIdeal.τ).loc Cert.RwkvPostBwdRefIdeal.main_arg2)) (m ((c.tc : Thread Cert.RwkvPostBwdRefIdeal.nD Cert.RwkvPostBwdRefIdeal.τ).loc Cert.RwkvPostBwdRefIdeal.main_arg3)) (m ((c.tc : Thread Cert.RwkvPostBwdRefIdeal.nD Cert.RwkvPostBwdRefIdeal.τ).loc Cert.RwkvPostBwdRefIdeal.main_arg4)) (m ((c.tc : Thread Cert.RwkvPostBwdRefIdeal.nD Cert.RwkvPostBwdRefIdeal.τ).loc Cert.RwkvPostBwdRefIdeal.main_arg5)) (m ((c.tc : Thread Cert.RwkvPostBwdRefIdeal.nD Cert.RwkvPostBwdRefIdeal.τ).loc Cert.RwkvPostBwdRefIdeal.main_arg6)) (m ((c.tc : Thread Cert.RwkvPostBwdRefIdeal.nD Cert.RwkvPostBwdRefIdeal.τ).loc Cert.RwkvPostBwdRefIdeal.main_arg7)) (m ((c.tc : Thread Cert.RwkvPostBwdRefIdeal.nD Cert.RwkvPostBwdRefIdeal.τ).loc Cert.RwkvPostBwdRefIdeal.main_arg8))).2.2.2.2.1 = (fun _ => 1#1)
    ∧ (Cert.Pre_finite_post.fn (F := Ideal) (m ((c.tc : Thread Cert.RwkvPostBwdRefIdeal.nD Cert.RwkvPostBwdRefIdeal.τ).loc Cert.RwkvPostBwdRefIdeal.main_arg0)) (m ((c.tc : Thread Cert.RwkvPostBwdRefIdeal.nD Cert.RwkvPostBwdRefIdeal.τ).loc Cert.RwkvPostBwdRefIdeal.main_arg1)) (m ((c.tc : Thread Cert.RwkvPostBwdRefIdeal.nD Cert.RwkvPostBwdRefIdeal.τ).loc Cert.RwkvPostBwdRefIdeal.main_arg2)) (m ((c.tc : Thread Cert.RwkvPostBwdRefIdeal.nD Cert.RwkvPostBwdRefIdeal.τ).loc Cert.RwkvPostBwdRefIdeal.main_arg3)) (m ((c.tc : Thread Cert.RwkvPostBwdRefIdeal.nD Cert.RwkvPostBwdRefIdeal.τ).loc Cert.RwkvPostBwdRefIdeal.main_arg4)) (m ((c.tc : Thread Cert.RwkvPostBwdRefIdeal.nD Cert.RwkvPostBwdRefIdeal.τ).loc Cert.RwkvPostBwdRefIdeal.main_arg5)) (m ((c.tc : Thread Cert.RwkvPostBwdRefIdeal.nD Cert.RwkvPostBwdRefIdeal.τ).loc Cert.RwkvPostBwdRefIdeal.main_arg6)) (m ((c.tc : Thread Cert.RwkvPostBwdRefIdeal.nD Cert.RwkvPostBwdRefIdeal.τ).loc Cert.RwkvPostBwdRefIdeal.main_arg7)) (m ((c.tc : Thread Cert.RwkvPostBwdRefIdeal.nD Cert.RwkvPostBwdRefIdeal.τ).loc Cert.RwkvPostBwdRefIdeal.main_arg8))).2.2.2.2.2.1 = (fun _ => 1#1)
    ∧ (Cert.Pre_finite_post.fn (F := Ideal) (m ((c.tc : Thread Cert.RwkvPostBwdRefIdeal.nD Cert.RwkvPostBwdRefIdeal.τ).loc Cert.RwkvPostBwdRefIdeal.main_arg0)) (m ((c.tc : Thread Cert.RwkvPostBwdRefIdeal.nD Cert.RwkvPostBwdRefIdeal.τ).loc Cert.RwkvPostBwdRefIdeal.main_arg1)) (m ((c.tc : Thread Cert.RwkvPostBwdRefIdeal.nD Cert.RwkvPostBwdRefIdeal.τ).loc Cert.RwkvPostBwdRefIdeal.main_arg2)) (m ((c.tc : Thread Cert.RwkvPostBwdRefIdeal.nD Cert.RwkvPostBwdRefIdeal.τ).loc Cert.RwkvPostBwdRefIdeal.main_arg3)) (m ((c.tc : Thread Cert.RwkvPostBwdRefIdeal.nD Cert.RwkvPostBwdRefIdeal.τ).loc Cert.RwkvPostBwdRefIdeal.main_arg4)) (m ((c.tc : Thread Cert.RwkvPostBwdRefIdeal.nD Cert.RwkvPostBwdRefIdeal.τ).loc Cert.RwkvPostBwdRefIdeal.main_arg5)) (m ((c.tc : Thread Cert.RwkvPostBwdRefIdeal.nD Cert.RwkvPostBwdRefIdeal.τ).loc Cert.RwkvPostBwdRefIdeal.main_arg6)) (m ((c.tc : Thread Cert.RwkvPostBwdRefIdeal.nD Cert.RwkvPostBwdRefIdeal.τ).loc Cert.RwkvPostBwdRefIdeal.main_arg7)) (m ((c.tc : Thread Cert.RwkvPostBwdRefIdeal.nD Cert.RwkvPostBwdRefIdeal.τ).loc Cert.RwkvPostBwdRefIdeal.main_arg8))).2.2.2.2.2.2.1 = (fun _ => 1#1)
    ∧ (Cert.Pre_finite_post.fn (F := Ideal) (m ((c.tc : Thread Cert.RwkvPostBwdRefIdeal.nD Cert.RwkvPostBwdRefIdeal.τ).loc Cert.RwkvPostBwdRefIdeal.main_arg0)) (m ((c.tc : Thread Cert.RwkvPostBwdRefIdeal.nD Cert.RwkvPostBwdRefIdeal.τ).loc Cert.RwkvPostBwdRefIdeal.main_arg1)) (m ((c.tc : Thread Cert.RwkvPostBwdRefIdeal.nD Cert.RwkvPostBwdRefIdeal.τ).loc Cert.RwkvPostBwdRefIdeal.main_arg2)) (m ((c.tc : Thread Cert.RwkvPostBwdRefIdeal.nD Cert.RwkvPostBwdRefIdeal.τ).loc Cert.RwkvPostBwdRefIdeal.main_arg3)) (m ((c.tc : Thread Cert.RwkvPostBwdRefIdeal.nD Cert.RwkvPostBwdRefIdeal.τ).loc Cert.RwkvPostBwdRefIdeal.main_arg4)) (m ((c.tc : Thread Cert.RwkvPostBwdRefIdeal.nD Cert.RwkvPostBwdRefIdeal.τ).loc Cert.RwkvPostBwdRefIdeal.main_arg5)) (m ((c.tc : Thread Cert.RwkvPostBwdRefIdeal.nD Cert.RwkvPostBwdRefIdeal.τ).loc Cert.RwkvPostBwdRefIdeal.main_arg6)) (m ((c.tc : Thread Cert.RwkvPostBwdRefIdeal.nD Cert.RwkvPostBwdRefIdeal.τ).loc Cert.RwkvPostBwdRefIdeal.main_arg7)) (m ((c.tc : Thread Cert.RwkvPostBwdRefIdeal.nD Cert.RwkvPostBwdRefIdeal.τ).loc Cert.RwkvPostBwdRefIdeal.main_arg8))).2.2.2.2.2.2.2.1 = (fun _ => 1#1)
    ∧ (Cert.Pre_finite_post.fn (F := Ideal) (m ((c.tc : Thread Cert.RwkvPostBwdRefIdeal.nD Cert.RwkvPostBwdRefIdeal.τ).loc Cert.RwkvPostBwdRefIdeal.main_arg0)) (m ((c.tc : Thread Cert.RwkvPostBwdRefIdeal.nD Cert.RwkvPostBwdRefIdeal.τ).loc Cert.RwkvPostBwdRefIdeal.main_arg1)) (m ((c.tc : Thread Cert.RwkvPostBwdRefIdeal.nD Cert.RwkvPostBwdRefIdeal.τ).loc Cert.RwkvPostBwdRefIdeal.main_arg2)) (m ((c.tc : Thread Cert.RwkvPostBwdRefIdeal.nD Cert.RwkvPostBwdRefIdeal.τ).loc Cert.RwkvPostBwdRefIdeal.main_arg3)) (m ((c.tc : Thread Cert.RwkvPostBwdRefIdeal.nD Cert.RwkvPostBwdRefIdeal.τ).loc Cert.RwkvPostBwdRefIdeal.main_arg4)) (m ((c.tc : Thread Cert.RwkvPostBwdRefIdeal.nD Cert.RwkvPostBwdRefIdeal.τ).loc Cert.RwkvPostBwdRefIdeal.main_arg5)) (m ((c.tc : Thread Cert.RwkvPostBwdRefIdeal.nD Cert.RwkvPostBwdRefIdeal.τ).loc Cert.RwkvPostBwdRefIdeal.main_arg6)) (m ((c.tc : Thread Cert.RwkvPostBwdRefIdeal.nD Cert.RwkvPostBwdRefIdeal.τ).loc Cert.RwkvPostBwdRefIdeal.main_arg7)) (m ((c.tc : Thread Cert.RwkvPostBwdRefIdeal.nD Cert.RwkvPostBwdRefIdeal.τ).loc Cert.RwkvPostBwdRefIdeal.main_arg8))).2.2.2.2.2.2.2.2 = (fun _ => 1#1)

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_LruMix (m : (ℓ : Loc Cert.LruMix.nD Cert.LruMix.τ Cert.LruMix.sig) → Buf (Elt Bits) ℓ) : Prop :=
  True

def Pre_LruMixIdeal (m : (ℓ : Loc Cert.LruMixIdeal.nD Cert.LruMixIdeal.τ Cert.LruMixIdeal.sig) → Buf (Elt Ideal) ℓ) : Prop :=
  True

def Pre_LruMixRefIdeal (m : (ℓ : Loc Cert.LruMixRefIdeal.nD Cert.LruMixRefIdeal.τ Cert.LruMixRefIdeal.sig) → Buf (Elt Ideal) ℓ) : Prop :=
  True

def Pre_RwkvMix (m : (ℓ : Loc Cert.RwkvMix.nD Cert.RwkvMix.τ Cert.RwkvMix.sig) → Buf (Elt Bits) ℓ) : Prop :=
  True

def Pre_RwkvMixIdeal (m : (ℓ : Loc Cert.RwkvMixIdeal.nD Cert.RwkvMixIdeal.τ Cert.RwkvMixIdeal.sig) → Buf (Elt Ideal) ℓ) : Prop :=
  True

def Pre_RwkvMixRefIdeal (m : (ℓ : Loc Cert.RwkvMixRefIdeal.nD Cert.RwkvMixRefIdeal.τ Cert.RwkvMixRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2))
      ∧ r.2.sem = fun _ => 0)

def quiescent_FfnDownDx [hFfnDownDx : Cert.FfnDownDx.Facts] : Prop :=
  ∀ (m : (ℓ : Loc Cert.FfnDownDx.nD Cert.FfnDownDx.τ Cert.FfnDownDx.sig) → Buf (Elt Bits) ℓ) (g : Dev Cert.FfnDownDx.nD → PrngReg), Pre_FfnDownDx m →
    θ_run (Cert.FfnDownDx.defs (F := Bits)) (onTc (τ := Cert.FfnDownDx.τ) (Cert.FfnDownDx.main (F := Bits))) ⟨m, fun _ => 0, g⟩ (fun r => (∀ c : Dev Cert.FfnDownDx.nD,
      r.2.mem ((c.tc : Thread Cert.FfnDownDx.nD Cert.FfnDownDx.τ).loc Cert.FfnDownDx.main_arg0) = m ((c.tc : Thread Cert.FfnDownDx.nD Cert.FfnDownDx.τ).loc Cert.FfnDownDx.main_arg0)
      ∧ r.2.mem ((c.tc : Thread Cert.FfnDownDx.nD Cert.FfnDownDx.τ).loc Cert.FfnDownDx.main_arg1) = m ((c.tc : Thread Cert.FfnDownDx.nD Cert.FfnDownDx.τ).loc Cert.FfnDownDx.main_arg1))
      ∧ r.2.sem = fun _ => 0)

def quiescent_FfnDownDxIdeal [hFfnDownDxIdeal : Cert.FfnDownDxIdeal.Facts] : Prop :=
  ∀ (m : (ℓ : Loc Cert.FfnDownDxIdeal.nD Cert.FfnDownDxIdeal.τ Cert.FfnDownDxIdeal.sig) → Buf (Elt Ideal) ℓ) (g : Dev Cert.FfnDownDxIdeal.nD → PrngReg), Pre_FfnDownDxIdeal m →
    θ_run (Cert.FfnDownDxIdeal.defs (F := Ideal)) (onTc (τ := Cert.FfnDownDxIdeal.τ) (Cert.FfnDownDxIdeal.main (F := Ideal))) ⟨m, fun _ => 0, g⟩ (fun r => (∀ c : Dev Cert.FfnDownDxIdeal.nD,
      r.2.mem ((c.tc : Thread Cert.FfnDownDxIdeal.nD Cert.FfnDownDxIdeal.τ).loc Cert.FfnDownDxIdeal.main_arg0) = m ((c.tc : Thread Cert.FfnDownDxIdeal.nD Cert.FfnDownDxIdeal.τ).loc Cert.FfnDownDxIdeal.main_arg0)
      ∧ r.2.mem ((c.tc : Thread Cert.FfnDownDxIdeal.nD Cert.FfnDownDxIdeal.τ).loc Cert.FfnDownDxIdeal.main_arg1) = m ((c.tc : Thread Cert.FfnDownDxIdeal.nD Cert.FfnDownDxIdeal.τ).loc Cert.FfnDownDxIdeal.main_arg1))
      ∧ r.2.sem = fun _ => 0)

def quiescent_FfnDownDxRefIdeal [hFfnDownDxRefIdeal : Cert.FfnDownDxRefIdeal.Facts] : Prop :=
  ∀ (m : (ℓ : Loc Cert.FfnDownDxRefIdeal.nD Cert.FfnDownDxRefIdeal.τ Cert.FfnDownDxRefIdeal.sig) → Buf (Elt Ideal) ℓ) (g : Dev Cert.FfnDownDxRefIdeal.nD → PrngReg), Pre_FfnDownDxRefIdeal m →
    θ_run (Cert.FfnDownDxRefIdeal.defs (F := Ideal)) (onTc (τ := Cert.FfnDownDxRefIdeal.τ) (Cert.FfnDownDxRefIdeal.main (F := Ideal))) ⟨m, fun _ => 0, g⟩ (fun r => (∀ c : Dev Cert.FfnDownDxRefIdeal.nD,
      r.2.mem ((c.tc : Thread Cert.FfnDownDxRefIdeal.nD Cert.FfnDownDxRefIdeal.τ).loc Cert.FfnDownDxRefIdeal.main_arg0) = m ((c.tc : Thread Cert.FfnDownDxRefIdeal.nD Cert.FfnDownDxRefIdeal.τ).loc Cert.FfnDownDxRefIdeal.main_arg0)
      ∧ r.2.mem ((c.tc : Thread Cert.FfnDownDxRefIdeal.nD Cert.FfnDownDxRefIdeal.τ).loc Cert.FfnDownDxRefIdeal.main_arg1) = m ((c.tc : Thread Cert.FfnDownDxRefIdeal.nD Cert.FfnDownDxRefIdeal.τ).loc Cert.FfnDownDxRefIdeal.main_arg1))
      ∧ r.2.sem = fun _ => 0)

def quiescent_FfnDownDw [hFfnDownDw : Cert.FfnDownDw.Facts] : Prop :=
  ∀ (m : (ℓ : Loc Cert.FfnDownDw.nD Cert.FfnDownDw.τ Cert.FfnDownDw.sig) → Buf (Elt Bits) ℓ) (g : Dev Cert.FfnDownDw.nD → PrngReg), Pre_FfnDownDw m →
    θ_run (Cert.FfnDownDw.defs (F := Bits)) (onTc (τ := Cert.FfnDownDw.τ) (Cert.FfnDownDw.main (F := Bits))) ⟨m, fun _ => 0, g⟩ (fun r => (∀ c : Dev Cert.FfnDownDw.nD,
      r.2.mem ((c.tc : Thread Cert.FfnDownDw.nD Cert.FfnDownDw.τ).loc Cert.FfnDownDw.main_arg0) = m ((c.tc : Thread Cert.FfnDownDw.nD Cert.FfnDownDw.τ).loc Cert.FfnDownDw.main_arg0)
      ∧ r.2.mem ((c.tc : Thread Cert.FfnDownDw.nD Cert.FfnDownDw.τ).loc Cert.FfnDownDw.main_arg1) = m ((c.tc : Thread Cert.FfnDownDw.nD Cert.FfnDownDw.τ).loc Cert.FfnDownDw.main_arg1))
      ∧ r.2.sem = fun _ => 0)

def quiescent_FfnDownDwIdeal [hFfnDownDwIdeal : Cert.FfnDownDwIdeal.Facts] : Prop :=
  ∀ (m : (ℓ : Loc Cert.FfnDownDwIdeal.nD Cert.FfnDownDwIdeal.τ Cert.FfnDownDwIdeal.sig) → Buf (Elt Ideal) ℓ) (g : Dev Cert.FfnDownDwIdeal.nD → PrngReg), Pre_FfnDownDwIdeal m →
    θ_run (Cert.FfnDownDwIdeal.defs (F := Ideal)) (onTc (τ := Cert.FfnDownDwIdeal.τ) (Cert.FfnDownDwIdeal.main (F := Ideal))) ⟨m, fun _ => 0, g⟩ (fun r => (∀ c : Dev Cert.FfnDownDwIdeal.nD,
      r.2.mem ((c.tc : Thread Cert.FfnDownDwIdeal.nD Cert.FfnDownDwIdeal.τ).loc Cert.FfnDownDwIdeal.main_arg0) = m ((c.tc : Thread Cert.FfnDownDwIdeal.nD Cert.FfnDownDwIdeal.τ).loc Cert.FfnDownDwIdeal.main_arg0)
      ∧ r.2.mem ((c.tc : Thread Cert.FfnDownDwIdeal.nD Cert.FfnDownDwIdeal.τ).loc Cert.FfnDownDwIdeal.main_arg1) = m ((c.tc : Thread Cert.FfnDownDwIdeal.nD Cert.FfnDownDwIdeal.τ).loc Cert.FfnDownDwIdeal.main_arg1))
      ∧ r.2.sem = fun _ => 0)

def quiescent_FfnDownDwRefIdeal [hFfnDownDwRefIdeal : Cert.FfnDownDwRefIdeal.Facts] : Prop :=
  ∀ (m : (ℓ : Loc Cert.FfnDownDwRefIdeal.nD Cert.FfnDownDwRefIdeal.τ Cert.FfnDownDwRefIdeal.sig) → Buf (Elt Ideal) ℓ) (g : Dev Cert.FfnDownDwRefIdeal.nD → PrngReg), Pre_FfnDownDwRefIdeal m →
    θ_run (Cert.FfnDownDwRefIdeal.defs (F := Ideal)) (onTc (τ := Cert.FfnDownDwRefIdeal.τ) (Cert.FfnDownDwRefIdeal.main (F := Ideal))) ⟨m, fun _ => 0, g⟩ (fun r => (∀ c : Dev Cert.FfnDownDwRefIdeal.nD,
      r.2.mem ((c.tc : Thread Cert.FfnDownDwRefIdeal.nD Cert.FfnDownDwRefIdeal.τ).loc Cert.FfnDownDwRefIdeal.main_arg0) = m ((c.tc : Thread Cert.FfnDownDwRefIdeal.nD Cert.FfnDownDwRefIdeal.τ).loc Cert.FfnDownDwRefIdeal.main_arg0)
      ∧ r.2.mem ((c.tc : Thread Cert.FfnDownDwRefIdeal.nD Cert.FfnDownDwRefIdeal.τ).loc Cert.FfnDownDwRefIdeal.main_arg1) = m ((c.tc : Thread Cert.FfnDownDwRefIdeal.nD Cert.FfnDownDwRefIdeal.τ).loc Cert.FfnDownDwRefIdeal.main_arg1))
      ∧ r.2.sem = fun _ => 0)

def quiescent_FfnUpDx [hFfnUpDx : Cert.FfnUpDx.Facts] : Prop :=
  ∀ (m : (ℓ : Loc Cert.FfnUpDx.nD Cert.FfnUpDx.τ Cert.FfnUpDx.sig) → Buf (Elt Bits) ℓ) (g : Dev Cert.FfnUpDx.nD → PrngReg), Pre_FfnUpDx m →
    θ_run (Cert.FfnUpDx.defs (F := Bits)) (onTc (τ := Cert.FfnUpDx.τ) (Cert.FfnUpDx.main (F := Bits))) ⟨m, fun _ => 0, g⟩ (fun r => (∀ c : Dev Cert.FfnUpDx.nD,
      r.2.mem ((c.tc : Thread Cert.FfnUpDx.nD Cert.FfnUpDx.τ).loc Cert.FfnUpDx.main_arg0) = m ((c.tc : Thread Cert.FfnUpDx.nD Cert.FfnUpDx.τ).loc Cert.FfnUpDx.main_arg0)
      ∧ r.2.mem ((c.tc : Thread Cert.FfnUpDx.nD Cert.FfnUpDx.τ).loc Cert.FfnUpDx.main_arg1) = m ((c.tc : Thread Cert.FfnUpDx.nD Cert.FfnUpDx.τ).loc Cert.FfnUpDx.main_arg1))
      ∧ r.2.sem = fun _ => 0)

def quiescent_FfnUpDxIdeal [hFfnUpDxIdeal : Cert.FfnUpDxIdeal.Facts] : Prop :=
  ∀ (m : (ℓ : Loc Cert.FfnUpDxIdeal.nD Cert.FfnUpDxIdeal.τ Cert.FfnUpDxIdeal.sig) → Buf (Elt Ideal) ℓ) (g : Dev Cert.FfnUpDxIdeal.nD → PrngReg), Pre_FfnUpDxIdeal m →
    θ_run (Cert.FfnUpDxIdeal.defs (F := Ideal)) (onTc (τ := Cert.FfnUpDxIdeal.τ) (Cert.FfnUpDxIdeal.main (F := Ideal))) ⟨m, fun _ => 0, g⟩ (fun r => (∀ c : Dev Cert.FfnUpDxIdeal.nD,
      r.2.mem ((c.tc : Thread Cert.FfnUpDxIdeal.nD Cert.FfnUpDxIdeal.τ).loc Cert.FfnUpDxIdeal.main_arg0) = m ((c.tc : Thread Cert.FfnUpDxIdeal.nD Cert.FfnUpDxIdeal.τ).loc Cert.FfnUpDxIdeal.main_arg0)
      ∧ r.2.mem ((c.tc : Thread Cert.FfnUpDxIdeal.nD Cert.FfnUpDxIdeal.τ).loc Cert.FfnUpDxIdeal.main_arg1) = m ((c.tc : Thread Cert.FfnUpDxIdeal.nD Cert.FfnUpDxIdeal.τ).loc Cert.FfnUpDxIdeal.main_arg1))
      ∧ r.2.sem = fun _ => 0)

def quiescent_FfnUpDxRefIdeal [hFfnUpDxRefIdeal : Cert.FfnUpDxRefIdeal.Facts] : Prop :=
  ∀ (m : (ℓ : Loc Cert.FfnUpDxRefIdeal.nD Cert.FfnUpDxRefIdeal.τ Cert.FfnUpDxRefIdeal.sig) → Buf (Elt Ideal) ℓ) (g : Dev Cert.FfnUpDxRefIdeal.nD → PrngReg), Pre_FfnUpDxRefIdeal m →
    θ_run (Cert.FfnUpDxRefIdeal.defs (F := Ideal)) (onTc (τ := Cert.FfnUpDxRefIdeal.τ) (Cert.FfnUpDxRefIdeal.main (F := Ideal))) ⟨m, fun _ => 0, g⟩ (fun r => (∀ c : Dev Cert.FfnUpDxRefIdeal.nD,
      r.2.mem ((c.tc : Thread Cert.FfnUpDxRefIdeal.nD Cert.FfnUpDxRefIdeal.τ).loc Cert.FfnUpDxRefIdeal.main_arg0) = m ((c.tc : Thread Cert.FfnUpDxRefIdeal.nD Cert.FfnUpDxRefIdeal.τ).loc Cert.FfnUpDxRefIdeal.main_arg0)
      ∧ r.2.mem ((c.tc : Thread Cert.FfnUpDxRefIdeal.nD Cert.FfnUpDxRefIdeal.τ).loc Cert.FfnUpDxRefIdeal.main_arg1) = m ((c.tc : Thread Cert.FfnUpDxRefIdeal.nD Cert.FfnUpDxRefIdeal.τ).loc Cert.FfnUpDxRefIdeal.main_arg1))
      ∧ r.2.sem = fun _ => 0)

def quiescent_FfnUp1 [hFfnUp1 : Cert.FfnUp1.Facts] : Prop :=
  ∀ (m : (ℓ : Loc Cert.FfnUp1.nD Cert.FfnUp1.τ Cert.FfnUp1.sig) → Buf (Elt Bits) ℓ) (g : Dev Cert.FfnUp1.nD → PrngReg), Pre_FfnUp1 m →
    θ_run (Cert.FfnUp1.defs (F := Bits)) (onTc (τ := Cert.FfnUp1.τ) (Cert.FfnUp1.main (F := Bits))) ⟨m, fun _ => 0, g⟩ (fun r => (∀ c : Dev Cert.FfnUp1.nD,
      r.2.mem ((c.tc : Thread Cert.FfnUp1.nD Cert.FfnUp1.τ).loc Cert.FfnUp1.main_arg0) = m ((c.tc : Thread Cert.FfnUp1.nD Cert.FfnUp1.τ).loc Cert.FfnUp1.main_arg0)
      ∧ r.2.mem ((c.tc : Thread Cert.FfnUp1.nD Cert.FfnUp1.τ).loc Cert.FfnUp1.main_arg1) = m ((c.tc : Thread Cert.FfnUp1.nD Cert.FfnUp1.τ).loc Cert.FfnUp1.main_arg1))
      ∧ r.2.sem = fun _ => 0)

def quiescent_FfnUp1Ideal [hFfnUp1Ideal : Cert.FfnUp1Ideal.Facts] : Prop :=
  ∀ (m : (ℓ : Loc Cert.FfnUp1Ideal.nD Cert.FfnUp1Ideal.τ Cert.FfnUp1Ideal.sig) → Buf (Elt Ideal) ℓ) (g : Dev Cert.FfnUp1Ideal.nD → PrngReg), Pre_FfnUp1Ideal m →
    θ_run (Cert.FfnUp1Ideal.defs (F := Ideal)) (onTc (τ := Cert.FfnUp1Ideal.τ) (Cert.FfnUp1Ideal.main (F := Ideal))) ⟨m, fun _ => 0, g⟩ (fun r => (∀ c : Dev Cert.FfnUp1Ideal.nD,
      r.2.mem ((c.tc : Thread Cert.FfnUp1Ideal.nD Cert.FfnUp1Ideal.τ).loc Cert.FfnUp1Ideal.main_arg0) = m ((c.tc : Thread Cert.FfnUp1Ideal.nD Cert.FfnUp1Ideal.τ).loc Cert.FfnUp1Ideal.main_arg0)
      ∧ r.2.mem ((c.tc : Thread Cert.FfnUp1Ideal.nD Cert.FfnUp1Ideal.τ).loc Cert.FfnUp1Ideal.main_arg1) = m ((c.tc : Thread Cert.FfnUp1Ideal.nD Cert.FfnUp1Ideal.τ).loc Cert.FfnUp1Ideal.main_arg1))
      ∧ r.2.sem = fun _ => 0)

def quiescent_FfnUp1RefIdeal [hFfnUp1RefIdeal : Cert.FfnUp1RefIdeal.Facts] : Prop :=
  ∀ (m : (ℓ : Loc Cert.FfnUp1RefIdeal.nD Cert.FfnUp1RefIdeal.τ Cert.FfnUp1RefIdeal.sig) → Buf (Elt Ideal) ℓ) (g : Dev Cert.FfnUp1RefIdeal.nD → PrngReg), Pre_FfnUp1RefIdeal m →
    θ_run (Cert.FfnUp1RefIdeal.defs (F := Ideal)) (onTc (τ := Cert.FfnUp1RefIdeal.τ) (Cert.FfnUp1RefIdeal.main (F := Ideal))) ⟨m, fun _ => 0, g⟩ (fun r => (∀ c : Dev Cert.FfnUp1RefIdeal.nD,
      r.2.mem ((c.tc : Thread Cert.FfnUp1RefIdeal.nD Cert.FfnUp1RefIdeal.τ).loc Cert.FfnUp1RefIdeal.main_arg0) = m ((c.tc : Thread Cert.FfnUp1RefIdeal.nD Cert.FfnUp1RefIdeal.τ).loc Cert.FfnUp1RefIdeal.main_arg0)
      ∧ r.2.mem ((c.tc : Thread Cert.FfnUp1RefIdeal.nD Cert.FfnUp1RefIdeal.τ).loc Cert.FfnUp1RefIdeal.main_arg1) = m ((c.tc : Thread Cert.FfnUp1RefIdeal.nD Cert.FfnUp1RefIdeal.τ).loc Cert.FfnUp1RefIdeal.main_arg1))
      ∧ r.2.sem = fun _ => 0)

def quiescent_FfnUp1Dx [hFfnUp1Dx : Cert.FfnUp1Dx.Facts] : Prop :=
  ∀ (m : (ℓ : Loc Cert.FfnUp1Dx.nD Cert.FfnUp1Dx.τ Cert.FfnUp1Dx.sig) → Buf (Elt Bits) ℓ) (g : Dev Cert.FfnUp1Dx.nD → PrngReg), Pre_FfnUp1Dx m →
    θ_run (Cert.FfnUp1Dx.defs (F := Bits)) (onTc (τ := Cert.FfnUp1Dx.τ) (Cert.FfnUp1Dx.main (F := Bits))) ⟨m, fun _ => 0, g⟩ (fun r => (∀ c : Dev Cert.FfnUp1Dx.nD,
      r.2.mem ((c.tc : Thread Cert.FfnUp1Dx.nD Cert.FfnUp1Dx.τ).loc Cert.FfnUp1Dx.main_arg0) = m ((c.tc : Thread Cert.FfnUp1Dx.nD Cert.FfnUp1Dx.τ).loc Cert.FfnUp1Dx.main_arg0)
      ∧ r.2.mem ((c.tc : Thread Cert.FfnUp1Dx.nD Cert.FfnUp1Dx.τ).loc Cert.FfnUp1Dx.main_arg1) = m ((c.tc : Thread Cert.FfnUp1Dx.nD Cert.FfnUp1Dx.τ).loc Cert.FfnUp1Dx.main_arg1))
      ∧ r.2.sem = fun _ => 0)

def quiescent_FfnUp1DxIdeal [hFfnUp1DxIdeal : Cert.FfnUp1DxIdeal.Facts] : Prop :=
  ∀ (m : (ℓ : Loc Cert.FfnUp1DxIdeal.nD Cert.FfnUp1DxIdeal.τ Cert.FfnUp1DxIdeal.sig) → Buf (Elt Ideal) ℓ) (g : Dev Cert.FfnUp1DxIdeal.nD → PrngReg), Pre_FfnUp1DxIdeal m →
    θ_run (Cert.FfnUp1DxIdeal.defs (F := Ideal)) (onTc (τ := Cert.FfnUp1DxIdeal.τ) (Cert.FfnUp1DxIdeal.main (F := Ideal))) ⟨m, fun _ => 0, g⟩ (fun r => (∀ c : Dev Cert.FfnUp1DxIdeal.nD,
      r.2.mem ((c.tc : Thread Cert.FfnUp1DxIdeal.nD Cert.FfnUp1DxIdeal.τ).loc Cert.FfnUp1DxIdeal.main_arg0) = m ((c.tc : Thread Cert.FfnUp1DxIdeal.nD Cert.FfnUp1DxIdeal.τ).loc Cert.FfnUp1DxIdeal.main_arg0)
      ∧ r.2.mem ((c.tc : Thread Cert.FfnUp1DxIdeal.nD Cert.FfnUp1DxIdeal.τ).loc Cert.FfnUp1DxIdeal.main_arg1) = m ((c.tc : Thread Cert.FfnUp1DxIdeal.nD Cert.FfnUp1DxIdeal.τ).loc Cert.FfnUp1DxIdeal.main_arg1))
      ∧ r.2.sem = fun _ => 0)

def quiescent_FfnUp1DxRefIdeal [hFfnUp1DxRefIdeal : Cert.FfnUp1DxRefIdeal.Facts] : Prop :=
  ∀ (m : (ℓ : Loc Cert.FfnUp1DxRefIdeal.nD Cert.FfnUp1DxRefIdeal.τ Cert.FfnUp1DxRefIdeal.sig) → Buf (Elt Ideal) ℓ) (g : Dev Cert.FfnUp1DxRefIdeal.nD → PrngReg), Pre_FfnUp1DxRefIdeal m →
    θ_run (Cert.FfnUp1DxRefIdeal.defs (F := Ideal)) (onTc (τ := Cert.FfnUp1DxRefIdeal.τ) (Cert.FfnUp1DxRefIdeal.main (F := Ideal))) ⟨m, fun _ => 0, g⟩ (fun r => (∀ c : Dev Cert.FfnUp1DxRefIdeal.nD,
      r.2.mem ((c.tc : Thread Cert.FfnUp1DxRefIdeal.nD Cert.FfnUp1DxRefIdeal.τ).loc Cert.FfnUp1DxRefIdeal.main_arg0) = m ((c.tc : Thread Cert.FfnUp1DxRefIdeal.nD Cert.FfnUp1DxRefIdeal.τ).loc Cert.FfnUp1DxRefIdeal.main_arg0)
      ∧ r.2.mem ((c.tc : Thread Cert.FfnUp1DxRefIdeal.nD Cert.FfnUp1DxRefIdeal.τ).loc Cert.FfnUp1DxRefIdeal.main_arg1) = m ((c.tc : Thread Cert.FfnUp1DxRefIdeal.nD Cert.FfnUp1DxRefIdeal.τ).loc Cert.FfnUp1DxRefIdeal.main_arg1))
      ∧ r.2.sem = fun _ => 0)

def quiescent_FfnUpDw [hFfnUpDw : Cert.FfnUpDw.Facts] : Prop :=
  ∀ (m : (ℓ : Loc Cert.FfnUpDw.nD Cert.FfnUpDw.τ Cert.FfnUpDw.sig) → Buf (Elt Bits) ℓ) (g : Dev Cert.FfnUpDw.nD → PrngReg), Pre_FfnUpDw m →
    θ_run (Cert.FfnUpDw.defs (F := Bits)) (onTc (τ := Cert.FfnUpDw.τ) (Cert.FfnUpDw.main (F := Bits))) ⟨m, fun _ => 0, g⟩ (fun r => (∀ c : Dev Cert.FfnUpDw.nD,
      r.2.mem ((c.tc : Thread Cert.FfnUpDw.nD Cert.FfnUpDw.τ).loc Cert.FfnUpDw.main_arg0) = m ((c.tc : Thread Cert.FfnUpDw.nD Cert.FfnUpDw.τ).loc Cert.FfnUpDw.main_arg0)
      ∧ r.2.mem ((c.tc : Thread Cert.FfnUpDw.nD Cert.FfnUpDw.τ).loc Cert.FfnUpDw.main_arg1) = m ((c.tc : Thread Cert.FfnUpDw.nD Cert.FfnUpDw.τ).loc Cert.FfnUpDw.main_arg1))
      ∧ r.2.sem = fun _ => 0)

def quiescent_FfnUpDwIdeal [hFfnUpDwIdeal : Cert.FfnUpDwIdeal.Facts] : Prop :=
  ∀ (m : (ℓ : Loc Cert.FfnUpDwIdeal.nD Cert.FfnUpDwIdeal.τ Cert.FfnUpDwIdeal.sig) → Buf (Elt Ideal) ℓ) (g : Dev Cert.FfnUpDwIdeal.nD → PrngReg), Pre_FfnUpDwIdeal m →
    θ_run (Cert.FfnUpDwIdeal.defs (F := Ideal)) (onTc (τ := Cert.FfnUpDwIdeal.τ) (Cert.FfnUpDwIdeal.main (F := Ideal))) ⟨m, fun _ => 0, g⟩ (fun r => (∀ c : Dev Cert.FfnUpDwIdeal.nD,
      r.2.mem ((c.tc : Thread Cert.FfnUpDwIdeal.nD Cert.FfnUpDwIdeal.τ).loc Cert.FfnUpDwIdeal.main_arg0) = m ((c.tc : Thread Cert.FfnUpDwIdeal.nD Cert.FfnUpDwIdeal.τ).loc Cert.FfnUpDwIdeal.main_arg0)
      ∧ r.2.mem ((c.tc : Thread Cert.FfnUpDwIdeal.nD Cert.FfnUpDwIdeal.τ).loc Cert.FfnUpDwIdeal.main_arg1) = m ((c.tc : Thread Cert.FfnUpDwIdeal.nD Cert.FfnUpDwIdeal.τ).loc Cert.FfnUpDwIdeal.main_arg1))
      ∧ r.2.sem = fun _ => 0)

def quiescent_FfnUpDwRefIdeal [hFfnUpDwRefIdeal : Cert.FfnUpDwRefIdeal.Facts] : Prop :=
  ∀ (m : (ℓ : Loc Cert.FfnUpDwRefIdeal.nD Cert.FfnUpDwRefIdeal.τ Cert.FfnUpDwRefIdeal.sig) → Buf (Elt Ideal) ℓ) (g : Dev Cert.FfnUpDwRefIdeal.nD → PrngReg), Pre_FfnUpDwRefIdeal m →
    θ_run (Cert.FfnUpDwRefIdeal.defs (F := Ideal)) (onTc (τ := Cert.FfnUpDwRefIdeal.τ) (Cert.FfnUpDwRefIdeal.main (F := Ideal))) ⟨m, fun _ => 0, g⟩ (fun r => (∀ c : Dev Cert.FfnUpDwRefIdeal.nD,
      r.2.mem ((c.tc : Thread Cert.FfnUpDwRefIdeal.nD Cert.FfnUpDwRefIdeal.τ).loc Cert.FfnUpDwRefIdeal.main_arg0) = m ((c.tc : Thread Cert.FfnUpDwRefIdeal.nD Cert.FfnUpDwRefIdeal.τ).loc Cert.FfnUpDwRefIdeal.main_arg0)
      ∧ r.2.mem ((c.tc : Thread Cert.FfnUpDwRefIdeal.nD Cert.FfnUpDwRefIdeal.τ).loc Cert.FfnUpDwRefIdeal.main_arg1) = m ((c.tc : Thread Cert.FfnUpDwRefIdeal.nD Cert.FfnUpDwRefIdeal.τ).loc Cert.FfnUpDwRefIdeal.main_arg1))
      ∧ r.2.sem = fun _ => 0)

def quiescent_LruIn [hLruIn : Cert.LruIn.Facts] : Prop :=
  ∀ (m : (ℓ : Loc Cert.LruIn.nD Cert.LruIn.τ Cert.LruIn.sig) → Buf (Elt Bits) ℓ) (g : Dev Cert.LruIn.nD → PrngReg), Pre_LruIn m →
    θ_run (Cert.LruIn.defs (F := Bits)) (onTc (τ := Cert.LruIn.τ) (Cert.LruIn.main (F := Bits))) ⟨m, fun _ => 0, g⟩ (fun r => (∀ c : Dev Cert.LruIn.nD,
      r.2.mem ((c.tc : Thread Cert.LruIn.nD Cert.LruIn.τ).loc Cert.LruIn.main_arg0) = m ((c.tc : Thread Cert.LruIn.nD Cert.LruIn.τ).loc Cert.LruIn.main_arg0)
      ∧ r.2.mem ((c.tc : Thread Cert.LruIn.nD Cert.LruIn.τ).loc Cert.LruIn.main_arg1) = m ((c.tc : Thread Cert.LruIn.nD Cert.LruIn.τ).loc Cert.LruIn.main_arg1)
      ∧ r.2.mem ((c.tc : Thread Cert.LruIn.nD Cert.LruIn.τ).loc Cert.LruIn.main_arg2) = m ((c.tc : Thread Cert.LruIn.nD Cert.LruIn.τ).loc Cert.LruIn.main_arg2))
      ∧ r.2.sem = fun _ => 0)

def quiescent_LruInIdeal [hLruInIdeal : Cert.LruInIdeal.Facts] : Prop :=
  ∀ (m : (ℓ : Loc Cert.LruInIdeal.nD Cert.LruInIdeal.τ Cert.LruInIdeal.sig) → Buf (Elt Ideal) ℓ) (g : Dev Cert.LruInIdeal.nD → PrngReg), Pre_LruInIdeal m →
    θ_run (Cert.LruInIdeal.defs (F := Ideal)) (onTc (τ := Cert.LruInIdeal.τ) (Cert.LruInIdeal.main (F := Ideal))) ⟨m, fun _ => 0, g⟩ (fun r => (∀ c : Dev Cert.LruInIdeal.nD,
      r.2.mem ((c.tc : Thread Cert.LruInIdeal.nD Cert.LruInIdeal.τ).loc Cert.LruInIdeal.main_arg0) = m ((c.tc : Thread Cert.LruInIdeal.nD Cert.LruInIdeal.τ).loc Cert.LruInIdeal.main_arg0)
      ∧ r.2.mem ((c.tc : Thread Cert.LruInIdeal.nD Cert.LruInIdeal.τ).loc Cert.LruInIdeal.main_arg1) = m ((c.tc : Thread Cert.LruInIdeal.nD Cert.LruInIdeal.τ).loc Cert.LruInIdeal.main_arg1)
      ∧ r.2.mem ((c.tc : Thread Cert.LruInIdeal.nD Cert.LruInIdeal.τ).loc Cert.LruInIdeal.main_arg2) = m ((c.tc : Thread Cert.LruInIdeal.nD Cert.LruInIdeal.τ).loc Cert.LruInIdeal.main_arg2))
      ∧ r.2.sem = fun _ => 0)

def quiescent_LruInRefIdeal [hLruInRefIdeal : Cert.LruInRefIdeal.Facts] : Prop :=
  ∀ (m : (ℓ : Loc Cert.LruInRefIdeal.nD Cert.LruInRefIdeal.τ Cert.LruInRefIdeal.sig) → Buf (Elt Ideal) ℓ) (g : Dev Cert.LruInRefIdeal.nD → PrngReg), Pre_LruInRefIdeal m →
    θ_run (Cert.LruInRefIdeal.defs (F := Ideal)) (onTc (τ := Cert.LruInRefIdeal.τ) (Cert.LruInRefIdeal.main (F := Ideal))) ⟨m, fun _ => 0, g⟩ (fun r => (∀ c : Dev Cert.LruInRefIdeal.nD,
      r.2.mem ((c.tc : Thread Cert.LruInRefIdeal.nD Cert.LruInRefIdeal.τ).loc Cert.LruInRefIdeal.main_arg0) = m ((c.tc : Thread Cert.LruInRefIdeal.nD Cert.LruInRefIdeal.τ).loc Cert.LruInRefIdeal.main_arg0)
      ∧ r.2.mem ((c.tc : Thread Cert.LruInRefIdeal.nD Cert.LruInRefIdeal.τ).loc Cert.LruInRefIdeal.main_arg1) = m ((c.tc : Thread Cert.LruInRefIdeal.nD Cert.LruInRefIdeal.τ).loc Cert.LruInRefIdeal.main_arg1)
      ∧ r.2.mem ((c.tc : Thread Cert.LruInRefIdeal.nD Cert.LruInRefIdeal.τ).loc Cert.LruInRefIdeal.main_arg2) = m ((c.tc : Thread Cert.LruInRefIdeal.nD Cert.LruInRefIdeal.τ).loc Cert.LruInRefIdeal.main_arg2))
      ∧ r.2.sem = fun _ => 0)

def quiescent_LruInDx [hLruInDx : Cert.LruInDx.Facts] : Prop :=
  ∀ (m : (ℓ : Loc Cert.LruInDx.nD Cert.LruInDx.τ Cert.LruInDx.sig) → Buf (Elt Bits) ℓ) (g : Dev Cert.LruInDx.nD → PrngReg), Pre_LruInDx m →
    θ_run (Cert.LruInDx.defs (F := Bits)) (onTc (τ := Cert.LruInDx.τ) (Cert.LruInDx.main (F := Bits))) ⟨m, fun _ => 0, g⟩ (fun r => (∀ c : Dev Cert.LruInDx.nD,
      r.2.mem ((c.tc : Thread Cert.LruInDx.nD Cert.LruInDx.τ).loc Cert.LruInDx.main_arg0) = m ((c.tc : Thread Cert.LruInDx.nD Cert.LruInDx.τ).loc Cert.LruInDx.main_arg0)
      ∧ r.2.mem ((c.tc : Thread Cert.LruInDx.nD Cert.LruInDx.τ).loc Cert.LruInDx.main_arg1) = m ((c.tc : Thread Cert.LruInDx.nD Cert.LruInDx.τ).loc Cert.LruInDx.main_arg1))
      ∧ r.2.sem = fun _ => 0)

def quiescent_LruInDxIdeal [hLruInDxIdeal : Cert.LruInDxIdeal.Facts] : Prop :=
  ∀ (m : (ℓ : Loc Cert.LruInDxIdeal.nD Cert.LruInDxIdeal.τ Cert.LruInDxIdeal.sig) → Buf (Elt Ideal) ℓ) (g : Dev Cert.LruInDxIdeal.nD → PrngReg), Pre_LruInDxIdeal m →
    θ_run (Cert.LruInDxIdeal.defs (F := Ideal)) (onTc (τ := Cert.LruInDxIdeal.τ) (Cert.LruInDxIdeal.main (F := Ideal))) ⟨m, fun _ => 0, g⟩ (fun r => (∀ c : Dev Cert.LruInDxIdeal.nD,
      r.2.mem ((c.tc : Thread Cert.LruInDxIdeal.nD Cert.LruInDxIdeal.τ).loc Cert.LruInDxIdeal.main_arg0) = m ((c.tc : Thread Cert.LruInDxIdeal.nD Cert.LruInDxIdeal.τ).loc Cert.LruInDxIdeal.main_arg0)
      ∧ r.2.mem ((c.tc : Thread Cert.LruInDxIdeal.nD Cert.LruInDxIdeal.τ).loc Cert.LruInDxIdeal.main_arg1) = m ((c.tc : Thread Cert.LruInDxIdeal.nD Cert.LruInDxIdeal.τ).loc Cert.LruInDxIdeal.main_arg1))
      ∧ r.2.sem = fun _ => 0)

def quiescent_LruInDxRefIdeal [hLruInDxRefIdeal : Cert.LruInDxRefIdeal.Facts] : Prop :=
  ∀ (m : (ℓ : Loc Cert.LruInDxRefIdeal.nD Cert.LruInDxRefIdeal.τ Cert.LruInDxRefIdeal.sig) → Buf (Elt Ideal) ℓ) (g : Dev Cert.LruInDxRefIdeal.nD → PrngReg), Pre_LruInDxRefIdeal m →
    θ_run (Cert.LruInDxRefIdeal.defs (F := Ideal)) (onTc (τ := Cert.LruInDxRefIdeal.τ) (Cert.LruInDxRefIdeal.main (F := Ideal))) ⟨m, fun _ => 0, g⟩ (fun r => (∀ c : Dev Cert.LruInDxRefIdeal.nD,
      r.2.mem ((c.tc : Thread Cert.LruInDxRefIdeal.nD Cert.LruInDxRefIdeal.τ).loc Cert.LruInDxRefIdeal.main_arg0) = m ((c.tc : Thread Cert.LruInDxRefIdeal.nD Cert.LruInDxRefIdeal.τ).loc Cert.LruInDxRefIdeal.main_arg0)
      ∧ r.2.mem ((c.tc : Thread Cert.LruInDxRefIdeal.nD Cert.LruInDxRefIdeal.τ).loc Cert.LruInDxRefIdeal.main_arg1) = m ((c.tc : Thread Cert.LruInDxRefIdeal.nD Cert.LruInDxRefIdeal.τ).loc Cert.LruInDxRefIdeal.main_arg1))
      ∧ r.2.sem = fun _ => 0)

def quiescent_LruInDw [hLruInDw : Cert.LruInDw.Facts] : Prop :=
  ∀ (m : (ℓ : Loc Cert.LruInDw.nD Cert.LruInDw.τ Cert.LruInDw.sig) → Buf (Elt Bits) ℓ) (g : Dev Cert.LruInDw.nD → PrngReg), Pre_LruInDw m →
    θ_run (Cert.LruInDw.defs (F := Bits)) (onTc (τ := Cert.LruInDw.τ) (Cert.LruInDw.main (F := Bits))) ⟨m, fun _ => 0, g⟩ (fun r => (∀ c : Dev Cert.LruInDw.nD,
      r.2.mem ((c.tc : Thread Cert.LruInDw.nD Cert.LruInDw.τ).loc Cert.LruInDw.main_arg0) = m ((c.tc : Thread Cert.LruInDw.nD Cert.LruInDw.τ).loc Cert.LruInDw.main_arg0)
      ∧ r.2.mem ((c.tc : Thread Cert.LruInDw.nD Cert.LruInDw.τ).loc Cert.LruInDw.main_arg1) = m ((c.tc : Thread Cert.LruInDw.nD Cert.LruInDw.τ).loc Cert.LruInDw.main_arg1))
      ∧ r.2.sem = fun _ => 0)

def quiescent_LruInDwIdeal [hLruInDwIdeal : Cert.LruInDwIdeal.Facts] : Prop :=
  ∀ (m : (ℓ : Loc Cert.LruInDwIdeal.nD Cert.LruInDwIdeal.τ Cert.LruInDwIdeal.sig) → Buf (Elt Ideal) ℓ) (g : Dev Cert.LruInDwIdeal.nD → PrngReg), Pre_LruInDwIdeal m →
    θ_run (Cert.LruInDwIdeal.defs (F := Ideal)) (onTc (τ := Cert.LruInDwIdeal.τ) (Cert.LruInDwIdeal.main (F := Ideal))) ⟨m, fun _ => 0, g⟩ (fun r => (∀ c : Dev Cert.LruInDwIdeal.nD,
      r.2.mem ((c.tc : Thread Cert.LruInDwIdeal.nD Cert.LruInDwIdeal.τ).loc Cert.LruInDwIdeal.main_arg0) = m ((c.tc : Thread Cert.LruInDwIdeal.nD Cert.LruInDwIdeal.τ).loc Cert.LruInDwIdeal.main_arg0)
      ∧ r.2.mem ((c.tc : Thread Cert.LruInDwIdeal.nD Cert.LruInDwIdeal.τ).loc Cert.LruInDwIdeal.main_arg1) = m ((c.tc : Thread Cert.LruInDwIdeal.nD Cert.LruInDwIdeal.τ).loc Cert.LruInDwIdeal.main_arg1))
      ∧ r.2.sem = fun _ => 0)

def quiescent_LruInDwRefIdeal [hLruInDwRefIdeal : Cert.LruInDwRefIdeal.Facts] : Prop :=
  ∀ (m : (ℓ : Loc Cert.LruInDwRefIdeal.nD Cert.LruInDwRefIdeal.τ Cert.LruInDwRefIdeal.sig) → Buf (Elt Ideal) ℓ) (g : Dev Cert.LruInDwRefIdeal.nD → PrngReg), Pre_LruInDwRefIdeal m →
    θ_run (Cert.LruInDwRefIdeal.defs (F := Ideal)) (onTc (τ := Cert.LruInDwRefIdeal.τ) (Cert.LruInDwRefIdeal.main (F := Ideal))) ⟨m, fun _ => 0, g⟩ (fun r => (∀ c : Dev Cert.LruInDwRefIdeal.nD,
      r.2.mem ((c.tc : Thread Cert.LruInDwRefIdeal.nD Cert.LruInDwRefIdeal.τ).loc Cert.LruInDwRefIdeal.main_arg0) = m ((c.tc : Thread Cert.LruInDwRefIdeal.nD Cert.LruInDwRefIdeal.τ).loc Cert.LruInDwRefIdeal.main_arg0)
      ∧ r.2.mem ((c.tc : Thread Cert.LruInDwRefIdeal.nD Cert.LruInDwRefIdeal.τ).loc Cert.LruInDwRefIdeal.main_arg1) = m ((c.tc : Thread Cert.LruInDwRefIdeal.nD Cert.LruInDwRefIdeal.τ).loc Cert.LruInDwRefIdeal.main_arg1))
      ∧ r.2.sem = fun _ => 0)

def quiescent_LruOut [hLruOut : Cert.LruOut.Facts] : Prop :=
  ∀ (m : (ℓ : Loc Cert.LruOut.nD Cert.LruOut.τ Cert.LruOut.sig) → Buf (Elt Bits) ℓ) (g : Dev Cert.LruOut.nD → PrngReg), Pre_LruOut m →
    θ_run (Cert.LruOut.defs (F := Bits)) (onTc (τ := Cert.LruOut.τ) (Cert.LruOut.main (F := Bits))) ⟨m, fun _ => 0, g⟩ (fun r => (∀ c : Dev Cert.LruOut.nD,
      r.2.mem ((c.tc : Thread Cert.LruOut.nD Cert.LruOut.τ).loc Cert.LruOut.main_arg0) = m ((c.tc : Thread Cert.LruOut.nD Cert.LruOut.τ).loc Cert.LruOut.main_arg0)
      ∧ r.2.mem ((c.tc : Thread Cert.LruOut.nD Cert.LruOut.τ).loc Cert.LruOut.main_arg1) = m ((c.tc : Thread Cert.LruOut.nD Cert.LruOut.τ).loc Cert.LruOut.main_arg1)
      ∧ r.2.mem ((c.tc : Thread Cert.LruOut.nD Cert.LruOut.τ).loc Cert.LruOut.main_arg2) = m ((c.tc : Thread Cert.LruOut.nD Cert.LruOut.τ).loc Cert.LruOut.main_arg2)
      ∧ r.2.mem ((c.tc : Thread Cert.LruOut.nD Cert.LruOut.τ).loc Cert.LruOut.main_arg3) = m ((c.tc : Thread Cert.LruOut.nD Cert.LruOut.τ).loc Cert.LruOut.main_arg3))
      ∧ r.2.sem = fun _ => 0)

def quiescent_LruOutIdeal [hLruOutIdeal : Cert.LruOutIdeal.Facts] : Prop :=
  ∀ (m : (ℓ : Loc Cert.LruOutIdeal.nD Cert.LruOutIdeal.τ Cert.LruOutIdeal.sig) → Buf (Elt Ideal) ℓ) (g : Dev Cert.LruOutIdeal.nD → PrngReg), Pre_LruOutIdeal m →
    θ_run (Cert.LruOutIdeal.defs (F := Ideal)) (onTc (τ := Cert.LruOutIdeal.τ) (Cert.LruOutIdeal.main (F := Ideal))) ⟨m, fun _ => 0, g⟩ (fun r => (∀ c : Dev Cert.LruOutIdeal.nD,
      r.2.mem ((c.tc : Thread Cert.LruOutIdeal.nD Cert.LruOutIdeal.τ).loc Cert.LruOutIdeal.main_arg0) = m ((c.tc : Thread Cert.LruOutIdeal.nD Cert.LruOutIdeal.τ).loc Cert.LruOutIdeal.main_arg0)
      ∧ r.2.mem ((c.tc : Thread Cert.LruOutIdeal.nD Cert.LruOutIdeal.τ).loc Cert.LruOutIdeal.main_arg1) = m ((c.tc : Thread Cert.LruOutIdeal.nD Cert.LruOutIdeal.τ).loc Cert.LruOutIdeal.main_arg1)
      ∧ r.2.mem ((c.tc : Thread Cert.LruOutIdeal.nD Cert.LruOutIdeal.τ).loc Cert.LruOutIdeal.main_arg2) = m ((c.tc : Thread Cert.LruOutIdeal.nD Cert.LruOutIdeal.τ).loc Cert.LruOutIdeal.main_arg2)
      ∧ r.2.mem ((c.tc : Thread Cert.LruOutIdeal.nD Cert.LruOutIdeal.τ).loc Cert.LruOutIdeal.main_arg3) = m ((c.tc : Thread Cert.LruOutIdeal.nD Cert.LruOutIdeal.τ).loc Cert.LruOutIdeal.main_arg3))
      ∧ r.2.sem = fun _ => 0)

def quiescent_LruOutRefIdeal [hLruOutRefIdeal : Cert.LruOutRefIdeal.Facts] : Prop :=
  ∀ (m : (ℓ : Loc Cert.LruOutRefIdeal.nD Cert.LruOutRefIdeal.τ Cert.LruOutRefIdeal.sig) → Buf (Elt Ideal) ℓ) (g : Dev Cert.LruOutRefIdeal.nD → PrngReg), Pre_LruOutRefIdeal m →
    θ_run (Cert.LruOutRefIdeal.defs (F := Ideal)) (onTc (τ := Cert.LruOutRefIdeal.τ) (Cert.LruOutRefIdeal.main (F := Ideal))) ⟨m, fun _ => 0, g⟩ (fun r => (∀ c : Dev Cert.LruOutRefIdeal.nD,
      r.2.mem ((c.tc : Thread Cert.LruOutRefIdeal.nD Cert.LruOutRefIdeal.τ).loc Cert.LruOutRefIdeal.main_arg0) = m ((c.tc : Thread Cert.LruOutRefIdeal.nD Cert.LruOutRefIdeal.τ).loc Cert.LruOutRefIdeal.main_arg0)
      ∧ r.2.mem ((c.tc : Thread Cert.LruOutRefIdeal.nD Cert.LruOutRefIdeal.τ).loc Cert.LruOutRefIdeal.main_arg1) = m ((c.tc : Thread Cert.LruOutRefIdeal.nD Cert.LruOutRefIdeal.τ).loc Cert.LruOutRefIdeal.main_arg1)
      ∧ r.2.mem ((c.tc : Thread Cert.LruOutRefIdeal.nD Cert.LruOutRefIdeal.τ).loc Cert.LruOutRefIdeal.main_arg2) = m ((c.tc : Thread Cert.LruOutRefIdeal.nD Cert.LruOutRefIdeal.τ).loc Cert.LruOutRefIdeal.main_arg2)
      ∧ r.2.mem ((c.tc : Thread Cert.LruOutRefIdeal.nD Cert.LruOutRefIdeal.τ).loc Cert.LruOutRefIdeal.main_arg3) = m ((c.tc : Thread Cert.LruOutRefIdeal.nD Cert.LruOutRefIdeal.τ).loc Cert.LruOutRefIdeal.main_arg3))
      ∧ r.2.sem = fun _ => 0)

def quiescent_LruOutDx [hLruOutDx : Cert.LruOutDx.Facts] : Prop :=
  ∀ (m : (ℓ : Loc Cert.LruOutDx.nD Cert.LruOutDx.τ Cert.LruOutDx.sig) → Buf (Elt Bits) ℓ) (g : Dev Cert.LruOutDx.nD → PrngReg), Pre_LruOutDx m →
    θ_run (Cert.LruOutDx.defs (F := Bits)) (onTc (τ := Cert.LruOutDx.τ) (Cert.LruOutDx.main (F := Bits))) ⟨m, fun _ => 0, g⟩ (fun r => (∀ c : Dev Cert.LruOutDx.nD,
      r.2.mem ((c.tc : Thread Cert.LruOutDx.nD Cert.LruOutDx.τ).loc Cert.LruOutDx.main_arg0) = m ((c.tc : Thread Cert.LruOutDx.nD Cert.LruOutDx.τ).loc Cert.LruOutDx.main_arg0)
      ∧ r.2.mem ((c.tc : Thread Cert.LruOutDx.nD Cert.LruOutDx.τ).loc Cert.LruOutDx.main_arg1) = m ((c.tc : Thread Cert.LruOutDx.nD Cert.LruOutDx.τ).loc Cert.LruOutDx.main_arg1))
      ∧ r.2.sem = fun _ => 0)

def quiescent_LruOutDxIdeal [hLruOutDxIdeal : Cert.LruOutDxIdeal.Facts] : Prop :=
  ∀ (m : (ℓ : Loc Cert.LruOutDxIdeal.nD Cert.LruOutDxIdeal.τ Cert.LruOutDxIdeal.sig) → Buf (Elt Ideal) ℓ) (g : Dev Cert.LruOutDxIdeal.nD → PrngReg), Pre_LruOutDxIdeal m →
    θ_run (Cert.LruOutDxIdeal.defs (F := Ideal)) (onTc (τ := Cert.LruOutDxIdeal.τ) (Cert.LruOutDxIdeal.main (F := Ideal))) ⟨m, fun _ => 0, g⟩ (fun r => (∀ c : Dev Cert.LruOutDxIdeal.nD,
      r.2.mem ((c.tc : Thread Cert.LruOutDxIdeal.nD Cert.LruOutDxIdeal.τ).loc Cert.LruOutDxIdeal.main_arg0) = m ((c.tc : Thread Cert.LruOutDxIdeal.nD Cert.LruOutDxIdeal.τ).loc Cert.LruOutDxIdeal.main_arg0)
      ∧ r.2.mem ((c.tc : Thread Cert.LruOutDxIdeal.nD Cert.LruOutDxIdeal.τ).loc Cert.LruOutDxIdeal.main_arg1) = m ((c.tc : Thread Cert.LruOutDxIdeal.nD Cert.LruOutDxIdeal.τ).loc Cert.LruOutDxIdeal.main_arg1))
      ∧ r.2.sem = fun _ => 0)

def quiescent_LruOutDxRefIdeal [hLruOutDxRefIdeal : Cert.LruOutDxRefIdeal.Facts] : Prop :=
  ∀ (m : (ℓ : Loc Cert.LruOutDxRefIdeal.nD Cert.LruOutDxRefIdeal.τ Cert.LruOutDxRefIdeal.sig) → Buf (Elt Ideal) ℓ) (g : Dev Cert.LruOutDxRefIdeal.nD → PrngReg), Pre_LruOutDxRefIdeal m →
    θ_run (Cert.LruOutDxRefIdeal.defs (F := Ideal)) (onTc (τ := Cert.LruOutDxRefIdeal.τ) (Cert.LruOutDxRefIdeal.main (F := Ideal))) ⟨m, fun _ => 0, g⟩ (fun r => (∀ c : Dev Cert.LruOutDxRefIdeal.nD,
      r.2.mem ((c.tc : Thread Cert.LruOutDxRefIdeal.nD Cert.LruOutDxRefIdeal.τ).loc Cert.LruOutDxRefIdeal.main_arg0) = m ((c.tc : Thread Cert.LruOutDxRefIdeal.nD Cert.LruOutDxRefIdeal.τ).loc Cert.LruOutDxRefIdeal.main_arg0)
      ∧ r.2.mem ((c.tc : Thread Cert.LruOutDxRefIdeal.nD Cert.LruOutDxRefIdeal.τ).loc Cert.LruOutDxRefIdeal.main_arg1) = m ((c.tc : Thread Cert.LruOutDxRefIdeal.nD Cert.LruOutDxRefIdeal.τ).loc Cert.LruOutDxRefIdeal.main_arg1))
      ∧ r.2.sem = fun _ => 0)

def quiescent_LruOutDw [hLruOutDw : Cert.LruOutDw.Facts] : Prop :=
  ∀ (m : (ℓ : Loc Cert.LruOutDw.nD Cert.LruOutDw.τ Cert.LruOutDw.sig) → Buf (Elt Bits) ℓ) (g : Dev Cert.LruOutDw.nD → PrngReg), Pre_LruOutDw m →
    θ_run (Cert.LruOutDw.defs (F := Bits)) (onTc (τ := Cert.LruOutDw.τ) (Cert.LruOutDw.main (F := Bits))) ⟨m, fun _ => 0, g⟩ (fun r => (∀ c : Dev Cert.LruOutDw.nD,
      r.2.mem ((c.tc : Thread Cert.LruOutDw.nD Cert.LruOutDw.τ).loc Cert.LruOutDw.main_arg0) = m ((c.tc : Thread Cert.LruOutDw.nD Cert.LruOutDw.τ).loc Cert.LruOutDw.main_arg0)
      ∧ r.2.mem ((c.tc : Thread Cert.LruOutDw.nD Cert.LruOutDw.τ).loc Cert.LruOutDw.main_arg1) = m ((c.tc : Thread Cert.LruOutDw.nD Cert.LruOutDw.τ).loc Cert.LruOutDw.main_arg1))
      ∧ r.2.sem = fun _ => 0)

def quiescent_LruOutDwIdeal [hLruOutDwIdeal : Cert.LruOutDwIdeal.Facts] : Prop :=
  ∀ (m : (ℓ : Loc Cert.LruOutDwIdeal.nD Cert.LruOutDwIdeal.τ Cert.LruOutDwIdeal.sig) → Buf (Elt Ideal) ℓ) (g : Dev Cert.LruOutDwIdeal.nD → PrngReg), Pre_LruOutDwIdeal m →
    θ_run (Cert.LruOutDwIdeal.defs (F := Ideal)) (onTc (τ := Cert.LruOutDwIdeal.τ) (Cert.LruOutDwIdeal.main (F := Ideal))) ⟨m, fun _ => 0, g⟩ (fun r => (∀ c : Dev Cert.LruOutDwIdeal.nD,
      r.2.mem ((c.tc : Thread Cert.LruOutDwIdeal.nD Cert.LruOutDwIdeal.τ).loc Cert.LruOutDwIdeal.main_arg0) = m ((c.tc : Thread Cert.LruOutDwIdeal.nD Cert.LruOutDwIdeal.τ).loc Cert.LruOutDwIdeal.main_arg0)
      ∧ r.2.mem ((c.tc : Thread Cert.LruOutDwIdeal.nD Cert.LruOutDwIdeal.τ).loc Cert.LruOutDwIdeal.main_arg1) = m ((c.tc : Thread Cert.LruOutDwIdeal.nD Cert.LruOutDwIdeal.τ).loc Cert.LruOutDwIdeal.main_arg1))
      ∧ r.2.sem = fun _ => 0)

def quiescent_LruOutDwRefIdeal [hLruOutDwRefIdeal : Cert.LruOutDwRefIdeal.Facts] : Prop :=
  ∀ (m : (ℓ : Loc Cert.LruOutDwRefIdeal.nD Cert.LruOutDwRefIdeal.τ Cert.LruOutDwRefIdeal.sig) → Buf (Elt Ideal) ℓ) (g : Dev Cert.LruOutDwRefIdeal.nD → PrngReg), Pre_LruOutDwRefIdeal m →
    θ_run (Cert.LruOutDwRefIdeal.defs (F := Ideal)) (onTc (τ := Cert.LruOutDwRefIdeal.τ) (Cert.LruOutDwRefIdeal.main (F := Ideal))) ⟨m, fun _ => 0, g⟩ (fun r => (∀ c : Dev Cert.LruOutDwRefIdeal.nD,
      r.2.mem ((c.tc : Thread Cert.LruOutDwRefIdeal.nD Cert.LruOutDwRefIdeal.τ).loc Cert.LruOutDwRefIdeal.main_arg0) = m ((c.tc : Thread Cert.LruOutDwRefIdeal.nD Cert.LruOutDwRefIdeal.τ).loc Cert.LruOutDwRefIdeal.main_arg0)
      ∧ r.2.mem ((c.tc : Thread Cert.LruOutDwRefIdeal.nD Cert.LruOutDwRefIdeal.τ).loc Cert.LruOutDwRefIdeal.main_arg1) = m ((c.tc : Thread Cert.LruOutDwRefIdeal.nD Cert.LruOutDwRefIdeal.τ).loc Cert.LruOutDwRefIdeal.main_arg1))
      ∧ r.2.sem = fun _ => 0)

def quiescent_RwkvR [hRwkvR : Cert.RwkvR.Facts] : Prop :=
  ∀ (m : (ℓ : Loc Cert.RwkvR.nD Cert.RwkvR.τ Cert.RwkvR.sig) → Buf (Elt Bits) ℓ) (g : Dev Cert.RwkvR.nD → PrngReg), Pre_RwkvR m →
    θ_run (Cert.RwkvR.defs (F := Bits)) (onTc (τ := Cert.RwkvR.τ) (Cert.RwkvR.main (F := Bits))) ⟨m, fun _ => 0, g⟩ (fun r => (∀ c : Dev Cert.RwkvR.nD,
      r.2.mem ((c.tc : Thread Cert.RwkvR.nD Cert.RwkvR.τ).loc Cert.RwkvR.main_arg0) = m ((c.tc : Thread Cert.RwkvR.nD Cert.RwkvR.τ).loc Cert.RwkvR.main_arg0)
      ∧ r.2.mem ((c.tc : Thread Cert.RwkvR.nD Cert.RwkvR.τ).loc Cert.RwkvR.main_arg1) = m ((c.tc : Thread Cert.RwkvR.nD Cert.RwkvR.τ).loc Cert.RwkvR.main_arg1))
      ∧ r.2.sem = fun _ => 0)

def quiescent_RwkvRIdeal [hRwkvRIdeal : Cert.RwkvRIdeal.Facts] : Prop :=
  ∀ (m : (ℓ : Loc Cert.RwkvRIdeal.nD Cert.RwkvRIdeal.τ Cert.RwkvRIdeal.sig) → Buf (Elt Ideal) ℓ) (g : Dev Cert.RwkvRIdeal.nD → PrngReg), Pre_RwkvRIdeal m →
    θ_run (Cert.RwkvRIdeal.defs (F := Ideal)) (onTc (τ := Cert.RwkvRIdeal.τ) (Cert.RwkvRIdeal.main (F := Ideal))) ⟨m, fun _ => 0, g⟩ (fun r => (∀ c : Dev Cert.RwkvRIdeal.nD,
      r.2.mem ((c.tc : Thread Cert.RwkvRIdeal.nD Cert.RwkvRIdeal.τ).loc Cert.RwkvRIdeal.main_arg0) = m ((c.tc : Thread Cert.RwkvRIdeal.nD Cert.RwkvRIdeal.τ).loc Cert.RwkvRIdeal.main_arg0)
      ∧ r.2.mem ((c.tc : Thread Cert.RwkvRIdeal.nD Cert.RwkvRIdeal.τ).loc Cert.RwkvRIdeal.main_arg1) = m ((c.tc : Thread Cert.RwkvRIdeal.nD Cert.RwkvRIdeal.τ).loc Cert.RwkvRIdeal.main_arg1))
      ∧ r.2.sem = fun _ => 0)

def quiescent_RwkvRRefIdeal [hRwkvRRefIdeal : Cert.RwkvRRefIdeal.Facts] : Prop :=
  ∀ (m : (ℓ : Loc Cert.RwkvRRefIdeal.nD Cert.RwkvRRefIdeal.τ Cert.RwkvRRefIdeal.sig) → Buf (Elt Ideal) ℓ) (g : Dev Cert.RwkvRRefIdeal.nD → PrngReg), Pre_RwkvRRefIdeal m →
    θ_run (Cert.RwkvRRefIdeal.defs (F := Ideal)) (onTc (τ := Cert.RwkvRRefIdeal.τ) (Cert.RwkvRRefIdeal.main (F := Ideal))) ⟨m, fun _ => 0, g⟩ (fun r => (∀ c : Dev Cert.RwkvRRefIdeal.nD,
      r.2.mem ((c.tc : Thread Cert.RwkvRRefIdeal.nD Cert.RwkvRRefIdeal.τ).loc Cert.RwkvRRefIdeal.main_arg0) = m ((c.tc : Thread Cert.RwkvRRefIdeal.nD Cert.RwkvRRefIdeal.τ).loc Cert.RwkvRRefIdeal.main_arg0)
      ∧ r.2.mem ((c.tc : Thread Cert.RwkvRRefIdeal.nD Cert.RwkvRRefIdeal.τ).loc Cert.RwkvRRefIdeal.main_arg1) = m ((c.tc : Thread Cert.RwkvRRefIdeal.nD Cert.RwkvRRefIdeal.τ).loc Cert.RwkvRRefIdeal.main_arg1))
      ∧ r.2.sem = fun _ => 0)

def quiescent_RwkvOut [hRwkvOut : Cert.RwkvOut.Facts] : Prop :=
  ∀ (m : (ℓ : Loc Cert.RwkvOut.nD Cert.RwkvOut.τ Cert.RwkvOut.sig) → Buf (Elt Bits) ℓ) (g : Dev Cert.RwkvOut.nD → PrngReg), Pre_RwkvOut m →
    θ_run (Cert.RwkvOut.defs (F := Bits)) (onTc (τ := Cert.RwkvOut.τ) (Cert.RwkvOut.main (F := Bits))) ⟨m, fun _ => 0, g⟩ (fun r => (∀ c : Dev Cert.RwkvOut.nD,
      r.2.mem ((c.tc : Thread Cert.RwkvOut.nD Cert.RwkvOut.τ).loc Cert.RwkvOut.main_arg0) = m ((c.tc : Thread Cert.RwkvOut.nD Cert.RwkvOut.τ).loc Cert.RwkvOut.main_arg0)
      ∧ r.2.mem ((c.tc : Thread Cert.RwkvOut.nD Cert.RwkvOut.τ).loc Cert.RwkvOut.main_arg1) = m ((c.tc : Thread Cert.RwkvOut.nD Cert.RwkvOut.τ).loc Cert.RwkvOut.main_arg1)
      ∧ r.2.mem ((c.tc : Thread Cert.RwkvOut.nD Cert.RwkvOut.τ).loc Cert.RwkvOut.main_arg2) = m ((c.tc : Thread Cert.RwkvOut.nD Cert.RwkvOut.τ).loc Cert.RwkvOut.main_arg2))
      ∧ r.2.sem = fun _ => 0)

def quiescent_RwkvOutIdeal [hRwkvOutIdeal : Cert.RwkvOutIdeal.Facts] : Prop :=
  ∀ (m : (ℓ : Loc Cert.RwkvOutIdeal.nD Cert.RwkvOutIdeal.τ Cert.RwkvOutIdeal.sig) → Buf (Elt Ideal) ℓ) (g : Dev Cert.RwkvOutIdeal.nD → PrngReg), Pre_RwkvOutIdeal m →
    θ_run (Cert.RwkvOutIdeal.defs (F := Ideal)) (onTc (τ := Cert.RwkvOutIdeal.τ) (Cert.RwkvOutIdeal.main (F := Ideal))) ⟨m, fun _ => 0, g⟩ (fun r => (∀ c : Dev Cert.RwkvOutIdeal.nD,
      r.2.mem ((c.tc : Thread Cert.RwkvOutIdeal.nD Cert.RwkvOutIdeal.τ).loc Cert.RwkvOutIdeal.main_arg0) = m ((c.tc : Thread Cert.RwkvOutIdeal.nD Cert.RwkvOutIdeal.τ).loc Cert.RwkvOutIdeal.main_arg0)
      ∧ r.2.mem ((c.tc : Thread Cert.RwkvOutIdeal.nD Cert.RwkvOutIdeal.τ).loc Cert.RwkvOutIdeal.main_arg1) = m ((c.tc : Thread Cert.RwkvOutIdeal.nD Cert.RwkvOutIdeal.τ).loc Cert.RwkvOutIdeal.main_arg1)
      ∧ r.2.mem ((c.tc : Thread Cert.RwkvOutIdeal.nD Cert.RwkvOutIdeal.τ).loc Cert.RwkvOutIdeal.main_arg2) = m ((c.tc : Thread Cert.RwkvOutIdeal.nD Cert.RwkvOutIdeal.τ).loc Cert.RwkvOutIdeal.main_arg2))
      ∧ r.2.sem = fun _ => 0)

def quiescent_RwkvOutRefIdeal [hRwkvOutRefIdeal : Cert.RwkvOutRefIdeal.Facts] : Prop :=
  ∀ (m : (ℓ : Loc Cert.RwkvOutRefIdeal.nD Cert.RwkvOutRefIdeal.τ Cert.RwkvOutRefIdeal.sig) → Buf (Elt Ideal) ℓ) (g : Dev Cert.RwkvOutRefIdeal.nD → PrngReg), Pre_RwkvOutRefIdeal m →
    θ_run (Cert.RwkvOutRefIdeal.defs (F := Ideal)) (onTc (τ := Cert.RwkvOutRefIdeal.τ) (Cert.RwkvOutRefIdeal.main (F := Ideal))) ⟨m, fun _ => 0, g⟩ (fun r => (∀ c : Dev Cert.RwkvOutRefIdeal.nD,
      r.2.mem ((c.tc : Thread Cert.RwkvOutRefIdeal.nD Cert.RwkvOutRefIdeal.τ).loc Cert.RwkvOutRefIdeal.main_arg0) = m ((c.tc : Thread Cert.RwkvOutRefIdeal.nD Cert.RwkvOutRefIdeal.τ).loc Cert.RwkvOutRefIdeal.main_arg0)
      ∧ r.2.mem ((c.tc : Thread Cert.RwkvOutRefIdeal.nD Cert.RwkvOutRefIdeal.τ).loc Cert.RwkvOutRefIdeal.main_arg1) = m ((c.tc : Thread Cert.RwkvOutRefIdeal.nD Cert.RwkvOutRefIdeal.τ).loc Cert.RwkvOutRefIdeal.main_arg1)
      ∧ r.2.mem ((c.tc : Thread Cert.RwkvOutRefIdeal.nD Cert.RwkvOutRefIdeal.τ).loc Cert.RwkvOutRefIdeal.main_arg2) = m ((c.tc : Thread Cert.RwkvOutRefIdeal.nD Cert.RwkvOutRefIdeal.τ).loc Cert.RwkvOutRefIdeal.main_arg2))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3))
      ∧ r.2.sem = fun _ => 0)

def quiescent_FfnAct [hFfnAct : Cert.FfnAct.Facts] : Prop :=
  ∀ (m : (ℓ : Loc Cert.FfnAct.nD Cert.FfnAct.τ Cert.FfnAct.sig) → Buf (Elt Bits) ℓ) (g : Dev Cert.FfnAct.nD → PrngReg), Pre_FfnAct m →
    θ_run (Cert.FfnAct.defs (F := Bits)) (onTc (τ := Cert.FfnAct.τ) (Cert.FfnAct.main (F := Bits))) ⟨m, fun _ => 0, g⟩ (fun r => (∀ c : Dev Cert.FfnAct.nD,
      r.2.mem ((c.tc : Thread Cert.FfnAct.nD Cert.FfnAct.τ).loc Cert.FfnAct.main_arg0) = m ((c.tc : Thread Cert.FfnAct.nD Cert.FfnAct.τ).loc Cert.FfnAct.main_arg0)
      ∧ r.2.mem ((c.tc : Thread Cert.FfnAct.nD Cert.FfnAct.τ).loc Cert.FfnAct.main_arg1) = m ((c.tc : Thread Cert.FfnAct.nD Cert.FfnAct.τ).loc Cert.FfnAct.main_arg1)
      ∧ r.2.mem ((c.tc : Thread Cert.FfnAct.nD Cert.FfnAct.τ).loc Cert.FfnAct.main_arg2) = m ((c.tc : Thread Cert.FfnAct.nD Cert.FfnAct.τ).loc Cert.FfnAct.main_arg2))
      ∧ r.2.sem = fun _ => 0)

def quiescent_FfnActIdeal [hFfnActIdeal : Cert.FfnActIdeal.Facts] : Prop :=
  ∀ (m : (ℓ : Loc Cert.FfnActIdeal.nD Cert.FfnActIdeal.τ Cert.FfnActIdeal.sig) → Buf (Elt Ideal) ℓ) (g : Dev Cert.FfnActIdeal.nD → PrngReg), Pre_FfnActIdeal m →
    θ_run (Cert.FfnActIdeal.defs (F := Ideal)) (onTc (τ := Cert.FfnActIdeal.τ) (Cert.FfnActIdeal.main (F := Ideal))) ⟨m, fun _ => 0, g⟩ (fun r => (∀ c : Dev Cert.FfnActIdeal.nD,
      r.2.mem ((c.tc : Thread Cert.FfnActIdeal.nD Cert.FfnActIdeal.τ).loc Cert.FfnActIdeal.main_arg0) = m ((c.tc : Thread Cert.FfnActIdeal.nD Cert.FfnActIdeal.τ).loc Cert.FfnActIdeal.main_arg0)
      ∧ r.2.mem ((c.tc : Thread Cert.FfnActIdeal.nD Cert.FfnActIdeal.τ).loc Cert.FfnActIdeal.main_arg1) = m ((c.tc : Thread Cert.FfnActIdeal.nD Cert.FfnActIdeal.τ).loc Cert.FfnActIdeal.main_arg1)
      ∧ r.2.mem ((c.tc : Thread Cert.FfnActIdeal.nD Cert.FfnActIdeal.τ).loc Cert.FfnActIdeal.main_arg2) = m ((c.tc : Thread Cert.FfnActIdeal.nD Cert.FfnActIdeal.τ).loc Cert.FfnActIdeal.main_arg2))
      ∧ r.2.sem = fun _ => 0)

def quiescent_FfnActRefIdeal [hFfnActRefIdeal : Cert.FfnActRefIdeal.Facts] : Prop :=
  ∀ (m : (ℓ : Loc Cert.FfnActRefIdeal.nD Cert.FfnActRefIdeal.τ Cert.FfnActRefIdeal.sig) → Buf (Elt Ideal) ℓ) (g : Dev Cert.FfnActRefIdeal.nD → PrngReg), Pre_FfnActRefIdeal m →
    θ_run (Cert.FfnActRefIdeal.defs (F := Ideal)) (onTc (τ := Cert.FfnActRefIdeal.τ) (Cert.FfnActRefIdeal.main (F := Ideal))) ⟨m, fun _ => 0, g⟩ (fun r => (∀ c : Dev Cert.FfnActRefIdeal.nD,
      r.2.mem ((c.tc : Thread Cert.FfnActRefIdeal.nD Cert.FfnActRefIdeal.τ).loc Cert.FfnActRefIdeal.main_arg0) = m ((c.tc : Thread Cert.FfnActRefIdeal.nD Cert.FfnActRefIdeal.τ).loc Cert.FfnActRefIdeal.main_arg0)
      ∧ r.2.mem ((c.tc : Thread Cert.FfnActRefIdeal.nD Cert.FfnActRefIdeal.τ).loc Cert.FfnActRefIdeal.main_arg1) = m ((c.tc : Thread Cert.FfnActRefIdeal.nD Cert.FfnActRefIdeal.τ).loc Cert.FfnActRefIdeal.main_arg1)
      ∧ r.2.mem ((c.tc : Thread Cert.FfnActRefIdeal.nD Cert.FfnActRefIdeal.τ).loc Cert.FfnActRefIdeal.main_arg2) = m ((c.tc : Thread Cert.FfnActRefIdeal.nD Cert.FfnActRefIdeal.τ).loc Cert.FfnActRefIdeal.main_arg2))
      ∧ r.2.sem = fun _ => 0)

def quiescent_FfnActBwd [hFfnActBwd : Cert.FfnActBwd.Facts] : Prop :=
  ∀ (m : (ℓ : Loc Cert.FfnActBwd.nD Cert.FfnActBwd.τ Cert.FfnActBwd.sig) → Buf (Elt Bits) ℓ) (g : Dev Cert.FfnActBwd.nD → PrngReg), Pre_FfnActBwd m →
    θ_run (Cert.FfnActBwd.defs (F := Bits)) (onTc (τ := Cert.FfnActBwd.τ) (Cert.FfnActBwd.main (F := Bits))) ⟨m, fun _ => 0, g⟩ (fun r => (∀ c : Dev Cert.FfnActBwd.nD,
      r.2.mem ((c.tc : Thread Cert.FfnActBwd.nD Cert.FfnActBwd.τ).loc Cert.FfnActBwd.main_arg0) = m ((c.tc : Thread Cert.FfnActBwd.nD Cert.FfnActBwd.τ).loc Cert.FfnActBwd.main_arg0)
      ∧ r.2.mem ((c.tc : Thread Cert.FfnActBwd.nD Cert.FfnActBwd.τ).loc Cert.FfnActBwd.main_arg1) = m ((c.tc : Thread Cert.FfnActBwd.nD Cert.FfnActBwd.τ).loc Cert.FfnActBwd.main_arg1)
      ∧ r.2.mem ((c.tc : Thread Cert.FfnActBwd.nD Cert.FfnActBwd.τ).loc Cert.FfnActBwd.main_arg2) = m ((c.tc : Thread Cert.FfnActBwd.nD Cert.FfnActBwd.τ).loc Cert.FfnActBwd.main_arg2)
      ∧ r.2.mem ((c.tc : Thread Cert.FfnActBwd.nD Cert.FfnActBwd.τ).loc Cert.FfnActBwd.main_arg3) = m ((c.tc : Thread Cert.FfnActBwd.nD Cert.FfnActBwd.τ).loc Cert.FfnActBwd.main_arg3))
      ∧ r.2.sem = fun _ => 0)

def quiescent_FfnActBwdIdeal [hFfnActBwdIdeal : Cert.FfnActBwdIdeal.Facts] : Prop :=
  ∀ (m : (ℓ : Loc Cert.FfnActBwdIdeal.nD Cert.FfnActBwdIdeal.τ Cert.FfnActBwdIdeal.sig) → Buf (Elt Ideal) ℓ) (g : Dev Cert.FfnActBwdIdeal.nD → PrngReg), Pre_FfnActBwdIdeal m →
    θ_run (Cert.FfnActBwdIdeal.defs (F := Ideal)) (onTc (τ := Cert.FfnActBwdIdeal.τ) (Cert.FfnActBwdIdeal.main (F := Ideal))) ⟨m, fun _ => 0, g⟩ (fun r => (∀ c : Dev Cert.FfnActBwdIdeal.nD,
      r.2.mem ((c.tc : Thread Cert.FfnActBwdIdeal.nD Cert.FfnActBwdIdeal.τ).loc Cert.FfnActBwdIdeal.main_arg0) = m ((c.tc : Thread Cert.FfnActBwdIdeal.nD Cert.FfnActBwdIdeal.τ).loc Cert.FfnActBwdIdeal.main_arg0)
      ∧ r.2.mem ((c.tc : Thread Cert.FfnActBwdIdeal.nD Cert.FfnActBwdIdeal.τ).loc Cert.FfnActBwdIdeal.main_arg1) = m ((c.tc : Thread Cert.FfnActBwdIdeal.nD Cert.FfnActBwdIdeal.τ).loc Cert.FfnActBwdIdeal.main_arg1)
      ∧ r.2.mem ((c.tc : Thread Cert.FfnActBwdIdeal.nD Cert.FfnActBwdIdeal.τ).loc Cert.FfnActBwdIdeal.main_arg2) = m ((c.tc : Thread Cert.FfnActBwdIdeal.nD Cert.FfnActBwdIdeal.τ).loc Cert.FfnActBwdIdeal.main_arg2)
      ∧ r.2.mem ((c.tc : Thread Cert.FfnActBwdIdeal.nD Cert.FfnActBwdIdeal.τ).loc Cert.FfnActBwdIdeal.main_arg3) = m ((c.tc : Thread Cert.FfnActBwdIdeal.nD Cert.FfnActBwdIdeal.τ).loc Cert.FfnActBwdIdeal.main_arg3))
      ∧ r.2.sem = fun _ => 0)

def quiescent_FfnActBwdIdeal_pre_finite_act [hFfnActBwdIdeal : Cert.FfnActBwdIdeal.Facts] [hPre_finite_act : Cert.Pre_finite_act.Facts] : Prop :=
  ∀ (m : (ℓ : Loc Cert.FfnActBwdIdeal.nD Cert.FfnActBwdIdeal.τ Cert.FfnActBwdIdeal.sig) → Buf (Elt Ideal) ℓ) (g : Dev Cert.FfnActBwdIdeal.nD → PrngReg), Pre_FfnActBwdIdeal_finite_act m →
    θ_run (Cert.FfnActBwdIdeal.defs (F := Ideal)) (onTc (τ := Cert.FfnActBwdIdeal.τ) (Cert.FfnActBwdIdeal.main (F := Ideal))) ⟨m, fun _ => 0, g⟩ (fun r => (∀ c : Dev Cert.FfnActBwdIdeal.nD,
      r.2.mem ((c.tc : Thread Cert.FfnActBwdIdeal.nD Cert.FfnActBwdIdeal.τ).loc Cert.FfnActBwdIdeal.main_arg0) = m ((c.tc : Thread Cert.FfnActBwdIdeal.nD Cert.FfnActBwdIdeal.τ).loc Cert.FfnActBwdIdeal.main_arg0)
      ∧ r.2.mem ((c.tc : Thread Cert.FfnActBwdIdeal.nD Cert.FfnActBwdIdeal.τ).loc Cert.FfnActBwdIdeal.main_arg1) = m ((c.tc : Thread Cert.FfnActBwdIdeal.nD Cert.FfnActBwdIdeal.τ).loc Cert.FfnActBwdIdeal.main_arg1)
      ∧ r.2.mem ((c.tc : Thread Cert.FfnActBwdIdeal.nD Cert.FfnActBwdIdeal.τ).loc Cert.FfnActBwdIdeal.main_arg2) = m ((c.tc : Thread Cert.FfnActBwdIdeal.nD Cert.FfnActBwdIdeal.τ).loc Cert.FfnActBwdIdeal.main_arg2)
      ∧ r.2.mem ((c.tc : Thread Cert.FfnActBwdIdeal.nD Cert.FfnActBwdIdeal.τ).loc Cert.FfnActBwdIdeal.main_arg3) = m ((c.tc : Thread Cert.FfnActBwdIdeal.nD Cert.FfnActBwdIdeal.τ).loc Cert.FfnActBwdIdeal.main_arg3))
      ∧ r.2.sem = fun _ => 0)

def quiescent_FfnActBwdRefIdeal [hFfnActBwdRefIdeal : Cert.FfnActBwdRefIdeal.Facts] : Prop :=
  ∀ (m : (ℓ : Loc Cert.FfnActBwdRefIdeal.nD Cert.FfnActBwdRefIdeal.τ Cert.FfnActBwdRefIdeal.sig) → Buf (Elt Ideal) ℓ) (g : Dev Cert.FfnActBwdRefIdeal.nD → PrngReg), Pre_FfnActBwdRefIdeal m →
    θ_run (Cert.FfnActBwdRefIdeal.defs (F := Ideal)) (onTc (τ := Cert.FfnActBwdRefIdeal.τ) (Cert.FfnActBwdRefIdeal.main (F := Ideal))) ⟨m, fun _ => 0, g⟩ (fun r => (∀ c : Dev Cert.FfnActBwdRefIdeal.nD,
      r.2.mem ((c.tc : Thread Cert.FfnActBwdRefIdeal.nD Cert.FfnActBwdRefIdeal.τ).loc Cert.FfnActBwdRefIdeal.main_arg0) = m ((c.tc : Thread Cert.FfnActBwdRefIdeal.nD Cert.FfnActBwdRefIdeal.τ).loc Cert.FfnActBwdRefIdeal.main_arg0)
      ∧ r.2.mem ((c.tc : Thread Cert.FfnActBwdRefIdeal.nD Cert.FfnActBwdRefIdeal.τ).loc Cert.FfnActBwdRefIdeal.main_arg1) = m ((c.tc : Thread Cert.FfnActBwdRefIdeal.nD Cert.FfnActBwdRefIdeal.τ).loc Cert.FfnActBwdRefIdeal.main_arg1)
      ∧ r.2.mem ((c.tc : Thread Cert.FfnActBwdRefIdeal.nD Cert.FfnActBwdRefIdeal.τ).loc Cert.FfnActBwdRefIdeal.main_arg2) = m ((c.tc : Thread Cert.FfnActBwdRefIdeal.nD Cert.FfnActBwdRefIdeal.τ).loc Cert.FfnActBwdRefIdeal.main_arg2)
      ∧ r.2.mem ((c.tc : Thread Cert.FfnActBwdRefIdeal.nD Cert.FfnActBwdRefIdeal.τ).loc Cert.FfnActBwdRefIdeal.main_arg3) = m ((c.tc : Thread Cert.FfnActBwdRefIdeal.nD Cert.FfnActBwdRefIdeal.τ).loc Cert.FfnActBwdRefIdeal.main_arg3))
      ∧ r.2.sem = fun _ => 0)

def quiescent_FfnActBwdRefIdeal_pre_finite_act [hFfnActBwdRefIdeal : Cert.FfnActBwdRefIdeal.Facts] [hPre_finite_act : Cert.Pre_finite_act.Facts] : Prop :=
  ∀ (m : (ℓ : Loc Cert.FfnActBwdRefIdeal.nD Cert.FfnActBwdRefIdeal.τ Cert.FfnActBwdRefIdeal.sig) → Buf (Elt Ideal) ℓ) (g : Dev Cert.FfnActBwdRefIdeal.nD → PrngReg), Pre_FfnActBwdRefIdeal_finite_act m →
    θ_run (Cert.FfnActBwdRefIdeal.defs (F := Ideal)) (onTc (τ := Cert.FfnActBwdRefIdeal.τ) (Cert.FfnActBwdRefIdeal.main (F := Ideal))) ⟨m, fun _ => 0, g⟩ (fun r => (∀ c : Dev Cert.FfnActBwdRefIdeal.nD,
      r.2.mem ((c.tc : Thread Cert.FfnActBwdRefIdeal.nD Cert.FfnActBwdRefIdeal.τ).loc Cert.FfnActBwdRefIdeal.main_arg0) = m ((c.tc : Thread Cert.FfnActBwdRefIdeal.nD Cert.FfnActBwdRefIdeal.τ).loc Cert.FfnActBwdRefIdeal.main_arg0)
      ∧ r.2.mem ((c.tc : Thread Cert.FfnActBwdRefIdeal.nD Cert.FfnActBwdRefIdeal.τ).loc Cert.FfnActBwdRefIdeal.main_arg1) = m ((c.tc : Thread Cert.FfnActBwdRefIdeal.nD Cert.FfnActBwdRefIdeal.τ).loc Cert.FfnActBwdRefIdeal.main_arg1)
      ∧ r.2.mem ((c.tc : Thread Cert.FfnActBwdRefIdeal.nD Cert.FfnActBwdRefIdeal.τ).loc Cert.FfnActBwdRefIdeal.main_arg2) = m ((c.tc : Thread Cert.FfnActBwdRefIdeal.nD Cert.FfnActBwdRefIdeal.τ).loc Cert.FfnActBwdRefIdeal.main_arg2)
      ∧ r.2.mem ((c.tc : Thread Cert.FfnActBwdRefIdeal.nD Cert.FfnActBwdRefIdeal.τ).loc Cert.FfnActBwdRefIdeal.main_arg3) = m ((c.tc : Thread Cert.FfnActBwdRefIdeal.nD Cert.FfnActBwdRefIdeal.τ).loc Cert.FfnActBwdRefIdeal.main_arg3))
      ∧ r.2.sem = fun _ => 0)

def quiescent_LruMixBwd [hLruMixBwd : Cert.LruMixBwd.Facts] : Prop :=
  ∀ (m : (ℓ : Loc Cert.LruMixBwd.nD Cert.LruMixBwd.τ Cert.LruMixBwd.sig) → Buf (Elt Bits) ℓ) (g : Dev Cert.LruMixBwd.nD → PrngReg), Pre_LruMixBwd m →
    θ_run (Cert.LruMixBwd.defs (F := Bits)) (onTc (τ := Cert.LruMixBwd.τ) (Cert.LruMixBwd.main (F := Bits))) ⟨m, fun _ => 0, g⟩ (fun r => (∀ c : Dev Cert.LruMixBwd.nD,
      r.2.mem ((c.tc : Thread Cert.LruMixBwd.nD Cert.LruMixBwd.τ).loc Cert.LruMixBwd.main_arg0) = m ((c.tc : Thread Cert.LruMixBwd.nD Cert.LruMixBwd.τ).loc Cert.LruMixBwd.main_arg0)
      ∧ r.2.mem ((c.tc : Thread Cert.LruMixBwd.nD Cert.LruMixBwd.τ).loc Cert.LruMixBwd.main_arg1) = m ((c.tc : Thread Cert.LruMixBwd.nD Cert.LruMixBwd.τ).loc Cert.LruMixBwd.main_arg1)
      ∧ r.2.mem ((c.tc : Thread Cert.LruMixBwd.nD Cert.LruMixBwd.τ).loc Cert.LruMixBwd.main_arg2) = m ((c.tc : Thread Cert.LruMixBwd.nD Cert.LruMixBwd.τ).loc Cert.LruMixBwd.main_arg2)
      ∧ r.2.mem ((c.tc : Thread Cert.LruMixBwd.nD Cert.LruMixBwd.τ).loc Cert.LruMixBwd.main_arg3) = m ((c.tc : Thread Cert.LruMixBwd.nD Cert.LruMixBwd.τ).loc Cert.LruMixBwd.main_arg3))
      ∧ r.2.sem = fun _ => 0)

def quiescent_LruMixBwdIdeal [hLruMixBwdIdeal : Cert.LruMixBwdIdeal.Facts] : Prop :=
  ∀ (m : (ℓ : Loc Cert.LruMixBwdIdeal.nD Cert.LruMixBwdIdeal.τ Cert.LruMixBwdIdeal.sig) → Buf (Elt Ideal) ℓ) (g : Dev Cert.LruMixBwdIdeal.nD → PrngReg), Pre_LruMixBwdIdeal m →
    θ_run (Cert.LruMixBwdIdeal.defs (F := Ideal)) (onTc (τ := Cert.LruMixBwdIdeal.τ) (Cert.LruMixBwdIdeal.main (F := Ideal))) ⟨m, fun _ => 0, g⟩ (fun r => (∀ c : Dev Cert.LruMixBwdIdeal.nD,
      r.2.mem ((c.tc : Thread Cert.LruMixBwdIdeal.nD Cert.LruMixBwdIdeal.τ).loc Cert.LruMixBwdIdeal.main_arg0) = m ((c.tc : Thread Cert.LruMixBwdIdeal.nD Cert.LruMixBwdIdeal.τ).loc Cert.LruMixBwdIdeal.main_arg0)
      ∧ r.2.mem ((c.tc : Thread Cert.LruMixBwdIdeal.nD Cert.LruMixBwdIdeal.τ).loc Cert.LruMixBwdIdeal.main_arg1) = m ((c.tc : Thread Cert.LruMixBwdIdeal.nD Cert.LruMixBwdIdeal.τ).loc Cert.LruMixBwdIdeal.main_arg1)
      ∧ r.2.mem ((c.tc : Thread Cert.LruMixBwdIdeal.nD Cert.LruMixBwdIdeal.τ).loc Cert.LruMixBwdIdeal.main_arg2) = m ((c.tc : Thread Cert.LruMixBwdIdeal.nD Cert.LruMixBwdIdeal.τ).loc Cert.LruMixBwdIdeal.main_arg2)
      ∧ r.2.mem ((c.tc : Thread Cert.LruMixBwdIdeal.nD Cert.LruMixBwdIdeal.τ).loc Cert.LruMixBwdIdeal.main_arg3) = m ((c.tc : Thread Cert.LruMixBwdIdeal.nD Cert.LruMixBwdIdeal.τ).loc Cert.LruMixBwdIdeal.main_arg3))
      ∧ r.2.sem = fun _ => 0)

def quiescent_LruMixBwdIdeal_pre_finite_mix [hLruMixBwdIdeal : Cert.LruMixBwdIdeal.Facts] [hPre_finite_mix : Cert.Pre_finite_mix.Facts] : Prop :=
  ∀ (m : (ℓ : Loc Cert.LruMixBwdIdeal.nD Cert.LruMixBwdIdeal.τ Cert.LruMixBwdIdeal.sig) → Buf (Elt Ideal) ℓ) (g : Dev Cert.LruMixBwdIdeal.nD → PrngReg), Pre_LruMixBwdIdeal_finite_mix m →
    θ_run (Cert.LruMixBwdIdeal.defs (F := Ideal)) (onTc (τ := Cert.LruMixBwdIdeal.τ) (Cert.LruMixBwdIdeal.main (F := Ideal))) ⟨m, fun _ => 0, g⟩ (fun r => (∀ c : Dev Cert.LruMixBwdIdeal.nD,
      r.2.mem ((c.tc : Thread Cert.LruMixBwdIdeal.nD Cert.LruMixBwdIdeal.τ).loc Cert.LruMixBwdIdeal.main_arg0) = m ((c.tc : Thread Cert.LruMixBwdIdeal.nD Cert.LruMixBwdIdeal.τ).loc Cert.LruMixBwdIdeal.main_arg0)
      ∧ r.2.mem ((c.tc : Thread Cert.LruMixBwdIdeal.nD Cert.LruMixBwdIdeal.τ).loc Cert.LruMixBwdIdeal.main_arg1) = m ((c.tc : Thread Cert.LruMixBwdIdeal.nD Cert.LruMixBwdIdeal.τ).loc Cert.LruMixBwdIdeal.main_arg1)
      ∧ r.2.mem ((c.tc : Thread Cert.LruMixBwdIdeal.nD Cert.LruMixBwdIdeal.τ).loc Cert.LruMixBwdIdeal.main_arg2) = m ((c.tc : Thread Cert.LruMixBwdIdeal.nD Cert.LruMixBwdIdeal.τ).loc Cert.LruMixBwdIdeal.main_arg2)
      ∧ r.2.mem ((c.tc : Thread Cert.LruMixBwdIdeal.nD Cert.LruMixBwdIdeal.τ).loc Cert.LruMixBwdIdeal.main_arg3) = m ((c.tc : Thread Cert.LruMixBwdIdeal.nD Cert.LruMixBwdIdeal.τ).loc Cert.LruMixBwdIdeal.main_arg3))
      ∧ r.2.sem = fun _ => 0)

def quiescent_LruMixBwdRefIdeal [hLruMixBwdRefIdeal : Cert.LruMixBwdRefIdeal.Facts] : Prop :=
  ∀ (m : (ℓ : Loc Cert.LruMixBwdRefIdeal.nD Cert.LruMixBwdRefIdeal.τ Cert.LruMixBwdRefIdeal.sig) → Buf (Elt Ideal) ℓ) (g : Dev Cert.LruMixBwdRefIdeal.nD → PrngReg), Pre_LruMixBwdRefIdeal m →
    θ_run (Cert.LruMixBwdRefIdeal.defs (F := Ideal)) (onTc (τ := Cert.LruMixBwdRefIdeal.τ) (Cert.LruMixBwdRefIdeal.main (F := Ideal))) ⟨m, fun _ => 0, g⟩ (fun r => (∀ c : Dev Cert.LruMixBwdRefIdeal.nD,
      r.2.mem ((c.tc : Thread Cert.LruMixBwdRefIdeal.nD Cert.LruMixBwdRefIdeal.τ).loc Cert.LruMixBwdRefIdeal.main_arg0) = m ((c.tc : Thread Cert.LruMixBwdRefIdeal.nD Cert.LruMixBwdRefIdeal.τ).loc Cert.LruMixBwdRefIdeal.main_arg0)
      ∧ r.2.mem ((c.tc : Thread Cert.LruMixBwdRefIdeal.nD Cert.LruMixBwdRefIdeal.τ).loc Cert.LruMixBwdRefIdeal.main_arg1) = m ((c.tc : Thread Cert.LruMixBwdRefIdeal.nD Cert.LruMixBwdRefIdeal.τ).loc Cert.LruMixBwdRefIdeal.main_arg1)
      ∧ r.2.mem ((c.tc : Thread Cert.LruMixBwdRefIdeal.nD Cert.LruMixBwdRefIdeal.τ).loc Cert.LruMixBwdRefIdeal.main_arg2) = m ((c.tc : Thread Cert.LruMixBwdRefIdeal.nD Cert.LruMixBwdRefIdeal.τ).loc Cert.LruMixBwdRefIdeal.main_arg2)
      ∧ r.2.mem ((c.tc : Thread Cert.LruMixBwdRefIdeal.nD Cert.LruMixBwdRefIdeal.τ).loc Cert.LruMixBwdRefIdeal.main_arg3) = m ((c.tc : Thread Cert.LruMixBwdRefIdeal.nD Cert.LruMixBwdRefIdeal.τ).loc Cert.LruMixBwdRefIdeal.main_arg3))
      ∧ r.2.sem = fun _ => 0)

def quiescent_LruMixBwdRefIdeal_pre_finite_mix [hLruMixBwdRefIdeal : Cert.LruMixBwdRefIdeal.Facts] [hPre_finite_mix : Cert.Pre_finite_mix.Facts] : Prop :=
  ∀ (m : (ℓ : Loc Cert.LruMixBwdRefIdeal.nD Cert.LruMixBwdRefIdeal.τ Cert.LruMixBwdRefIdeal.sig) → Buf (Elt Ideal) ℓ) (g : Dev Cert.LruMixBwdRefIdeal.nD → PrngReg), Pre_LruMixBwdRefIdeal_finite_mix m →
    θ_run (Cert.LruMixBwdRefIdeal.defs (F := Ideal)) (onTc (τ := Cert.LruMixBwdRefIdeal.τ) (Cert.LruMixBwdRefIdeal.main (F := Ideal))) ⟨m, fun _ => 0, g⟩ (fun r => (∀ c : Dev Cert.LruMixBwdRefIdeal.nD,
      r.2.mem ((c.tc : Thread Cert.LruMixBwdRefIdeal.nD Cert.LruMixBwdRefIdeal.τ).loc Cert.LruMixBwdRefIdeal.main_arg0) = m ((c.tc : Thread Cert.LruMixBwdRefIdeal.nD Cert.LruMixBwdRefIdeal.τ).loc Cert.LruMixBwdRefIdeal.main_arg0)
      ∧ r.2.mem ((c.tc : Thread Cert.LruMixBwdRefIdeal.nD Cert.LruMixBwdRefIdeal.τ).loc Cert.LruMixBwdRefIdeal.main_arg1) = m ((c.tc : Thread Cert.LruMixBwdRefIdeal.nD Cert.LruMixBwdRefIdeal.τ).loc Cert.LruMixBwdRefIdeal.main_arg1)
      ∧ r.2.mem ((c.tc : Thread Cert.LruMixBwdRefIdeal.nD Cert.LruMixBwdRefIdeal.τ).loc Cert.LruMixBwdRefIdeal.main_arg2) = m ((c.tc : Thread Cert.LruMixBwdRefIdeal.nD Cert.LruMixBwdRefIdeal.τ).loc Cert.LruMixBwdRefIdeal.main_arg2)
      ∧ r.2.mem ((c.tc : Thread Cert.LruMixBwdRefIdeal.nD Cert.LruMixBwdRefIdeal.τ).loc Cert.LruMixBwdRefIdeal.main_arg3) = m ((c.tc : Thread Cert.LruMixBwdRefIdeal.nD Cert.LruMixBwdRefIdeal.τ).loc Cert.LruMixBwdRefIdeal.main_arg3))
      ∧ r.2.sem = fun _ => 0)

def quiescent_RwkvMixBwd [hRwkvMixBwd : Cert.RwkvMixBwd.Facts] : Prop :=
  ∀ (m : (ℓ : Loc Cert.RwkvMixBwd.nD Cert.RwkvMixBwd.τ Cert.RwkvMixBwd.sig) → Buf (Elt Bits) ℓ) (g : Dev Cert.RwkvMixBwd.nD → PrngReg), Pre_RwkvMixBwd m →
    θ_run (Cert.RwkvMixBwd.defs (F := Bits)) (onTc (τ := Cert.RwkvMixBwd.τ) (Cert.RwkvMixBwd.main (F := Bits))) ⟨m, fun _ => 0, g⟩ (fun r => (∀ c : Dev Cert.RwkvMixBwd.nD,
      r.2.mem ((c.tc : Thread Cert.RwkvMixBwd.nD Cert.RwkvMixBwd.τ).loc Cert.RwkvMixBwd.main_arg0) = m ((c.tc : Thread Cert.RwkvMixBwd.nD Cert.RwkvMixBwd.τ).loc Cert.RwkvMixBwd.main_arg0)
      ∧ r.2.mem ((c.tc : Thread Cert.RwkvMixBwd.nD Cert.RwkvMixBwd.τ).loc Cert.RwkvMixBwd.main_arg1) = m ((c.tc : Thread Cert.RwkvMixBwd.nD Cert.RwkvMixBwd.τ).loc Cert.RwkvMixBwd.main_arg1)
      ∧ r.2.mem ((c.tc : Thread Cert.RwkvMixBwd.nD Cert.RwkvMixBwd.τ).loc Cert.RwkvMixBwd.main_arg2) = m ((c.tc : Thread Cert.RwkvMixBwd.nD Cert.RwkvMixBwd.τ).loc Cert.RwkvMixBwd.main_arg2)
      ∧ r.2.mem ((c.tc : Thread Cert.RwkvMixBwd.nD Cert.RwkvMixBwd.τ).loc Cert.RwkvMixBwd.main_arg3) = m ((c.tc : Thread Cert.RwkvMixBwd.nD Cert.RwkvMixBwd.τ).loc Cert.RwkvMixBwd.main_arg3)
      ∧ r.2.mem ((c.tc : Thread Cert.RwkvMixBwd.nD Cert.RwkvMixBwd.τ).loc Cert.RwkvMixBwd.main_arg4) = m ((c.tc : Thread Cert.RwkvMixBwd.nD Cert.RwkvMixBwd.τ).loc Cert.RwkvMixBwd.main_arg4)
      ∧ r.2.mem ((c.tc : Thread Cert.RwkvMixBwd.nD Cert.RwkvMixBwd.τ).loc Cert.RwkvMixBwd.main_arg5) = m ((c.tc : Thread Cert.RwkvMixBwd.nD Cert.RwkvMixBwd.τ).loc Cert.RwkvMixBwd.main_arg5)
      ∧ r.2.mem ((c.tc : Thread Cert.RwkvMixBwd.nD Cert.RwkvMixBwd.τ).loc Cert.RwkvMixBwd.main_arg6) = m ((c.tc : Thread Cert.RwkvMixBwd.nD Cert.RwkvMixBwd.τ).loc Cert.RwkvMixBwd.main_arg6)
      ∧ r.2.mem ((c.tc : Thread Cert.RwkvMixBwd.nD Cert.RwkvMixBwd.τ).loc Cert.RwkvMixBwd.main_arg7) = m ((c.tc : Thread Cert.RwkvMixBwd.nD Cert.RwkvMixBwd.τ).loc Cert.RwkvMixBwd.main_arg7)
      ∧ r.2.mem ((c.tc : Thread Cert.RwkvMixBwd.nD Cert.RwkvMixBwd.τ).loc Cert.RwkvMixBwd.main_arg8) = m ((c.tc : Thread Cert.RwkvMixBwd.nD Cert.RwkvMixBwd.τ).loc Cert.RwkvMixBwd.main_arg8)
      ∧ r.2.mem ((c.tc : Thread Cert.RwkvMixBwd.nD Cert.RwkvMixBwd.τ).loc Cert.RwkvMixBwd.main_arg9) = m ((c.tc : Thread Cert.RwkvMixBwd.nD Cert.RwkvMixBwd.τ).loc Cert.RwkvMixBwd.main_arg9))
      ∧ r.2.sem = fun _ => 0)

def quiescent_RwkvMixBwdIdeal [hRwkvMixBwdIdeal : Cert.RwkvMixBwdIdeal.Facts] : Prop :=
  ∀ (m : (ℓ : Loc Cert.RwkvMixBwdIdeal.nD Cert.RwkvMixBwdIdeal.τ Cert.RwkvMixBwdIdeal.sig) → Buf (Elt Ideal) ℓ) (g : Dev Cert.RwkvMixBwdIdeal.nD → PrngReg), Pre_RwkvMixBwdIdeal m →
    θ_run (Cert.RwkvMixBwdIdeal.defs (F := Ideal)) (onTc (τ := Cert.RwkvMixBwdIdeal.τ) (Cert.RwkvMixBwdIdeal.main (F := Ideal))) ⟨m, fun _ => 0, g⟩ (fun r => (∀ c : Dev Cert.RwkvMixBwdIdeal.nD,
      r.2.mem ((c.tc : Thread Cert.RwkvMixBwdIdeal.nD Cert.RwkvMixBwdIdeal.τ).loc Cert.RwkvMixBwdIdeal.main_arg0) = m ((c.tc : Thread Cert.RwkvMixBwdIdeal.nD Cert.RwkvMixBwdIdeal.τ).loc Cert.RwkvMixBwdIdeal.main_arg0)
      ∧ r.2.mem ((c.tc : Thread Cert.RwkvMixBwdIdeal.nD Cert.RwkvMixBwdIdeal.τ).loc Cert.RwkvMixBwdIdeal.main_arg1) = m ((c.tc : Thread Cert.RwkvMixBwdIdeal.nD Cert.RwkvMixBwdIdeal.τ).loc Cert.RwkvMixBwdIdeal.main_arg1)
      ∧ r.2.mem ((c.tc : Thread Cert.RwkvMixBwdIdeal.nD Cert.RwkvMixBwdIdeal.τ).loc Cert.RwkvMixBwdIdeal.main_arg2) = m ((c.tc : Thread Cert.RwkvMixBwdIdeal.nD Cert.RwkvMixBwdIdeal.τ).loc Cert.RwkvMixBwdIdeal.main_arg2)
      ∧ r.2.mem ((c.tc : Thread Cert.RwkvMixBwdIdeal.nD Cert.RwkvMixBwdIdeal.τ).loc Cert.RwkvMixBwdIdeal.main_arg3) = m ((c.tc : Thread Cert.RwkvMixBwdIdeal.nD Cert.RwkvMixBwdIdeal.τ).loc Cert.RwkvMixBwdIdeal.main_arg3)
      ∧ r.2.mem ((c.tc : Thread Cert.RwkvMixBwdIdeal.nD Cert.RwkvMixBwdIdeal.τ).loc Cert.RwkvMixBwdIdeal.main_arg4) = m ((c.tc : Thread Cert.RwkvMixBwdIdeal.nD Cert.RwkvMixBwdIdeal.τ).loc Cert.RwkvMixBwdIdeal.main_arg4)
      ∧ r.2.mem ((c.tc : Thread Cert.RwkvMixBwdIdeal.nD Cert.RwkvMixBwdIdeal.τ).loc Cert.RwkvMixBwdIdeal.main_arg5) = m ((c.tc : Thread Cert.RwkvMixBwdIdeal.nD Cert.RwkvMixBwdIdeal.τ).loc Cert.RwkvMixBwdIdeal.main_arg5)
      ∧ r.2.mem ((c.tc : Thread Cert.RwkvMixBwdIdeal.nD Cert.RwkvMixBwdIdeal.τ).loc Cert.RwkvMixBwdIdeal.main_arg6) = m ((c.tc : Thread Cert.RwkvMixBwdIdeal.nD Cert.RwkvMixBwdIdeal.τ).loc Cert.RwkvMixBwdIdeal.main_arg6)
      ∧ r.2.mem ((c.tc : Thread Cert.RwkvMixBwdIdeal.nD Cert.RwkvMixBwdIdeal.τ).loc Cert.RwkvMixBwdIdeal.main_arg7) = m ((c.tc : Thread Cert.RwkvMixBwdIdeal.nD Cert.RwkvMixBwdIdeal.τ).loc Cert.RwkvMixBwdIdeal.main_arg7)
      ∧ r.2.mem ((c.tc : Thread Cert.RwkvMixBwdIdeal.nD Cert.RwkvMixBwdIdeal.τ).loc Cert.RwkvMixBwdIdeal.main_arg8) = m ((c.tc : Thread Cert.RwkvMixBwdIdeal.nD Cert.RwkvMixBwdIdeal.τ).loc Cert.RwkvMixBwdIdeal.main_arg8)
      ∧ r.2.mem ((c.tc : Thread Cert.RwkvMixBwdIdeal.nD Cert.RwkvMixBwdIdeal.τ).loc Cert.RwkvMixBwdIdeal.main_arg9) = m ((c.tc : Thread Cert.RwkvMixBwdIdeal.nD Cert.RwkvMixBwdIdeal.τ).loc Cert.RwkvMixBwdIdeal.main_arg9))
      ∧ r.2.sem = fun _ => 0)

def quiescent_RwkvMixBwdIdeal_pre_finite_shift [hRwkvMixBwdIdeal : Cert.RwkvMixBwdIdeal.Facts] [hPre_finite_shift : Cert.Pre_finite_shift.Facts] : Prop :=
  ∀ (m : (ℓ : Loc Cert.RwkvMixBwdIdeal.nD Cert.RwkvMixBwdIdeal.τ Cert.RwkvMixBwdIdeal.sig) → Buf (Elt Ideal) ℓ) (g : Dev Cert.RwkvMixBwdIdeal.nD → PrngReg), Pre_RwkvMixBwdIdeal_finite_shift m →
    θ_run (Cert.RwkvMixBwdIdeal.defs (F := Ideal)) (onTc (τ := Cert.RwkvMixBwdIdeal.τ) (Cert.RwkvMixBwdIdeal.main (F := Ideal))) ⟨m, fun _ => 0, g⟩ (fun r => (∀ c : Dev Cert.RwkvMixBwdIdeal.nD,
      r.2.mem ((c.tc : Thread Cert.RwkvMixBwdIdeal.nD Cert.RwkvMixBwdIdeal.τ).loc Cert.RwkvMixBwdIdeal.main_arg0) = m ((c.tc : Thread Cert.RwkvMixBwdIdeal.nD Cert.RwkvMixBwdIdeal.τ).loc Cert.RwkvMixBwdIdeal.main_arg0)
      ∧ r.2.mem ((c.tc : Thread Cert.RwkvMixBwdIdeal.nD Cert.RwkvMixBwdIdeal.τ).loc Cert.RwkvMixBwdIdeal.main_arg1) = m ((c.tc : Thread Cert.RwkvMixBwdIdeal.nD Cert.RwkvMixBwdIdeal.τ).loc Cert.RwkvMixBwdIdeal.main_arg1)
      ∧ r.2.mem ((c.tc : Thread Cert.RwkvMixBwdIdeal.nD Cert.RwkvMixBwdIdeal.τ).loc Cert.RwkvMixBwdIdeal.main_arg2) = m ((c.tc : Thread Cert.RwkvMixBwdIdeal.nD Cert.RwkvMixBwdIdeal.τ).loc Cert.RwkvMixBwdIdeal.main_arg2)
      ∧ r.2.mem ((c.tc : Thread Cert.RwkvMixBwdIdeal.nD Cert.RwkvMixBwdIdeal.τ).loc Cert.RwkvMixBwdIdeal.main_arg3) = m ((c.tc : Thread Cert.RwkvMixBwdIdeal.nD Cert.RwkvMixBwdIdeal.τ).loc Cert.RwkvMixBwdIdeal.main_arg3)
      ∧ r.2.mem ((c.tc : Thread Cert.RwkvMixBwdIdeal.nD Cert.RwkvMixBwdIdeal.τ).loc Cert.RwkvMixBwdIdeal.main_arg4) = m ((c.tc : Thread Cert.RwkvMixBwdIdeal.nD Cert.RwkvMixBwdIdeal.τ).loc Cert.RwkvMixBwdIdeal.main_arg4)
      ∧ r.2.mem ((c.tc : Thread Cert.RwkvMixBwdIdeal.nD Cert.RwkvMixBwdIdeal.τ).loc Cert.RwkvMixBwdIdeal.main_arg5) = m ((c.tc : Thread Cert.RwkvMixBwdIdeal.nD Cert.RwkvMixBwdIdeal.τ).loc Cert.RwkvMixBwdIdeal.main_arg5)
      ∧ r.2.mem ((c.tc : Thread Cert.RwkvMixBwdIdeal.nD Cert.RwkvMixBwdIdeal.τ).loc Cert.RwkvMixBwdIdeal.main_arg6) = m ((c.tc : Thread Cert.RwkvMixBwdIdeal.nD Cert.RwkvMixBwdIdeal.τ).loc Cert.RwkvMixBwdIdeal.main_arg6)
      ∧ r.2.mem ((c.tc : Thread Cert.RwkvMixBwdIdeal.nD Cert.RwkvMixBwdIdeal.τ).loc Cert.RwkvMixBwdIdeal.main_arg7) = m ((c.tc : Thread Cert.RwkvMixBwdIdeal.nD Cert.RwkvMixBwdIdeal.τ).loc Cert.RwkvMixBwdIdeal.main_arg7)
      ∧ r.2.mem ((c.tc : Thread Cert.RwkvMixBwdIdeal.nD Cert.RwkvMixBwdIdeal.τ).loc Cert.RwkvMixBwdIdeal.main_arg8) = m ((c.tc : Thread Cert.RwkvMixBwdIdeal.nD Cert.RwkvMixBwdIdeal.τ).loc Cert.RwkvMixBwdIdeal.main_arg8)
      ∧ r.2.mem ((c.tc : Thread Cert.RwkvMixBwdIdeal.nD Cert.RwkvMixBwdIdeal.τ).loc Cert.RwkvMixBwdIdeal.main_arg9) = m ((c.tc : Thread Cert.RwkvMixBwdIdeal.nD Cert.RwkvMixBwdIdeal.τ).loc Cert.RwkvMixBwdIdeal.main_arg9))
      ∧ r.2.sem = fun _ => 0)

def quiescent_RwkvMixBwdRefIdeal [hRwkvMixBwdRefIdeal : Cert.RwkvMixBwdRefIdeal.Facts] : Prop :=
  ∀ (m : (ℓ : Loc Cert.RwkvMixBwdRefIdeal.nD Cert.RwkvMixBwdRefIdeal.τ Cert.RwkvMixBwdRefIdeal.sig) → Buf (Elt Ideal) ℓ) (g : Dev Cert.RwkvMixBwdRefIdeal.nD → PrngReg), Pre_RwkvMixBwdRefIdeal m →
    θ_run (Cert.RwkvMixBwdRefIdeal.defs (F := Ideal)) (onTc (τ := Cert.RwkvMixBwdRefIdeal.τ) (Cert.RwkvMixBwdRefIdeal.main (F := Ideal))) ⟨m, fun _ => 0, g⟩ (fun r => (∀ c : Dev Cert.RwkvMixBwdRefIdeal.nD,
      r.2.mem ((c.tc : Thread Cert.RwkvMixBwdRefIdeal.nD Cert.RwkvMixBwdRefIdeal.τ).loc Cert.RwkvMixBwdRefIdeal.main_arg0) = m ((c.tc : Thread Cert.RwkvMixBwdRefIdeal.nD Cert.RwkvMixBwdRefIdeal.τ).loc Cert.RwkvMixBwdRefIdeal.main_arg0)
      ∧ r.2.mem ((c.tc : Thread Cert.RwkvMixBwdRefIdeal.nD Cert.RwkvMixBwdRefIdeal.τ).loc Cert.RwkvMixBwdRefIdeal.main_arg1) = m ((c.tc : Thread Cert.RwkvMixBwdRefIdeal.nD Cert.RwkvMixBwdRefIdeal.τ).loc Cert.RwkvMixBwdRefIdeal.main_arg1)
      ∧ r.2.mem ((c.tc : Thread Cert.RwkvMixBwdRefIdeal.nD Cert.RwkvMixBwdRefIdeal.τ).loc Cert.RwkvMixBwdRefIdeal.main_arg2) = m ((c.tc : Thread Cert.RwkvMixBwdRefIdeal.nD Cert.RwkvMixBwdRefIdeal.τ).loc Cert.RwkvMixBwdRefIdeal.main_arg2)
      ∧ r.2.mem ((c.tc : Thread Cert.RwkvMixBwdRefIdeal.nD Cert.RwkvMixBwdRefIdeal.τ).loc Cert.RwkvMixBwdRefIdeal.main_arg3) = m ((c.tc : Thread Cert.RwkvMixBwdRefIdeal.nD Cert.RwkvMixBwdRefIdeal.τ).loc Cert.RwkvMixBwdRefIdeal.main_arg3)
      ∧ r.2.mem ((c.tc : Thread Cert.RwkvMixBwdRefIdeal.nD Cert.RwkvMixBwdRefIdeal.τ).loc Cert.RwkvMixBwdRefIdeal.main_arg4) = m ((c.tc : Thread Cert.RwkvMixBwdRefIdeal.nD Cert.RwkvMixBwdRefIdeal.τ).loc Cert.RwkvMixBwdRefIdeal.main_arg4)
      ∧ r.2.mem ((c.tc : Thread Cert.RwkvMixBwdRefIdeal.nD Cert.RwkvMixBwdRefIdeal.τ).loc Cert.RwkvMixBwdRefIdeal.main_arg5) = m ((c.tc : Thread Cert.RwkvMixBwdRefIdeal.nD Cert.RwkvMixBwdRefIdeal.τ).loc Cert.RwkvMixBwdRefIdeal.main_arg5)
      ∧ r.2.mem ((c.tc : Thread Cert.RwkvMixBwdRefIdeal.nD Cert.RwkvMixBwdRefIdeal.τ).loc Cert.RwkvMixBwdRefIdeal.main_arg6) = m ((c.tc : Thread Cert.RwkvMixBwdRefIdeal.nD Cert.RwkvMixBwdRefIdeal.τ).loc Cert.RwkvMixBwdRefIdeal.main_arg6)
      ∧ r.2.mem ((c.tc : Thread Cert.RwkvMixBwdRefIdeal.nD Cert.RwkvMixBwdRefIdeal.τ).loc Cert.RwkvMixBwdRefIdeal.main_arg7) = m ((c.tc : Thread Cert.RwkvMixBwdRefIdeal.nD Cert.RwkvMixBwdRefIdeal.τ).loc Cert.RwkvMixBwdRefIdeal.main_arg7)
      ∧ r.2.mem ((c.tc : Thread Cert.RwkvMixBwdRefIdeal.nD Cert.RwkvMixBwdRefIdeal.τ).loc Cert.RwkvMixBwdRefIdeal.main_arg8) = m ((c.tc : Thread Cert.RwkvMixBwdRefIdeal.nD Cert.RwkvMixBwdRefIdeal.τ).loc Cert.RwkvMixBwdRefIdeal.main_arg8)
      ∧ r.2.mem ((c.tc : Thread Cert.RwkvMixBwdRefIdeal.nD Cert.RwkvMixBwdRefIdeal.τ).loc Cert.RwkvMixBwdRefIdeal.main_arg9) = m ((c.tc : Thread Cert.RwkvMixBwdRefIdeal.nD Cert.RwkvMixBwdRefIdeal.τ).loc Cert.RwkvMixBwdRefIdeal.main_arg9))
      ∧ r.2.sem = fun _ => 0)

def quiescent_RwkvMixBwdRefIdeal_pre_finite_shift [hRwkvMixBwdRefIdeal : Cert.RwkvMixBwdRefIdeal.Facts] [hPre_finite_shift : Cert.Pre_finite_shift.Facts] : Prop :=
  ∀ (m : (ℓ : Loc Cert.RwkvMixBwdRefIdeal.nD Cert.RwkvMixBwdRefIdeal.τ Cert.RwkvMixBwdRefIdeal.sig) → Buf (Elt Ideal) ℓ) (g : Dev Cert.RwkvMixBwdRefIdeal.nD → PrngReg), Pre_RwkvMixBwdRefIdeal_finite_shift m →
    θ_run (Cert.RwkvMixBwdRefIdeal.defs (F := Ideal)) (onTc (τ := Cert.RwkvMixBwdRefIdeal.τ) (Cert.RwkvMixBwdRefIdeal.main (F := Ideal))) ⟨m, fun _ => 0, g⟩ (fun r => (∀ c : Dev Cert.RwkvMixBwdRefIdeal.nD,
      r.2.mem ((c.tc : Thread Cert.RwkvMixBwdRefIdeal.nD Cert.RwkvMixBwdRefIdeal.τ).loc Cert.RwkvMixBwdRefIdeal.main_arg0) = m ((c.tc : Thread Cert.RwkvMixBwdRefIdeal.nD Cert.RwkvMixBwdRefIdeal.τ).loc Cert.RwkvMixBwdRefIdeal.main_arg0)
      ∧ r.2.mem ((c.tc : Thread Cert.RwkvMixBwdRefIdeal.nD Cert.RwkvMixBwdRefIdeal.τ).loc Cert.RwkvMixBwdRefIdeal.main_arg1) = m ((c.tc : Thread Cert.RwkvMixBwdRefIdeal.nD Cert.RwkvMixBwdRefIdeal.τ).loc Cert.RwkvMixBwdRefIdeal.main_arg1)
      ∧ r.2.mem ((c.tc : Thread Cert.RwkvMixBwdRefIdeal.nD Cert.RwkvMixBwdRefIdeal.τ).loc Cert.RwkvMixBwdRefIdeal.main_arg2) = m ((c.tc : Thread Cert.RwkvMixBwdRefIdeal.nD Cert.RwkvMixBwdRefIdeal.τ).loc Cert.RwkvMixBwdRefIdeal.main_arg2)
      ∧ r.2.mem ((c.tc : Thread Cert.RwkvMixBwdRefIdeal.nD Cert.RwkvMixBwdRefIdeal.τ).loc Cert.RwkvMixBwdRefIdeal.main_arg3) = m ((c.tc : Thread Cert.RwkvMixBwdRefIdeal.nD Cert.RwkvMixBwdRefIdeal.τ).loc Cert.RwkvMixBwdRefIdeal.main_arg3)
      ∧ r.2.mem ((c.tc : Thread Cert.RwkvMixBwdRefIdeal.nD Cert.RwkvMixBwdRefIdeal.τ).loc Cert.RwkvMixBwdRefIdeal.main_arg4) = m ((c.tc : Thread Cert.RwkvMixBwdRefIdeal.nD Cert.RwkvMixBwdRefIdeal.τ).loc Cert.RwkvMixBwdRefIdeal.main_arg4)
      ∧ r.2.mem ((c.tc : Thread Cert.RwkvMixBwdRefIdeal.nD Cert.RwkvMixBwdRefIdeal.τ).loc Cert.RwkvMixBwdRefIdeal.main_arg5) = m ((c.tc : Thread Cert.RwkvMixBwdRefIdeal.nD Cert.RwkvMixBwdRefIdeal.τ).loc Cert.RwkvMixBwdRefIdeal.main_arg5)
      ∧ r.2.mem ((c.tc : Thread Cert.RwkvMixBwdRefIdeal.nD Cert.RwkvMixBwdRefIdeal.τ).loc Cert.RwkvMixBwdRefIdeal.main_arg6) = m ((c.tc : Thread Cert.RwkvMixBwdRefIdeal.nD Cert.RwkvMixBwdRefIdeal.τ).loc Cert.RwkvMixBwdRefIdeal.main_arg6)
      ∧ r.2.mem ((c.tc : Thread Cert.RwkvMixBwdRefIdeal.nD Cert.RwkvMixBwdRefIdeal.τ).loc Cert.RwkvMixBwdRefIdeal.main_arg7) = m ((c.tc : Thread Cert.RwkvMixBwdRefIdeal.nD Cert.RwkvMixBwdRefIdeal.τ).loc Cert.RwkvMixBwdRefIdeal.main_arg7)
      ∧ r.2.mem ((c.tc : Thread Cert.RwkvMixBwdRefIdeal.nD Cert.RwkvMixBwdRefIdeal.τ).loc Cert.RwkvMixBwdRefIdeal.main_arg8) = m ((c.tc : Thread Cert.RwkvMixBwdRefIdeal.nD Cert.RwkvMixBwdRefIdeal.τ).loc Cert.RwkvMixBwdRefIdeal.main_arg8)
      ∧ r.2.mem ((c.tc : Thread Cert.RwkvMixBwdRefIdeal.nD Cert.RwkvMixBwdRefIdeal.τ).loc Cert.RwkvMixBwdRefIdeal.main_arg9) = m ((c.tc : Thread Cert.RwkvMixBwdRefIdeal.nD Cert.RwkvMixBwdRefIdeal.τ).loc Cert.RwkvMixBwdRefIdeal.main_arg9))
      ∧ r.2.sem = fun _ => 0)

def quiescent_RwkvPostBwd [hRwkvPostBwd : Cert.RwkvPostBwd.Facts] : Prop :=
  ∀ (m : (ℓ : Loc Cert.RwkvPostBwd.nD Cert.RwkvPostBwd.τ Cert.RwkvPostBwd.sig) → Buf (Elt Bits) ℓ) (g : Dev Cert.RwkvPostBwd.nD → PrngReg), Pre_RwkvPostBwd m →
    θ_run (Cert.RwkvPostBwd.defs (F := Bits)) (onTc (τ := Cert.RwkvPostBwd.τ) (Cert.RwkvPostBwd.main (F := Bits))) ⟨m, fun _ => 0, g⟩ (fun r => (∀ c : Dev Cert.RwkvPostBwd.nD,
      r.2.mem ((c.tc : Thread Cert.RwkvPostBwd.nD Cert.RwkvPostBwd.τ).loc Cert.RwkvPostBwd.main_arg0) = m ((c.tc : Thread Cert.RwkvPostBwd.nD Cert.RwkvPostBwd.τ).loc Cert.RwkvPostBwd.main_arg0)
      ∧ r.2.mem ((c.tc : Thread Cert.RwkvPostBwd.nD Cert.RwkvPostBwd.τ).loc Cert.RwkvPostBwd.main_arg1) = m ((c.tc : Thread Cert.RwkvPostBwd.nD Cert.RwkvPostBwd.τ).loc Cert.RwkvPostBwd.main_arg1)
      ∧ r.2.mem ((c.tc : Thread Cert.RwkvPostBwd.nD Cert.RwkvPostBwd.τ).loc Cert.RwkvPostBwd.main_arg2) = m ((c.tc : Thread Cert.RwkvPostBwd.nD Cert.RwkvPostBwd.τ).loc Cert.RwkvPostBwd.main_arg2)
      ∧ r.2.mem ((c.tc : Thread Cert.RwkvPostBwd.nD Cert.RwkvPostBwd.τ).loc Cert.RwkvPostBwd.main_arg3) = m ((c.tc : Thread Cert.RwkvPostBwd.nD Cert.RwkvPostBwd.τ).loc Cert.RwkvPostBwd.main_arg3)
      ∧ r.2.mem ((c.tc : Thread Cert.RwkvPostBwd.nD Cert.RwkvPostBwd.τ).loc Cert.RwkvPostBwd.main_arg4) = m ((c.tc : Thread Cert.RwkvPostBwd.nD Cert.RwkvPostBwd.τ).loc Cert.RwkvPostBwd.main_arg4)
      ∧ r.2.mem ((c.tc : Thread Cert.RwkvPostBwd.nD Cert.RwkvPostBwd.τ).loc Cert.RwkvPostBwd.main_arg5) = m ((c.tc : Thread Cert.RwkvPostBwd.nD Cert.RwkvPostBwd.τ).loc Cert.RwkvPostBwd.main_arg5)
      ∧ r.2.mem ((c.tc : Thread Cert.RwkvPostBwd.nD Cert.RwkvPostBwd.τ).loc Cert.RwkvPostBwd.main_arg6) = m ((c.tc : Thread Cert.RwkvPostBwd.nD Cert.RwkvPostBwd.τ).loc Cert.RwkvPostBwd.main_arg6)
      ∧ r.2.mem ((c.tc : Thread Cert.RwkvPostBwd.nD Cert.RwkvPostBwd.τ).loc Cert.RwkvPostBwd.main_arg7) = m ((c.tc : Thread Cert.RwkvPostBwd.nD Cert.RwkvPostBwd.τ).loc Cert.RwkvPostBwd.main_arg7)
      ∧ r.2.mem ((c.tc : Thread Cert.RwkvPostBwd.nD Cert.RwkvPostBwd.τ).loc Cert.RwkvPostBwd.main_arg8) = m ((c.tc : Thread Cert.RwkvPostBwd.nD Cert.RwkvPostBwd.τ).loc Cert.RwkvPostBwd.main_arg8))
      ∧ r.2.sem = fun _ => 0)

def quiescent_RwkvPostBwdIdeal [hRwkvPostBwdIdeal : Cert.RwkvPostBwdIdeal.Facts] : Prop :=
  ∀ (m : (ℓ : Loc Cert.RwkvPostBwdIdeal.nD Cert.RwkvPostBwdIdeal.τ Cert.RwkvPostBwdIdeal.sig) → Buf (Elt Ideal) ℓ) (g : Dev Cert.RwkvPostBwdIdeal.nD → PrngReg), Pre_RwkvPostBwdIdeal m →
    θ_run (Cert.RwkvPostBwdIdeal.defs (F := Ideal)) (onTc (τ := Cert.RwkvPostBwdIdeal.τ) (Cert.RwkvPostBwdIdeal.main (F := Ideal))) ⟨m, fun _ => 0, g⟩ (fun r => (∀ c : Dev Cert.RwkvPostBwdIdeal.nD,
      r.2.mem ((c.tc : Thread Cert.RwkvPostBwdIdeal.nD Cert.RwkvPostBwdIdeal.τ).loc Cert.RwkvPostBwdIdeal.main_arg0) = m ((c.tc : Thread Cert.RwkvPostBwdIdeal.nD Cert.RwkvPostBwdIdeal.τ).loc Cert.RwkvPostBwdIdeal.main_arg0)
      ∧ r.2.mem ((c.tc : Thread Cert.RwkvPostBwdIdeal.nD Cert.RwkvPostBwdIdeal.τ).loc Cert.RwkvPostBwdIdeal.main_arg1) = m ((c.tc : Thread Cert.RwkvPostBwdIdeal.nD Cert.RwkvPostBwdIdeal.τ).loc Cert.RwkvPostBwdIdeal.main_arg1)
      ∧ r.2.mem ((c.tc : Thread Cert.RwkvPostBwdIdeal.nD Cert.RwkvPostBwdIdeal.τ).loc Cert.RwkvPostBwdIdeal.main_arg2) = m ((c.tc : Thread Cert.RwkvPostBwdIdeal.nD Cert.RwkvPostBwdIdeal.τ).loc Cert.RwkvPostBwdIdeal.main_arg2)
      ∧ r.2.mem ((c.tc : Thread Cert.RwkvPostBwdIdeal.nD Cert.RwkvPostBwdIdeal.τ).loc Cert.RwkvPostBwdIdeal.main_arg3) = m ((c.tc : Thread Cert.RwkvPostBwdIdeal.nD Cert.RwkvPostBwdIdeal.τ).loc Cert.RwkvPostBwdIdeal.main_arg3)
      ∧ r.2.mem ((c.tc : Thread Cert.RwkvPostBwdIdeal.nD Cert.RwkvPostBwdIdeal.τ).loc Cert.RwkvPostBwdIdeal.main_arg4) = m ((c.tc : Thread Cert.RwkvPostBwdIdeal.nD Cert.RwkvPostBwdIdeal.τ).loc Cert.RwkvPostBwdIdeal.main_arg4)
      ∧ r.2.mem ((c.tc : Thread Cert.RwkvPostBwdIdeal.nD Cert.RwkvPostBwdIdeal.τ).loc Cert.RwkvPostBwdIdeal.main_arg5) = m ((c.tc : Thread Cert.RwkvPostBwdIdeal.nD Cert.RwkvPostBwdIdeal.τ).loc Cert.RwkvPostBwdIdeal.main_arg5)
      ∧ r.2.mem ((c.tc : Thread Cert.RwkvPostBwdIdeal.nD Cert.RwkvPostBwdIdeal.τ).loc Cert.RwkvPostBwdIdeal.main_arg6) = m ((c.tc : Thread Cert.RwkvPostBwdIdeal.nD Cert.RwkvPostBwdIdeal.τ).loc Cert.RwkvPostBwdIdeal.main_arg6)
      ∧ r.2.mem ((c.tc : Thread Cert.RwkvPostBwdIdeal.nD Cert.RwkvPostBwdIdeal.τ).loc Cert.RwkvPostBwdIdeal.main_arg7) = m ((c.tc : Thread Cert.RwkvPostBwdIdeal.nD Cert.RwkvPostBwdIdeal.τ).loc Cert.RwkvPostBwdIdeal.main_arg7)
      ∧ r.2.mem ((c.tc : Thread Cert.RwkvPostBwdIdeal.nD Cert.RwkvPostBwdIdeal.τ).loc Cert.RwkvPostBwdIdeal.main_arg8) = m ((c.tc : Thread Cert.RwkvPostBwdIdeal.nD Cert.RwkvPostBwdIdeal.τ).loc Cert.RwkvPostBwdIdeal.main_arg8))
      ∧ r.2.sem = fun _ => 0)

def quiescent_RwkvPostBwdIdeal_pre_finite_post [hRwkvPostBwdIdeal : Cert.RwkvPostBwdIdeal.Facts] [hPre_finite_post : Cert.Pre_finite_post.Facts] : Prop :=
  ∀ (m : (ℓ : Loc Cert.RwkvPostBwdIdeal.nD Cert.RwkvPostBwdIdeal.τ Cert.RwkvPostBwdIdeal.sig) → Buf (Elt Ideal) ℓ) (g : Dev Cert.RwkvPostBwdIdeal.nD → PrngReg), Pre_RwkvPostBwdIdeal_finite_post m →
    θ_run (Cert.RwkvPostBwdIdeal.defs (F := Ideal)) (onTc (τ := Cert.RwkvPostBwdIdeal.τ) (Cert.RwkvPostBwdIdeal.main (F := Ideal))) ⟨m, fun _ => 0, g⟩ (fun r => (∀ c : Dev Cert.RwkvPostBwdIdeal.nD,
      r.2.mem ((c.tc : Thread Cert.RwkvPostBwdIdeal.nD Cert.RwkvPostBwdIdeal.τ).loc Cert.RwkvPostBwdIdeal.main_arg0) = m ((c.tc : Thread Cert.RwkvPostBwdIdeal.nD Cert.RwkvPostBwdIdeal.τ).loc Cert.RwkvPostBwdIdeal.main_arg0)
      ∧ r.2.mem ((c.tc : Thread Cert.RwkvPostBwdIdeal.nD Cert.RwkvPostBwdIdeal.τ).loc Cert.RwkvPostBwdIdeal.main_arg1) = m ((c.tc : Thread Cert.RwkvPostBwdIdeal.nD Cert.RwkvPostBwdIdeal.τ).loc Cert.RwkvPostBwdIdeal.main_arg1)
      ∧ r.2.mem ((c.tc : Thread Cert.RwkvPostBwdIdeal.nD Cert.RwkvPostBwdIdeal.τ).loc Cert.RwkvPostBwdIdeal.main_arg2) = m ((c.tc : Thread Cert.RwkvPostBwdIdeal.nD Cert.RwkvPostBwdIdeal.τ).loc Cert.RwkvPostBwdIdeal.main_arg2)
      ∧ r.2.mem ((c.tc : Thread Cert.RwkvPostBwdIdeal.nD Cert.RwkvPostBwdIdeal.τ).loc Cert.RwkvPostBwdIdeal.main_arg3) = m ((c.tc : Thread Cert.RwkvPostBwdIdeal.nD Cert.RwkvPostBwdIdeal.τ).loc Cert.RwkvPostBwdIdeal.main_arg3)
      ∧ r.2.mem ((c.tc : Thread Cert.RwkvPostBwdIdeal.nD Cert.RwkvPostBwdIdeal.τ).loc Cert.RwkvPostBwdIdeal.main_arg4) = m ((c.tc : Thread Cert.RwkvPostBwdIdeal.nD Cert.RwkvPostBwdIdeal.τ).loc Cert.RwkvPostBwdIdeal.main_arg4)
      ∧ r.2.mem ((c.tc : Thread Cert.RwkvPostBwdIdeal.nD Cert.RwkvPostBwdIdeal.τ).loc Cert.RwkvPostBwdIdeal.main_arg5) = m ((c.tc : Thread Cert.RwkvPostBwdIdeal.nD Cert.RwkvPostBwdIdeal.τ).loc Cert.RwkvPostBwdIdeal.main_arg5)
      ∧ r.2.mem ((c.tc : Thread Cert.RwkvPostBwdIdeal.nD Cert.RwkvPostBwdIdeal.τ).loc Cert.RwkvPostBwdIdeal.main_arg6) = m ((c.tc : Thread Cert.RwkvPostBwdIdeal.nD Cert.RwkvPostBwdIdeal.τ).loc Cert.RwkvPostBwdIdeal.main_arg6)
      ∧ r.2.mem ((c.tc : Thread Cert.RwkvPostBwdIdeal.nD Cert.RwkvPostBwdIdeal.τ).loc Cert.RwkvPostBwdIdeal.main_arg7) = m ((c.tc : Thread Cert.RwkvPostBwdIdeal.nD Cert.RwkvPostBwdIdeal.τ).loc Cert.RwkvPostBwdIdeal.main_arg7)
      ∧ r.2.mem ((c.tc : Thread Cert.RwkvPostBwdIdeal.nD Cert.RwkvPostBwdIdeal.τ).loc Cert.RwkvPostBwdIdeal.main_arg8) = m ((c.tc : Thread Cert.RwkvPostBwdIdeal.nD Cert.RwkvPostBwdIdeal.τ).loc Cert.RwkvPostBwdIdeal.main_arg8))
      ∧ r.2.sem = fun _ => 0)

def quiescent_RwkvPostBwdRefIdeal [hRwkvPostBwdRefIdeal : Cert.RwkvPostBwdRefIdeal.Facts] : Prop :=
  ∀ (m : (ℓ : Loc Cert.RwkvPostBwdRefIdeal.nD Cert.RwkvPostBwdRefIdeal.τ Cert.RwkvPostBwdRefIdeal.sig) → Buf (Elt Ideal) ℓ) (g : Dev Cert.RwkvPostBwdRefIdeal.nD → PrngReg), Pre_RwkvPostBwdRefIdeal m →
    θ_run (Cert.RwkvPostBwdRefIdeal.defs (F := Ideal)) (onTc (τ := Cert.RwkvPostBwdRefIdeal.τ) (Cert.RwkvPostBwdRefIdeal.main (F := Ideal))) ⟨m, fun _ => 0, g⟩ (fun r => (∀ c : Dev Cert.RwkvPostBwdRefIdeal.nD,
      r.2.mem ((c.tc : Thread Cert.RwkvPostBwdRefIdeal.nD Cert.RwkvPostBwdRefIdeal.τ).loc Cert.RwkvPostBwdRefIdeal.main_arg0) = m ((c.tc : Thread Cert.RwkvPostBwdRefIdeal.nD Cert.RwkvPostBwdRefIdeal.τ).loc Cert.RwkvPostBwdRefIdeal.main_arg0)
      ∧ r.2.mem ((c.tc : Thread Cert.RwkvPostBwdRefIdeal.nD Cert.RwkvPostBwdRefIdeal.τ).loc Cert.RwkvPostBwdRefIdeal.main_arg1) = m ((c.tc : Thread Cert.RwkvPostBwdRefIdeal.nD Cert.RwkvPostBwdRefIdeal.τ).loc Cert.RwkvPostBwdRefIdeal.main_arg1)
      ∧ r.2.mem ((c.tc : Thread Cert.RwkvPostBwdRefIdeal.nD Cert.RwkvPostBwdRefIdeal.τ).loc Cert.RwkvPostBwdRefIdeal.main_arg2) = m ((c.tc : Thread Cert.RwkvPostBwdRefIdeal.nD Cert.RwkvPostBwdRefIdeal.τ).loc Cert.RwkvPostBwdRefIdeal.main_arg2)
      ∧ r.2.mem ((c.tc : Thread Cert.RwkvPostBwdRefIdeal.nD Cert.RwkvPostBwdRefIdeal.τ).loc Cert.RwkvPostBwdRefIdeal.main_arg3) = m ((c.tc : Thread Cert.RwkvPostBwdRefIdeal.nD Cert.RwkvPostBwdRefIdeal.τ).loc Cert.RwkvPostBwdRefIdeal.main_arg3)
      ∧ r.2.mem ((c.tc : Thread Cert.RwkvPostBwdRefIdeal.nD Cert.RwkvPostBwdRefIdeal.τ).loc Cert.RwkvPostBwdRefIdeal.main_arg4) = m ((c.tc : Thread Cert.RwkvPostBwdRefIdeal.nD Cert.RwkvPostBwdRefIdeal.τ).loc Cert.RwkvPostBwdRefIdeal.main_arg4)
      ∧ r.2.mem ((c.tc : Thread Cert.RwkvPostBwdRefIdeal.nD Cert.RwkvPostBwdRefIdeal.τ).loc Cert.RwkvPostBwdRefIdeal.main_arg5) = m ((c.tc : Thread Cert.RwkvPostBwdRefIdeal.nD Cert.RwkvPostBwdRefIdeal.τ).loc Cert.RwkvPostBwdRefIdeal.main_arg5)
      ∧ r.2.mem ((c.tc : Thread Cert.RwkvPostBwdRefIdeal.nD Cert.RwkvPostBwdRefIdeal.τ).loc Cert.RwkvPostBwdRefIdeal.main_arg6) = m ((c.tc : Thread Cert.RwkvPostBwdRefIdeal.nD Cert.RwkvPostBwdRefIdeal.τ).loc Cert.RwkvPostBwdRefIdeal.main_arg6)
      ∧ r.2.mem ((c.tc : Thread Cert.RwkvPostBwdRefIdeal.nD Cert.RwkvPostBwdRefIdeal.τ).loc Cert.RwkvPostBwdRefIdeal.main_arg7) = m ((c.tc : Thread Cert.RwkvPostBwdRefIdeal.nD Cert.RwkvPostBwdRefIdeal.τ).loc Cert.RwkvPostBwdRefIdeal.main_arg7)
      ∧ r.2.mem ((c.tc : Thread Cert.RwkvPostBwdRefIdeal.nD Cert.RwkvPostBwdRefIdeal.τ).loc Cert.RwkvPostBwdRefIdeal.main_arg8) = m ((c.tc : Thread Cert.RwkvPostBwdRefIdeal.nD Cert.RwkvPostBwdRefIdeal.τ).loc Cert.RwkvPostBwdRefIdeal.main_arg8))
      ∧ r.2.sem = fun _ => 0)

def quiescent_RwkvPostBwdRefIdeal_pre_finite_post [hRwkvPostBwdRefIdeal : Cert.RwkvPostBwdRefIdeal.Facts] [hPre_finite_post : Cert.Pre_finite_post.Facts] : Prop :=
  ∀ (m : (ℓ : Loc Cert.RwkvPostBwdRefIdeal.nD Cert.RwkvPostBwdRefIdeal.τ Cert.RwkvPostBwdRefIdeal.sig) → Buf (Elt Ideal) ℓ) (g : Dev Cert.RwkvPostBwdRefIdeal.nD → PrngReg), Pre_RwkvPostBwdRefIdeal_finite_post m →
    θ_run (Cert.RwkvPostBwdRefIdeal.defs (F := Ideal)) (onTc (τ := Cert.RwkvPostBwdRefIdeal.τ) (Cert.RwkvPostBwdRefIdeal.main (F := Ideal))) ⟨m, fun _ => 0, g⟩ (fun r => (∀ c : Dev Cert.RwkvPostBwdRefIdeal.nD,
      r.2.mem ((c.tc : Thread Cert.RwkvPostBwdRefIdeal.nD Cert.RwkvPostBwdRefIdeal.τ).loc Cert.RwkvPostBwdRefIdeal.main_arg0) = m ((c.tc : Thread Cert.RwkvPostBwdRefIdeal.nD Cert.RwkvPostBwdRefIdeal.τ).loc Cert.RwkvPostBwdRefIdeal.main_arg0)
      ∧ r.2.mem ((c.tc : Thread Cert.RwkvPostBwdRefIdeal.nD Cert.RwkvPostBwdRefIdeal.τ).loc Cert.RwkvPostBwdRefIdeal.main_arg1) = m ((c.tc : Thread Cert.RwkvPostBwdRefIdeal.nD Cert.RwkvPostBwdRefIdeal.τ).loc Cert.RwkvPostBwdRefIdeal.main_arg1)
      ∧ r.2.mem ((c.tc : Thread Cert.RwkvPostBwdRefIdeal.nD Cert.RwkvPostBwdRefIdeal.τ).loc Cert.RwkvPostBwdRefIdeal.main_arg2) = m ((c.tc : Thread Cert.RwkvPostBwdRefIdeal.nD Cert.RwkvPostBwdRefIdeal.τ).loc Cert.RwkvPostBwdRefIdeal.main_arg2)
      ∧ r.2.mem ((c.tc : Thread Cert.RwkvPostBwdRefIdeal.nD Cert.RwkvPostBwdRefIdeal.τ).loc Cert.RwkvPostBwdRefIdeal.main_arg3) = m ((c.tc : Thread Cert.RwkvPostBwdRefIdeal.nD Cert.RwkvPostBwdRefIdeal.τ).loc Cert.RwkvPostBwdRefIdeal.main_arg3)
      ∧ r.2.mem ((c.tc : Thread Cert.RwkvPostBwdRefIdeal.nD Cert.RwkvPostBwdRefIdeal.τ).loc Cert.RwkvPostBwdRefIdeal.main_arg4) = m ((c.tc : Thread Cert.RwkvPostBwdRefIdeal.nD Cert.RwkvPostBwdRefIdeal.τ).loc Cert.RwkvPostBwdRefIdeal.main_arg4)
      ∧ r.2.mem ((c.tc : Thread Cert.RwkvPostBwdRefIdeal.nD Cert.RwkvPostBwdRefIdeal.τ).loc Cert.RwkvPostBwdRefIdeal.main_arg5) = m ((c.tc : Thread Cert.RwkvPostBwdRefIdeal.nD Cert.RwkvPostBwdRefIdeal.τ).loc Cert.RwkvPostBwdRefIdeal.main_arg5)
      ∧ r.2.mem ((c.tc : Thread Cert.RwkvPostBwdRefIdeal.nD Cert.RwkvPostBwdRefIdeal.τ).loc Cert.RwkvPostBwdRefIdeal.main_arg6) = m ((c.tc : Thread Cert.RwkvPostBwdRefIdeal.nD Cert.RwkvPostBwdRefIdeal.τ).loc Cert.RwkvPostBwdRefIdeal.main_arg6)
      ∧ r.2.mem ((c.tc : Thread Cert.RwkvPostBwdRefIdeal.nD Cert.RwkvPostBwdRefIdeal.τ).loc Cert.RwkvPostBwdRefIdeal.main_arg7) = m ((c.tc : Thread Cert.RwkvPostBwdRefIdeal.nD Cert.RwkvPostBwdRefIdeal.τ).loc Cert.RwkvPostBwdRefIdeal.main_arg7)
      ∧ r.2.mem ((c.tc : Thread Cert.RwkvPostBwdRefIdeal.nD Cert.RwkvPostBwdRefIdeal.τ).loc Cert.RwkvPostBwdRefIdeal.main_arg8) = m ((c.tc : Thread Cert.RwkvPostBwdRefIdeal.nD Cert.RwkvPostBwdRefIdeal.τ).loc Cert.RwkvPostBwdRefIdeal.main_arg8))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_LruMix [hLruMix : Cert.LruMix.Facts] : Prop :=
  ∀ (m : (ℓ : Loc Cert.LruMix.nD Cert.LruMix.τ Cert.LruMix.sig) → Buf (Elt Bits) ℓ) (g : Dev Cert.LruMix.nD → PrngReg), Pre_LruMix m →
    θ_run (Cert.LruMix.defs (F := Bits)) (onTc (τ := Cert.LruMix.τ) (Cert.LruMix.main (F := Bits))) ⟨m, fun _ => 0, g⟩ (fun r => (∀ c : Dev Cert.LruMix.nD,
      r.2.mem ((c.tc : Thread Cert.LruMix.nD Cert.LruMix.τ).loc Cert.LruMix.main_arg0) = m ((c.tc : Thread Cert.LruMix.nD Cert.LruMix.τ).loc Cert.LruMix.main_arg0)
      ∧ r.2.mem ((c.tc : Thread Cert.LruMix.nD Cert.LruMix.τ).loc Cert.LruMix.main_arg1) = m ((c.tc : Thread Cert.LruMix.nD Cert.LruMix.τ).loc Cert.LruMix.main_arg1))
      ∧ r.2.sem = fun _ => 0)

def quiescent_LruMixIdeal [hLruMixIdeal : Cert.LruMixIdeal.Facts] : Prop :=
  ∀ (m : (ℓ : Loc Cert.LruMixIdeal.nD Cert.LruMixIdeal.τ Cert.LruMixIdeal.sig) → Buf (Elt Ideal) ℓ) (g : Dev Cert.LruMixIdeal.nD → PrngReg), Pre_LruMixIdeal m →
    θ_run (Cert.LruMixIdeal.defs (F := Ideal)) (onTc (τ := Cert.LruMixIdeal.τ) (Cert.LruMixIdeal.main (F := Ideal))) ⟨m, fun _ => 0, g⟩ (fun r => (∀ c : Dev Cert.LruMixIdeal.nD,
      r.2.mem ((c.tc : Thread Cert.LruMixIdeal.nD Cert.LruMixIdeal.τ).loc Cert.LruMixIdeal.main_arg0) = m ((c.tc : Thread Cert.LruMixIdeal.nD Cert.LruMixIdeal.τ).loc Cert.LruMixIdeal.main_arg0)
      ∧ r.2.mem ((c.tc : Thread Cert.LruMixIdeal.nD Cert.LruMixIdeal.τ).loc Cert.LruMixIdeal.main_arg1) = m ((c.tc : Thread Cert.LruMixIdeal.nD Cert.LruMixIdeal.τ).loc Cert.LruMixIdeal.main_arg1))
      ∧ r.2.sem = fun _ => 0)

def quiescent_LruMixRefIdeal [hLruMixRefIdeal : Cert.LruMixRefIdeal.Facts] : Prop :=
  ∀ (m : (ℓ : Loc Cert.LruMixRefIdeal.nD Cert.LruMixRefIdeal.τ Cert.LruMixRefIdeal.sig) → Buf (Elt Ideal) ℓ) (g : Dev Cert.LruMixRefIdeal.nD → PrngReg), Pre_LruMixRefIdeal m →
    θ_run (Cert.LruMixRefIdeal.defs (F := Ideal)) (onTc (τ := Cert.LruMixRefIdeal.τ) (Cert.LruMixRefIdeal.main (F := Ideal))) ⟨m, fun _ => 0, g⟩ (fun r => (∀ c : Dev Cert.LruMixRefIdeal.nD,
      r.2.mem ((c.tc : Thread Cert.LruMixRefIdeal.nD Cert.LruMixRefIdeal.τ).loc Cert.LruMixRefIdeal.main_arg0) = m ((c.tc : Thread Cert.LruMixRefIdeal.nD Cert.LruMixRefIdeal.τ).loc Cert.LruMixRefIdeal.main_arg0)
      ∧ r.2.mem ((c.tc : Thread Cert.LruMixRefIdeal.nD Cert.LruMixRefIdeal.τ).loc Cert.LruMixRefIdeal.main_arg1) = m ((c.tc : Thread Cert.LruMixRefIdeal.nD Cert.LruMixRefIdeal.τ).loc Cert.LruMixRefIdeal.main_arg1))
      ∧ r.2.sem = fun _ => 0)

def quiescent_RwkvMix [hRwkvMix : Cert.RwkvMix.Facts] : Prop :=
  ∀ (m : (ℓ : Loc Cert.RwkvMix.nD Cert.RwkvMix.τ Cert.RwkvMix.sig) → Buf (Elt Bits) ℓ) (g : Dev Cert.RwkvMix.nD → PrngReg), Pre_RwkvMix m →
    θ_run (Cert.RwkvMix.defs (F := Bits)) (onTc (τ := Cert.RwkvMix.τ) (Cert.RwkvMix.main (F := Bits))) ⟨m, fun _ => 0, g⟩ (fun r => (∀ c : Dev Cert.RwkvMix.nD,
      r.2.mem ((c.tc : Thread Cert.RwkvMix.nD Cert.RwkvMix.τ).loc Cert.RwkvMix.main_arg0) = m ((c.tc : Thread Cert.RwkvMix.nD Cert.RwkvMix.τ).loc Cert.RwkvMix.main_arg0)
      ∧ r.2.mem ((c.tc : Thread Cert.RwkvMix.nD Cert.RwkvMix.τ).loc Cert.RwkvMix.main_arg1) = m ((c.tc : Thread Cert.RwkvMix.nD Cert.RwkvMix.τ).loc Cert.RwkvMix.main_arg1)
      ∧ r.2.mem ((c.tc : Thread Cert.RwkvMix.nD Cert.RwkvMix.τ).loc Cert.RwkvMix.main_arg2) = m ((c.tc : Thread Cert.RwkvMix.nD Cert.RwkvMix.τ).loc Cert.RwkvMix.main_arg2))
      ∧ r.2.sem = fun _ => 0)

def quiescent_RwkvMixIdeal [hRwkvMixIdeal : Cert.RwkvMixIdeal.Facts] : Prop :=
  ∀ (m : (ℓ : Loc Cert.RwkvMixIdeal.nD Cert.RwkvMixIdeal.τ Cert.RwkvMixIdeal.sig) → Buf (Elt Ideal) ℓ) (g : Dev Cert.RwkvMixIdeal.nD → PrngReg), Pre_RwkvMixIdeal m →
    θ_run (Cert.RwkvMixIdeal.defs (F := Ideal)) (onTc (τ := Cert.RwkvMixIdeal.τ) (Cert.RwkvMixIdeal.main (F := Ideal))) ⟨m, fun _ => 0, g⟩ (fun r => (∀ c : Dev Cert.RwkvMixIdeal.nD,
      r.2.mem ((c.tc : Thread Cert.RwkvMixIdeal.nD Cert.RwkvMixIdeal.τ).loc Cert.RwkvMixIdeal.main_arg0) = m ((c.tc : Thread Cert.RwkvMixIdeal.nD Cert.RwkvMixIdeal.τ).loc Cert.RwkvMixIdeal.main_arg0)
      ∧ r.2.mem ((c.tc : Thread Cert.RwkvMixIdeal.nD Cert.RwkvMixIdeal.τ).loc Cert.RwkvMixIdeal.main_arg1) = m ((c.tc : Thread Cert.RwkvMixIdeal.nD Cert.RwkvMixIdeal.τ).loc Cert.RwkvMixIdeal.main_arg1)
      ∧ r.2.mem ((c.tc : Thread Cert.RwkvMixIdeal.nD Cert.RwkvMixIdeal.τ).loc Cert.RwkvMixIdeal.main_arg2) = m ((c.tc : Thread Cert.RwkvMixIdeal.nD Cert.RwkvMixIdeal.τ).loc Cert.RwkvMixIdeal.main_arg2))
      ∧ r.2.sem = fun _ => 0)

def quiescent_RwkvMixRefIdeal [hRwkvMixRefIdeal : Cert.RwkvMixRefIdeal.Facts] : Prop :=
  ∀ (m : (ℓ : Loc Cert.RwkvMixRefIdeal.nD Cert.RwkvMixRefIdeal.τ Cert.RwkvMixRefIdeal.sig) → Buf (Elt Ideal) ℓ) (g : Dev Cert.RwkvMixRefIdeal.nD → PrngReg), Pre_RwkvMixRefIdeal m →
    θ_run (Cert.RwkvMixRefIdeal.defs (F := Ideal)) (onTc (τ := Cert.RwkvMixRefIdeal.τ) (Cert.RwkvMixRefIdeal.main (F := Ideal))) ⟨m, fun _ => 0, g⟩ (fun r => (∀ c : Dev Cert.RwkvMixRefIdeal.nD,
      r.2.mem ((c.tc : Thread Cert.RwkvMixRefIdeal.nD Cert.RwkvMixRefIdeal.τ).loc Cert.RwkvMixRefIdeal.main_arg0) = m ((c.tc : Thread Cert.RwkvMixRefIdeal.nD Cert.RwkvMixRefIdeal.τ).loc Cert.RwkvMixRefIdeal.main_arg0)
      ∧ r.2.mem ((c.tc : Thread Cert.RwkvMixRefIdeal.nD Cert.RwkvMixRefIdeal.τ).loc Cert.RwkvMixRefIdeal.main_arg1) = m ((c.tc : Thread Cert.RwkvMixRefIdeal.nD Cert.RwkvMixRefIdeal.τ).loc Cert.RwkvMixRefIdeal.main_arg1)
      ∧ r.2.mem ((c.tc : Thread Cert.RwkvMixRefIdeal.nD Cert.RwkvMixRefIdeal.τ).loc Cert.RwkvMixRefIdeal.main_arg2) = m ((c.tc : Thread Cert.RwkvMixRefIdeal.nD Cert.RwkvMixRefIdeal.τ).loc Cert.RwkvMixRefIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_v1_0)) (v2 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_v1_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_v20) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)) →
    ∃ (v0 : (c : Dev Cert.FfnUpIdeal.nD) → Buf (Elt Ideal) ((c.tc : Thread Cert.FfnUpIdeal.nD Cert.FfnUpIdeal.τ).loc Cert.FfnUpIdeal.main_v4)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v4) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v3) = v0 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)) →
    ∃ (v0 : (c : Dev Cert.FfnDownIdeal.nD) → Buf (Elt Ideal) ((c.tc : Thread Cert.FfnDownIdeal.nD Cert.FfnDownIdeal.τ).loc Cert.FfnDownIdeal.main_v2)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v2) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v1) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2))

def preserves_FfnDownDx_FfnDownDxIdeal : Prop :=
  True

def algebraic_FfnDownDxIdeal_FfnDownDxRefIdeal [hFfnDownDxIdeal : Cert.FfnDownDxIdeal.Facts] [hFfnDownDxRefIdeal : Cert.FfnDownDxRefIdeal.Facts] : Prop :=
  ∀ (m : (ℓ : Loc Cert.FfnDownDxIdeal.nD Cert.FfnDownDxIdeal.τ Cert.FfnDownDxIdeal.sig) → Buf (Elt Ideal) ℓ) (g : Dev Cert.FfnDownDxIdeal.nD → PrngReg)
    (m' : (ℓ : Loc Cert.FfnDownDxRefIdeal.nD Cert.FfnDownDxRefIdeal.τ Cert.FfnDownDxRefIdeal.sig) → Buf (Elt Ideal) ℓ) (g' : Dev Cert.FfnDownDxRefIdeal.nD → PrngReg), Pre_FfnDownDxIdeal m →
    (∀ c : Dev Cert.FfnDownDxIdeal.nD,
      m' ((c.tc : Thread Cert.FfnDownDxRefIdeal.nD Cert.FfnDownDxRefIdeal.τ).loc Cert.FfnDownDxRefIdeal.main_arg0) = m ((c.tc : Thread Cert.FfnDownDxIdeal.nD Cert.FfnDownDxIdeal.τ).loc Cert.FfnDownDxIdeal.main_arg0)
      ∧ m' ((c.tc : Thread Cert.FfnDownDxRefIdeal.nD Cert.FfnDownDxRefIdeal.τ).loc Cert.FfnDownDxRefIdeal.main_arg1) = m ((c.tc : Thread Cert.FfnDownDxIdeal.nD Cert.FfnDownDxIdeal.τ).loc Cert.FfnDownDxIdeal.main_arg1)) →
    ∃ (v0 : (c : Dev Cert.FfnDownDxIdeal.nD) → Buf (Elt Ideal) ((c.tc : Thread Cert.FfnDownDxIdeal.nD Cert.FfnDownDxIdeal.τ).loc Cert.FfnDownDxIdeal.main_v2)),
      θ_run (Cert.FfnDownDxIdeal.defs (F := Ideal)) (onTc (τ := Cert.FfnDownDxIdeal.τ) (Cert.FfnDownDxIdeal.main (F := Ideal))) ⟨m, fun _ => 0, g⟩ (fun r => ∀ c : Dev Cert.FfnDownDxIdeal.nD,
          r.2.mem ((c.tc : Thread Cert.FfnDownDxIdeal.nD Cert.FfnDownDxIdeal.τ).loc Cert.FfnDownDxIdeal.main_v2) = v0 c
          ∧ r.2.mem ((c.tc : Thread Cert.FfnDownDxIdeal.nD Cert.FfnDownDxIdeal.τ).loc Cert.FfnDownDxIdeal.main_arg0) = m ((c.tc : Thread Cert.FfnDownDxIdeal.nD Cert.FfnDownDxIdeal.τ).loc Cert.FfnDownDxIdeal.main_arg0)
          ∧ r.2.mem ((c.tc : Thread Cert.FfnDownDxIdeal.nD Cert.FfnDownDxIdeal.τ).loc Cert.FfnDownDxIdeal.main_arg1) = m ((c.tc : Thread Cert.FfnDownDxIdeal.nD Cert.FfnDownDxIdeal.τ).loc Cert.FfnDownDxIdeal.main_arg1))
      ∧ θ_run (Cert.FfnDownDxRefIdeal.defs (F := Ideal)) (onTc (τ := Cert.FfnDownDxRefIdeal.τ) (Cert.FfnDownDxRefIdeal.main (F := Ideal))) ⟨m', fun _ => 0, g'⟩ (fun r => ∀ c : Dev Cert.FfnDownDxRefIdeal.nD,
          r.2.mem ((c.tc : Thread Cert.FfnDownDxRefIdeal.nD Cert.FfnDownDxRefIdeal.τ).loc Cert.FfnDownDxRefIdeal.main_v3) = v0 c
          ∧ r.2.mem ((c.tc : Thread Cert.FfnDownDxRefIdeal.nD Cert.FfnDownDxRefIdeal.τ).loc Cert.FfnDownDxRefIdeal.main_arg0) = m' ((c.tc : Thread Cert.FfnDownDxRefIdeal.nD Cert.FfnDownDxRefIdeal.τ).loc Cert.FfnDownDxRefIdeal.main_arg0)
          ∧ r.2.mem ((c.tc : Thread Cert.FfnDownDxRefIdeal.nD Cert.FfnDownDxRefIdeal.τ).loc Cert.FfnDownDxRefIdeal.main_arg1) = m' ((c.tc : Thread Cert.FfnDownDxRefIdeal.nD Cert.FfnDownDxRefIdeal.τ).loc Cert.FfnDownDxRefIdeal.main_arg1))

def preserves_FfnDownDw_FfnDownDwIdeal : Prop :=
  True

def algebraic_FfnDownDwIdeal_FfnDownDwRefIdeal [hFfnDownDwIdeal : Cert.FfnDownDwIdeal.Facts] [hFfnDownDwRefIdeal : Cert.FfnDownDwRefIdeal.Facts] : Prop :=
  ∀ (m : (ℓ : Loc Cert.FfnDownDwIdeal.nD Cert.FfnDownDwIdeal.τ Cert.FfnDownDwIdeal.sig) → Buf (Elt Ideal) ℓ) (g : Dev Cert.FfnDownDwIdeal.nD → PrngReg)
    (m' : (ℓ : Loc Cert.FfnDownDwRefIdeal.nD Cert.FfnDownDwRefIdeal.τ Cert.FfnDownDwRefIdeal.sig) → Buf (Elt Ideal) ℓ) (g' : Dev Cert.FfnDownDwRefIdeal.nD → PrngReg), Pre_FfnDownDwIdeal m →
    (∀ c : Dev Cert.FfnDownDwIdeal.nD,
      m' ((c.tc : Thread Cert.FfnDownDwRefIdeal.nD Cert.FfnDownDwRefIdeal.τ).loc Cert.FfnDownDwRefIdeal.main_arg0) = m ((c.tc : Thread Cert.FfnDownDwIdeal.nD Cert.FfnDownDwIdeal.τ).loc Cert.FfnDownDwIdeal.main_arg0)
      ∧ m' ((c.tc : Thread Cert.FfnDownDwRefIdeal.nD Cert.FfnDownDwRefIdeal.τ).loc Cert.FfnDownDwRefIdeal.main_arg1) = m ((c.tc : Thread Cert.FfnDownDwIdeal.nD Cert.FfnDownDwIdeal.τ).loc Cert.FfnDownDwIdeal.main_arg1)) →
    ∃ (v0 : (c : Dev Cert.FfnDownDwIdeal.nD) → Buf (Elt Ideal) ((c.tc : Thread Cert.FfnDownDwIdeal.nD Cert.FfnDownDwIdeal.τ).loc Cert.FfnDownDwIdeal.main_v2)),
      θ_run (Cert.FfnDownDwIdeal.defs (F := Ideal)) (onTc (τ := Cert.FfnDownDwIdeal.τ) (Cert.FfnDownDwIdeal.main (F := Ideal))) ⟨m, fun _ => 0, g⟩ (fun r => ∀ c : Dev Cert.FfnDownDwIdeal.nD,
          r.2.mem ((c.tc : Thread Cert.FfnDownDwIdeal.nD Cert.FfnDownDwIdeal.τ).loc Cert.FfnDownDwIdeal.main_v2) = v0 c
          ∧ r.2.mem ((c.tc : Thread Cert.FfnDownDwIdeal.nD Cert.FfnDownDwIdeal.τ).loc Cert.FfnDownDwIdeal.main_arg0) = m ((c.tc : Thread Cert.FfnDownDwIdeal.nD Cert.FfnDownDwIdeal.τ).loc Cert.FfnDownDwIdeal.main_arg0)
          ∧ r.2.mem ((c.tc : Thread Cert.FfnDownDwIdeal.nD Cert.FfnDownDwIdeal.τ).loc Cert.FfnDownDwIdeal.main_arg1) = m ((c.tc : Thread Cert.FfnDownDwIdeal.nD Cert.FfnDownDwIdeal.τ).loc Cert.FfnDownDwIdeal.main_arg1))
      ∧ θ_run (Cert.FfnDownDwRefIdeal.defs (F := Ideal)) (onTc (τ := Cert.FfnDownDwRefIdeal.τ) (Cert.FfnDownDwRefIdeal.main (F := Ideal))) ⟨m', fun _ => 0, g'⟩ (fun r => ∀ c : Dev Cert.FfnDownDwRefIdeal.nD,
          r.2.mem ((c.tc : Thread Cert.FfnDownDwRefIdeal.nD Cert.FfnDownDwRefIdeal.τ).loc Cert.FfnDownDwRefIdeal.main_v4) = v0 c
          ∧ r.2.mem ((c.tc : Thread Cert.FfnDownDwRefIdeal.nD Cert.FfnDownDwRefIdeal.τ).loc Cert.FfnDownDwRefIdeal.main_arg0) = m' ((c.tc : Thread Cert.FfnDownDwRefIdeal.nD Cert.FfnDownDwRefIdeal.τ).loc Cert.FfnDownDwRefIdeal.main_arg0)
          ∧ r.2.mem ((c.tc : Thread Cert.FfnDownDwRefIdeal.nD Cert.FfnDownDwRefIdeal.τ).loc Cert.FfnDownDwRefIdeal.main_arg1) = m' ((c.tc : Thread Cert.FfnDownDwRefIdeal.nD Cert.FfnDownDwRefIdeal.τ).loc Cert.FfnDownDwRefIdeal.main_arg1))

def preserves_FfnUpDx_FfnUpDxIdeal : Prop :=
  True

def algebraic_FfnUpDxIdeal_FfnUpDxRefIdeal [hFfnUpDxIdeal : Cert.FfnUpDxIdeal.Facts] [hFfnUpDxRefIdeal : Cert.FfnUpDxRefIdeal.Facts] : Prop :=
  ∀ (m : (ℓ : Loc Cert.FfnUpDxIdeal.nD Cert.FfnUpDxIdeal.τ Cert.FfnUpDxIdeal.sig) → Buf (Elt Ideal) ℓ) (g : Dev Cert.FfnUpDxIdeal.nD → PrngReg)
    (m' : (ℓ : Loc Cert.FfnUpDxRefIdeal.nD Cert.FfnUpDxRefIdeal.τ Cert.FfnUpDxRefIdeal.sig) → Buf (Elt Ideal) ℓ) (g' : Dev Cert.FfnUpDxRefIdeal.nD → PrngReg), Pre_FfnUpDxIdeal m →
    (∀ c : Dev Cert.FfnUpDxIdeal.nD,
      m' ((c.tc : Thread Cert.FfnUpDxRefIdeal.nD Cert.FfnUpDxRefIdeal.τ).loc Cert.FfnUpDxRefIdeal.main_arg0) = m ((c.tc : Thread Cert.FfnUpDxIdeal.nD Cert.FfnUpDxIdeal.τ).loc Cert.FfnUpDxIdeal.main_arg0)
      ∧ m' ((c.tc : Thread Cert.FfnUpDxRefIdeal.nD Cert.FfnUpDxRefIdeal.τ).loc Cert.FfnUpDxRefIdeal.main_arg1) = m ((c.tc : Thread Cert.FfnUpDxIdeal.nD Cert.FfnUpDxIdeal.τ).loc Cert.FfnUpDxIdeal.main_arg1)) →
    ∃ (v0 : (c : Dev Cert.FfnUpDxIdeal.nD) → Buf (Elt Ideal) ((c.tc : Thread Cert.FfnUpDxIdeal.nD Cert.FfnUpDxIdeal.τ).loc Cert.FfnUpDxIdeal.main_v4)),
      θ_run (Cert.FfnUpDxIdeal.defs (F := Ideal)) (onTc (τ := Cert.FfnUpDxIdeal.τ) (Cert.FfnUpDxIdeal.main (F := Ideal))) ⟨m, fun _ => 0, g⟩ (fun r => ∀ c : Dev Cert.FfnUpDxIdeal.nD,
          r.2.mem ((c.tc : Thread Cert.FfnUpDxIdeal.nD Cert.FfnUpDxIdeal.τ).loc Cert.FfnUpDxIdeal.main_v4) = v0 c
          ∧ r.2.mem ((c.tc : Thread Cert.FfnUpDxIdeal.nD Cert.FfnUpDxIdeal.τ).loc Cert.FfnUpDxIdeal.main_arg0) = m ((c.tc : Thread Cert.FfnUpDxIdeal.nD Cert.FfnUpDxIdeal.τ).loc Cert.FfnUpDxIdeal.main_arg0)
          ∧ r.2.mem ((c.tc : Thread Cert.FfnUpDxIdeal.nD Cert.FfnUpDxIdeal.τ).loc Cert.FfnUpDxIdeal.main_arg1) = m ((c.tc : Thread Cert.FfnUpDxIdeal.nD Cert.FfnUpDxIdeal.τ).loc Cert.FfnUpDxIdeal.main_arg1))
      ∧ θ_run (Cert.FfnUpDxRefIdeal.defs (F := Ideal)) (onTc (τ := Cert.FfnUpDxRefIdeal.τ) (Cert.FfnUpDxRefIdeal.main (F := Ideal))) ⟨m', fun _ => 0, g'⟩ (fun r => ∀ c : Dev Cert.FfnUpDxRefIdeal.nD,
          r.2.mem ((c.tc : Thread Cert.FfnUpDxRefIdeal.nD Cert.FfnUpDxRefIdeal.τ).loc Cert.FfnUpDxRefIdeal.main_v4) = v0 c
          ∧ r.2.mem ((c.tc : Thread Cert.FfnUpDxRefIdeal.nD Cert.FfnUpDxRefIdeal.τ).loc Cert.FfnUpDxRefIdeal.main_arg0) = m' ((c.tc : Thread Cert.FfnUpDxRefIdeal.nD Cert.FfnUpDxRefIdeal.τ).loc Cert.FfnUpDxRefIdeal.main_arg0)
          ∧ r.2.mem ((c.tc : Thread Cert.FfnUpDxRefIdeal.nD Cert.FfnUpDxRefIdeal.τ).loc Cert.FfnUpDxRefIdeal.main_arg1) = m' ((c.tc : Thread Cert.FfnUpDxRefIdeal.nD Cert.FfnUpDxRefIdeal.τ).loc Cert.FfnUpDxRefIdeal.main_arg1))

def preserves_FfnUp1_FfnUp1Ideal : Prop :=
  True

def algebraic_FfnUp1Ideal_FfnUp1RefIdeal [hFfnUp1Ideal : Cert.FfnUp1Ideal.Facts] [hFfnUp1RefIdeal : Cert.FfnUp1RefIdeal.Facts] : Prop :=
  ∀ (m : (ℓ : Loc Cert.FfnUp1Ideal.nD Cert.FfnUp1Ideal.τ Cert.FfnUp1Ideal.sig) → Buf (Elt Ideal) ℓ) (g : Dev Cert.FfnUp1Ideal.nD → PrngReg)
    (m' : (ℓ : Loc Cert.FfnUp1RefIdeal.nD Cert.FfnUp1RefIdeal.τ Cert.FfnUp1RefIdeal.sig) → Buf (Elt Ideal) ℓ) (g' : Dev Cert.FfnUp1RefIdeal.nD → PrngReg), Pre_FfnUp1Ideal m →
    (∀ c : Dev Cert.FfnUp1Ideal.nD,
      m' ((c.tc : Thread Cert.FfnUp1RefIdeal.nD Cert.FfnUp1RefIdeal.τ).loc Cert.FfnUp1RefIdeal.main_arg0) = m ((c.tc : Thread Cert.FfnUp1Ideal.nD Cert.FfnUp1Ideal.τ).loc Cert.FfnUp1Ideal.main_arg0)
      ∧ m' ((c.tc : Thread Cert.FfnUp1RefIdeal.nD Cert.FfnUp1RefIdeal.τ).loc Cert.FfnUp1RefIdeal.main_arg1) = m ((c.tc : Thread Cert.FfnUp1Ideal.nD Cert.FfnUp1Ideal.τ).loc Cert.FfnUp1Ideal.main_arg1)) →
    ∃ (v0 : (c : Dev Cert.FfnUp1Ideal.nD) → Buf (Elt Ideal) ((c.tc : Thread Cert.FfnUp1Ideal.nD Cert.FfnUp1Ideal.τ).loc Cert.FfnUp1Ideal.main_v4)),
      θ_run (Cert.FfnUp1Ideal.defs (F := Ideal)) (onTc (τ := Cert.FfnUp1Ideal.τ) (Cert.FfnUp1Ideal.main (F := Ideal))) ⟨m, fun _ => 0, g⟩ (fun r => ∀ c : Dev Cert.FfnUp1Ideal.nD,
          r.2.mem ((c.tc : Thread Cert.FfnUp1Ideal.nD Cert.FfnUp1Ideal.τ).loc Cert.FfnUp1Ideal.main_v4) = v0 c
          ∧ r.2.mem ((c.tc : Thread Cert.FfnUp1Ideal.nD Cert.FfnUp1Ideal.τ).loc Cert.FfnUp1Ideal.main_arg0) = m ((c.tc : Thread Cert.FfnUp1Ideal.nD Cert.FfnUp1Ideal.τ).loc Cert.FfnUp1Ideal.main_arg0)
          ∧ r.2.mem ((c.tc : Thread Cert.FfnUp1Ideal.nD Cert.FfnUp1Ideal.τ).loc Cert.FfnUp1Ideal.main_arg1) = m ((c.tc : Thread Cert.FfnUp1Ideal.nD Cert.FfnUp1Ideal.τ).loc Cert.FfnUp1Ideal.main_arg1))
      ∧ θ_run (Cert.FfnUp1RefIdeal.defs (F := Ideal)) (onTc (τ := Cert.FfnUp1RefIdeal.τ) (Cert.FfnUp1RefIdeal.main (F := Ideal))) ⟨m', fun _ => 0, g'⟩ (fun r => ∀ c : Dev Cert.FfnUp1RefIdeal.nD,
          r.2.mem ((c.tc : Thread Cert.FfnUp1RefIdeal.nD Cert.FfnUp1RefIdeal.τ).loc Cert.FfnUp1RefIdeal.main_v3) = v0 c
          ∧ r.2.mem ((c.tc : Thread Cert.FfnUp1RefIdeal.nD Cert.FfnUp1RefIdeal.τ).loc Cert.FfnUp1RefIdeal.main_arg0) = m' ((c.tc : Thread Cert.FfnUp1RefIdeal.nD Cert.FfnUp1RefIdeal.τ).loc Cert.FfnUp1RefIdeal.main_arg0)
          ∧ r.2.mem ((c.tc : Thread Cert.FfnUp1RefIdeal.nD Cert.FfnUp1RefIdeal.τ).loc Cert.FfnUp1RefIdeal.main_arg1) = m' ((c.tc : Thread Cert.FfnUp1RefIdeal.nD Cert.FfnUp1RefIdeal.τ).loc Cert.FfnUp1RefIdeal.main_arg1))

def preserves_FfnUp1Dx_FfnUp1DxIdeal : Prop :=
  True

def algebraic_FfnUp1DxIdeal_FfnUp1DxRefIdeal [hFfnUp1DxIdeal : Cert.FfnUp1DxIdeal.Facts] [hFfnUp1DxRefIdeal : Cert.FfnUp1DxRefIdeal.Facts] : Prop :=
  ∀ (m : (ℓ : Loc Cert.FfnUp1DxIdeal.nD Cert.FfnUp1DxIdeal.τ Cert.FfnUp1DxIdeal.sig) → Buf (Elt Ideal) ℓ) (g : Dev Cert.FfnUp1DxIdeal.nD → PrngReg)
    (m' : (ℓ : Loc Cert.FfnUp1DxRefIdeal.nD Cert.FfnUp1DxRefIdeal.τ Cert.FfnUp1DxRefIdeal.sig) → Buf (Elt Ideal) ℓ) (g' : Dev Cert.FfnUp1DxRefIdeal.nD → PrngReg), Pre_FfnUp1DxIdeal m →
    (∀ c : Dev Cert.FfnUp1DxIdeal.nD,
      m' ((c.tc : Thread Cert.FfnUp1DxRefIdeal.nD Cert.FfnUp1DxRefIdeal.τ).loc Cert.FfnUp1DxRefIdeal.main_arg0) = m ((c.tc : Thread Cert.FfnUp1DxIdeal.nD Cert.FfnUp1DxIdeal.τ).loc Cert.FfnUp1DxIdeal.main_arg0)
      ∧ m' ((c.tc : Thread Cert.FfnUp1DxRefIdeal.nD Cert.FfnUp1DxRefIdeal.τ).loc Cert.FfnUp1DxRefIdeal.main_arg1) = m ((c.tc : Thread Cert.FfnUp1DxIdeal.nD Cert.FfnUp1DxIdeal.τ).loc Cert.FfnUp1DxIdeal.main_arg1)) →
    ∃ (v0 : (c : Dev Cert.FfnUp1DxIdeal.nD) → Buf (Elt Ideal) ((c.tc : Thread Cert.FfnUp1DxIdeal.nD Cert.FfnUp1DxIdeal.τ).loc Cert.FfnUp1DxIdeal.main_v4)),
      θ_run (Cert.FfnUp1DxIdeal.defs (F := Ideal)) (onTc (τ := Cert.FfnUp1DxIdeal.τ) (Cert.FfnUp1DxIdeal.main (F := Ideal))) ⟨m, fun _ => 0, g⟩ (fun r => ∀ c : Dev Cert.FfnUp1DxIdeal.nD,
          r.2.mem ((c.tc : Thread Cert.FfnUp1DxIdeal.nD Cert.FfnUp1DxIdeal.τ).loc Cert.FfnUp1DxIdeal.main_v4) = v0 c
          ∧ r.2.mem ((c.tc : Thread Cert.FfnUp1DxIdeal.nD Cert.FfnUp1DxIdeal.τ).loc Cert.FfnUp1DxIdeal.main_arg0) = m ((c.tc : Thread Cert.FfnUp1DxIdeal.nD Cert.FfnUp1DxIdeal.τ).loc Cert.FfnUp1DxIdeal.main_arg0)
          ∧ r.2.mem ((c.tc : Thread Cert.FfnUp1DxIdeal.nD Cert.FfnUp1DxIdeal.τ).loc Cert.FfnUp1DxIdeal.main_arg1) = m ((c.tc : Thread Cert.FfnUp1DxIdeal.nD Cert.FfnUp1DxIdeal.τ).loc Cert.FfnUp1DxIdeal.main_arg1))
      ∧ θ_run (Cert.FfnUp1DxRefIdeal.defs (F := Ideal)) (onTc (τ := Cert.FfnUp1DxRefIdeal.τ) (Cert.FfnUp1DxRefIdeal.main (F := Ideal))) ⟨m', fun _ => 0, g'⟩ (fun r => ∀ c : Dev Cert.FfnUp1DxRefIdeal.nD,
          r.2.mem ((c.tc : Thread Cert.FfnUp1DxRefIdeal.nD Cert.FfnUp1DxRefIdeal.τ).loc Cert.FfnUp1DxRefIdeal.main_v4) = v0 c
          ∧ r.2.mem ((c.tc : Thread Cert.FfnUp1DxRefIdeal.nD Cert.FfnUp1DxRefIdeal.τ).loc Cert.FfnUp1DxRefIdeal.main_arg0) = m' ((c.tc : Thread Cert.FfnUp1DxRefIdeal.nD Cert.FfnUp1DxRefIdeal.τ).loc Cert.FfnUp1DxRefIdeal.main_arg0)
          ∧ r.2.mem ((c.tc : Thread Cert.FfnUp1DxRefIdeal.nD Cert.FfnUp1DxRefIdeal.τ).loc Cert.FfnUp1DxRefIdeal.main_arg1) = m' ((c.tc : Thread Cert.FfnUp1DxRefIdeal.nD Cert.FfnUp1DxRefIdeal.τ).loc Cert.FfnUp1DxRefIdeal.main_arg1))

def preserves_FfnUpDw_FfnUpDwIdeal : Prop :=
  True

def algebraic_FfnUpDwIdeal_FfnUpDwRefIdeal [hFfnUpDwIdeal : Cert.FfnUpDwIdeal.Facts] [hFfnUpDwRefIdeal : Cert.FfnUpDwRefIdeal.Facts] : Prop :=
  ∀ (m : (ℓ : Loc Cert.FfnUpDwIdeal.nD Cert.FfnUpDwIdeal.τ Cert.FfnUpDwIdeal.sig) → Buf (Elt Ideal) ℓ) (g : Dev Cert.FfnUpDwIdeal.nD → PrngReg)
    (m' : (ℓ : Loc Cert.FfnUpDwRefIdeal.nD Cert.FfnUpDwRefIdeal.τ Cert.FfnUpDwRefIdeal.sig) → Buf (Elt Ideal) ℓ) (g' : Dev Cert.FfnUpDwRefIdeal.nD → PrngReg), Pre_FfnUpDwIdeal m →
    (∀ c : Dev Cert.FfnUpDwIdeal.nD,
      m' ((c.tc : Thread Cert.FfnUpDwRefIdeal.nD Cert.FfnUpDwRefIdeal.τ).loc Cert.FfnUpDwRefIdeal.main_arg0) = m ((c.tc : Thread Cert.FfnUpDwIdeal.nD Cert.FfnUpDwIdeal.τ).loc Cert.FfnUpDwIdeal.main_arg0)
      ∧ m' ((c.tc : Thread Cert.FfnUpDwRefIdeal.nD Cert.FfnUpDwRefIdeal.τ).loc Cert.FfnUpDwRefIdeal.main_arg1) = m ((c.tc : Thread Cert.FfnUpDwIdeal.nD Cert.FfnUpDwIdeal.τ).loc Cert.FfnUpDwIdeal.main_arg1)) →
    ∃ (v0 : (c : Dev Cert.FfnUpDwIdeal.nD) → Buf (Elt Ideal) ((c.tc : Thread Cert.FfnUpDwIdeal.nD Cert.FfnUpDwIdeal.τ).loc Cert.FfnUpDwIdeal.main_v2)),
      θ_run (Cert.FfnUpDwIdeal.defs (F := Ideal)) (onTc (τ := Cert.FfnUpDwIdeal.τ) (Cert.FfnUpDwIdeal.main (F := Ideal))) ⟨m, fun _ => 0, g⟩ (fun r => ∀ c : Dev Cert.FfnUpDwIdeal.nD,
          r.2.mem ((c.tc : Thread Cert.FfnUpDwIdeal.nD Cert.FfnUpDwIdeal.τ).loc Cert.FfnUpDwIdeal.main_v2) = v0 c
          ∧ r.2.mem ((c.tc : Thread Cert.FfnUpDwIdeal.nD Cert.FfnUpDwIdeal.τ).loc Cert.FfnUpDwIdeal.main_arg0) = m ((c.tc : Thread Cert.FfnUpDwIdeal.nD Cert.FfnUpDwIdeal.τ).loc Cert.FfnUpDwIdeal.main_arg0)
          ∧ r.2.mem ((c.tc : Thread Cert.FfnUpDwIdeal.nD Cert.FfnUpDwIdeal.τ).loc Cert.FfnUpDwIdeal.main_arg1) = m ((c.tc : Thread Cert.FfnUpDwIdeal.nD Cert.FfnUpDwIdeal.τ).loc Cert.FfnUpDwIdeal.main_arg1))
      ∧ θ_run (Cert.FfnUpDwRefIdeal.defs (F := Ideal)) (onTc (τ := Cert.FfnUpDwRefIdeal.τ) (Cert.FfnUpDwRefIdeal.main (F := Ideal))) ⟨m', fun _ => 0, g'⟩ (fun r => ∀ c : Dev Cert.FfnUpDwRefIdeal.nD,
          r.2.mem ((c.tc : Thread Cert.FfnUpDwRefIdeal.nD Cert.FfnUpDwRefIdeal.τ).loc Cert.FfnUpDwRefIdeal.main_v6) = v0 c
          ∧ r.2.mem ((c.tc : Thread Cert.FfnUpDwRefIdeal.nD Cert.FfnUpDwRefIdeal.τ).loc Cert.FfnUpDwRefIdeal.main_arg0) = m' ((c.tc : Thread Cert.FfnUpDwRefIdeal.nD Cert.FfnUpDwRefIdeal.τ).loc Cert.FfnUpDwRefIdeal.main_arg0)
          ∧ r.2.mem ((c.tc : Thread Cert.FfnUpDwRefIdeal.nD Cert.FfnUpDwRefIdeal.τ).loc Cert.FfnUpDwRefIdeal.main_arg1) = m' ((c.tc : Thread Cert.FfnUpDwRefIdeal.nD Cert.FfnUpDwRefIdeal.τ).loc Cert.FfnUpDwRefIdeal.main_arg1))

def preserves_LruIn_LruInIdeal : Prop :=
  True

def algebraic_LruInIdeal_LruInRefIdeal [hLruInIdeal : Cert.LruInIdeal.Facts] [hLruInRefIdeal : Cert.LruInRefIdeal.Facts] : Prop :=
  ∀ (m : (ℓ : Loc Cert.LruInIdeal.nD Cert.LruInIdeal.τ Cert.LruInIdeal.sig) → Buf (Elt Ideal) ℓ) (g : Dev Cert.LruInIdeal.nD → PrngReg)
    (m' : (ℓ : Loc Cert.LruInRefIdeal.nD Cert.LruInRefIdeal.τ Cert.LruInRefIdeal.sig) → Buf (Elt Ideal) ℓ) (g' : Dev Cert.LruInRefIdeal.nD → PrngReg), Pre_LruInIdeal m →
    (∀ c : Dev Cert.LruInIdeal.nD,
      m' ((c.tc : Thread Cert.LruInRefIdeal.nD Cert.LruInRefIdeal.τ).loc Cert.LruInRefIdeal.main_arg0) = m ((c.tc : Thread Cert.LruInIdeal.nD Cert.LruInIdeal.τ).loc Cert.LruInIdeal.main_arg0)
      ∧ m' ((c.tc : Thread Cert.LruInRefIdeal.nD Cert.LruInRefIdeal.τ).loc Cert.LruInRefIdeal.main_arg1) = m ((c.tc : Thread Cert.LruInIdeal.nD Cert.LruInIdeal.τ).loc Cert.LruInIdeal.main_arg1)
      ∧ m' ((c.tc : Thread Cert.LruInRefIdeal.nD Cert.LruInRefIdeal.τ).loc Cert.LruInRefIdeal.main_arg2) = m ((c.tc : Thread Cert.LruInIdeal.nD Cert.LruInIdeal.τ).loc Cert.LruInIdeal.main_arg2)) →
    ∃ (v0 : (c : Dev Cert.LruInIdeal.nD) → Buf (Elt Ideal) ((c.tc : Thread Cert.LruInIdeal.nD Cert.LruInIdeal.τ).loc Cert.LruInIdeal.main_v5)),
      θ_run (Cert.LruInIdeal.defs (F := Ideal)) (onTc (τ := Cert.LruInIdeal.τ) (Cert.LruInIdeal.main (F := Ideal))) ⟨m, fun _ => 0, g⟩ (fun r => ∀ c : Dev Cert.LruInIdeal.nD,
          r.2.mem ((c.tc : Thread Cert.LruInIdeal.nD Cert.LruInIdeal.τ).loc Cert.LruInIdeal.main_v5) = v0 c
          ∧ r.2.mem ((c.tc : Thread Cert.LruInIdeal.nD Cert.LruInIdeal.τ).loc Cert.LruInIdeal.main_arg0) = m ((c.tc : Thread Cert.LruInIdeal.nD Cert.LruInIdeal.τ).loc Cert.LruInIdeal.main_arg0)
          ∧ r.2.mem ((c.tc : Thread Cert.LruInIdeal.nD Cert.LruInIdeal.τ).loc Cert.LruInIdeal.main_arg1) = m ((c.tc : Thread Cert.LruInIdeal.nD Cert.LruInIdeal.τ).loc Cert.LruInIdeal.main_arg1)
          ∧ r.2.mem ((c.tc : Thread Cert.LruInIdeal.nD Cert.LruInIdeal.τ).loc Cert.LruInIdeal.main_arg2) = m ((c.tc : Thread Cert.LruInIdeal.nD Cert.LruInIdeal.τ).loc Cert.LruInIdeal.main_arg2))
      ∧ θ_run (Cert.LruInRefIdeal.defs (F := Ideal)) (onTc (τ := Cert.LruInRefIdeal.τ) (Cert.LruInRefIdeal.main (F := Ideal))) ⟨m', fun _ => 0, g'⟩ (fun r => ∀ c : Dev Cert.LruInRefIdeal.nD,
          r.2.mem ((c.tc : Thread Cert.LruInRefIdeal.nD Cert.LruInRefIdeal.τ).loc Cert.LruInRefIdeal.main_v4) = v0 c
          ∧ r.2.mem ((c.tc : Thread Cert.LruInRefIdeal.nD Cert.LruInRefIdeal.τ).loc Cert.LruInRefIdeal.main_arg0) = m' ((c.tc : Thread Cert.LruInRefIdeal.nD Cert.LruInRefIdeal.τ).loc Cert.LruInRefIdeal.main_arg0)
          ∧ r.2.mem ((c.tc : Thread Cert.LruInRefIdeal.nD Cert.LruInRefIdeal.τ).loc Cert.LruInRefIdeal.main_arg1) = m' ((c.tc : Thread Cert.LruInRefIdeal.nD Cert.LruInRefIdeal.τ).loc Cert.LruInRefIdeal.main_arg1)
          ∧ r.2.mem ((c.tc : Thread Cert.LruInRefIdeal.nD Cert.LruInRefIdeal.τ).loc Cert.LruInRefIdeal.main_arg2) = m' ((c.tc : Thread Cert.LruInRefIdeal.nD Cert.LruInRefIdeal.τ).loc Cert.LruInRefIdeal.main_arg2))

def preserves_LruInDx_LruInDxIdeal : Prop :=
  True

def algebraic_LruInDxIdeal_LruInDxRefIdeal [hLruInDxIdeal : Cert.LruInDxIdeal.Facts] [hLruInDxRefIdeal : Cert.LruInDxRefIdeal.Facts] : Prop :=
  ∀ (m : (ℓ : Loc Cert.LruInDxIdeal.nD Cert.LruInDxIdeal.τ Cert.LruInDxIdeal.sig) → Buf (Elt Ideal) ℓ) (g : Dev Cert.LruInDxIdeal.nD → PrngReg)
    (m' : (ℓ : Loc Cert.LruInDxRefIdeal.nD Cert.LruInDxRefIdeal.τ Cert.LruInDxRefIdeal.sig) → Buf (Elt Ideal) ℓ) (g' : Dev Cert.LruInDxRefIdeal.nD → PrngReg), Pre_LruInDxIdeal m →
    (∀ c : Dev Cert.LruInDxIdeal.nD,
      m' ((c.tc : Thread Cert.LruInDxRefIdeal.nD Cert.LruInDxRefIdeal.τ).loc Cert.LruInDxRefIdeal.main_arg0) = m ((c.tc : Thread Cert.LruInDxIdeal.nD Cert.LruInDxIdeal.τ).loc Cert.LruInDxIdeal.main_arg0)
      ∧ m' ((c.tc : Thread Cert.LruInDxRefIdeal.nD Cert.LruInDxRefIdeal.τ).loc Cert.LruInDxRefIdeal.main_arg1) = m ((c.tc : Thread Cert.LruInDxIdeal.nD Cert.LruInDxIdeal.τ).loc Cert.LruInDxIdeal.main_arg1)) →
    ∃ (v0 : (c : Dev Cert.LruInDxIdeal.nD) → Buf (Elt Ideal) ((c.tc : Thread Cert.LruInDxIdeal.nD Cert.LruInDxIdeal.τ).loc Cert.LruInDxIdeal.main_v4)),
      θ_run (Cert.LruInDxIdeal.defs (F := Ideal)) (onTc (τ := Cert.LruInDxIdeal.τ) (Cert.LruInDxIdeal.main (F := Ideal))) ⟨m, fun _ => 0, g⟩ (fun r => ∀ c : Dev Cert.LruInDxIdeal.nD,
          r.2.mem ((c.tc : Thread Cert.LruInDxIdeal.nD Cert.LruInDxIdeal.τ).loc Cert.LruInDxIdeal.main_v4) = v0 c
          ∧ r.2.mem ((c.tc : Thread Cert.LruInDxIdeal.nD Cert.LruInDxIdeal.τ).loc Cert.LruInDxIdeal.main_arg0) = m ((c.tc : Thread Cert.LruInDxIdeal.nD Cert.LruInDxIdeal.τ).loc Cert.LruInDxIdeal.main_arg0)
          ∧ r.2.mem ((c.tc : Thread Cert.LruInDxIdeal.nD Cert.LruInDxIdeal.τ).loc Cert.LruInDxIdeal.main_arg1) = m ((c.tc : Thread Cert.LruInDxIdeal.nD Cert.LruInDxIdeal.τ).loc Cert.LruInDxIdeal.main_arg1))
      ∧ θ_run (Cert.LruInDxRefIdeal.defs (F := Ideal)) (onTc (τ := Cert.LruInDxRefIdeal.τ) (Cert.LruInDxRefIdeal.main (F := Ideal))) ⟨m', fun _ => 0, g'⟩ (fun r => ∀ c : Dev Cert.LruInDxRefIdeal.nD,
          r.2.mem ((c.tc : Thread Cert.LruInDxRefIdeal.nD Cert.LruInDxRefIdeal.τ).loc Cert.LruInDxRefIdeal.main_v3) = v0 c
          ∧ r.2.mem ((c.tc : Thread Cert.LruInDxRefIdeal.nD Cert.LruInDxRefIdeal.τ).loc Cert.LruInDxRefIdeal.main_arg0) = m' ((c.tc : Thread Cert.LruInDxRefIdeal.nD Cert.LruInDxRefIdeal.τ).loc Cert.LruInDxRefIdeal.main_arg0)
          ∧ r.2.mem ((c.tc : Thread Cert.LruInDxRefIdeal.nD Cert.LruInDxRefIdeal.τ).loc Cert.LruInDxRefIdeal.main_arg1) = m' ((c.tc : Thread Cert.LruInDxRefIdeal.nD Cert.LruInDxRefIdeal.τ).loc Cert.LruInDxRefIdeal.main_arg1))

def preserves_LruInDw_LruInDwIdeal : Prop :=
  True

def algebraic_LruInDwIdeal_LruInDwRefIdeal [hLruInDwIdeal : Cert.LruInDwIdeal.Facts] [hLruInDwRefIdeal : Cert.LruInDwRefIdeal.Facts] : Prop :=
  ∀ (m : (ℓ : Loc Cert.LruInDwIdeal.nD Cert.LruInDwIdeal.τ Cert.LruInDwIdeal.sig) → Buf (Elt Ideal) ℓ) (g : Dev Cert.LruInDwIdeal.nD → PrngReg)
    (m' : (ℓ : Loc Cert.LruInDwRefIdeal.nD Cert.LruInDwRefIdeal.τ Cert.LruInDwRefIdeal.sig) → Buf (Elt Ideal) ℓ) (g' : Dev Cert.LruInDwRefIdeal.nD → PrngReg), Pre_LruInDwIdeal m →
    (∀ c : Dev Cert.LruInDwIdeal.nD,
      m' ((c.tc : Thread Cert.LruInDwRefIdeal.nD Cert.LruInDwRefIdeal.τ).loc Cert.LruInDwRefIdeal.main_arg0) = m ((c.tc : Thread Cert.LruInDwIdeal.nD Cert.LruInDwIdeal.τ).loc Cert.LruInDwIdeal.main_arg0)
      ∧ m' ((c.tc : Thread Cert.LruInDwRefIdeal.nD Cert.LruInDwRefIdeal.τ).loc Cert.LruInDwRefIdeal.main_arg1) = m ((c.tc : Thread Cert.LruInDwIdeal.nD Cert.LruInDwIdeal.τ).loc Cert.LruInDwIdeal.main_arg1)) →
    ∃ (v0 : (c : Dev Cert.LruInDwIdeal.nD) → Buf (Elt Ideal) ((c.tc : Thread Cert.LruInDwIdeal.nD Cert.LruInDwIdeal.τ).loc Cert.LruInDwIdeal.main_v2)),
      θ_run (Cert.LruInDwIdeal.defs (F := Ideal)) (onTc (τ := Cert.LruInDwIdeal.τ) (Cert.LruInDwIdeal.main (F := Ideal))) ⟨m, fun _ => 0, g⟩ (fun r => ∀ c : Dev Cert.LruInDwIdeal.nD,
          r.2.mem ((c.tc : Thread Cert.LruInDwIdeal.nD Cert.LruInDwIdeal.τ).loc Cert.LruInDwIdeal.main_v2) = v0 c
          ∧ r.2.mem ((c.tc : Thread Cert.LruInDwIdeal.nD Cert.LruInDwIdeal.τ).loc Cert.LruInDwIdeal.main_arg0) = m ((c.tc : Thread Cert.LruInDwIdeal.nD Cert.LruInDwIdeal.τ).loc Cert.LruInDwIdeal.main_arg0)
          ∧ r.2.mem ((c.tc : Thread Cert.LruInDwIdeal.nD Cert.LruInDwIdeal.τ).loc Cert.LruInDwIdeal.main_arg1) = m ((c.tc : Thread Cert.LruInDwIdeal.nD Cert.LruInDwIdeal.τ).loc Cert.LruInDwIdeal.main_arg1))
      ∧ θ_run (Cert.LruInDwRefIdeal.defs (F := Ideal)) (onTc (τ := Cert.LruInDwRefIdeal.τ) (Cert.LruInDwRefIdeal.main (F := Ideal))) ⟨m', fun _ => 0, g'⟩ (fun r => ∀ c : Dev Cert.LruInDwRefIdeal.nD,
          r.2.mem ((c.tc : Thread Cert.LruInDwRefIdeal.nD Cert.LruInDwRefIdeal.τ).loc Cert.LruInDwRefIdeal.main_v6) = v0 c
          ∧ r.2.mem ((c.tc : Thread Cert.LruInDwRefIdeal.nD Cert.LruInDwRefIdeal.τ).loc Cert.LruInDwRefIdeal.main_arg0) = m' ((c.tc : Thread Cert.LruInDwRefIdeal.nD Cert.LruInDwRefIdeal.τ).loc Cert.LruInDwRefIdeal.main_arg0)
          ∧ r.2.mem ((c.tc : Thread Cert.LruInDwRefIdeal.nD Cert.LruInDwRefIdeal.τ).loc Cert.LruInDwRefIdeal.main_arg1) = m' ((c.tc : Thread Cert.LruInDwRefIdeal.nD Cert.LruInDwRefIdeal.τ).loc Cert.LruInDwRefIdeal.main_arg1))

def preserves_LruOut_LruOutIdeal : Prop :=
  True

def algebraic_LruOutIdeal_LruOutRefIdeal [hLruOutIdeal : Cert.LruOutIdeal.Facts] [hLruOutRefIdeal : Cert.LruOutRefIdeal.Facts] : Prop :=
  ∀ (m : (ℓ : Loc Cert.LruOutIdeal.nD Cert.LruOutIdeal.τ Cert.LruOutIdeal.sig) → Buf (Elt Ideal) ℓ) (g : Dev Cert.LruOutIdeal.nD → PrngReg)
    (m' : (ℓ : Loc Cert.LruOutRefIdeal.nD Cert.LruOutRefIdeal.τ Cert.LruOutRefIdeal.sig) → Buf (Elt Ideal) ℓ) (g' : Dev Cert.LruOutRefIdeal.nD → PrngReg), Pre_LruOutIdeal m →
    (∀ c : Dev Cert.LruOutIdeal.nD,
      m' ((c.tc : Thread Cert.LruOutRefIdeal.nD Cert.LruOutRefIdeal.τ).loc Cert.LruOutRefIdeal.main_arg0) = m ((c.tc : Thread Cert.LruOutIdeal.nD Cert.LruOutIdeal.τ).loc Cert.LruOutIdeal.main_arg0)
      ∧ m' ((c.tc : Thread Cert.LruOutRefIdeal.nD Cert.LruOutRefIdeal.τ).loc Cert.LruOutRefIdeal.main_arg1) = m ((c.tc : Thread Cert.LruOutIdeal.nD Cert.LruOutIdeal.τ).loc Cert.LruOutIdeal.main_arg1)
      ∧ m' ((c.tc : Thread Cert.LruOutRefIdeal.nD Cert.LruOutRefIdeal.τ).loc Cert.LruOutRefIdeal.main_arg2) = m ((c.tc : Thread Cert.LruOutIdeal.nD Cert.LruOutIdeal.τ).loc Cert.LruOutIdeal.main_arg2)
      ∧ m' ((c.tc : Thread Cert.LruOutRefIdeal.nD Cert.LruOutRefIdeal.τ).loc Cert.LruOutRefIdeal.main_arg3) = m ((c.tc : Thread Cert.LruOutIdeal.nD Cert.LruOutIdeal.τ).loc Cert.LruOutIdeal.main_arg3)) →
    ∃ (v0 : (c : Dev Cert.LruOutIdeal.nD) → Buf (Elt Ideal) ((c.tc : Thread Cert.LruOutIdeal.nD Cert.LruOutIdeal.τ).loc Cert.LruOutIdeal.main_v3)),
      θ_run (Cert.LruOutIdeal.defs (F := Ideal)) (onTc (τ := Cert.LruOutIdeal.τ) (Cert.LruOutIdeal.main (F := Ideal))) ⟨m, fun _ => 0, g⟩ (fun r => ∀ c : Dev Cert.LruOutIdeal.nD,
          r.2.mem ((c.tc : Thread Cert.LruOutIdeal.nD Cert.LruOutIdeal.τ).loc Cert.LruOutIdeal.main_v3) = v0 c
          ∧ r.2.mem ((c.tc : Thread Cert.LruOutIdeal.nD Cert.LruOutIdeal.τ).loc Cert.LruOutIdeal.main_arg0) = m ((c.tc : Thread Cert.LruOutIdeal.nD Cert.LruOutIdeal.τ).loc Cert.LruOutIdeal.main_arg0)
          ∧ r.2.mem ((c.tc : Thread Cert.LruOutIdeal.nD Cert.LruOutIdeal.τ).loc Cert.LruOutIdeal.main_arg1) = m ((c.tc : Thread Cert.LruOutIdeal.nD Cert.LruOutIdeal.τ).loc Cert.LruOutIdeal.main_arg1)
          ∧ r.2.mem ((c.tc : Thread Cert.LruOutIdeal.nD Cert.LruOutIdeal.τ).loc Cert.LruOutIdeal.main_arg2) = m ((c.tc : Thread Cert.LruOutIdeal.nD Cert.LruOutIdeal.τ).loc Cert.LruOutIdeal.main_arg2)
          ∧ r.2.mem ((c.tc : Thread Cert.LruOutIdeal.nD Cert.LruOutIdeal.τ).loc Cert.LruOutIdeal.main_arg3) = m ((c.tc : Thread Cert.LruOutIdeal.nD Cert.LruOutIdeal.τ).loc Cert.LruOutIdeal.main_arg3))
      ∧ θ_run (Cert.LruOutRefIdeal.defs (F := Ideal)) (onTc (τ := Cert.LruOutRefIdeal.τ) (Cert.LruOutRefIdeal.main (F := Ideal))) ⟨m', fun _ => 0, g'⟩ (fun r => ∀ c : Dev Cert.LruOutRefIdeal.nD,
          r.2.mem ((c.tc : Thread Cert.LruOutRefIdeal.nD Cert.LruOutRefIdeal.τ).loc Cert.LruOutRefIdeal.main_v4) = v0 c
          ∧ r.2.mem ((c.tc : Thread Cert.LruOutRefIdeal.nD Cert.LruOutRefIdeal.τ).loc Cert.LruOutRefIdeal.main_arg0) = m' ((c.tc : Thread Cert.LruOutRefIdeal.nD Cert.LruOutRefIdeal.τ).loc Cert.LruOutRefIdeal.main_arg0)
          ∧ r.2.mem ((c.tc : Thread Cert.LruOutRefIdeal.nD Cert.LruOutRefIdeal.τ).loc Cert.LruOutRefIdeal.main_arg1) = m' ((c.tc : Thread Cert.LruOutRefIdeal.nD Cert.LruOutRefIdeal.τ).loc Cert.LruOutRefIdeal.main_arg1)
          ∧ r.2.mem ((c.tc : Thread Cert.LruOutRefIdeal.nD Cert.LruOutRefIdeal.τ).loc Cert.LruOutRefIdeal.main_arg2) = m' ((c.tc : Thread Cert.LruOutRefIdeal.nD Cert.LruOutRefIdeal.τ).loc Cert.LruOutRefIdeal.main_arg2)
          ∧ r.2.mem ((c.tc : Thread Cert.LruOutRefIdeal.nD Cert.LruOutRefIdeal.τ).loc Cert.LruOutRefIdeal.main_arg3) = m' ((c.tc : Thread Cert.LruOutRefIdeal.nD Cert.LruOutRefIdeal.τ).loc Cert.LruOutRefIdeal.main_arg3))

def preserves_LruOutDx_LruOutDxIdeal : Prop :=
  True

def algebraic_LruOutDxIdeal_LruOutDxRefIdeal [hLruOutDxIdeal : Cert.LruOutDxIdeal.Facts] [hLruOutDxRefIdeal : Cert.LruOutDxRefIdeal.Facts] : Prop :=
  ∀ (m : (ℓ : Loc Cert.LruOutDxIdeal.nD Cert.LruOutDxIdeal.τ Cert.LruOutDxIdeal.sig) → Buf (Elt Ideal) ℓ) (g : Dev Cert.LruOutDxIdeal.nD → PrngReg)
    (m' : (ℓ : Loc Cert.LruOutDxRefIdeal.nD Cert.LruOutDxRefIdeal.τ Cert.LruOutDxRefIdeal.sig) → Buf (Elt Ideal) ℓ) (g' : Dev Cert.LruOutDxRefIdeal.nD → PrngReg), Pre_LruOutDxIdeal m →
    (∀ c : Dev Cert.LruOutDxIdeal.nD,
      m' ((c.tc : Thread Cert.LruOutDxRefIdeal.nD Cert.LruOutDxRefIdeal.τ).loc Cert.LruOutDxRefIdeal.main_arg0) = m ((c.tc : Thread Cert.LruOutDxIdeal.nD Cert.LruOutDxIdeal.τ).loc Cert.LruOutDxIdeal.main_arg0)
      ∧ m' ((c.tc : Thread Cert.LruOutDxRefIdeal.nD Cert.LruOutDxRefIdeal.τ).loc Cert.LruOutDxRefIdeal.main_arg1) = m ((c.tc : Thread Cert.LruOutDxIdeal.nD Cert.LruOutDxIdeal.τ).loc Cert.LruOutDxIdeal.main_arg1)) →
    ∃ (v0 : (c : Dev Cert.LruOutDxIdeal.nD) → Buf (Elt Ideal) ((c.tc : Thread Cert.LruOutDxIdeal.nD Cert.LruOutDxIdeal.τ).loc Cert.LruOutDxIdeal.main_v2)),
      θ_run (Cert.LruOutDxIdeal.defs (F := Ideal)) (onTc (τ := Cert.LruOutDxIdeal.τ) (Cert.LruOutDxIdeal.main (F := Ideal))) ⟨m, fun _ => 0, g⟩ (fun r => ∀ c : Dev Cert.LruOutDxIdeal.nD,
          r.2.mem ((c.tc : Thread Cert.LruOutDxIdeal.nD Cert.LruOutDxIdeal.τ).loc Cert.LruOutDxIdeal.main_v2) = v0 c
          ∧ r.2.mem ((c.tc : Thread Cert.LruOutDxIdeal.nD Cert.LruOutDxIdeal.τ).loc Cert.LruOutDxIdeal.main_arg0) = m ((c.tc : Thread Cert.LruOutDxIdeal.nD Cert.LruOutDxIdeal.τ).loc Cert.LruOutDxIdeal.main_arg0)
          ∧ r.2.mem ((c.tc : Thread Cert.LruOutDxIdeal.nD Cert.LruOutDxIdeal.τ).loc Cert.LruOutDxIdeal.main_arg1) = m ((c.tc : Thread Cert.LruOutDxIdeal.nD Cert.LruOutDxIdeal.τ).loc Cert.LruOutDxIdeal.main_arg1))
      ∧ θ_run (Cert.LruOutDxRefIdeal.defs (F := Ideal)) (onTc (τ := Cert.LruOutDxRefIdeal.τ) (Cert.LruOutDxRefIdeal.main (F := Ideal))) ⟨m', fun _ => 0, g'⟩ (fun r => ∀ c : Dev Cert.LruOutDxRefIdeal.nD,
          r.2.mem ((c.tc : Thread Cert.LruOutDxRefIdeal.nD Cert.LruOutDxRefIdeal.τ).loc Cert.LruOutDxRefIdeal.main_v2) = v0 c
          ∧ r.2.mem ((c.tc : Thread Cert.LruOutDxRefIdeal.nD Cert.LruOutDxRefIdeal.τ).loc Cert.LruOutDxRefIdeal.main_arg0) = m' ((c.tc : Thread Cert.LruOutDxRefIdeal.nD Cert.LruOutDxRefIdeal.τ).loc Cert.LruOutDxRefIdeal.main_arg0)
          ∧ r.2.mem ((c.tc : Thread Cert.LruOutDxRefIdeal.nD Cert.LruOutDxRefIdeal.τ).loc Cert.LruOutDxRefIdeal.main_arg1) = m' ((c.tc : Thread Cert.LruOutDxRefIdeal.nD Cert.LruOutDxRefIdeal.τ).loc Cert.LruOutDxRefIdeal.main_arg1))

def preserves_LruOutDw_LruOutDwIdeal : Prop :=
  True

def algebraic_LruOutDwIdeal_LruOutDwRefIdeal [hLruOutDwIdeal : Cert.LruOutDwIdeal.Facts] [hLruOutDwRefIdeal : Cert.LruOutDwRefIdeal.Facts] : Prop :=
  ∀ (m : (ℓ : Loc Cert.LruOutDwIdeal.nD Cert.LruOutDwIdeal.τ Cert.LruOutDwIdeal.sig) → Buf (Elt Ideal) ℓ) (g : Dev Cert.LruOutDwIdeal.nD → PrngReg)
    (m' : (ℓ : Loc Cert.LruOutDwRefIdeal.nD Cert.LruOutDwRefIdeal.τ Cert.LruOutDwRefIdeal.sig) → Buf (Elt Ideal) ℓ) (g' : Dev Cert.LruOutDwRefIdeal.nD → PrngReg), Pre_LruOutDwIdeal m →
    (∀ c : Dev Cert.LruOutDwIdeal.nD,
      m' ((c.tc : Thread Cert.LruOutDwRefIdeal.nD Cert.LruOutDwRefIdeal.τ).loc Cert.LruOutDwRefIdeal.main_arg0) = m ((c.tc : Thread Cert.LruOutDwIdeal.nD Cert.LruOutDwIdeal.τ).loc Cert.LruOutDwIdeal.main_arg0)
      ∧ m' ((c.tc : Thread Cert.LruOutDwRefIdeal.nD Cert.LruOutDwRefIdeal.τ).loc Cert.LruOutDwRefIdeal.main_arg1) = m ((c.tc : Thread Cert.LruOutDwIdeal.nD Cert.LruOutDwIdeal.τ).loc Cert.LruOutDwIdeal.main_arg1)) →
    ∃ (v0 : (c : Dev Cert.LruOutDwIdeal.nD) → Buf (Elt Ideal) ((c.tc : Thread Cert.LruOutDwIdeal.nD Cert.LruOutDwIdeal.τ).loc Cert.LruOutDwIdeal.main_v2)),
      θ_run (Cert.LruOutDwIdeal.defs (F := Ideal)) (onTc (τ := Cert.LruOutDwIdeal.τ) (Cert.LruOutDwIdeal.main (F := Ideal))) ⟨m, fun _ => 0, g⟩ (fun r => ∀ c : Dev Cert.LruOutDwIdeal.nD,
          r.2.mem ((c.tc : Thread Cert.LruOutDwIdeal.nD Cert.LruOutDwIdeal.τ).loc Cert.LruOutDwIdeal.main_v2) = v0 c
          ∧ r.2.mem ((c.tc : Thread Cert.LruOutDwIdeal.nD Cert.LruOutDwIdeal.τ).loc Cert.LruOutDwIdeal.main_arg0) = m ((c.tc : Thread Cert.LruOutDwIdeal.nD Cert.LruOutDwIdeal.τ).loc Cert.LruOutDwIdeal.main_arg0)
          ∧ r.2.mem ((c.tc : Thread Cert.LruOutDwIdeal.nD Cert.LruOutDwIdeal.τ).loc Cert.LruOutDwIdeal.main_arg1) = m ((c.tc : Thread Cert.LruOutDwIdeal.nD Cert.LruOutDwIdeal.τ).loc Cert.LruOutDwIdeal.main_arg1))
      ∧ θ_run (Cert.LruOutDwRefIdeal.defs (F := Ideal)) (onTc (τ := Cert.LruOutDwRefIdeal.τ) (Cert.LruOutDwRefIdeal.main (F := Ideal))) ⟨m', fun _ => 0, g'⟩ (fun r => ∀ c : Dev Cert.LruOutDwRefIdeal.nD,
          r.2.mem ((c.tc : Thread Cert.LruOutDwRefIdeal.nD Cert.LruOutDwRefIdeal.τ).loc Cert.LruOutDwRefIdeal.main_v4) = v0 c
          ∧ r.2.mem ((c.tc : Thread Cert.LruOutDwRefIdeal.nD Cert.LruOutDwRefIdeal.τ).loc Cert.LruOutDwRefIdeal.main_arg0) = m' ((c.tc : Thread Cert.LruOutDwRefIdeal.nD Cert.LruOutDwRefIdeal.τ).loc Cert.LruOutDwRefIdeal.main_arg0)
          ∧ r.2.mem ((c.tc : Thread Cert.LruOutDwRefIdeal.nD Cert.LruOutDwRefIdeal.τ).loc Cert.LruOutDwRefIdeal.main_arg1) = m' ((c.tc : Thread Cert.LruOutDwRefIdeal.nD Cert.LruOutDwRefIdeal.τ).loc Cert.LruOutDwRefIdeal.main_arg1))

def preserves_RwkvR_RwkvRIdeal : Prop :=
  True

def algebraic_RwkvRIdeal_RwkvRRefIdeal [hRwkvRIdeal : Cert.RwkvRIdeal.Facts] [hRwkvRRefIdeal : Cert.RwkvRRefIdeal.Facts] : Prop :=
  ∀ (m : (ℓ : Loc Cert.RwkvRIdeal.nD Cert.RwkvRIdeal.τ Cert.RwkvRIdeal.sig) → Buf (Elt Ideal) ℓ) (g : Dev Cert.RwkvRIdeal.nD → PrngReg)
    (m' : (ℓ : Loc Cert.RwkvRRefIdeal.nD Cert.RwkvRRefIdeal.τ Cert.RwkvRRefIdeal.sig) → Buf (Elt Ideal) ℓ) (g' : Dev Cert.RwkvRRefIdeal.nD → PrngReg), Pre_RwkvRIdeal m →
    (∀ c : Dev Cert.RwkvRIdeal.nD,
      m' ((c.tc : Thread Cert.RwkvRRefIdeal.nD Cert.RwkvRRefIdeal.τ).loc Cert.RwkvRRefIdeal.main_arg0) = m ((c.tc : Thread Cert.RwkvRIdeal.nD Cert.RwkvRIdeal.τ).loc Cert.RwkvRIdeal.main_arg0)
      ∧ m' ((c.tc : Thread Cert.RwkvRRefIdeal.nD Cert.RwkvRRefIdeal.τ).loc Cert.RwkvRRefIdeal.main_arg1) = m ((c.tc : Thread Cert.RwkvRIdeal.nD Cert.RwkvRIdeal.τ).loc Cert.RwkvRIdeal.main_arg1)) →
    ∃ (v0 : (c : Dev Cert.RwkvRIdeal.nD) → Buf (Elt Ideal) ((c.tc : Thread Cert.RwkvRIdeal.nD Cert.RwkvRIdeal.τ).loc Cert.RwkvRIdeal.main_v2)),
      θ_run (Cert.RwkvRIdeal.defs (F := Ideal)) (onTc (τ := Cert.RwkvRIdeal.τ) (Cert.RwkvRIdeal.main (F := Ideal))) ⟨m, fun _ => 0, g⟩ (fun r => ∀ c : Dev Cert.RwkvRIdeal.nD,
          r.2.mem ((c.tc : Thread Cert.RwkvRIdeal.nD Cert.RwkvRIdeal.τ).loc Cert.RwkvRIdeal.main_v2) = v0 c
          ∧ r.2.mem ((c.tc : Thread Cert.RwkvRIdeal.nD Cert.RwkvRIdeal.τ).loc Cert.RwkvRIdeal.main_arg0) = m ((c.tc : Thread Cert.RwkvRIdeal.nD Cert.RwkvRIdeal.τ).loc Cert.RwkvRIdeal.main_arg0)
          ∧ r.2.mem ((c.tc : Thread Cert.RwkvRIdeal.nD Cert.RwkvRIdeal.τ).loc Cert.RwkvRIdeal.main_arg1) = m ((c.tc : Thread Cert.RwkvRIdeal.nD Cert.RwkvRIdeal.τ).loc Cert.RwkvRIdeal.main_arg1))
      ∧ θ_run (Cert.RwkvRRefIdeal.defs (F := Ideal)) (onTc (τ := Cert.RwkvRRefIdeal.τ) (Cert.RwkvRRefIdeal.main (F := Ideal))) ⟨m', fun _ => 0, g'⟩ (fun r => ∀ c : Dev Cert.RwkvRRefIdeal.nD,
          r.2.mem ((c.tc : Thread Cert.RwkvRRefIdeal.nD Cert.RwkvRRefIdeal.τ).loc Cert.RwkvRRefIdeal.main_v0) = v0 c
          ∧ r.2.mem ((c.tc : Thread Cert.RwkvRRefIdeal.nD Cert.RwkvRRefIdeal.τ).loc Cert.RwkvRRefIdeal.main_arg0) = m' ((c.tc : Thread Cert.RwkvRRefIdeal.nD Cert.RwkvRRefIdeal.τ).loc Cert.RwkvRRefIdeal.main_arg0)
          ∧ r.2.mem ((c.tc : Thread Cert.RwkvRRefIdeal.nD Cert.RwkvRRefIdeal.τ).loc Cert.RwkvRRefIdeal.main_arg1) = m' ((c.tc : Thread Cert.RwkvRRefIdeal.nD Cert.RwkvRRefIdeal.τ).loc Cert.RwkvRRefIdeal.main_arg1))

def preserves_RwkvOut_RwkvOutIdeal : Prop :=
  True

def algebraic_RwkvOutIdeal_RwkvOutRefIdeal [hRwkvOutIdeal : Cert.RwkvOutIdeal.Facts] [hRwkvOutRefIdeal : Cert.RwkvOutRefIdeal.Facts] : Prop :=
  ∀ (m : (ℓ : Loc Cert.RwkvOutIdeal.nD Cert.RwkvOutIdeal.τ Cert.RwkvOutIdeal.sig) → Buf (Elt Ideal) ℓ) (g : Dev Cert.RwkvOutIdeal.nD → PrngReg)
    (m' : (ℓ : Loc Cert.RwkvOutRefIdeal.nD Cert.RwkvOutRefIdeal.τ Cert.RwkvOutRefIdeal.sig) → Buf (Elt Ideal) ℓ) (g' : Dev Cert.RwkvOutRefIdeal.nD → PrngReg), Pre_RwkvOutIdeal m →
    (∀ c : Dev Cert.RwkvOutIdeal.nD,
      m' ((c.tc : Thread Cert.RwkvOutRefIdeal.nD Cert.RwkvOutRefIdeal.τ).loc Cert.RwkvOutRefIdeal.main_arg0) = m ((c.tc : Thread Cert.RwkvOutIdeal.nD Cert.RwkvOutIdeal.τ).loc Cert.RwkvOutIdeal.main_arg0)
      ∧ m' ((c.tc : Thread Cert.RwkvOutRefIdeal.nD Cert.RwkvOutRefIdeal.τ).loc Cert.RwkvOutRefIdeal.main_arg1) = m ((c.tc : Thread Cert.RwkvOutIdeal.nD Cert.RwkvOutIdeal.τ).loc Cert.RwkvOutIdeal.main_arg1)
      ∧ m' ((c.tc : Thread Cert.RwkvOutRefIdeal.nD Cert.RwkvOutRefIdeal.τ).loc Cert.RwkvOutRefIdeal.main_arg2) = m ((c.tc : Thread Cert.RwkvOutIdeal.nD Cert.RwkvOutIdeal.τ).loc Cert.RwkvOutIdeal.main_arg2)) →
    ∃ (v0 : (c : Dev Cert.RwkvOutIdeal.nD) → Buf (Elt Ideal) ((c.tc : Thread Cert.RwkvOutIdeal.nD Cert.RwkvOutIdeal.τ).loc Cert.RwkvOutIdeal.main_v2)),
      θ_run (Cert.RwkvOutIdeal.defs (F := Ideal)) (onTc (τ := Cert.RwkvOutIdeal.τ) (Cert.RwkvOutIdeal.main (F := Ideal))) ⟨m, fun _ => 0, g⟩ (fun r => ∀ c : Dev Cert.RwkvOutIdeal.nD,
          r.2.mem ((c.tc : Thread Cert.RwkvOutIdeal.nD Cert.RwkvOutIdeal.τ).loc Cert.RwkvOutIdeal.main_v2) = v0 c
          ∧ r.2.mem ((c.tc : Thread Cert.RwkvOutIdeal.nD Cert.RwkvOutIdeal.τ).loc Cert.RwkvOutIdeal.main_arg0) = m ((c.tc : Thread Cert.RwkvOutIdeal.nD Cert.RwkvOutIdeal.τ).loc Cert.RwkvOutIdeal.main_arg0)
          ∧ r.2.mem ((c.tc : Thread Cert.RwkvOutIdeal.nD Cert.RwkvOutIdeal.τ).loc Cert.RwkvOutIdeal.main_arg1) = m ((c.tc : Thread Cert.RwkvOutIdeal.nD Cert.RwkvOutIdeal.τ).loc Cert.RwkvOutIdeal.main_arg1)
          ∧ r.2.mem ((c.tc : Thread Cert.RwkvOutIdeal.nD Cert.RwkvOutIdeal.τ).loc Cert.RwkvOutIdeal.main_arg2) = m ((c.tc : Thread Cert.RwkvOutIdeal.nD Cert.RwkvOutIdeal.τ).loc Cert.RwkvOutIdeal.main_arg2))
      ∧ θ_run (Cert.RwkvOutRefIdeal.defs (F := Ideal)) (onTc (τ := Cert.RwkvOutRefIdeal.τ) (Cert.RwkvOutRefIdeal.main (F := Ideal))) ⟨m', fun _ => 0, g'⟩ (fun r => ∀ c : Dev Cert.RwkvOutRefIdeal.nD,
          r.2.mem ((c.tc : Thread Cert.RwkvOutRefIdeal.nD Cert.RwkvOutRefIdeal.τ).loc Cert.RwkvOutRefIdeal.main_v1) = v0 c
          ∧ r.2.mem ((c.tc : Thread Cert.RwkvOutRefIdeal.nD Cert.RwkvOutRefIdeal.τ).loc Cert.RwkvOutRefIdeal.main_arg0) = m' ((c.tc : Thread Cert.RwkvOutRefIdeal.nD Cert.RwkvOutRefIdeal.τ).loc Cert.RwkvOutRefIdeal.main_arg0)
          ∧ r.2.mem ((c.tc : Thread Cert.RwkvOutRefIdeal.nD Cert.RwkvOutRefIdeal.τ).loc Cert.RwkvOutRefIdeal.main_arg1) = m' ((c.tc : Thread Cert.RwkvOutRefIdeal.nD Cert.RwkvOutRefIdeal.τ).loc Cert.RwkvOutRefIdeal.main_arg1)
          ∧ r.2.mem ((c.tc : Thread Cert.RwkvOutRefIdeal.nD Cert.RwkvOutRefIdeal.τ).loc Cert.RwkvOutRefIdeal.main_arg2) = m' ((c.tc : Thread Cert.RwkvOutRefIdeal.nD Cert.RwkvOutRefIdeal.τ).loc Cert.RwkvOutRefIdeal.main_arg2))

def preserves_NormBwd_NormBwdIdeal : Prop :=
  True

def algebraic_NormBwdIdeal_NormBwdRefIdeal [hNormBwdIdeal : Cert.NormBwdIdeal.Facts] [hNormBwdRefIdeal : Cert.NormBwdRefIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)
      ∧ m' ((c.tc : Thread Cert.NormBwdRefIdeal.nD Cert.NormBwdRefIdeal.τ).loc Cert.NormBwdRefIdeal.main_arg3) = m ((c.tc : Thread Cert.NormBwdIdeal.nD Cert.NormBwdIdeal.τ).loc Cert.NormBwdIdeal.main_arg3)) →
    ∃ (v0 : (c : Dev Cert.NormBwdIdeal.nD) → Buf (Elt Ideal) ((c.tc : Thread Cert.NormBwdIdeal.nD Cert.NormBwdIdeal.τ).loc Cert.NormBwdIdeal.main_v1_0)) (v1 : (c : Dev Cert.NormBwdIdeal.nD) → Buf (Elt Ideal) ((c.tc : Thread Cert.NormBwdIdeal.nD Cert.NormBwdIdeal.τ).loc Cert.NormBwdIdeal.main_v1_1)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v1_0) = v0 c
          ∧ r.2.mem ((c.tc : Thread Cert.NormBwdIdeal.nD Cert.NormBwdIdeal.τ).loc Cert.NormBwdIdeal.main_v1_1) = v1 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v36) = v0 c
          ∧ r.2.mem ((c.tc : Thread Cert.NormBwdRefIdeal.nD Cert.NormBwdRefIdeal.τ).loc Cert.NormBwdRefIdeal.main_v37) = v1 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2)
          ∧ r.2.mem ((c.tc : Thread Cert.NormBwdRefIdeal.nD Cert.NormBwdRefIdeal.τ).loc Cert.NormBwdRefIdeal.main_arg3) = m' ((c.tc : Thread Cert.NormBwdRefIdeal.nD Cert.NormBwdRefIdeal.τ).loc Cert.NormBwdRefIdeal.main_arg3))

def preserves_FfnAct_FfnActIdeal : Prop :=
  True

def algebraic_FfnActIdeal_FfnActRefIdeal [hFfnActIdeal : Cert.FfnActIdeal.Facts] [hFfnActRefIdeal : Cert.FfnActRefIdeal.Facts] : Prop :=
  ∀ (m : (ℓ : Loc Cert.FfnActIdeal.nD Cert.FfnActIdeal.τ Cert.FfnActIdeal.sig) → Buf (Elt Ideal) ℓ) (g : Dev Cert.FfnActIdeal.nD → PrngReg)
    (m' : (ℓ : Loc Cert.FfnActRefIdeal.nD Cert.FfnActRefIdeal.τ Cert.FfnActRefIdeal.sig) → Buf (Elt Ideal) ℓ) (g' : Dev Cert.FfnActRefIdeal.nD → PrngReg), Pre_FfnActIdeal m →
    (∀ c : Dev Cert.FfnActIdeal.nD,
      m' ((c.tc : Thread Cert.FfnActRefIdeal.nD Cert.FfnActRefIdeal.τ).loc Cert.FfnActRefIdeal.main_arg0) = m ((c.tc : Thread Cert.FfnActIdeal.nD Cert.FfnActIdeal.τ).loc Cert.FfnActIdeal.main_arg0)
      ∧ m' ((c.tc : Thread Cert.FfnActRefIdeal.nD Cert.FfnActRefIdeal.τ).loc Cert.FfnActRefIdeal.main_arg1) = m ((c.tc : Thread Cert.FfnActIdeal.nD Cert.FfnActIdeal.τ).loc Cert.FfnActIdeal.main_arg1)
      ∧ m' ((c.tc : Thread Cert.FfnActRefIdeal.nD Cert.FfnActRefIdeal.τ).loc Cert.FfnActRefIdeal.main_arg2) = m ((c.tc : Thread Cert.FfnActIdeal.nD Cert.FfnActIdeal.τ).loc Cert.FfnActIdeal.main_arg2)) →
    ∃ (v0 : (c : Dev Cert.FfnActIdeal.nD) → Buf (Elt Ideal) ((c.tc : Thread Cert.FfnActIdeal.nD Cert.FfnActIdeal.τ).loc Cert.FfnActIdeal.main_v2)),
      θ_run (Cert.FfnActIdeal.defs (F := Ideal)) (onTc (τ := Cert.FfnActIdeal.τ) (Cert.FfnActIdeal.main (F := Ideal))) ⟨m, fun _ => 0, g⟩ (fun r => ∀ c : Dev Cert.FfnActIdeal.nD,
          r.2.mem ((c.tc : Thread Cert.FfnActIdeal.nD Cert.FfnActIdeal.τ).loc Cert.FfnActIdeal.main_v2) = v0 c
          ∧ r.2.mem ((c.tc : Thread Cert.FfnActIdeal.nD Cert.FfnActIdeal.τ).loc Cert.FfnActIdeal.main_arg0) = m ((c.tc : Thread Cert.FfnActIdeal.nD Cert.FfnActIdeal.τ).loc Cert.FfnActIdeal.main_arg0)
          ∧ r.2.mem ((c.tc : Thread Cert.FfnActIdeal.nD Cert.FfnActIdeal.τ).loc Cert.FfnActIdeal.main_arg1) = m ((c.tc : Thread Cert.FfnActIdeal.nD Cert.FfnActIdeal.τ).loc Cert.FfnActIdeal.main_arg1)
          ∧ r.2.mem ((c.tc : Thread Cert.FfnActIdeal.nD Cert.FfnActIdeal.τ).loc Cert.FfnActIdeal.main_arg2) = m ((c.tc : Thread Cert.FfnActIdeal.nD Cert.FfnActIdeal.τ).loc Cert.FfnActIdeal.main_arg2))
      ∧ θ_run (Cert.FfnActRefIdeal.defs (F := Ideal)) (onTc (τ := Cert.FfnActRefIdeal.τ) (Cert.FfnActRefIdeal.main (F := Ideal))) ⟨m', fun _ => 0, g'⟩ (fun r => ∀ c : Dev Cert.FfnActRefIdeal.nD,
          r.2.mem ((c.tc : Thread Cert.FfnActRefIdeal.nD Cert.FfnActRefIdeal.τ).loc Cert.FfnActRefIdeal.main_v43) = v0 c
          ∧ r.2.mem ((c.tc : Thread Cert.FfnActRefIdeal.nD Cert.FfnActRefIdeal.τ).loc Cert.FfnActRefIdeal.main_arg0) = m' ((c.tc : Thread Cert.FfnActRefIdeal.nD Cert.FfnActRefIdeal.τ).loc Cert.FfnActRefIdeal.main_arg0)
          ∧ r.2.mem ((c.tc : Thread Cert.FfnActRefIdeal.nD Cert.FfnActRefIdeal.τ).loc Cert.FfnActRefIdeal.main_arg1) = m' ((c.tc : Thread Cert.FfnActRefIdeal.nD Cert.FfnActRefIdeal.τ).loc Cert.FfnActRefIdeal.main_arg1)
          ∧ r.2.mem ((c.tc : Thread Cert.FfnActRefIdeal.nD Cert.FfnActRefIdeal.τ).loc Cert.FfnActRefIdeal.main_arg2) = m' ((c.tc : Thread Cert.FfnActRefIdeal.nD Cert.FfnActRefIdeal.τ).loc Cert.FfnActRefIdeal.main_arg2))

def preserves_FfnActBwd_FfnActBwdIdeal : Prop :=
  True

def algebraic_FfnActBwdIdeal_FfnActBwdRefIdeal_pre_finite_act [hFfnActBwdIdeal : Cert.FfnActBwdIdeal.Facts] [hFfnActBwdRefIdeal : Cert.FfnActBwdRefIdeal.Facts] [hPre_finite_act : Cert.Pre_finite_act.Facts] : Prop :=
  ∀ (m : (ℓ : Loc Cert.FfnActBwdIdeal.nD Cert.FfnActBwdIdeal.τ Cert.FfnActBwdIdeal.sig) → Buf (Elt Ideal) ℓ) (g : Dev Cert.FfnActBwdIdeal.nD → PrngReg)
    (m' : (ℓ : Loc Cert.FfnActBwdRefIdeal.nD Cert.FfnActBwdRefIdeal.τ Cert.FfnActBwdRefIdeal.sig) → Buf (Elt Ideal) ℓ) (g' : Dev Cert.FfnActBwdRefIdeal.nD → PrngReg), Pre_FfnActBwdIdeal_finite_act m →
    (∀ c : Dev Cert.FfnActBwdIdeal.nD,
      m' ((c.tc : Thread Cert.FfnActBwdRefIdeal.nD Cert.FfnActBwdRefIdeal.τ).loc Cert.FfnActBwdRefIdeal.main_arg0) = m ((c.tc : Thread Cert.FfnActBwdIdeal.nD Cert.FfnActBwdIdeal.τ).loc Cert.FfnActBwdIdeal.main_arg0)
      ∧ m' ((c.tc : Thread Cert.FfnActBwdRefIdeal.nD Cert.FfnActBwdRefIdeal.τ).loc Cert.FfnActBwdRefIdeal.main_arg1) = m ((c.tc : Thread Cert.FfnActBwdIdeal.nD Cert.FfnActBwdIdeal.τ).loc Cert.FfnActBwdIdeal.main_arg1)
      ∧ m' ((c.tc : Thread Cert.FfnActBwdRefIdeal.nD Cert.FfnActBwdRefIdeal.τ).loc Cert.FfnActBwdRefIdeal.main_arg2) = m ((c.tc : Thread Cert.FfnActBwdIdeal.nD Cert.FfnActBwdIdeal.τ).loc Cert.FfnActBwdIdeal.main_arg2)
      ∧ m' ((c.tc : Thread Cert.FfnActBwdRefIdeal.nD Cert.FfnActBwdRefIdeal.τ).loc Cert.FfnActBwdRefIdeal.main_arg3) = m ((c.tc : Thread Cert.FfnActBwdIdeal.nD Cert.FfnActBwdIdeal.τ).loc Cert.FfnActBwdIdeal.main_arg3)) →
    ∃ (v0 : (c : Dev Cert.FfnActBwdIdeal.nD) → Buf (Elt Ideal) ((c.tc : Thread Cert.FfnActBwdIdeal.nD Cert.FfnActBwdIdeal.τ).loc Cert.FfnActBwdIdeal.main_v3_0)) (v1 : (c : Dev Cert.FfnActBwdIdeal.nD) → Buf (Elt Ideal) ((c.tc : Thread Cert.FfnActBwdIdeal.nD Cert.FfnActBwdIdeal.τ).loc Cert.FfnActBwdIdeal.main_v3_1)) (v2 : (c : Dev Cert.FfnActBwdIdeal.nD) → Buf (Elt Ideal) ((c.tc : Thread Cert.FfnActBwdIdeal.nD Cert.FfnActBwdIdeal.τ).loc Cert.FfnActBwdIdeal.main_v3_2)),
      θ_run (Cert.FfnActBwdIdeal.defs (F := Ideal)) (onTc (τ := Cert.FfnActBwdIdeal.τ) (Cert.FfnActBwdIdeal.main (F := Ideal))) ⟨m, fun _ => 0, g⟩ (fun r => ∀ c : Dev Cert.FfnActBwdIdeal.nD,
          r.2.mem ((c.tc : Thread Cert.FfnActBwdIdeal.nD Cert.FfnActBwdIdeal.τ).loc Cert.FfnActBwdIdeal.main_v3_0) = v0 c
          ∧ r.2.mem ((c.tc : Thread Cert.FfnActBwdIdeal.nD Cert.FfnActBwdIdeal.τ).loc Cert.FfnActBwdIdeal.main_v3_1) = v1 c
          ∧ r.2.mem ((c.tc : Thread Cert.FfnActBwdIdeal.nD Cert.FfnActBwdIdeal.τ).loc Cert.FfnActBwdIdeal.main_v3_2) = v2 c
          ∧ r.2.mem ((c.tc : Thread Cert.FfnActBwdIdeal.nD Cert.FfnActBwdIdeal.τ).loc Cert.FfnActBwdIdeal.main_arg0) = m ((c.tc : Thread Cert.FfnActBwdIdeal.nD Cert.FfnActBwdIdeal.τ).loc Cert.FfnActBwdIdeal.main_arg0)
          ∧ r.2.mem ((c.tc : Thread Cert.FfnActBwdIdeal.nD Cert.FfnActBwdIdeal.τ).loc Cert.FfnActBwdIdeal.main_arg1) = m ((c.tc : Thread Cert.FfnActBwdIdeal.nD Cert.FfnActBwdIdeal.τ).loc Cert.FfnActBwdIdeal.main_arg1)
          ∧ r.2.mem ((c.tc : Thread Cert.FfnActBwdIdeal.nD Cert.FfnActBwdIdeal.τ).loc Cert.FfnActBwdIdeal.main_arg2) = m ((c.tc : Thread Cert.FfnActBwdIdeal.nD Cert.FfnActBwdIdeal.τ).loc Cert.FfnActBwdIdeal.main_arg2)
          ∧ r.2.mem ((c.tc : Thread Cert.FfnActBwdIdeal.nD Cert.FfnActBwdIdeal.τ).loc Cert.FfnActBwdIdeal.main_arg3) = m ((c.tc : Thread Cert.FfnActBwdIdeal.nD Cert.FfnActBwdIdeal.τ).loc Cert.FfnActBwdIdeal.main_arg3))
      ∧ θ_run (Cert.FfnActBwdRefIdeal.defs (F := Ideal)) (onTc (τ := Cert.FfnActBwdRefIdeal.τ) (Cert.FfnActBwdRefIdeal.main (F := Ideal))) ⟨m', fun _ => 0, g'⟩ (fun r => ∀ c : Dev Cert.FfnActBwdRefIdeal.nD,
          r.2.mem ((c.tc : Thread Cert.FfnActBwdRefIdeal.nD Cert.FfnActBwdRefIdeal.τ).loc Cert.FfnActBwdRefIdeal.main_v107) = v0 c
          ∧ r.2.mem ((c.tc : Thread Cert.FfnActBwdRefIdeal.nD Cert.FfnActBwdRefIdeal.τ).loc Cert.FfnActBwdRefIdeal.main_v109) = v1 c
          ∧ r.2.mem ((c.tc : Thread Cert.FfnActBwdRefIdeal.nD Cert.FfnActBwdRefIdeal.τ).loc Cert.FfnActBwdRefIdeal.main_v110) = v2 c
          ∧ r.2.mem ((c.tc : Thread Cert.FfnActBwdRefIdeal.nD Cert.FfnActBwdRefIdeal.τ).loc Cert.FfnActBwdRefIdeal.main_arg0) = m' ((c.tc : Thread Cert.FfnActBwdRefIdeal.nD Cert.FfnActBwdRefIdeal.τ).loc Cert.FfnActBwdRefIdeal.main_arg0)
          ∧ r.2.mem ((c.tc : Thread Cert.FfnActBwdRefIdeal.nD Cert.FfnActBwdRefIdeal.τ).loc Cert.FfnActBwdRefIdeal.main_arg1) = m' ((c.tc : Thread Cert.FfnActBwdRefIdeal.nD Cert.FfnActBwdRefIdeal.τ).loc Cert.FfnActBwdRefIdeal.main_arg1)
          ∧ r.2.mem ((c.tc : Thread Cert.FfnActBwdRefIdeal.nD Cert.FfnActBwdRefIdeal.τ).loc Cert.FfnActBwdRefIdeal.main_arg2) = m' ((c.tc : Thread Cert.FfnActBwdRefIdeal.nD Cert.FfnActBwdRefIdeal.τ).loc Cert.FfnActBwdRefIdeal.main_arg2)
          ∧ r.2.mem ((c.tc : Thread Cert.FfnActBwdRefIdeal.nD Cert.FfnActBwdRefIdeal.τ).loc Cert.FfnActBwdRefIdeal.main_arg3) = m' ((c.tc : Thread Cert.FfnActBwdRefIdeal.nD Cert.FfnActBwdRefIdeal.τ).loc Cert.FfnActBwdRefIdeal.main_arg3))

def preserves_LruMixBwd_LruMixBwdIdeal : Prop :=
  True

def algebraic_LruMixBwdIdeal_LruMixBwdRefIdeal_pre_finite_mix [hLruMixBwdIdeal : Cert.LruMixBwdIdeal.Facts] [hLruMixBwdRefIdeal : Cert.LruMixBwdRefIdeal.Facts] [hPre_finite_mix : Cert.Pre_finite_mix.Facts] : Prop :=
  ∀ (m : (ℓ : Loc Cert.LruMixBwdIdeal.nD Cert.LruMixBwdIdeal.τ Cert.LruMixBwdIdeal.sig) → Buf (Elt Ideal) ℓ) (g : Dev Cert.LruMixBwdIdeal.nD → PrngReg)
    (m' : (ℓ : Loc Cert.LruMixBwdRefIdeal.nD Cert.LruMixBwdRefIdeal.τ Cert.LruMixBwdRefIdeal.sig) → Buf (Elt Ideal) ℓ) (g' : Dev Cert.LruMixBwdRefIdeal.nD → PrngReg), Pre_LruMixBwdIdeal_finite_mix m →
    (∀ c : Dev Cert.LruMixBwdIdeal.nD,
      m' ((c.tc : Thread Cert.LruMixBwdRefIdeal.nD Cert.LruMixBwdRefIdeal.τ).loc Cert.LruMixBwdRefIdeal.main_arg0) = m ((c.tc : Thread Cert.LruMixBwdIdeal.nD Cert.LruMixBwdIdeal.τ).loc Cert.LruMixBwdIdeal.main_arg0)
      ∧ m' ((c.tc : Thread Cert.LruMixBwdRefIdeal.nD Cert.LruMixBwdRefIdeal.τ).loc Cert.LruMixBwdRefIdeal.main_arg1) = m ((c.tc : Thread Cert.LruMixBwdIdeal.nD Cert.LruMixBwdIdeal.τ).loc Cert.LruMixBwdIdeal.main_arg1)
      ∧ m' ((c.tc : Thread Cert.LruMixBwdRefIdeal.nD Cert.LruMixBwdRefIdeal.τ).loc Cert.LruMixBwdRefIdeal.main_arg2) = m ((c.tc : Thread Cert.LruMixBwdIdeal.nD Cert.LruMixBwdIdeal.τ).loc Cert.LruMixBwdIdeal.main_arg2)
      ∧ m' ((c.tc : Thread Cert.LruMixBwdRefIdeal.nD Cert.LruMixBwdRefIdeal.τ).loc Cert.LruMixBwdRefIdeal.main_arg3) = m ((c.tc : Thread Cert.LruMixBwdIdeal.nD Cert.LruMixBwdIdeal.τ).loc Cert.LruMixBwdIdeal.main_arg3)) →
    ∃ (v0 : (c : Dev Cert.LruMixBwdIdeal.nD) → Buf (Elt Ideal) ((c.tc : Thread Cert.LruMixBwdIdeal.nD Cert.LruMixBwdIdeal.τ).loc Cert.LruMixBwdIdeal.main_v0_0)) (v1 : (c : Dev Cert.LruMixBwdIdeal.nD) → Buf (Elt Ideal) ((c.tc : Thread Cert.LruMixBwdIdeal.nD Cert.LruMixBwdIdeal.τ).loc Cert.LruMixBwdIdeal.main_v0_1)) (v2 : (c : Dev Cert.LruMixBwdIdeal.nD) → Buf (Elt Ideal) ((c.tc : Thread Cert.LruMixBwdIdeal.nD Cert.LruMixBwdIdeal.τ).loc Cert.LruMixBwdIdeal.main_v0_2)),
      θ_run (Cert.LruMixBwdIdeal.defs (F := Ideal)) (onTc (τ := Cert.LruMixBwdIdeal.τ) (Cert.LruMixBwdIdeal.main (F := Ideal))) ⟨m, fun _ => 0, g⟩ (fun r => ∀ c : Dev Cert.LruMixBwdIdeal.nD,
          r.2.mem ((c.tc : Thread Cert.LruMixBwdIdeal.nD Cert.LruMixBwdIdeal.τ).loc Cert.LruMixBwdIdeal.main_v0_0) = v0 c
          ∧ r.2.mem ((c.tc : Thread Cert.LruMixBwdIdeal.nD Cert.LruMixBwdIdeal.τ).loc Cert.LruMixBwdIdeal.main_v0_1) = v1 c
          ∧ r.2.mem ((c.tc : Thread Cert.LruMixBwdIdeal.nD Cert.LruMixBwdIdeal.τ).loc Cert.LruMixBwdIdeal.main_v0_2) = v2 c
          ∧ r.2.mem ((c.tc : Thread Cert.LruMixBwdIdeal.nD Cert.LruMixBwdIdeal.τ).loc Cert.LruMixBwdIdeal.main_arg0) = m ((c.tc : Thread Cert.LruMixBwdIdeal.nD Cert.LruMixBwdIdeal.τ).loc Cert.LruMixBwdIdeal.main_arg0)
          ∧ r.2.mem ((c.tc : Thread Cert.LruMixBwdIdeal.nD Cert.LruMixBwdIdeal.τ).loc Cert.LruMixBwdIdeal.main_arg1) = m ((c.tc : Thread Cert.LruMixBwdIdeal.nD Cert.LruMixBwdIdeal.τ).loc Cert.LruMixBwdIdeal.main_arg1)
          ∧ r.2.mem ((c.tc : Thread Cert.LruMixBwdIdeal.nD Cert.LruMixBwdIdeal.τ).loc Cert.LruMixBwdIdeal.main_arg2) = m ((c.tc : Thread Cert.LruMixBwdIdeal.nD Cert.LruMixBwdIdeal.τ).loc Cert.LruMixBwdIdeal.main_arg2)
          ∧ r.2.mem ((c.tc : Thread Cert.LruMixBwdIdeal.nD Cert.LruMixBwdIdeal.τ).loc Cert.LruMixBwdIdeal.main_arg3) = m ((c.tc : Thread Cert.LruMixBwdIdeal.nD Cert.LruMixBwdIdeal.τ).loc Cert.LruMixBwdIdeal.main_arg3))
      ∧ θ_run (Cert.LruMixBwdRefIdeal.defs (F := Ideal)) (onTc (τ := Cert.LruMixBwdRefIdeal.τ) (Cert.LruMixBwdRefIdeal.main (F := Ideal))) ⟨m', fun _ => 0, g'⟩ (fun r => ∀ c : Dev Cert.LruMixBwdRefIdeal.nD,
          r.2.mem ((c.tc : Thread Cert.LruMixBwdRefIdeal.nD Cert.LruMixBwdRefIdeal.τ).loc Cert.LruMixBwdRefIdeal.main_v24) = v0 c
          ∧ r.2.mem ((c.tc : Thread Cert.LruMixBwdRefIdeal.nD Cert.LruMixBwdRefIdeal.τ).loc Cert.LruMixBwdRefIdeal.main_v36) = v1 c
          ∧ r.2.mem ((c.tc : Thread Cert.LruMixBwdRefIdeal.nD Cert.LruMixBwdRefIdeal.τ).loc Cert.LruMixBwdRefIdeal.main_v45) = v2 c
          ∧ r.2.mem ((c.tc : Thread Cert.LruMixBwdRefIdeal.nD Cert.LruMixBwdRefIdeal.τ).loc Cert.LruMixBwdRefIdeal.main_arg0) = m' ((c.tc : Thread Cert.LruMixBwdRefIdeal.nD Cert.LruMixBwdRefIdeal.τ).loc Cert.LruMixBwdRefIdeal.main_arg0)
          ∧ r.2.mem ((c.tc : Thread Cert.LruMixBwdRefIdeal.nD Cert.LruMixBwdRefIdeal.τ).loc Cert.LruMixBwdRefIdeal.main_arg1) = m' ((c.tc : Thread Cert.LruMixBwdRefIdeal.nD Cert.LruMixBwdRefIdeal.τ).loc Cert.LruMixBwdRefIdeal.main_arg1)
          ∧ r.2.mem ((c.tc : Thread Cert.LruMixBwdRefIdeal.nD Cert.LruMixBwdRefIdeal.τ).loc Cert.LruMixBwdRefIdeal.main_arg2) = m' ((c.tc : Thread Cert.LruMixBwdRefIdeal.nD Cert.LruMixBwdRefIdeal.τ).loc Cert.LruMixBwdRefIdeal.main_arg2)
          ∧ r.2.mem ((c.tc : Thread Cert.LruMixBwdRefIdeal.nD Cert.LruMixBwdRefIdeal.τ).loc Cert.LruMixBwdRefIdeal.main_arg3) = m' ((c.tc : Thread Cert.LruMixBwdRefIdeal.nD Cert.LruMixBwdRefIdeal.τ).loc Cert.LruMixBwdRefIdeal.main_arg3))

def preserves_RwkvMixBwd_RwkvMixBwdIdeal : Prop :=
  True

def algebraic_RwkvMixBwdIdeal_RwkvMixBwdRefIdeal_pre_finite_shift [hRwkvMixBwdIdeal : Cert.RwkvMixBwdIdeal.Facts] [hRwkvMixBwdRefIdeal : Cert.RwkvMixBwdRefIdeal.Facts] [hPre_finite_shift : Cert.Pre_finite_shift.Facts] : Prop :=
  ∀ (m : (ℓ : Loc Cert.RwkvMixBwdIdeal.nD Cert.RwkvMixBwdIdeal.τ Cert.RwkvMixBwdIdeal.sig) → Buf (Elt Ideal) ℓ) (g : Dev Cert.RwkvMixBwdIdeal.nD → PrngReg)
    (m' : (ℓ : Loc Cert.RwkvMixBwdRefIdeal.nD Cert.RwkvMixBwdRefIdeal.τ Cert.RwkvMixBwdRefIdeal.sig) → Buf (Elt Ideal) ℓ) (g' : Dev Cert.RwkvMixBwdRefIdeal.nD → PrngReg), Pre_RwkvMixBwdIdeal_finite_shift m →
    (∀ c : Dev Cert.RwkvMixBwdIdeal.nD,
      m' ((c.tc : Thread Cert.RwkvMixBwdRefIdeal.nD Cert.RwkvMixBwdRefIdeal.τ).loc Cert.RwkvMixBwdRefIdeal.main_arg0) = m ((c.tc : Thread Cert.RwkvMixBwdIdeal.nD Cert.RwkvMixBwdIdeal.τ).loc Cert.RwkvMixBwdIdeal.main_arg0)
      ∧ m' ((c.tc : Thread Cert.RwkvMixBwdRefIdeal.nD Cert.RwkvMixBwdRefIdeal.τ).loc Cert.RwkvMixBwdRefIdeal.main_arg1) = m ((c.tc : Thread Cert.RwkvMixBwdIdeal.nD Cert.RwkvMixBwdIdeal.τ).loc Cert.RwkvMixBwdIdeal.main_arg1)
      ∧ m' ((c.tc : Thread Cert.RwkvMixBwdRefIdeal.nD Cert.RwkvMixBwdRefIdeal.τ).loc Cert.RwkvMixBwdRefIdeal.main_arg2) = m ((c.tc : Thread Cert.RwkvMixBwdIdeal.nD Cert.RwkvMixBwdIdeal.τ).loc Cert.RwkvMixBwdIdeal.main_arg2)
      ∧ m' ((c.tc : Thread Cert.RwkvMixBwdRefIdeal.nD Cert.RwkvMixBwdRefIdeal.τ).loc Cert.RwkvMixBwdRefIdeal.main_arg3) = m ((c.tc : Thread Cert.RwkvMixBwdIdeal.nD Cert.RwkvMixBwdIdeal.τ).loc Cert.RwkvMixBwdIdeal.main_arg3)
      ∧ m' ((c.tc : Thread Cert.RwkvMixBwdRefIdeal.nD Cert.RwkvMixBwdRefIdeal.τ).loc Cert.RwkvMixBwdRefIdeal.main_arg4) = m ((c.tc : Thread Cert.RwkvMixBwdIdeal.nD Cert.RwkvMixBwdIdeal.τ).loc Cert.RwkvMixBwdIdeal.main_arg4)
      ∧ m' ((c.tc : Thread Cert.RwkvMixBwdRefIdeal.nD Cert.RwkvMixBwdRefIdeal.τ).loc Cert.RwkvMixBwdRefIdeal.main_arg5) = m ((c.tc : Thread Cert.RwkvMixBwdIdeal.nD Cert.RwkvMixBwdIdeal.τ).loc Cert.RwkvMixBwdIdeal.main_arg5)
      ∧ m' ((c.tc : Thread Cert.RwkvMixBwdRefIdeal.nD Cert.RwkvMixBwdRefIdeal.τ).loc Cert.RwkvMixBwdRefIdeal.main_arg6) = m ((c.tc : Thread Cert.RwkvMixBwdIdeal.nD Cert.RwkvMixBwdIdeal.τ).loc Cert.RwkvMixBwdIdeal.main_arg6)
      ∧ m' ((c.tc : Thread Cert.RwkvMixBwdRefIdeal.nD Cert.RwkvMixBwdRefIdeal.τ).loc Cert.RwkvMixBwdRefIdeal.main_arg7) = m ((c.tc : Thread Cert.RwkvMixBwdIdeal.nD Cert.RwkvMixBwdIdeal.τ).loc Cert.RwkvMixBwdIdeal.main_arg7)
      ∧ m' ((c.tc : Thread Cert.RwkvMixBwdRefIdeal.nD Cert.RwkvMixBwdRefIdeal.τ).loc Cert.RwkvMixBwdRefIdeal.main_arg8) = m ((c.tc : Thread Cert.RwkvMixBwdIdeal.nD Cert.RwkvMixBwdIdeal.τ).loc Cert.RwkvMixBwdIdeal.main_arg8)
      ∧ m' ((c.tc : Thread Cert.RwkvMixBwdRefIdeal.nD Cert.RwkvMixBwdRefIdeal.τ).loc Cert.RwkvMixBwdRefIdeal.main_arg9) = m ((c.tc : Thread Cert.RwkvMixBwdIdeal.nD Cert.RwkvMixBwdIdeal.τ).loc Cert.RwkvMixBwdIdeal.main_arg9)) →
    ∃ (v0 : (c : Dev Cert.RwkvMixBwdIdeal.nD) → Buf (Elt Ideal) ((c.tc : Thread Cert.RwkvMixBwdIdeal.nD Cert.RwkvMixBwdIdeal.τ).loc Cert.RwkvMixBwdIdeal.main_v3_0)) (v1 : (c : Dev Cert.RwkvMixBwdIdeal.nD) → Buf (Elt Ideal) ((c.tc : Thread Cert.RwkvMixBwdIdeal.nD Cert.RwkvMixBwdIdeal.τ).loc Cert.RwkvMixBwdIdeal.main_v3_1)) (v2 : (c : Dev Cert.RwkvMixBwdIdeal.nD) → Buf (Elt Ideal) ((c.tc : Thread Cert.RwkvMixBwdIdeal.nD Cert.RwkvMixBwdIdeal.τ).loc Cert.RwkvMixBwdIdeal.main_v3_2)),
      θ_run (Cert.RwkvMixBwdIdeal.defs (F := Ideal)) (onTc (τ := Cert.RwkvMixBwdIdeal.τ) (Cert.RwkvMixBwdIdeal.main (F := Ideal))) ⟨m, fun _ => 0, g⟩ (fun r => ∀ c : Dev Cert.RwkvMixBwdIdeal.nD,
          r.2.mem ((c.tc : Thread Cert.RwkvMixBwdIdeal.nD Cert.RwkvMixBwdIdeal.τ).loc Cert.RwkvMixBwdIdeal.main_v3_0) = v0 c
          ∧ r.2.mem ((c.tc : Thread Cert.RwkvMixBwdIdeal.nD Cert.RwkvMixBwdIdeal.τ).loc Cert.RwkvMixBwdIdeal.main_v3_1) = v1 c
          ∧ r.2.mem ((c.tc : Thread Cert.RwkvMixBwdIdeal.nD Cert.RwkvMixBwdIdeal.τ).loc Cert.RwkvMixBwdIdeal.main_v3_2) = v2 c
          ∧ r.2.mem ((c.tc : Thread Cert.RwkvMixBwdIdeal.nD Cert.RwkvMixBwdIdeal.τ).loc Cert.RwkvMixBwdIdeal.main_arg0) = m ((c.tc : Thread Cert.RwkvMixBwdIdeal.nD Cert.RwkvMixBwdIdeal.τ).loc Cert.RwkvMixBwdIdeal.main_arg0)
          ∧ r.2.mem ((c.tc : Thread Cert.RwkvMixBwdIdeal.nD Cert.RwkvMixBwdIdeal.τ).loc Cert.RwkvMixBwdIdeal.main_arg1) = m ((c.tc : Thread Cert.RwkvMixBwdIdeal.nD Cert.RwkvMixBwdIdeal.τ).loc Cert.RwkvMixBwdIdeal.main_arg1)
          ∧ r.2.mem ((c.tc : Thread Cert.RwkvMixBwdIdeal.nD Cert.RwkvMixBwdIdeal.τ).loc Cert.RwkvMixBwdIdeal.main_arg2) = m ((c.tc : Thread Cert.RwkvMixBwdIdeal.nD Cert.RwkvMixBwdIdeal.τ).loc Cert.RwkvMixBwdIdeal.main_arg2)
          ∧ r.2.mem ((c.tc : Thread Cert.RwkvMixBwdIdeal.nD Cert.RwkvMixBwdIdeal.τ).loc Cert.RwkvMixBwdIdeal.main_arg3) = m ((c.tc : Thread Cert.RwkvMixBwdIdeal.nD Cert.RwkvMixBwdIdeal.τ).loc Cert.RwkvMixBwdIdeal.main_arg3)
          ∧ r.2.mem ((c.tc : Thread Cert.RwkvMixBwdIdeal.nD Cert.RwkvMixBwdIdeal.τ).loc Cert.RwkvMixBwdIdeal.main_arg4) = m ((c.tc : Thread Cert.RwkvMixBwdIdeal.nD Cert.RwkvMixBwdIdeal.τ).loc Cert.RwkvMixBwdIdeal.main_arg4)
          ∧ r.2.mem ((c.tc : Thread Cert.RwkvMixBwdIdeal.nD Cert.RwkvMixBwdIdeal.τ).loc Cert.RwkvMixBwdIdeal.main_arg5) = m ((c.tc : Thread Cert.RwkvMixBwdIdeal.nD Cert.RwkvMixBwdIdeal.τ).loc Cert.RwkvMixBwdIdeal.main_arg5)
          ∧ r.2.mem ((c.tc : Thread Cert.RwkvMixBwdIdeal.nD Cert.RwkvMixBwdIdeal.τ).loc Cert.RwkvMixBwdIdeal.main_arg6) = m ((c.tc : Thread Cert.RwkvMixBwdIdeal.nD Cert.RwkvMixBwdIdeal.τ).loc Cert.RwkvMixBwdIdeal.main_arg6)
          ∧ r.2.mem ((c.tc : Thread Cert.RwkvMixBwdIdeal.nD Cert.RwkvMixBwdIdeal.τ).loc Cert.RwkvMixBwdIdeal.main_arg7) = m ((c.tc : Thread Cert.RwkvMixBwdIdeal.nD Cert.RwkvMixBwdIdeal.τ).loc Cert.RwkvMixBwdIdeal.main_arg7)
          ∧ r.2.mem ((c.tc : Thread Cert.RwkvMixBwdIdeal.nD Cert.RwkvMixBwdIdeal.τ).loc Cert.RwkvMixBwdIdeal.main_arg8) = m ((c.tc : Thread Cert.RwkvMixBwdIdeal.nD Cert.RwkvMixBwdIdeal.τ).loc Cert.RwkvMixBwdIdeal.main_arg8)
          ∧ r.2.mem ((c.tc : Thread Cert.RwkvMixBwdIdeal.nD Cert.RwkvMixBwdIdeal.τ).loc Cert.RwkvMixBwdIdeal.main_arg9) = m ((c.tc : Thread Cert.RwkvMixBwdIdeal.nD Cert.RwkvMixBwdIdeal.τ).loc Cert.RwkvMixBwdIdeal.main_arg9))
      ∧ θ_run (Cert.RwkvMixBwdRefIdeal.defs (F := Ideal)) (onTc (τ := Cert.RwkvMixBwdRefIdeal.τ) (Cert.RwkvMixBwdRefIdeal.main (F := Ideal))) ⟨m', fun _ => 0, g'⟩ (fun r => ∀ c : Dev Cert.RwkvMixBwdRefIdeal.nD,
          r.2.mem ((c.tc : Thread Cert.RwkvMixBwdRefIdeal.nD Cert.RwkvMixBwdRefIdeal.τ).loc Cert.RwkvMixBwdRefIdeal.main_v160) = v0 c
          ∧ r.2.mem ((c.tc : Thread Cert.RwkvMixBwdRefIdeal.nD Cert.RwkvMixBwdRefIdeal.τ).loc Cert.RwkvMixBwdRefIdeal.main_v161) = v1 c
          ∧ r.2.mem ((c.tc : Thread Cert.RwkvMixBwdRefIdeal.nD Cert.RwkvMixBwdRefIdeal.τ).loc Cert.RwkvMixBwdRefIdeal.main_v163) = v2 c
          ∧ r.2.mem ((c.tc : Thread Cert.RwkvMixBwdRefIdeal.nD Cert.RwkvMixBwdRefIdeal.τ).loc Cert.RwkvMixBwdRefIdeal.main_arg0) = m' ((c.tc : Thread Cert.RwkvMixBwdRefIdeal.nD Cert.RwkvMixBwdRefIdeal.τ).loc Cert.RwkvMixBwdRefIdeal.main_arg0)
          ∧ r.2.mem ((c.tc : Thread Cert.RwkvMixBwdRefIdeal.nD Cert.RwkvMixBwdRefIdeal.τ).loc Cert.RwkvMixBwdRefIdeal.main_arg1) = m' ((c.tc : Thread Cert.RwkvMixBwdRefIdeal.nD Cert.RwkvMixBwdRefIdeal.τ).loc Cert.RwkvMixBwdRefIdeal.main_arg1)
          ∧ r.2.mem ((c.tc : Thread Cert.RwkvMixBwdRefIdeal.nD Cert.RwkvMixBwdRefIdeal.τ).loc Cert.RwkvMixBwdRefIdeal.main_arg2) = m' ((c.tc : Thread Cert.RwkvMixBwdRefIdeal.nD Cert.RwkvMixBwdRefIdeal.τ).loc Cert.RwkvMixBwdRefIdeal.main_arg2)
          ∧ r.2.mem ((c.tc : Thread Cert.RwkvMixBwdRefIdeal.nD Cert.RwkvMixBwdRefIdeal.τ).loc Cert.RwkvMixBwdRefIdeal.main_arg3) = m' ((c.tc : Thread Cert.RwkvMixBwdRefIdeal.nD Cert.RwkvMixBwdRefIdeal.τ).loc Cert.RwkvMixBwdRefIdeal.main_arg3)
          ∧ r.2.mem ((c.tc : Thread Cert.RwkvMixBwdRefIdeal.nD Cert.RwkvMixBwdRefIdeal.τ).loc Cert.RwkvMixBwdRefIdeal.main_arg4) = m' ((c.tc : Thread Cert.RwkvMixBwdRefIdeal.nD Cert.RwkvMixBwdRefIdeal.τ).loc Cert.RwkvMixBwdRefIdeal.main_arg4)
          ∧ r.2.mem ((c.tc : Thread Cert.RwkvMixBwdRefIdeal.nD Cert.RwkvMixBwdRefIdeal.τ).loc Cert.RwkvMixBwdRefIdeal.main_arg5) = m' ((c.tc : Thread Cert.RwkvMixBwdRefIdeal.nD Cert.RwkvMixBwdRefIdeal.τ).loc Cert.RwkvMixBwdRefIdeal.main_arg5)
          ∧ r.2.mem ((c.tc : Thread Cert.RwkvMixBwdRefIdeal.nD Cert.RwkvMixBwdRefIdeal.τ).loc Cert.RwkvMixBwdRefIdeal.main_arg6) = m' ((c.tc : Thread Cert.RwkvMixBwdRefIdeal.nD Cert.RwkvMixBwdRefIdeal.τ).loc Cert.RwkvMixBwdRefIdeal.main_arg6)
          ∧ r.2.mem ((c.tc : Thread Cert.RwkvMixBwdRefIdeal.nD Cert.RwkvMixBwdRefIdeal.τ).loc Cert.RwkvMixBwdRefIdeal.main_arg7) = m' ((c.tc : Thread Cert.RwkvMixBwdRefIdeal.nD Cert.RwkvMixBwdRefIdeal.τ).loc Cert.RwkvMixBwdRefIdeal.main_arg7)
          ∧ r.2.mem ((c.tc : Thread Cert.RwkvMixBwdRefIdeal.nD Cert.RwkvMixBwdRefIdeal.τ).loc Cert.RwkvMixBwdRefIdeal.main_arg8) = m' ((c.tc : Thread Cert.RwkvMixBwdRefIdeal.nD Cert.RwkvMixBwdRefIdeal.τ).loc Cert.RwkvMixBwdRefIdeal.main_arg8)
          ∧ r.2.mem ((c.tc : Thread Cert.RwkvMixBwdRefIdeal.nD Cert.RwkvMixBwdRefIdeal.τ).loc Cert.RwkvMixBwdRefIdeal.main_arg9) = m' ((c.tc : Thread Cert.RwkvMixBwdRefIdeal.nD Cert.RwkvMixBwdRefIdeal.τ).loc Cert.RwkvMixBwdRefIdeal.main_arg9))

def preserves_RwkvPostBwd_RwkvPostBwdIdeal : Prop :=
  True

def algebraic_RwkvPostBwdIdeal_RwkvPostBwdRefIdeal_pre_finite_post [hRwkvPostBwdIdeal : Cert.RwkvPostBwdIdeal.Facts] [hRwkvPostBwdRefIdeal : Cert.RwkvPostBwdRefIdeal.Facts] [hPre_finite_post : Cert.Pre_finite_post.Facts] : Prop :=
  ∀ (m : (ℓ : Loc Cert.RwkvPostBwdIdeal.nD Cert.RwkvPostBwdIdeal.τ Cert.RwkvPostBwdIdeal.sig) → Buf (Elt Ideal) ℓ) (g : Dev Cert.RwkvPostBwdIdeal.nD → PrngReg)
    (m' : (ℓ : Loc Cert.RwkvPostBwdRefIdeal.nD Cert.RwkvPostBwdRefIdeal.τ Cert.RwkvPostBwdRefIdeal.sig) → Buf (Elt Ideal) ℓ) (g' : Dev Cert.RwkvPostBwdRefIdeal.nD → PrngReg), Pre_RwkvPostBwdIdeal_finite_post m →
    (∀ c : Dev Cert.RwkvPostBwdIdeal.nD,
      m' ((c.tc : Thread Cert.RwkvPostBwdRefIdeal.nD Cert.RwkvPostBwdRefIdeal.τ).loc Cert.RwkvPostBwdRefIdeal.main_arg0) = m ((c.tc : Thread Cert.RwkvPostBwdIdeal.nD Cert.RwkvPostBwdIdeal.τ).loc Cert.RwkvPostBwdIdeal.main_arg0)
      ∧ m' ((c.tc : Thread Cert.RwkvPostBwdRefIdeal.nD Cert.RwkvPostBwdRefIdeal.τ).loc Cert.RwkvPostBwdRefIdeal.main_arg1) = m ((c.tc : Thread Cert.RwkvPostBwdIdeal.nD Cert.RwkvPostBwdIdeal.τ).loc Cert.RwkvPostBwdIdeal.main_arg1)
      ∧ m' ((c.tc : Thread Cert.RwkvPostBwdRefIdeal.nD Cert.RwkvPostBwdRefIdeal.τ).loc Cert.RwkvPostBwdRefIdeal.main_arg2) = m ((c.tc : Thread Cert.RwkvPostBwdIdeal.nD Cert.RwkvPostBwdIdeal.τ).loc Cert.RwkvPostBwdIdeal.main_arg2)
      ∧ m' ((c.tc : Thread Cert.RwkvPostBwdRefIdeal.nD Cert.RwkvPostBwdRefIdeal.τ).loc Cert.RwkvPostBwdRefIdeal.main_arg3) = m ((c.tc : Thread Cert.RwkvPostBwdIdeal.nD Cert.RwkvPostBwdIdeal.τ).loc Cert.RwkvPostBwdIdeal.main_arg3)
      ∧ m' ((c.tc : Thread Cert.RwkvPostBwdRefIdeal.nD Cert.RwkvPostBwdRefIdeal.τ).loc Cert.RwkvPostBwdRefIdeal.main_arg4) = m ((c.tc : Thread Cert.RwkvPostBwdIdeal.nD Cert.RwkvPostBwdIdeal.τ).loc Cert.RwkvPostBwdIdeal.main_arg4)
      ∧ m' ((c.tc : Thread Cert.RwkvPostBwdRefIdeal.nD Cert.RwkvPostBwdRefIdeal.τ).loc Cert.RwkvPostBwdRefIdeal.main_arg5) = m ((c.tc : Thread Cert.RwkvPostBwdIdeal.nD Cert.RwkvPostBwdIdeal.τ).loc Cert.RwkvPostBwdIdeal.main_arg5)
      ∧ m' ((c.tc : Thread Cert.RwkvPostBwdRefIdeal.nD Cert.RwkvPostBwdRefIdeal.τ).loc Cert.RwkvPostBwdRefIdeal.main_arg6) = m ((c.tc : Thread Cert.RwkvPostBwdIdeal.nD Cert.RwkvPostBwdIdeal.τ).loc Cert.RwkvPostBwdIdeal.main_arg6)
      ∧ m' ((c.tc : Thread Cert.RwkvPostBwdRefIdeal.nD Cert.RwkvPostBwdRefIdeal.τ).loc Cert.RwkvPostBwdRefIdeal.main_arg7) = m ((c.tc : Thread Cert.RwkvPostBwdIdeal.nD Cert.RwkvPostBwdIdeal.τ).loc Cert.RwkvPostBwdIdeal.main_arg7)
      ∧ m' ((c.tc : Thread Cert.RwkvPostBwdRefIdeal.nD Cert.RwkvPostBwdRefIdeal.τ).loc Cert.RwkvPostBwdRefIdeal.main_arg8) = m ((c.tc : Thread Cert.RwkvPostBwdIdeal.nD Cert.RwkvPostBwdIdeal.τ).loc Cert.RwkvPostBwdIdeal.main_arg8)) →
    ∃ (v0 : (c : Dev Cert.RwkvPostBwdIdeal.nD) → Buf (Elt Ideal) ((c.tc : Thread Cert.RwkvPostBwdIdeal.nD Cert.RwkvPostBwdIdeal.τ).loc Cert.RwkvPostBwdIdeal.main_v16_0)) (v1 : (c : Dev Cert.RwkvPostBwdIdeal.nD) → Buf (Elt Ideal) ((c.tc : Thread Cert.RwkvPostBwdIdeal.nD Cert.RwkvPostBwdIdeal.τ).loc Cert.RwkvPostBwdIdeal.main_v16_1)) (v2 : (c : Dev Cert.RwkvPostBwdIdeal.nD) → Buf (Elt Ideal) ((c.tc : Thread Cert.RwkvPostBwdIdeal.nD Cert.RwkvPostBwdIdeal.τ).loc Cert.RwkvPostBwdIdeal.main_v16_2)) (v3 : (c : Dev Cert.RwkvPostBwdIdeal.nD) → Buf (Elt Ideal) ((c.tc : Thread Cert.RwkvPostBwdIdeal.nD Cert.RwkvPostBwdIdeal.τ).loc Cert.RwkvPostBwdIdeal.main_v16_3)) (v4 : (c : Dev Cert.RwkvPostBwdIdeal.nD) → Buf (Elt Ideal) ((c.tc : Thread Cert.RwkvPostBwdIdeal.nD Cert.RwkvPostBwdIdeal.τ).loc Cert.RwkvPostBwdIdeal.main_v16_4)) (v5 : (c : Dev Cert.RwkvPostBwdIdeal.nD) → Buf (Elt Ideal) ((c.tc : Thread Cert.RwkvPostBwdIdeal.nD Cert.RwkvPostBwdIdeal.τ).loc Cert.RwkvPostBwdIdeal.main_v16_5)) (v6 : (c : Dev Cert.RwkvPostBwdIdeal.nD) → Buf (Elt Ideal) ((c.tc : Thread Cert.RwkvPostBwdIdeal.nD Cert.RwkvPostBwdIdeal.τ).loc Cert.RwkvPostBwdIdeal.main_v16_6)) (v7 : (c : Dev Cert.RwkvPostBwdIdeal.nD) → Buf (Elt Ideal) ((c.tc : Thread Cert.RwkvPostBwdIdeal.nD Cert.RwkvPostBwdIdeal.τ).loc Cert.RwkvPostBwdIdeal.main_v16_7)),
      θ_run (Cert.RwkvPostBwdIdeal.defs (F := Ideal)) (onTc (τ := Cert.RwkvPostBwdIdeal.τ) (Cert.RwkvPostBwdIdeal.main (F := Ideal))) ⟨m, fun _ => 0, g⟩ (fun r => ∀ c : Dev Cert.RwkvPostBwdIdeal.nD,
          r.2.mem ((c.tc : Thread Cert.RwkvPostBwdIdeal.nD Cert.RwkvPostBwdIdeal.τ).loc Cert.RwkvPostBwdIdeal.main_v16_0) = v0 c
          ∧ r.2.mem ((c.tc : Thread Cert.RwkvPostBwdIdeal.nD Cert.RwkvPostBwdIdeal.τ).loc Cert.RwkvPostBwdIdeal.main_v16_1) = v1 c
          ∧ r.2.mem ((c.tc : Thread Cert.RwkvPostBwdIdeal.nD Cert.RwkvPostBwdIdeal.τ).loc Cert.RwkvPostBwdIdeal.main_v16_2) = v2 c
          ∧ r.2.mem ((c.tc : Thread Cert.RwkvPostBwdIdeal.nD Cert.RwkvPostBwdIdeal.τ).loc Cert.RwkvPostBwdIdeal.main_v16_3) = v3 c
          ∧ r.2.mem ((c.tc : Thread Cert.RwkvPostBwdIdeal.nD Cert.RwkvPostBwdIdeal.τ).loc Cert.RwkvPostBwdIdeal.main_v16_4) = v4 c
          ∧ r.2.mem ((c.tc : Thread Cert.RwkvPostBwdIdeal.nD Cert.RwkvPostBwdIdeal.τ).loc Cert.RwkvPostBwdIdeal.main_v16_5) = v5 c
          ∧ r.2.mem ((c.tc : Thread Cert.RwkvPostBwdIdeal.nD Cert.RwkvPostBwdIdeal.τ).loc Cert.RwkvPostBwdIdeal.main_v16_6) = v6 c
          ∧ r.2.mem ((c.tc : Thread Cert.RwkvPostBwdIdeal.nD Cert.RwkvPostBwdIdeal.τ).loc Cert.RwkvPostBwdIdeal.main_v16_7) = v7 c
          ∧ r.2.mem ((c.tc : Thread Cert.RwkvPostBwdIdeal.nD Cert.RwkvPostBwdIdeal.τ).loc Cert.RwkvPostBwdIdeal.main_arg0) = m ((c.tc : Thread Cert.RwkvPostBwdIdeal.nD Cert.RwkvPostBwdIdeal.τ).loc Cert.RwkvPostBwdIdeal.main_arg0)
          ∧ r.2.mem ((c.tc : Thread Cert.RwkvPostBwdIdeal.nD Cert.RwkvPostBwdIdeal.τ).loc Cert.RwkvPostBwdIdeal.main_arg1) = m ((c.tc : Thread Cert.RwkvPostBwdIdeal.nD Cert.RwkvPostBwdIdeal.τ).loc Cert.RwkvPostBwdIdeal.main_arg1)
          ∧ r.2.mem ((c.tc : Thread Cert.RwkvPostBwdIdeal.nD Cert.RwkvPostBwdIdeal.τ).loc Cert.RwkvPostBwdIdeal.main_arg2) = m ((c.tc : Thread Cert.RwkvPostBwdIdeal.nD Cert.RwkvPostBwdIdeal.τ).loc Cert.RwkvPostBwdIdeal.main_arg2)
          ∧ r.2.mem ((c.tc : Thread Cert.RwkvPostBwdIdeal.nD Cert.RwkvPostBwdIdeal.τ).loc Cert.RwkvPostBwdIdeal.main_arg3) = m ((c.tc : Thread Cert.RwkvPostBwdIdeal.nD Cert.RwkvPostBwdIdeal.τ).loc Cert.RwkvPostBwdIdeal.main_arg3)
          ∧ r.2.mem ((c.tc : Thread Cert.RwkvPostBwdIdeal.nD Cert.RwkvPostBwdIdeal.τ).loc Cert.RwkvPostBwdIdeal.main_arg4) = m ((c.tc : Thread Cert.RwkvPostBwdIdeal.nD Cert.RwkvPostBwdIdeal.τ).loc Cert.RwkvPostBwdIdeal.main_arg4)
          ∧ r.2.mem ((c.tc : Thread Cert.RwkvPostBwdIdeal.nD Cert.RwkvPostBwdIdeal.τ).loc Cert.RwkvPostBwdIdeal.main_arg5) = m ((c.tc : Thread Cert.RwkvPostBwdIdeal.nD Cert.RwkvPostBwdIdeal.τ).loc Cert.RwkvPostBwdIdeal.main_arg5)
          ∧ r.2.mem ((c.tc : Thread Cert.RwkvPostBwdIdeal.nD Cert.RwkvPostBwdIdeal.τ).loc Cert.RwkvPostBwdIdeal.main_arg6) = m ((c.tc : Thread Cert.RwkvPostBwdIdeal.nD Cert.RwkvPostBwdIdeal.τ).loc Cert.RwkvPostBwdIdeal.main_arg6)
          ∧ r.2.mem ((c.tc : Thread Cert.RwkvPostBwdIdeal.nD Cert.RwkvPostBwdIdeal.τ).loc Cert.RwkvPostBwdIdeal.main_arg7) = m ((c.tc : Thread Cert.RwkvPostBwdIdeal.nD Cert.RwkvPostBwdIdeal.τ).loc Cert.RwkvPostBwdIdeal.main_arg7)
          ∧ r.2.mem ((c.tc : Thread Cert.RwkvPostBwdIdeal.nD Cert.RwkvPostBwdIdeal.τ).loc Cert.RwkvPostBwdIdeal.main_arg8) = m ((c.tc : Thread Cert.RwkvPostBwdIdeal.nD Cert.RwkvPostBwdIdeal.τ).loc Cert.RwkvPostBwdIdeal.main_arg8))
      ∧ θ_run (Cert.RwkvPostBwdRefIdeal.defs (F := Ideal)) (onTc (τ := Cert.RwkvPostBwdRefIdeal.τ) (Cert.RwkvPostBwdRefIdeal.main (F := Ideal))) ⟨m', fun _ => 0, g'⟩ (fun r => ∀ c : Dev Cert.RwkvPostBwdRefIdeal.nD,
          r.2.mem ((c.tc : Thread Cert.RwkvPostBwdRefIdeal.nD Cert.RwkvPostBwdRefIdeal.τ).loc Cert.RwkvPostBwdRefIdeal.main_v100) = v0 c
          ∧ r.2.mem ((c.tc : Thread Cert.RwkvPostBwdRefIdeal.nD Cert.RwkvPostBwdRefIdeal.τ).loc Cert.RwkvPostBwdRefIdeal.main_v99) = v1 c
          ∧ r.2.mem ((c.tc : Thread Cert.RwkvPostBwdRefIdeal.nD Cert.RwkvPostBwdRefIdeal.τ).loc Cert.RwkvPostBwdRefIdeal.main_v98) = v2 c
          ∧ r.2.mem ((c.tc : Thread Cert.RwkvPostBwdRefIdeal.nD Cert.RwkvPostBwdRefIdeal.τ).loc Cert.RwkvPostBwdRefIdeal.main_v97) = v3 c
          ∧ r.2.mem ((c.tc : Thread Cert.RwkvPostBwdRefIdeal.nD Cert.RwkvPostBwdRefIdeal.τ).loc Cert.RwkvPostBwdRefIdeal.main_v45) = v4 c
          ∧ r.2.mem ((c.tc : Thread Cert.RwkvPostBwdRefIdeal.nD Cert.RwkvPostBwdRefIdeal.τ).loc Cert.RwkvPostBwdRefIdeal.main_v101) = v5 c
          ∧ r.2.mem ((c.tc : Thread Cert.RwkvPostBwdRefIdeal.nD Cert.RwkvPostBwdRefIdeal.τ).loc Cert.RwkvPostBwdRefIdeal.main_v102) = v6 c
          ∧ r.2.mem ((c.tc : Thread Cert.RwkvPostBwdRefIdeal.nD Cert.RwkvPostBwdRefIdeal.τ).loc Cert.RwkvPostBwdRefIdeal.main_v103) = v7 c
          ∧ r.2.mem ((c.tc : Thread Cert.RwkvPostBwdRefIdeal.nD Cert.RwkvPostBwdRefIdeal.τ).loc Cert.RwkvPostBwdRefIdeal.main_arg0) = m' ((c.tc : Thread Cert.RwkvPostBwdRefIdeal.nD Cert.RwkvPostBwdRefIdeal.τ).loc Cert.RwkvPostBwdRefIdeal.main_arg0)
          ∧ r.2.mem ((c.tc : Thread Cert.RwkvPostBwdRefIdeal.nD Cert.RwkvPostBwdRefIdeal.τ).loc Cert.RwkvPostBwdRefIdeal.main_arg1) = m' ((c.tc : Thread Cert.RwkvPostBwdRefIdeal.nD Cert.RwkvPostBwdRefIdeal.τ).loc Cert.RwkvPostBwdRefIdeal.main_arg1)
          ∧ r.2.mem ((c.tc : Thread Cert.RwkvPostBwdRefIdeal.nD Cert.RwkvPostBwdRefIdeal.τ).loc Cert.RwkvPostBwdRefIdeal.main_arg2) = m' ((c.tc : Thread Cert.RwkvPostBwdRefIdeal.nD Cert.RwkvPostBwdRefIdeal.τ).loc Cert.RwkvPostBwdRefIdeal.main_arg2)
          ∧ r.2.mem ((c.tc : Thread Cert.RwkvPostBwdRefIdeal.nD Cert.RwkvPostBwdRefIdeal.τ).loc Cert.RwkvPostBwdRefIdeal.main_arg3) = m' ((c.tc : Thread Cert.RwkvPostBwdRefIdeal.nD Cert.RwkvPostBwdRefIdeal.τ).loc Cert.RwkvPostBwdRefIdeal.main_arg3)
          ∧ r.2.mem ((c.tc : Thread Cert.RwkvPostBwdRefIdeal.nD Cert.RwkvPostBwdRefIdeal.τ).loc Cert.RwkvPostBwdRefIdeal.main_arg4) = m' ((c.tc : Thread Cert.RwkvPostBwdRefIdeal.nD Cert.RwkvPostBwdRefIdeal.τ).loc Cert.RwkvPostBwdRefIdeal.main_arg4)
          ∧ r.2.mem ((c.tc : Thread Cert.RwkvPostBwdRefIdeal.nD Cert.RwkvPostBwdRefIdeal.τ).loc Cert.RwkvPostBwdRefIdeal.main_arg5) = m' ((c.tc : Thread Cert.RwkvPostBwdRefIdeal.nD Cert.RwkvPostBwdRefIdeal.τ).loc Cert.RwkvPostBwdRefIdeal.main_arg5)
          ∧ r.2.mem ((c.tc : Thread Cert.RwkvPostBwdRefIdeal.nD Cert.RwkvPostBwdRefIdeal.τ).loc Cert.RwkvPostBwdRefIdeal.main_arg6) = m' ((c.tc : Thread Cert.RwkvPostBwdRefIdeal.nD Cert.RwkvPostBwdRefIdeal.τ).loc Cert.RwkvPostBwdRefIdeal.main_arg6)
          ∧ r.2.mem ((c.tc : Thread Cert.RwkvPostBwdRefIdeal.nD Cert.RwkvPostBwdRefIdeal.τ).loc Cert.RwkvPostBwdRefIdeal.main_arg7) = m' ((c.tc : Thread Cert.RwkvPostBwdRefIdeal.nD Cert.RwkvPostBwdRefIdeal.τ).loc Cert.RwkvPostBwdRefIdeal.main_arg7)
          ∧ r.2.mem ((c.tc : Thread Cert.RwkvPostBwdRefIdeal.nD Cert.RwkvPostBwdRefIdeal.τ).loc Cert.RwkvPostBwdRefIdeal.main_arg8) = m' ((c.tc : Thread Cert.RwkvPostBwdRefIdeal.nD Cert.RwkvPostBwdRefIdeal.τ).loc Cert.RwkvPostBwdRefIdeal.main_arg8))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v1_2)) (v1 : (c : Dev Cert.LossHeadIdeal.nD) → Buf (Elt Ideal) ((c.tc : Thread Cert.LossHeadIdeal.nD Cert.LossHeadIdeal.τ).loc Cert.LossHeadIdeal.main_v1_0)) (v2 : (c : Dev Cert.LossHeadIdeal.nD) → Buf (Elt Ideal) ((c.tc : Thread Cert.LossHeadIdeal.nD Cert.LossHeadIdeal.τ).loc Cert.LossHeadIdeal.main_v1_1)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v1_2) = v0 c
          ∧ r.2.mem ((c.tc : Thread Cert.LossHeadIdeal.nD Cert.LossHeadIdeal.τ).loc Cert.LossHeadIdeal.main_v1_0) = v1 c
          ∧ r.2.mem ((c.tc : Thread Cert.LossHeadIdeal.nD Cert.LossHeadIdeal.τ).loc Cert.LossHeadIdeal.main_v1_1) = v2 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v51) = v0 c
          ∧ r.2.mem ((c.tc : Thread Cert.LossHeadRefIdeal.nD Cert.LossHeadRefIdeal.τ).loc Cert.LossHeadRefIdeal.main_v50) = v1 c
          ∧ r.2.mem ((c.tc : Thread Cert.LossHeadRefIdeal.nD Cert.LossHeadRefIdeal.τ).loc Cert.LossHeadRefIdeal.main_v52) = v2 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v13) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_LruMix_LruMixIdeal : Prop :=
  True

def algebraic_LruMixIdeal_LruMixRefIdeal [hLruMixIdeal : Cert.LruMixIdeal.Facts] [hLruMixRefIdeal : Cert.LruMixRefIdeal.Facts] : Prop :=
  ∀ (m : (ℓ : Loc Cert.LruMixIdeal.nD Cert.LruMixIdeal.τ Cert.LruMixIdeal.sig) → Buf (Elt Ideal) ℓ) (g : Dev Cert.LruMixIdeal.nD → PrngReg)
    (m' : (ℓ : Loc Cert.LruMixRefIdeal.nD Cert.LruMixRefIdeal.τ Cert.LruMixRefIdeal.sig) → Buf (Elt Ideal) ℓ) (g' : Dev Cert.LruMixRefIdeal.nD → PrngReg), Pre_LruMixIdeal m →
    (∀ c : Dev Cert.LruMixIdeal.nD,
      m' ((c.tc : Thread Cert.LruMixRefIdeal.nD Cert.LruMixRefIdeal.τ).loc Cert.LruMixRefIdeal.main_arg0) = m ((c.tc : Thread Cert.LruMixIdeal.nD Cert.LruMixIdeal.τ).loc Cert.LruMixIdeal.main_arg0)
      ∧ m' ((c.tc : Thread Cert.LruMixRefIdeal.nD Cert.LruMixRefIdeal.τ).loc Cert.LruMixRefIdeal.main_arg1) = m ((c.tc : Thread Cert.LruMixIdeal.nD Cert.LruMixIdeal.τ).loc Cert.LruMixIdeal.main_arg1)) →
    ∃ (v0 : (c : Dev Cert.LruMixIdeal.nD) → Buf (Elt Ideal) ((c.tc : Thread Cert.LruMixIdeal.nD Cert.LruMixIdeal.τ).loc Cert.LruMixIdeal.main_v0)),
      θ_run (Cert.LruMixIdeal.defs (F := Ideal)) (onTc (τ := Cert.LruMixIdeal.τ) (Cert.LruMixIdeal.main (F := Ideal))) ⟨m, fun _ => 0, g⟩ (fun r => ∀ c : Dev Cert.LruMixIdeal.nD,
          r.2.mem ((c.tc : Thread Cert.LruMixIdeal.nD Cert.LruMixIdeal.τ).loc Cert.LruMixIdeal.main_v0) = v0 c
          ∧ r.2.mem ((c.tc : Thread Cert.LruMixIdeal.nD Cert.LruMixIdeal.τ).loc Cert.LruMixIdeal.main_arg0) = m ((c.tc : Thread Cert.LruMixIdeal.nD Cert.LruMixIdeal.τ).loc Cert.LruMixIdeal.main_arg0)
          ∧ r.2.mem ((c.tc : Thread Cert.LruMixIdeal.nD Cert.LruMixIdeal.τ).loc Cert.LruMixIdeal.main_arg1) = m ((c.tc : Thread Cert.LruMixIdeal.nD Cert.LruMixIdeal.τ).loc Cert.LruMixIdeal.main_arg1))
      ∧ θ_run (Cert.LruMixRefIdeal.defs (F := Ideal)) (onTc (τ := Cert.LruMixRefIdeal.τ) (Cert.LruMixRefIdeal.main (F := Ideal))) ⟨m', fun _ => 0, g'⟩ (fun r => ∀ c : Dev Cert.LruMixRefIdeal.nD,
          r.2.mem ((c.tc : Thread Cert.LruMixRefIdeal.nD Cert.LruMixRefIdeal.τ).loc Cert.LruMixRefIdeal.main_v15) = v0 c
          ∧ r.2.mem ((c.tc : Thread Cert.LruMixRefIdeal.nD Cert.LruMixRefIdeal.τ).loc Cert.LruMixRefIdeal.main_arg0) = m' ((c.tc : Thread Cert.LruMixRefIdeal.nD Cert.LruMixRefIdeal.τ).loc Cert.LruMixRefIdeal.main_arg0)
          ∧ r.2.mem ((c.tc : Thread Cert.LruMixRefIdeal.nD Cert.LruMixRefIdeal.τ).loc Cert.LruMixRefIdeal.main_arg1) = m' ((c.tc : Thread Cert.LruMixRefIdeal.nD Cert.LruMixRefIdeal.τ).loc Cert.LruMixRefIdeal.main_arg1))

def preserves_RwkvMix_RwkvMixIdeal : Prop :=
  True

def algebraic_RwkvMixIdeal_RwkvMixRefIdeal [hRwkvMixIdeal : Cert.RwkvMixIdeal.Facts] [hRwkvMixRefIdeal : Cert.RwkvMixRefIdeal.Facts] : Prop :=
  ∀ (m : (ℓ : Loc Cert.RwkvMixIdeal.nD Cert.RwkvMixIdeal.τ Cert.RwkvMixIdeal.sig) → Buf (Elt Ideal) ℓ) (g : Dev Cert.RwkvMixIdeal.nD → PrngReg)
    (m' : (ℓ : Loc Cert.RwkvMixRefIdeal.nD Cert.RwkvMixRefIdeal.τ Cert.RwkvMixRefIdeal.sig) → Buf (Elt Ideal) ℓ) (g' : Dev Cert.RwkvMixRefIdeal.nD → PrngReg), Pre_RwkvMixIdeal m →
    (∀ c : Dev Cert.RwkvMixIdeal.nD,
      m' ((c.tc : Thread Cert.RwkvMixRefIdeal.nD Cert.RwkvMixRefIdeal.τ).loc Cert.RwkvMixRefIdeal.main_arg0) = m ((c.tc : Thread Cert.RwkvMixIdeal.nD Cert.RwkvMixIdeal.τ).loc Cert.RwkvMixIdeal.main_arg0)
      ∧ m' ((c.tc : Thread Cert.RwkvMixRefIdeal.nD Cert.RwkvMixRefIdeal.τ).loc Cert.RwkvMixRefIdeal.main_arg1) = m ((c.tc : Thread Cert.RwkvMixIdeal.nD Cert.RwkvMixIdeal.τ).loc Cert.RwkvMixIdeal.main_arg1)
      ∧ m' ((c.tc : Thread Cert.RwkvMixRefIdeal.nD Cert.RwkvMixRefIdeal.τ).loc Cert.RwkvMixRefIdeal.main_arg2) = m ((c.tc : Thread Cert.RwkvMixIdeal.nD Cert.RwkvMixIdeal.τ).loc Cert.RwkvMixIdeal.main_arg2)) →
    ∃ (v0 : (c : Dev Cert.RwkvMixIdeal.nD) → Buf (Elt Ideal) ((c.tc : Thread Cert.RwkvMixIdeal.nD Cert.RwkvMixIdeal.τ).loc Cert.RwkvMixIdeal.main_v3_0)) (v1 : (c : Dev Cert.RwkvMixIdeal.nD) → Buf (Elt Ideal) ((c.tc : Thread Cert.RwkvMixIdeal.nD Cert.RwkvMixIdeal.τ).loc Cert.RwkvMixIdeal.main_v3_1)) (v2 : (c : Dev Cert.RwkvMixIdeal.nD) → Buf (Elt Ideal) ((c.tc : Thread Cert.RwkvMixIdeal.nD Cert.RwkvMixIdeal.τ).loc Cert.RwkvMixIdeal.main_v3_2)) (v3 : (c : Dev Cert.RwkvMixIdeal.nD) → Buf (Elt Ideal) ((c.tc : Thread Cert.RwkvMixIdeal.nD Cert.RwkvMixIdeal.τ).loc Cert.RwkvMixIdeal.main_v3_3)) (v4 : (c : Dev Cert.RwkvMixIdeal.nD) → Buf (Elt Ideal) ((c.tc : Thread Cert.RwkvMixIdeal.nD Cert.RwkvMixIdeal.τ).loc Cert.RwkvMixIdeal.main_v3_4)) (v5 : (c : Dev Cert.RwkvMixIdeal.nD) → Buf (Elt Ideal) ((c.tc : Thread Cert.RwkvMixIdeal.nD Cert.RwkvMixIdeal.τ).loc Cert.RwkvMixIdeal.main_v3_5)),
      θ_run (Cert.RwkvMixIdeal.defs (F := Ideal)) (onTc (τ := Cert.RwkvMixIdeal.τ) (Cert.RwkvMixIdeal.main (F := Ideal))) ⟨m, fun _ => 0, g⟩ (fun r => ∀ c : Dev Cert.RwkvMixIdeal.nD,
          r.2.mem ((c.tc : Thread Cert.RwkvMixIdeal.nD Cert.RwkvMixIdeal.τ).loc Cert.RwkvMixIdeal.main_v3_0) = v0 c
          ∧ r.2.mem ((c.tc : Thread Cert.RwkvMixIdeal.nD Cert.RwkvMixIdeal.τ).loc Cert.RwkvMixIdeal.main_v3_1) = v1 c
          ∧ r.2.mem ((c.tc : Thread Cert.RwkvMixIdeal.nD Cert.RwkvMixIdeal.τ).loc Cert.RwkvMixIdeal.main_v3_2) = v2 c
          ∧ r.2.mem ((c.tc : Thread Cert.RwkvMixIdeal.nD Cert.RwkvMixIdeal.τ).loc Cert.RwkvMixIdeal.main_v3_3) = v3 c
          ∧ r.2.mem ((c.tc : Thread Cert.RwkvMixIdeal.nD Cert.RwkvMixIdeal.τ).loc Cert.RwkvMixIdeal.main_v3_4) = v4 c
          ∧ r.2.mem ((c.tc : Thread Cert.RwkvMixIdeal.nD Cert.RwkvMixIdeal.τ).loc Cert.RwkvMixIdeal.main_v3_5) = v5 c
          ∧ r.2.mem ((c.tc : Thread Cert.RwkvMixIdeal.nD Cert.RwkvMixIdeal.τ).loc Cert.RwkvMixIdeal.main_arg0) = m ((c.tc : Thread Cert.RwkvMixIdeal.nD Cert.RwkvMixIdeal.τ).loc Cert.RwkvMixIdeal.main_arg0)
          ∧ r.2.mem ((c.tc : Thread Cert.RwkvMixIdeal.nD Cert.RwkvMixIdeal.τ).loc Cert.RwkvMixIdeal.main_arg1) = m ((c.tc : Thread Cert.RwkvMixIdeal.nD Cert.RwkvMixIdeal.τ).loc Cert.RwkvMixIdeal.main_arg1)
          ∧ r.2.mem ((c.tc : Thread Cert.RwkvMixIdeal.nD Cert.RwkvMixIdeal.τ).loc Cert.RwkvMixIdeal.main_arg2) = m ((c.tc : Thread Cert.RwkvMixIdeal.nD Cert.RwkvMixIdeal.τ).loc Cert.RwkvMixIdeal.main_arg2))
      ∧ θ_run (Cert.RwkvMixRefIdeal.defs (F := Ideal)) (onTc (τ := Cert.RwkvMixRefIdeal.τ) (Cert.RwkvMixRefIdeal.main (F := Ideal))) ⟨m', fun _ => 0, g'⟩ (fun r => ∀ c : Dev Cert.RwkvMixRefIdeal.nD,
          r.2.mem ((c.tc : Thread Cert.RwkvMixRefIdeal.nD Cert.RwkvMixRefIdeal.τ).loc Cert.RwkvMixRefIdeal.main_v60) = v0 c
          ∧ r.2.mem ((c.tc : Thread Cert.RwkvMixRefIdeal.nD Cert.RwkvMixRefIdeal.τ).loc Cert.RwkvMixRefIdeal.main_v61) = v1 c
          ∧ r.2.mem ((c.tc : Thread Cert.RwkvMixRefIdeal.nD Cert.RwkvMixRefIdeal.τ).loc Cert.RwkvMixRefIdeal.main_v62) = v2 c
          ∧ r.2.mem ((c.tc : Thread Cert.RwkvMixRefIdeal.nD Cert.RwkvMixRefIdeal.τ).loc Cert.RwkvMixRefIdeal.main_v63) = v3 c
          ∧ r.2.mem ((c.tc : Thread Cert.RwkvMixRefIdeal.nD Cert.RwkvMixRefIdeal.τ).loc Cert.RwkvMixRefIdeal.main_v64) = v4 c
          ∧ r.2.mem ((c.tc : Thread Cert.RwkvMixRefIdeal.nD Cert.RwkvMixRefIdeal.τ).loc Cert.RwkvMixRefIdeal.main_v65) = v5 c
          ∧ r.2.mem ((c.tc : Thread Cert.RwkvMixRefIdeal.nD Cert.RwkvMixRefIdeal.τ).loc Cert.RwkvMixRefIdeal.main_arg0) = m' ((c.tc : Thread Cert.RwkvMixRefIdeal.nD Cert.RwkvMixRefIdeal.τ).loc Cert.RwkvMixRefIdeal.main_arg0)
          ∧ r.2.mem ((c.tc : Thread Cert.RwkvMixRefIdeal.nD Cert.RwkvMixRefIdeal.τ).loc Cert.RwkvMixRefIdeal.main_arg1) = m' ((c.tc : Thread Cert.RwkvMixRefIdeal.nD Cert.RwkvMixRefIdeal.τ).loc Cert.RwkvMixRefIdeal.main_arg1)
          ∧ r.2.mem ((c.tc : Thread Cert.RwkvMixRefIdeal.nD Cert.RwkvMixRefIdeal.τ).loc Cert.RwkvMixRefIdeal.main_arg2) = m' ((c.tc : Thread Cert.RwkvMixRefIdeal.nD Cert.RwkvMixRefIdeal.τ).loc Cert.RwkvMixRefIdeal.main_arg2))

def Claim : Prop :=
  ∃ (hKernel : Cert.Kernel.Facts) (hKernelIdeal : Cert.KernelIdeal.Facts) (hReferenceIdeal : Cert.ReferenceIdeal.Facts) (hFfnUp : Cert.FfnUp.Facts) (hFfnUpIdeal : Cert.FfnUpIdeal.Facts) (hFfnUpRefIdeal : Cert.FfnUpRefIdeal.Facts) (hFfnDown : Cert.FfnDown.Facts) (hFfnDownIdeal : Cert.FfnDownIdeal.Facts) (hFfnDownRefIdeal : Cert.FfnDownRefIdeal.Facts) (hFfnDownDx : Cert.FfnDownDx.Facts) (hFfnDownDxIdeal : Cert.FfnDownDxIdeal.Facts) (hFfnDownDxRefIdeal : Cert.FfnDownDxRefIdeal.Facts) (hFfnDownDw : Cert.FfnDownDw.Facts) (hFfnDownDwIdeal : Cert.FfnDownDwIdeal.Facts) (hFfnDownDwRefIdeal : Cert.FfnDownDwRefIdeal.Facts) (hFfnUpDx : Cert.FfnUpDx.Facts) (hFfnUpDxIdeal : Cert.FfnUpDxIdeal.Facts) (hFfnUpDxRefIdeal : Cert.FfnUpDxRefIdeal.Facts) (hFfnUp1 : Cert.FfnUp1.Facts) (hFfnUp1Ideal : Cert.FfnUp1Ideal.Facts) (hFfnUp1RefIdeal : Cert.FfnUp1RefIdeal.Facts) (hFfnUp1Dx : Cert.FfnUp1Dx.Facts) (hFfnUp1DxIdeal : Cert.FfnUp1DxIdeal.Facts) (hFfnUp1DxRefIdeal : Cert.FfnUp1DxRefIdeal.Facts) (hFfnUpDw : Cert.FfnUpDw.Facts) (hFfnUpDwIdeal : Cert.FfnUpDwIdeal.Facts) (hFfnUpDwRefIdeal : Cert.FfnUpDwRefIdeal.Facts) (hLruIn : Cert.LruIn.Facts) (hLruInIdeal : Cert.LruInIdeal.Facts) (hLruInRefIdeal : Cert.LruInRefIdeal.Facts) (hLruInDx : Cert.LruInDx.Facts) (hLruInDxIdeal : Cert.LruInDxIdeal.Facts) (hLruInDxRefIdeal : Cert.LruInDxRefIdeal.Facts) (hLruInDw : Cert.LruInDw.Facts) (hLruInDwIdeal : Cert.LruInDwIdeal.Facts) (hLruInDwRefIdeal : Cert.LruInDwRefIdeal.Facts) (hLruOut : Cert.LruOut.Facts) (hLruOutIdeal : Cert.LruOutIdeal.Facts) (hLruOutRefIdeal : Cert.LruOutRefIdeal.Facts) (hLruOutDx : Cert.LruOutDx.Facts) (hLruOutDxIdeal : Cert.LruOutDxIdeal.Facts) (hLruOutDxRefIdeal : Cert.LruOutDxRefIdeal.Facts) (hLruOutDw : Cert.LruOutDw.Facts) (hLruOutDwIdeal : Cert.LruOutDwIdeal.Facts) (hLruOutDwRefIdeal : Cert.LruOutDwRefIdeal.Facts) (hRwkvR : Cert.RwkvR.Facts) (hRwkvRIdeal : Cert.RwkvRIdeal.Facts) (hRwkvRRefIdeal : Cert.RwkvRRefIdeal.Facts) (hRwkvOut : Cert.RwkvOut.Facts) (hRwkvOutIdeal : Cert.RwkvOutIdeal.Facts) (hRwkvOutRefIdeal : Cert.RwkvOutRefIdeal.Facts) (hNormBwd : Cert.NormBwd.Facts) (hNormBwdIdeal : Cert.NormBwdIdeal.Facts) (hNormBwdRefIdeal : Cert.NormBwdRefIdeal.Facts) (hFfnAct : Cert.FfnAct.Facts) (hFfnActIdeal : Cert.FfnActIdeal.Facts) (hFfnActRefIdeal : Cert.FfnActRefIdeal.Facts) (hFfnActBwd : Cert.FfnActBwd.Facts) (hFfnActBwdIdeal : Cert.FfnActBwdIdeal.Facts) (hFfnActBwdRefIdeal : Cert.FfnActBwdRefIdeal.Facts) (hLruMixBwd : Cert.LruMixBwd.Facts) (hLruMixBwdIdeal : Cert.LruMixBwdIdeal.Facts) (hLruMixBwdRefIdeal : Cert.LruMixBwdRefIdeal.Facts) (hRwkvMixBwd : Cert.RwkvMixBwd.Facts) (hRwkvMixBwdIdeal : Cert.RwkvMixBwdIdeal.Facts) (hRwkvMixBwdRefIdeal : Cert.RwkvMixBwdRefIdeal.Facts) (hRwkvPostBwd : Cert.RwkvPostBwd.Facts) (hRwkvPostBwdIdeal : Cert.RwkvPostBwdIdeal.Facts) (hRwkvPostBwdRefIdeal : Cert.RwkvPostBwdRefIdeal.Facts) (hLossHead : Cert.LossHead.Facts) (hLossHeadIdeal : Cert.LossHeadIdeal.Facts) (hLossHeadRefIdeal : Cert.LossHeadRefIdeal.Facts) (hNorm : Cert.Norm.Facts) (hNormIdeal : Cert.NormIdeal.Facts) (hNormRefIdeal : Cert.NormRefIdeal.Facts) (hLruMix : Cert.LruMix.Facts) (hLruMixIdeal : Cert.LruMixIdeal.Facts) (hLruMixRefIdeal : Cert.LruMixRefIdeal.Facts) (hRwkvMix : Cert.RwkvMix.Facts) (hRwkvMixIdeal : Cert.RwkvMixIdeal.Facts) (hRwkvMixRefIdeal : Cert.RwkvMixRefIdeal.Facts) (hPre_finite : Cert.Pre_finite.Facts) (hPre_finite_act : Cert.Pre_finite_act.Facts) (hPre_finite_mix : Cert.Pre_finite_mix.Facts) (hPre_finite_shift : Cert.Pre_finite_shift.Facts) (hPre_finite_post : Cert.Pre_finite_post.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_FfnDownDx (hFfnDownDx := hFfnDownDx)
    ∧ quiescent_FfnDownDxIdeal (hFfnDownDxIdeal := hFfnDownDxIdeal)
    ∧ quiescent_FfnDownDxRefIdeal (hFfnDownDxRefIdeal := hFfnDownDxRefIdeal)
    ∧ quiescent_FfnDownDw (hFfnDownDw := hFfnDownDw)
    ∧ quiescent_FfnDownDwIdeal (hFfnDownDwIdeal := hFfnDownDwIdeal)
    ∧ quiescent_FfnDownDwRefIdeal (hFfnDownDwRefIdeal := hFfnDownDwRefIdeal)
    ∧ quiescent_FfnUpDx (hFfnUpDx := hFfnUpDx)
    ∧ quiescent_FfnUpDxIdeal (hFfnUpDxIdeal := hFfnUpDxIdeal)
    ∧ quiescent_FfnUpDxRefIdeal (hFfnUpDxRefIdeal := hFfnUpDxRefIdeal)
    ∧ quiescent_FfnUp1 (hFfnUp1 := hFfnUp1)
    ∧ quiescent_FfnUp1Ideal (hFfnUp1Ideal := hFfnUp1Ideal)
    ∧ quiescent_FfnUp1RefIdeal (hFfnUp1RefIdeal := hFfnUp1RefIdeal)
    ∧ quiescent_FfnUp1Dx (hFfnUp1Dx := hFfnUp1Dx)
    ∧ quiescent_FfnUp1DxIdeal (hFfnUp1DxIdeal := hFfnUp1DxIdeal)
    ∧ quiescent_FfnUp1DxRefIdeal (hFfnUp1DxRefIdeal := hFfnUp1DxRefIdeal)
    ∧ quiescent_FfnUpDw (hFfnUpDw := hFfnUpDw)
    ∧ quiescent_FfnUpDwIdeal (hFfnUpDwIdeal := hFfnUpDwIdeal)
    ∧ quiescent_FfnUpDwRefIdeal (hFfnUpDwRefIdeal := hFfnUpDwRefIdeal)
    ∧ quiescent_LruIn (hLruIn := hLruIn)
    ∧ quiescent_LruInIdeal (hLruInIdeal := hLruInIdeal)
    ∧ quiescent_LruInRefIdeal (hLruInRefIdeal := hLruInRefIdeal)
    ∧ quiescent_LruInDx (hLruInDx := hLruInDx)
    ∧ quiescent_LruInDxIdeal (hLruInDxIdeal := hLruInDxIdeal)
    ∧ quiescent_LruInDxRefIdeal (hLruInDxRefIdeal := hLruInDxRefIdeal)
    ∧ quiescent_LruInDw (hLruInDw := hLruInDw)
    ∧ quiescent_LruInDwIdeal (hLruInDwIdeal := hLruInDwIdeal)
    ∧ quiescent_LruInDwRefIdeal (hLruInDwRefIdeal := hLruInDwRefIdeal)
    ∧ quiescent_LruOut (hLruOut := hLruOut)
    ∧ quiescent_LruOutIdeal (hLruOutIdeal := hLruOutIdeal)
    ∧ quiescent_LruOutRefIdeal (hLruOutRefIdeal := hLruOutRefIdeal)
    ∧ quiescent_LruOutDx (hLruOutDx := hLruOutDx)
    ∧ quiescent_LruOutDxIdeal (hLruOutDxIdeal := hLruOutDxIdeal)
    ∧ quiescent_LruOutDxRefIdeal (hLruOutDxRefIdeal := hLruOutDxRefIdeal)
    ∧ quiescent_LruOutDw (hLruOutDw := hLruOutDw)
    ∧ quiescent_LruOutDwIdeal (hLruOutDwIdeal := hLruOutDwIdeal)
    ∧ quiescent_LruOutDwRefIdeal (hLruOutDwRefIdeal := hLruOutDwRefIdeal)
    ∧ quiescent_RwkvR (hRwkvR := hRwkvR)
    ∧ quiescent_RwkvRIdeal (hRwkvRIdeal := hRwkvRIdeal)
    ∧ quiescent_RwkvRRefIdeal (hRwkvRRefIdeal := hRwkvRRefIdeal)
    ∧ quiescent_RwkvOut (hRwkvOut := hRwkvOut)
    ∧ quiescent_RwkvOutIdeal (hRwkvOutIdeal := hRwkvOutIdeal)
    ∧ quiescent_RwkvOutRefIdeal (hRwkvOutRefIdeal := hRwkvOutRefIdeal)
    ∧ quiescent_NormBwd (hNormBwd := hNormBwd)
    ∧ quiescent_NormBwdIdeal (hNormBwdIdeal := hNormBwdIdeal)
    ∧ quiescent_NormBwdRefIdeal (hNormBwdRefIdeal := hNormBwdRefIdeal)
    ∧ quiescent_FfnAct (hFfnAct := hFfnAct)
    ∧ quiescent_FfnActIdeal (hFfnActIdeal := hFfnActIdeal)
    ∧ quiescent_FfnActRefIdeal (hFfnActRefIdeal := hFfnActRefIdeal)
    ∧ quiescent_FfnActBwd (hFfnActBwd := hFfnActBwd)
    ∧ quiescent_FfnActBwdIdeal (hFfnActBwdIdeal := hFfnActBwdIdeal)
    ∧ quiescent_FfnActBwdIdeal_pre_finite_act (hFfnActBwdIdeal := hFfnActBwdIdeal) (hPre_finite_act := hPre_finite_act)
    ∧ quiescent_FfnActBwdRefIdeal (hFfnActBwdRefIdeal := hFfnActBwdRefIdeal)
    ∧ quiescent_FfnActBwdRefIdeal_pre_finite_act (hFfnActBwdRefIdeal := hFfnActBwdRefIdeal) (hPre_finite_act := hPre_finite_act)
    ∧ quiescent_LruMixBwd (hLruMixBwd := hLruMixBwd)
    ∧ quiescent_LruMixBwdIdeal (hLruMixBwdIdeal := hLruMixBwdIdeal)
    ∧ quiescent_LruMixBwdIdeal_pre_finite_mix (hLruMixBwdIdeal := hLruMixBwdIdeal) (hPre_finite_mix := hPre_finite_mix)
    ∧ quiescent_LruMixBwdRefIdeal (hLruMixBwdRefIdeal := hLruMixBwdRefIdeal)
    ∧ quiescent_LruMixBwdRefIdeal_pre_finite_mix (hLruMixBwdRefIdeal := hLruMixBwdRefIdeal) (hPre_finite_mix := hPre_finite_mix)
    ∧ quiescent_RwkvMixBwd (hRwkvMixBwd := hRwkvMixBwd)
    ∧ quiescent_RwkvMixBwdIdeal (hRwkvMixBwdIdeal := hRwkvMixBwdIdeal)
    ∧ quiescent_RwkvMixBwdIdeal_pre_finite_shift (hRwkvMixBwdIdeal := hRwkvMixBwdIdeal) (hPre_finite_shift := hPre_finite_shift)
    ∧ quiescent_RwkvMixBwdRefIdeal (hRwkvMixBwdRefIdeal := hRwkvMixBwdRefIdeal)
    ∧ quiescent_RwkvMixBwdRefIdeal_pre_finite_shift (hRwkvMixBwdRefIdeal := hRwkvMixBwdRefIdeal) (hPre_finite_shift := hPre_finite_shift)
    ∧ quiescent_RwkvPostBwd (hRwkvPostBwd := hRwkvPostBwd)
    ∧ quiescent_RwkvPostBwdIdeal (hRwkvPostBwdIdeal := hRwkvPostBwdIdeal)
    ∧ quiescent_RwkvPostBwdIdeal_pre_finite_post (hRwkvPostBwdIdeal := hRwkvPostBwdIdeal) (hPre_finite_post := hPre_finite_post)
    ∧ quiescent_RwkvPostBwdRefIdeal (hRwkvPostBwdRefIdeal := hRwkvPostBwdRefIdeal)
    ∧ quiescent_RwkvPostBwdRefIdeal_pre_finite_post (hRwkvPostBwdRefIdeal := hRwkvPostBwdRefIdeal) (hPre_finite_post := hPre_finite_post)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_Norm (hNorm := hNorm)
    ∧ quiescent_NormIdeal (hNormIdeal := hNormIdeal)
    ∧ quiescent_NormRefIdeal (hNormRefIdeal := hNormRefIdeal)
    ∧ quiescent_LruMix (hLruMix := hLruMix)
    ∧ quiescent_LruMixIdeal (hLruMixIdeal := hLruMixIdeal)
    ∧ quiescent_LruMixRefIdeal (hLruMixRefIdeal := hLruMixRefIdeal)
    ∧ quiescent_RwkvMix (hRwkvMix := hRwkvMix)
    ∧ quiescent_RwkvMixIdeal (hRwkvMixIdeal := hRwkvMixIdeal)
    ∧ quiescent_RwkvMixRefIdeal (hRwkvMixRefIdeal := hRwkvMixRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_FfnUp_FfnUpIdeal
    ∧ algebraic_FfnUpIdeal_FfnUpRefIdeal (hFfnUpIdeal := hFfnUpIdeal) (hFfnUpRefIdeal := hFfnUpRefIdeal)
    ∧ preserves_FfnDown_FfnDownIdeal
    ∧ algebraic_FfnDownIdeal_FfnDownRefIdeal (hFfnDownIdeal := hFfnDownIdeal) (hFfnDownRefIdeal := hFfnDownRefIdeal)
    ∧ preserves_FfnDownDx_FfnDownDxIdeal
    ∧ algebraic_FfnDownDxIdeal_FfnDownDxRefIdeal (hFfnDownDxIdeal := hFfnDownDxIdeal) (hFfnDownDxRefIdeal := hFfnDownDxRefIdeal)
    ∧ preserves_FfnDownDw_FfnDownDwIdeal
    ∧ algebraic_FfnDownDwIdeal_FfnDownDwRefIdeal (hFfnDownDwIdeal := hFfnDownDwIdeal) (hFfnDownDwRefIdeal := hFfnDownDwRefIdeal)
    ∧ preserves_FfnUpDx_FfnUpDxIdeal
    ∧ algebraic_FfnUpDxIdeal_FfnUpDxRefIdeal (hFfnUpDxIdeal := hFfnUpDxIdeal) (hFfnUpDxRefIdeal := hFfnUpDxRefIdeal)
    ∧ preserves_FfnUp1_FfnUp1Ideal
    ∧ algebraic_FfnUp1Ideal_FfnUp1RefIdeal (hFfnUp1Ideal := hFfnUp1Ideal) (hFfnUp1RefIdeal := hFfnUp1RefIdeal)
    ∧ preserves_FfnUp1Dx_FfnUp1DxIdeal
    ∧ algebraic_FfnUp1DxIdeal_FfnUp1DxRefIdeal (hFfnUp1DxIdeal := hFfnUp1DxIdeal) (hFfnUp1DxRefIdeal := hFfnUp1DxRefIdeal)
    ∧ preserves_FfnUpDw_FfnUpDwIdeal
    ∧ algebraic_FfnUpDwIdeal_FfnUpDwRefIdeal (hFfnUpDwIdeal := hFfnUpDwIdeal) (hFfnUpDwRefIdeal := hFfnUpDwRefIdeal)
    ∧ preserves_LruIn_LruInIdeal
    ∧ algebraic_LruInIdeal_LruInRefIdeal (hLruInIdeal := hLruInIdeal) (hLruInRefIdeal := hLruInRefIdeal)
    ∧ preserves_LruInDx_LruInDxIdeal
    ∧ algebraic_LruInDxIdeal_LruInDxRefIdeal (hLruInDxIdeal := hLruInDxIdeal) (hLruInDxRefIdeal := hLruInDxRefIdeal)
    ∧ preserves_LruInDw_LruInDwIdeal
    ∧ algebraic_LruInDwIdeal_LruInDwRefIdeal (hLruInDwIdeal := hLruInDwIdeal) (hLruInDwRefIdeal := hLruInDwRefIdeal)
    ∧ preserves_LruOut_LruOutIdeal
    ∧ algebraic_LruOutIdeal_LruOutRefIdeal (hLruOutIdeal := hLruOutIdeal) (hLruOutRefIdeal := hLruOutRefIdeal)
    ∧ preserves_LruOutDx_LruOutDxIdeal
    ∧ algebraic_LruOutDxIdeal_LruOutDxRefIdeal (hLruOutDxIdeal := hLruOutDxIdeal) (hLruOutDxRefIdeal := hLruOutDxRefIdeal)
    ∧ preserves_LruOutDw_LruOutDwIdeal
    ∧ algebraic_LruOutDwIdeal_LruOutDwRefIdeal (hLruOutDwIdeal := hLruOutDwIdeal) (hLruOutDwRefIdeal := hLruOutDwRefIdeal)
    ∧ preserves_RwkvR_RwkvRIdeal
    ∧ algebraic_RwkvRIdeal_RwkvRRefIdeal (hRwkvRIdeal := hRwkvRIdeal) (hRwkvRRefIdeal := hRwkvRRefIdeal)
    ∧ preserves_RwkvOut_RwkvOutIdeal
    ∧ algebraic_RwkvOutIdeal_RwkvOutRefIdeal (hRwkvOutIdeal := hRwkvOutIdeal) (hRwkvOutRefIdeal := hRwkvOutRefIdeal)
    ∧ preserves_NormBwd_NormBwdIdeal
    ∧ algebraic_NormBwdIdeal_NormBwdRefIdeal (hNormBwdIdeal := hNormBwdIdeal) (hNormBwdRefIdeal := hNormBwdRefIdeal)
    ∧ preserves_FfnAct_FfnActIdeal
    ∧ algebraic_FfnActIdeal_FfnActRefIdeal (hFfnActIdeal := hFfnActIdeal) (hFfnActRefIdeal := hFfnActRefIdeal)
    ∧ preserves_FfnActBwd_FfnActBwdIdeal
    ∧ algebraic_FfnActBwdIdeal_FfnActBwdRefIdeal_pre_finite_act (hFfnActBwdIdeal := hFfnActBwdIdeal) (hFfnActBwdRefIdeal := hFfnActBwdRefIdeal) (hPre_finite_act := hPre_finite_act)
    ∧ preserves_LruMixBwd_LruMixBwdIdeal
    ∧ algebraic_LruMixBwdIdeal_LruMixBwdRefIdeal_pre_finite_mix (hLruMixBwdIdeal := hLruMixBwdIdeal) (hLruMixBwdRefIdeal := hLruMixBwdRefIdeal) (hPre_finite_mix := hPre_finite_mix)
    ∧ preserves_RwkvMixBwd_RwkvMixBwdIdeal
    ∧ algebraic_RwkvMixBwdIdeal_RwkvMixBwdRefIdeal_pre_finite_shift (hRwkvMixBwdIdeal := hRwkvMixBwdIdeal) (hRwkvMixBwdRefIdeal := hRwkvMixBwdRefIdeal) (hPre_finite_shift := hPre_finite_shift)
    ∧ preserves_RwkvPostBwd_RwkvPostBwdIdeal
    ∧ algebraic_RwkvPostBwdIdeal_RwkvPostBwdRefIdeal_pre_finite_post (hRwkvPostBwdIdeal := hRwkvPostBwdIdeal) (hRwkvPostBwdRefIdeal := hRwkvPostBwdRefIdeal) (hPre_finite_post := hPre_finite_post)
    ∧ preserves_LossHead_LossHeadIdeal
    ∧ algebraic_LossHeadIdeal_LossHeadRefIdeal (hLossHeadIdeal := hLossHeadIdeal) (hLossHeadRefIdeal := hLossHeadRefIdeal)
    ∧ preserves_Norm_NormIdeal
    ∧ algebraic_NormIdeal_NormRefIdeal (hNormIdeal := hNormIdeal) (hNormRefIdeal := hNormRefIdeal)
    ∧ preserves_LruMix_LruMixIdeal
    ∧ algebraic_LruMixIdeal_LruMixRefIdeal (hLruMixIdeal := hLruMixIdeal) (hLruMixRefIdeal := hLruMixRefIdeal)
    ∧ preserves_RwkvMix_RwkvMixIdeal
    ∧ algebraic_RwkvMixIdeal_RwkvMixRefIdeal (hRwkvMixIdeal := hRwkvMixIdeal) (hRwkvMixRefIdeal := hRwkvMixRefIdeal)
-- ==== Pre_finite.lean ====
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)

variable [Facts]

def fn {F : FTy → Type} [FloatOps F] (main_arg0 : FVec F S8192x1024 .f32) (main_arg1 : FVec F S8192x1024 .f32) (main_arg2 : FVec F S8192x1024 .f32) : IVec S8192x1024 1 × IVec S8192x1024 1 × IVec S8192x1024 1 :=
  let main_cst : FVec F S_ .f32 := constant S_ .f32 0xFF800000#32
  let main_v0 : FVec F S8192x1024 .f32 := broadcastInDim S8192x1024 ![] bcast_S_S8192x1024 main_cst
  let main_v1 : IVec S8192x1024 1 := cmpf .ogt main_arg0 main_v0
  let main_cst_0 : FVec F S_ .f32 := constant S_ .f32 0x7F800000#32
  let main_v2 : FVec F S8192x1024 .f32 := broadcastInDim S8192x1024 ![] bcast_S_S8192x1024 main_cst_0
  let main_v3 : IVec S8192x1024 1 := cmpf .olt main_arg0 main_v2
  let main_v4 : IVec S8192x1024 1 := andi main_v1 main_v3
  let main_cst_1 : FVec F S_ .f32 := constant S_ .f32 0xFF800000#32
  let main_v5 : FVec F S8192x1024 .f32 := broadcastInDim S8192x1024 ![] bcast_S_S8192x1024 main_cst_1
  let main_v6 : IVec S8192x1024 1 := cmpf .ogt main_arg1 main_v5
  let main_cst_2 : FVec F S_ .f32 := constant S_ .f32 0x7F800000#32
  let main_v7 : FVec F S8192x1024 .f32 := broadcastInDim S8192x1024 ![] bcast_S_S8192x1024 main_cst_2
  let main_v8 : IVec S8192x1024 1 := cmpf .olt main_arg1 main_v7
  let main_v9 : IVec S8192x1024 1 := andi main_v6 main_v8
  let main_cst_3 : FVec F S_ .f32 := constant S_ .f32 0xFF800000#32
  let main_v10 : FVec F S8192x1024 .f32 := broadcastInDim S8192x1024 ![] bcast_S_S8192x1024 main_cst_3
  let main_v11 : IVec S8192x1024 1 := cmpf .ogt main_arg2 main_v10
  let main_cst_4 : FVec F S_ .f32 := constant S_ .f32 0x7F800000#32
  let main_v12 : FVec F S8192x1024 .f32 := broadcastInDim S8192x1024 ![] bcast_S_S8192x1024 main_cst_4
  let main_v13 : IVec S8192x1024 1 := cmpf .olt main_arg2 main_v12
  let main_v14 : IVec S8192x1024 1 := andi main_v11 main_v13
  (main_v4, main_v9, main_v14)
-- ==== Pre_finite_act.lean ====
abbrev S8192x6144 : Shape := ⟨2, ![8192, 6144]⟩
abbrev S8192x3072 : Shape := ⟨2, ![8192, 3072]⟩
abbrev S3x3072 : Shape := ⟨2, ![3, 3072]⟩
abbrev S3072 : Shape := ⟨1, ![3072]⟩
abbrev S_ : Shape := ⟨0, ![]⟩

class Facts : Prop where
  bcast_S_S8192x6144 : S_.BroadcastsInDim S8192x6144 (![] : Fin 0 → Fin S8192x6144.rank)
  bcast_S_S8192x3072 : S_.BroadcastsInDim S8192x3072 (![] : Fin 0 → Fin S8192x3072.rank)
  bcast_S_S3x3072 : S_.BroadcastsInDim S3x3072 (![] : Fin 0 → Fin S3x3072.rank)
  bcast_S_S3072 : S_.BroadcastsInDim S3072 (![] : Fin 0 → Fin S3072.rank)

variable [Facts]

def fn_part1 {F : FTy → Type} [FloatOps F] (main_arg3 : FVec F S3072 .f32) (main_v4 : IVec S8192x6144 1) (main_v9 : IVec S8192x3072 1) (main_v14 : IVec S3x3072 1) (main_v16 : IVec S3072 1) : IVec S8192x6144 1 × IVec S8192x3072 1 × IVec S3x3072 1 × IVec S3072 1 :=
  let main_cst_6 : FVec F S_ .f32 := constant S_ .f32 0x7F800000#32
  let main_v17 : FVec F S3072 .f32 := broadcastInDim S3072 ![] bcast_S_S3072 main_cst_6
  let main_v18 : IVec S3072 1 := cmpf .olt main_arg3 main_v17
  let main_v19 : IVec S3072 1 := andi main_v16 main_v18
  (main_v4, main_v9, main_v14, main_v19)

def fn {F : FTy → Type} [FloatOps F] (main_arg0 : FVec F S8192x6144 .f32) (main_arg1 : FVec F S8192x3072 .f32) (main_arg2 : FVec F S3x3072 .f32) (main_arg3 : FVec F S3072 .f32) : IVec S8192x6144 1 × IVec S8192x3072 1 × IVec S3x3072 1 × IVec S3072 1 :=
  let main_cst : FVec F S_ .f32 := constant S_ .f32 0xFF800000#32
  let main_v0 : FVec F S8192x6144 .f32 := broadcastInDim S8192x6144 ![] bcast_S_S8192x6144 main_cst
  let main_v1 : IVec S8192x6144 1 := cmpf .ogt main_arg0 main_v0
  let main_cst_0 : FVec F S_ .f32 := constant S_ .f32 0x7F800000#32
  let main_v2 : FVec F S8192x6144 .f32 := broadcastInDim S8192x6144 ![] bcast_S_S8192x6144 main_cst_0
  let main_v3 : IVec S8192x6144 1 := cmpf .olt main_arg0 main_v2
  let main_v4 : IVec S8192x6144 1 := andi main_v1 main_v3
  let main_cst_1 : FVec F S_ .f32 := constant S_ .f32 0xFF800000#32
  let main_v5 : FVec F S8192x3072 .f32 := broadcastInDim S8192x3072 ![] bcast_S_S8192x3072 main_cst_1
  let main_v6 : IVec S8192x3072 1 := cmpf .ogt main_arg1 main_v5
  let main_cst_2 : FVec F S_ .f32 := constant S_ .f32 0x7F800000#32
  let main_v7 : FVec F S8192x3072 .f32 := broadcastInDim S8192x3072 ![] bcast_S_S8192x3072 main_cst_2
  let main_v8 : IVec S8192x3072 1 := cmpf .olt main_arg1 main_v7
  let main_v9 : IVec S8192x3072 1 := andi main_v6 main_v8
  let main_cst_3 : FVec F S_ .f32 := constant S_ .f32 0xFF800000#32
  let main_v10 : FVec F S3x3072 .f32 := broadcastInDim S3x3072 ![] bcast_S_S3x3072 main_cst_3
  let main_v11 : IVec S3x3072 1 := cmpf .ogt main_arg2 main_v10
  let main_cst_4 : FVec F S_ .f32 := constant S_ .f32 0x7F800000#32
  let main_v12 : FVec F S3x3072 .f32 := broadcastInDim S3x3072 ![] bcast_S_S3x3072 main_cst_4
  let main_v13 : IVec S3x3072 1 := cmpf .olt main_arg2 main_v12
  let main_v14 : IVec S3x3072 1 := andi main_v11 main_v13
  let main_cst_5 : FVec F S_ .f32 := constant S_ .f32 0xFF800000#32
  let main_v15 : FVec F S3072 .f32 := broadcastInDim S3072 ![] bcast_S_S3072 main_cst_5
  let main_v16 : IVec S3072 1 := cmpf .ogt main_arg3 main_v15
  fn_part1 (F := F) main_arg3 main_v4 main_v9 main_v14 main_v16
-- ==== Pre_finite_mix.lean ====
abbrev S8192x1024 : Shape := ⟨2, ![8192, 1024]⟩
abbrev S8192x2048 : Shape := ⟨2, ![8192, 2048]⟩
abbrev S_ : Shape := ⟨0, ![]⟩

class Facts : Prop where
  bcast_S_S8192x1024 : S_.BroadcastsInDim S8192x1024 (![] : Fin 0 → Fin S8192x1024.rank)
  bcast_S_S8192x2048 : S_.BroadcastsInDim S8192x2048 (![] : Fin 0 → Fin S8192x2048.rank)

variable [Facts]

def fn {F : FTy → Type} [FloatOps F] (main_arg0 : FVec F S8192x1024 .f32) (main_arg1 : FVec F S8192x1024 .f32) (main_arg2 : FVec F S8192x2048 .f32) (main_arg3 : FVec F S8192x1024 .f32) : IVec S8192x1024 1 × IVec S8192x1024 1 × IVec S8192x2048 1 :=
  let main_cst : FVec F S_ .f32 := constant S_ .f32 0xFF800000#32
  let main_v0 : FVec F S8192x1024 .f32 := broadcastInDim S8192x1024 ![] bcast_S_S8192x1024 main_cst
  let main_v1 : IVec S8192x1024 1 := cmpf .ogt main_arg0 main_v0
  let main_cst_0 : FVec F S_ .f32 := constant S_ .f32 0x7F800000#32
  let main_v2 : FVec F S8192x1024 .f32 := broadcastInDim S8192x1024 ![] bcast_S_S8192x1024 main_cst_0
  let main_v3 : IVec S8192x1024 1 := cmpf .olt main_arg0 main_v2
  let main_v4 : IVec S8192x1024 1 := andi main_v1 main_v3
  let main_cst_1 : FVec F S_ .f32 := constant S_ .f32 0xFF800000#32
  let main_v5 : FVec F S8192x1024 .f32 := broadcastInDim S8192x1024 ![] bcast_S_S8192x1024 main_cst_1
  let main_v6 : IVec S8192x1024 1 := cmpf .ogt main_arg1 main_v5
  let main_cst_2 : FVec F S_ .f32 := constant S_ .f32 0x7F800000#32
  let main_v7 : FVec F S8192x1024 .f32 := broadcastInDim S8192x1024 ![] bcast_S_S8192x1024 main_cst_2
  let main_v8 : IVec S8192x1024 1 := cmpf .olt main_arg1 main_v7
  let main_v9 : IVec S8192x1024 1 := andi main_v6 main_v8
  let main_cst_3 : FVec F S_ .f32 := constant S_ .f32 0xFF800000#32
  let main_v10 : FVec F S8192x2048 .f32 := broadcastInDim S8192x2048 ![] bcast_S_S8192x2048 main_cst_3
  let main_v11 : IVec S8192x2048 1 := cmpf .ogt main_arg2 main_v10
  let main_cst_4 : FVec F S_ .f32 := constant S_ .f32 0x7F800000#32
  let main_v12 : FVec F S8192x2048 .f32 := broadcastInDim S8192x2048 ![] bcast_S_S8192x2048 main_cst_4
  let main_v13 : IVec S8192x2048 1 := cmpf .olt main_arg2 main_v12
  let main_v14 : IVec S8192x2048 1 := andi main_v11 main_v13
  (main_v4, main_v9, main_v14)
-- ==== Pre_finite_post.lean ====
abbrev S8192x1024 : Shape := ⟨2, ![8192, 1024]⟩
abbrev S1024 : Shape := ⟨1, ![1024]⟩
abbrev S16x64 : Shape := ⟨2, ![16, 64]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S16x64 : S_.BroadcastsInDim S16x64 (![] : Fin 0 → Fin S16x64.rank)

variable [Facts]

def fn_part2 {F : FTy → Type} [FloatOps F] (main_arg7 : FVec F S1024 .f32) (main_arg8 : FVec F S16x64 .f32) (main_v4 : IVec S8192x1024 1) (main_v9 : IVec S8192x1024 1) (main_v14 : IVec S8192x1024 1) (main_v19 : IVec S8192x1024 1) (main_v24 : IVec S8192x1024 1) (main_v29 : IVec S8192x1024 1) (main_v31 : IVec S1024 1) (main_v33 : IVec S1024 1) : IVec S8192x1024 1 × IVec S8192x1024 1 × IVec S8192x1024 1 × IVec S8192x1024 1 × IVec S8192x1024 1 × IVec S8192x1024 1 × IVec S1024 1 × IVec S1024 1 × IVec S16x64 1 :=
  let main_v34 : IVec S1024 1 := andi main_v31 main_v33
  let main_cst_13 : FVec F S_ .f32 := constant S_ .f32 0xFF800000#32
  let main_v35 : FVec F S1024 .f32 := broadcastInDim S1024 ![] bcast_S_S1024 main_cst_13
  let main_v36 : IVec S1024 1 := cmpf .ogt main_arg7 main_v35
  let main_cst_14 : FVec F S_ .f32 := constant S_ .f32 0x7F800000#32
  let main_v37 : FVec F S1024 .f32 := broadcastInDim S1024 ![] bcast_S_S1024 main_cst_14
  let main_v38 : IVec S1024 1 := cmpf .olt main_arg7 main_v37
  let main_v39 : IVec S1024 1 := andi main_v36 main_v38
  let main_cst_15 : FVec F S_ .f32 := constant S_ .f32 0xFF800000#32
  let main_v40 : FVec F S16x64 .f32 := broadcastInDim S16x64 ![] bcast_S_S16x64 main_cst_15
  let main_v41 : IVec S16x64 1 := cmpf .ogt main_arg8 main_v40
  let main_cst_16 : FVec F S_ .f32 := constant S_ .f32 0x7F800000#32
  let main_v42 : FVec F S16x64 .f32 := broadcastInDim S16x64 ![] bcast_S_S16x64 main_cst_16
  let main_v43 : IVec S16x64 1 := cmpf .olt main_arg8 main_v42
  let main_v44 : IVec S16x64 1 := andi main_v41 main_v43
  (main_v4, main_v9, main_v14, main_v19, main_v24, main_v29, main_v34, main_v39, main_v44)

def fn_part1 {F : FTy → Type} [FloatOps F] (main_arg3 : FVec F S8192x1024 .f32) (main_arg4 : FVec F S8192x1024 .f32) (main_arg5 : FVec F S8192x1024 .f32) (main_arg6 : FVec F S1024 .f32) (main_arg7 : FVec F S1024 .f32) (main_arg8 : FVec F S16x64 .f32) (main_v4 : IVec S8192x1024 1) (main_v9 : IVec S8192x1024 1) (main_v14 : IVec S8192x1024 1) (main_v16 : IVec S8192x1024 1) : IVec S8192x1024 1 × IVec S8192x1024 1 × IVec S8192x1024 1 × IVec S8192x1024 1 × IVec S8192x1024 1 × IVec S8192x1024 1 × IVec S1024 1 × IVec S1024 1 × IVec S16x64 1 :=
  let main_cst_6 : FVec F S_ .f32 := constant S_ .f32 0x7F800000#32
  let main_v17 : FVec F S8192x1024 .f32 := broadcastInDim S8192x1024 ![] bcast_S_S8192x1024 main_cst_6
  let main_v18 : IVec S8192x1024 1 := cmpf .olt main_arg3 main_v17
  let main_v19 : IVec S8192x1024 1 := andi main_v16 main_v18
  let main_cst_7 : FVec F S_ .f32 := constant S_ .f32 0xFF800000#32
  let main_v20 : FVec F S8192x1024 .f32 := broadcastInDim S8192x1024 ![] bcast_S_S8192x1024 main_cst_7
  let main_v21 : IVec S8192x1024 1 := cmpf .ogt main_arg4 main_v20
  let main_cst_8 : FVec F S_ .f32 := constant S_ .f32 0x7F800000#32
  let main_v22 : FVec F S8192x1024 .f32 := broadcastInDim S8192x1024 ![] bcast_S_S8192x1024 main_cst_8
  let main_v23 : IVec S8192x1024 1 := cmpf .olt main_arg4 main_v22
  let main_v24 : IVec S8192x1024 1 := andi main_v21 main_v23
  let main_cst_9 : FVec F S_ .f32 := constant S_ .f32 0xFF800000#32
  let main_v25 : FVec F S8192x1024 .f32 := broadcastInDim S8192x1024 ![] bcast_S_S8192x1024 main_cst_9
  let main_v26 : IVec S8192x1024 1 := cmpf .ogt main_arg5 main_v25
  let main_cst_10 : FVec F S_ .f32 := constant S_ .f32 0x7F800000#32
  let main_v27 : FVec F S8192x1024 .f32 := broadcastInDim S8192x1024 ![] bcast_S_S8192x1024 main_cst_10
  let main_v28 : IVec S8192x1024 1 := cmpf .olt main_arg5 main_v27
  let main_v29 : IVec S8192x1024 1 := andi main_v26 main_v28
  let main_cst_11 : FVec F S_ .f32 := constant S_ .f32 0xFF800000#32
  let main_v30 : FVec F S1024 .f32 := broadcastInDim S1024 ![] bcast_S_S1024 main_cst_11
  let main_v31 : IVec S1024 1 := cmpf .ogt main_arg6 main_v30
  let main_cst_12 : FVec F S_ .f32 := constant S_ .f32 0x7F800000#32
  let main_v32 : FVec F S1024 .f32 := broadcastInDim S1024 ![] bcast_S_S1024 main_cst_12
  let main_v33 : IVec S1024 1 := cmpf .olt main_arg6 main_v32
  fn_part2 (F := F) main_arg7 main_arg8 main_v4 main_v9 main_v14 main_v19 main_v24 main_v29 main_v31 main_v33

def fn {F : FTy → Type} [FloatOps F] (main_arg0 : FVec F S8192x1024 .f32) (main_arg1 : FVec F S8192x1024 .f32) (main_arg2 : FVec F S8192x1024 .f32) (main_arg3 : FVec F S8192x1024 .f32) (main_arg4 : FVec F S8192x1024 .f32) (main_arg5 : FVec F S8192x1024 .f32) (main_arg6 : FVec F S1024 .f32) (main_arg7 : FVec F S1024 .f32) (main_arg8 : FVec F S16x64 .f32) : IVec S8192x1024 1 × IVec S8192x1024 1 × IVec S8192x1024 1 × IVec S8192x1024 1 × IVec S8192x1024 1 × IVec S8192x1024 1 × IVec S1024 1 × IVec S1024 1 × IVec S16x64 1 :=
  let main_cst : FVec F S_ .f32 := constant S_ .f32 0xFF800000#32
  let main_v0 : FVec F S8192x1024 .f32 := broadcastInDim S8192x1024 ![] bcast_S_S8192x1024 main_cst
  let main_v1 : IVec S8192x1024 1 := cmpf .ogt main_arg0 main_v0
  let main_cst_0 : FVec F S_ .f32 := constant S_ .f32 0x7F800000#32
  let main_v2 : FVec F S8192x1024 .f32 := broadcastInDim S8192x1024 ![] bcast_S_S8192x1024 main_cst_0
  let main_v3 : IVec S8192x1024 1 := cmpf .olt main_arg0 main_v2
  let main_v4 : IVec S8192x1024 1 := andi main_v1 main_v3
  let main_cst_1 : FVec F S_ .f32 := constant S_ .f32 0xFF800000#32
  let main_v5 : FVec F S8192x1024 .f32 := broadcastInDim S8192x1024 ![] bcast_S_S8192x1024 main_cst_1
  let main_v6 : IVec S8192x1024 1 := cmpf .ogt main_arg1 main_v5
  let main_cst_2 : FVec F S_ .f32 := constant S_ .f32 0x7F800000#32
  let main_v7 : FVec F S8192x1024 .f32 := broadcastInDim S8192x1024 ![] bcast_S_S8192x1024 main_cst_2
  let main_v8 : IVec S8192x1024 1 := cmpf .olt main_arg1 main_v7
  let main_v9 : IVec S8192x1024 1 := andi main_v6 main_v8
  let main_cst_3 : FVec F S_ .f32 := constant S_ .f32 0xFF800000#32
  let main_v10 : FVec F S8192x1024 .f32 := broadcastInDim S8192x1024 ![] bcast_S_S8192x1024 main_cst_3
  let main_v11 : IVec S8192x1024 1 := cmpf .ogt main_arg2 main_v10
  let main_cst_4 : FVec F S_ .f32 := constant S_ .f32 0x7F800000#32
  let main_v12 : FVec F S8192x1024 .f32 := broadcastInDim S8192x1024 ![] bcast_S_S8192x1024 main_cst_4
  let main_v13 : IVec S8192x1024 1 := cmpf .olt main_arg2 main_v12
  let main_v14 : IVec S8192x1024 1 := andi main_v11 main_v13
  let main_cst_5 : FVec F S_ .f32 := constant S_ .f32 0xFF800000#32
  let main_v15 : FVec F S8192x1024 .f32 := broadcastInDim S8192x1024 ![] bcast_S_S8192x1024 main_cst_5
  let main_v16 : IVec S8192x1024 1 := cmpf .ogt main_arg3 main_v15
  fn_part1 (F := F) main_arg3 main_arg4 main_arg5 main_arg6 main_arg7 main_arg8 main_v4 main_v9 main_v14 main_v16
-- ==== Pre_finite_shift.lean ====
abbrev S8192x1024 : Shape := ⟨2, ![8192, 1024]⟩
abbrev S1024 : Shape := ⟨1, ![1024]⟩
abbrev S6x1024 : Shape := ⟨2, ![6, 1024]⟩
abbrev S_ : Shape := ⟨0, ![]⟩

class Facts : Prop where
  bcast_S_S6x1024 : S_.BroadcastsInDim S6x1024 (![] : Fin 0 → Fin S6x1024.rank)
  bcast_S_S8192x1024 : S_.BroadcastsInDim S8192x1024 (![] : Fin 0 → Fin S8192x1024.rank)

variable [Facts]

def fn_part2 {F : FTy → Type} [FloatOps F] (main_v4 : IVec S6x1024 1) (main_v9 : IVec S8192x1024 1) (main_v14 : IVec S8192x1024 1) (main_v19 : IVec S8192x1024 1) (main_v24 : IVec S8192x1024 1) (main_v29 : IVec S8192x1024 1) (main_v31 : IVec S8192x1024 1) (main_v33 : IVec S8192x1024 1) : IVec S6x1024 1 × IVec S8192x1024 1 × IVec S8192x1024 1 × IVec S8192x1024 1 × IVec S8192x1024 1 × IVec S8192x1024 1 × IVec S8192x1024 1 :=
  let main_v34 : IVec S8192x1024 1 := andi main_v31 main_v33
  (main_v4, main_v9, main_v14, main_v19, main_v24, main_v29, main_v34)

def fn_part1 {F : FTy → Type} [FloatOps F] (main_arg5 : FVec F S8192x1024 .f32) (main_arg6 : FVec F S8192x1024 .f32) (main_arg7 : FVec F S8192x1024 .f32) (main_arg8 : FVec F S8192x1024 .f32) (main_v4 : IVec S6x1024 1) (main_v9 : IVec S8192x1024 1) (main_v14 : IVec S8192x1024 1) (main_v16 : IVec S8192x1024 1) : IVec S6x1024 1 × IVec S8192x1024 1 × IVec S8192x1024 1 × IVec S8192x1024 1 × IVec S8192x1024 1 × IVec S8192x1024 1 × IVec S8192x1024 1 :=
  let main_cst_6 : FVec F S_ .f32 := constant S_ .f32 0x7F800000#32
  let main_v17 : FVec F S8192x1024 .f32 := broadcastInDim S8192x1024 ![] bcast_S_S8192x1024 main_cst_6
  let main_v18 : IVec S8192x1024 1 := cmpf .olt main_arg5 main_v17
  let main_v19 : IVec S8192x1024 1 := andi main_v16 main_v18
  let main_cst_7 : FVec F S_ .f32 := constant S_ .f32 0xFF800000#32
  let main_v20 : FVec F S8192x1024 .f32 := broadcastInDim S8192x1024 ![] bcast_S_S8192x1024 main_cst_7
  let main_v21 : IVec S8192x1024 1 := cmpf .ogt main_arg6 main_v20
  let main_cst_8 : FVec F S_ .f32 := constant S_ .f32 0x7F800000#32
  let main_v22 : FVec F S8192x1024 .f32 := broadcastInDim S8192x1024 ![] bcast_S_S8192x1024 main_cst_8
  let main_v23 : IVec S8192x1024 1 := cmpf .olt main_arg6 main_v22
  let main_v24 : IVec S8192x1024 1 := andi main_v21 main_v23
  let main_cst_9 : FVec F S_ .f32 := constant S_ .f32 0xFF800000#32
  let main_v25 : FVec F S8192x1024 .f32 := broadcastInDim S8192x1024 ![] bcast_S_S8192x1024 main_cst_9
  let main_v26 : IVec S8192x1024 1 := cmpf .ogt main_arg7 main_v25
  let main_cst_10 : FVec F S_ .f32 := constant S_ .f32 0x7F800000#32
  let main_v27 : FVec F S8192x1024 .f32 := broadcastInDim S8192x1024 ![] bcast_S_S8192x1024 main_cst_10
  let main_v28 : IVec S8192x1024 1 := cmpf .olt main_arg7 main_v27
  let main_v29 : IVec S8192x1024 1 := andi main_v26 main_v28
  let main_cst_11 : FVec F S_ .f32 := constant S_ .f32 0xFF800000#32
  let main_v30 : FVec F S8192x1024 .f32 := broadcastInDim S8192x1024 ![] bcast_S_S8192x1024 main_cst_11
  let main_v31 : IVec S8192x1024 1 := cmpf .ogt main_arg8 main_v30
  let main_cst_12 : FVec F S_ .f32 := constant S_ .f32 0x7F800000#32
  let main_v32 : FVec F S8192x1024 .f32 := broadcastInDim S8192x1024 ![] bcast_S_S8192x1024 main_cst_12
  let main_v33 : IVec S8192x1024 1 := cmpf .olt main_arg8 main_v32
  fn_part2 (F := F) main_v4 main_v9 main_v14 main_v19 main_v24 main_v29 main_v31 main_v33

def fn {F : FTy → Type} [FloatOps F] (main_arg0 : FVec F S8192x1024 .f32) (main_arg1 : FVec F S1024 .f32) (main_arg2 : FVec F S6x1024 .f32) (main_arg3 : FVec F S8192x1024 .f32) (main_arg4 : FVec F S8192x1024 .f32) (main_arg5 : FVec F S8192x1024 .f32) (main_arg6 : FVec F S8192x1024 .f32) (main_arg7 : FVec F S8192x1024 .f32) (main_arg8 : FVec F S8192x1024 .f32) (main_arg9 : FVec F S8192x1024 .f32) : IVec S6x1024 1 × IVec S8192x1024 1 × IVec S8192x1024 1 × IVec S8192x1024 1 × IVec S8192x1024 1 × IVec S8192x1024 1 × IVec S8192x1024 1 :=
  let main_cst : FVec F S_ .f32 := constant S_ .f32 0xFF800000#32
  let main_v0 : FVec F S6x1024 .f32 := broadcastInDim S6x1024 ![] bcast_S_S6x1024 main_cst
  let main_v1 : IVec S6x1024 1 := cmpf .ogt main_arg2 main_v0
  let main_cst_0 : FVec F S_ .f32 := constant S_ .f32 0x7F800000#32
  let main_v2 : FVec F S6x1024 .f32 := broadcastInDim S6x1024 ![] bcast_S_S6x1024 main_cst_0
  let main_v3 : IVec S6x1024 1 := cmpf .olt main_arg2 main_v2
  let main_v4 : IVec S6x1024 1 := andi main_v1 main_v3
  let main_cst_1 : FVec F S_ .f32 := constant S_ .f32 0xFF800000#32
  let main_v5 : FVec F S8192x1024 .f32 := broadcastInDim S8192x1024 ![] bcast_S_S8192x1024 main_cst_1
  let main_v6 : IVec S8192x1024 1 := cmpf .ogt main_arg3 main_v5
  let main_cst_2 : FVec F S_ .f32 := constant S_ .f32 0x7F800000#32
  let main_v7 : FVec F S8192x1024 .f32 := broadcastInDim S8192x1024 ![] bcast_S_S8192x1024 main_cst_2
  let main_v8 : IVec S8192x1024 1 := cmpf .olt main_arg3 main_v7
  let main_v9 : IVec S8192x1024 1 := andi main_v6 main_v8
  let main_cst_3 : FVec F S_ .f32 := constant S_ .f32 0xFF800000#32
  let main_v10 : FVec F S8192x1024 .f32 := broadcastInDim S8192x1024 ![] bcast_S_S8192x1024 main_cst_3
  let main_v11 : IVec S8192x1024 1 := cmpf .ogt main_arg4 main_v10
  let main_cst_4 : FVec F S_ .f32 := constant S_ .f32 0x7F800000#32
  let main_v12 : FVec F S8192x1024 .f32 := broadcastInDim S8192x1024 ![] bcast_S_S8192x1024 main_cst_4
  let main_v13 : IVec S8192x1024 1 := cmpf .olt main_arg4 main_v12
  let main_v14 : IVec S8192x1024 1 := andi main_v11 main_v13
  let main_cst_5 : FVec F S_ .f32 := constant S_ .f32 0xFF800000#32
  let main_v15 : FVec F S8192x1024 .f32 := broadcastInDim S8192x1024 ![] bcast_S_S8192x1024 main_cst_5
  let main_v16 : IVec S8192x1024 1 := cmpf .ogt main_arg5 main_v15
  fn_part1 (F := F) main_arg5 main_arg6 main_arg7 main_arg8 main_v4 main_v9 main_v14 main_v16
-- ==== Kernel.lean ====
abbrev S8192x1024 : Shape := ⟨2, ![8192, 1024]⟩
abbrev S2048x256 : Shape := ⟨2, ![2048, 256]⟩
abbrev S8x256 : Shape := ⟨2, ![8, 256]⟩
abbrev S1x256 : Shape := ⟨2, ![1, 256]⟩

abbrev nBuf : Space → Nat
  | .hbm => 6
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S2048x256, .f32⟩
  | .local _ .vmem, ⟨9, _⟩ => ⟨S2048x256, .f32⟩
  | .local _ .vmem, ⟨10, _⟩ => ⟨S2048x256, .f32⟩
  | .local _ .vmem, ⟨11, _⟩ => ⟨S2048x256, .f32⟩
  | .local _ .vmem, ⟨12, _⟩ => ⟨S2048x256, .f32⟩
  | .local _ .vmem, ⟨13, _⟩ => ⟨S2048x256, .f32⟩
  | .local _ .vmem, ⟨14, _⟩ => ⟨S2048x256, .f32⟩
  | .local _ .vmem, ⟨15, _⟩ => ⟨S2048x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨2, ![4, 4], ![false, false]⟩

@[reducible] def k0_t1_loop : Scf.Loop 32 :=
  let c0_i32 : BitVec 32 := 0#32
  let c256_i32 : BitVec 32 := 256#32
  let v2 : BitVec 32 := Scalar.addi c0_i32 c256_i32
  let c1_i32 : BitVec 32 := 1#32
  ⟨c0_i32, v2, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c8_i32 : BitVec 32 := 8#32
  let v4 : BitVec 32 := Scalar.muli arg5 c8_i32
  v4
def k0_off1 (k0_t1 : Fin k0_t1_loop.trips) : Fin 2 → Nat :=
  let c0_i32 : BitVec 32 := 0#32
  let c1_i32 : BitVec 32 := 1#32
  let arg5 : BitVec 32 := Scf.iv c0_i32 c1_i32 k0_t1
  let c8_i32 : BitVec 32 := 8#32
  let v4 : BitVec 32 := Scalar.muli arg5 c8_i32
  let v5 : BitVec 32 := v4
  let v6 : Index := Scalar.indexCast v5
  let c0 : Index := 0#32
  ![v6.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![4, 4], ![false, false]⟩

@[reducible] def k1_t1_loop : Scf.Loop 32 :=
  let c0_i32 : BitVec 32 := 0#32
  let c256_i32 : BitVec 32 := 256#32
  let v2 : BitVec 32 := Scalar.addi c0_i32 c256_i32
  let c1_i32 : BitVec 32 := 1#32
  ⟨c0_i32, v2, c1_i32⟩
def k1_mult1 (k1_t1 : Fin k1_t1_loop.trips) : BitVec 32 :=
  let c255_i32 : BitVec 32 := 255#32
  let c0_i32 : BitVec 32 := 0#32
  let c1_i32 : BitVec 32 := 1#32
  let arg7 : BitVec 32 := Scf.iv c0_i32 c1_i32 k1_t1
  let v4 : BitVec 32 := Scalar.subi c255_i32 arg7
  let c8_i32 : BitVec 32 := 8#32
  let v5 : BitVec 32 := Scalar.muli v4 c8_i32
  v5
def k1_off1 (k1_t1 : Fin k1_t1_loop.trips) : Fin 2 → Nat :=
  let c255_i32 : BitVec 32 := 255#32
  let c0_i32 : BitVec 32 := 0#32
  let c1_i32 : BitVec 32 := 1#32
  let arg7 : BitVec 32 := Scf.iv c0_i32 c1_i32 k1_t1
  let v4 : BitVec 32 := Scalar.subi c255_i32 arg7
  let c8_i32 : BitVec 32 := 8#32
  let v5 : BitVec 32 := Scalar.muli v4 c8_i32
  let v6 : BitVec 32 := v5
  let v7 : Index := Scalar.indexCast v6
  let c0 : Index := 0#32
  ![v7.toNat, 0]
def k1_mult2 (k1_t1 : Fin k1_t1_loop.trips) : BitVec 32 :=
  let c255_i32 : BitVec 32 := 255#32
  let c0_i32 : BitVec 32 := 0#32
  let c1_i32 : BitVec 32 := 1#32
  let arg7 : BitVec 32 := Scf.iv c0_i32 c1_i32 k1_t1
  let v4 : BitVec 32 := Scalar.subi c255_i32 arg7
  let c1_i32_20 : BitVec 32 := 1#32
  let v59 : BitVec 32 := Scalar.subi v4 c1_i32_20
  let c0_i32_21 : BitVec 32 := 0#32
  let v60 : BitVec 32 := Scalar.maxsi v59 c0_i32_21
  let c8_i32_22 : BitVec 32 := 8#32
  let v61 : BitVec 32 := Scalar.muli v60 c8_i32_22
  v61
def k1_off2 (k1_t1 : Fin k1_t1_loop.trips) : Fin 2 → Nat :=
  let c255_i32 : BitVec 32 := 255#32
  let c0_i32 : BitVec 32 := 0#32
  let c1_i32 : BitVec 32 := 1#32
  let arg7 : BitVec 32 := Scf.iv c0_i32 c1_i32 k1_t1
  let v4 : BitVec 32 := Scalar.subi c255_i32 arg7
  let c1_i32_20 : BitVec 32 := 1#32
  let v59 : BitVec 32 := Scalar.subi v4 c1_i32_20
  let c0_i32_21 : BitVec 32 := 0#32
  let v60 : BitVec 32 := Scalar.maxsi v59 c0_i32_21
  let c8_i32_22 : BitVec 32 := 8#32
  let v61 : BitVec 32 := Scalar.muli v60 c8_i32_22
  let v62 : BitVec 32 := v61
  let v63 : Index := Scalar.indexCast v62
  let c0_23 : Index := 0#32
  ![v63.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S2048x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S2048x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S2048x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]
-- ==== ReferenceIdeal.lean ====
abbrev S8192x1024 : Shape := ⟨2, ![8192, 1024]⟩
abbrev S_ : Shape := ⟨0, ![]⟩
abbrev S4x1024 : Shape := ⟨2, ![4, 1024]⟩
abbrev S4x2048x1024 : Shape := ⟨3, ![4, 2048, 1024]⟩
abbrev S2048x4x1024 : Shape := ⟨3, ![2048, 4, 1024]⟩
abbrev S1x4x1024 : Shape := ⟨3, ![1, 4, 1024]⟩

abbrev nBuf : Space → Nat
  | .hbm => 97
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S_, .f32⟩
  | .hbm, ⟨4, _⟩ => ⟨S4x1024, .f32⟩
  | .hbm, ⟨5, _⟩ => ⟨S4x2048x1024, .f32⟩
  | .hbm, ⟨6, _⟩ => ⟨S2048x4x1024, .f32⟩
  | .hbm, ⟨7, _⟩ => ⟨S4x2048x1024, .f32⟩
  | .hbm, ⟨8, _⟩ => ⟨S2048x4x1024, .f32⟩
  | .hbm, ⟨9, _⟩ => ⟨S_, .f32⟩
  | .hbm, ⟨10, _⟩ => ⟨S2048x4x1024, .f32⟩
  | .hbm, ⟨11, _⟩ => ⟨S_, .f32⟩
  | .hbm, ⟨12, _⟩ => ⟨S2048x4x1024, .f32⟩
  | .hbm, ⟨13, _⟩ => ⟨S_, .i32⟩
  | .hbm, ⟨14, _⟩ => ⟨S2048x4x1024, .f32⟩
  | .hbm, ⟨15, _⟩ => ⟨S2048x4x1024, .f32⟩
  | .hbm, ⟨16, _⟩ => ⟨S_, .i32⟩
  | .hbm, ⟨17, _⟩ => ⟨S4x1024, .f32⟩
  | .hbm, ⟨18, _⟩ => ⟨S2048x4x1024, .f32⟩
  | .hbm, ⟨19, _⟩ => ⟨S2048x4x1024, .f32⟩
  | .hbm, ⟨20, _⟩ => ⟨S_, .i32⟩
  | .hbm, ⟨21, _⟩ => ⟨S_, .i1⟩
  | .hbm, ⟨22, _⟩ => ⟨S_, .i32⟩
  | .hbm, ⟨23, _⟩ => ⟨S_, .i32⟩
  | .hbm, ⟨24, _⟩ => ⟨S1x4x1024, .f32⟩
  | .hbm, ⟨25, _⟩ => ⟨S4x1024, .f32⟩
  | .hbm, ⟨26, _⟩ => ⟨S_, .i32⟩
  | .hbm, ⟨27, _⟩ => ⟨S_, .i32⟩
  | .hbm, ⟨28, _⟩ => ⟨S1x4x1024, .f32⟩
  | .hbm, ⟨29, _⟩ => ⟨S4x1024, .f32⟩
  | .hbm, ⟨30, _⟩ => ⟨S4x1024, .f32⟩
  | .hbm, ⟨31, _⟩ => ⟨S4x1024, .f32⟩
  | .hbm, ⟨32, _⟩ => ⟨S1x4x1024, .f32⟩
  | .hbm, ⟨33, _⟩ => ⟨S_, .i32⟩
  | .hbm, ⟨34, _⟩ => ⟨S_, .i32⟩
  | .hbm, ⟨35, _⟩ => ⟨S2048x4x1024, .f32⟩
  | .hbm, ⟨36, _⟩ => ⟨S1x4x1024, .f32⟩
  | .hbm, ⟨37, _⟩ => ⟨S_, .i32⟩
  | .hbm, ⟨38, _⟩ => ⟨S_, .i32⟩
  | .hbm, ⟨39, _⟩ => ⟨S2048x4x1024, .f32⟩
  | .hbm, ⟨40, _⟩ => ⟨S_, .i32⟩
  | .hbm, ⟨41, _⟩ => ⟨S_, .i32⟩
  | .hbm, ⟨42, _⟩ => ⟨S4x2048x1024, .f32⟩
  | .hbm, ⟨43, _⟩ => ⟨S8192x1024, .f32⟩
  | .hbm, ⟨44, _⟩ => ⟨S_, .f32⟩
  | .hbm, ⟨45, _⟩ => ⟨S4x1024, .f32⟩
  | .hbm, ⟨46, _⟩ => ⟨S4x2048x1024, .f32⟩
  | .hbm, ⟨47, _⟩ => ⟨S2048x4x1024, .f32⟩
  | .hbm, ⟨48, _⟩ => ⟨S_, .f32⟩
  | .hbm, ⟨49, _⟩ => ⟨S4x1024, .f32⟩
  | .hbm, ⟨50, _⟩ => ⟨S_, .f32⟩
  | .hbm, ⟨51, _⟩ => ⟨S2048x4x1024, .f32⟩
  | .hbm, ⟨52, _⟩ => ⟨S_, .f32⟩
  | .hbm, ⟨53, _⟩ => ⟨S2048x4x1024, .f32⟩
  | .hbm, ⟨54, _⟩ => ⟨S_, .i32⟩
  | .hbm, ⟨55, _⟩ => ⟨S2048x4x1024, .f32⟩
  | .hbm, ⟨56, _⟩ => ⟨S2048x4x1024, .f32⟩
  | .hbm, ⟨57, _⟩ => ⟨S2048x4x1024, .f32⟩
  | .hbm, ⟨58, _⟩ => ⟨S_, .i32⟩
  | .hbm, ⟨59, _⟩ => ⟨S4x1024, .f32⟩
  | .hbm, ⟨60, _⟩ => ⟨S2048x4x1024, .f32⟩
  | .hbm, ⟨61, _⟩ => ⟨S2048x4x1024, .f32⟩
  | .hbm, ⟨62, _⟩ => ⟨S_, .i32⟩
  | .hbm, ⟨63, _⟩ => ⟨S_, .i1⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S_, .i32⟩
  | .hbm, ⟨69, _⟩ => ⟨S_, .i32⟩
  | .hbm, ⟨70, _⟩ => ⟨S1x4x1024, .f32⟩
  | .hbm, ⟨71, _⟩ => ⟨S4x1024, .f32⟩
  | .hbm, ⟨72, _⟩ => ⟨S_, .i32⟩
  | .hbm, ⟨73, _⟩ => ⟨S_, .i32⟩
  | .hbm, ⟨74, _⟩ => ⟨S1x4x1024, .f32⟩
  | .hbm, ⟨75, _⟩ => ⟨S4x1024, .f32⟩
  | .hbm, ⟨76, _⟩ => ⟨S_, .i32⟩
  | .hbm, ⟨77, _⟩ => ⟨S_, .i32⟩
  | .hbm, ⟨78, _⟩ => ⟨S1x4x1024, .f32⟩
  | .hbm, ⟨79, _⟩ => ⟨S4x1024, .f32⟩
  | .hbm, ⟨80, _⟩ => ⟨S4x1024, .f32⟩
  | .hbm, ⟨81, _⟩ => ⟨S4x1024, .f32⟩
  | .hbm, ⟨82, _⟩ => ⟨S4x1024, .f32⟩
  | .hbm, ⟨83, _⟩ => ⟨S1x4x1024, .f32⟩
  | .hbm, ⟨84, _⟩ => ⟨S_, .i32⟩
  | .hbm, ⟨85, _⟩ => ⟨S_, .i32⟩
  | .hbm, ⟨86, _⟩ => ⟨S2048x4x1024, .f32⟩
  | .hbm, ⟨87, _⟩ => ⟨S1x4x1024, .f32⟩
  | .hbm, ⟨88, _⟩ => ⟨S_, .i32⟩
  | .hbm, ⟨89, _⟩ => ⟨S_, .i32⟩
  | .hbm, ⟨90, _⟩ => ⟨S2048x4x1024, .f32⟩
  | .hbm, ⟨91, _⟩ => ⟨S_, .i32⟩
  | .hbm, ⟨92, _⟩ => ⟨S_, .i32⟩
  | .hbm, ⟨93, _⟩ => ⟨S4x2048x1024, .f32⟩
  | .hbm, ⟨94, _⟩ => ⟨S8192x1024, .f32⟩
  | .hbm, ⟨95, _⟩ => ⟨S4x2048x1024, .f32⟩
  | .hbm, ⟨96, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_c : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev main_v7_4 : Ref sig .tc := ⟨.hbm, 18, rfl⟩
abbrev main_v7_5 : Ref sig .tc := ⟨.hbm, 19, rfl⟩
abbrev main_while0c_c_12 : Ref sig .tc := ⟨.hbm, 20, rfl⟩
abbrev main_while0c_v21 : Ref sig .tc := ⟨.hbm, 21, rfl⟩
abbrev main_while0b_call0_c : Ref sig .tc := ⟨.hbm, 22, rfl⟩
abbrev main_while0b_call0_c_0 : Ref sig .tc := ⟨.hbm, 23, rfl⟩
abbrev main_while0b_call0_v0 : Ref sig .tc := ⟨.hbm, 24, rfl⟩
abbrev main_while0b_v21 : Ref sig .tc := ⟨.hbm, 25, rfl⟩
abbrev main_while0b_call1_c : Ref sig .tc := ⟨.hbm, 26, rfl⟩
abbrev main_while0b_call1_c_0 : Ref sig .tc := ⟨.hbm, 27, rfl⟩
abbrev main_while0b_call1_v0 : Ref sig .tc := ⟨.hbm, 28, rfl⟩
abbrev main_while0b_v22 : Ref sig .tc := ⟨.hbm, 29, rfl⟩
abbrev main_while0b_v23 : Ref sig .tc := ⟨.hbm, 30, rfl⟩
abbrev main_while0b_v24 : Ref sig .tc := ⟨.hbm, 31, rfl⟩
abbrev main_while0b_call2_v0 : Ref sig .tc := ⟨.hbm, 32, rfl⟩
abbrev main_while0b_call2_c : Ref sig .tc := ⟨.hbm, 33, rfl⟩
abbrev main_while0b_call2_c_0 : Ref sig .tc := ⟨.hbm, 34, rfl⟩
abbrev main_while0b_v25 : Ref sig .tc := ⟨.hbm, 35, rfl⟩
abbrev main_while0b_call3_v0 : Ref sig .tc := ⟨.hbm, 36, rfl⟩
abbrev main_while0b_call3_c : Ref sig .tc := ⟨.hbm, 37, rfl⟩
abbrev main_while0b_call3_c_0 : Ref sig .tc := ⟨.hbm, 38, rfl⟩
abbrev main_while0b_v26 : Ref sig .tc := ⟨.hbm, 39, rfl⟩
abbrev main_while0b_c_12 : Ref sig .tc := ⟨.hbm, 40, rfl⟩
abbrev main_while0b_v27 : Ref sig .tc := ⟨.hbm, 41, rfl⟩
abbrev main_v8 : Ref sig .tc := ⟨.hbm, 42, rfl⟩
abbrev main_v9 : Ref sig .tc := ⟨.hbm, 43, rfl⟩
abbrev main_cst_2 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_cst_3 : Ref sig .tc := ⟨.hbm, 48, rfl⟩
abbrev main_v13 : Ref sig .tc := ⟨.hbm, 49, rfl⟩
abbrev main_cst_4 : Ref sig .tc := ⟨.hbm, 50, rfl⟩
abbrev main_v14 : Ref sig .tc := ⟨.hbm, 51, rfl⟩
abbrev main_cst_5 : Ref sig .tc := ⟨.hbm, 52, rfl⟩
abbrev main_v15 : Ref sig .tc := ⟨.hbm, 53, rfl⟩
abbrev main_c_6 : Ref sig .tc := ⟨.hbm, 54, rfl⟩
abbrev main_v16_0 : Ref sig .tc := ⟨.hbm, 55, rfl⟩
abbrev main_v16_1 : Ref sig .tc := ⟨.hbm, 56, rfl⟩
abbrev main_v16_2 : Ref sig .tc := ⟨.hbm, 57, rfl⟩
abbrev main_v16_3 : Ref sig .tc := ⟨.hbm, 58, rfl⟩
abbrev main_v16_4 : Ref sig .tc := ⟨.hbm, 59, rfl⟩
abbrev main_v16_5 : Ref sig .tc := ⟨.hbm, 60, rfl⟩
abbrev main_v16_6 : Ref sig .tc := ⟨.hbm, 61, rfl⟩
abbrev main_while1c_c_13 : Ref sig .tc := ⟨.hbm, 62, rfl⟩
abbrev main_while1c_v21 : Ref sig .tc := ⟨.hbm, 63, rfl⟩
abbrev main_while1b_c_13 : Ref sig .tc := ⟨.hbm, 64, rfl⟩
abbrev main_while1b_v21 : Ref sig .tc := ⟨.hbm, 65, rfl⟩
abbrev main_while1b_c_14 : Ref sig .tc := ⟨.hbm, 66, rfl⟩
abbrev main_while1b_v22 : Ref sig .tc := ⟨.hbm, 67, rfl⟩
abbrev main_while1b_call4_c : Ref sig .tc := ⟨.hbm, 68, rfl⟩
abbrev main_while1b_call4_c_0 : Ref sig .tc := ⟨.hbm, 69, rfl⟩
abbrev main_while1b_call4_v0 : Ref sig .tc := ⟨.hbm, 70, rfl⟩
abbrev main_while1b_v23 : Ref sig .tc := ⟨.hbm, 71, rfl⟩
abbrev main_while1b_call5_c : Ref sig .tc := ⟨.hbm, 72, rfl⟩
abbrev main_while1b_call5_c_0 : Ref sig .tc := ⟨.hbm, 73, rfl⟩
abbrev main_while1b_call5_v0 : Ref sig .tc := ⟨.hbm, 74, rfl⟩
abbrev main_while1b_v24 : Ref sig .tc := ⟨.hbm, 75, rfl⟩
abbrev main_while1b_call6_c : Ref sig .tc := ⟨.hbm, 76, rfl⟩
abbrev main_while1b_call6_c_0 : Ref sig .tc := ⟨.hbm, 77, rfl⟩
abbrev main_while1b_call6_v0 : Ref sig .tc := ⟨.hbm, 78, rfl⟩
abbrev main_while1b_v25 : Ref sig .tc := ⟨.hbm, 79, rfl⟩
abbrev main_while1b_v26 : Ref sig .tc := ⟨.hbm, 80, rfl⟩
abbrev main_while1b_v27 : Ref sig .tc := ⟨.hbm, 81, rfl⟩
abbrev main_while1b_v28 : Ref sig .tc := ⟨.hbm, 82, rfl⟩
abbrev main_while1b_call7_v0 : Ref sig .tc := ⟨.hbm, 83, rfl⟩
abbrev main_while1b_call7_c : Ref sig .tc := ⟨.hbm, 84, rfl⟩
abbrev main_while1b_call7_c_0 : Ref sig .tc := ⟨.hbm, 85, rfl⟩
abbrev main_while1b_v29 : Ref sig .tc := ⟨.hbm, 86, rfl⟩
abbrev main_while1b_call8_v0 : Ref sig .tc := ⟨.hbm, 87, rfl⟩
abbrev main_while1b_call8_c : Ref sig .tc := ⟨.hbm, 88, rfl⟩
abbrev main_while1b_call8_c_0 : Ref sig .tc := ⟨.hbm, 89, rfl⟩
abbrev main_while1b_v30 : Ref sig .tc := ⟨.hbm, 90, rfl⟩
abbrev main_while1b_c_15 : Ref sig .tc := ⟨.hbm, 91, rfl⟩
abbrev main_while1b_v31 : Ref sig .tc := ⟨.hbm, 92, rfl⟩
abbrev main_v17 : Ref sig .tc := ⟨.hbm, 93, rfl⟩
abbrev main_v18 : Ref sig .tc := ⟨.hbm, 94, rfl⟩
abbrev main_v19 : Ref sig .tc := ⟨.hbm, 95, rfl⟩
abbrev main_v20 : Ref sig .tc := ⟨.hbm, 96, rfl⟩

abbrev nD : Nat := 1
abbrev τ : Topo := Topo.v7x

variable {F : FTy → Type} [FloatOps F]

abbrev main_while0_count : Scf.Loop 32 := ⟨0#32, 2048#32, 1#32⟩

abbrev main_while1_count : Scf.Loop 32 := ⟨0#32, 2048#32, 1#32⟩
-- ==== FfnUp.lean ====
abbrev S8192x1024 : Shape := ⟨2, ![8192, 1024]⟩
abbrev S2x1024x6144 : Shape := ⟨3, ![2, 1024, 6144]⟩
abbrev S2x1024x4x1536 : Shape := ⟨4, ![2, 1024, 4, 1536]⟩
abbrev S4x2x1024x1536 : Shape := ⟨4, ![4, 2, 1024, 1536]⟩
abbrev S8192x6144 : Shape := ⟨2, ![8192, 6144]⟩
abbrev S1024x1024 : Shape := ⟨2, ![1024, 1024]⟩
abbrev S1x1x1024x1536 : Shape := ⟨4, ![1, 1, 1024, 1536]⟩
abbrev S1024x1536 : Shape := ⟨2, ![1024, 1536]⟩

abbrev nBuf : Space → Nat
  | .hbm => 7
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S2x1024x6144, .f32⟩
  | .hbm, ⟨2, _⟩ => ⟨S8192x1024, .bf16⟩
  | .hbm, ⟨3, _⟩ => ⟨S2x1024x4x1536, .f32⟩
  | .hbm, ⟨4, _⟩ => ⟨S4x2x1024x1536, .f32⟩
  | .hbm, ⟨5, _⟩ => ⟨S4x2x1024x1536, .bf16⟩
  | .hbm, ⟨6, _⟩ => ⟨S8192x6144, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x1024x1536, .bf16⟩
  | .local _ .vmem, ⟨3, _⟩ => ⟨S1x1x1024x1536, .bf16⟩
  | .local _ .vmem, ⟨4, _⟩ => ⟨S1024x1536, .bf16⟩
  | .local _ .vmem, ⟨5, _⟩ => ⟨S1024x1536, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnUpRefIdeal.lean ====
abbrev S8192x1024 : Shape := ⟨2, ![8192, 1024]⟩
abbrev S2x1024x6144 : Shape := ⟨3, ![2, 1024, 6144]⟩
abbrev S1x1024x6144 : Shape := ⟨3, ![1, 1024, 6144]⟩
abbrev S1024x6144 : Shape := ⟨2, ![1024, 6144]⟩
abbrev S8192x6144 : Shape := ⟨2, ![8192, 6144]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2x1024x6144, .f32⟩
  | .hbm, ⟨2, _⟩ => ⟨S1x1024x6144, .f32⟩
  | .hbm, ⟨3, _⟩ => ⟨S1024x6144, .f32⟩
  | .hbm, ⟨4, _⟩ => ⟨S8192x6144, .f32⟩
  | .hbm, ⟨5, _⟩ => ⟨S8192x6144, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== FfnDown.lean ====
abbrev S8192x3072 : Shape := ⟨2, ![8192, 3072]⟩
abbrev S3072x1024 : Shape := ⟨2, ![3072, 1024]⟩
abbrev S8192x1024 : Shape := ⟨2, ![8192, 1024]⟩
abbrev S1024x1536 : Shape := ⟨2, ![1024, 1536]⟩
abbrev S1536x1024 : Shape := ⟨2, ![1536, 1024]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S8192x3072, .f32⟩
  | .hbm, ⟨1, _⟩ => ⟨S3072x1024, .f32⟩
  | .hbm, ⟨2, _⟩ => ⟨S8192x1024, .f32⟩
  | .hbm, ⟨3, _⟩ => ⟨S8192x3072, .bf16⟩
  | .hbm, ⟨4, _⟩ => ⟨S3072x1024, .bf16⟩
  | .hbm, ⟨5, _⟩ => ⟨S8192x1024, .f32⟩
  | .local _ .vmem, ⟨0, _⟩ => ⟨S1024x1536, .bf16⟩
  | .local _ .vmem, ⟨1, _⟩ => ⟨S1024x1536, .bf16⟩
  | .local _ .vmem, ⟨2, _⟩ => ⟨S1536x1024, .bf16⟩
  | .local _ .vmem, ⟨3, _⟩ => ⟨S1536x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnDownRefIdeal.lean ====
abbrev S8192x3072 : Shape := ⟨2, ![8192, 3072]⟩
abbrev S3072x1024 : Shape := ⟨2, ![3072, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S3072x1024, .f32⟩
  | .hbm, ⟨2, _⟩ => ⟨S8192x1024, .f32⟩
  | .hbm, ⟨3, _⟩ => ⟨S8192x1024, .f32⟩
  | .hbm, ⟨4, _⟩ => ⟨S8192x1024, .f32⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== FfnDownDx.lean ====
abbrev S3072x1024 : Shape := ⟨2, ![3072, 1024]⟩
abbrev S8192x1024 : Shape := ⟨2, ![8192, 1024]⟩
abbrev S8192x3072 : Shape := ⟨2, ![8192, 3072]⟩
abbrev S1024x1024 : Shape := ⟨2, ![1024, 1024]⟩
abbrev S1536x1024 : Shape := ⟨2, ![1536, 1024]⟩
abbrev S1024x1536 : Shape := ⟨2, ![1024, 1536]⟩

abbrev nBuf : Space → Nat
  | .hbm => 5
  | .vmem => 6
  | .smem => 0
  | _ => 0

abbrev bufTy : (tb : Table) → Fin (tcTables nBuf tb) → BufTy
  | .hbm, ⟨0, _⟩ => ⟨S3072x1024, .f32⟩
  | .hbm, ⟨1, _⟩ => ⟨S8192x1024, .f32⟩
  | .hbm, ⟨2, _⟩ => ⟨S8192x1024, .bf16⟩
  | .hbm, ⟨3, _⟩ => ⟨S3072x1024, .bf16⟩
  | .hbm, ⟨4, _⟩ => ⟨S8192x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1536x1024, .bf16⟩
  | .local _ .vmem, ⟨3, _⟩ => ⟨S1536x1024, .bf16⟩
  | .local _ .vmem, ⟨4, _⟩ => ⟨S1024x1536, .bf16⟩
  | .local _ .vmem, ⟨5, _⟩ => ⟨S1024x1536, .bf16⟩
  | _, _ => ⟨S3072x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDownDxRefIdeal.lean ====
abbrev S3072x1024 : Shape := ⟨2, ![3072, 1024]⟩
abbrev S8192x1024 : Shape := ⟨2, ![8192, 1024]⟩
abbrev S_ : Shape := ⟨0, ![]⟩
abbrev S8192x3072 : Shape := ⟨2, ![8192, 3072]⟩

abbrev nBuf : Space → Nat
  | .hbm => 7
  | .vmem => 0
  | .smem => 0
  | _ => 0

abbrev bufTy : (tb : Table) → Fin (tcTables nBuf tb) → BufTy
  | .hbm, ⟨0, _⟩ => ⟨S3072x1024, .f32⟩
  | .hbm, ⟨1, _⟩ => ⟨S8192x1024, .f32⟩
  | .hbm, ⟨2, _⟩ => ⟨S_, .f32⟩
  | .hbm, ⟨3, _⟩ => ⟨S8192x3072, .f32⟩
  | .hbm, ⟨4, _⟩ => ⟨S8192x1024, .f32⟩
  | .hbm, ⟨5, _⟩ => ⟨S8192x3072, .f32⟩
  | .hbm, ⟨6, _⟩ => ⟨S8192x3072, .bf16⟩
  | _, _ => ⟨S3072x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== FfnDownDw.lean ====
abbrev S8192x3072 : Shape := ⟨2, ![8192, 3072]⟩
abbrev S8192x1024 : Shape := ⟨2, ![8192, 1024]⟩
abbrev S3072x1024 : Shape := ⟨2, ![3072, 1024]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x3072, .f32⟩
  | .hbm, ⟨1, _⟩ => ⟨S8192x1024, .f32⟩
  | .hbm, ⟨2, _⟩ => ⟨S8192x3072, .bf16⟩
  | .hbm, ⟨3, _⟩ => ⟨S8192x1024, .bf16⟩
  | .hbm, ⟨4, _⟩ => ⟨S3072x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDownDwRefIdeal.lean ====
abbrev S8192x3072 : Shape := ⟨2, ![8192, 3072]⟩
abbrev S8192x1024 : Shape := ⟨2, ![8192, 1024]⟩
abbrev S_ : Shape := ⟨0, ![]⟩
abbrev S3072x1024 : Shape := ⟨2, ![3072, 1024]⟩
abbrev S1024x3072 : Shape := ⟨2, ![1024, 3072]⟩

abbrev nBuf : Space → Nat
  | .hbm => 8
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S8192x1024, .f32⟩
  | .hbm, ⟨2, _⟩ => ⟨S_, .f32⟩
  | .hbm, ⟨3, _⟩ => ⟨S3072x1024, .f32⟩
  | .hbm, ⟨4, _⟩ => ⟨S8192x1024, .f32⟩
  | .hbm, ⟨5, _⟩ => ⟨S1024x3072, .f32⟩
  | .hbm, ⟨6, _⟩ => ⟨S3072x1024, .f32⟩
  | .hbm, ⟨7, _⟩ => ⟨S3072x1024, .bf16⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== FfnUpDx.lean ====
abbrev S2x1024x6144 : Shape := ⟨3, ![2, 1024, 6144]⟩
abbrev S8192x6144 : Shape := ⟨2, ![8192, 6144]⟩
abbrev S2x1024x4x1536 : Shape := ⟨4, ![2, 1024, 4, 1536]⟩
abbrev S4x2x1024x1536 : Shape := ⟨4, ![4, 2, 1024, 1536]⟩
abbrev S8192x1024 : Shape := ⟨2, ![8192, 1024]⟩
abbrev S1024x1536 : Shape := ⟨2, ![1024, 1536]⟩
abbrev S1x1x1024x1536 : Shape := ⟨4, ![1, 1, 1024, 1536]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x1024x6144, .f32⟩
  | .hbm, ⟨1, _⟩ => ⟨S8192x6144, .f32⟩
  | .hbm, ⟨2, _⟩ => ⟨S8192x6144, .bf16⟩
  | .hbm, ⟨3, _⟩ => ⟨S2x1024x4x1536, .f32⟩
  | .hbm, ⟨4, _⟩ => ⟨S4x2x1024x1536, .f32⟩
  | .hbm, ⟨5, _⟩ => ⟨S4x2x1024x1536, .bf16⟩
  | .hbm, ⟨6, _⟩ => ⟨S8192x1024, .f32⟩
  | .local _ .vmem, ⟨0, _⟩ => ⟨S1024x1536, .bf16⟩
  | .local _ .vmem, ⟨1, _⟩ => ⟨S1024x1536, .bf16⟩
  | .local _ .vmem, ⟨2, _⟩ => ⟨S1x1x1024x1536, .bf16⟩
  | .local _ .vmem, ⟨3, _⟩ => ⟨S1x1x1024x1536, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2x1024x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32_8 : BitVec 32 := 3#32
  let v13 : BitVec 1 := Scalar.cmpi .eq arg2 c3_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnUpDxRefIdeal.lean ====
abbrev S2x1024x6144 : Shape := ⟨3, ![2, 1024, 6144]⟩
abbrev S8192x6144 : Shape := ⟨2, ![8192, 6144]⟩
abbrev S_ : Shape := ⟨0, ![]⟩
abbrev S8192x1024 : Shape := ⟨2, ![8192, 1024]⟩
abbrev S1x1024x6144 : Shape := ⟨3, ![1, 1024, 6144]⟩
abbrev S1024x6144 : Shape := ⟨2, ![1024, 6144]⟩

abbrev nBuf : Space → Nat
  | .hbm => 8
  | .vmem => 0
  | .smem => 0
  | _ => 0

abbrev bufTy : (tb : Table) → Fin (tcTables nBuf tb) → BufTy
  | .hbm, ⟨0, _⟩ => ⟨S2x1024x6144, .f32⟩
  | .hbm, ⟨1, _⟩ => ⟨S8192x6144, .f32⟩
  | .hbm, ⟨2, _⟩ => ⟨S_, .f32⟩
  | .hbm, ⟨3, _⟩ => ⟨S8192x1024, .f32⟩
  | .hbm, ⟨4, _⟩ => ⟨S1x1024x6144, .f32⟩
  | .hbm, ⟨5, _⟩ => ⟨S1024x6144, .f32⟩
  | .hbm, ⟨6, _⟩ => ⟨S8192x6144, .f32⟩
  | .hbm, ⟨7, _⟩ => ⟨S8192x1024, .f32⟩
  | _, _ => ⟨S2x1024x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== FfnUp1.lean ====
abbrev S8192x1024 : Shape := ⟨2, ![8192, 1024]⟩
abbrev S2x1024x6144 : Shape := ⟨3, ![2, 1024, 6144]⟩
abbrev S2x1024x4x1536 : Shape := ⟨4, ![2, 1024, 4, 1536]⟩
abbrev S4x2x1024x1536 : Shape := ⟨4, ![4, 2, 1024, 1536]⟩
abbrev S8192x6144 : Shape := ⟨2, ![8192, 6144]⟩
abbrev S1024x1024 : Shape := ⟨2, ![1024, 1024]⟩
abbrev S1x1x1024x1536 : Shape := ⟨4, ![1, 1, 1024, 1536]⟩
abbrev S1024x1536 : Shape := ⟨2, ![1024, 1536]⟩

abbrev nBuf : Space → Nat
  | .hbm => 7
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S2x1024x6144, .f32⟩
  | .hbm, ⟨2, _⟩ => ⟨S8192x1024, .bf16⟩
  | .hbm, ⟨3, _⟩ => ⟨S2x1024x4x1536, .f32⟩
  | .hbm, ⟨4, _⟩ => ⟨S4x2x1024x1536, .f32⟩
  | .hbm, ⟨5, _⟩ => ⟨S4x2x1024x1536, .bf16⟩
  | .hbm, ⟨6, _⟩ => ⟨S8192x6144, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x1024x1536, .bf16⟩
  | .local _ .vmem, ⟨3, _⟩ => ⟨S1x1x1024x1536, .bf16⟩
  | .local _ .vmem, ⟨4, _⟩ => ⟨S1024x1536, .bf16⟩
  | .local _ .vmem, ⟨5, _⟩ => ⟨S1024x1536, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c1_i32_11 : BitVec 32 := 1#32
  let c0_i32_12 : BitVec 32 := 0#32
  ![v16.toNat, c1_i32_11.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnUp1RefIdeal.lean ====
abbrev S8192x1024 : Shape := ⟨2, ![8192, 1024]⟩
abbrev S2x1024x6144 : Shape := ⟨3, ![2, 1024, 6144]⟩
abbrev S1x1024x6144 : Shape := ⟨3, ![1, 1024, 6144]⟩
abbrev S1024x6144 : Shape := ⟨2, ![1024, 6144]⟩
abbrev S8192x6144 : Shape := ⟨2, ![8192, 6144]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2x1024x6144, .f32⟩
  | .hbm, ⟨2, _⟩ => ⟨S1x1024x6144, .f32⟩
  | .hbm, ⟨3, _⟩ => ⟨S1024x6144, .f32⟩
  | .hbm, ⟨4, _⟩ => ⟨S8192x6144, .f32⟩
  | .hbm, ⟨5, _⟩ => ⟨S8192x6144, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== FfnUp1Dx.lean ====
abbrev S2x1024x6144 : Shape := ⟨3, ![2, 1024, 6144]⟩
abbrev S8192x6144 : Shape := ⟨2, ![8192, 6144]⟩
abbrev S2x1024x4x1536 : Shape := ⟨4, ![2, 1024, 4, 1536]⟩
abbrev S4x2x1024x1536 : Shape := ⟨4, ![4, 2, 1024, 1536]⟩
abbrev S8192x1024 : Shape := ⟨2, ![8192, 1024]⟩
abbrev S1024x1536 : Shape := ⟨2, ![1024, 1536]⟩
abbrev S1x1x1024x1536 : Shape := ⟨4, ![1, 1, 1024, 1536]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x1024x6144, .f32⟩
  | .hbm, ⟨1, _⟩ => ⟨S8192x6144, .f32⟩
  | .hbm, ⟨2, _⟩ => ⟨S8192x6144, .bf16⟩
  | .hbm, ⟨3, _⟩ => ⟨S2x1024x4x1536, .f32⟩
  | .hbm, ⟨4, _⟩ => ⟨S4x2x1024x1536, .f32⟩
  | .hbm, ⟨5, _⟩ => ⟨S4x2x1024x1536, .bf16⟩
  | .hbm, ⟨6, _⟩ => ⟨S8192x1024, .f32⟩
  | .local _ .vmem, ⟨0, _⟩ => ⟨S1024x1536, .bf16⟩
  | .local _ .vmem, ⟨1, _⟩ => ⟨S1024x1536, .bf16⟩
  | .local _ .vmem, ⟨2, _⟩ => ⟨S1x1x1024x1536, .bf16⟩
  | .local _ .vmem, ⟨3, _⟩ => ⟨S1x1x1024x1536, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2x1024x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32_8 : BitVec 32 := 3#32
  let v13 : BitVec 1 := Scalar.cmpi .eq arg2 c3_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c1_i32_11 : BitVec 32 := 1#32
  let c0_i32_12 : BitVec 32 := 0#32
  ![v16.toNat, c1_i32_11.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnUp1DxRefIdeal.lean ====
abbrev S2x1024x6144 : Shape := ⟨3, ![2, 1024, 6144]⟩
abbrev S8192x6144 : Shape := ⟨2, ![8192, 6144]⟩
abbrev S_ : Shape := ⟨0, ![]⟩
abbrev S8192x1024 : Shape := ⟨2, ![8192, 1024]⟩
abbrev S1x1024x6144 : Shape := ⟨3, ![1, 1024, 6144]⟩
abbrev S1024x6144 : Shape := ⟨2, ![1024, 6144]⟩

abbrev nBuf : Space → Nat
  | .hbm => 8
  | .vmem => 0
  | .smem => 0
  | _ => 0

abbrev bufTy : (tb : Table) → Fin (tcTables nBuf tb) → BufTy
  | .hbm, ⟨0, _⟩ => ⟨S2x1024x6144, .f32⟩
  | .hbm, ⟨1, _⟩ => ⟨S8192x6144, .f32⟩
  | .hbm, ⟨2, _⟩ => ⟨S_, .f32⟩
  | .hbm, ⟨3, _⟩ => ⟨S8192x1024, .f32⟩
  | .hbm, ⟨4, _⟩ => ⟨S1x1024x6144, .f32⟩
  | .hbm, ⟨5, _⟩ => ⟨S1024x6144, .f32⟩
  | .hbm, ⟨6, _⟩ => ⟨S8192x6144, .f32⟩
  | .hbm, ⟨7, _⟩ => ⟨S8192x1024, .f32⟩
  | _, _ => ⟨S2x1024x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== FfnUpDw.lean ====
abbrev S8192x1024 : Shape := ⟨2, ![8192, 1024]⟩
abbrev S8192x6144 : Shape := ⟨2, ![8192, 6144]⟩
abbrev S4x1024x1536 : Shape := ⟨3, ![4, 1024, 1536]⟩
abbrev S2048x1024 : Shape := ⟨2, ![2048, 1024]⟩
abbrev S2048x1536 : Shape := ⟨2, ![2048, 1536]⟩
abbrev S1x1024x1536 : Shape := ⟨3, ![1, 1024, 1536]⟩
abbrev S1024x1536 : Shape := ⟨2, ![1024, 1536]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x6144, .f32⟩
  | .hbm, ⟨2, _⟩ => ⟨S8192x1024, .bf16⟩
  | .hbm, ⟨3, _⟩ => ⟨S8192x6144, .bf16⟩
  | .hbm, ⟨4, _⟩ => ⟨S4x1024x1536, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1536, .bf16⟩
  | .local _ .vmem, ⟨3, _⟩ => ⟨S2048x1536, .bf16⟩
  | .local _ .vmem, ⟨4, _⟩ => ⟨S1x1024x1536, .bf16⟩
  | .local _ .vmem, ⟨5, _⟩ => ⟨S1x1024x1536, .bf16⟩
  | .local _ .vmem, ⟨6, _⟩ => ⟨S1024x1536, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnUpDwRefIdeal.lean ====
abbrev S8192x1024 : Shape := ⟨2, ![8192, 1024]⟩
abbrev S8192x6144 : Shape := ⟨2, ![8192, 6144]⟩
abbrev S_ : Shape := ⟨0, ![]⟩
abbrev S1024x6144 : Shape := ⟨2, ![1024, 6144]⟩
abbrev S6144x1024 : Shape := ⟨2, ![6144, 1024]⟩
abbrev S1024x4x1536 : Shape := ⟨3, ![1024, 4, 1536]⟩
abbrev S4x1024x1536 : Shape := ⟨3, ![4, 1024, 1536]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x6144, .f32⟩
  | .hbm, ⟨2, _⟩ => ⟨S_, .f32⟩
  | .hbm, ⟨3, _⟩ => ⟨S1024x6144, .f32⟩
  | .hbm, ⟨4, _⟩ => ⟨S8192x6144, .f32⟩
  | .hbm, ⟨5, _⟩ => ⟨S6144x1024, .f32⟩
  | .hbm, ⟨6, _⟩ => ⟨S1024x6144, .f32⟩
  | .hbm, ⟨7, _⟩ => ⟨S1024x4x1536, .f32⟩
  | .hbm, ⟨8, _⟩ => ⟨S4x1024x1536, .f32⟩
  | .hbm, ⟨9, _⟩ => ⟨S4x1024x1536, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== LruIn.lean ====
abbrev S8192x1024 : Shape := ⟨2, ![8192, 1024]⟩
abbrev S1x1024x2048 : Shape := ⟨3, ![1, 1024, 2048]⟩
abbrev S2048 : Shape := ⟨1, ![2048]⟩
abbrev S1x1024x4x512 : Shape := ⟨4, ![1, 1024, 4, 512]⟩
abbrev S4x1x1024x512 : Shape := ⟨4, ![4, 1, 1024, 512]⟩
abbrev S1x2048 : Shape := ⟨2, ![1, 2048]⟩
abbrev S8192x2048 : Shape := ⟨2, ![8192, 2048]⟩
abbrev S1024x1024 : Shape := ⟨2, ![1024, 1024]⟩
abbrev S1x1x1024x512 : Shape := ⟨4, ![1, 1, 1024, 512]⟩
abbrev S1x512 : Shape := ⟨2, ![1, 512]⟩
abbrev S1024x512 : Shape := ⟨2, ![1024, 512]⟩

abbrev nBuf : Space → Nat
  | .hbm => 9
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x1024x2048, .f32⟩
  | .hbm, ⟨2, _⟩ => ⟨S2048, .f32⟩
  | .hbm, ⟨3, _⟩ => ⟨S8192x1024, .bf16⟩
  | .hbm, ⟨4, _⟩ => ⟨S1x1024x4x512, .f32⟩
  | .hbm, ⟨5, _⟩ => ⟨S4x1x1024x512, .f32⟩
  | .hbm, ⟨6, _⟩ => ⟨S4x1x1024x512, .bf16⟩
  | .hbm, ⟨7, _⟩ => ⟨S1x2048, .f32⟩
  | .hbm, ⟨8, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1x1024x512, .bf16⟩
  | .local _ .vmem, ⟨3, _⟩ => ⟨S1x1x1024x512, .bf16⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== LruInRefIdeal.lean ====
abbrev S8192x1024 : Shape := ⟨2, ![8192, 1024]⟩
abbrev S1x1024x2048 : Shape := ⟨3, ![1, 1024, 2048]⟩
abbrev S2048 : Shape := ⟨1, ![2048]⟩
abbrev S1024x2048 : Shape := ⟨2, ![1024, 2048]⟩
abbrev S8192x2048 : Shape := ⟨2, ![8192, 2048]⟩
abbrev S1x2048 : Shape := ⟨2, ![1, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024x2048, .f32⟩
  | .hbm, ⟨2, _⟩ => ⟨S2048, .f32⟩
  | .hbm, ⟨3, _⟩ => ⟨S1024x2048, .f32⟩
  | .hbm, ⟨4, _⟩ => ⟨S8192x2048, .f32⟩
  | .hbm, ⟨5, _⟩ => ⟨S1x2048, .f32⟩
  | .hbm, ⟨6, _⟩ => ⟨S8192x2048, .f32⟩
  | .hbm, ⟨7, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== LruInDx.lean ====
abbrev S1x1024x2048 : Shape := ⟨3, ![1, 1024, 2048]⟩
abbrev S8192x2048 : Shape := ⟨2, ![8192, 2048]⟩
abbrev S1x1024x4x512 : Shape := ⟨4, ![1, 1024, 4, 512]⟩
abbrev S4x1x1024x512 : Shape := ⟨4, ![4, 1, 1024, 512]⟩
abbrev S8192x1024 : Shape := ⟨2, ![8192, 1024]⟩
abbrev S1024x512 : Shape := ⟨2, ![1024, 512]⟩
abbrev S1x1x1024x512 : Shape := ⟨4, ![1, 1, 1024, 512]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024x2048, .f32⟩
  | .hbm, ⟨1, _⟩ => ⟨S8192x2048, .f32⟩
  | .hbm, ⟨2, _⟩ => ⟨S8192x2048, .bf16⟩
  | .hbm, ⟨3, _⟩ => ⟨S1x1024x4x512, .f32⟩
  | .hbm, ⟨4, _⟩ => ⟨S4x1x1024x512, .f32⟩
  | .hbm, ⟨5, _⟩ => ⟨S4x1x1024x512, .bf16⟩
  | .hbm, ⟨6, _⟩ => ⟨S8192x1024, .f32⟩
  | .local _ .vmem, ⟨0, _⟩ => ⟨S1024x512, .bf16⟩
  | .local _ .vmem, ⟨1, _⟩ => ⟨S1024x512, .bf16⟩
  | .local _ .vmem, ⟨2, _⟩ => ⟨S1x1x1024x512, .bf16⟩
  | .local _ .vmem, ⟨3, _⟩ => ⟨S1x1x1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S1x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32_8 : BitVec 32 := 3#32
  let v13 : BitVec 1 := Scalar.cmpi .eq arg2 c3_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LruInDxRefIdeal.lean ====
abbrev S1x1024x2048 : Shape := ⟨3, ![1, 1024, 2048]⟩
abbrev S8192x2048 : Shape := ⟨2, ![8192, 2048]⟩
abbrev S_ : Shape := ⟨0, ![]⟩
abbrev S8192x1024 : Shape := ⟨2, ![8192, 1024]⟩
abbrev S1024x2048 : Shape := ⟨2, ![1024, 2048]⟩

abbrev nBuf : Space → Nat
  | .hbm => 7
  | .vmem => 0
  | .smem => 0
  | _ => 0

abbrev bufTy : (tb : Table) → Fin (tcTables nBuf tb) → BufTy
  | .hbm, ⟨0, _⟩ => ⟨S1x1024x2048, .f32⟩
  | .hbm, ⟨1, _⟩ => ⟨S8192x2048, .f32⟩
  | .hbm, ⟨2, _⟩ => ⟨S_, .f32⟩
  | .hbm, ⟨3, _⟩ => ⟨S8192x1024, .f32⟩
  | .hbm, ⟨4, _⟩ => ⟨S1024x2048, .f32⟩
  | .hbm, ⟨5, _⟩ => ⟨S8192x2048, .f32⟩
  | .hbm, ⟨6, _⟩ => ⟨S8192x1024, .f32⟩
  | _, _ => ⟨S1x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== LruInDw.lean ====
abbrev S8192x1024 : Shape := ⟨2, ![8192, 1024]⟩
abbrev S8192x2048 : Shape := ⟨2, ![8192, 2048]⟩
abbrev S4x1024x512 : Shape := ⟨3, ![4, 1024, 512]⟩
abbrev S2048x1024 : Shape := ⟨2, ![2048, 1024]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x1024, .bf16⟩
  | .hbm, ⟨3, _⟩ => ⟨S8192x2048, .bf16⟩
  | .hbm, ⟨4, _⟩ => ⟨S4x1024x512, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LruInDwRefIdeal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩
abbrev S1024x4x512 : Shape := ⟨3, ![1024, 4, 512]⟩
abbrev S4x1024x512 : Shape := ⟨3, ![4, 1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S_, .f32⟩
  | .hbm, ⟨3, _⟩ => ⟨S1024x2048, .f32⟩
  | .hbm, ⟨4, _⟩ => ⟨S8192x2048, .f32⟩
  | .hbm, ⟨5, _⟩ => ⟨S2048x1024, .f32⟩
  | .hbm, ⟨6, _⟩ => ⟨S1024x2048, .f32⟩
  | .hbm, ⟨7, _⟩ => ⟨S1024x4x512, .f32⟩
  | .hbm, ⟨8, _⟩ => ⟨S4x1024x512, .f32⟩
  | .hbm, ⟨9, _⟩ => ⟨S4x1024x512, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== LruOut.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024, .f32⟩
  | .hbm, ⟨3, _⟩ => ⟨S8192x1024, .f32⟩
  | .hbm, ⟨4, _⟩ => ⟨S8192x1024, .bf16⟩
  | .hbm, ⟨5, _⟩ => ⟨S1024x1024, .bf16⟩
  | .hbm, ⟨6, _⟩ => ⟨S1x1024, .f32⟩
  | .hbm, ⟨7, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== LruOutRefIdeal.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024, .f32⟩
  | .hbm, ⟨3, _⟩ => ⟨S8192x1024, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== LruOutDx.lean ====
abbrev S1024x1024 : Shape := ⟨2, ![1024, 1024]⟩
abbrev S8192x1024 : Shape := ⟨2, ![8192, 1024]⟩

abbrev nBuf : Space → Nat
  | .hbm => 5
  | .vmem => 5
  | .smem => 0
  | _ => 0

abbrev bufTy : (tb : Table) → Fin (tcTables nBuf tb) → BufTy
  | .hbm, ⟨0, _⟩ => ⟨S1024x1024, .f32⟩
  | .hbm, ⟨1, _⟩ => ⟨S8192x1024, .f32⟩
  | .hbm, ⟨2, _⟩ => ⟨S8192x1024, .bf16⟩
  | .hbm, ⟨3, _⟩ => ⟨S1024x1024, .bf16⟩
  | .hbm, ⟨4, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LruOutDxRefIdeal.lean ====
abbrev S1024x1024 : Shape := ⟨2, ![1024, 1024]⟩
abbrev S8192x1024 : Shape := ⟨2, ![8192, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S8192x1024, .f32⟩
  | .hbm, ⟨2, _⟩ => ⟨S_, .f32⟩
  | .hbm, ⟨3, _⟩ => ⟨S8192x1024, .f32⟩
  | .hbm, ⟨4, _⟩ => ⟨S8192x1024, .f32⟩
  | .hbm, ⟨5, _⟩ => ⟨S8192x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== LruOutDw.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== LruOutDwRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== RwkvR.lean ====
abbrev S8192x1024 : Shape := ⟨2, ![8192, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .bf16⟩
  | .hbm, ⟨3, _⟩ => ⟨S1024x1024, .bf16⟩
  | .hbm, ⟨4, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RwkvRRefIdeal.lean ====
abbrev S8192x1024 : Shape := ⟨2, ![8192, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== RwkvOut.lean ====
abbrev S8192x1024 : Shape := ⟨2, ![8192, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S1024x1024, .bf16⟩
  | .hbm, ⟨5, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RwkvOutRefIdeal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== NormBwd.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormBwdRefIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== FfnAct.lean ====
abbrev S8192x6144 : Shape := ⟨2, ![8192, 6144]⟩
abbrev S3x3072 : Shape := ⟨2, ![3, 3072]⟩
abbrev S3072 : Shape := ⟨1, ![3072]⟩
abbrev S1x3072 : Shape := ⟨2, ![1, 3072]⟩
abbrev S8192x3072 : Shape := ⟨2, ![8192, 3072]⟩
abbrev S256x6144 : Shape := ⟨2, ![256, 6144]⟩
abbrev S16x6144 : Shape := ⟨2, ![16, 6144]⟩
abbrev S256x3072 : Shape := ⟨2, ![256, 3072]⟩
abbrev S16x3072 : Shape := ⟨2, ![16, 3072]⟩
abbrev S272x3072 : Shape := ⟨2, ![272, 3072]⟩

abbrev nBuf : Space → Nat
  | .hbm => 6
  | .vmem => 8
  | .smem => 0
  | _ => 0

abbrev bufTy : (tb : Table) → Fin (tcTables nBuf tb) → BufTy
  | .hbm, ⟨0, _⟩ => ⟨S8192x6144, .f32⟩
  | .hbm, ⟨1, _⟩ => ⟨S3x3072, .f32⟩
  | .hbm, ⟨2, _⟩ => ⟨S3072, .f32⟩
  | .hbm, ⟨3, _⟩ => ⟨S8192x6144, .bf16⟩
  | .hbm, ⟨4, _⟩ => ⟨S1x3072, .f32⟩
  | .hbm, ⟨5, _⟩ => ⟨S8192x3072, .bf16⟩
  | .local _ .vmem, ⟨0, _⟩ => ⟨S256x6144, .bf16⟩
  | .local _ .vmem, ⟨1, _⟩ => ⟨S256x6144, .bf16⟩
  | .local _ .vmem, ⟨2, _⟩ => ⟨S16x6144, .bf16⟩
  | .local _ .vmem, ⟨3, _⟩ => ⟨S16x6144, .bf16⟩
  | .local _ .vmem, ⟨4, _⟩ => ⟨S3x3072, .f32⟩
  | .local _ .vmem, ⟨5, _⟩ => ⟨S1x3072, .f32⟩
  | .local _ .vmem, ⟨6, _⟩ => ⟨S256x3072, .bf16⟩
  | .local _ .vmem, ⟨7, _⟩ => ⟨S256x3072, .bf16⟩
  | _, _ => ⟨S8192x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x6144 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FfnActRefIdeal.lean ====
abbrev S8192x6144 : Shape := ⟨2, ![8192, 6144]⟩
abbrev S3x3072 : Shape := ⟨2, ![3, 3072]⟩
abbrev S3072 : Shape := ⟨1, ![3072]⟩
abbrev S4x2048x6144 : Shape := ⟨3, ![4, 2048, 6144]⟩
abbrev S4x2048x3072 : Shape := ⟨3, ![4, 2048, 3072]⟩
abbrev S_ : Shape := ⟨0, ![]⟩
abbrev S4x2x3072 : Shape := ⟨3, ![4, 2, 3072]⟩
abbrev S4x2050x3072 : Shape := ⟨3, ![4, 2050, 3072]⟩
abbrev S1x3072 : Shape := ⟨2, ![1, 3072]⟩
abbrev S1x1x3072 : Shape := ⟨3, ![1, 1, 3072]⟩
abbrev S8192x3072 : Shape := ⟨2, ![8192, 3072]⟩

abbrev nBuf : Space → Nat
  | .hbm => 52
  | .vmem => 0
  | .smem => 0
  | _ => 0

abbrev bufTy : (tb : Table) → Fin (tcTables nBuf tb) → BufTy
  | .hbm, ⟨0, _⟩ => ⟨S8192x6144, .f32⟩
  | .hbm, ⟨1, _⟩ => ⟨S3x3072, .f32⟩
  | .hbm, ⟨2, _⟩ => ⟨S3072, .f32⟩
  | .hbm, ⟨3, _⟩ => ⟨S4x2048x6144, .f32⟩
  | .hbm, ⟨4, _⟩ => ⟨S4x2048x3072, .f32⟩
  | .hbm, ⟨5, _⟩ => ⟨S_, .f32⟩
  | .hbm, ⟨6, _⟩ => ⟨S4x2x3072, .f32⟩
  | .hbm, ⟨7, _⟩ => ⟨S4x2050x3072, .f32⟩
  | .hbm, ⟨8, _⟩ => ⟨S4x2048x3072, .f32⟩
  | .hbm, ⟨9, _⟩ => ⟨S1x3072, .f32⟩
  | .hbm, ⟨10, _⟩ => ⟨S3072, .f32⟩
  | .hbm, ⟨11, _⟩ => ⟨S1x1x3072, .f32⟩
  | .hbm, ⟨12, _⟩ => ⟨S4x2048x3072, .f32⟩
  | .hbm, ⟨13, _⟩ => ⟨S4x2048x3072, .f32⟩
  | .hbm, ⟨14, _⟩ => ⟨S1x1x3072, .f32⟩
  | .hbm, ⟨15, _⟩ => ⟨S4x2048x3072, .f32⟩
  | .hbm, ⟨16, _⟩ => ⟨S4x2048x3072, .f32⟩
  | .hbm, ⟨17, _⟩ => ⟨S4x2048x3072, .f32⟩
  | .hbm, ⟨18, _⟩ => ⟨S1x3072, .f32⟩
  | .hbm, ⟨19, _⟩ => ⟨S3072, .f32⟩
  | .hbm, ⟨20, _⟩ => ⟨S1x1x3072, .f32⟩
  | .hbm, ⟨21, _⟩ => ⟨S4x2048x3072, .f32⟩
  | .hbm, ⟨22, _⟩ => ⟨S4x2048x3072, .f32⟩
  | .hbm, ⟨23, _⟩ => ⟨S4x2048x3072, .f32⟩
  | .hbm, ⟨24, _⟩ => ⟨S4x2048x3072, .f32⟩
  | .hbm, ⟨25, _⟩ => ⟨S1x3072, .f32⟩
  | .hbm, ⟨26, _⟩ => ⟨S3072, .f32⟩
  | .hbm, ⟨27, _⟩ => ⟨S1x1x3072, .f32⟩
  | .hbm, ⟨28, _⟩ => ⟨S4x2048x3072, .f32⟩
  | .hbm, ⟨29, _⟩ => ⟨S4x2048x3072, .f32⟩
  | .hbm, ⟨30, _⟩ => ⟨S4x2048x3072, .f32⟩
  | .hbm, ⟨31, _⟩ => ⟨S4x2048x3072, .f32⟩
  | .hbm, ⟨32, _⟩ => ⟨S4x2048x3072, .f32⟩
  | .hbm, ⟨33, _⟩ => ⟨S_, .f32⟩
  | .hbm, ⟨34, _⟩ => ⟨S4x2048x3072, .f32⟩
  | .hbm, ⟨35, _⟩ => ⟨S4x2048x3072, .f32⟩
  | .hbm, ⟨36, _⟩ => ⟨S4x2048x3072, .f32⟩
  | .hbm, ⟨37, _⟩ => ⟨S_, .f32⟩
  | .hbm, ⟨38, _⟩ => ⟨S4x2048x3072, .f32⟩
  | .hbm, ⟨39, _⟩ => ⟨S4x2048x3072, .f32⟩
  | .hbm, ⟨40, _⟩ => ⟨S4x2048x3072, .f32⟩
  | .hbm, ⟨41, _⟩ => ⟨S_, .f32⟩
  | .hbm, ⟨42, _⟩ => ⟨S4x2048x3072, .f32⟩
  | .hbm, ⟨43, _⟩ => ⟨S4x2048x3072, .f32⟩
  | .hbm, ⟨44, _⟩ => ⟨S_, .f32⟩
  | .hbm, ⟨45, _⟩ => ⟨S4x2048x3072, .f32⟩
  | .hbm, ⟨46, _⟩ => ⟨S4x2048x3072, .f32⟩
  | .hbm, ⟨47, _⟩ => ⟨S4x2048x3072, .f32⟩
  | .hbm, ⟨48, _⟩ => ⟨S4x2048x3072, .f32⟩
  | .hbm, ⟨49, _⟩ => ⟨S4x2048x3072, .f32⟩
  | .hbm, ⟨50, _⟩ => ⟨S8192x3072, .f32⟩
  | .hbm, ⟨51, _⟩ => ⟨S8192x3072, .bf16⟩
  | _, _ => ⟨S8192x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_cst_0 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_cst_1 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_2 : Ref sig .tc := ⟨.hbm, 41, rfl⟩
abbrev main_v35 : Ref sig .tc := ⟨.hbm, 42, rfl⟩
abbrev main_v36 : Ref sig .tc := ⟨.hbm, 43, rfl⟩
abbrev main_cst_3 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩

abbrev nD : Nat := 1
abbrev τ : Topo := Topo.v7x

variable {F : FTy → Type} [FloatOps F]
-- ==== FfnActBwd.lean ====
abbrev S8192x6144 : Shape := ⟨2, ![8192, 6144]⟩
abbrev S8192x3072 : Shape := ⟨2, ![8192, 3072]⟩
abbrev S3x3072 : Shape := ⟨2, ![3, 3072]⟩
abbrev S3072 : Shape := ⟨1, ![3072]⟩
abbrev S1x3072 : Shape := ⟨2, ![1, 3072]⟩
abbrev S8x3072 : Shape := ⟨2, ![8, 3072]⟩
abbrev S256x6144 : Shape := ⟨2, ![256, 6144]⟩
abbrev S256x3072 : Shape := ⟨2, ![256, 3072]⟩
abbrev S16x6144 : Shape := ⟨2, ![16, 6144]⟩
abbrev S16x3072 : Shape := ⟨2, ![16, 3072]⟩
abbrev S272x3072 : Shape := ⟨2, ![272, 3072]⟩
abbrev S288x3072 : Shape := ⟨2, ![288, 3072]⟩
abbrev S5x3072 : Shape := ⟨2, ![5, 3072]⟩

abbrev nBuf : Space → Nat
  | .hbm => 10
  | .vmem => 16
  | .smem => 0
  | _ => 0

abbrev bufTy : (tb : Table) → Fin (tcTables nBuf tb) → BufTy
  | .hbm, ⟨0, _⟩ => ⟨S8192x6144, .f32⟩
  | .hbm, ⟨1, _⟩ => ⟨S8192x3072, .f32⟩
  | .hbm, ⟨2, _⟩ => ⟨S3x3072, .f32⟩
  | .hbm, ⟨3, _⟩ => ⟨S3072, .f32⟩
  | .hbm, ⟨4, _⟩ => ⟨S8192x6144, .bf16⟩
  | .hbm, ⟨5, _⟩ => ⟨S8192x3072, .bf16⟩
  | .hbm, ⟨6, _⟩ => ⟨S1x3072, .f32⟩
  | .hbm, ⟨7, _⟩ => ⟨S8192x6144, .bf16⟩
  | .hbm, ⟨8, _⟩ => ⟨S8x3072, .f32⟩
  | .hbm, ⟨9, _⟩ => ⟨S1x3072, .f32⟩
  | .local _ .vmem, ⟨0, _⟩ => ⟨S256x6144, .bf16⟩
  | .local _ .vmem, ⟨1, _⟩ => ⟨S256x6144, .bf16⟩
  | .local _ .vmem, ⟨2, _⟩ => ⟨S256x3072, .bf16⟩
  | .local _ .vmem, ⟨3, _⟩ => ⟨S256x3072, .bf16⟩
  | .local _ .vmem, ⟨4, _⟩ => ⟨S16x6144, .bf16⟩
  | .local _ .vmem, ⟨5, _⟩ => ⟨S16x6144, .bf16⟩
  | .local _ .vmem, ⟨6, _⟩ => ⟨S16x6144, .bf16⟩
  | .local _ .vmem, ⟨7, _⟩ => ⟨S16x6144, .bf16⟩
  | .local _ .vmem, ⟨8, _⟩ => ⟨S16x3072, .bf16⟩
  | .local _ .vmem, ⟨9, _⟩ => ⟨S16x3072, .bf16⟩
  | .local _ .vmem, ⟨10, _⟩ => ⟨S3x3072, .f32⟩
  | .local _ .vmem, ⟨11, _⟩ => ⟨S1x3072, .f32⟩
  | .local _ .vmem, ⟨12, _⟩ => ⟨S256x6144, .bf16⟩
  | .local _ .vmem, ⟨13, _⟩ => ⟨S256x6144, .bf16⟩
  | .local _ .vmem, ⟨14, _⟩ => ⟨S8x3072, .f32⟩
  | .local _ .vmem, ⟨15, _⟩ => ⟨S1x3072, .f32⟩
  | _, _ => ⟨S8192x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x6144 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x6144 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x6144 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x3072 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x3072 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== FfnActBwdRefIdeal.lean ====
abbrev S8192x6144 : Shape := ⟨2, ![8192, 6144]⟩
abbrev S8192x3072 : Shape := ⟨2, ![8192, 3072]⟩
abbrev S3x3072 : Shape := ⟨2, ![3, 3072]⟩
abbrev S3072 : Shape := ⟨1, ![3072]⟩
abbrev S4x2048x6144 : Shape := ⟨3, ![4, 2048, 6144]⟩
abbrev S4x2048x3072 : Shape := ⟨3, ![4, 2048, 3072]⟩
abbrev S_ : Shape := ⟨0, ![]⟩
abbrev S4x2x3072 : Shape := ⟨3, ![4, 2, 3072]⟩
abbrev S4x2050x3072 : Shape := ⟨3, ![4, 2050, 3072]⟩
abbrev S1x3072 : Shape := ⟨2, ![1, 3072]⟩
abbrev S1x1x3072 : Shape := ⟨3, ![1, 1, 3072]⟩
abbrev S5x3072 : Shape := ⟨2, ![5, 3072]⟩
abbrev S8x3072 : Shape := ⟨2, ![8, 3072]⟩

abbrev nBuf : Space → Nat
  | .hbm => 144
  | .vmem => 0
  | .smem => 0
  | _ => 0

abbrev hbmTy0_0 (i : Nat) : BufTy := match i % 128 with
  | 0 => ⟨S8192x6144, .f32⟩
  | 1 => ⟨S8192x3072, .f32⟩
  | 2 => ⟨S3x3072, .f32⟩
  | 3 => ⟨S3072, .f32⟩
  | 4 => ⟨S4x2048x6144, .f32⟩
  | 5 => ⟨S4x2048x3072, .f32⟩
  | 6 => ⟨S_, .f32⟩
  | 7 => ⟨S4x2x3072, .f32⟩
  | 8 => ⟨S4x2050x3072, .f32⟩
  | 9 => ⟨S_, .f32⟩
  | 10 => ⟨S4x2x3072, .f32⟩
  | 11 => ⟨S4x2048x3072, .f32⟩
  | 12 => ⟨S1x3072, .f32⟩
  | 13 => ⟨S3072, .f32⟩
  | 14 => ⟨S1x1x3072, .f32⟩
  | 15 => ⟨S4x2048x3072, .f32⟩
  | 16 => ⟨S4x2048x3072, .f32⟩
  | 17 => ⟨S1x1x3072, .f32⟩
  | 18 => ⟨S4x2048x3072, .f32⟩
  | 19 => ⟨S4x2048x3072, .f32⟩
  | 20 => ⟨S4x2048x3072, .f32⟩
  | 21 => ⟨S1x3072, .f32⟩
  | 22 => ⟨S3072, .f32⟩
  | 23 => ⟨S1x1x3072, .f32⟩
  | 24 => ⟨S4x2048x3072, .f32⟩
  | 25 => ⟨S4x2048x3072, .f32⟩
  | 26 => ⟨S4x2048x3072, .f32⟩
  | 27 => ⟨S4x2048x3072, .f32⟩
  | 28 => ⟨S1x3072, .f32⟩
  | 29 => ⟨S3072, .f32⟩
  | 30 => ⟨S1x1x3072, .f32⟩
  | 31 => ⟨S4x2048x3072, .f32⟩
  | 32 => ⟨S4x2048x3072, .f32⟩
  | 33 => ⟨S4x2048x3072, .f32⟩
  | 34 => ⟨S4x2048x3072, .f32⟩
  | 35 => ⟨S4x2048x3072, .f32⟩
  | 36 => ⟨S4x2048x3072, .f32⟩
  | 37 => ⟨S_, .f32⟩
  | 38 => ⟨S4x2048x3072, .f32⟩
  | 39 => ⟨S4x2048x3072, .f32⟩
  | 40 => ⟨S_, .f32⟩
  | 41 => ⟨S4x2048x3072, .f32⟩
  | 42 => ⟨S4x2048x3072, .f32⟩
  | 43 => ⟨S4x2048x3072, .f32⟩
  | 44 => ⟨S_, .f32⟩
  | 45 => ⟨S4x2048x3072, .f32⟩
  | 46 => ⟨S4x2048x3072, .f32⟩
  | 47 => ⟨S4x2048x3072, .f32⟩
  | 48 => ⟨S_, .f32⟩
  | 49 => ⟨S4x2048x3072, .f32⟩
  | 50 => ⟨S4x2048x3072, .f32⟩
  | 51 => ⟨S_, .f32⟩
  | 52 => ⟨S4x2048x3072, .f32⟩
  | 53 => ⟨S4x2048x3072, .f32⟩
  | 54 => ⟨S4x2048x3072, .f32⟩
  | 55 => ⟨S_, .f32⟩
  | 56 => ⟨S4x2048x3072, .f32⟩
  | 57 => ⟨S4x2048x3072, .f32⟩
  | 58 => ⟨S_, .f32⟩
  | 59 => ⟨S4x2048x3072, .f32⟩
  | 60 => ⟨S4x2048x3072, .f32⟩
  | 61 => ⟨S4x2048x3072, .f32⟩
  | 62 => ⟨S4x2048x3072, .f32⟩
  | 63 => ⟨S4x2048x3072, .f32⟩
  | 64 => ⟨S8192x3072, .f32⟩
  | 65 => ⟨S4x2048x3072, .f32⟩
  | 66 => ⟨S4x2048x3072, .f32⟩
  | 67 => ⟨S4x2048x3072, .f32⟩
  | 68 => ⟨S_, .f32⟩
  | 69 => ⟨S4x2048x6144, .f32⟩
  | 70 => ⟨S4x2048x3072, .f32⟩
  | 71 => ⟨S4x2048x3072, .f32⟩
  | 72 => ⟨S_, .f32⟩
  | 73 => ⟨S4x2048x3072, .f32⟩
  | 74 => ⟨S4x2048x3072, .f32⟩
  | 75 => ⟨S4x2048x3072, .f32⟩
  | 76 => ⟨S_, .f32⟩
  | 77 => ⟨S4x2048x3072, .f32⟩
  | 78 => ⟨S4x2048x3072, .f32⟩
  | 79 => ⟨S4x2048x3072, .f32⟩
  | 80 => ⟨S_, .f32⟩
  | 81 => ⟨S4x2048x3072, .f32⟩
  | 82 => ⟨S4x2048x3072, .f32⟩
  | 83 => ⟨S4x2048x3072, .f32⟩
  | 84 => ⟨S4x2048x3072, .f32⟩
  | 85 => ⟨S4x2048x3072, .f32⟩
  | 86 => ⟨S_, .f32⟩
  | 87 => ⟨S3072, .f32⟩
  | 88 => ⟨S1x1x3072, .f32⟩
  | 89 => ⟨S4x2048x3072, .f32⟩
  | 90 => ⟨S4x2048x3072, .f32⟩
  | 91 => ⟨S_, .f32⟩
  | 92 => ⟨S3072, .f32⟩
  | 93 => ⟨S1x3072, .f32⟩
  | 94 => ⟨S_, .f32⟩
  | 95 => ⟨S3x3072, .f32⟩
  | 96 => ⟨S_, .f32⟩
  | 97 => ⟨S4x2050x3072, .f32⟩
  | 98 => ⟨S4x2048x3072, .f32⟩
  | 99 => ⟨S_, .f32⟩
  | 100 => ⟨S3072, .f32⟩
  | 101 => ⟨S1x1x3072, .f32⟩
  | 102 => ⟨S4x2048x3072, .f32⟩
  | 103 => ⟨S4x2048x3072, .f32⟩
  | 104 => ⟨S_, .f32⟩
  | 105 => ⟨S3072, .f32⟩
  | 106 => ⟨S1x3072, .f32⟩
  | 107 => ⟨S_, .f32⟩
  | 108 => ⟨S3x3072, .f32⟩
  | 109 => ⟨S3x3072, .f32⟩
  | 110 => ⟨S_, .f32⟩
  | 111 => ⟨S4x2050x3072, .f32⟩
  | 112 => ⟨S4x2050x3072, .f32⟩
  | 113 => ⟨S_, .f32⟩
  | 114 => ⟨S3072, .f32⟩
  | 115 => ⟨S1x1x3072, .f32⟩
  | 116 => ⟨S_, .f32⟩
  | 117 => ⟨S3072, .f32⟩
  | 118 => ⟨S4x2048x3072, .f32⟩
  | 119 => ⟨S_, .f32⟩
  | 120 => ⟨S3072, .f32⟩
  | 121 => ⟨S1x1x3072, .f32⟩
  | 122 => ⟨S4x2048x3072, .f32⟩
  | 123 => ⟨S4x2048x3072, .f32⟩
  | 124 => ⟨S_, .f32⟩
  | 125 => ⟨S3072, .f32⟩
  | 126 => ⟨S1x3072, .f32⟩
  | 127 => ⟨S_, .f32⟩
  | _ => ⟨S8192x6144, .f32⟩

abbrev hbmTy0_1 (i : Nat) : BufTy := match i % 128 with
  | 0 => ⟨S3x3072, .f32⟩
  | 1 => ⟨S3x3072, .f32⟩
  | 2 => ⟨S_, .f32⟩
  | 3 => ⟨S4x2050x3072, .f32⟩
  | 4 => ⟨S4x2050x3072, .f32⟩
  | 5 => ⟨S4x2x3072, .f32⟩
  | 6 => ⟨S4x2048x3072, .f32⟩
  | 7 => ⟨S_, .f32⟩
  | 8 => ⟨S4x2048x6144, .f32⟩
  | 9 => ⟨S4x2048x6144, .f32⟩
  | 10 => ⟨S8192x6144, .f32⟩
  | 11 => ⟨S8192x6144, .bf16⟩
  | 12 => ⟨S_, .f32⟩
  | 13 => ⟨S5x3072, .f32⟩
  | 14 => ⟨S8x3072, .f32⟩
  | 15 => ⟨S1x3072, .f32⟩
  | _ => ⟨S8192x6144, .f32⟩

abbrev hbmTy (i : Nat) : BufTy := match i / 128 with
  | 0 => hbmTy0_0 i
  | 1 => hbmTy0_1 i
  | _ => ⟨S8192x6144, .f32⟩

abbrev bufTy : (tb : Table) → Fin (tcTables nBuf tb) → BufTy
  | .hbm, ⟨i, _⟩ => hbmTy i
  | _, _ => ⟨S8192x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst_1 : Ref sig .tc := ⟨.hbm, 37, rfl⟩
abbrev main_v31 : Ref sig .tc := ⟨.hbm, 38, rfl⟩
abbrev main_v32 : Ref sig .tc := ⟨.hbm, 39, rfl⟩
abbrev main_cst_2 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_3 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_4 : Ref sig .tc := ⟨.hbm, 48, rfl⟩
abbrev main_v39 : Ref sig .tc := ⟨.hbm, 49, rfl⟩
abbrev main_v40 : Ref sig .tc := ⟨.hbm, 50, rfl⟩
abbrev main_cst_5 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_6 : Ref sig .tc := ⟨.hbm, 55, rfl⟩
abbrev main_v44 : Ref sig .tc := ⟨.hbm, 56, rfl⟩
abbrev main_v45 : Ref sig .tc := ⟨.hbm, 57, rfl⟩
abbrev main_cst_7 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_8 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_9 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_10 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst_11 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_cst_12 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_cst_13 : Ref sig .tc := ⟨.hbm, 91, rfl⟩
abbrev main_v73 : Ref sig .tc := ⟨.hbm, 92, rfl⟩
abbrev main_v74 : Ref sig .tc := ⟨.hbm, 93, rfl⟩
abbrev main_cst_14 : Ref sig .tc := ⟨.hbm, 94, rfl⟩
abbrev main_v75 : Ref sig .tc := ⟨.hbm, 95, rfl⟩
abbrev main_cst_15 : Ref sig .tc := ⟨.hbm, 96, rfl⟩
abbrev main_v76 : Ref sig .tc := ⟨.hbm, 97, rfl⟩
abbrev main_v77 : Ref sig .tc := ⟨.hbm, 98, rfl⟩
abbrev main_cst_16 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_cst_17 : Ref sig .tc := ⟨.hbm, 104, rfl⟩
abbrev main_v82 : Ref sig .tc := ⟨.hbm, 105, rfl⟩
abbrev main_v83 : Ref sig .tc := ⟨.hbm, 106, rfl⟩
abbrev main_cst_18 : Ref sig .tc := ⟨.hbm, 107, rfl⟩
abbrev main_v84 : Ref sig .tc := ⟨.hbm, 108, rfl⟩
abbrev main_v85 : Ref sig .tc := ⟨.hbm, 109, rfl⟩
abbrev main_cst_19 : Ref sig .tc := ⟨.hbm, 110, rfl⟩
abbrev main_v86 : Ref sig .tc := ⟨.hbm, 111, rfl⟩
abbrev main_v87 : Ref sig .tc := ⟨.hbm, 112, rfl⟩
abbrev main_cst_20 : Ref sig .tc := ⟨.hbm, 113, rfl⟩
abbrev main_v88 : Ref sig .tc := ⟨.hbm, 114, rfl⟩
abbrev main_v89 : Ref sig .tc := ⟨.hbm, 115, rfl⟩
abbrev main_cst_21 : Ref sig .tc := ⟨.hbm, 116, rfl⟩
abbrev main_v90 : Ref sig .tc := ⟨.hbm, 117, rfl⟩
abbrev main_v91 : Ref sig .tc := ⟨.hbm, 118, rfl⟩
abbrev main_cst_22 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_cst_23 : Ref sig .tc := ⟨.hbm, 124, rfl⟩
abbrev main_v96 : Ref sig .tc := ⟨.hbm, 125, rfl⟩
abbrev main_v97 : Ref sig .tc := ⟨.hbm, 126, rfl⟩
abbrev main_cst_24 : Ref sig .tc := ⟨.hbm, 127, rfl⟩
abbrev main_v98 : Ref sig .tc := ⟨.hbm, 128, rfl⟩
abbrev main_v99 : Ref sig .tc := ⟨.hbm, 129, rfl⟩
abbrev main_cst_25 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_cst_26 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_cst_27 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩

abbrev nD : Nat := 1
abbrev τ : Topo := Topo.v7x

variable {F : FTy → Type} [FloatOps F]
-- ==== LruMixBwd.lean ====
abbrev S8192x1024 : Shape := ⟨2, ![8192, 1024]⟩
abbrev S8192x2048 : Shape := ⟨2, ![8192, 2048]⟩
abbrev S1x1024 : Shape := ⟨2, ![1, 1024]⟩
abbrev S512x1024 : Shape := ⟨2, ![512, 1024]⟩
abbrev S512x2048 : Shape := ⟨2, ![512, 2048]⟩
abbrev S1024 : Shape := ⟨1, ![1024]⟩

abbrev nBuf : Space → Nat
  | .hbm => 7
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x2048, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x2048, .f32⟩
  | .local _ .vmem, ⟨5, _⟩ => ⟨S512x2048, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LruMixBwdRefIdeal.lean ====
abbrev S8192x1024 : Shape := ⟨2, ![8192, 1024]⟩
abbrev S8192x2048 : Shape := ⟨2, ![8192, 2048]⟩
abbrev S_ : Shape := ⟨0, ![]⟩
abbrev S1024 : Shape := ⟨1, ![1024]⟩
abbrev S1x1024 : Shape := ⟨2, ![1, 1024]⟩

abbrev nBuf : Space → Nat
  | .hbm => 64
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x2048, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S1024, .f32⟩
  | .hbm, ⟨53, _⟩ => ⟨S_, .f32⟩
  | .hbm, ⟨54, _⟩ => ⟨S8192x1024, .f32⟩
  | .hbm, ⟨55, _⟩ => ⟨S1x1024, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S_, .f32⟩
  | .hbm, ⟨62, _⟩ => ⟨S1024, .f32⟩
  | .hbm, ⟨63, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_6 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_9 : Ref sig .tc := ⟨.hbm, 51, rfl⟩
abbrev main_v37 : Ref sig .tc := ⟨.hbm, 52, rfl⟩
abbrev main_cst_10 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_11 : Ref sig .tc := ⟨.hbm, 58, rfl⟩
abbrev main_v42 : Ref sig .tc := ⟨.hbm, 59, rfl⟩
abbrev main_v43 : Ref sig .tc := ⟨.hbm, 60, rfl⟩
abbrev main_cst_12 : Ref sig .tc := ⟨.hbm, 61, rfl⟩
abbrev main_v44 : Ref sig .tc := ⟨.hbm, 62, rfl⟩
abbrev main_v45 : Ref sig .tc := ⟨.hbm, 63, rfl⟩

abbrev nD : Nat := 1
abbrev τ : Topo := Topo.v7x

variable {F : FTy → Type} [FloatOps F]
-- ==== RwkvMixBwd.lean ====
abbrev S8192x1024 : Shape := ⟨2, ![8192, 1024]⟩
abbrev S1024 : Shape := ⟨1, ![1024]⟩
abbrev S6x1024 : Shape := ⟨2, ![6, 1024]⟩
abbrev S1x1024 : Shape := ⟨2, ![1, 1024]⟩
abbrev S_ : Shape := ⟨0, ![]⟩
abbrev S2x1024 : Shape := ⟨2, ![2, 1024]⟩
abbrev S8x1024 : Shape := ⟨2, ![8, 1024]⟩
abbrev S256x1024 : Shape := ⟨2, ![256, 1024]⟩
abbrev S16x1024 : Shape := ⟨2, ![16, 1024]⟩
abbrev S256 : Shape := ⟨1, ![256]⟩
abbrev S256x1 : Shape := ⟨2, ![256, 1]⟩
abbrev S16 : Shape := ⟨1, ![16]⟩
abbrev S16x1 : Shape := ⟨2, ![16, 1]⟩
abbrev S272x1024 : Shape := ⟨2, ![272, 1024]⟩

abbrev nBuf : Space → Nat
  | .hbm => 17
  | .vmem => 36
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S6x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S1x1024, .f32⟩
  | .hbm, ⟨11, _⟩ => ⟨S_, .f32⟩
  | .hbm, ⟨12, _⟩ => ⟨S2x1024, .f32⟩
  | .hbm, ⟨13, _⟩ => ⟨S8x1024, .f32⟩
  | .hbm, ⟨14, _⟩ => ⟨S8192x1024, .f32⟩
  | .hbm, ⟨15, _⟩ => ⟨S1x1024, .f32⟩
  | .hbm, ⟨16, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S16x1024, .f32⟩
  | .local _ .vmem, ⟨17, _⟩ => ⟨S16x1024, .f32⟩
  | .local _ .vmem, ⟨18, _⟩ => ⟨S16x1024, .f32⟩
  | .local _ .vmem, ⟨19, _⟩ => ⟨S16x1024, .f32⟩
  | .local _ .vmem, ⟨20, _⟩ => ⟨S16x1024, .f32⟩
  | .local _ .vmem, ⟨21, _⟩ => ⟨S16x1024, .f32⟩
  | .local _ .vmem, ⟨22, _⟩ => ⟨S16x1024, .f32⟩
  | .local _ .vmem, ⟨23, _⟩ => ⟨S16x1024, .f32⟩
  | .local _ .vmem, ⟨24, _⟩ => ⟨S16x1024, .f32⟩
  | .local _ .vmem, ⟨25, _⟩ => ⟨S16x1024, .f32⟩
  | .local _ .vmem, ⟨26, _⟩ => ⟨S16x1024, .f32⟩
  | .local _ .vmem, ⟨27, _⟩ => ⟨S16x1024, .f32⟩
  | .local _ .vmem, ⟨28, _⟩ => ⟨S16x1024, .f32⟩
  | .local _ .vmem, ⟨29, _⟩ => ⟨S16x1024, .f32⟩
  | .local _ .vmem, ⟨30, _⟩ => ⟨S1x1024, .f32⟩
  | .local _ .vmem, ⟨31, _⟩ => ⟨S8x1024, .f32⟩
  | .local _ .vmem, ⟨32, _⟩ => ⟨S256x1024, .f32⟩
  | .local _ .vmem, ⟨33, _⟩ => ⟨S256x1024, .f32⟩
  | .local _ .vmem, ⟨34, _⟩ => ⟨S1x1024, .f32⟩
  | .local _ .vmem, ⟨35, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3_0 : Ref sig .tc := ⟨.hbm, 14, rfl⟩
abbrev main_v3_1 : Ref sig .tc := ⟨.hbm, 15, rfl⟩
abbrev main_v3_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg16_0 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg19_0 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem16_0 : DmaSem sig := 31
abbrev cc0_sem17_0 : DmaSem sig := 32
abbrev cc0_sem17_1 : DmaSem sig := 33
abbrev cc0_sem18_0 : DmaSem sig := 34
abbrev cc0_sem19_0 : DmaSem sig := 35

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_9 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_10 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_11 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_12 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_13 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_14 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S16x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S16x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S16x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S16x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S16x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S8x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S8x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== RwkvMixBwdRefIdeal.lean ====
abbrev S8192x1024 : Shape := ⟨2, ![8192, 1024]⟩
abbrev S1024 : Shape := ⟨1, ![1024]⟩
abbrev S6x1024 : Shape := ⟨2, ![6, 1024]⟩
abbrev S4x2048x1024 : Shape := ⟨3, ![4, 2048, 1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x1x1024 : Shape := ⟨3, ![4, 1, 1024]⟩
abbrev S4x2047x1024 : Shape := ⟨3, ![4, 2047, 1024]⟩
abbrev S1x1024 : Shape := ⟨2, ![1, 1024]⟩
abbrev S2x1024 : Shape := ⟨2, ![2, 1024]⟩
abbrev S8x1024 : Shape := ⟨2, ![8, 1024]⟩

abbrev nBuf : Space → Nat
  | .hbm => 205
  | .vmem => 0
  | .smem => 0
  | _ => 0

abbrev hbmTy0_0 (i : Nat) : BufTy := match i % 128 with
  | 0 => ⟨S8192x1024, .f32⟩
  | 1 => ⟨S1024, .f32⟩
  | 2 => ⟨S6x1024, .f32⟩
  | 3 => ⟨S8192x1024, .f32⟩
  | 4 => ⟨S8192x1024, .f32⟩
  | 5 => ⟨S8192x1024, .f32⟩
  | 6 => ⟨S8192x1024, .f32⟩
  | 7 => ⟨S8192x1024, .f32⟩
  | 8 => ⟨S8192x1024, .f32⟩
  | 9 => ⟨S8192x1024, .f32⟩
  | 10 => ⟨S4x2048x1024, .f32⟩
  | 11 => ⟨S4x2048x1024, .f32⟩
  | 12 => ⟨S_, .f32⟩
  | 13 => ⟨S4x2048, .f32⟩
  | 14 => ⟨S4x2048x1, .f32⟩
  | 15 => ⟨S_, .f32⟩
  | 16 => ⟨S4x2048x1, .f32⟩
  | 17 => ⟨S4x2048x1, .f32⟩
  | 18 => ⟨S_, .f32⟩
  | 19 => ⟨S4x2048x1, .f32⟩
  | 20 => ⟨S4x2048x1, .f32⟩
  | 21 => ⟨S4x2048x1, .f32⟩
  | 22 => ⟨S4x2048x1, .f32⟩
  | 23 => ⟨S_, .f32⟩
  | 24 => ⟨S4x2048x1, .f32⟩
  | 25 => ⟨S4x2048x1, .f32⟩
  | 26 => ⟨S4x2048x1024, .f32⟩
  | 27 => ⟨S4x2048x1024, .f32⟩
  | 28 => ⟨S1x1x1024, .f32⟩
  | 29 => ⟨S4x2048x1024, .f32⟩
  | 30 => ⟨S4x2048x1024, .f32⟩
  | 31 => ⟨S_, .f32⟩
  | 32 => ⟨S4x1x1024, .f32⟩
  | 33 => ⟨S4x2047x1024, .f32⟩
  | 34 => ⟨S4x2048x1024, .f32⟩
  | 35 => ⟨S_, .f32⟩
  | 36 => ⟨S4x1x1024, .f32⟩
  | 37 => ⟨S4x2048x1024, .f32⟩
  | 38 => ⟨S1x1024, .f32⟩
  | 39 => ⟨S1024, .f32⟩
  | 40 => ⟨S1x1x1024, .f32⟩
  | 41 => ⟨S4x2048x1024, .f32⟩
  | 42 => ⟨S4x2048x1024, .f32⟩
  | 43 => ⟨S4x2048x1024, .f32⟩
  | 44 => ⟨S8192x1024, .f32⟩
  | 45 => ⟨S1x1024, .f32⟩
  | 46 => ⟨S1024, .f32⟩
  | 47 => ⟨S1x1x1024, .f32⟩
  | 48 => ⟨S4x2048x1024, .f32⟩
  | 49 => ⟨S4x2048x1024, .f32⟩
  | 50 => ⟨S4x2048x1024, .f32⟩
  | 51 => ⟨S8192x1024, .f32⟩
  | 52 => ⟨S1x1024, .f32⟩
  | 53 => ⟨S1024, .f32⟩
  | 54 => ⟨S1x1x1024, .f32⟩
  | 55 => ⟨S4x2048x1024, .f32⟩
  | 56 => ⟨S4x2048x1024, .f32⟩
  | 57 => ⟨S4x2048x1024, .f32⟩
  | 58 => ⟨S8192x1024, .f32⟩
  | 59 => ⟨S1x1024, .f32⟩
  | 60 => ⟨S1024, .f32⟩
  | 61 => ⟨S1x1x1024, .f32⟩
  | 62 => ⟨S4x2048x1024, .f32⟩
  | 63 => ⟨S4x2048x1024, .f32⟩
  | 64 => ⟨S4x2048x1024, .f32⟩
  | 65 => ⟨S8192x1024, .f32⟩
  | 66 => ⟨S1x1024, .f32⟩
  | 67 => ⟨S1024, .f32⟩
  | 68 => ⟨S1x1x1024, .f32⟩
  | 69 => ⟨S4x2048x1024, .f32⟩
  | 70 => ⟨S4x2048x1024, .f32⟩
  | 71 => ⟨S4x2048x1024, .f32⟩
  | 72 => ⟨S8192x1024, .f32⟩
  | 73 => ⟨S1x1024, .f32⟩
  | 74 => ⟨S1024, .f32⟩
  | 75 => ⟨S1x1x1024, .f32⟩
  | 76 => ⟨S4x2048x1024, .f32⟩
  | 77 => ⟨S4x2048x1024, .f32⟩
  | 78 => ⟨S4x2048x1024, .f32⟩
  | 79 => ⟨S8192x1024, .f32⟩
  | 80 => ⟨S4x2048x1024, .f32⟩
  | 81 => ⟨S4x2048x1024, .f32⟩
  | 82 => ⟨S_, .f32⟩
  | 83 => ⟨S1024, .f32⟩
  | 84 => ⟨S1x1x1024, .f32⟩
  | 85 => ⟨S4x2048x1024, .f32⟩
  | 86 => ⟨S4x2048x1024, .f32⟩
  | 87 => ⟨S_, .f32⟩
  | 88 => ⟨S1024, .f32⟩
  | 89 => ⟨S1x1024, .f32⟩
  | 90 => ⟨S_, .f32⟩
  | 91 => ⟨S6x1024, .f32⟩
  | 92 => ⟨S4x2048x1024, .f32⟩
  | 93 => ⟨S4x2048x1024, .f32⟩
  | 94 => ⟨S4x2048x1024, .f32⟩
  | 95 => ⟨S_, .f32⟩
  | 96 => ⟨S1024, .f32⟩
  | 97 => ⟨S1x1x1024, .f32⟩
  | 98 => ⟨S4x2048x1024, .f32⟩
  | 99 => ⟨S4x2048x1024, .f32⟩
  | 100 => ⟨S4x2048x1024, .f32⟩
  | 101 => ⟨S_, .f32⟩
  | 102 => ⟨S1024, .f32⟩
  | 103 => ⟨S1x1024, .f32⟩
  | 104 => ⟨S_, .f32⟩
  | 105 => ⟨S6x1024, .f32⟩
  | 106 => ⟨S6x1024, .f32⟩
  | 107 => ⟨S4x2048x1024, .f32⟩
  | 108 => ⟨S4x2048x1024, .f32⟩
  | 109 => ⟨S4x2048x1024, .f32⟩
  | 110 => ⟨S_, .f32⟩
  | 111 => ⟨S1024, .f32⟩
  | 112 => ⟨S1x1x1024, .f32⟩
  | 113 => ⟨S4x2048x1024, .f32⟩
  | 114 => ⟨S4x2048x1024, .f32⟩
  | 115 => ⟨S4x2048x1024, .f32⟩
  | 116 => ⟨S_, .f32⟩
  | 117 => ⟨S1024, .f32⟩
  | 118 => ⟨S1x1024, .f32⟩
  | 119 => ⟨S_, .f32⟩
  | 120 => ⟨S6x1024, .f32⟩
  | 121 => ⟨S6x1024, .f32⟩
  | 122 => ⟨S4x2048x1024, .f32⟩
  | 123 => ⟨S4x2048x1024, .f32⟩
  | 124 => ⟨S4x2048x1024, .f32⟩
  | 125 => ⟨S_, .f32⟩
  | 126 => ⟨S1024, .f32⟩
  | 127 => ⟨S1x1x1024, .f32⟩
  | _ => ⟨S8192x1024, .f32⟩

abbrev hbmTy0_1 (i : Nat) : BufTy := match i % 128 with
  | 0 => ⟨S4x2048x1024, .f32⟩
  | 1 => ⟨S4x2048x1024, .f32⟩
  | 2 => ⟨S4x2048x1024, .f32⟩
  | 3 => ⟨S_, .f32⟩
  | 4 => ⟨S1024, .f32⟩
  | 5 => ⟨S1x1024, .f32⟩
  | 6 => ⟨S_, .f32⟩
  | 7 => ⟨S6x1024, .f32⟩
  | 8 => ⟨S6x1024, .f32⟩
  | 9 => ⟨S4x2048x1024, .f32⟩
  | 10 => ⟨S4x2048x1024, .f32⟩
  | 11 => ⟨S4x2048x1024, .f32⟩
  | 12 => ⟨S_, .f32⟩
  | 13 => ⟨S1024, .f32⟩
  | 14 => ⟨S1x1x1024, .f32⟩
  | 15 => ⟨S4x2048x1024, .f32⟩
  | 16 => ⟨S4x2048x1024, .f32⟩
  | 17 => ⟨S4x2048x1024, .f32⟩
  | 18 => ⟨S_, .f32⟩
  | 19 => ⟨S1024, .f32⟩
  | 20 => ⟨S1x1024, .f32⟩
  | 21 => ⟨S_, .f32⟩
  | 22 => ⟨S6x1024, .f32⟩
  | 23 => ⟨S6x1024, .f32⟩
  | 24 => ⟨S4x2048x1024, .f32⟩
  | 25 => ⟨S4x2048x1024, .f32⟩
  | 26 => ⟨S4x2048x1024, .f32⟩
  | 27 => ⟨S_, .f32⟩
  | 28 => ⟨S1024, .f32⟩
  | 29 => ⟨S1x1x1024, .f32⟩
  | 30 => ⟨S4x2048x1024, .f32⟩
  | 31 => ⟨S4x2048x1024, .f32⟩
  | 32 => ⟨S4x2048x1024, .f32⟩
  | 33 => ⟨S_, .f32⟩
  | 34 => ⟨S1024, .f32⟩
  | 35 => ⟨S1x1024, .f32⟩
  | 36 => ⟨S_, .f32⟩
  | 37 => ⟨S6x1024, .f32⟩
  | 38 => ⟨S6x1024, .f32⟩
  | 39 => ⟨S4x2048x1024, .f32⟩
  | 40 => ⟨S4x2048x1024, .f32⟩
  | 41 => ⟨S4x1x1024, .f32⟩
  | 42 => ⟨S4x2047x1024, .f32⟩
  | 43 => ⟨S_, .f32⟩
  | 44 => ⟨S4x2048x1024, .f32⟩
  | 45 => ⟨S4x2048x1024, .f32⟩
  | 46 => ⟨S4x2048x1024, .f32⟩
  | 47 => ⟨S_, .f32⟩
  | 48 => ⟨S1024, .f32⟩
  | 49 => ⟨S1x1x1024, .f32⟩
  | 50 => ⟨S4x2048x1024, .f32⟩
  | 51 => ⟨S4x2048x1024, .f32⟩
  | 52 => ⟨S_, .f32⟩
  | 53 => ⟨S1024, .f32⟩
  | 54 => ⟨S4x2048x1024, .f32⟩
  | 55 => ⟨S_, .f32⟩
  | 56 => ⟨S4x2048, .f32⟩
  | 57 => ⟨S4x2048x1, .f32⟩
  | 58 => ⟨S4x2048x1024, .f32⟩
  | 59 => ⟨S4x2048x1024, .f32⟩
  | 60 => ⟨S4x2048x1, .f32⟩
  | 61 => ⟨S_, .f32⟩
  | 62 => ⟨S4x2048x1, .f32⟩
  | 63 => ⟨S4x2048x1, .f32⟩
  | 64 => ⟨S_, .f32⟩
  | 65 => ⟨S4x2048, .f32⟩
  | 66 => ⟨S4x2048x1024, .f32⟩
  | 67 => ⟨S4x2048x1024, .f32⟩
  | 68 => ⟨S4x2048x1024, .f32⟩
  | 69 => ⟨S4x2048x1024, .f32⟩
  | 70 => ⟨S4x2048x1024, .f32⟩
  | 71 => ⟨S8192x1024, .f32⟩
  | 72 => ⟨S8192x1024, .f32⟩
  | 73 => ⟨S1x1024, .f32⟩
  | 74 => ⟨S_, .f32⟩
  | 75 => ⟨S2x1024, .f32⟩
  | 76 => ⟨S8x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_cst_5 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_cst_6 : Ref sig .tc := ⟨.hbm, 87, rfl⟩
abbrev main_v70 : Ref sig .tc := ⟨.hbm, 88, rfl⟩
abbrev main_v71 : Ref sig .tc := ⟨.hbm, 89, rfl⟩
abbrev main_cst_7 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_cst_8 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_cst_9 : Ref sig .tc := ⟨.hbm, 101, rfl⟩
abbrev main_v81 : Ref sig .tc := ⟨.hbm, 102, rfl⟩
abbrev main_v82 : Ref sig .tc := ⟨.hbm, 103, rfl⟩
abbrev main_cst_10 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_cst_11 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_cst_12 : Ref sig .tc := ⟨.hbm, 116, rfl⟩
abbrev main_v93 : Ref sig .tc := ⟨.hbm, 117, rfl⟩
abbrev main_v94 : Ref sig .tc := ⟨.hbm, 118, rfl⟩
abbrev main_cst_13 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_cst_14 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_cst_15 : Ref sig .tc := ⟨.hbm, 131, rfl⟩
abbrev main_v105 : Ref sig .tc := ⟨.hbm, 132, rfl⟩
abbrev main_v106 : Ref sig .tc := ⟨.hbm, 133, rfl⟩
abbrev main_cst_16 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_cst_17 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_cst_18 : Ref sig .tc := ⟨.hbm, 146, rfl⟩
abbrev main_v117 : Ref sig .tc := ⟨.hbm, 147, rfl⟩
abbrev main_v118 : Ref sig .tc := ⟨.hbm, 148, rfl⟩
abbrev main_cst_19 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_cst_20 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_cst_21 : Ref sig .tc := ⟨.hbm, 161, rfl⟩
abbrev main_v129 : Ref sig .tc := ⟨.hbm, 162, rfl⟩
abbrev main_v130 : Ref sig .tc := ⟨.hbm, 163, rfl⟩
abbrev main_cst_22 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_cst_23 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_cst_24 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_cst_25 : Ref sig .tc := ⟨.hbm, 180, rfl⟩
abbrev main_v144 : Ref sig .tc := ⟨.hbm, 181, rfl⟩
abbrev main_v145 : Ref sig .tc := ⟨.hbm, 182, rfl⟩
abbrev main_cst_26 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_cst_27 : Ref sig .tc := ⟨.hbm, 189, rfl⟩
abbrev main_v151 : Ref sig .tc := ⟨.hbm, 190, rfl⟩
abbrev main_v152 : Ref sig .tc := ⟨.hbm, 191, rfl⟩
abbrev main_cst_28 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_cst_29 : Ref sig .tc := ⟨.hbm, 202, rfl⟩
abbrev main_v162 : Ref sig .tc := ⟨.hbm, 203, rfl⟩
abbrev main_v163 : Ref sig .tc := ⟨.hbm, 204, rfl⟩

abbrev nD : Nat := 1
abbrev τ : Topo := Topo.v7x

variable {F : FTy → Type} [FloatOps F]
-- ==== RwkvPostBwd.lean ====
abbrev S8192x1024 : Shape := ⟨2, ![8192, 1024]⟩
abbrev S1024 : Shape := ⟨1, ![1024]⟩
abbrev S16x64 : Shape := ⟨2, ![16, 64]⟩
abbrev S_ : Shape := ⟨0, ![]⟩
abbrev S1024x1 : Shape := ⟨2, ![1024, 1]⟩
abbrev S128 : Shape := ⟨1, ![128]⟩
abbrev S1x128 : Shape := ⟨2, ![1, 128]⟩
abbrev S1024x128 : Shape := ⟨2, ![1024, 128]⟩
abbrev S2048x128 : Shape := ⟨2, ![2048, 128]⟩
abbrev S128x1024 : Shape := ⟨2, ![128, 1024]⟩
abbrev S256x1024 : Shape := ⟨2, ![256, 1024]⟩
abbrev S1x1024 : Shape := ⟨2, ![1, 1024]⟩
abbrev S256x2048 : Shape := ⟨2, ![256, 2048]⟩
abbrev S256x128 : Shape := ⟨2, ![256, 128]⟩
abbrev S256x256 : Shape := ⟨2, ![256, 256]⟩

abbrev nBuf : Space → Nat
  | .hbm => 50
  | .vmem => 30
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S1024, .f32⟩
  | .hbm, ⟨7, _⟩ => ⟨S1024, .f32⟩
  | .hbm, ⟨8, _⟩ => ⟨S16x64, .f32⟩
  | .hbm, ⟨9, _⟩ => ⟨S1024, .i32⟩
  | .hbm, ⟨10, _⟩ => ⟨S_, .i32⟩
  | .hbm, ⟨11, _⟩ => ⟨S_, .i32⟩
  | .hbm, ⟨12, _⟩ => ⟨S1024, .i32⟩
  | .hbm, ⟨13, _⟩ => ⟨S1024, .i32⟩
  | .hbm, ⟨14, _⟩ => ⟨S1024, .i32⟩
  | .hbm, ⟨15, _⟩ => ⟨S_, .i32⟩
  | .hbm, ⟨16, _⟩ => ⟨S1024, .i32⟩
  | .hbm, ⟨17, _⟩ => ⟨S1024, .i1⟩
  | .hbm, ⟨18, _⟩ => ⟨S1024, .i32⟩
  | .hbm, ⟨19, _⟩ => ⟨S1024, .i32⟩
  | .hbm, ⟨20, _⟩ => ⟨S_, .i32⟩
  | .hbm, ⟨21, _⟩ => ⟨S1024, .i32⟩
  | .hbm, ⟨22, _⟩ => ⟨S1024, .i1⟩
  | .hbm, ⟨23, _⟩ => ⟨S1024, .i1⟩
  | .hbm, ⟨24, _⟩ => ⟨S_, .i32⟩
  | .hbm, ⟨25, _⟩ => ⟨S1024, .i32⟩
  | .hbm, ⟨26, _⟩ => ⟨S1024, .i32⟩
  | .hbm, ⟨27, _⟩ => ⟨S1024, .i32⟩
  | .hbm, ⟨28, _⟩ => ⟨S1024x1, .i32⟩
  | .hbm, ⟨29, _⟩ => ⟨S128, .i32⟩
  | .hbm, ⟨30, _⟩ => ⟨S1x128, .i32⟩
  | .hbm, ⟨31, _⟩ => ⟨S1024x128, .i32⟩
  | .hbm, ⟨32, _⟩ => ⟨S1024x128, .i32⟩
  | .hbm, ⟨33, _⟩ => ⟨S1024x128, .i1⟩
  | .hbm, ⟨34, _⟩ => ⟨S1024x128, .bf16⟩
  | .hbm, ⟨35, _⟩ => ⟨S2048x128, .bf16⟩
  | .hbm, ⟨36, _⟩ => ⟨S128x1024, .bf16⟩
  | .hbm, ⟨37, _⟩ => ⟨S128x1024, .bf16⟩
  | .hbm, ⟨38, _⟩ => ⟨S256x1024, .bf16⟩
  | .hbm, ⟨39, _⟩ => ⟨S1x1024, .f32⟩
  | .hbm, ⟨40, _⟩ => ⟨S1x1024, .f32⟩
  | .hbm, ⟨41, _⟩ => ⟨S1x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S1x1024, .f32⟩
  | .hbm, ⟨48, _⟩ => ⟨S1x1024, .f32⟩
  | .hbm, ⟨49, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S2048x128, .bf16⟩
  | .local _ .vmem, ⟨16, _⟩ => ⟨S256x1024, .bf16⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | .local _ .vmem, ⟨27, _⟩ => ⟨S1x1024, .f32⟩
  | .local _ .vmem, ⟨28, _⟩ => ⟨S1x1024, .f32⟩
  | .local _ .vmem, ⟨29, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16_0 : Ref sig .tc := ⟨.hbm, 42, rfl⟩
abbrev main_v16_1 : Ref sig .tc := ⟨.hbm, 43, rfl⟩
abbrev main_v16_2 : Ref sig .tc := ⟨.hbm, 44, rfl⟩
abbrev main_v16_3 : Ref sig .tc := ⟨.hbm, 45, rfl⟩
abbrev main_v16_4 : Ref sig .tc := ⟨.hbm, 46, rfl⟩
abbrev main_v16_5 : Ref sig .tc := ⟨.hbm, 47, rfl⟩
abbrev main_v16_6 : Ref sig .tc := ⟨.hbm, 48, rfl⟩
abbrev main_v16_7 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg18_0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem17_0 : DmaSem sig := 28
abbrev cc0_sem18_0 : DmaSem sig := 29

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== RwkvPostBwdRefIdeal.lean ====
abbrev S8192x1024 : Shape := ⟨2, ![8192, 1024]⟩
abbrev S1024 : Shape := ⟨1, ![1024]⟩
abbrev S16x64 : Shape := ⟨2, ![16, 64]⟩
abbrev S8192x16x64 : Shape := ⟨3, ![8192, 16, 64]⟩
abbrev S_ : Shape := ⟨0, ![]⟩
abbrev S8192x16 : Shape := ⟨2, ![8192, 16]⟩
abbrev S8192x16x1 : Shape := ⟨3, ![8192, 16, 1]⟩
abbrev S1x1024 : Shape := ⟨2, ![1, 1024]⟩
abbrev S1x16x64 : Shape := ⟨3, ![1, 16, 64]⟩

abbrev nBuf : Space → Nat
  | .hbm => 136
  | .vmem => 0
  | .smem => 0
  | _ => 0

abbrev hbmTy0_0 (i : Nat) : BufTy := match i % 128 with
  | 0 => ⟨S8192x1024, .f32⟩
  | 1 => ⟨S8192x1024, .f32⟩
  | 2 => ⟨S8192x1024, .f32⟩
  | 3 => ⟨S8192x1024, .f32⟩
  | 4 => ⟨S8192x1024, .f32⟩
  | 5 => ⟨S8192x1024, .f32⟩
  | 6 => ⟨S1024, .f32⟩
  | 7 => ⟨S1024, .f32⟩
  | 8 => ⟨S16x64, .f32⟩
  | 9 => ⟨S8192x16x64, .f32⟩
  | 10 => ⟨S8192x16x64, .f32⟩
  | 11 => ⟨S8192x16x64, .f32⟩
  | 12 => ⟨S8192x16x64, .f32⟩
  | 13 => ⟨S_, .f32⟩
  | 14 => ⟨S8192x16, .f32⟩
  | 15 => ⟨S8192x16x1, .f32⟩
  | 16 => ⟨S_, .f32⟩
  | 17 => ⟨S8192x16x1, .f32⟩
  | 18 => ⟨S8192x16x1, .f32⟩
  | 19 => ⟨S8192x16x64, .f32⟩
  | 20 => ⟨S8192x16x64, .f32⟩
  | 21 => ⟨S8192x16x64, .f32⟩
  | 22 => ⟨S_, .f32⟩
  | 23 => ⟨S8192x16x64, .f32⟩
  | 24 => ⟨S8192x16x64, .f32⟩
  | 25 => ⟨S_, .f32⟩
  | 26 => ⟨S8192x16, .f32⟩
  | 27 => ⟨S8192x16x1, .f32⟩
  | 28 => ⟨S_, .f32⟩
  | 29 => ⟨S8192x16x1, .f32⟩
  | 30 => ⟨S8192x16x1, .f32⟩
  | 31 => ⟨S8192x16x64, .f32⟩
  | 32 => ⟨S8192x16x64, .f32⟩
  | 33 => ⟨S_, .f32⟩
  | 34 => ⟨S8192x16x1, .f32⟩
  | 35 => ⟨S8192x16x1, .f32⟩
  | 36 => ⟨S8192x16x1, .f32⟩
  | 37 => ⟨S8192x16x1, .f32⟩
  | 38 => ⟨S_, .f32⟩
  | 39 => ⟨S8192x16x1, .f32⟩
  | 40 => ⟨S8192x16x1, .f32⟩
  | 41 => ⟨S8192x16x64, .f32⟩
  | 42 => ⟨S8192x16x64, .f32⟩
  | 43 => ⟨S8192x1024, .f32⟩
  | 44 => ⟨S1x1024, .f32⟩
  | 45 => ⟨S8192x1024, .f32⟩
  | 46 => ⟨S8192x1024, .f32⟩
  | 47 => ⟨S1x1024, .f32⟩
  | 48 => ⟨S8192x1024, .f32⟩
  | 49 => ⟨S8192x1024, .f32⟩
  | 50 => ⟨S8192x16x64, .f32⟩
  | 51 => ⟨S1x16x64, .f32⟩
  | 52 => ⟨S8192x16x64, .f32⟩
  | 53 => ⟨S8192x16x64, .f32⟩
  | 54 => ⟨S_, .f32⟩
  | 55 => ⟨S8192x16, .f32⟩
  | 56 => ⟨S8192x16x1, .f32⟩
  | 57 => ⟨S8192x16x64, .f32⟩
  | 58 => ⟨S8192x16x64, .f32⟩
  | 59 => ⟨S8192x1024, .f32⟩
  | 60 => ⟨S8192x1024, .f32⟩
  | 61 => ⟨S8192x1024, .f32⟩
  | 62 => ⟨S8192x1024, .f32⟩
  | 63 => ⟨S8192x1024, .f32⟩
  | 64 => ⟨S8192x16x64, .f32⟩
  | 65 => ⟨S8192x16x64, .f32⟩
  | 66 => ⟨S8192x16x64, .f32⟩
  | 67 => ⟨S8192x16x64, .f32⟩
  | 68 => ⟨S_, .f32⟩
  | 69 => ⟨S8192x16, .f32⟩
  | 70 => ⟨S8192x16x1, .f32⟩
  | 71 => ⟨S_, .f32⟩
  | 72 => ⟨S8192x16, .f32⟩
  | 73 => ⟨S8192x16x64, .f32⟩
  | 74 => ⟨S8192x16x64, .f32⟩
  | 75 => ⟨S_, .f32⟩
  | 76 => ⟨S16x64, .f32⟩
  | 77 => ⟨S1x16x64, .f32⟩
  | 78 => ⟨S8192x16x64, .f32⟩
  | 79 => ⟨S8192x16x64, .f32⟩
  | 80 => ⟨S_, .f32⟩
  | 81 => ⟨S16x64, .f32⟩
  | 82 => ⟨S8192x16x64, .f32⟩
  | 83 => ⟨S8192x16x64, .f32⟩
  | 84 => ⟨S_, .f32⟩
  | 85 => ⟨S1024, .f32⟩
  | 86 => ⟨S1x1024, .f32⟩
  | 87 => ⟨S_, .f32⟩
  | 88 => ⟨S1024, .f32⟩
  | 89 => ⟨S8192x1024, .f32⟩
  | 90 => ⟨S_, .f32⟩
  | 91 => ⟨S1024, .f32⟩
  | 92 => ⟨S1x1024, .f32⟩
  | 93 => ⟨S8192x1024, .f32⟩
  | 94 => ⟨S8192x1024, .f32⟩
  | 95 => ⟨S_, .f32⟩
  | 96 => ⟨S1024, .f32⟩
  | 97 => ⟨S8192x16x64, .f32⟩
  | 98 => ⟨S8192x16x64, .f32⟩
  | 99 => ⟨S_, .f32⟩
  | 100 => ⟨S8192x16, .f32⟩
  | 101 => ⟨S8192x16x1, .f32⟩
  | 102 => ⟨S8192x16x64, .f32⟩
  | 103 => ⟨S8192x16x64, .f32⟩
  | 104 => ⟨S8192x16x1, .f32⟩
  | 105 => ⟨S8192x16x64, .f32⟩
  | 106 => ⟨S_, .f32⟩
  | 107 => ⟨S8192x16, .f32⟩
  | 108 => ⟨S8192x16x1, .f32⟩
  | 109 => ⟨S_, .f32⟩
  | 110 => ⟨S8192x16x1, .f32⟩
  | 111 => ⟨S8192x16x1, .f32⟩
  | 112 => ⟨S_, .f32⟩
  | 113 => ⟨S8192x16, .f32⟩
  | 114 => ⟨S8192x16x64, .f32⟩
  | 115 => ⟨S8192x16x64, .f32⟩
  | 116 => ⟨S8192x16x64, .f32⟩
  | 117 => ⟨S_, .f32⟩
  | 118 => ⟨S8192x16, .f32⟩
  | 119 => ⟨S8192x16x1, .f32⟩
  | 120 => ⟨S8192x16x64, .f32⟩
  | 121 => ⟨S8192x16x1, .f32⟩
  | 122 => ⟨S_, .f32⟩
  | 123 => ⟨S8192x16x1, .f32⟩
  | 124 => ⟨S8192x16x1, .f32⟩
  | 125 => ⟨S_, .f32⟩
  | 126 => ⟨S8192x16, .f32⟩
  | 127 => ⟨S8192x16x64, .f32⟩
  | _ => ⟨S8192x1024, .f32⟩

abbrev hbmTy0_1 (i : Nat) : BufTy := match i % 128 with
  | 0 => ⟨S8192x16x64, .f32⟩
  | 1 => ⟨S8192x1024, .f32⟩
  | 2 => ⟨S8192x1024, .f32⟩
  | 3 => ⟨S8192x1024, .f32⟩
  | 4 => ⟨S8192x1024, .f32⟩
  | 5 => ⟨S1x1024, .f32⟩
  | 6 => ⟨S1x1024, .f32⟩
  | 7 => ⟨S1x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_7 : Ref sig .tc := ⟨.hbm, 68, rfl⟩
abbrev main_v51 : Ref sig .tc := ⟨.hbm, 69, rfl⟩
abbrev main_v52 : Ref sig .tc := ⟨.hbm, 70, rfl⟩
abbrev main_cst_8 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_9 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_10 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_11 : Ref sig .tc := ⟨.hbm, 84, rfl⟩
abbrev main_v63 : Ref sig .tc := ⟨.hbm, 85, rfl⟩
abbrev main_v64 : Ref sig .tc := ⟨.hbm, 86, rfl⟩
abbrev main_cst_12 : Ref sig .tc := ⟨.hbm, 87, rfl⟩
abbrev main_v65 : Ref sig .tc := ⟨.hbm, 88, rfl⟩
abbrev main_v66 : Ref sig .tc := ⟨.hbm, 89, rfl⟩
abbrev main_cst_13 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst_14 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_15 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_cst_16 : Ref sig .tc := ⟨.hbm, 106, rfl⟩
abbrev main_v80 : Ref sig .tc := ⟨.hbm, 107, rfl⟩
abbrev main_v81 : Ref sig .tc := ⟨.hbm, 108, rfl⟩
abbrev main_cst_17 : Ref sig .tc := ⟨.hbm, 109, rfl⟩
abbrev main_v82 : Ref sig .tc := ⟨.hbm, 110, rfl⟩
abbrev main_v83 : Ref sig .tc := ⟨.hbm, 111, rfl⟩
abbrev main_cst_18 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_cst_19 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_cst_20 : Ref sig .tc := ⟨.hbm, 122, rfl⟩
abbrev main_v92 : Ref sig .tc := ⟨.hbm, 123, rfl⟩
abbrev main_v93 : Ref sig .tc := ⟨.hbm, 124, rfl⟩
abbrev main_cst_21 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩

abbrev nD : Nat := 1
abbrev τ : Topo := Topo.v7x

variable {F : FTy → Type} [FloatOps F]
-- ==== LossHead.lean ====
abbrev S8192x1024 : Shape := ⟨2, ![8192, 1024]⟩
abbrev S1024 : Shape := ⟨1, ![1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 7
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1x1024, .f32⟩
  | .hbm, ⟨6, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossHeadRefIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x128 : Shape := ⟨2, ![1, 128]⟩

abbrev nBuf : Space → Nat
  | .hbm => 73
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S1x128, .f32⟩
  | .hbm, ⟨72, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== Norm.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1x1024, .f32⟩
  | .hbm, ⟨3, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S1x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== LruMix.lean ====
abbrev S8192x1024 : Shape := ⟨2, ![8192, 1024]⟩
abbrev S8192x2048 : Shape := ⟨2, ![8192, 2048]⟩
abbrev S512x1024 : Shape := ⟨2, ![512, 1024]⟩
abbrev S512x2048 : Shape := ⟨2, ![512, 2048]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x2048, .f32⟩
  | .local _ .vmem, ⟨3, _⟩ => ⟨S512x2048, .f32⟩
  | .local _ .vmem, ⟨4, _⟩ => ⟨S512x1024, .bf16⟩
  | .local _ .vmem, ⟨5, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== LruMixRefIdeal.lean ====
abbrev S8192x1024 : Shape := ⟨2, ![8192, 1024]⟩
abbrev S8192x2048 : Shape := ⟨2, ![8192, 2048]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== RwkvMix.lean ====
abbrev S8192x1024 : Shape := ⟨2, ![8192, 1024]⟩
abbrev S1024 : Shape := ⟨1, ![1024]⟩
abbrev S6x1024 : Shape := ⟨2, ![6, 1024]⟩
abbrev S1x1024 : Shape := ⟨2, ![1, 1024]⟩
abbrev S_ : Shape := ⟨0, ![]⟩
abbrev S2x1024 : Shape := ⟨2, ![2, 1024]⟩
abbrev S8x1024 : Shape := ⟨2, ![8, 1024]⟩
abbrev S256x1024 : Shape := ⟨2, ![256, 1024]⟩
abbrev S16x1024 : Shape := ⟨2, ![16, 1024]⟩
abbrev S256 : Shape := ⟨1, ![256]⟩
abbrev S256x1 : Shape := ⟨2, ![256, 1]⟩
abbrev S16 : Shape := ⟨1, ![16]⟩
abbrev S16x1 : Shape := ⟨2, ![16, 1]⟩
abbrev S272x1024 : Shape := ⟨2, ![272, 1024]⟩

abbrev nBuf : Space → Nat
  | .hbm => 13
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S6x1024, .f32⟩
  | .hbm, ⟨3, _⟩ => ⟨S1x1024, .f32⟩
  | .hbm, ⟨4, _⟩ => ⟨S_, .f32⟩
  | .hbm, ⟨5, _⟩ => ⟨S2x1024, .f32⟩
  | .hbm, ⟨6, _⟩ => ⟨S8x1024, .f32⟩
  | .hbm, ⟨7, _⟩ => ⟨S8192x1024, .bf16⟩
  | .hbm, ⟨8, _⟩ => ⟨S8192x1024, .bf16⟩
  | .hbm, ⟨9, _⟩ => ⟨S8192x1024, .bf16⟩
  | .hbm, ⟨10, _⟩ => ⟨S8192x1024, .bf16⟩
  | .hbm, ⟨11, _⟩ => ⟨S8192x1024, .bf16⟩
  | .hbm, ⟨12, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S16x1024, .f32⟩
  | .local _ .vmem, ⟨3, _⟩ => ⟨S16x1024, .f32⟩
  | .local _ .vmem, ⟨4, _⟩ => ⟨S1x1024, .f32⟩
  | .local _ .vmem, ⟨5, _⟩ => ⟨S8x1024, .f32⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v3_4 : Ref sig .tc := ⟨.hbm, 11, rfl⟩
abbrev main_v3_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== RwkvMixRefIdeal.lean ====
abbrev S8192x1024 : Shape := ⟨2, ![8192, 1024]⟩
abbrev S1024 : Shape := ⟨1, ![1024]⟩
abbrev S6x1024 : Shape := ⟨2, ![6, 1024]⟩
abbrev S4x2048x1024 : Shape := ⟨3, ![4, 2048, 1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x1x1024 : Shape := ⟨3, ![4, 1, 1024]⟩
abbrev S4x2047x1024 : Shape := ⟨3, ![4, 2047, 1024]⟩
abbrev S1x1024 : Shape := ⟨2, ![1, 1024]⟩

abbrev nBuf : Space → Nat
  | .hbm => 73
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S6x1024, .f32⟩
  | .hbm, ⟨3, _⟩ => ⟨S4x2048x1024, .f32⟩
  | .hbm, ⟨4, _⟩ => ⟨S4x2048x1024, .f32⟩
  | .hbm, ⟨5, _⟩ => ⟨S_, .f32⟩
  | .hbm, ⟨6, _⟩ => ⟨S4x2048, .f32⟩
  | .hbm, ⟨7, _⟩ => ⟨S4x2048x1, .f32⟩
  | .hbm, ⟨8, _⟩ => ⟨S_, .f32⟩
  | .hbm, ⟨9, _⟩ => ⟨S4x2048x1, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S4x2048x1, .f32⟩
  | .hbm, ⟨15, _⟩ => ⟨S4x2048x1024, .f32⟩
  | .hbm, ⟨16, _⟩ => ⟨S4x2048x1024, .f32⟩
  | .hbm, ⟨17, _⟩ => ⟨S1x1x1024, .f32⟩
  | .hbm, ⟨18, _⟩ => ⟨S4x2048x1024, .f32⟩
  | .hbm, ⟨19, _⟩ => ⟨S4x2048x1024, .f32⟩
  | .hbm, ⟨20, _⟩ => ⟨S_, .f32⟩
  | .hbm, ⟨21, _⟩ => ⟨S4x1x1024, .f32⟩
  | .hbm, ⟨22, _⟩ => ⟨S4x2047x1024, .f32⟩
  | .hbm, ⟨23, _⟩ => ⟨S4x2048x1024, .f32⟩
  | .hbm, ⟨24, _⟩ => ⟨S4x2048x1024, .f32⟩
  | .hbm, ⟨25, _⟩ => ⟨S1x1024, .f32⟩
  | .hbm, ⟨26, _⟩ => ⟨S1024, .f32⟩
  | .hbm, ⟨27, _⟩ => ⟨S1x1x1024, .f32⟩
  | .hbm, ⟨28, _⟩ => ⟨S4x2048x1024, .f32⟩
  | .hbm, ⟨29, _⟩ => ⟨S4x2048x1024, .f32⟩
  | .hbm, ⟨30, _⟩ => ⟨S4x2048x1024, .f32⟩
  | .hbm, ⟨31, _⟩ => ⟨S8192x1024, .f32⟩
  | .hbm, ⟨32, _⟩ => ⟨S1x1024, .f32⟩
  | .hbm, ⟨33, _⟩ => ⟨S1024, .f32⟩
  | .hbm, ⟨34, _⟩ => ⟨S1x1x1024, .f32⟩
  | .hbm, ⟨35, _⟩ => ⟨S4x2048x1024, .f32⟩
  | .hbm, ⟨36, _⟩ => ⟨S4x2048x1024, .f32⟩
  | .hbm, ⟨37, _⟩ => ⟨S4x2048x1024, .f32⟩
  | .hbm, ⟨38, _⟩ => ⟨S8192x1024, .f32⟩
  | .hbm, ⟨39, _⟩ => ⟨S1x1024, .f32⟩
  | .hbm, ⟨40, _⟩ => ⟨S1024, .f32⟩
  | .hbm, ⟨41, _⟩ => ⟨S1x1x1024, .f32⟩
  | .hbm, ⟨42, _⟩ => ⟨S4x2048x1024, .f32⟩
  | .hbm, ⟨43, _⟩ => ⟨S4x2048x1024, .f32⟩
  | .hbm, ⟨44, _⟩ => ⟨S4x2048x1024, .f32⟩
  | .hbm, ⟨45, _⟩ => ⟨S8192x1024, .f32⟩
  | .hbm, ⟨46, _⟩ => ⟨S1x1024, .f32⟩
  | .hbm, ⟨47, _⟩ => ⟨S1024, .f32⟩
  | .hbm, ⟨48, _⟩ => ⟨S1x1x1024, .f32⟩
  | .hbm, ⟨49, _⟩ => ⟨S4x2048x1024, .f32⟩
  | .hbm, ⟨50, _⟩ => ⟨S4x2048x1024, .f32⟩
  | .hbm, ⟨51, _⟩ => ⟨S4x2048x1024, .f32⟩
  | .hbm, ⟨52, _⟩ => ⟨S8192x1024, .f32⟩
  | .hbm, ⟨53, _⟩ => ⟨S1x1024, .f32⟩
  | .hbm, ⟨54, _⟩ => ⟨S1024, .f32⟩
  | .hbm, ⟨55, _⟩ => ⟨S1x1x1024, .f32⟩
  | .hbm, ⟨56, _⟩ => ⟨S4x2048x1024, .f32⟩
  | .hbm, ⟨57, _⟩ => ⟨S4x2048x1024, .f32⟩
  | .hbm, ⟨58, _⟩ => ⟨S4x2048x1024, .f32⟩
  | .hbm, ⟨59, _⟩ => ⟨S8192x1024, .f32⟩
  | .hbm, ⟨60, _⟩ => ⟨S1x1024, .f32⟩
  | .hbm, ⟨61, _⟩ => ⟨S1024, .f32⟩
  | .hbm, ⟨62, _⟩ => ⟨S1x1x1024, .f32⟩
  | .hbm, ⟨63, _⟩ => ⟨S4x2048x1024, .f32⟩
  | .hbm, ⟨64, _⟩ => ⟨S4x2048x1024, .f32⟩
  | .hbm, ⟨65, _⟩ => ⟨S4x2048x1024, .f32⟩
  | .hbm, ⟨66, _⟩ => ⟨S8192x1024, .f32⟩
  | .hbm, ⟨67, _⟩ => ⟨S8192x1024, .bf16⟩
  | .hbm, ⟨68, _⟩ => ⟨S8192x1024, .bf16⟩
  | .hbm, ⟨69, _⟩ => ⟨S8192x1024, .bf16⟩
  | .hbm, ⟨70, _⟩ => ⟨S8192x1024, .bf16⟩
  | .hbm, ⟨71, _⟩ => ⟨S8192x1024, .bf16⟩
  | .hbm, ⟨72, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩

abbrev nD : Nat := 1
abbrev τ : Topo := Topo.v7x

variable {F : FTy → Type} [FloatOps F]
-- ==== Proof.Tiles.lean ====
/-
  A contraction taken block by block along its length: what a tiled product adds up over its grid's last axis.
-/
module

public import Idealize.ShloMosaic.Lib.Pipeline.ValueKit.Acc
public import Idealize.ShloMosaic.Lib.Pipeline.ValueKit.Geometry
public import Idealize.ShloMosaic.Lib.Pointwise.TacticCore
public import Idealize.ShloMosaic.Lib.Pointwise.ShapeOpsCore
public import Idealize.ShloMosaic.Lib.Pointwise.Contract
public import Idealize.ShloMosaic.Lib.Pointwise.Reshape
public import Idealize.ShloMosaic.Lib.Pipeline.ReadBack
public import Idealize.ShloMosaic.Lib.KernelVsHost
public import Idealize.ShloMosaic.Lib.IdealHost
public import Idealize.ShloMosaic.Lib.WholeRead

@[expose] public section

namespace Cert.Tiles

/-- A sum over `n * b` indices is the sum over `n` blocks of the sums over the blocks' `b` indices. -/
theorem sum_blocks (n b : ℕ) (f : Fin (n * b) → EReal) :
    ∑ k, f k = ∑ s : Fin n, ∑ r : Fin b, f ⟨s.val * b + r.val, by
      have hs := s.isLt; have hr := r.isLt
      calc s.val * b + r.val < s.val * b + b := by omega
        _ = (s.val + 1) * b := by ring
        _ ≤ n * b := Nat.mul_le_mul_right _ hs⟩ := by
  rw [← Equiv.sum_comp finProdFinEquiv f, Fintype.sum_prod_type]
  refine Finset.sum_congr rfl fun s _ => Finset.sum_congr rfl fun r _ => congrArg f (Fin.ext ?_)
  show r.val + b * s.val = s.val * b + r.val
  rw [Nat.mul_comm, Nat.add_comm]

/-- Four blocks, added up one after the other. -/
theorem sum_four (b : ℕ) (f : Fin (4 * b) → EReal) (p : Fin 4 → EReal)
    (hp : ∀ s : Fin 4, p s = ∑ r : Fin b, f ⟨s.val * b + r.val, by
      have hs := s.isLt; have hr := r.isLt
      calc s.val * b + r.val < s.val * b + b := by omega
        _ = (s.val + 1) * b := by ring
        _ ≤ 4 * b := Nat.mul_le_mul_right _ hs⟩) :
    p 0 + p 1 + p 2 + p 3 = ∑ k, f k := by
  rw [sum_blocks, ← Fin.sum_univ_four]
  exact Finset.sum_congr rfl fun s _ => hp s

/-- Two blocks. -/
theorem sum_two (b : ℕ) (f : Fin (2 * b) → EReal) (p : Fin 2 → EReal)
    (hp : ∀ s : Fin 2, p s = ∑ r : Fin b, f ⟨s.val * b + r.val, by
      have hs := s.isLt; have hr := r.isLt
      calc s.val * b + r.val < s.val * b + b := by omega
        _ = (s.val + 1) * b := by ring
        _ ≤ 2 * b := Nat.mul_le_mul_right _ hs⟩) :
    p 0 + p 1 = ∑ k, f k := by
  rw [sum_blocks, ← Fin.sum_univ_two]
  exact Finset.sum_congr rfl fun s _ => hp s

open Idealize.ShloMosaic in
/-- Indices of three axes are equal where their coordinates are. -/
theorem ix3_congr {a b c : ℕ} {i i' : Fin a} {j j' : Fin b} {k k' : Fin c} (hi : i = i') (hj : j = j') (hk : k = k') :
    ix3 i j k = ix3 i' j' k' := by
  rw [hi, hj, hk]

end Cert.Tiles
-- ==== Proof.FfnUpValue.lean ====
/-
  The up projection: rows times layer 0 of the weight, the columns in four blocks, one for each chip.
-/
module

public import proofs.«01_k».proof.Defs
public import proofs.«01_k».proof.Proof.Tiles
public import proofs.«01_k».proof.Proof.Gen.FfnUpIdeal.Value
public import proofs.«01_k».proof.Proof.Gen.FfnUpRefIdeal.Run

@[expose] public section

set_option maxRecDepth 16384

noncomputable section

namespace Cert.FfnUpIdeal.Value

open Cert.FfnUpIdeal Cert.FfnUpIdeal.Gen Idealize.ShloMosaic Idealize.ShloMosaic.TcCoe Idealize.SL.Sem

/-- The product of a block of the one array with a block of the other. -/
theorem part_apply (x0 : Vec Ideal S1024x1024 .bf16) (x1 : Vec Ideal S1x1x1024x1536 .bf16) (a : Fin 1024) (b : Fin 1536) :
    k0_pay1 x0 x1 (ix2 a b) = (∑ k : Fin 1024, x0 (ix2 a k) * x1 (ix4 0 0 k b)) := by
  unfold k0_pay1
  pointwise
  refine (congrArg (· + _) Ideal.ofBits_zero_f32).trans ((zero_add _).trans ?_)
  refine Finset.sum_congr rfl fun k _ => ?_
  pointwise

variable (m : (ℓ : Loc nD τ sig) → Buf (Elt Ideal) ℓ)

/-- The blocks the windows stand at. -/
theorem index : ∀ t : Fin cfg0.N, win0_0.index t = ![t.val / 4, 0] ∧ win0_1.index t = ![t.val % 4, 0, 0, 0] ∧ win0_2.index t = ![t.val / 4, t.val % 4] :=
  (by decide +kernel : ∀ t : Fin grid0.N, _)

/-- The arrays the call is given. -/
abbrev x (m : (ℓ : Loc nD τ sig) → Buf (Elt Ideal) ℓ) (c : Dev nD) : S8192x1024.Idx → EReal := m (c, main_arg0)

@[inherit_doc x]
abbrev w (m : (ℓ : Loc nD τ sig) → Buf (Elt Ideal) ℓ) (c : Dev nD) : S2x1024x6144.Idx → EReal := m (c, main_arg1)

theorem lt (t : Fin cfg0.N) : t.val < 32 := t.isLt

theorem argL (c : Dev nD) (i : S8192x1024.Idx) : (V m c main_v0 : S8192x1024.Idx → EReal) i = x m c i := by
  unfold V
  after_results
  rfl

theorem argR (c : Dev nD) (s : Fin 4) (l : Fin 2) (r : Fin 1024) (k : Fin 1536) :
    (V m c main_v3 : S4x2x1024x1536.Idx → EReal) (ix4 s l r k) = w m c (ix3 l r ⟨s.val * 1536 + k.val, by omega⟩) := by
  unfold V
  after_results
  pointwise
  rfl

theorem blk0 (c : Dev nD) (t : Fin cfg0.N) (a : Fin 1024) (k : Fin 1024) :
    (iblk m c 0 t : S1024x1024.Idx → EReal) (ix2 a k) = x m c (ix2 ⟨t.val / 4 * 1024 + a.val, by have := lt t; omega⟩ k) := by
  have e := (index t).1
  refine (congrArg (V m c main_v0) ?_).trans (argL m c _)
  refine (eq_ix2 ((win0_0.blk t).view.emb (ix2 a k))).trans (congrArg₂ ix2 (Fin.ext ?_) (Fin.ext ?_)) <;> blk_simp [e] <;> rfl

theorem blk1 (c : Dev nD) (t : Fin cfg0.N) (k : Fin 1024) (b : Fin 1536) :
    (iblk m c 1 t : S1x1x1024x1536.Idx → EReal) (ix4 0 0 k b) = w m c (ix3 0 k ⟨t.val % 4 * 1536 + b.val, by have := lt t; omega⟩) := by
  have e := (index t).2.1
  refine (congrArg (V m c main_v3) ?_).trans (argR m c ⟨t.val % 4, by have := lt t; omega⟩ 0 k b)
  refine (eq_ix4 ((win0_1.blk t).view.emb (ix4 0 0 k b))).trans ?_
  congr 1 <;> refine Fin.ext ?_ <;> blk_simp [e] <;> rfl

/-- The product. -/
def out (m : (ℓ : Loc nD τ sig) → Buf (Elt Ideal) ℓ) (c : Dev nD) : S8192x6144.Idx → EReal := fun i =>
  (∑ k : Fin 1024, x m c (ix2 (i 0) k) * w m c (ix3 0 k (i 1)))

theorem emb (q : ℕ) (hn : q < cfg0.N) (hq : q < 32) (a : Fin 1024) (b : Fin 1536) :
    (win0_2.blk ⟨q, hn⟩).view.emb (ix2 a b) = ix2 (⟨q / 4 * 1024 + a.val, by omega⟩ : Fin 8192) (⟨q % 4 * 1536 + b.val, by omega⟩ : Fin 6144) := by
  have e := (index ⟨_, hn⟩).2.2
  refine (eq_ix2 ((win0_2.blk ⟨_, hn⟩).view.emb (ix2 a b))).trans ?_
  refine congrArg₂ ix2 (Fin.ext ?_) (Fin.ext ?_) <;> blk_simp [e] <;> rfl

/-- The array the call leaves. -/
theorem arr_eq (c : Dev nD) : (dats m 0 c).arrAt 2 cfg0.N = out m c := by
  refine (dats m 0 c).arrAt_eq_of_covers 2 _ (by decide +kernel) fun t hf y => ?_
  blk_simp
  rw [after0_2]
  obtain ⟨a, b, rfl⟩ : ∃ (a : Fin 1024) (b : Fin 1536), y = ix2 a b := ⟨y 0, y 1, eq_ix2 y⟩
  obtain ⟨q, hn⟩ := t
  have hl : q < 32 := hn
  frame_out
  refine (part_apply _ _ a b).trans ?_
  refine Eq.trans ?_ (congrArg (out m c) (emb q hn hl a b)).symm
  exact Finset.sum_congr rfl fun k _ => congrArg₂ (fun u v : EReal => u * v) (blk0 m c _ a k) (blk1 m c _ k b)

end Cert.FfnUpIdeal.Value

namespace Cert.FfnUpRefIdeal.Value
open Cert.FfnUpRefIdeal Cert.FfnUpRefIdeal.Gen Idealize.ShloMosaic Idealize.ShloMosaic.TcCoe Idealize.SL.Sem

/-- The reference's result at an index. -/
theorem out_apply (x : FVec Ideal S8192x1024 .f32) (w : FVec Ideal S2x1024x6144 .f32) (i : S8192x6144.Idx) :
    (truncf .bf16 (Host.dotGeneral dot_S8192x1024_S1024x6144_S8192x6144_1_0_0_1_n_n none x (shapeCast _ (extractStridedSlice S1x1024x6144 ![0, 0, 0] w slices_S2x1024x6144_S1x1024x6144_0_0_0) shapeCasts_S1x1024x6144_S1024x6144)) bitsLt_bf16_f32) i
      = (∑ k : Fin 1024, x (ix2 (i 0) k) * w (ix3 0 k (i 1))) := by
  pointwise
  rfl

end Cert.FfnUpRefIdeal.Value

namespace Cert.Proof
open Idealize.ShloMosaic Idealize.ShloMosaic.TcCoe Idealize.SL.Sem

/-- Kernel and reference leave the same array. -/
theorem ffnUp : @Cert.algebraic_FfnUpIdeal_FfnUpRefIdeal Cert.FfnUpIdeal.Gen.facts Cert.FfnUpRefIdeal.Gen.facts := by
  unfold Cert.algebraic_FfnUpIdeal_FfnUpRefIdeal
  intro m g m' g' _ hargs
  refine ⟨fun c => Cert.FfnUpIdeal.Value.out m c, (θ_run _ _ _).mono (fun r h c => ?_) (Cert.FfnUpIdeal.Value.run_blocks m g),
    (θ_run _ _ _).mono (fun r h c => ?_) (Cert.FfnUpRefIdeal.Value.run m' g')⟩
  · exact ⟨(h c).1.trans (Cert.FfnUpIdeal.Value.arr_eq m c), (h c).2⟩
  · refine ⟨(h c).1.trans (funext fun j => (Cert.FfnUpRefIdeal.Value.out_apply _ _ j).trans ?_), (h c).2⟩
    rw [(hargs c).1, (hargs c).2]
    rfl

/-- The reference's frame: it leaves its arguments alone and has no semaphore. -/
theorem frame_FfnUpRef : @Cert.quiescent_FfnUpRefIdeal Cert.FfnUpRefIdeal.Gen.facts := by
  intro m g _
  refine (θ_run _ _ _).mono (fun r h => ⟨fun c => (h c).2, funext fun s => ?_⟩) (Cert.FfnUpRefIdeal.Value.run m g)
  exact ((by decide : ∀ sm : SemLoc Cert.FfnUpRefIdeal.sig, False) s.2).elim

end Cert.Proof
-- ==== Proof.FfnDownValue.lean ====
/-
  The down projection, added to the residual: the contraction in two blocks.
-/
module

public import proofs.«01_k».proof.Defs
public import proofs.«01_k».proof.Proof.Tiles
public import proofs.«01_k».proof.Proof.Gen.FfnDownIdeal.Value
public import proofs.«01_k».proof.Proof.Gen.FfnDownRefIdeal.Run

@[expose] public section

set_option maxRecDepth 16384

noncomputable section

namespace Cert.FfnDownIdeal.Value

open Cert.FfnDownIdeal Cert.FfnDownIdeal.Gen Idealize.ShloMosaic Idealize.ShloMosaic.TcCoe Idealize.SL.Sem

/-- The product of a block of the one array with a block of the other. -/
theorem part_apply (x0 : Vec Ideal S1024x1536 .bf16) (x1 : Vec Ideal S1536x1024 .bf16) (a : Fin 1024) (b : Fin 1024) :
    k0_pay1 x0 x1 (ix2 a b) = (∑ k : Fin 1536, x0 (ix2 a k) * x1 (ix2 k b)) := by
  unfold k0_pay1
  pointwise
  refine (congrArg (· + _) Ideal.ofBits_zero_f32).trans ((zero_add _).trans ?_)
  refine Finset.sum_congr rfl fun k _ => ?_
  pointwise

variable (m : (ℓ : Loc nD τ sig) → Buf (Elt Ideal) ℓ)

/-- What grid point `n` adds. -/
def part (c : Dev nD) (n : ℕ) (hn : n < cfg0.N) (j : S1024x1024.Idx) : EReal :=
  k0_pay1 (F := Ideal) (iblk m c 0 ⟨n, hn⟩) (iblk m c 1 ⟨n, hn⟩) j

/-- The first point of a tile starts the sum. -/
theorem first (c : Dev nD) (t : Fin cfg0.N) (h0 : t.val % 2 = 0) (j : S1024x1024.Idx) :
    (outsAt0 m c t.val t.isLt).2 j = part m c t.val t.isLt j := by
  rw [outsAt0_A m c t h0 (by omega)]
  frame_out
  unfold k0_pay2 part
  pointwise

/-- The last adds to it and writes the tile. -/
theorem last (c : Dev nD) (t : Fin cfg0.N) (h2 : t.val % 2 = 1) (a : Fin 1024) (b : Fin 1024) :
    (outsAt0 m c t.val t.isLt).1 (ix2 a b)
      = (outsAt0 m c (t.val - 1) (Nat.lt_of_le_of_lt (Nat.sub_le _ _) t.isLt)).2 (ix2 a b) + part m c t.val t.isLt (ix2 a b) + (iblk m c 2 t : S1024x1024.Idx → EReal) (ix2 a b) := by
  rw [outsAt0_B m c t (by omega) h2]
  frame_out
  unfold k0_pay4 part
  pointwise
  rw [read_unread_whole]
  rfl

/-- What is written back after the two points of a tile. -/
theorem fold (c : Dev nD) (q : ℕ) (hq : 2 * q + 1 < cfg0.N) (a : Fin 1024) (b : Fin 1024) :
    (outsAt0 m c (2 * q + 1) hq).1 (ix2 a b) = part m c (2 * q) (by omega) (ix2 a b) + part m c (2 * q + 1) hq (ix2 a b) + (iblk m c 2 ⟨2 * q + 1, hq⟩ : S1024x1024.Idx → EReal) (ix2 a b) :=
  (last m c ⟨2 * q + 1, hq⟩ (by show (2 * q + 1) % 2 = 1; omega) a b).trans (congrArg (fun z : EReal => z + _ + _)
    (first m c ⟨2 * q, by omega⟩ (by show 2 * q % 2 = 0; omega) _))

/-- The blocks the windows stand at. -/
theorem index : ∀ t : Fin cfg0.N, win0_0.index t = ![t.val / 2, t.val % 2] ∧ win0_1.index t = ![t.val % 2, 0] ∧ win0_2.index t = ![t.val / 2, 0] ∧ win0_3.index t = ![t.val / 2, 0] :=
  (by decide +kernel : ∀ t : Fin grid0.N, _)

/-- The arrays the call is given. -/
abbrev x (m : (ℓ : Loc nD τ sig) → Buf (Elt Ideal) ℓ) (c : Dev nD) : S8192x3072.Idx → EReal := m (c, main_arg0)

@[inherit_doc x]
abbrev w (m : (ℓ : Loc nD τ sig) → Buf (Elt Ideal) ℓ) (c : Dev nD) : S3072x1024.Idx → EReal := m (c, main_arg1)

@[inherit_doc x]
abbrev r (m : (ℓ : Loc nD τ sig) → Buf (Elt Ideal) ℓ) (c : Dev nD) : S8192x1024.Idx → EReal := m (c, main_arg2)

theorem lt (t : Fin cfg0.N) : t.val < 16 := t.isLt

theorem argL (c : Dev nD) (i : S8192x3072.Idx) : (V m c main_v0 : S8192x3072.Idx → EReal) i = x m c i := by
  unfold V
  after_results
  rfl

theorem argR (c : Dev nD) (i : S3072x1024.Idx) : (V m c main_v1 : S3072x1024.Idx → EReal) i = w m c i := by
  unfold V
  after_results
  rfl

theorem blk0 (c : Dev nD) (t : Fin cfg0.N) (a : Fin 1024) (k : Fin 1536) :
    (iblk m c 0 t : S1024x1536.Idx → EReal) (ix2 a k) = x m c (ix2 ⟨t.val / 2 * 1024 + a.val, by have := lt t; omega⟩ ⟨t.val % 2 * 1536 + k.val, by have := lt t; omega⟩) := by
  have e := (index t).1
  refine (congrArg (V m c main_v0) ?_).trans (argL m c _)
  refine (eq_ix2 ((win0_0.blk t).view.emb (ix2 a k))).trans (congrArg₂ ix2 (Fin.ext ?_) (Fin.ext ?_)) <;> blk_simp [e] <;> rfl

theorem blk1 (c : Dev nD) (t : Fin cfg0.N) (k : Fin 1536) (b : Fin 1024) :
    (iblk m c 1 t : S1536x1024.Idx → EReal) (ix2 k b) = w m c (ix2 ⟨t.val % 2 * 1536 + k.val, by have := lt t; omega⟩ b) := by
  have e := (index t).2.1
  refine (congrArg (V m c main_v1) ?_).trans (argR m c _)
  refine (eq_ix2 ((win0_1.blk t).view.emb (ix2 k b))).trans (congrArg₂ ix2 (Fin.ext ?_) (Fin.ext ?_)) <;> blk_simp [e] <;> rfl

theorem argE (c : Dev nD) (i : S8192x1024.Idx) : (V m c main_arg2 : S8192x1024.Idx → EReal) i = r m c i := by
  unfold V
  after_results

theorem blk2 (c : Dev nD) (t : Fin cfg0.N) (a : Fin 1024) (b : Fin 1024) :
    (iblk m c 2 t : S1024x1024.Idx → EReal) (ix2 a b) = r m c (ix2 ⟨t.val / 2 * 1024 + a.val, by have := lt t; omega⟩ b) := by
  have e := (index t).2.2.1
  refine (congrArg (V m c main_arg2) ?_).trans (argE m c _)
  refine (eq_ix2 ((win0_2.blk t).view.emb (ix2 a b))).trans (congrArg₂ ix2 (Fin.ext ?_) (Fin.ext ?_)) <;> blk_simp [e] <;> rfl

/-- The product, and what is added to it. -/
def out (m : (ℓ : Loc nD τ sig) → Buf (Elt Ideal) ℓ) (c : Dev nD) : S8192x1024.Idx → EReal := fun i =>
  (∑ k : Fin 3072, x m c (ix2 (i 0) k) * w m c (ix2 k (i 1))) + r m c (ix2 (i 0) (i 1))

theorem part_eq (c : Dev nD) (q : ℕ) (s : Fin 2) (h : 2 * q + s.val < cfg0.N) (hq : q < 8) (a : Fin 1024) (b : Fin 1024) :
    part m c (2 * q + s.val) h (ix2 a b) = ∑ k : Fin 1536,
      x m c (ix2 ⟨q * 1024 + a.val, by omega⟩ ⟨s.val * 1536 + k.val, by omega⟩) * w m c (ix2 ⟨s.val * 1536 + k.val, by omega⟩ b) := by
  refine (part_apply _ _ _ _).trans (Finset.sum_congr rfl fun k _ => ?_)
  refine (congrArg₂ (fun u v : EReal => u * v) (blk0 m c _ a k) (blk1 m c _ k b)).trans ?_
  have e1 : (2 * q + s.val) % 2 = s.val := by omega
  have e2 : (2 * q + s.val) / 2 = q := by omega
  simp only [e1, e2]

theorem emb (q : ℕ) (hn : 2 * q + 1 < cfg0.N) (hq : q < 8) (a : Fin 1024) (b : Fin 1024) :
    (win0_3.blk ⟨2 * q + 1, hn⟩).view.emb (ix2 a b) = ix2 (⟨q * 1024 + a.val, by omega⟩ : Fin 8192) (b : Fin 1024) := by
  have e := (index ⟨_, hn⟩).2.2.2
  have e1 : (2 * q + 1) / 2 = q := by omega
  refine (eq_ix2 ((win0_3.blk ⟨_, hn⟩).view.emb (ix2 a b))).trans ?_
  refine congrArg₂ ix2 (Fin.ext ?_) (Fin.ext ?_) <;> blk_simp [e, e1] <;> rfl

/-- The array the call leaves. -/
theorem arr_eq (c : Dev nD) : (dats m 0 c).arrAt 3 cfg0.N = out m c := by
  refine (dats m 0 c).arrAt_eq_of_covers 3 _ (by decide +kernel) fun t hf y => ?_
  have hm : t.val % 2 = 1 := (flush0_3 t).mp hf
  blk_simp
  rw [after0_3]
  obtain ⟨a, b, rfl⟩ : ∃ (a : Fin 1024) (b : Fin 1024), y = ix2 a b := ⟨y 0, y 1, eq_ix2 y⟩
  obtain ⟨q, hq⟩ : ∃ q, t.val = 2 * q + 1 := ⟨t.val / 2, by omega⟩
  obtain ⟨n, hn⟩ := t
  obtain rfl : n = 2 * q + 1 := hq
  have hl : 2 * q + 1 < 16 := hn
  refine (fold m c q hn a b).trans ?_
  have hs := Cert.Tiles.sum_two 1536 (fun k : Fin 3072 => x m c (ix2 ⟨q * 1024 + a.val, by omega⟩ k) * w m c (ix2 k b))
    (fun s => part m c (2 * q + s.val) (show 2 * q + s.val < 16 by omega) (ix2 a b)) fun s => part_eq m c q s _ (by omega) a b
  have hr := blk2 m c ⟨2 * q + 1, hn⟩ a b
  have e1 : (2 * q + 1) / 2 = q := by omega
  simp only [e1] at hr
  refine Eq.trans ?_ ((congrArg₂ (fun u v : EReal => u + v) hs hr).trans ?_)
  · rfl
  · exact (congrArg (out m c) (emb q hn (by omega) a b)).symm

end Cert.FfnDownIdeal.Value

namespace Cert.FfnDownRefIdeal.Value
open Cert.FfnDownRefIdeal Cert.FfnDownRefIdeal.Gen Idealize.ShloMosaic Idealize.ShloMosaic.TcCoe Idealize.SL.Sem

/-- The reference's result at an index. -/
theorem out_apply (x : FVec Ideal S8192x3072 .f32) (w : FVec Ideal S3072x1024 .f32) (r : FVec Ideal S8192x1024 .f32) (i : S8192x1024.Idx) :
    (addf r (Host.dotGeneral dot_S8192x3072_S3072x1024_S8192x1024_1_0_0_1_n_n none x w)) i
      = (∑ k : Fin 3072, x (ix2 (i 0) k) * w (ix2 k (i 1))) + r (ix2 (i 0) (i 1)) := by
  pointwise
  refine (add_comm _ _).trans (congrArg (· + _) ?_)
  rfl

end Cert.FfnDownRefIdeal.Value

namespace Cert.Proof
open Idealize.ShloMosaic Idealize.ShloMosaic.TcCoe Idealize.SL.Sem

/-- Kernel and reference leave the same array. -/
theorem ffnDown : @Cert.algebraic_FfnDownIdeal_FfnDownRefIdeal Cert.FfnDownIdeal.Gen.facts Cert.FfnDownRefIdeal.Gen.facts := by
  unfold Cert.algebraic_FfnDownIdeal_FfnDownRefIdeal
  intro m g m' g' _ hargs
  refine ⟨fun c => Cert.FfnDownIdeal.Value.out m c, (θ_run _ _ _).mono (fun r h c => ?_) (Cert.FfnDownIdeal.Value.run_blocks m g),
    (θ_run _ _ _).mono (fun r h c => ?_) (Cert.FfnDownRefIdeal.Value.run m' g')⟩
  · exact ⟨(h c).1.trans (Cert.FfnDownIdeal.Value.arr_eq m c), (h c).2⟩
  · refine ⟨(h c).1.trans (funext fun j => (Cert.FfnDownRefIdeal.Value.out_apply _ _ _ j).trans ?_), (h c).2⟩
    rw [(hargs c).1, (hargs c).2.1, (hargs c).2.2]
    rfl

/-- The reference's frame: it leaves its arguments alone and has no semaphore. -/
theorem frame_FfnDownRef : @Cert.quiescent_FfnDownRefIdeal Cert.FfnDownRefIdeal.Gen.facts := by
  intro m g _
  refine (θ_run _ _ _).mono (fun r h => ⟨fun c => (h c).2, funext fun s => ?_⟩) (Cert.FfnDownRefIdeal.Value.run m g)
  exact ((by decide : ∀ sm : SemLoc Cert.FfnDownRefIdeal.sig, False) s.2).elim

end Cert.Proof
-- ==== Proof.FfnDownDxValue.lean ====
/-
  The gradient of the down projection in its input: the cotangent times the transposed weight.
-/
module

public import proofs.«01_k».proof.Defs
public import proofs.«01_k».proof.Proof.Tiles
public import proofs.«01_k».proof.Proof.Gen.FfnDownDxIdeal.Value
public import proofs.«01_k».proof.Proof.Gen.FfnDownDxRefIdeal.Run

@[expose] public section

set_option maxRecDepth 16384

noncomputable section

namespace Cert.FfnDownDxIdeal.Value

open Cert.FfnDownDxIdeal Cert.FfnDownDxIdeal.Gen Idealize.ShloMosaic Idealize.ShloMosaic.TcCoe Idealize.SL.Sem

/-- The product of a block of the one array with a block of the other. -/
theorem part_apply (x0 : Vec Ideal S1024x1024 .bf16) (x1 : Vec Ideal S1536x1024 .bf16) (a : Fin 1024) (b : Fin 1536) :
    k0_pay1 x0 x1 (ix2 a b) = (∑ k : Fin 1024, x0 (ix2 a k) * x1 (ix2 b k)) := by
  unfold k0_pay1
  pointwise
  refine (congrArg (· + _) Ideal.ofBits_zero_f32).trans ((zero_add _).trans ?_)
  refine Finset.sum_congr rfl fun k _ => ?_
  pointwise

variable (m : (ℓ : Loc nD τ sig) → Buf (Elt Ideal) ℓ)

/-- The blocks the windows stand at. -/
theorem index : ∀ t : Fin cfg0.N, win0_0.index t = ![t.val / 2, 0] ∧ win0_1.index t = ![t.val % 2, 0] ∧ win0_2.index t = ![t.val / 2, t.val % 2] :=
  (by decide +kernel : ∀ t : Fin grid0.N, _)

/-- The arrays the call is given. -/
abbrev x (m : (ℓ : Loc nD τ sig) → Buf (Elt Ideal) ℓ) (c : Dev nD) : S8192x1024.Idx → EReal := m (c, main_arg1)

@[inherit_doc x]
abbrev w (m : (ℓ : Loc nD τ sig) → Buf (Elt Ideal) ℓ) (c : Dev nD) : S3072x1024.Idx → EReal := m (c, main_arg0)

theorem lt (t : Fin cfg0.N) : t.val < 16 := t.isLt

theorem argL (c : Dev nD) (i : S8192x1024.Idx) : (V m c main_v0 : S8192x1024.Idx → EReal) i = x m c i := by
  unfold V
  after_results
  rfl

theorem argR (c : Dev nD) (i : S3072x1024.Idx) : (V m c main_v1 : S3072x1024.Idx → EReal) i = w m c i := by
  unfold V
  after_results
  rfl

theorem blk0 (c : Dev nD) (t : Fin cfg0.N) (a : Fin 1024) (k : Fin 1024) :
    (iblk m c 0 t : S1024x1024.Idx → EReal) (ix2 a k) = x m c (ix2 ⟨t.val / 2 * 1024 + a.val, by have := lt t; omega⟩ k) := by
  have e := (index t).1
  refine (congrArg (V m c main_v0) ?_).trans (argL m c _)
  refine (eq_ix2 ((win0_0.blk t).view.emb (ix2 a k))).trans (congrArg₂ ix2 (Fin.ext ?_) (Fin.ext ?_)) <;> blk_simp [e] <;> rfl

theorem blk1 (c : Dev nD) (t : Fin cfg0.N) (b : Fin 1536) (k : Fin 1024) :
    (iblk m c 1 t : S1536x1024.Idx → EReal) (ix2 b k) = w m c (ix2 ⟨t.val % 2 * 1536 + b.val, by have := lt t; omega⟩ k) := by
  have e := (index t).2.1
  refine (congrArg (V m c main_v1) ?_).trans (argR m c _)
  refine (eq_ix2 ((win0_1.blk t).view.emb (ix2 b k))).trans (congrArg₂ ix2 (Fin.ext ?_) (Fin.ext ?_)) <;> blk_simp [e] <;> rfl

/-- The product. -/
def out (m : (ℓ : Loc nD τ sig) → Buf (Elt Ideal) ℓ) (c : Dev nD) : S8192x3072.Idx → EReal := fun i =>
  (∑ k : Fin 1024, x m c (ix2 (i 0) k) * w m c (ix2 (i 1) k))

theorem emb (q : ℕ) (hn : q < cfg0.N) (hq : q < 16) (a : Fin 1024) (b : Fin 1536) :
    (win0_2.blk ⟨q, hn⟩).view.emb (ix2 a b) = ix2 (⟨q / 2 * 1024 + a.val, by omega⟩ : Fin 8192) (⟨q % 2 * 1536 + b.val, by omega⟩ : Fin 3072) := by
  have e := (index ⟨_, hn⟩).2.2
  refine (eq_ix2 ((win0_2.blk ⟨_, hn⟩).view.emb (ix2 a b))).trans ?_
  refine congrArg₂ ix2 (Fin.ext ?_) (Fin.ext ?_) <;> blk_simp [e] <;> rfl

/-- The array the call leaves. -/
theorem arr_eq (c : Dev nD) : (dats m 0 c).arrAt 2 cfg0.N = out m c := by
  refine (dats m 0 c).arrAt_eq_of_covers 2 _ (by decide +kernel) fun t hf y => ?_
  blk_simp
  rw [after0_2]
  obtain ⟨a, b, rfl⟩ : ∃ (a : Fin 1024) (b : Fin 1536), y = ix2 a b := ⟨y 0, y 1, eq_ix2 y⟩
  obtain ⟨q, hn⟩ := t
  have hl : q < 16 := hn
  frame_out
  refine (part_apply _ _ a b).trans ?_
  refine Eq.trans ?_ (congrArg (out m c) (emb q hn hl a b)).symm
  exact Finset.sum_congr rfl fun k _ => congrArg₂ (fun u v : EReal => u * v) (blk0 m c _ a k) (blk1 m c _ b k)

end Cert.FfnDownDxIdeal.Value

namespace Cert.FfnDownDxRefIdeal.Value
open Cert.FfnDownDxRefIdeal Cert.FfnDownDxRefIdeal.Gen Idealize.ShloMosaic Idealize.ShloMosaic.TcCoe Idealize.SL.Sem

/-- The reference's result at an index. -/
theorem out_apply (w : FVec Ideal S3072x1024 .f32) (x : FVec Ideal S8192x1024 .f32) (i : S8192x3072.Idx) :
    (truncf .bf16 (Host.dotGeneral dot_S8192x1024_S3072x1024_S8192x3072_1_1_0_0_n_n none x w) bitsLt_bf16_f32) i
      = (∑ k : Fin 1024, x (ix2 (i 0) k) * w (ix2 (i 1) k)) := by
  pointwise
  rfl

end Cert.FfnDownDxRefIdeal.Value

namespace Cert.Proof
open Idealize.ShloMosaic Idealize.ShloMosaic.TcCoe Idealize.SL.Sem

/-- Kernel and reference leave the same array. -/
theorem ffnDownDx : @Cert.algebraic_FfnDownDxIdeal_FfnDownDxRefIdeal Cert.FfnDownDxIdeal.Gen.facts Cert.FfnDownDxRefIdeal.Gen.facts := by
  unfold Cert.algebraic_FfnDownDxIdeal_FfnDownDxRefIdeal
  intro m g m' g' _ hargs
  refine ⟨fun c => Cert.FfnDownDxIdeal.Value.out m c, (θ_run _ _ _).mono (fun r h c => ?_) (Cert.FfnDownDxIdeal.Value.run_blocks m g),
    (θ_run _ _ _).mono (fun r h c => ?_) (Cert.FfnDownDxRefIdeal.Value.run m' g')⟩
  · exact ⟨(h c).1.trans (Cert.FfnDownDxIdeal.Value.arr_eq m c), (h c).2⟩
  · refine ⟨(h c).1.trans (funext fun j => (Cert.FfnDownDxRefIdeal.Value.out_apply _ _ j).trans ?_), (h c).2⟩
    rw [(hargs c).1, (hargs c).2]
    rfl

/-- The reference's frame: it leaves its arguments alone and has no semaphore. -/
theorem frame_FfnDownDxRef : @Cert.quiescent_FfnDownDxRefIdeal Cert.FfnDownDxRefIdeal.Gen.facts := by
  intro m g _
  refine (θ_run _ _ _).mono (fun r h => ⟨fun c => (h c).2, funext fun s => ?_⟩) (Cert.FfnDownDxRefIdeal.Value.run m g)
  exact ((by decide : ∀ sm : SemLoc Cert.FfnDownDxRefIdeal.sig, False) s.2).elim

end Cert.Proof
-- ==== Proof.FfnDownDwValue.lean ====
/-
  The gradient of the down projection in its weight: the transposed input times the cotangent, the rows in four blocks.
-/
module

public import proofs.«01_k».proof.Defs
public import proofs.«01_k».proof.Proof.Tiles
public import proofs.«01_k».proof.Proof.Gen.FfnDownDwIdeal.Value
public import proofs.«01_k».proof.Proof.Gen.FfnDownDwRefIdeal.Run

@[expose] public section

set_option maxRecDepth 16384

noncomputable section

namespace Cert.FfnDownDwIdeal.Value

open Cert.FfnDownDwIdeal Cert.FfnDownDwIdeal.Gen Idealize.ShloMosaic Idealize.ShloMosaic.TcCoe Idealize.SL.Sem

/-- The product of a block of the one array with a block of the other. -/
theorem part_apply (x0 : Vec Ideal S2048x1024 .bf16) (x1 : Vec Ideal S2048x1024 .bf16) (a : Fin 1024) (b : Fin 1024) :
    k0_pay1 x0 x1 (ix2 a b) = (∑ k : Fin 2048, x0 (ix2 k a) * x1 (ix2 k b)) := by
  unfold k0_pay1
  pointwise
  refine (congrArg (· + _) Ideal.ofBits_zero_f32).trans ((zero_add _).trans ?_)
  refine Finset.sum_congr rfl fun k _ => ?_
  pointwise

variable (m : (ℓ : Loc nD τ sig) → Buf (Elt Ideal) ℓ)

/-- What grid point `n` adds. -/
def part (c : Dev nD) (n : ℕ) (hn : n < cfg0.N) (j : S1024x1024.Idx) : EReal :=
  k0_pay1 (F := Ideal) (iblk m c 0 ⟨n, hn⟩) (iblk m c 1 ⟨n, hn⟩) j

/-- The first point of a tile starts the sum. -/
theorem first (c : Dev nD) (t : Fin cfg0.N) (h0 : t.val % 4 = 0) (j : S1024x1024.Idx) :
    (outsAt0 m c t.val t.isLt).2 j = part m c t.val t.isLt j := by
  rw [outsAt0_A m c t h0 (by omega) (by omega)]
  frame_out
  unfold k0_pay2 part
  pointwise

/-- The points between add to it. -/
theorem next (c : Dev nD) (t : Fin cfg0.N) (h1 : 1 ≤ t.val % 4 ∧ t.val % 4 ≤ 2) (j : S1024x1024.Idx) :
    (outsAt0 m c t.val t.isLt).2 j
      = (outsAt0 m c (t.val - 1) (Nat.lt_of_le_of_lt (Nat.sub_le _ _) t.isLt)).2 j + part m c t.val t.isLt j := by
  rw [outsAt0_B m c t (by omega) h1 (by omega)]
  frame_out
  unfold k0_pay3 part
  pointwise
  rw [read_unread_whole]
  rfl

/-- The last adds to it and writes the tile. -/
theorem last (c : Dev nD) (t : Fin cfg0.N) (h2 : t.val % 4 = 3) (a : Fin 1024) (b : Fin 1024) :
    (outsAt0 m c t.val t.isLt).1 (ix2 a b)
      = (outsAt0 m c (t.val - 1) (Nat.lt_of_le_of_lt (Nat.sub_le _ _) t.isLt)).2 (ix2 a b) + part m c t.val t.isLt (ix2 a b) := by
  rw [outsAt0_C m c t (by omega) (by omega) h2]
  frame_out
  unfold k0_pay4 part
  pointwise
  rw [read_unread_whole]
  rfl

/-- What is written back after the four points of a tile. -/
theorem fold (c : Dev nD) (q : ℕ) (hq : 4 * q + 3 < cfg0.N) (a : Fin 1024) (b : Fin 1024) :
    (outsAt0 m c (4 * q + 3) hq).1 (ix2 a b) = part m c (4 * q) (by omega) (ix2 a b) + part m c (4 * q + 1) (by omega) (ix2 a b) + part m c (4 * q + 2) (by omega) (ix2 a b) + part m c (4 * q + 3) hq (ix2 a b) :=
  (last m c ⟨4 * q + 3, hq⟩ (by show (4 * q + 3) % 4 = 3; omega) a b).trans (congrArg (fun z : EReal => z + _)
    ((next m c ⟨4 * q + 2, by omega⟩ (by show 1 ≤ (4 * q + 2) % 4 ∧ (4 * q + 2) % 4 ≤ 2; omega) _).trans (congrArg (· + _)
    ((next m c ⟨4 * q + 1, by omega⟩ (by show 1 ≤ (4 * q + 1) % 4 ∧ (4 * q + 1) % 4 ≤ 2; omega) _).trans (congrArg (· + _)
    (first m c ⟨4 * q, by omega⟩ (by show 4 * q % 4 = 0; omega) _))))))

/-- The blocks the windows stand at. -/
theorem index : ∀ t : Fin cfg0.N, win0_0.index t = ![t.val % 4, t.val / 4] ∧ win0_1.index t = ![t.val % 4, 0] ∧ win0_2.index t = ![t.val / 4, 0] :=
  (by decide +kernel : ∀ t : Fin grid0.N, _)

/-- The arrays the call is given. -/
abbrev x (m : (ℓ : Loc nD τ sig) → Buf (Elt Ideal) ℓ) (c : Dev nD) : S8192x3072.Idx → EReal := m (c, main_arg0)

@[inherit_doc x]
abbrev w (m : (ℓ : Loc nD τ sig) → Buf (Elt Ideal) ℓ) (c : Dev nD) : S8192x1024.Idx → EReal := m (c, main_arg1)

theorem lt (t : Fin cfg0.N) : t.val < 12 := t.isLt

theorem argL (c : Dev nD) (i : S8192x3072.Idx) : (V m c main_v0 : S8192x3072.Idx → EReal) i = x m c i := by
  unfold V
  after_results
  rfl

theorem argR (c : Dev nD) (i : S8192x1024.Idx) : (V m c main_v1 : S8192x1024.Idx → EReal) i = w m c i := by
  unfold V
  after_results
  rfl

theorem blk0 (c : Dev nD) (t : Fin cfg0.N) (k : Fin 2048) (a : Fin 1024) :
    (iblk m c 0 t : S2048x1024.Idx → EReal) (ix2 k a) = x m c (ix2 ⟨t.val % 4 * 2048 + k.val, by have := lt t; omega⟩ ⟨t.val / 4 * 1024 + a.val, by have := lt t; omega⟩) := by
  have e := (index t).1
  refine (congrArg (V m c main_v0) ?_).trans (argL m c _)
  refine (eq_ix2 ((win0_0.blk t).view.emb (ix2 k a))).trans (congrArg₂ ix2 (Fin.ext ?_) (Fin.ext ?_)) <;> blk_simp [e] <;> rfl

theorem blk1 (c : Dev nD) (t : Fin cfg0.N) (k : Fin 2048) (b : Fin 1024) :
    (iblk m c 1 t : S2048x1024.Idx → EReal) (ix2 k b) = w m c (ix2 ⟨t.val % 4 * 2048 + k.val, by have := lt t; omega⟩ b) := by
  have e := (index t).2.1
  refine (congrArg (V m c main_v1) ?_).trans (argR m c _)
  refine (eq_ix2 ((win0_1.blk t).view.emb (ix2 k b))).trans (congrArg₂ ix2 (Fin.ext ?_) (Fin.ext ?_)) <;> blk_simp [e] <;> rfl

/-- The product. -/
def out (m : (ℓ : Loc nD τ sig) → Buf (Elt Ideal) ℓ) (c : Dev nD) : S3072x1024.Idx → EReal := fun i =>
  (∑ k : Fin 8192, x m c (ix2 k (i 0)) * w m c (ix2 k (i 1)))

theorem part_eq (c : Dev nD) (q : ℕ) (s : Fin 4) (h : 4 * q + s.val < cfg0.N) (hq : q < 3) (a : Fin 1024) (b : Fin 1024) :
    part m c (4 * q + s.val) h (ix2 a b) = ∑ k : Fin 2048,
      x m c (ix2 ⟨s.val * 2048 + k.val, by omega⟩ ⟨q * 1024 + a.val, by omega⟩) * w m c (ix2 ⟨s.val * 2048 + k.val, by omega⟩ b) := by
  refine (part_apply _ _ _ _).trans (Finset.sum_congr rfl fun k _ => ?_)
  refine (congrArg₂ (fun u v : EReal => u * v) (blk0 m c _ k a) (blk1 m c _ k b)).trans ?_
  have e1 : (4 * q + s.val) % 4 = s.val := by omega
  have e2 : (4 * q + s.val) / 4 = q := by omega
  simp only [e1, e2]

theorem emb (q : ℕ) (hn : 4 * q + 3 < cfg0.N) (hq : q < 3) (a : Fin 1024) (b : Fin 1024) :
    (win0_2.blk ⟨4 * q + 3, hn⟩).view.emb (ix2 a b) = ix2 (⟨q * 1024 + a.val, by omega⟩ : Fin 3072) (b : Fin 1024) := by
  have e := (index ⟨_, hn⟩).2.2
  have e1 : (4 * q + 3) / 4 = q := by omega
  refine (eq_ix2 ((win0_2.blk ⟨_, hn⟩).view.emb (ix2 a b))).trans ?_
  refine congrArg₂ ix2 (Fin.ext ?_) (Fin.ext ?_) <;> blk_simp [e, e1] <;> rfl

/-- The array the call leaves. -/
theorem arr_eq (c : Dev nD) : (dats m 0 c).arrAt 2 cfg0.N = out m c := by
  refine (dats m 0 c).arrAt_eq_of_covers 2 _ (by decide +kernel) fun t hf y => ?_
  have hm : t.val % 4 = 3 := (flush0_2 t).mp hf
  blk_simp
  rw [after0_2]
  obtain ⟨a, b, rfl⟩ : ∃ (a : Fin 1024) (b : Fin 1024), y = ix2 a b := ⟨y 0, y 1, eq_ix2 y⟩
  obtain ⟨q, hq⟩ : ∃ q, t.val = 4 * q + 3 := ⟨t.val / 4, by omega⟩
  obtain ⟨n, hn⟩ := t
  obtain rfl : n = 4 * q + 3 := hq
  have hl : 4 * q + 3 < 12 := hn
  refine (fold m c q hn a b).trans ?_
  have hs := Cert.Tiles.sum_four 2048 (fun k : Fin 8192 => x m c (ix2 k ⟨q * 1024 + a.val, by omega⟩) * w m c (ix2 k b))
    (fun s => part m c (4 * q + s.val) (show 4 * q + s.val < 12 by omega) (ix2 a b)) fun s => part_eq m c q s _ (by omega) a b
  refine Eq.trans ?_ (hs.trans ?_)
  · rfl
  · exact (congrArg (out m c) (emb q hn (by omega) a b)).symm

end Cert.FfnDownDwIdeal.Value

namespace Cert.FfnDownDwRefIdeal.Value
open Cert.FfnDownDwRefIdeal Cert.FfnDownDwRefIdeal.Gen Idealize.ShloMosaic Idealize.ShloMosaic.TcCoe Idealize.SL.Sem

/-- The reference's result at an index. -/
theorem out_apply (x : FVec Ideal S8192x3072 .f32) (w : FVec Ideal S8192x1024 .f32) (i : S3072x1024.Idx) :
    (truncf .bf16 (transpose S3072x1024 [1, 0] (Host.dotGeneral dot_S8192x1024_S8192x3072_S1024x3072_0_0_1_1_n_n none w x) transposes_S1024x3072_S3072x1024_1_0) bitsLt_bf16_f32) i
      = (∑ k : Fin 8192, x (ix2 k (i 0)) * w (ix2 k (i 1))) := by
  pointwise
  exact Finset.sum_congr rfl fun k _ => mul_comm _ _

end Cert.FfnDownDwRefIdeal.Value

namespace Cert.Proof
open Idealize.ShloMosaic Idealize.ShloMosaic.TcCoe Idealize.SL.Sem

/-- Kernel and reference leave the same array. -/
theorem ffnDownDw : @Cert.algebraic_FfnDownDwIdeal_FfnDownDwRefIdeal Cert.FfnDownDwIdeal.Gen.facts Cert.FfnDownDwRefIdeal.Gen.facts := by
  unfold Cert.algebraic_FfnDownDwIdeal_FfnDownDwRefIdeal
  intro m g m' g' _ hargs
  refine ⟨fun c => Cert.FfnDownDwIdeal.Value.out m c, (θ_run _ _ _).mono (fun r h c => ?_) (Cert.FfnDownDwIdeal.Value.run_blocks m g),
    (θ_run _ _ _).mono (fun r h c => ?_) (Cert.FfnDownDwRefIdeal.Value.run m' g')⟩
  · exact ⟨(h c).1.trans (Cert.FfnDownDwIdeal.Value.arr_eq m c), (h c).2⟩
  · refine ⟨(h c).1.trans (funext fun j => (Cert.FfnDownDwRefIdeal.Value.out_apply _ _ j).trans ?_), (h c).2⟩
    rw [(hargs c).1, (hargs c).2]
    rfl

/-- The reference's frame: it leaves its arguments alone and has no semaphore. -/
theorem frame_FfnDownDwRef : @Cert.quiescent_FfnDownDwRefIdeal Cert.FfnDownDwRefIdeal.Gen.facts := by
  intro m g _
  refine (θ_run _ _ _).mono (fun r h => ⟨fun c => (h c).2, funext fun s => ?_⟩) (Cert.FfnDownDwRefIdeal.Value.run m g)
  exact ((by decide : ∀ sm : SemLoc Cert.FfnDownDwRefIdeal.sig, False) s.2).elim

end Cert.Proof
-- ==== Proof.FfnUpDxValue.lean ====
/-
  The gradient of the up projection in its input: the cotangent times the transposed weight, a block of columns for each chip.
-/
module

public import proofs.«01_k».proof.Defs
public import proofs.«01_k».proof.Proof.Tiles
public import proofs.«01_k».proof.Proof.Gen.FfnUpDxIdeal.Value
public import proofs.«01_k».proof.Proof.Gen.FfnUpDxRefIdeal.Run

@[expose] public section

set_option maxRecDepth 16384

noncomputable section

namespace Cert.FfnUpDxIdeal.Value

open Cert.FfnUpDxIdeal Cert.FfnUpDxIdeal.Gen Idealize.ShloMosaic Idealize.ShloMosaic.TcCoe Idealize.SL.Sem

/-- The product of a block of the one array with a block of the other. -/
theorem part_apply (x0 : Vec Ideal S1024x1536 .bf16) (x1 : Vec Ideal S1x1x1024x1536 .bf16) (a : Fin 1024) (b : Fin 1024) :
    k0_pay1 x0 x1 (ix2 a b) = (∑ k : Fin 1536, x0 (ix2 a k) * x1 (ix4 0 0 b k)) := by
  unfold k0_pay1
  pointwise
  refine (congrArg (· + _) Ideal.ofBits_zero_f32).trans ((zero_add _).trans ?_)
  refine Finset.sum_congr rfl fun k _ => ?_
  pointwise

variable (m : (ℓ : Loc nD τ sig) → Buf (Elt Ideal) ℓ)

/-- What grid point `n` adds. -/
def part (c : Dev nD) (n : ℕ) (hn : n < cfg0.N) (j : S1024x1024.Idx) : EReal :=
  k0_pay1 (F := Ideal) (iblk m c 0 ⟨n, hn⟩) (iblk m c 1 ⟨n, hn⟩) j

/-- The first point of a tile starts the sum. -/
theorem first (c : Dev nD) (t : Fin cfg0.N) (h0 : t.val % 4 = 0) (j : S1024x1024.Idx) :
    (outsAt0 m c t.val t.isLt).2 j = part m c t.val t.isLt j := by
  rw [outsAt0_A m c t h0 (by omega) (by omega)]
  frame_out
  unfold k0_pay2 part
  pointwise

/-- The points between add to it. -/
theorem next (c : Dev nD) (t : Fin cfg0.N) (h1 : 1 ≤ t.val % 4 ∧ t.val % 4 ≤ 2) (j : S1024x1024.Idx) :
    (outsAt0 m c t.val t.isLt).2 j
      = (outsAt0 m c (t.val - 1) (Nat.lt_of_le_of_lt (Nat.sub_le _ _) t.isLt)).2 j + part m c t.val t.isLt j := by
  rw [outsAt0_B m c t (by omega) h1 (by omega)]
  frame_out
  unfold k0_pay3 part
  pointwise
  rw [read_unread_whole]
  rfl

/-- The last adds to it and writes the tile. -/
theorem last (c : Dev nD) (t : Fin cfg0.N) (h2 : t.val % 4 = 3) (a : Fin 1024) (b : Fin 1024) :
    (outsAt0 m c t.val t.isLt).1 (ix2 a b)
      = (outsAt0 m c (t.val - 1) (Nat.lt_of_le_of_lt (Nat.sub_le _ _) t.isLt)).2 (ix2 a b) + part m c t.val t.isLt (ix2 a b) := by
  rw [outsAt0_C m c t (by omega) (by omega) h2]
  frame_out
  unfold k0_pay4 part
  pointwise
  rw [read_unread_whole]
  rfl

/-- What is written back after the four points of a tile. -/
theorem fold (c : Dev nD) (q : ℕ) (hq : 4 * q + 3 < cfg0.N) (a : Fin 1024) (b : Fin 1024) :
    (outsAt0 m c (4 * q + 3) hq).1 (ix2 a b) = part m c (4 * q) (by omega) (ix2 a b) + part m c (4 * q + 1) (by omega) (ix2 a b) + part m c (4 * q + 2) (by omega) (ix2 a b) + part m c (4 * q + 3) hq (ix2 a b) :=
  (last m c ⟨4 * q + 3, hq⟩ (by show (4 * q + 3) % 4 = 3; omega) a b).trans (congrArg (fun z : EReal => z + _)
    ((next m c ⟨4 * q + 2, by omega⟩ (by show 1 ≤ (4 * q + 2) % 4 ∧ (4 * q + 2) % 4 ≤ 2; omega) _).trans (congrArg (· + _)
    ((next m c ⟨4 * q + 1, by omega⟩ (by show 1 ≤ (4 * q + 1) % 4 ∧ (4 * q + 1) % 4 ≤ 2; omega) _).trans (congrArg (· + _)
    (first m c ⟨4 * q, by omega⟩ (by show 4 * q % 4 = 0; omega) _))))))

/-- The blocks the windows stand at. -/
theorem index : ∀ t : Fin cfg0.N, win0_0.index t = ![t.val / 4, t.val % 4] ∧ win0_1.index t = ![t.val % 4, 0, 0, 0] ∧ win0_2.index t = ![t.val / 4, 0] :=
  (by decide +kernel : ∀ t : Fin grid0.N, _)

/-- The arrays the call is given. -/
abbrev x (m : (ℓ : Loc nD τ sig) → Buf (Elt Ideal) ℓ) (c : Dev nD) : S8192x6144.Idx → EReal := m (c, main_arg1)

@[inherit_doc x]
abbrev w (m : (ℓ : Loc nD τ sig) → Buf (Elt Ideal) ℓ) (c : Dev nD) : S2x1024x6144.Idx → EReal := m (c, main_arg0)

theorem lt (t : Fin cfg0.N) : t.val < 32 := t.isLt

theorem argL (c : Dev nD) (i : S8192x6144.Idx) : (V m c main_v0 : S8192x6144.Idx → EReal) i = x m c i := by
  unfold V
  after_results
  rfl

theorem argR (c : Dev nD) (s : Fin 4) (l : Fin 2) (r : Fin 1024) (k : Fin 1536) :
    (V m c main_v3 : S4x2x1024x1536.Idx → EReal) (ix4 s l r k) = w m c (ix3 l r ⟨s.val * 1536 + k.val, by omega⟩) := by
  unfold V
  after_results
  pointwise
  rfl

theorem blk0 (c : Dev nD) (t : Fin cfg0.N) (a : Fin 1024) (k : Fin 1536) :
    (iblk m c 0 t : S1024x1536.Idx → EReal) (ix2 a k) = x m c (ix2 ⟨t.val / 4 * 1024 + a.val, by have := lt t; omega⟩ ⟨t.val % 4 * 1536 + k.val, by have := lt t; omega⟩) := by
  have e := (index t).1
  refine (congrArg (V m c main_v0) ?_).trans (argL m c _)
  refine (eq_ix2 ((win0_0.blk t).view.emb (ix2 a k))).trans (congrArg₂ ix2 (Fin.ext ?_) (Fin.ext ?_)) <;> blk_simp [e] <;> rfl

theorem blk1 (c : Dev nD) (t : Fin cfg0.N) (b : Fin 1024) (k : Fin 1536) :
    (iblk m c 1 t : S1x1x1024x1536.Idx → EReal) (ix4 0 0 b k) = w m c (ix3 0 b ⟨t.val % 4 * 1536 + k.val, by have := lt t; omega⟩) := by
  have e := (index t).2.1
  refine (congrArg (V m c main_v3) ?_).trans (argR m c ⟨t.val % 4, by have := lt t; omega⟩ 0 b k)
  refine (eq_ix4 ((win0_1.blk t).view.emb (ix4 0 0 b k))).trans ?_
  congr 1 <;> refine Fin.ext ?_ <;> blk_simp [e] <;> rfl

/-- The product. -/
def out (m : (ℓ : Loc nD τ sig) → Buf (Elt Ideal) ℓ) (c : Dev nD) : S8192x1024.Idx → EReal := fun i =>
  (∑ k : Fin 6144, x m c (ix2 (i 0) k) * w m c (ix3 0 (i 1) k))

theorem part_eq (c : Dev nD) (q : ℕ) (s : Fin 4) (h : 4 * q + s.val < cfg0.N) (hq : q < 8) (a : Fin 1024) (b : Fin 1024) :
    part m c (4 * q + s.val) h (ix2 a b) = ∑ k : Fin 1536,
      x m c (ix2 ⟨q * 1024 + a.val, by omega⟩ ⟨s.val * 1536 + k.val, by omega⟩) * w m c (ix3 0 b ⟨s.val * 1536 + k.val, by omega⟩) := by
  refine (part_apply _ _ _ _).trans (Finset.sum_congr rfl fun k _ => ?_)
  refine (congrArg₂ (fun u v : EReal => u * v) (blk0 m c _ a k) (blk1 m c _ b k)).trans ?_
  have e1 : (4 * q + s.val) % 4 = s.val := by omega
  have e2 : (4 * q + s.val) / 4 = q := by omega
  simp only [e1, e2]

theorem emb (q : ℕ) (hn : 4 * q + 3 < cfg0.N) (hq : q < 8) (a : Fin 1024) (b : Fin 1024) :
    (win0_2.blk ⟨4 * q + 3, hn⟩).view.emb (ix2 a b) = ix2 (⟨q * 1024 + a.val, by omega⟩ : Fin 8192) (b : Fin 1024) := by
  have e := (index ⟨_, hn⟩).2.2
  have e1 : (4 * q + 3) / 4 = q := by omega
  refine (eq_ix2 ((win0_2.blk ⟨_, hn⟩).view.emb (ix2 a b))).trans ?_
  refine congrArg₂ ix2 (Fin.ext ?_) (Fin.ext ?_) <;> blk_simp [e, e1] <;> rfl

/-- The array the call leaves. -/
theorem arr_eq (c : Dev nD) : (dats m 0 c).arrAt 2 cfg0.N = out m c := by
  refine (dats m 0 c).arrAt_eq_of_covers 2 _ (by decide +kernel) fun t hf y => ?_
  have hm : t.val % 4 = 3 := (flush0_2 t).mp hf
  blk_simp
  rw [after0_2]
  obtain ⟨a, b, rfl⟩ : ∃ (a : Fin 1024) (b : Fin 1024), y = ix2 a b := ⟨y 0, y 1, eq_ix2 y⟩
  obtain ⟨q, hq⟩ : ∃ q, t.val = 4 * q + 3 := ⟨t.val / 4, by omega⟩
  obtain ⟨n, hn⟩ := t
  obtain rfl : n = 4 * q + 3 := hq
  have hl : 4 * q + 3 < 32 := hn
  refine (fold m c q hn a b).trans ?_
  have hs := Cert.Tiles.sum_four 1536 (fun k : Fin 6144 => x m c (ix2 ⟨q * 1024 + a.val, by omega⟩ k) * w m c (ix3 0 b k))
    (fun s => part m c (4 * q + s.val) (show 4 * q + s.val < 32 by omega) (ix2 a b)) fun s => part_eq m c q s _ (by omega) a b
  refine Eq.trans ?_ (hs.trans ?_)
  · rfl
  · exact (congrArg (out m c) (emb q hn (by omega) a b)).symm

end Cert.FfnUpDxIdeal.Value

namespace Cert.FfnUpDxRefIdeal.Value
open Cert.FfnUpDxRefIdeal Cert.FfnUpDxRefIdeal.Gen Idealize.ShloMosaic Idealize.ShloMosaic.TcCoe Idealize.SL.Sem

/-- The reference's result at an index. -/
theorem out_apply (w : FVec Ideal S2x1024x6144 .f32) (x : FVec Ideal S8192x6144 .f32) (i : S8192x1024.Idx) :
    (Host.dotGeneral dot_S8192x6144_S1024x6144_S8192x1024_1_1_0_0_n_n none x (shapeCast _ (extractStridedSlice S1x1024x6144 ![0, 0, 0] w slices_S2x1024x6144_S1x1024x6144_0_0_0) shapeCasts_S1x1024x6144_S1024x6144)) i
      = (∑ k : Fin 6144, x (ix2 (i 0) k) * w (ix3 0 (i 1) k)) := by
  pointwise

end Cert.FfnUpDxRefIdeal.Value

namespace Cert.Proof
open Idealize.ShloMosaic Idealize.ShloMosaic.TcCoe Idealize.SL.Sem

/-- Kernel and reference leave the same array. -/
theorem ffnUpDx : @Cert.algebraic_FfnUpDxIdeal_FfnUpDxRefIdeal Cert.FfnUpDxIdeal.Gen.facts Cert.FfnUpDxRefIdeal.Gen.facts := by
  unfold Cert.algebraic_FfnUpDxIdeal_FfnUpDxRefIdeal
  intro m g m' g' _ hargs
  refine ⟨fun c => Cert.FfnUpDxIdeal.Value.out m c, (θ_run _ _ _).mono (fun r h c => ?_) (Cert.FfnUpDxIdeal.Value.run_blocks m g),
    (θ_run _ _ _).mono (fun r h c => ?_) (Cert.FfnUpDxRefIdeal.Value.run m' g')⟩
  · exact ⟨(h c).1.trans (Cert.FfnUpDxIdeal.Value.arr_eq m c), (h c).2⟩
  · refine ⟨(h c).1.trans (funext fun j => (Cert.FfnUpDxRefIdeal.Value.out_apply _ _ j).trans ?_), (h c).2⟩
    rw [(hargs c).1, (hargs c).2]
    rfl

/-- The reference's frame: it leaves its arguments alone and has no semaphore. -/
theorem frame_FfnUpDxRef : @Cert.quiescent_FfnUpDxRefIdeal Cert.FfnUpDxRefIdeal.Gen.facts := by
  intro m g _
  refine (θ_run _ _ _).mono (fun r h => ⟨fun c => (h c).2, funext fun s => ?_⟩) (Cert.FfnUpDxRefIdeal.Value.run m g)
  exact ((by decide : ∀ sm : SemLoc Cert.FfnUpDxRefIdeal.sig, False) s.2).elim

end Cert.Proof
-- ==== Proof.FfnUp1Value.lean ====
/-
  The up projection of the second layer: rows times layer 1 of the weight, the columns in four blocks, one for each chip.
-/
module

public import proofs.«01_k».proof.Defs
public import proofs.«01_k».proof.Proof.Tiles
public import proofs.«01_k».proof.Proof.Gen.FfnUp1Ideal.Value
public import proofs.«01_k».proof.Proof.Gen.FfnUp1RefIdeal.Run

@[expose] public section

set_option maxRecDepth 16384

noncomputable section

namespace Cert.FfnUp1Ideal.Value

open Cert.FfnUp1Ideal Cert.FfnUp1Ideal.Gen Idealize.ShloMosaic Idealize.ShloMosaic.TcCoe Idealize.SL.Sem

/-- The product of a block of the one array with a block of the other. -/
theorem part_apply (x0 : Vec Ideal S1024x1024 .bf16) (x1 : Vec Ideal S1x1x1024x1536 .bf16) (a : Fin 1024) (b : Fin 1536) :
    k0_pay1 x0 x1 (ix2 a b) = (∑ k : Fin 1024, x0 (ix2 a k) * x1 (ix4 0 0 k b)) := by
  unfold k0_pay1
  pointwise
  refine (congrArg (· + _) Ideal.ofBits_zero_f32).trans ((zero_add _).trans ?_)
  refine Finset.sum_congr rfl fun k _ => ?_
  pointwise

variable (m : (ℓ : Loc nD τ sig) → Buf (Elt Ideal) ℓ)

/-- The blocks the windows stand at. -/
theorem index : ∀ t : Fin cfg0.N, win0_0.index t = ![t.val / 4, 0] ∧ win0_1.index t = ![t.val % 4, 1, 0, 0] ∧ win0_2.index t = ![t.val / 4, t.val % 4] :=
  (by decide +kernel : ∀ t : Fin grid0.N, _)

/-- The arrays the call is given. -/
abbrev x (m : (ℓ : Loc nD τ sig) → Buf (Elt Ideal) ℓ) (c : Dev nD) : S8192x1024.Idx → EReal := m (c, main_arg0)

@[inherit_doc x]
abbrev w (m : (ℓ : Loc nD τ sig) → Buf (Elt Ideal) ℓ) (c : Dev nD) : S2x1024x6144.Idx → EReal := m (c, main_arg1)

theorem lt (t : Fin cfg0.N) : t.val < 32 := t.isLt

theorem argL (c : Dev nD) (i : S8192x1024.Idx) : (V m c main_v0 : S8192x1024.Idx → EReal) i = x m c i := by
  unfold V
  after_results
  rfl

theorem argR (c : Dev nD) (s : Fin 4) (l : Fin 2) (r : Fin 1024) (k : Fin 1536) :
    (V m c main_v3 : S4x2x1024x1536.Idx → EReal) (ix4 s l r k) = w m c (ix3 l r ⟨s.val * 1536 + k.val, by omega⟩) := by
  unfold V
  after_results
  pointwise
  rfl

theorem blk0 (c : Dev nD) (t : Fin cfg0.N) (a : Fin 1024) (k : Fin 1024) :
    (iblk m c 0 t : S1024x1024.Idx → EReal) (ix2 a k) = x m c (ix2 ⟨t.val / 4 * 1024 + a.val, by have := lt t; omega⟩ k) := by
  have e := (index t).1
  refine (congrArg (V m c main_v0) ?_).trans (argL m c _)
  refine (eq_ix2 ((win0_0.blk t).view.emb (ix2 a k))).trans (congrArg₂ ix2 (Fin.ext ?_) (Fin.ext ?_)) <;> blk_simp [e] <;> rfl

theorem blk1 (c : Dev nD) (t : Fin cfg0.N) (k : Fin 1024) (b : Fin 1536) :
    (iblk m c 1 t : S1x1x1024x1536.Idx → EReal) (ix4 0 0 k b) = w m c (ix3 1 k ⟨t.val % 4 * 1536 + b.val, by have := lt t; omega⟩) := by
  have e := (index t).2.1
  refine (congrArg (V m c main_v3) ?_).trans (argR m c ⟨t.val % 4, by have := lt t; omega⟩ 1 k b)
  refine (eq_ix4 ((win0_1.blk t).view.emb (ix4 0 0 k b))).trans ?_
  congr 1 <;> refine Fin.ext ?_ <;> blk_simp [e] <;> rfl

/-- The product. -/
def out (m : (ℓ : Loc nD τ sig) → Buf (Elt Ideal) ℓ) (c : Dev nD) : S8192x6144.Idx → EReal := fun i =>
  (∑ k : Fin 1024, x m c (ix2 (i 0) k) * w m c (ix3 1 k (i 1)))

theorem emb (q : ℕ) (hn : q < cfg0.N) (hq : q < 32) (a : Fin 1024) (b : Fin 1536) :
    (win0_2.blk ⟨q, hn⟩).view.emb (ix2 a b) = ix2 (⟨q / 4 * 1024 + a.val, by omega⟩ : Fin 8192) (⟨q % 4 * 1536 + b.val, by omega⟩ : Fin 6144) := by
  have e := (index ⟨_, hn⟩).2.2
  refine (eq_ix2 ((win0_2.blk ⟨_, hn⟩).view.emb (ix2 a b))).trans ?_
  refine congrArg₂ ix2 (Fin.ext ?_) (Fin.ext ?_) <;> blk_simp [e] <;> rfl

/-- The array the call leaves. -/
theorem arr_eq (c : Dev nD) : (dats m 0 c).arrAt 2 cfg0.N = out m c := by
  refine (dats m 0 c).arrAt_eq_of_covers 2 _ (by decide +kernel) fun t hf y => ?_
  blk_simp
  rw [after0_2]
  obtain ⟨a, b, rfl⟩ : ∃ (a : Fin 1024) (b : Fin 1536), y = ix2 a b := ⟨y 0, y 1, eq_ix2 y⟩
  obtain ⟨q, hn⟩ := t
  have hl : q < 32 := hn
  frame_out
  refine (part_apply _ _ a b).trans ?_
  refine Eq.trans ?_ (congrArg (out m c) (emb q hn hl a b)).symm
  exact Finset.sum_congr rfl fun k _ => congrArg₂ (fun u v : EReal => u * v) (blk0 m c _ a k) (blk1 m c _ k b)

end Cert.FfnUp1Ideal.Value

namespace Cert.FfnUp1RefIdeal.Value
open Cert.FfnUp1RefIdeal Cert.FfnUp1RefIdeal.Gen Idealize.ShloMosaic Idealize.ShloMosaic.TcCoe Idealize.SL.Sem

/-- The reference's result at an index. -/
theorem out_apply (x : FVec Ideal S8192x1024 .f32) (w : FVec Ideal S2x1024x6144 .f32) (i : S8192x6144.Idx) :
    (truncf .bf16 (Host.dotGeneral dot_S8192x1024_S1024x6144_S8192x6144_1_0_0_1_n_n none x (shapeCast _ (extractStridedSlice S1x1024x6144 ![1, 0, 0] w slices_S2x1024x6144_S1x1024x6144_1_0_0) shapeCasts_S1x1024x6144_S1024x6144)) bitsLt_bf16_f32) i
      = (∑ k : Fin 1024, x (ix2 (i 0) k) * w (ix3 1 k (i 1))) := by
  pointwise
  first | done | rfl

end Cert.FfnUp1RefIdeal.Value

namespace Cert.Proof
open Idealize.ShloMosaic Idealize.ShloMosaic.TcCoe Idealize.SL.Sem

/-- Kernel and reference leave the same array. -/
theorem ffnUp1 : @Cert.algebraic_FfnUp1Ideal_FfnUp1RefIdeal Cert.FfnUp1Ideal.Gen.facts Cert.FfnUp1RefIdeal.Gen.facts := by
  unfold Cert.algebraic_FfnUp1Ideal_FfnUp1RefIdeal
  intro m g m' g' _ hargs
  refine ⟨fun c => Cert.FfnUp1Ideal.Value.out m c, (θ_run _ _ _).mono (fun r h c => ?_) (Cert.FfnUp1Ideal.Value.run_blocks m g),
    (θ_run _ _ _).mono (fun r h c => ?_) (Cert.FfnUp1RefIdeal.Value.run m' g')⟩
  · exact ⟨(h c).1.trans (Cert.FfnUp1Ideal.Value.arr_eq m c), (h c).2⟩
  · refine ⟨(h c).1.trans (funext fun j => (Cert.FfnUp1RefIdeal.Value.out_apply _ _ j).trans ?_), (h c).2⟩
    rw [(hargs c).1, (hargs c).2]
    rfl

/-- The reference's frame: it leaves its arguments alone and has no semaphore. -/
theorem frame_FfnUp1Ref : @Cert.quiescent_FfnUp1RefIdeal Cert.FfnUp1RefIdeal.Gen.facts := by
  intro m g _
  refine (θ_run _ _ _).mono (fun r h => ⟨fun c => (h c).2, funext fun s => ?_⟩) (Cert.FfnUp1RefIdeal.Value.run m g)
  exact ((by decide : ∀ sm : SemLoc Cert.FfnUp1RefIdeal.sig, False) s.2).elim

end Cert.Proof
-- ==== Proof.FfnUp1DxValue.lean ====
/-
  The gradient of the second layer's up projection in its input: the cotangent times the transposed weight, a block of columns for each chip.
-/
module

public import proofs.«01_k».proof.Defs
public import proofs.«01_k».proof.Proof.Tiles
public import proofs.«01_k».proof.Proof.Gen.FfnUp1DxIdeal.Value
public import proofs.«01_k».proof.Proof.Gen.FfnUp1DxRefIdeal.Run

@[expose] public section

set_option maxRecDepth 16384

noncomputable section

namespace Cert.FfnUp1DxIdeal.Value

open Cert.FfnUp1DxIdeal Cert.FfnUp1DxIdeal.Gen Idealize.ShloMosaic Idealize.ShloMosaic.TcCoe Idealize.SL.Sem

/-- The product of a block of the one array with a block of the other. -/
theorem part_apply (x0 : Vec Ideal S1024x1536 .bf16) (x1 : Vec Ideal S1x1x1024x1536 .bf16) (a : Fin 1024) (b : Fin 1024) :
    k0_pay1 x0 x1 (ix2 a b) = (∑ k : Fin 1536, x0 (ix2 a k) * x1 (ix4 0 0 b k)) := by
  unfold k0_pay1
  pointwise
  refine (congrArg (· + _) Ideal.ofBits_zero_f32).trans ((zero_add _).trans ?_)
  refine Finset.sum_congr rfl fun k _ => ?_
  pointwise

variable (m : (ℓ : Loc nD τ sig) → Buf (Elt Ideal) ℓ)

/-- What grid point `n` adds. -/
def part (c : Dev nD) (n : ℕ) (hn : n < cfg0.N) (j : S1024x1024.Idx) : EReal :=
  k0_pay1 (F := Ideal) (iblk m c 0 ⟨n, hn⟩) (iblk m c 1 ⟨n, hn⟩) j

/-- The first point of a tile starts the sum. -/
theorem first (c : Dev nD) (t : Fin cfg0.N) (h0 : t.val % 4 = 0) (j : S1024x1024.Idx) :
    (outsAt0 m c t.val t.isLt).2 j = part m c t.val t.isLt j := by
  rw [outsAt0_A m c t h0 (by omega) (by omega)]
  frame_out
  unfold k0_pay2 part
  pointwise

/-- The points between add to it. -/
theorem next (c : Dev nD) (t : Fin cfg0.N) (h1 : 1 ≤ t.val % 4 ∧ t.val % 4 ≤ 2) (j : S1024x1024.Idx) :
    (outsAt0 m c t.val t.isLt).2 j
      = (outsAt0 m c (t.val - 1) (Nat.lt_of_le_of_lt (Nat.sub_le _ _) t.isLt)).2 j + part m c t.val t.isLt j := by
  rw [outsAt0_B m c t (by omega) h1 (by omega)]
  frame_out
  unfold k0_pay3 part
  pointwise
  rw [read_unread_whole]
  rfl

/-- The last adds to it and writes the tile. -/
theorem last (c : Dev nD) (t : Fin cfg0.N) (h2 : t.val % 4 = 3) (a : Fin 1024) (b : Fin 1024) :
    (outsAt0 m c t.val t.isLt).1 (ix2 a b)
      = (outsAt0 m c (t.val - 1) (Nat.lt_of_le_of_lt (Nat.sub_le _ _) t.isLt)).2 (ix2 a b) + part m c t.val t.isLt (ix2 a b) := by
  rw [outsAt0_C m c t (by omega) (by omega) h2]
  frame_out
  unfold k0_pay4 part
  pointwise
  rw [read_unread_whole]
  rfl

/-- What is written back after the four points of a tile. -/
theorem fold (c : Dev nD) (q : ℕ) (hq : 4 * q + 3 < cfg0.N) (a : Fin 1024) (b : Fin 1024) :
    (outsAt0 m c (4 * q + 3) hq).1 (ix2 a b) = part m c (4 * q) (by omega) (ix2 a b) + part m c (4 * q + 1) (by omega) (ix2 a b) + part m c (4 * q + 2) (by omega) (ix2 a b) + part m c (4 * q + 3) hq (ix2 a b) :=
  (last m c ⟨4 * q + 3, hq⟩ (by show (4 * q + 3) % 4 = 3; omega) a b).trans (congrArg (fun z : EReal => z + _)
    ((next m c ⟨4 * q + 2, by omega⟩ (by show 1 ≤ (4 * q + 2) % 4 ∧ (4 * q + 2) % 4 ≤ 2; omega) _).trans (congrArg (· + _)
    ((next m c ⟨4 * q + 1, by omega⟩ (by show 1 ≤ (4 * q + 1) % 4 ∧ (4 * q + 1) % 4 ≤ 2; omega) _).trans (congrArg (· + _)
    (first m c ⟨4 * q, by omega⟩ (by show 4 * q % 4 = 0; omega) _))))))

/-- The blocks the windows stand at. -/
theorem index : ∀ t : Fin cfg0.N, win0_0.index t = ![t.val / 4, t.val % 4] ∧ win0_1.index t = ![t.val % 4, 1, 0, 0] ∧ win0_2.index t = ![t.val / 4, 0] :=
  (by decide +kernel : ∀ t : Fin grid0.N, _)

/-- The arrays the call is given. -/
abbrev x (m : (ℓ : Loc nD τ sig) → Buf (Elt Ideal) ℓ) (c : Dev nD) : S8192x6144.Idx → EReal := m (c, main_arg1)

@[inherit_doc x]
abbrev w (m : (ℓ : Loc nD τ sig) → Buf (Elt Ideal) ℓ) (c : Dev nD) : S2x1024x6144.Idx → EReal := m (c, main_arg0)

theorem lt (t : Fin cfg0.N) : t.val < 32 := t.isLt

theorem argL (c : Dev nD) (i : S8192x6144.Idx) : (V m c main_v0 : S8192x6144.Idx → EReal) i = x m c i := by
  unfold V
  after_results
  rfl

theorem argR (c : Dev nD) (s : Fin 4) (l : Fin 2) (r : Fin 1024) (k : Fin 1536) :
    (V m c main_v3 : S4x2x1024x1536.Idx → EReal) (ix4 s l r k) = w m c (ix3 l r ⟨s.val * 1536 + k.val, by omega⟩) := by
  unfold V
  after_results
  pointwise
  rfl

theorem blk0 (c : Dev nD) (t : Fin cfg0.N) (a : Fin 1024) (k : Fin 1536) :
    (iblk m c 0 t : S1024x1536.Idx → EReal) (ix2 a k) = x m c (ix2 ⟨t.val / 4 * 1024 + a.val, by have := lt t; omega⟩ ⟨t.val % 4 * 1536 + k.val, by have := lt t; omega⟩) := by
  have e := (index t).1
  refine (congrArg (V m c main_v0) ?_).trans (argL m c _)
  refine (eq_ix2 ((win0_0.blk t).view.emb (ix2 a k))).trans (congrArg₂ ix2 (Fin.ext ?_) (Fin.ext ?_)) <;> blk_simp [e] <;> rfl

theorem blk1 (c : Dev nD) (t : Fin cfg0.N) (b : Fin 1024) (k : Fin 1536) :
    (iblk m c 1 t : S1x1x1024x1536.Idx → EReal) (ix4 0 0 b k) = w m c (ix3 1 b ⟨t.val % 4 * 1536 + k.val, by have := lt t; omega⟩) := by
  have e := (index t).2.1
  refine (congrArg (V m c main_v3) ?_).trans (argR m c ⟨t.val % 4, by have := lt t; omega⟩ 1 b k)
  refine (eq_ix4 ((win0_1.blk t).view.emb (ix4 0 0 b k))).trans ?_
  congr 1 <;> refine Fin.ext ?_ <;> blk_simp [e] <;> rfl

/-- The product. -/
def out (m : (ℓ : Loc nD τ sig) → Buf (Elt Ideal) ℓ) (c : Dev nD) : S8192x1024.Idx → EReal := fun i =>
  (∑ k : Fin 6144, x m c (ix2 (i 0) k) * w m c (ix3 1 (i 1) k))

theorem part_eq (c : Dev nD) (q : ℕ) (s : Fin 4) (h : 4 * q + s.val < cfg0.N) (hq : q < 8) (a : Fin 1024) (b : Fin 1024) :
    part m c (4 * q + s.val) h (ix2 a b) = ∑ k : Fin 1536,
      x m c (ix2 ⟨q * 1024 + a.val, by omega⟩ ⟨s.val * 1536 + k.val, by omega⟩) * w m c (ix3 1 b ⟨s.val * 1536 + k.val, by omega⟩) := by
  refine (part_apply _ _ _ _).trans (Finset.sum_congr rfl fun k _ => ?_)
  refine (congrArg₂ (fun u v : EReal => u * v) (blk0 m c _ a k) (blk1 m c _ b k)).trans ?_
  have e1 : (4 * q + s.val) % 4 = s.val := by omega
  have e2 : (4 * q + s.val) / 4 = q := by omega
  simp only [e1, e2]

theorem emb (q : ℕ) (hn : 4 * q + 3 < cfg0.N) (hq : q < 8) (a : Fin 1024) (b : Fin 1024) :
    (win0_2.blk ⟨4 * q + 3, hn⟩).view.emb (ix2 a b) = ix2 (⟨q * 1024 + a.val, by omega⟩ : Fin 8192) (b : Fin 1024) := by
  have e := (index ⟨_, hn⟩).2.2
  have e1 : (4 * q + 3) / 4 = q := by omega
  refine (eq_ix2 ((win0_2.blk ⟨_, hn⟩).view.emb (ix2 a b))).trans ?_
  refine congrArg₂ ix2 (Fin.ext ?_) (Fin.ext ?_) <;> blk_simp [e, e1] <;> rfl

/-- The array the call leaves. -/
theorem arr_eq (c : Dev nD) : (dats m 0 c).arrAt 2 cfg0.N = out m c := by
  refine (dats m 0 c).arrAt_eq_of_covers 2 _ (by decide +kernel) fun t hf y => ?_
  have hm : t.val % 4 = 3 := (flush0_2 t).mp hf
  blk_simp
  rw [after0_2]
  obtain ⟨a, b, rfl⟩ : ∃ (a : Fin 1024) (b : Fin 1024), y = ix2 a b := ⟨y 0, y 1, eq_ix2 y⟩
  obtain ⟨q, hq⟩ : ∃ q, t.val = 4 * q + 3 := ⟨t.val / 4, by omega⟩
  obtain ⟨n, hn⟩ := t
  obtain rfl : n = 4 * q + 3 := hq
  have hl : 4 * q + 3 < 32 := hn
  refine (fold m c q hn a b).trans ?_
  have hs := Cert.Tiles.sum_four 1536 (fun k : Fin 6144 => x m c (ix2 ⟨q * 1024 + a.val, by omega⟩ k) * w m c (ix3 1 b k))
    (fun s => part m c (4 * q + s.val) (show 4 * q + s.val < 32 by omega) (ix2 a b)) fun s => part_eq m c q s _ (by omega) a b
  refine Eq.trans ?_ (hs.trans ?_)
  · rfl
  · exact (congrArg (out m c) (emb q hn (by omega) a b)).symm

end Cert.FfnUp1DxIdeal.Value

namespace Cert.FfnUp1DxRefIdeal.Value
open Cert.FfnUp1DxRefIdeal Cert.FfnUp1DxRefIdeal.Gen Idealize.ShloMosaic Idealize.ShloMosaic.TcCoe Idealize.SL.Sem

/-- The reference's result at an index. -/
theorem out_apply (w : FVec Ideal S2x1024x6144 .f32) (x : FVec Ideal S8192x6144 .f32) (i : S8192x1024.Idx) :
    (Host.dotGeneral dot_S8192x6144_S1024x6144_S8192x1024_1_1_0_0_n_n none x (shapeCast _ (extractStridedSlice S1x1024x6144 ![1, 0, 0] w slices_S2x1024x6144_S1x1024x6144_1_0_0) shapeCasts_S1x1024x6144_S1024x6144)) i
      = (∑ k : Fin 6144, x (ix2 (i 0) k) * w (ix3 1 (i 1) k)) := by
  pointwise
  first | done | rfl

end Cert.FfnUp1DxRefIdeal.Value

namespace Cert.Proof
open Idealize.ShloMosaic Idealize.ShloMosaic.TcCoe Idealize.SL.Sem

/-- Kernel and reference leave the same array. -/
theorem ffnUp1Dx : @Cert.algebraic_FfnUp1DxIdeal_FfnUp1DxRefIdeal Cert.FfnUp1DxIdeal.Gen.facts Cert.FfnUp1DxRefIdeal.Gen.facts := by
  unfold Cert.algebraic_FfnUp1DxIdeal_FfnUp1DxRefIdeal
  intro m g m' g' _ hargs
  refine ⟨fun c => Cert.FfnUp1DxIdeal.Value.out m c, (θ_run _ _ _).mono (fun r h c => ?_) (Cert.FfnUp1DxIdeal.Value.run_blocks m g),
    (θ_run _ _ _).mono (fun r h c => ?_) (Cert.FfnUp1DxRefIdeal.Value.run m' g')⟩
  · exact ⟨(h c).1.trans (Cert.FfnUp1DxIdeal.Value.arr_eq m c), (h c).2⟩
  · refine ⟨(h c).1.trans (funext fun j => (Cert.FfnUp1DxRefIdeal.Value.out_apply _ _ j).trans ?_), (h c).2⟩
    rw [(hargs c).1, (hargs c).2]
    rfl

/-- The reference's frame: it leaves its arguments alone and has no semaphore. -/
theorem frame_FfnUp1DxRef : @Cert.quiescent_FfnUp1DxRefIdeal Cert.FfnUp1DxRefIdeal.Gen.facts := by
  intro m g _
  refine (θ_run _ _ _).mono (fun r h => ⟨fun c => (h c).2, funext fun s => ?_⟩) (Cert.FfnUp1DxRefIdeal.Value.run m g)
  exact ((by decide : ∀ sm : SemLoc Cert.FfnUp1DxRefIdeal.sig, False) s.2).elim

end Cert.Proof
-- ==== Proof.FfnUpDwValue.lean ====
/-
  The gradient of the up projection in its weight: the transposed input times the cotangent, one block of columns for each chip, the rows in four blocks.
-/
module

public import proofs.«01_k».proof.Defs
public import proofs.«01_k».proof.Proof.Tiles
public import proofs.«01_k».proof.Proof.Gen.FfnUpDwIdeal.Value
public import proofs.«01_k».proof.Proof.Gen.FfnUpDwRefIdeal.Run

@[expose] public section

set_option maxRecDepth 16384

noncomputable section

namespace Cert.FfnUpDwIdeal.Value

open Cert.FfnUpDwIdeal Cert.FfnUpDwIdeal.Gen Idealize.ShloMosaic Idealize.ShloMosaic.TcCoe Idealize.SL.Sem

/-- The product of a block of the one array with a block of the other. -/
theorem part_apply (x0 : Vec Ideal S2048x1024 .bf16) (x1 : Vec Ideal S2048x1536 .bf16) (a : Fin 1024) (b : Fin 1536) :
    k0_pay1 x0 x1 (ix2 a b) = (∑ k : Fin 2048, x0 (ix2 k a) * x1 (ix2 k b)) := by
  unfold k0_pay1
  pointwise
  refine (congrArg (· + _) Ideal.ofBits_zero_f32).trans ((zero_add _).trans ?_)
  refine Finset.sum_congr rfl fun k _ => ?_
  pointwise

variable (m : (ℓ : Loc nD τ sig) → Buf (Elt Ideal) ℓ)

/-- What grid point `n` adds. -/
def part (c : Dev nD) (n : ℕ) (hn : n < cfg0.N) (j : S1024x1536.Idx) : EReal :=
  k0_pay1 (F := Ideal) (iblk m c 0 ⟨n, hn⟩) (iblk m c 1 ⟨n, hn⟩) j

/-- The first point of a tile starts the sum. -/
theorem first (c : Dev nD) (t : Fin cfg0.N) (h0 : t.val % 4 = 0) (j : S1024x1536.Idx) :
    (outsAt0 m c t.val t.isLt).2 j = part m c t.val t.isLt j := by
  rw [outsAt0_A m c t h0 (by omega) (by omega)]
  frame_out
  unfold k0_pay2 part
  pointwise

/-- The points between add to it. -/
theorem next (c : Dev nD) (t : Fin cfg0.N) (h1 : 1 ≤ t.val % 4 ∧ t.val % 4 ≤ 2) (j : S1024x1536.Idx) :
    (outsAt0 m c t.val t.isLt).2 j
      = (outsAt0 m c (t.val - 1) (Nat.lt_of_le_of_lt (Nat.sub_le _ _) t.isLt)).2 j + part m c t.val t.isLt j := by
  rw [outsAt0_B m c t (by omega) h1 (by omega)]
  frame_out
  unfold k0_pay3 part
  pointwise
  rw [read_unread_whole]
  rfl

/-- The last adds to it and writes the tile. -/
theorem last (c : Dev nD) (t : Fin cfg0.N) (h2 : t.val % 4 = 3) (a : Fin 1024) (b : Fin 1536) :
    (outsAt0 m c t.val t.isLt).1 (ix3 0 a b)
      = (outsAt0 m c (t.val - 1) (Nat.lt_of_le_of_lt (Nat.sub_le _ _) t.isLt)).2 (ix2 a b) + part m c t.val t.isLt (ix2 a b) := by
  rw [outsAt0_C m c t (by omega) (by omega) h2]
  frame_out
  unfold k0_pay4 part
  pointwise
  rw [read_unread_whole]
  rfl

/-- What is written back after the four points of a tile. -/
theorem fold (c : Dev nD) (q : ℕ) (hq : 4 * q + 3 < cfg0.N) (a : Fin 1024) (b : Fin 1536) :
    (outsAt0 m c (4 * q + 3) hq).1 (ix3 0 a b) = part m c (4 * q) (by omega) (ix2 a b) + part m c (4 * q + 1) (by omega) (ix2 a b) + part m c (4 * q + 2) (by omega) (ix2 a b) + part m c (4 * q + 3) hq (ix2 a b) :=
  (last m c ⟨4 * q + 3, hq⟩ (by show (4 * q + 3) % 4 = 3; omega) a b).trans (congrArg (fun z : EReal => z + _)
    ((next m c ⟨4 * q + 2, by omega⟩ (by show 1 ≤ (4 * q + 2) % 4 ∧ (4 * q + 2) % 4 ≤ 2; omega) _).trans (congrArg (· + _)
    ((next m c ⟨4 * q + 1, by omega⟩ (by show 1 ≤ (4 * q + 1) % 4 ∧ (4 * q + 1) % 4 ≤ 2; omega) _).trans (congrArg (· + _)
    (first m c ⟨4 * q, by omega⟩ (by show 4 * q % 4 = 0; omega) _))))))

/-- The blocks the windows stand at. -/
theorem index : ∀ t : Fin cfg0.N, win0_0.index t = ![t.val % 4, 0] ∧ win0_1.index t = ![t.val % 4, t.val / 4] ∧ win0_2.index t = ![t.val / 4, 0, 0] :=
  (by decide +kernel : ∀ t : Fin grid0.N, _)

/-- The arrays the call is given. -/
abbrev x (m : (ℓ : Loc nD τ sig) → Buf (Elt Ideal) ℓ) (c : Dev nD) : S8192x1024.Idx → EReal := m (c, main_arg0)

@[inherit_doc x]
abbrev w (m : (ℓ : Loc nD τ sig) → Buf (Elt Ideal) ℓ) (c : Dev nD) : S8192x6144.Idx → EReal := m (c, main_arg1)

theorem lt (t : Fin cfg0.N) : t.val < 16 := t.isLt

theorem argL (c : Dev nD) (i : S8192x1024.Idx) : (V m c main_v0 : S8192x1024.Idx → EReal) i = x m c i := by
  unfold V
  after_results
  rfl

theorem argR (c : Dev nD) (i : S8192x6144.Idx) : (V m c main_v1 : S8192x6144.Idx → EReal) i = w m c i := by
  unfold V
  after_results
  rfl

theorem blk0 (c : Dev nD) (t : Fin cfg0.N) (k : Fin 2048) (a : Fin 1024) :
    (iblk m c 0 t : S2048x1024.Idx → EReal) (ix2 k a) = x m c (ix2 ⟨t.val % 4 * 2048 + k.val, by have := lt t; omega⟩ a) := by
  have e := (index t).1
  refine (congrArg (V m c main_v0) ?_).trans (argL m c _)
  refine (eq_ix2 ((win0_0.blk t).view.emb (ix2 k a))).trans (congrArg₂ ix2 (Fin.ext ?_) (Fin.ext ?_)) <;> blk_simp [e] <;> rfl

theorem blk1 (c : Dev nD) (t : Fin cfg0.N) (k : Fin 2048) (b : Fin 1536) :
    (iblk m c 1 t : S2048x1536.Idx → EReal) (ix2 k b) = w m c (ix2 ⟨t.val % 4 * 2048 + k.val, by have := lt t; omega⟩ ⟨t.val / 4 * 1536 + b.val, by have := lt t; omega⟩) := by
  have e := (index t).2.1
  refine (congrArg (V m c main_v1) ?_).trans (argR m c _)
  refine (eq_ix2 ((win0_1.blk t).view.emb (ix2 k b))).trans (congrArg₂ ix2 (Fin.ext ?_) (Fin.ext ?_)) <;> blk_simp [e] <;> rfl

/-- The product. -/
def out (m : (ℓ : Loc nD τ sig) → Buf (Elt Ideal) ℓ) (c : Dev nD) : S4x1024x1536.Idx → EReal := fun i =>
  (∑ k : Fin 8192, x m c (ix2 k (i 1)) * w m c (ix2 k ⟨(i 0).val * 1536 + (i 2).val, by have h0 : (i 0).val < 4 := (i 0).isLt; have h2 : (i 2).val < 1536 := (i 2).isLt; omega⟩))

theorem part_eq (c : Dev nD) (q : ℕ) (s : Fin 4) (h : 4 * q + s.val < cfg0.N) (hq : q < 4) (a : Fin 1024) (b : Fin 1536) :
    part m c (4 * q + s.val) h (ix2 a b) = ∑ k : Fin 2048,
      x m c (ix2 ⟨s.val * 2048 + k.val, by omega⟩ a) * w m c (ix2 ⟨s.val * 2048 + k.val, by omega⟩ ⟨q * 1536 + b.val, by omega⟩) := by
  refine (part_apply _ _ _ _).trans (Finset.sum_congr rfl fun k _ => ?_)
  refine (congrArg₂ (fun u v : EReal => u * v) (blk0 m c _ k a) (blk1 m c _ k b)).trans ?_
  have e1 : (4 * q + s.val) % 4 = s.val := by omega
  have e2 : (4 * q + s.val) / 4 = q := by omega
  simp only [e1, e2]

theorem emb (q : ℕ) (hn : 4 * q + 3 < cfg0.N) (hq : q < 4) (a : Fin 1024) (b : Fin 1536) :
    (win0_2.blk ⟨4 * q + 3, hn⟩).view.emb (ix3 0 a b) = ix3 (⟨q, by omega⟩ : Fin 4) (a : Fin 1024) b := by
  have e := (index ⟨_, hn⟩).2.2
  have e1 : (4 * q + 3) / 4 = q := by omega
  refine (eq_ix3 ((win0_2.blk ⟨_, hn⟩).view.emb (ix3 0 a b))).trans ?_
  refine Cert.Tiles.ix3_congr (Fin.ext ?_) (Fin.ext ?_) (Fin.ext ?_) <;> blk_simp [e, e1] <;> rfl

/-- The array the call leaves. -/
theorem arr_eq (c : Dev nD) : (dats m 0 c).arrAt 2 cfg0.N = out m c := by
  refine (dats m 0 c).arrAt_eq_of_covers 2 _ (by decide +kernel) fun t hf y => ?_
  have hm : t.val % 4 = 3 := (flush0_2 t).mp hf
  blk_simp
  rw [after0_2]
  obtain ⟨z, a, b, rfl⟩ : ∃ (z : Fin 1) (a : Fin 1024) (b : Fin 1536), y = ix3 z a b := ⟨y 0, y 1, y 2, eq_ix3 y⟩
  obtain rfl : z = 0 := Subsingleton.elim _ _
  obtain ⟨q, hq⟩ : ∃ q, t.val = 4 * q + 3 := ⟨t.val / 4, by omega⟩
  obtain ⟨n, hn⟩ := t
  obtain rfl : n = 4 * q + 3 := hq
  have hl : 4 * q + 3 < 16 := hn
  refine (fold m c q hn a b).trans ?_
  have hs := Cert.Tiles.sum_four 2048 (fun k : Fin 8192 => x m c (ix2 k a) * w m c (ix2 k ⟨q * 1536 + b.val, by omega⟩))
    (fun s => part m c (4 * q + s.val) (show 4 * q + s.val < 16 by omega) (ix2 a b)) fun s => part_eq m c q s _ (by omega) a b
  refine Eq.trans ?_ (hs.trans ?_)
  · rfl
  · exact (congrArg (out m c) (emb q hn (by omega) a b)).symm

end Cert.FfnUpDwIdeal.Value

namespace Cert.FfnUpDwRefIdeal.Value
open Cert.FfnUpDwRefIdeal Cert.FfnUpDwRefIdeal.Gen Idealize.ShloMosaic Idealize.ShloMosaic.TcCoe Idealize.SL.Sem

/-- The reference's result at an index. -/
theorem out_apply (x : FVec Ideal S8192x1024 .f32) (w : FVec Ideal S8192x6144 .f32) (i : S4x1024x1536.Idx) :
    (truncf .bf16 (transpose S4x1024x1536 [1, 0, 2] (shapeCast _ (transpose S1024x6144 [1, 0] (Host.dotGeneral dot_S8192x6144_S8192x1024_S6144x1024_0_0_1_1_n_n none w x) transposes_S6144x1024_S1024x6144_1_0) shapeCasts_S1024x6144_S1024x4x1536) transposes_S1024x4x1536_S4x1024x1536_1_0_2) bitsLt_bf16_f32) i
      = (∑ k : Fin 8192, x (ix2 k (i 1)) * w (ix2 k ⟨(i 0).val * 1536 + (i 2).val, by have h0 : (i 0).val < 4 := (i 0).isLt; have h2 : (i 2).val < 1536 := (i 2).isLt; omega⟩)) := by
  pointwise
  exact Finset.sum_congr rfl fun k _ => mul_comm _ _

end Cert.FfnUpDwRefIdeal.Value

namespace Cert.Proof
open Idealize.ShloMosaic Idealize.ShloMosaic.TcCoe Idealize.SL.Sem

/-- Kernel and reference leave the same array. -/
theorem ffnUpDw : @Cert.algebraic_FfnUpDwIdeal_FfnUpDwRefIdeal Cert.FfnUpDwIdeal.Gen.facts Cert.FfnUpDwRefIdeal.Gen.facts := by
  unfold Cert.algebraic_FfnUpDwIdeal_FfnUpDwRefIdeal
  intro m g m' g' _ hargs
  refine ⟨fun c => Cert.FfnUpDwIdeal.Value.out m c, (θ_run _ _ _).mono (fun r h c => ?_) (Cert.FfnUpDwIdeal.Value.run_blocks m g),
    (θ_run _ _ _).mono (fun r h c => ?_) (Cert.FfnUpDwRefIdeal.Value.run m' g')⟩
  · exact ⟨(h c).1.trans (Cert.FfnUpDwIdeal.Value.arr_eq m c), (h c).2⟩
  · refine ⟨(h c).1.trans (funext fun j => (Cert.FfnUpDwRefIdeal.Value.out_apply _ _ j).trans ?_), (h c).2⟩
    rw [(hargs c).1, (hargs c).2]
    rfl

/-- The reference's frame: it leaves its arguments alone and has no semaphore. -/
theorem frame_FfnUpDwRef : @Cert.quiescent_FfnUpDwRefIdeal Cert.FfnUpDwRefIdeal.Gen.facts := by
  intro m g _
  refine (θ_run _ _ _).mono (fun r h => ⟨fun c => (h c).2, funext fun s => ?_⟩) (Cert.FfnUpDwRefIdeal.Value.run m g)
  exact ((by decide : ∀ sm : SemLoc Cert.FfnUpDwRefIdeal.sig, False) s.2).elim

end Cert.Proof
-- ==== Proof.LruInValue.lean ====
/-
  The input projection of the RG-LRU block with its bias: the columns in four blocks, one for each chip.
-/
module

public import proofs.«01_k».proof.Defs
public import proofs.«01_k».proof.Proof.Tiles
public import proofs.«01_k».proof.Proof.Gen.LruInIdeal.Value
public import proofs.«01_k».proof.Proof.Gen.LruInRefIdeal.Run

@[expose] public section

set_option maxRecDepth 16384

noncomputable section

namespace Cert.LruInIdeal.Value

open Cert.LruInIdeal Cert.LruInIdeal.Gen Idealize.ShloMosaic Idealize.ShloMosaic.TcCoe Idealize.SL.Sem

/-- The product of a block of the one array with a block of the other, and what is added to it. -/
theorem part_apply (x0 : Vec Ideal S1024x1024 .bf16) (x1 : Vec Ideal S1x1x1024x512 .bf16) (x2 : Vec Ideal S1x512 .f32) (a : Fin 1024) (b : Fin 512) :
    k0_pay1 x0 x1 x2 (ix2 a b) = (∑ k : Fin 1024, x0 (ix2 a k) * x1 (ix4 0 0 k b)) + x2 (ix2 0 b) := by
  unfold k0_pay1
  pointwise
  refine congrArg (· + _) (?_)
  refine (congrArg (· + _) Ideal.ofBits_zero_f32).trans ((zero_add _).trans ?_)
  refine Finset.sum_congr rfl fun k _ => ?_
  pointwise

variable (m : (ℓ : Loc nD τ sig) → Buf (Elt Ideal) ℓ)

/-- The blocks the windows stand at. -/
theorem index : ∀ t : Fin cfg0.N, win0_0.index t = ![t.val / 4, 0] ∧ win0_1.index t = ![t.val % 4, 0, 0, 0] ∧ win0_2.index t = ![0, t.val % 4] ∧ win0_3.index t = ![t.val / 4, t.val % 4] :=
  (by decide +kernel : ∀ t : Fin grid0.N, _)

/-- The arrays the call is given. -/
abbrev x (m : (ℓ : Loc nD τ sig) → Buf (Elt Ideal) ℓ) (c : Dev nD) : S8192x1024.Idx → EReal := m (c, main_arg0)

@[inherit_doc x]
abbrev w (m : (ℓ : Loc nD τ sig) → Buf (Elt Ideal) ℓ) (c : Dev nD) : S1x1024x2048.Idx → EReal := m (c, main_arg1)

@[inherit_doc x]
abbrev p (m : (ℓ : Loc nD τ sig) → Buf (Elt Ideal) ℓ) (c : Dev nD) : S2048.Idx → EReal := m (c, main_arg2)

theorem lt (t : Fin cfg0.N) : t.val < 32 := t.isLt

theorem argL (c : Dev nD) (i : S8192x1024.Idx) : (V m c main_v0 : S8192x1024.Idx → EReal) i = x m c i := by
  unfold V
  after_results
  rfl

theorem argR (c : Dev nD) (s : Fin 4) (l : Fin 1) (r : Fin 1024) (k : Fin 512) :
    (V m c main_v3 : S4x1x1024x512.Idx → EReal) (ix4 s l r k) = w m c (ix3 l r ⟨s.val * 512 + k.val, by omega⟩) := by
  obtain rfl : l = 0 := Subsingleton.elim _ _
  unfold V
  after_results
  pointwise
  rfl

theorem blk0 (c : Dev nD) (t : Fin cfg0.N) (a : Fin 1024) (k : Fin 1024) :
    (iblk m c 0 t : S1024x1024.Idx → EReal) (ix2 a k) = x m c (ix2 ⟨t.val / 4 * 1024 + a.val, by have := lt t; omega⟩ k) := by
  have e := (index t).1
  refine (congrArg (V m c main_v0) ?_).trans (argL m c _)
  refine (eq_ix2 ((win0_0.blk t).view.emb (ix2 a k))).trans (congrArg₂ ix2 (Fin.ext ?_) (Fin.ext ?_)) <;> blk_simp [e] <;> rfl

theorem blk1 (c : Dev nD) (t : Fin cfg0.N) (k : Fin 1024) (b : Fin 512) :
    (iblk m c 1 t : S1x1x1024x512.Idx → EReal) (ix4 0 0 k b) = w m c (ix3 0 k ⟨t.val % 4 * 512 + b.val, by have := lt t; omega⟩) := by
  have e := (index t).2.1
  refine (congrArg (V m c main_v3) ?_).trans (argR m c ⟨t.val % 4, by have := lt t; omega⟩ 0 k b)
  refine (eq_ix4 ((win0_1.blk t).view.emb (ix4 0 0 k b))).trans ?_
  congr 1 <;> refine Fin.ext ?_ <;> blk_simp [e] <;> rfl

theorem argP (c : Dev nD) (i : Fin 2048) : (V m c main_v4 : S1x2048.Idx → EReal) (ix2 0 i) = p m c (ix1 i) := by
  unfold V
  after_results
  pointwise

theorem blk2 (c : Dev nD) (t : Fin cfg0.N) (b : Fin 512) :
    (iblk m c 2 t : S1x512.Idx → EReal) (ix2 0 b) = p m c (ix1 ⟨t.val % 4 * 512 + b.val, by have := lt t; omega⟩) := by
  have e := (index t).2.2.1
  refine (congrArg (V m c main_v4) ?_).trans (argP m c _)
  refine (eq_ix2 ((win0_2.blk t).view.emb (ix2 0 b))).trans (congrArg₂ ix2 (Fin.ext ?_) (Fin.ext ?_)) <;> blk_simp [e] <;> rfl

/-- The product, and what is added to it. -/
def out (m : (ℓ : Loc nD τ sig) → Buf (Elt Ideal) ℓ) (c : Dev nD) : S8192x2048.Idx → EReal := fun i =>
  (∑ k : Fin 1024, x m c (ix2 (i 0) k) * w m c (ix3 0 k (i 1))) + p m c (ix1 (i 1))

theorem emb (q : ℕ) (hn : q < cfg0.N) (hq : q < 32) (a : Fin 1024) (b : Fin 512) :
    (win0_3.blk ⟨q, hn⟩).view.emb (ix2 a b) = ix2 (⟨q / 4 * 1024 + a.val, by omega⟩ : Fin 8192) (⟨q % 4 * 512 + b.val, by omega⟩ : Fin 2048) := by
  have e := (index ⟨_, hn⟩).2.2.2
  refine (eq_ix2 ((win0_3.blk ⟨_, hn⟩).view.emb (ix2 a b))).trans ?_
  refine congrArg₂ ix2 (Fin.ext ?_) (Fin.ext ?_) <;> blk_simp [e] <;> rfl

/-- The array the call leaves. -/
theorem arr_eq (c : Dev nD) : (dats m 0 c).arrAt 3 cfg0.N = out m c := by
  refine (dats m 0 c).arrAt_eq_of_covers 3 _ (by decide +kernel) fun t hf y => ?_
  blk_simp
  rw [after0_3]
  obtain ⟨a, b, rfl⟩ : ∃ (a : Fin 1024) (b : Fin 512), y = ix2 a b := ⟨y 0, y 1, eq_ix2 y⟩
  obtain ⟨q, hn⟩ := t
  have hl : q < 32 := hn
  frame_out
  refine (part_apply _ _ _ a b).trans ?_
  refine Eq.trans ?_ (congrArg (out m c) (emb q hn hl a b)).symm
  exact congrArg₂ (fun u v : EReal => u + v) (Finset.sum_congr rfl fun k _ => congrArg₂ (fun u v : EReal => u * v) (blk0 m c _ a k) (blk1 m c _ k b)) (blk2 m c _ b)

end Cert.LruInIdeal.Value

namespace Cert.LruInRefIdeal.Value
open Cert.LruInRefIdeal Cert.LruInRefIdeal.Gen Idealize.ShloMosaic Idealize.ShloMosaic.TcCoe Idealize.SL.Sem

/-- The reference's result at an index. -/
theorem out_apply (x : FVec Ideal S8192x1024 .f32) (w : FVec Ideal S1x1024x2048 .f32) (p : FVec Ideal S2048 .f32) (i : S8192x2048.Idx) :
    (addf (Host.dotGeneral dot_S8192x1024_S1024x2048_S8192x2048_1_0_0_1_n_n none x (shapeCast _ w shapeCasts_S1x1024x2048_S1024x2048)) (broadcastInDim S8192x2048 ![0, 1] bcast_S1x2048_S8192x2048_0_1 (broadcastInDim S1x2048 ![1] bcast_S2048_S1x2048_1 p))) i
      = (∑ k : Fin 1024, x (ix2 (i 0) k) * w (ix3 0 k (i 1))) + p (ix1 (i 1)) := by
  pointwise
  refine congrArg (· + _) ?_
  first | done | rfl

end Cert.LruInRefIdeal.Value

namespace Cert.Proof
open Idealize.ShloMosaic Idealize.ShloMosaic.TcCoe Idealize.SL.Sem

/-- Kernel and reference leave the same array. -/
theorem lruIn : @Cert.algebraic_LruInIdeal_LruInRefIdeal Cert.LruInIdeal.Gen.facts Cert.LruInRefIdeal.Gen.facts := by
  unfold Cert.algebraic_LruInIdeal_LruInRefIdeal
  intro m g m' g' _ hargs
  refine ⟨fun c => Cert.LruInIdeal.Value.out m c, (θ_run _ _ _).mono (fun r h c => ?_) (Cert.LruInIdeal.Value.run_blocks m g),
    (θ_run _ _ _).mono (fun r h c => ?_) (Cert.LruInRefIdeal.Value.run m' g')⟩
  · exact ⟨(h c).1.trans (Cert.LruInIdeal.Value.arr_eq m c), (h c).2⟩
  · refine ⟨(h c).1.trans (funext fun j => (Cert.LruInRefIdeal.Value.out_apply _ _ _ j).trans ?_), (h c).2⟩
    rw [(hargs c).1, (hargs c).2.1, (hargs c).2.2]
    rfl

/-- The reference's frame: it leaves its arguments alone and has no semaphore. -/
theorem frame_LruInRef : @Cert.quiescent_LruInRefIdeal Cert.LruInRefIdeal.Gen.facts := by
  intro m g _
  refine (θ_run _ _ _).mono (fun r h => ⟨fun c => (h c).2, funext fun s => ?_⟩) (Cert.LruInRefIdeal.Value.run m g)
  exact ((by decide : ∀ sm : SemLoc Cert.LruInRefIdeal.sig, False) s.2).elim

end Cert.Proof
-- ==== Proof.LruInDxValue.lean ====
/-
  The gradient of the RG-LRU block's input projection in its input: the cotangent times the transposed weight, a block of columns for each chip.
-/
module

public import proofs.«01_k».proof.Defs
public import proofs.«01_k».proof.Proof.Tiles
public import proofs.«01_k».proof.Proof.Gen.LruInDxIdeal.Value
public import proofs.«01_k».proof.Proof.Gen.LruInDxRefIdeal.Run

@[expose] public section

set_option maxRecDepth 16384

noncomputable section

namespace Cert.LruInDxIdeal.Value

open Cert.LruInDxIdeal Cert.LruInDxIdeal.Gen Idealize.ShloMosaic Idealize.ShloMosaic.TcCoe Idealize.SL.Sem

/-- The product of a block of the one array with a block of the other. -/
theorem part_apply (x0 : Vec Ideal S1024x512 .bf16) (x1 : Vec Ideal S1x1x1024x512 .bf16) (a : Fin 1024) (b : Fin 1024) :
    k0_pay1 x0 x1 (ix2 a b) = (∑ k : Fin 512, x0 (ix2 a k) * x1 (ix4 0 0 b k)) := by
  unfold k0_pay1
  pointwise
  refine (congrArg (· + _) Ideal.ofBits_zero_f32).trans ((zero_add _).trans ?_)
  refine Finset.sum_congr rfl fun k _ => ?_
  pointwise

variable (m : (ℓ : Loc nD τ sig) → Buf (Elt Ideal) ℓ)

/-- What grid point `n` adds. -/
def part (c : Dev nD) (n : ℕ) (hn : n < cfg0.N) (j : S1024x1024.Idx) : EReal :=
  k0_pay1 (F := Ideal) (iblk m c 0 ⟨n, hn⟩) (iblk m c 1 ⟨n, hn⟩) j

/-- The first point of a tile starts the sum. -/
theorem first (c : Dev nD) (t : Fin cfg0.N) (h0 : t.val % 4 = 0) (j : S1024x1024.Idx) :
    (outsAt0 m c t.val t.isLt).2 j = part m c t.val t.isLt j := by
  rw [outsAt0_A m c t h0 (by omega) (by omega)]
  frame_out
  unfold k0_pay2 part
  pointwise

/-- The points between add to it. -/
theorem next (c : Dev nD) (t : Fin cfg0.N) (h1 : 1 ≤ t.val % 4 ∧ t.val % 4 ≤ 2) (j : S1024x1024.Idx) :
    (outsAt0 m c t.val t.isLt).2 j
      = (outsAt0 m c (t.val - 1) (Nat.lt_of_le_of_lt (Nat.sub_le _ _) t.isLt)).2 j + part m c t.val t.isLt j := by
  rw [outsAt0_B m c t (by omega) h1 (by omega)]
  frame_out
  unfold k0_pay3 part
  pointwise
  rw [read_unread_whole]
  rfl

/-- The last adds to it and writes the tile. -/
theorem last (c : Dev nD) (t : Fin cfg0.N) (h2 : t.val % 4 = 3) (a : Fin 1024) (b : Fin 1024) :
    (outsAt0 m c t.val t.isLt).1 (ix2 a b)
      = (outsAt0 m c (t.val - 1) (Nat.lt_of_le_of_lt (Nat.sub_le _ _) t.isLt)).2 (ix2 a b) + part m c t.val t.isLt (ix2 a b) := by
  rw [outsAt0_C m c t (by omega) (by omega) h2]
  frame_out
  unfold k0_pay4 part
  pointwise
  rw [read_unread_whole]
  rfl

/-- What is written back after the four points of a tile. -/
theorem fold (c : Dev nD) (q : ℕ) (hq : 4 * q + 3 < cfg0.N) (a : Fin 1024) (b : Fin 1024) :
    (outsAt0 m c (4 * q + 3) hq).1 (ix2 a b) = part m c (4 * q) (by omega) (ix2 a b) + part m c (4 * q + 1) (by omega) (ix2 a b) + part m c (4 * q + 2) (by omega) (ix2 a b) + part m c (4 * q + 3) hq (ix2 a b) :=
  (last m c ⟨4 * q + 3, hq⟩ (by show (4 * q + 3) % 4 = 3; omega) a b).trans (congrArg (fun z : EReal => z + _)
    ((next m c ⟨4 * q + 2, by omega⟩ (by show 1 ≤ (4 * q + 2) % 4 ∧ (4 * q + 2) % 4 ≤ 2; omega) _).trans (congrArg (· + _)
    ((next m c ⟨4 * q + 1, by omega⟩ (by show 1 ≤ (4 * q + 1) % 4 ∧ (4 * q + 1) % 4 ≤ 2; omega) _).trans (congrArg (· + _)
    (first m c ⟨4 * q, by omega⟩ (by show 4 * q % 4 = 0; omega) _))))))

/-- The blocks the windows stand at. -/
theorem index : ∀ t : Fin cfg0.N, win0_0.index t = ![t.val / 4, t.val % 4] ∧ win0_1.index t = ![t.val % 4, 0, 0, 0] ∧ win0_2.index t = ![t.val / 4, 0] :=
  (by decide +kernel : ∀ t : Fin grid0.N, _)

/-- The arrays the call is given. -/
abbrev x (m : (ℓ : Loc nD τ sig) → Buf (Elt Ideal) ℓ) (c : Dev nD) : S8192x2048.Idx → EReal := m (c, main_arg1)

@[inherit_doc x]
abbrev w (m : (ℓ : Loc nD τ sig) → Buf (Elt Ideal) ℓ) (c : Dev nD) : S1x1024x2048.Idx → EReal := m (c, main_arg0)

theorem lt (t : Fin cfg0.N) : t.val < 32 := t.isLt

theorem argL (c : Dev nD) (i : S8192x2048.Idx) : (V m c main_v0 : S8192x2048.Idx → EReal) i = x m c i := by
  unfold V
  after_results
  rfl

theorem argR (c : Dev nD) (s : Fin 4) (l : Fin 1) (r : Fin 1024) (k : Fin 512) :
    (V m c main_v3 : S4x1x1024x512.Idx → EReal) (ix4 s l r k) = w m c (ix3 l r ⟨s.val * 512 + k.val, by omega⟩) := by
  obtain rfl : l = 0 := Subsingleton.elim _ _
  unfold V
  after_results
  pointwise
  rfl

theorem blk0 (c : Dev nD) (t : Fin cfg0.N) (a : Fin 1024) (k : Fin 512) :
    (iblk m c 0 t : S1024x512.Idx → EReal) (ix2 a k) = x m c (ix2 ⟨t.val / 4 * 1024 + a.val, by have := lt t; omega⟩ ⟨t.val % 4 * 512 + k.val, by have := lt t; omega⟩) := by
  have e := (index t).1
  refine (congrArg (V m c main_v0) ?_).trans (argL m c _)
  refine (eq_ix2 ((win0_0.blk t).view.emb (ix2 a k))).trans (congrArg₂ ix2 (Fin.ext ?_) (Fin.ext ?_)) <;> blk_simp [e] <;> rfl

theorem blk1 (c : Dev nD) (t : Fin cfg0.N) (b : Fin 1024) (k : Fin 512) :
    (iblk m c 1 t : S1x1x1024x512.Idx → EReal) (ix4 0 0 b k) = w m c (ix3 0 b ⟨t.val % 4 * 512 + k.val, by have := lt t; omega⟩) := by
  have e := (index t).2.1
  refine (congrArg (V m c main_v3) ?_).trans (argR m c ⟨t.val % 4, by have := lt t; omega⟩ 0 b k)
  refine (eq_ix4 ((win0_1.blk t).view.emb (ix4 0 0 b k))).trans ?_
  congr 1 <;> refine Fin.ext ?_ <;> blk_simp [e] <;> rfl

/-- The product. -/
def out (m : (ℓ : Loc nD τ sig) → Buf (Elt Ideal) ℓ) (c : Dev nD) : S8192x1024.Idx → EReal := fun i =>
  (∑ k : Fin 2048, x m c (ix2 (i 0) k) * w m c (ix3 0 (i 1) k))

theorem part_eq (c : Dev nD) (q : ℕ) (s : Fin 4) (h : 4 * q + s.val < cfg0.N) (hq : q < 8) (a : Fin 1024) (b : Fin 1024) :
    part m c (4 * q + s.val) h (ix2 a b) = ∑ k : Fin 512,
      x m c (ix2 ⟨q * 1024 + a.val, by omega⟩ ⟨s.val * 512 + k.val, by omega⟩) * w m c (ix3 0 b ⟨s.val * 512 + k.val, by omega⟩) := by
  refine (part_apply _ _ _ _).trans (Finset.sum_congr rfl fun k _ => ?_)
  refine (congrArg₂ (fun u v : EReal => u * v) (blk0 m c _ a k) (blk1 m c _ b k)).trans ?_
  have e1 : (4 * q + s.val) % 4 = s.val := by omega
  have e2 : (4 * q + s.val) / 4 = q := by omega
  simp only [e1, e2]

theorem emb (q : ℕ) (hn : 4 * q + 3 < cfg0.N) (hq : q < 8) (a : Fin 1024) (b : Fin 1024) :
    (win0_2.blk ⟨4 * q + 3, hn⟩).view.emb (ix2 a b) = ix2 (⟨q * 1024 + a.val, by omega⟩ : Fin 8192) (b : Fin 1024) := by
  have e := (index ⟨_, hn⟩).2.2
  have e1 : (4 * q + 3) / 4 = q := by omega
  refine (eq_ix2 ((win0_2.blk ⟨_, hn⟩).view.emb (ix2 a b))).trans ?_
  refine congrArg₂ ix2 (Fin.ext ?_) (Fin.ext ?_) <;> blk_simp [e, e1] <;> rfl

/-- The array the call leaves. -/
theorem arr_eq (c : Dev nD) : (dats m 0 c).arrAt 2 cfg0.N = out m c := by
  refine (dats m 0 c).arrAt_eq_of_covers 2 _ (by decide +kernel) fun t hf y => ?_
  have hm : t.val % 4 = 3 := (flush0_2 t).mp hf
  blk_simp
  rw [after0_2]
  obtain ⟨a, b, rfl⟩ : ∃ (a : Fin 1024) (b : Fin 1024), y = ix2 a b := ⟨y 0, y 1, eq_ix2 y⟩
  obtain ⟨q, hq⟩ : ∃ q, t.val = 4 * q + 3 := ⟨t.val / 4, by omega⟩
  obtain ⟨n, hn⟩ := t
  obtain rfl : n = 4 * q + 3 := hq
  have hl : 4 * q + 3 < 32 := hn
  refine (fold m c q hn a b).trans ?_
  have hs := Cert.Tiles.sum_four 512 (fun k : Fin 2048 => x m c (ix2 ⟨q * 1024 + a.val, by omega⟩ k) * w m c (ix3 0 b k))
    (fun s => part m c (4 * q + s.val) (show 4 * q + s.val < 32 by omega) (ix2 a b)) fun s => part_eq m c q s _ (by omega) a b
  refine Eq.trans ?_ (hs.trans ?_)
  · rfl
  · exact (congrArg (out m c) (emb q hn (by omega) a b)).symm

end Cert.LruInDxIdeal.Value

namespace Cert.LruInDxRefIdeal.Value
open Cert.LruInDxRefIdeal Cert.LruInDxRefIdeal.Gen Idealize.ShloMosaic Idealize.ShloMosaic.TcCoe Idealize.SL.Sem

/-- The reference's result at an index. -/
theorem out_apply (w : FVec Ideal S1x1024x2048 .f32) (x : FVec Ideal S8192x2048 .f32) (i : S8192x1024.Idx) :
    (Host.dotGeneral dot_S8192x2048_S1024x2048_S8192x1024_1_1_0_0_n_n none x (shapeCast _ w shapeCasts_S1x1024x2048_S1024x2048)) i
      = (∑ k : Fin 2048, x (ix2 (i 0) k) * w (ix3 0 (i 1) k)) := by
  pointwise
  first | done | rfl

end Cert.LruInDxRefIdeal.Value

namespace Cert.Proof
open Idealize.ShloMosaic Idealize.ShloMosaic.TcCoe Idealize.SL.Sem

/-- Kernel and reference leave the same array. -/
theorem lruInDx : @Cert.algebraic_LruInDxIdeal_LruInDxRefIdeal Cert.LruInDxIdeal.Gen.facts Cert.LruInDxRefIdeal.Gen.facts := by
  unfold Cert.algebraic_LruInDxIdeal_LruInDxRefIdeal
  intro m g m' g' _ hargs
  refine ⟨fun c => Cert.LruInDxIdeal.Value.out m c, (θ_run _ _ _).mono (fun r h c => ?_) (Cert.LruInDxIdeal.Value.run_blocks m g),
    (θ_run _ _ _).mono (fun r h c => ?_) (Cert.LruInDxRefIdeal.Value.run m' g')⟩
  · exact ⟨(h c).1.trans (Cert.LruInDxIdeal.Value.arr_eq m c), (h c).2⟩
  · refine ⟨(h c).1.trans (funext fun j => (Cert.LruInDxRefIdeal.Value.out_apply _ _ j).trans ?_), (h c).2⟩
    rw [(hargs c).1, (hargs c).2]
    rfl

/-- The reference's frame: it leaves its arguments alone and has no semaphore. -/
theorem frame_LruInDxRef : @Cert.quiescent_LruInDxRefIdeal Cert.LruInDxRefIdeal.Gen.facts := by
  intro m g _
  refine (θ_run _ _ _).mono (fun r h => ⟨fun c => (h c).2, funext fun s => ?_⟩) (Cert.LruInDxRefIdeal.Value.run m g)
  exact ((by decide : ∀ sm : SemLoc Cert.LruInDxRefIdeal.sig, False) s.2).elim

end Cert.Proof
-- ==== Proof.LruInDwValue.lean ====
/-
  The gradient of the RG-LRU block's input projection in its weight: one block of columns for each chip, the rows in four blocks.
-/
module

public import proofs.«01_k».proof.Defs
public import proofs.«01_k».proof.Proof.Tiles
public import proofs.«01_k».proof.Proof.Gen.LruInDwIdeal.Value
public import proofs.«01_k».proof.Proof.Gen.LruInDwRefIdeal.Run

@[expose] public section

set_option maxRecDepth 16384

noncomputable section

namespace Cert.LruInDwIdeal.Value

open Cert.LruInDwIdeal Cert.LruInDwIdeal.Gen Idealize.ShloMosaic Idealize.ShloMosaic.TcCoe Idealize.SL.Sem

/-- The product of a block of the one array with a block of the other. -/
theorem part_apply (x0 : Vec Ideal S2048x1024 .bf16) (x1 : Vec Ideal S2048x512 .bf16) (a : Fin 1024) (b : Fin 512) :
    k0_pay1 x0 x1 (ix2 a b) = (∑ k : Fin 2048, x0 (ix2 k a) * x1 (ix2 k b)) := by
  unfold k0_pay1
  pointwise
  refine (congrArg (· + _) Ideal.ofBits_zero_f32).trans ((zero_add _).trans ?_)
  refine Finset.sum_congr rfl fun k _ => ?_
  pointwise

variable (m : (ℓ : Loc nD τ sig) → Buf (Elt Ideal) ℓ)

/-- What grid point `n` adds. -/
def part (c : Dev nD) (n : ℕ) (hn : n < cfg0.N) (j : S1024x512.Idx) : EReal :=
  k0_pay1 (F := Ideal) (iblk m c 0 ⟨n, hn⟩) (iblk m c 1 ⟨n, hn⟩) j

/-- The first point of a tile starts the sum. -/
theorem first (c : Dev nD) (t : Fin cfg0.N) (h0 : t.val % 4 = 0) (j : S1024x512.Idx) :
    (outsAt0 m c t.val t.isLt).2 j = part m c t.val t.isLt j := by
  rw [outsAt0_A m c t h0 (by omega) (by omega)]
  frame_out
  unfold k0_pay2 part
  pointwise

/-- The points between add to it. -/
theorem next (c : Dev nD) (t : Fin cfg0.N) (h1 : 1 ≤ t.val % 4 ∧ t.val % 4 ≤ 2) (j : S1024x512.Idx) :
    (outsAt0 m c t.val t.isLt).2 j
      = (outsAt0 m c (t.val - 1) (Nat.lt_of_le_of_lt (Nat.sub_le _ _) t.isLt)).2 j + part m c t.val t.isLt j := by
  rw [outsAt0_B m c t (by omega) h1 (by omega)]
  frame_out
  unfold k0_pay3 part
  pointwise
  rw [read_unread_whole]
  rfl

/-- The last adds to it and writes the tile. -/
theorem last (c : Dev nD) (t : Fin cfg0.N) (h2 : t.val % 4 = 3) (a : Fin 1024) (b : Fin 512) :
    (outsAt0 m c t.val t.isLt).1 (ix3 0 a b)
      = (outsAt0 m c (t.val - 1) (Nat.lt_of_le_of_lt (Nat.sub_le _ _) t.isLt)).2 (ix2 a b) + part m c t.val t.isLt (ix2 a b) := by
  rw [outsAt0_C m c t (by omega) (by omega) h2]
  frame_out
  unfold k0_pay4 part
  pointwise
  rw [read_unread_whole]
  rfl

/-- What is written back after the four points of a tile. -/
theorem fold (c : Dev nD) (q : ℕ) (hq : 4 * q + 3 < cfg0.N) (a : Fin 1024) (b : Fin 512) :
    (outsAt0 m c (4 * q + 3) hq).1 (ix3 0 a b) = part m c (4 * q) (by omega) (ix2 a b) + part m c (4 * q + 1) (by omega) (ix2 a b) + part m c (4 * q + 2) (by omega) (ix2 a b) + part m c (4 * q + 3) hq (ix2 a b) :=
  (last m c ⟨4 * q + 3, hq⟩ (by show (4 * q + 3) % 4 = 3; omega) a b).trans (congrArg (fun z : EReal => z + _)
    ((next m c ⟨4 * q + 2, by omega⟩ (by show 1 ≤ (4 * q + 2) % 4 ∧ (4 * q + 2) % 4 ≤ 2; omega) _).trans (congrArg (· + _)
    ((next m c ⟨4 * q + 1, by omega⟩ (by show 1 ≤ (4 * q + 1) % 4 ∧ (4 * q + 1) % 4 ≤ 2; omega) _).trans (congrArg (· + _)
    (first m c ⟨4 * q, by omega⟩ (by show 4 * q % 4 = 0; omega) _))))))

/-- The blocks the windows stand at. -/
theorem index : ∀ t : Fin cfg0.N, win0_0.index t = ![t.val % 4, 0] ∧ win0_1.index t = ![t.val % 4, t.val / 4] ∧ win0_2.index t = ![t.val / 4, 0, 0] :=
  (by decide +kernel : ∀ t : Fin grid0.N, _)

/-- The arrays the call is given. -/
abbrev x (m : (ℓ : Loc nD τ sig) → Buf (Elt Ideal) ℓ) (c : Dev nD) : S8192x1024.Idx → EReal := m (c, main_arg0)

@[inherit_doc x]
abbrev w (m : (ℓ : Loc nD τ sig) → Buf (Elt Ideal) ℓ) (c : Dev nD) : S8192x2048.Idx → EReal := m (c, main_arg1)

theorem lt (t : Fin cfg0.N) : t.val < 16 := t.isLt

theorem argL (c : Dev nD) (i : S8192x1024.Idx) : (V m c main_v0 : S8192x1024.Idx → EReal) i = x m c i := by
  unfold V
  after_results
  rfl

theorem argR (c : Dev nD) (i : S8192x2048.Idx) : (V m c main_v1 : S8192x2048.Idx → EReal) i = w m c i := by
  unfold V
  after_results
  rfl

theorem blk0 (c : Dev nD) (t : Fin cfg0.N) (k : Fin 2048) (a : Fin 1024) :
    (iblk m c 0 t : S2048x1024.Idx → EReal) (ix2 k a) = x m c (ix2 ⟨t.val % 4 * 2048 + k.val, by have := lt t; omega⟩ a) := by
  have e := (index t).1
  refine (congrArg (V m c main_v0) ?_).trans (argL m c _)
  refine (eq_ix2 ((win0_0.blk t).view.emb (ix2 k a))).trans (congrArg₂ ix2 (Fin.ext ?_) (Fin.ext ?_)) <;> blk_simp [e] <;> rfl

theorem blk1 (c : Dev nD) (t : Fin cfg0.N) (k : Fin 2048) (b : Fin 512) :
    (iblk m c 1 t : S2048x512.Idx → EReal) (ix2 k b) = w m c (ix2 ⟨t.val % 4 * 2048 + k.val, by have := lt t; omega⟩ ⟨t.val / 4 * 512 + b.val, by have := lt t; omega⟩) := by
  have e := (index t).2.1
  refine (congrArg (V m c main_v1) ?_).trans (argR m c _)
  refine (eq_ix2 ((win0_1.blk t).view.emb (ix2 k b))).trans (congrArg₂ ix2 (Fin.ext ?_) (Fin.ext ?_)) <;> blk_simp [e] <;> rfl

/-- The product. -/
def out (m : (ℓ : Loc nD τ sig) → Buf (Elt Ideal) ℓ) (c : Dev nD) : S4x1024x512.Idx → EReal := fun i =>
  (∑ k : Fin 8192, x m c (ix2 k (i 1)) * w m c (ix2 k ⟨(i 0).val * 512 + (i 2).val, by have h0 : (i 0).val < 4 := (i 0).isLt; have h2 : (i 2).val < 512 := (i 2).isLt; omega⟩))

theorem part_eq (c : Dev nD) (q : ℕ) (s : Fin 4) (h : 4 * q + s.val < cfg0.N) (hq : q < 4) (a : Fin 1024) (b : Fin 512) :
    part m c (4 * q + s.val) h (ix2 a b) = ∑ k : Fin 2048,
      x m c (ix2 ⟨s.val * 2048 + k.val, by omega⟩ a) * w m c (ix2 ⟨s.val * 2048 + k.val, by omega⟩ ⟨q * 512 + b.val, by omega⟩) := by
  refine (part_apply _ _ _ _).trans (Finset.sum_congr rfl fun k _ => ?_)
  refine (congrArg₂ (fun u v : EReal => u * v) (blk0 m c _ k a) (blk1 m c _ k b)).trans ?_
  have e1 : (4 * q + s.val) % 4 = s.val := by omega
  have e2 : (4 * q + s.val) / 4 = q := by omega
  simp only [e1, e2]

theorem emb (q : ℕ) (hn : 4 * q + 3 < cfg0.N) (hq : q < 4) (a : Fin 1024) (b : Fin 512) :
    (win0_2.blk ⟨4 * q + 3, hn⟩).view.emb (ix3 0 a b) = ix3 (⟨q, by omega⟩ : Fin 4) (a : Fin 1024) b := by
  have e := (index ⟨_, hn⟩).2.2
  have e1 : (4 * q + 3) / 4 = q := by omega
  refine (eq_ix3 ((win0_2.blk ⟨_, hn⟩).view.emb (ix3 0 a b))).trans ?_
  refine Cert.Tiles.ix3_congr (Fin.ext ?_) (Fin.ext ?_) (Fin.ext ?_) <;> blk_simp [e, e1] <;> rfl

/-- The array the call leaves. -/
theorem arr_eq (c : Dev nD) : (dats m 0 c).arrAt 2 cfg0.N = out m c := by
  refine (dats m 0 c).arrAt_eq_of_covers 2 _ (by decide +kernel) fun t hf y => ?_
  have hm : t.val % 4 = 3 := (flush0_2 t).mp hf
  blk_simp
  rw [after0_2]
  obtain ⟨z, a, b, rfl⟩ : ∃ (z : Fin 1) (a : Fin 1024) (b : Fin 512), y = ix3 z a b := ⟨y 0, y 1, y 2, eq_ix3 y⟩
  obtain rfl : z = 0 := Subsingleton.elim _ _
  obtain ⟨q, hq⟩ : ∃ q, t.val = 4 * q + 3 := ⟨t.val / 4, by omega⟩
  obtain ⟨n, hn⟩ := t
  obtain rfl : n = 4 * q + 3 := hq
  have hl : 4 * q + 3 < 16 := hn
  refine (fold m c q hn a b).trans ?_
  have hs := Cert.Tiles.sum_four 2048 (fun k : Fin 8192 => x m c (ix2 k a) * w m c (ix2 k ⟨q * 512 + b.val, by omega⟩))
    (fun s => part m c (4 * q + s.val) (show 4 * q + s.val < 16 by omega) (ix2 a b)) fun s => part_eq m c q s _ (by omega) a b
  refine Eq.trans ?_ (hs.trans ?_)
  · rfl
  · exact (congrArg (out m c) (emb q hn (by omega) a b)).symm

end Cert.LruInDwIdeal.Value

namespace Cert.LruInDwRefIdeal.Value
open Cert.LruInDwRefIdeal Cert.LruInDwRefIdeal.Gen Idealize.ShloMosaic Idealize.ShloMosaic.TcCoe Idealize.SL.Sem

/-- The reference's result at an index. -/
theorem out_apply (x : FVec Ideal S8192x1024 .f32) (w : FVec Ideal S8192x2048 .f32) (i : S4x1024x512.Idx) :
    (truncf .bf16 (transpose S4x1024x512 [1, 0, 2] (shapeCast _ (transpose S1024x2048 [1, 0] (Host.dotGeneral dot_S8192x2048_S8192x1024_S2048x1024_0_0_1_1_n_n none w x) transposes_S2048x1024_S1024x2048_1_0) shapeCasts_S1024x2048_S1024x4x512) transposes_S1024x4x512_S4x1024x512_1_0_2) bitsLt_bf16_f32) i
      = (∑ k : Fin 8192, x (ix2 k (i 1)) * w (ix2 k ⟨(i 0).val * 512 + (i 2).val, by have h0 : (i 0).val < 4 := (i 0).isLt; have h2 : (i 2).val < 512 := (i 2).isLt; omega⟩)) := by
  pointwise
  exact Finset.sum_congr rfl fun k _ => mul_comm _ _

end Cert.LruInDwRefIdeal.Value

namespace Cert.Proof
open Idealize.ShloMosaic Idealize.ShloMosaic.TcCoe Idealize.SL.Sem

/-- Kernel and reference leave the same array. -/
theorem lruInDw : @Cert.algebraic_LruInDwIdeal_LruInDwRefIdeal Cert.LruInDwIdeal.Gen.facts Cert.LruInDwRefIdeal.Gen.facts := by
  unfold Cert.algebraic_LruInDwIdeal_LruInDwRefIdeal
  intro m g m' g' _ hargs
  refine ⟨fun c => Cert.LruInDwIdeal.Value.out m c, (θ_run _ _ _).mono (fun r h c => ?_) (Cert.LruInDwIdeal.Value.run_blocks m g),
    (θ_run _ _ _).mono (fun r h c => ?_) (Cert.LruInDwRefIdeal.Value.run m' g')⟩
  · exact ⟨(h c).1.trans (Cert.LruInDwIdeal.Value.arr_eq m c), (h c).2⟩
  · refine ⟨(h c).1.trans (funext fun j => (Cert.LruInDwRefIdeal.Value.out_apply _ _ j).trans ?_), (h c).2⟩
    rw [(hargs c).1, (hargs c).2]
    rfl

/-- The reference's frame: it leaves its arguments alone and has no semaphore. -/
theorem frame_LruInDwRef : @Cert.quiescent_LruInDwRefIdeal Cert.LruInDwRefIdeal.Gen.facts := by
  intro m g _
  refine (θ_run _ _ _).mono (fun r h => ⟨fun c => (h c).2, funext fun s => ?_⟩) (Cert.LruInDwRefIdeal.Value.run m g)
  exact ((by decide : ∀ sm : SemLoc Cert.LruInDwRefIdeal.sig, False) s.2).elim

end Cert.Proof
-- ==== Proof.LruOutValue.lean ====
/-
  The output projection of the RG-LRU block with its bias and the residual.
-/
module

public import proofs.«01_k».proof.Defs
public import proofs.«01_k».proof.Proof.Tiles
public import proofs.«01_k».proof.Proof.Gen.LruOutIdeal.Value
public import proofs.«01_k».proof.Proof.Gen.LruOutRefIdeal.Run

@[expose] public section

set_option maxRecDepth 16384

noncomputable section

namespace Cert.LruOutIdeal.Value

open Cert.LruOutIdeal Cert.LruOutIdeal.Gen Idealize.ShloMosaic Idealize.ShloMosaic.TcCoe Idealize.SL.Sem

/-- The product of a block of the one array with a block of the other, and what is added to it. -/
theorem part_apply (x0 : Vec Ideal S1024x1024 .bf16) (x1 : Vec Ideal S1024x1024 .bf16) (x2 : Vec Ideal S1x1024 .f32) (x3 : Vec Ideal S1024x1024 .f32) (a : Fin 1024) (b : Fin 1024) :
    k0_pay1 x0 x1 x2 x3 (ix2 a b) = (∑ k : Fin 1024, x0 (ix2 a k) * x1 (ix2 k b)) + x2 (ix2 0 b) + x3 (ix2 a b) := by
  unfold k0_pay1
  pointwise
  refine congrArg (· + _) (congrArg (· + _) (?_))
  refine (congrArg (· + _) Ideal.ofBits_zero_f32).trans ((zero_add _).trans ?_)
  refine Finset.sum_congr rfl fun k _ => ?_
  pointwise

variable (m : (ℓ : Loc nD τ sig) → Buf (Elt Ideal) ℓ)

/-- The blocks the windows stand at. -/
theorem index : ∀ t : Fin cfg0.N, win0_0.index t = ![t.val, 0] ∧ win0_1.index t = ![0, 0] ∧ win0_2.index t = ![0, 0] ∧ win0_3.index t = ![t.val, 0] ∧ win0_4.index t = ![t.val, 0] :=
  (by decide +kernel : ∀ t : Fin grid0.N, _)

/-- The arrays the call is given. -/
abbrev x (m : (ℓ : Loc nD τ sig) → Buf (Elt Ideal) ℓ) (c : Dev nD) : S8192x1024.Idx → EReal := m (c, main_arg0)

@[inherit_doc x]
abbrev w (m : (ℓ : Loc nD τ sig) → Buf (Elt Ideal) ℓ) (c : Dev nD) : S1024x1024.Idx → EReal := m (c, main_arg1)

@[inherit_doc x]
abbrev p (m : (ℓ : Loc nD τ sig) → Buf (Elt Ideal) ℓ) (c : Dev nD) : S1024.Idx → EReal := m (c, main_arg2)

@[inherit_doc x]
abbrev r (m : (ℓ : Loc nD τ sig) → Buf (Elt Ideal) ℓ) (c : Dev nD) : S8192x1024.Idx → EReal := m (c, main_arg3)

theorem lt (t : Fin cfg0.N) : t.val < 8 := t.isLt

theorem argL (c : Dev nD) (i : S8192x1024.Idx) : (V m c main_v0 : S8192x1024.Idx → EReal) i = x m c i := by
  unfold V
  after_results
  rfl

theorem argR (c : Dev nD) (i : S1024x1024.Idx) : (V m c main_v1 : S1024x1024.Idx → EReal) i = w m c i := by
  unfold V
  after_results
  rfl

theorem blk0 (c : Dev nD) (t : Fin cfg0.N) (a : Fin 1024) (k : Fin 1024) :
    (iblk m c 0 t : S1024x1024.Idx → EReal) (ix2 a k) = x m c (ix2 ⟨t.val * 1024 + a.val, by have := lt t; omega⟩ k) := by
  have e := (index t).1
  refine (congrArg (V m c main_v0) ?_).trans (argL m c _)
  refine (eq_ix2 ((win0_0.blk t).view.emb (ix2 a k))).trans (congrArg₂ ix2 (Fin.ext ?_) (Fin.ext ?_)) <;> blk_simp [e] <;> rfl

theorem blk1 (c : Dev nD) (t : Fin cfg0.N) (k : Fin 1024) (b : Fin 1024) :
    (iblk m c 1 t : S1024x1024.Idx → EReal) (ix2 k b) = w m c (ix2 k b) := by
  have e := (index t).2.1
  refine (congrArg (V m c main_v1) ?_).trans (argR m c _)
  refine (eq_ix2 ((win0_1.blk t).view.emb (ix2 k b))).trans (congrArg₂ ix2 (Fin.ext ?_) (Fin.ext ?_)) <;> blk_simp [e] <;> rfl

theorem argP (c : Dev nD) (i : Fin 1024) : (V m c main_v2 : S1x1024.Idx → EReal) (ix2 0 i) = p m c (ix1 i) := by
  unfold V
  after_results
  pointwise

theorem blk2 (c : Dev nD) (t : Fin cfg0.N) (b : Fin 1024) :
    (iblk m c 2 t : S1x1024.Idx → EReal) (ix2 0 b) = p m c (ix1 b) := by
  have e := (index t).2.2.1
  refine (congrArg (V m c main_v2) ?_).trans (argP m c _)
  refine (eq_ix2 ((win0_2.blk t).view.emb (ix2 0 b))).trans (congrArg₂ ix2 (Fin.ext ?_) (Fin.ext ?_)) <;> blk_simp [e] <;> rfl

theorem argE (c : Dev nD) (i : S8192x1024.Idx) : (V m c main_arg3 : S8192x1024.Idx → EReal) i = r m c i := by
  unfold V
  after_results

theorem blk3 (c : Dev nD) (t : Fin cfg0.N) (a : Fin 1024) (b : Fin 1024) :
    (iblk m c 3 t : S1024x1024.Idx → EReal) (ix2 a b) = r m c (ix2 ⟨t.val * 1024 + a.val, by have := lt t; omega⟩ b) := by
  have e := (index t).2.2.2.1
  refine (congrArg (V m c main_arg3) ?_).trans (argE m c _)
  refine (eq_ix2 ((win0_3.blk t).view.emb (ix2 a b))).trans (congrArg₂ ix2 (Fin.ext ?_) (Fin.ext ?_)) <;> blk_simp [e] <;> rfl

/-- The product, and what is added to it. -/
def out (m : (ℓ : Loc nD τ sig) → Buf (Elt Ideal) ℓ) (c : Dev nD) : S8192x1024.Idx → EReal := fun i =>
  (∑ k : Fin 1024, x m c (ix2 (i 0) k) * w m c (ix2 k (i 1))) + p m c (ix1 (i 1)) + r m c (ix2 (i 0) (i 1))

theorem emb (q : ℕ) (hn : q < cfg0.N) (hq : q < 8) (a : Fin 1024) (b : Fin 1024) :
    (win0_4.blk ⟨q, hn⟩).view.emb (ix2 a b) = ix2 (⟨q * 1024 + a.val, by omega⟩ : Fin 8192) (b : Fin 1024) := by
  have e := (index ⟨_, hn⟩).2.2.2.2
  refine (eq_ix2 ((win0_4.blk ⟨_, hn⟩).view.emb (ix2 a b))).trans ?_
  refine congrArg₂ ix2 (Fin.ext ?_) (Fin.ext ?_) <;> blk_simp [e] <;> rfl

/-- The array the call leaves. -/
theorem arr_eq (c : Dev nD) : (dats m 0 c).arrAt 4 cfg0.N = out m c := by
  refine (dats m 0 c).arrAt_eq_of_covers 4 _ (by decide +kernel) fun t hf y => ?_
  blk_simp
  rw [after0_4]
  obtain ⟨a, b, rfl⟩ : ∃ (a : Fin 1024) (b : Fin 1024), y = ix2 a b := ⟨y 0, y 1, eq_ix2 y⟩
  obtain ⟨q, hn⟩ := t
  have hl : q < 8 := hn
  frame_out
  refine (part_apply _ _ _ _ a b).trans ?_
  refine Eq.trans ?_ (congrArg (out m c) (emb q hn hl a b)).symm
  exact congrArg₂ (fun u v : EReal => u + v) (congrArg₂ (fun u v : EReal => u + v) (Finset.sum_congr rfl fun k _ => congrArg₂ (fun u v : EReal => u * v) (blk0 m c _ a k) (blk1 m c _ k b)) (blk2 m c _ b)) (blk3 m c _ a b)

end Cert.LruOutIdeal.Value

namespace Cert.LruOutRefIdeal.Value
open Cert.LruOutRefIdeal Cert.LruOutRefIdeal.Gen Idealize.ShloMosaic Idealize.ShloMosaic.TcCoe Idealize.SL.Sem

/-- The reference's result at an index. -/
theorem out_apply (x : FVec Ideal S8192x1024 .f32) (w : FVec Ideal S1024x1024 .f32) (p : FVec Ideal S1024 .f32) (r : FVec Ideal S8192x1024 .f32) (i : S8192x1024.Idx) :
    (addf r (addf (Host.dotGeneral dot_S8192x1024_S1024x1024_S8192x1024_1_0_0_1_n_n none x w) (broadcastInDim S8192x1024 ![0, 1] bcast_S1x1024_S8192x1024_0_1 (broadcastInDim S1x1024 ![1] bcast_S1024_S1x1024_1 p)))) i
      = (∑ k : Fin 1024, x (ix2 (i 0) k) * w (ix2 k (i 1))) + p (ix1 (i 1)) + r (ix2 (i 0) (i 1)) := by
  pointwise
  refine (add_comm _ _).trans (congrArg (· + _) ?_)
  refine congrArg (· + _) ?_
  first | done | rfl

end Cert.LruOutRefIdeal.Value

namespace Cert.Proof
open Idealize.ShloMosaic Idealize.ShloMosaic.TcCoe Idealize.SL.Sem

/-- Kernel and reference leave the same array. -/
theorem lruOut : @Cert.algebraic_LruOutIdeal_LruOutRefIdeal Cert.LruOutIdeal.Gen.facts Cert.LruOutRefIdeal.Gen.facts := by
  unfold Cert.algebraic_LruOutIdeal_LruOutRefIdeal
  intro m g m' g' _ hargs
  refine ⟨fun c => Cert.LruOutIdeal.Value.out m c, (θ_run _ _ _).mono (fun r h c => ?_) (Cert.LruOutIdeal.Value.run_blocks m g),
    (θ_run _ _ _).mono (fun r h c => ?_) (Cert.LruOutRefIdeal.Value.run m' g')⟩
  · exact ⟨(h c).1.trans (Cert.LruOutIdeal.Value.arr_eq m c), (h c).2⟩
  · refine ⟨(h c).1.trans (funext fun j => (Cert.LruOutRefIdeal.Value.out_apply _ _ _ _ j).trans ?_), (h c).2⟩
    rw [(hargs c).1, (hargs c).2.1, (hargs c).2.2.1, (hargs c).2.2.2]
    rfl

/-- The reference's frame: it leaves its arguments alone and has no semaphore. -/
theorem frame_LruOutRef : @Cert.quiescent_LruOutRefIdeal Cert.LruOutRefIdeal.Gen.facts := by
  intro m g _
  refine (θ_run _ _ _).mono (fun r h => ⟨fun c => (h c).2, funext fun s => ?_⟩) (Cert.LruOutRefIdeal.Value.run m g)
  exact ((by decide : ∀ sm : SemLoc Cert.LruOutRefIdeal.sig, False) s.2).elim

end Cert.Proof
-- ==== Proof.LruOutDxValue.lean ====
/-
  The gradient of a square projection in its input.
-/
module

public import proofs.«01_k».proof.Defs
public import proofs.«01_k».proof.Proof.Tiles
public import proofs.«01_k».proof.Proof.Gen.LruOutDxIdeal.Value
public import proofs.«01_k».proof.Proof.Gen.LruOutDxRefIdeal.Run

@[expose] public section

set_option maxRecDepth 16384

noncomputable section

namespace Cert.LruOutDxIdeal.Value

open Cert.LruOutDxIdeal Cert.LruOutDxIdeal.Gen Idealize.ShloMosaic Idealize.ShloMosaic.TcCoe Idealize.SL.Sem

/-- The product of a block of the one array with a block of the other. -/
theorem part_apply (x0 : Vec Ideal S1024x1024 .bf16) (x1 : Vec Ideal S1024x1024 .bf16) (a : Fin 1024) (b : Fin 1024) :
    k0_pay1 x0 x1 (ix2 a b) = (∑ k : Fin 1024, x0 (ix2 a k) * x1 (ix2 b k)) := by
  unfold k0_pay1
  pointwise
  refine (congrArg (· + _) Ideal.ofBits_zero_f32).trans ((zero_add _).trans ?_)
  refine Finset.sum_congr rfl fun k _ => ?_
  pointwise

variable (m : (ℓ : Loc nD τ sig) → Buf (Elt Ideal) ℓ)

/-- The blocks the windows stand at. -/
theorem index : ∀ t : Fin cfg0.N, win0_0.index t = ![t.val, 0] ∧ win0_1.index t = ![0, 0] ∧ win0_2.index t = ![t.val, 0] :=
  (by decide +kernel : ∀ t : Fin grid0.N, _)

/-- The arrays the call is given. -/
abbrev x (m : (ℓ : Loc nD τ sig) → Buf (Elt Ideal) ℓ) (c : Dev nD) : S8192x1024.Idx → EReal := m (c, main_arg1)

@[inherit_doc x]
abbrev w (m : (ℓ : Loc nD τ sig) → Buf (Elt Ideal) ℓ) (c : Dev nD) : S1024x1024.Idx → EReal := m (c, main_arg0)

theorem lt (t : Fin cfg0.N) : t.val < 8 := t.isLt

theorem argL (c : Dev nD) (i : S8192x1024.Idx) : (V m c main_v0 : S8192x1024.Idx → EReal) i = x m c i := by
  unfold V
  after_results
  rfl

theorem argR (c : Dev nD) (i : S1024x1024.Idx) : (V m c main_v1 : S1024x1024.Idx → EReal) i = w m c i := by
  unfold V
  after_results
  rfl

theorem blk0 (c : Dev nD) (t : Fin cfg0.N) (a : Fin 1024) (k : Fin 1024) :
    (iblk m c 0 t : S1024x1024.Idx → EReal) (ix2 a k) = x m c (ix2 ⟨t.val * 1024 + a.val, by have := lt t; omega⟩ k) := by
  have e := (index t).1
  refine (congrArg (V m c main_v0) ?_).trans (argL m c _)
  refine (eq_ix2 ((win0_0.blk t).view.emb (ix2 a k))).trans (congrArg₂ ix2 (Fin.ext ?_) (Fin.ext ?_)) <;> blk_simp [e] <;> rfl

theorem blk1 (c : Dev nD) (t : Fin cfg0.N) (b : Fin 1024) (k : Fin 1024) :
    (iblk m c 1 t : S1024x1024.Idx → EReal) (ix2 b k) = w m c (ix2 b k) := by
  have e := (index t).2.1
  refine (congrArg (V m c main_v1) ?_).trans (argR m c _)
  refine (eq_ix2 ((win0_1.blk t).view.emb (ix2 b k))).trans (congrArg₂ ix2 (Fin.ext ?_) (Fin.ext ?_)) <;> blk_simp [e] <;> rfl

/-- The product. -/
def out (m : (ℓ : Loc nD τ sig) → Buf (Elt Ideal) ℓ) (c : Dev nD) : S8192x1024.Idx → EReal := fun i =>
  (∑ k : Fin 1024, x m c (ix2 (i 0) k) * w m c (ix2 (i 1) k))

theorem emb (q : ℕ) (hn : q < cfg0.N) (hq : q < 8) (a : Fin 1024) (b : Fin 1024) :
    (win0_2.blk ⟨q, hn⟩).view.emb (ix2 a b) = ix2 (⟨q * 1024 + a.val, by omega⟩ : Fin 8192) (b : Fin 1024) := by
  have e := (index ⟨_, hn⟩).2.2
  refine (eq_ix2 ((win0_2.blk ⟨_, hn⟩).view.emb (ix2 a b))).trans ?_
  refine congrArg₂ ix2 (Fin.ext ?_) (Fin.ext ?_) <;> blk_simp [e] <;> rfl

/-- The array the call leaves. -/
theorem arr_eq (c : Dev nD) : (dats m 0 c).arrAt 2 cfg0.N = out m c := by
  refine (dats m 0 c).arrAt_eq_of_covers 2 _ (by decide +kernel) fun t hf y => ?_
  blk_simp
  rw [after0_2]
  obtain ⟨a, b, rfl⟩ : ∃ (a : Fin 1024) (b : Fin 1024), y = ix2 a b := ⟨y 0, y 1, eq_ix2 y⟩
  obtain ⟨q, hn⟩ := t
  have hl : q < 8 := hn
  frame_out
  refine (part_apply _ _ a b).trans ?_
  refine Eq.trans ?_ (congrArg (out m c) (emb q hn hl a b)).symm
  exact Finset.sum_congr rfl fun k _ => congrArg₂ (fun u v : EReal => u * v) (blk0 m c _ a k) (blk1 m c _ b k)

end Cert.LruOutDxIdeal.Value

namespace Cert.LruOutDxRefIdeal.Value
open Cert.LruOutDxRefIdeal Cert.LruOutDxRefIdeal.Gen Idealize.ShloMosaic Idealize.ShloMosaic.TcCoe Idealize.SL.Sem

/-- The reference's result at an index. -/
theorem out_apply (w : FVec Ideal S1024x1024 .f32) (x : FVec Ideal S8192x1024 .f32) (i : S8192x1024.Idx) :
    (Host.dotGeneral dot_S8192x1024_S1024x1024_S8192x1024_1_1_0_0_n_n none x w) i
      = (∑ k : Fin 1024, x (ix2 (i 0) k) * w (ix2 (i 1) k)) := by
  pointwise
  first | done | rfl

end Cert.LruOutDxRefIdeal.Value

namespace Cert.Proof
open Idealize.ShloMosaic Idealize.ShloMosaic.TcCoe Idealize.SL.Sem

/-- Kernel and reference leave the same array. -/
theorem lruOutDx : @Cert.algebraic_LruOutDxIdeal_LruOutDxRefIdeal Cert.LruOutDxIdeal.Gen.facts Cert.LruOutDxRefIdeal.Gen.facts := by
  unfold Cert.algebraic_LruOutDxIdeal_LruOutDxRefIdeal
  intro m g m' g' _ hargs
  refine ⟨fun c => Cert.LruOutDxIdeal.Value.out m c, (θ_run _ _ _).mono (fun r h c => ?_) (Cert.LruOutDxIdeal.Value.run_blocks m g),
    (θ_run _ _ _).mono (fun r h c => ?_) (Cert.LruOutDxRefIdeal.Value.run m' g')⟩
  · exact ⟨(h c).1.trans (Cert.LruOutDxIdeal.Value.arr_eq m c), (h c).2⟩
  · refine ⟨(h c).1.trans (funext fun j => (Cert.LruOutDxRefIdeal.Value.out_apply _ _ j).trans ?_), (h c).2⟩
    rw [(hargs c).1, (hargs c).2]
    rfl

/-- The reference's frame: it leaves its arguments alone and has no semaphore. -/
theorem frame_LruOutDxRef : @Cert.quiescent_LruOutDxRefIdeal Cert.LruOutDxRefIdeal.Gen.facts := by
  intro m g _
  refine (θ_run _ _ _).mono (fun r h => ⟨fun c => (h c).2, funext fun s => ?_⟩) (Cert.LruOutDxRefIdeal.Value.run m g)
  exact ((by decide : ∀ sm : SemLoc Cert.LruOutDxRefIdeal.sig, False) s.2).elim

end Cert.Proof
-- ==== Proof.LruOutDwValue.lean ====
/-
  The gradient of a square projection in its weight, the rows in four blocks.
-/
module

public import proofs.«01_k».proof.Defs
public import proofs.«01_k».proof.Proof.Tiles
public import proofs.«01_k».proof.Proof.Gen.LruOutDwIdeal.Value
public import proofs.«01_k».proof.Proof.Gen.LruOutDwRefIdeal.Run

@[expose] public section

set_option maxRecDepth 16384

noncomputable section

namespace Cert.LruOutDwIdeal.Value

open Cert.LruOutDwIdeal Cert.LruOutDwIdeal.Gen Idealize.ShloMosaic Idealize.ShloMosaic.TcCoe Idealize.SL.Sem

/-- The product of a block of the one array with a block of the other. -/
theorem part_apply (x0 : Vec Ideal S2048x1024 .bf16) (x1 : Vec Ideal S2048x1024 .bf16) (a : Fin 1024) (b : Fin 1024) :
    k0_pay1 x0 x1 (ix2 a b) = (∑ k : Fin 2048, x0 (ix2 k a) * x1 (ix2 k b)) := by
  unfold k0_pay1
  pointwise
  refine (congrArg (· + _) Ideal.ofBits_zero_f32).trans ((zero_add _).trans ?_)
  refine Finset.sum_congr rfl fun k _ => ?_
  pointwise

variable (m : (ℓ : Loc nD τ sig) → Buf (Elt Ideal) ℓ)

/-- What grid point `n` adds. -/
def part (c : Dev nD) (n : ℕ) (hn : n < cfg0.N) (j : S1024x1024.Idx) : EReal :=
  k0_pay1 (F := Ideal) (iblk m c 0 ⟨n, hn⟩) (iblk m c 1 ⟨n, hn⟩) j

/-- The first point of a tile starts the sum. -/
theorem first (c : Dev nD) (t : Fin cfg0.N) (h0 : t.val % 4 = 0) (j : S1024x1024.Idx) :
    (outsAt0 m c t.val t.isLt).2 j = part m c t.val t.isLt j := by
  rw [outsAt0_A m c t h0 (by omega) (by omega)]
  frame_out
  unfold k0_pay2 part
  pointwise

/-- The points between add to it. -/
theorem next (c : Dev nD) (t : Fin cfg0.N) (h1 : 1 ≤ t.val % 4 ∧ t.val % 4 ≤ 2) (j : S1024x1024.Idx) :
    (outsAt0 m c t.val t.isLt).2 j
      = (outsAt0 m c (t.val - 1) (Nat.lt_of_le_of_lt (Nat.sub_le _ _) t.isLt)).2 j + part m c t.val t.isLt j := by
  rw [outsAt0_B m c t (by omega) h1 (by omega)]
  frame_out
  unfold k0_pay3 part
  pointwise
  rw [read_unread_whole]
  rfl

/-- The last adds to it and writes the tile. -/
theorem last (c : Dev nD) (t : Fin cfg0.N) (h2 : t.val % 4 = 3) (a : Fin 1024) (b : Fin 1024) :
    (outsAt0 m c t.val t.isLt).1 (ix2 a b)
      = (outsAt0 m c (t.val - 1) (Nat.lt_of_le_of_lt (Nat.sub_le _ _) t.isLt)).2 (ix2 a b) + part m c t.val t.isLt (ix2 a b) := by
  rw [outsAt0_C m c t (by omega) (by omega) h2]
  frame_out
  unfold k0_pay4 part
  pointwise
  rw [read_unread_whole]
  rfl

/-- What is written back after the four points of a tile. -/
theorem fold (c : Dev nD) (q : ℕ) (hq : 4 * q + 3 < cfg0.N) (a : Fin 1024) (b : Fin 1024) :
    (outsAt0 m c (4 * q + 3) hq).1 (ix2 a b) = part m c (4 * q) (by omega) (ix2 a b) + part m c (4 * q + 1) (by omega) (ix2 a b) + part m c (4 * q + 2) (by omega) (ix2 a b) + part m c (4 * q + 3) hq (ix2 a b) :=
  (last m c ⟨4 * q + 3, hq⟩ (by show (4 * q + 3) % 4 = 3; omega) a b).trans (congrArg (fun z : EReal => z + _)
    ((next m c ⟨4 * q + 2, by omega⟩ (by show 1 ≤ (4 * q + 2) % 4 ∧ (4 * q + 2) % 4 ≤ 2; omega) _).trans (congrArg (· + _)
    ((next m c ⟨4 * q + 1, by omega⟩ (by show 1 ≤ (4 * q + 1) % 4 ∧ (4 * q + 1) % 4 ≤ 2; omega) _).trans (congrArg (· + _)
    (first m c ⟨4 * q, by omega⟩ (by show 4 * q % 4 = 0; omega) _))))))

/-- The blocks the windows stand at. -/
theorem index : ∀ t : Fin cfg0.N, win0_0.index t = ![t.val % 4, 0] ∧ win0_1.index t = ![t.val % 4, 0] ∧ win0_2.index t = ![0, 0] :=
  (by decide +kernel : ∀ t : Fin grid0.N, _)

/-- The arrays the call is given. -/
abbrev x (m : (ℓ : Loc nD τ sig) → Buf (Elt Ideal) ℓ) (c : Dev nD) : S8192x1024.Idx → EReal := m (c, main_arg0)

@[inherit_doc x]
abbrev w (m : (ℓ : Loc nD τ sig) → Buf (Elt Ideal) ℓ) (c : Dev nD) : S8192x1024.Idx → EReal := m (c, main_arg1)

theorem lt (t : Fin cfg0.N) : t.val < 4 := t.isLt

theorem argL (c : Dev nD) (i : S8192x1024.Idx) : (V m c main_v0 : S8192x1024.Idx → EReal) i = x m c i := by
  unfold V
  after_results
  rfl

theorem argR (c : Dev nD) (i : S8192x1024.Idx) : (V m c main_v1 : S8192x1024.Idx → EReal) i = w m c i := by
  unfold V
  after_results
  rfl

theorem blk0 (c : Dev nD) (t : Fin cfg0.N) (k : Fin 2048) (a : Fin 1024) :
    (iblk m c 0 t : S2048x1024.Idx → EReal) (ix2 k a) = x m c (ix2 ⟨t.val % 4 * 2048 + k.val, by have := lt t; omega⟩ a) := by
  have e := (index t).1
  refine (congrArg (V m c main_v0) ?_).trans (argL m c _)
  refine (eq_ix2 ((win0_0.blk t).view.emb (ix2 k a))).trans (congrArg₂ ix2 (Fin.ext ?_) (Fin.ext ?_)) <;> blk_simp [e] <;> rfl

theorem blk1 (c : Dev nD) (t : Fin cfg0.N) (k : Fin 2048) (b : Fin 1024) :
    (iblk m c 1 t : S2048x1024.Idx → EReal) (ix2 k b) = w m c (ix2 ⟨t.val % 4 * 2048 + k.val, by have := lt t; omega⟩ b) := by
  have e := (index t).2.1
  refine (congrArg (V m c main_v1) ?_).trans (argR m c _)
  refine (eq_ix2 ((win0_1.blk t).view.emb (ix2 k b))).trans (congrArg₂ ix2 (Fin.ext ?_) (Fin.ext ?_)) <;> blk_simp [e] <;> rfl

/-- The product. -/
def out (m : (ℓ : Loc nD τ sig) → Buf (Elt Ideal) ℓ) (c : Dev nD) : S1024x1024.Idx → EReal := fun i =>
  (∑ k : Fin 8192, x m c (ix2 k (i 0)) * w m c (ix2 k (i 1)))

theorem part_eq (c : Dev nD) (q : ℕ) (s : Fin 4) (h : 4 * q + s.val < cfg0.N) (hq : q < 1) (a : Fin 1024) (b : Fin 1024) :
    part m c (4 * q + s.val) h (ix2 a b) = ∑ k : Fin 2048,
      x m c (ix2 ⟨s.val * 2048 + k.val, by omega⟩ a) * w m c (ix2 ⟨s.val * 2048 + k.val, by omega⟩ b) := by
  refine (part_apply _ _ _ _).trans (Finset.sum_congr rfl fun k _ => ?_)
  refine (congrArg₂ (fun u v : EReal => u * v) (blk0 m c _ k a) (blk1 m c _ k b)).trans ?_
  have e1 : (4 * q + s.val) % 4 = s.val := by omega
  simp only [e1]

theorem emb (q : ℕ) (hn : 4 * q + 3 < cfg0.N) (hq : q < 1) (a : Fin 1024) (b : Fin 1024) :
    (win0_2.blk ⟨4 * q + 3, hn⟩).view.emb (ix2 a b) = ix2 (a : Fin 1024) (b : Fin 1024) := by
  have e := (index ⟨_, hn⟩).2.2
  refine (eq_ix2 ((win0_2.blk ⟨_, hn⟩).view.emb (ix2 a b))).trans ?_
  refine congrArg₂ ix2 (Fin.ext ?_) (Fin.ext ?_) <;> blk_simp [e] <;> rfl

/-- The array the call leaves. -/
theorem arr_eq (c : Dev nD) : (dats m 0 c).arrAt 2 cfg0.N = out m c := by
  refine (dats m 0 c).arrAt_eq_of_covers 2 _ (by decide +kernel) fun t hf y => ?_
  have hm : t.val % 4 = 3 := (flush0_2 t).mp hf
  blk_simp
  rw [after0_2]
  obtain ⟨a, b, rfl⟩ : ∃ (a : Fin 1024) (b : Fin 1024), y = ix2 a b := ⟨y 0, y 1, eq_ix2 y⟩
  obtain ⟨q, hq⟩ : ∃ q, t.val = 4 * q + 3 := ⟨t.val / 4, by omega⟩
  obtain ⟨n, hn⟩ := t
  obtain rfl : n = 4 * q + 3 := hq
  have hl : 4 * q + 3 < 4 := hn
  refine (fold m c q hn a b).trans ?_
  have hs := Cert.Tiles.sum_four 2048 (fun k : Fin 8192 => x m c (ix2 k a) * w m c (ix2 k b))
    (fun s => part m c (4 * q + s.val) (show 4 * q + s.val < 4 by omega) (ix2 a b)) fun s => part_eq m c q s _ (by omega) a b
  refine Eq.trans ?_ (hs.trans ?_)
  · rfl
  · exact (congrArg (out m c) (emb q hn (by omega) a b)).symm

end Cert.LruOutDwIdeal.Value

namespace Cert.LruOutDwRefIdeal.Value
open Cert.LruOutDwRefIdeal Cert.LruOutDwRefIdeal.Gen Idealize.ShloMosaic Idealize.ShloMosaic.TcCoe Idealize.SL.Sem

/-- The reference's result at an index. -/
theorem out_apply (x : FVec Ideal S8192x1024 .f32) (w : FVec Ideal S8192x1024 .f32) (i : S1024x1024.Idx) :
    (truncf .bf16 (transpose S1024x1024 [1, 0] (Host.dotGeneral dot_S8192x1024_S8192x1024_S1024x1024_0_0_1_1_n_n none w x) transposes_S1024x1024_S1024x1024_1_0) bitsLt_bf16_f32) i
      = (∑ k : Fin 8192, x (ix2 k (i 0)) * w (ix2 k (i 1))) := by
  pointwise
  exact Finset.sum_congr rfl fun k _ => mul_comm _ _

end Cert.LruOutDwRefIdeal.Value

namespace Cert.Proof
open Idealize.ShloMosaic Idealize.ShloMosaic.TcCoe Idealize.SL.Sem

/-- Kernel and reference leave the same array. -/
theorem lruOutDw : @Cert.algebraic_LruOutDwIdeal_LruOutDwRefIdeal Cert.LruOutDwIdeal.Gen.facts Cert.LruOutDwRefIdeal.Gen.facts := by
  unfold Cert.algebraic_LruOutDwIdeal_LruOutDwRefIdeal
  intro m g m' g' _ hargs
  refine ⟨fun c => Cert.LruOutDwIdeal.Value.out m c, (θ_run _ _ _).mono (fun r h c => ?_) (Cert.LruOutDwIdeal.Value.run_blocks m g),
    (θ_run _ _ _).mono (fun r h c => ?_) (Cert.LruOutDwRefIdeal.Value.run m' g')⟩
  · exact ⟨(h c).1.trans (Cert.LruOutDwIdeal.Value.arr_eq m c), (h c).2⟩
  · refine ⟨(h c).1.trans (funext fun j => (Cert.LruOutDwRefIdeal.Value.out_apply _ _ j).trans ?_), (h c).2⟩
    rw [(hargs c).1, (hargs c).2]
    rfl

/-- The reference's frame: it leaves its arguments alone and has no semaphore. -/
theorem frame_LruOutDwRef : @Cert.quiescent_LruOutDwRefIdeal Cert.LruOutDwRefIdeal.Gen.facts := by
  intro m g _
  refine (θ_run _ _ _).mono (fun r h => ⟨fun c => (h c).2, funext fun s => ?_⟩) (Cert.LruOutDwRefIdeal.Value.run m g)
  exact ((by decide : ∀ sm : SemLoc Cert.LruOutDwRefIdeal.sig, False) s.2).elim

end Cert.Proof
-- ==== Proof.RwkvRValue.lean ====
/-
  A square projection of the RWKV-7 block.
-/
module

public import proofs.«01_k».proof.Defs
public import proofs.«01_k».proof.Proof.Tiles
public import proofs.«01_k».proof.Proof.Gen.RwkvRIdeal.Value
public import proofs.«01_k».proof.Proof.Gen.RwkvRRefIdeal.Run

@[expose] public section

set_option maxRecDepth 16384

noncomputable section

namespace Cert.RwkvRIdeal.Value

open Cert.RwkvRIdeal Cert.RwkvRIdeal.Gen Idealize.ShloMosaic Idealize.ShloMosaic.TcCoe Idealize.SL.Sem

/-- The product of a block of the one array with a block of the other. -/
theorem part_apply (x0 : Vec Ideal S1024x1024 .bf16) (x1 : Vec Ideal S1024x1024 .bf16) (a : Fin 1024) (b : Fin 1024) :
    k0_pay1 x0 x1 (ix2 a b) = (∑ k : Fin 1024, x0 (ix2 a k) * x1 (ix2 k b)) := by
  unfold k0_pay1
  pointwise
  refine (congrArg (· + _) Ideal.ofBits_zero_f32).trans ((zero_add _).trans ?_)
  refine Finset.sum_congr rfl fun k _ => ?_
  pointwise

variable (m : (ℓ : Loc nD τ sig) → Buf (Elt Ideal) ℓ)

/-- The blocks the windows stand at. -/
theorem index : ∀ t : Fin cfg0.N, win0_0.index t = ![t.val, 0] ∧ win0_1.index t = ![0, 0] ∧ win0_2.index t = ![t.val, 0] :=
  (by decide +kernel : ∀ t : Fin grid0.N, _)

/-- The arrays the call is given. -/
abbrev x (m : (ℓ : Loc nD τ sig) → Buf (Elt Ideal) ℓ) (c : Dev nD) : S8192x1024.Idx → EReal := m (c, main_arg0)

@[inherit_doc x]
abbrev w (m : (ℓ : Loc nD τ sig) → Buf (Elt Ideal) ℓ) (c : Dev nD) : S1024x1024.Idx → EReal := m (c, main_arg1)

theorem lt (t : Fin cfg0.N) : t.val < 8 := t.isLt

theorem argL (c : Dev nD) (i : S8192x1024.Idx) : (V m c main_v0 : S8192x1024.Idx → EReal) i = x m c i := by
  unfold V
  after_results
  rfl

theorem argR (c : Dev nD) (i : S1024x1024.Idx) : (V m c main_v1 : S1024x1024.Idx → EReal) i = w m c i := by
  unfold V
  after_results
  rfl

theorem blk0 (c : Dev nD) (t : Fin cfg0.N) (a : Fin 1024) (k : Fin 1024) :
    (iblk m c 0 t : S1024x1024.Idx → EReal) (ix2 a k) = x m c (ix2 ⟨t.val * 1024 + a.val, by have := lt t; omega⟩ k) := by
  have e := (index t).1
  refine (congrArg (V m c main_v0) ?_).trans (argL m c _)
  refine (eq_ix2 ((win0_0.blk t).view.emb (ix2 a k))).trans (congrArg₂ ix2 (Fin.ext ?_) (Fin.ext ?_)) <;> blk_simp [e] <;> rfl

theorem blk1 (c : Dev nD) (t : Fin cfg0.N) (k : Fin 1024) (b : Fin 1024) :
    (iblk m c 1 t : S1024x1024.Idx → EReal) (ix2 k b) = w m c (ix2 k b) := by
  have e := (index t).2.1
  refine (congrArg (V m c main_v1) ?_).trans (argR m c _)
  refine (eq_ix2 ((win0_1.blk t).view.emb (ix2 k b))).trans (congrArg₂ ix2 (Fin.ext ?_) (Fin.ext ?_)) <;> blk_simp [e] <;> rfl

/-- The product. -/
def out (m : (ℓ : Loc nD τ sig) → Buf (Elt Ideal) ℓ) (c : Dev nD) : S8192x1024.Idx → EReal := fun i =>
  (∑ k : Fin 1024, x m c (ix2 (i 0) k) * w m c (ix2 k (i 1)))

theorem emb (q : ℕ) (hn : q < cfg0.N) (hq : q < 8) (a : Fin 1024) (b : Fin 1024) :
    (win0_2.blk ⟨q, hn⟩).view.emb (ix2 a b) = ix2 (⟨q * 1024 + a.val, by omega⟩ : Fin 8192) (b : Fin 1024) := by
  have e := (index ⟨_, hn⟩).2.2
  refine (eq_ix2 ((win0_2.blk ⟨_, hn⟩).view.emb (ix2 a b))).trans ?_
  refine congrArg₂ ix2 (Fin.ext ?_) (Fin.ext ?_) <;> blk_simp [e] <;> rfl

/-- The array the call leaves. -/
theorem arr_eq (c : Dev nD) : (dats m 0 c).arrAt 2 cfg0.N = out m c := by
  refine (dats m 0 c).arrAt_eq_of_covers 2 _ (by decide +kernel) fun t hf y => ?_
  blk_simp
  rw [after0_2]
  obtain ⟨a, b, rfl⟩ : ∃ (a : Fin 1024) (b : Fin 1024), y = ix2 a b := ⟨y 0, y 1, eq_ix2 y⟩
  obtain ⟨q, hn⟩ := t
  have hl : q < 8 := hn
  frame_out
  refine (part_apply _ _ a b).trans ?_
  refine Eq.trans ?_ (congrArg (out m c) (emb q hn hl a b)).symm
  exact Finset.sum_congr rfl fun k _ => congrArg₂ (fun u v : EReal => u * v) (blk0 m c _ a k) (blk1 m c _ k b)

end Cert.RwkvRIdeal.Value

namespace Cert.RwkvRRefIdeal.Value
open Cert.RwkvRRefIdeal Cert.RwkvRRefIdeal.Gen Idealize.ShloMosaic Idealize.ShloMosaic.TcCoe Idealize.SL.Sem

/-- The reference's result at an index. -/
theorem out_apply (x : FVec Ideal S8192x1024 .f32) (w : FVec Ideal S1024x1024 .f32) (i : S8192x1024.Idx) :
    (Host.dotGeneral dot_S8192x1024_S1024x1024_S8192x1024_1_0_0_1_n_n none x w) i
      = (∑ k : Fin 1024, x (ix2 (i 0) k) * w (ix2 k (i 1))) := by
  pointwise
  first | done | rfl

end Cert.RwkvRRefIdeal.Value

namespace Cert.Proof
open Idealize.ShloMosaic Idealize.ShloMosaic.TcCoe Idealize.SL.Sem

/-- Kernel and reference leave the same array. -/
theorem rwkvR : @Cert.algebraic_RwkvRIdeal_RwkvRRefIdeal Cert.RwkvRIdeal.Gen.facts Cert.RwkvRRefIdeal.Gen.facts := by
  unfold Cert.algebraic_RwkvRIdeal_RwkvRRefIdeal
  intro m g m' g' _ hargs
  refine ⟨fun c => Cert.RwkvRIdeal.Value.out m c, (θ_run _ _ _).mono (fun r h c => ?_) (Cert.RwkvRIdeal.Value.run_blocks m g),
    (θ_run _ _ _).mono (fun r h c => ?_) (Cert.RwkvRRefIdeal.Value.run m' g')⟩
  · exact ⟨(h c).1.trans (Cert.RwkvRIdeal.Value.arr_eq m c), (h c).2⟩
  · refine ⟨(h c).1.trans (funext fun j => (Cert.RwkvRRefIdeal.Value.out_apply _ _ j).trans ?_), (h c).2⟩
    rw [(hargs c).1, (hargs c).2]
    rfl

/-- The reference's frame: it leaves its arguments alone and has no semaphore. -/
theorem frame_RwkvRRef : @Cert.quiescent_RwkvRRefIdeal Cert.RwkvRRefIdeal.Gen.facts := by
  intro m g _
  refine (θ_run _ _ _).mono (fun r h => ⟨fun c => (h c).2, funext fun s => ?_⟩) (Cert.RwkvRRefIdeal.Value.run m g)
  exact ((by decide : ∀ sm : SemLoc Cert.RwkvRRefIdeal.sig, False) s.2).elim

end Cert.Proof
-- ==== Proof.RwkvOutValue.lean ====
/-
  The output projection of the RWKV-7 block, added to the residual.
-/
module

public import proofs.«01_k».proof.Defs
public import proofs.«01_k».proof.Proof.Tiles
public import proofs.«01_k».proof.Proof.Gen.RwkvOutIdeal.Value
public import proofs.«01_k».proof.Proof.Gen.RwkvOutRefIdeal.Run

@[expose] public section

set_option maxRecDepth 16384

noncomputable section

namespace Cert.RwkvOutIdeal.Value

open Cert.RwkvOutIdeal Cert.RwkvOutIdeal.Gen Idealize.ShloMosaic Idealize.ShloMosaic.TcCoe Idealize.SL.Sem

/-- The product of a block of the one array with a block of the other, and what is added to it. -/
theorem part_apply (x0 : Vec Ideal S1024x1024 .bf16) (x1 : Vec Ideal S1024x1024 .bf16) (x2 : Vec Ideal S1024x1024 .f32) (a : Fin 1024) (b : Fin 1024) :
    k0_pay1 x0 x1 x2 (ix2 a b) = (∑ k : Fin 1024, x0 (ix2 a k) * x1 (ix2 k b)) + x2 (ix2 a b) := by
  unfold k0_pay1
  pointwise
  refine congrArg (· + _) (?_)
  refine (congrArg (· + _) Ideal.ofBits_zero_f32).trans ((zero_add _).trans ?_)
  refine Finset.sum_congr rfl fun k _ => ?_
  pointwise

variable (m : (ℓ : Loc nD τ sig) → Buf (Elt Ideal) ℓ)

/-- The blocks the windows stand at. -/
theorem index : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- The arrays the call is given. -/
abbrev x (m : (ℓ : Loc nD τ sig) → Buf (Elt Ideal) ℓ) (c : Dev nD) : S8192x1024.Idx → EReal := m (c, main_arg0)

@[inherit_doc x]
abbrev w (m : (ℓ : Loc nD τ sig) → Buf (Elt Ideal) ℓ) (c : Dev nD) : S1024x1024.Idx → EReal := m (c, main_arg1)

@[inherit_doc x]
abbrev r (m : (ℓ : Loc nD τ sig) → Buf (Elt Ideal) ℓ) (c : Dev nD) : S8192x1024.Idx → EReal := m (c, main_arg2)

theorem lt (t : Fin cfg0.N) : t.val < 8 := t.isLt

theorem argL (c : Dev nD) (i : S8192x1024.Idx) : (V m c main_v0 : S8192x1024.Idx → EReal) i = x m c i := by
  unfold V
  after_results
  rfl

theorem argR (c : Dev nD) (i : S1024x1024.Idx) : (V m c main_v1 : S1024x1024.Idx → EReal) i = w m c i := by
  unfold V
  after_results
  rfl

theorem blk0 (c : Dev nD) (t : Fin cfg0.N) (a : Fin 1024) (k : Fin 1024) :
    (iblk m c 0 t : S1024x1024.Idx → EReal) (ix2 a k) = x m c (ix2 ⟨t.val * 1024 + a.val, by have := lt t; omega⟩ k) := by
  have e := (index t).1
  refine (congrArg (V m c main_v0) ?_).trans (argL m c _)
  refine (eq_ix2 ((win0_0.blk t).view.emb (ix2 a k))).trans (congrArg₂ ix2 (Fin.ext ?_) (Fin.ext ?_)) <;> blk_simp [e] <;> rfl

theorem blk1 (c : Dev nD) (t : Fin cfg0.N) (k : Fin 1024) (b : Fin 1024) :
    (iblk m c 1 t : S1024x1024.Idx → EReal) (ix2 k b) = w m c (ix2 k b) := by
  have e := (index t).2.1
  refine (congrArg (V m c main_v1) ?_).trans (argR m c _)
  refine (eq_ix2 ((win0_1.blk t).view.emb (ix2 k b))).trans (congrArg₂ ix2 (Fin.ext ?_) (Fin.ext ?_)) <;> blk_simp [e] <;> rfl

theorem argE (c : Dev nD) (i : S8192x1024.Idx) : (V m c main_arg2 : S8192x1024.Idx → EReal) i = r m c i := by
  unfold V
  after_results

theorem blk2 (c : Dev nD) (t : Fin cfg0.N) (a : Fin 1024) (b : Fin 1024) :
    (iblk m c 2 t : S1024x1024.Idx → EReal) (ix2 a b) = r m c (ix2 ⟨t.val * 1024 + a.val, by have := lt t; omega⟩ b) := by
  have e := (index t).2.2.1
  refine (congrArg (V m c main_arg2) ?_).trans (argE m c _)
  refine (eq_ix2 ((win0_2.blk t).view.emb (ix2 a b))).trans (congrArg₂ ix2 (Fin.ext ?_) (Fin.ext ?_)) <;> blk_simp [e] <;> rfl

/-- The product, and what is added to it. -/
def out (m : (ℓ : Loc nD τ sig) → Buf (Elt Ideal) ℓ) (c : Dev nD) : S8192x1024.Idx → EReal := fun i =>
  (∑ k : Fin 1024, x m c (ix2 (i 0) k) * w m c (ix2 k (i 1))) + r m c (ix2 (i 0) (i 1))

theorem emb (q : ℕ) (hn : q < cfg0.N) (hq : q < 8) (a : Fin 1024) (b : Fin 1024) :
    (win0_3.blk ⟨q, hn⟩).view.emb (ix2 a b) = ix2 (⟨q * 1024 + a.val, by omega⟩ : Fin 8192) (b : Fin 1024) := by
  have e := (index ⟨_, hn⟩).2.2.2
  refine (eq_ix2 ((win0_3.blk ⟨_, hn⟩).view.emb (ix2 a b))).trans ?_
  refine congrArg₂ ix2 (Fin.ext ?_) (Fin.ext ?_) <;> blk_simp [e] <;> rfl

/-- The array the call leaves. -/
theorem arr_eq (c : Dev nD) : (dats m 0 c).arrAt 3 cfg0.N = out m c := by
  refine (dats m 0 c).arrAt_eq_of_covers 3 _ (by decide +kernel) fun t hf y => ?_
  blk_simp
  rw [after0_3]
  obtain ⟨a, b, rfl⟩ : ∃ (a : Fin 1024) (b : Fin 1024), y = ix2 a b := ⟨y 0, y 1, eq_ix2 y⟩
  obtain ⟨q, hn⟩ := t
  have hl : q < 8 := hn
  frame_out
  refine (part_apply _ _ _ a b).trans ?_
  refine Eq.trans ?_ (congrArg (out m c) (emb q hn hl a b)).symm
  exact congrArg₂ (fun u v : EReal => u + v) (Finset.sum_congr rfl fun k _ => congrArg₂ (fun u v : EReal => u * v) (blk0 m c _ a k) (blk1 m c _ k b)) (blk2 m c _ a b)

end Cert.RwkvOutIdeal.Value

namespace Cert.RwkvOutRefIdeal.Value
open Cert.RwkvOutRefIdeal Cert.RwkvOutRefIdeal.Gen Idealize.ShloMosaic Idealize.ShloMosaic.TcCoe Idealize.SL.Sem

/-- The reference's result at an index. -/
theorem out_apply (x : FVec Ideal S8192x1024 .f32) (w : FVec Ideal S1024x1024 .f32) (r : FVec Ideal S8192x1024 .f32) (i : S8192x1024.Idx) :
    (addf r (Host.dotGeneral dot_S8192x1024_S1024x1024_S8192x1024_1_0_0_1_n_n none x w)) i
      = (∑ k : Fin 1024, x (ix2 (i 0) k) * w (ix2 k (i 1))) + r (ix2 (i 0) (i 1)) := by
  pointwise
  refine (add_comm _ _).trans (congrArg (· + _) ?_)
  first | done | rfl

end Cert.RwkvOutRefIdeal.Value

namespace Cert.Proof
open Idealize.ShloMosaic Idealize.ShloMosaic.TcCoe Idealize.SL.Sem

/-- Kernel and reference leave the same array. -/
theorem rwkvOut : @Cert.algebraic_RwkvOutIdeal_RwkvOutRefIdeal Cert.RwkvOutIdeal.Gen.facts Cert.RwkvOutRefIdeal.Gen.facts := by
  unfold Cert.algebraic_RwkvOutIdeal_RwkvOutRefIdeal
  intro m g m' g' _ hargs
  refine ⟨fun c => Cert.RwkvOutIdeal.Value.out m c, (θ_run _ _ _).mono (fun r h c => ?_) (Cert.RwkvOutIdeal.Value.run_blocks m g),
    (θ_run _ _ _).mono (fun r h c => ?_) (Cert.RwkvOutRefIdeal.Value.run m' g')⟩
  · exact ⟨(h c).1.trans (Cert.RwkvOutIdeal.Value.arr_eq m c), (h c).2⟩
  · refine ⟨(h c).1.trans (funext fun j => (Cert.RwkvOutRefIdeal.Value.out_apply _ _ _ j).trans ?_), (h c).2⟩
    rw [(hargs c).1, (hargs c).2.1, (hargs c).2.2]
    rfl

/-- The reference's frame: it leaves its arguments alone and has no semaphore. -/
theorem frame_RwkvOutRef : @Cert.quiescent_RwkvOutRefIdeal Cert.RwkvOutRefIdeal.Gen.facts := by
  intro m g _
  refine (θ_run _ _ _).mono (fun r h => ⟨fun c => (h c).2, funext fun s => ?_⟩) (Cert.RwkvOutRefIdeal.Value.run m g)
  exact ((by decide : ∀ sm : SemLoc Cert.RwkvOutRefIdeal.sig, False) s.2).elim

end Cert.Proof
-- ==== Proof.NormBwdValue.lean ====
/-
  The gradient of the root mean square norm of the feed-forward block: the gradient in the stream row by row, with the
  cotangent of the residual path added, and the gradient in the scale, a sum over all rows that grows from tile to tile.
-/
module

public import proofs.«01_k».proof.Defs
public import proofs.«01_k».proof.Proof.Tiles
public import Idealize.ShloMosaic.Lib.Pointwise.Reduce
public import Idealize.ShloMosaic.Lib.Pointwise.Tactic
public import proofs.«01_k».proof.Proof.Gen.NormBwdIdeal.Value
public import proofs.«01_k».proof.Proof.Gen.NormBwdRefIdeal.Run

@[expose] public section

set_option maxRecDepth 16384

noncomputable section

namespace Cert.RmsNorm
open Idealize.ShloMosaic

/-- The mean square of a row and the small constant. -/
def den (x : Fin 1024 → EReal) : EReal :=
  Ideal.div (∑ k, x k * x k) (Ideal.ofBits FTy.f32 1149239296#32) + Ideal.ofBits FTy.f32 897988541#32

/-- The row's factor. -/
def inv (x : Fin 1024 → EReal) : EReal := Ideal.rsqrt (den x)

/-- The cotangent of the mean square, spread over the row. -/
def coef (x g d : Fin 1024 → EReal) : EReal :=
  Ideal.div ((∑ k, x k * (d k * g k)) * (Ideal.ofBits FTy.f32 3204448256#32 * Ideal.div (inv x) (den x)))
    (Ideal.ofBits FTy.f32 1149239296#32)

/-- The gradient in the stream at one entry of a row, with the residual's cotangent. -/
def dx (x g d r : Fin 1024 → EReal) (b : Fin 1024) : EReal :=
  d b * g b * inv x + x b * coef x g d + coef x g d * x b + r b

/-- What a row adds to the gradient in the scale. -/
def dg (x d : Fin 1024 → EReal) (b : Fin 1024) : EReal := x b * inv x * d b

/-- The residual's cotangent may be added last instead of first. -/
theorem last_first (r u v w : EReal) : r + u + v + w = u + v + w + r := by
  rw [add_comm (u + v + w) r, add_assoc, add_assoc, ← add_assoc u v w]

end Cert.RmsNorm

namespace Cert.NormBwdIdeal.Value

open Cert.NormBwdIdeal Cert.NormBwdIdeal.Gen Idealize.ShloMosaic Idealize.ShloMosaic.TcCoe Idealize.SL.Sem Cert.RmsNorm

theorem pay6_apply (x : Vec Ideal S512x1024 .f32) (g : Vec Ideal S1x1024 .f32) (d : Vec Ideal S512x1024 .f32) (r : Vec Ideal S512x1024 .f32) (a : Fin 512) (b : Fin 1024) :
    k0_pay6 x g d r (ix2 a b) = dx (fun k => x (ix2 a k)) (fun k => g (ix2 0 k)) (fun k => d (ix2 a k)) (fun k => r (ix2 a k)) b := by
  unfold k0_pay6 k0_pay4 k0_pay3
  pointwise
  simp only [Fin.sum_univ_one]
  rfl

theorem pay5_apply (x : Vec Ideal S512x1024 .f32) (d : Vec Ideal S512x1024 .f32) (b : Fin 1024) :
    k0_pay5 x d (ix2 0 b) = ∑ a : Fin 512, dg (fun k => x (ix2 a k)) (fun k => d (ix2 a k)) b := by
  unfold k0_pay5 k0_pay4 k0_pay3
  pointwise
  rfl

variable (m : (ℓ : Loc nD τ sig) → Buf (Elt Ideal) ℓ)

/-- What grid point `n` adds to the gradient in the scale. -/
def part (c : Dev nD) (n : ℕ) (hn : n < cfg0.N) (b : Fin 1024) : EReal :=
  k0_pay5 (F := Ideal) (iblk m c 0 ⟨n, hn⟩) (iblk m c 1 ⟨n, hn⟩) (ix2 0 b)

/-- Every point writes its tile of the gradient in the stream. -/
theorem tile (c : Dev nD) (t : Fin cfg0.N) :
    (outsAt0 m c t.val t.isLt).1 = k0_pay6 (F := Ideal) (iblk m c 0 t) (iblk m c 3 t) (iblk m c 1 t) (iblk m c 2 t) := by
  by_cases h0 : t.val % 16 = 0
  · rw [outsAt0_A m c t h0]
    frame_out
  · rw [outsAt0_B m c t h0]
    frame_out

/-- The first point starts the sum. -/
theorem first (c : Dev nD) (t : Fin cfg0.N) (h0 : t.val % 16 = 0) (b : Fin 1024) :
    (outsAt0 m c t.val t.isLt).2 (ix2 0 b) = part m c t.val t.isLt b := by
  rw [outsAt0_A m c t h0]
  frame_out
  unfold k0_pay2 k0_pay1 part
  pointwise

/-- The others add to it. -/
theorem next (c : Dev nD) (t : Fin cfg0.N) (h0 : ¬t.val % 16 = 0) (b : Fin 1024) :
    (outsAt0 m c t.val t.isLt).2 (ix2 0 b)
      = (outsAt0 m c (t.val - 1) (Nat.lt_of_le_of_lt (Nat.sub_le _ _) t.isLt)).2 (ix2 0 b) + part m c t.val t.isLt b := by
  rw [outsAt0_B m c t h0]
  frame_out
  unfold k0_pay2 part
  pointwise

/-- The sum after a point. -/
theorem fold (c : Dev nD) (b : Fin 1024) : ∀ (n : ℕ) (hn : n < cfg0.N),
    (outsAt0 m c n hn).2 (ix2 0 b) = ∑ s : Fin (n + 1), part m c s.val (Nat.lt_of_lt_of_le s.isLt hn) b
  | 0, hn => (first m c ⟨0, hn⟩ rfl b).trans (Fin.sum_univ_one fun s : Fin 1 => part m c s.val (Nat.lt_of_lt_of_le s.isLt hn) b).symm
  | n + 1, hn => by
    have hl : n + 1 < 16 := hn
    refine (next m c ⟨n + 1, hn⟩ (by show ¬(n + 1) % 16 = 0; omega) b).trans ?_
    rw [Fin.sum_univ_castSucc]
    exact congrArg (· + _) (fold c b n (by omega))

/-- The blocks the windows stand at. -/
theorem index : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![0, 0] :=
  (by decide +kernel : ∀ t : Fin grid0.N, _)

/-- The arrays the call is given. -/
abbrev x (m : (ℓ : Loc nD τ sig) → Buf (Elt Ideal) ℓ) (c : Dev nD) : S8192x1024.Idx → EReal := m (c, main_arg0)

@[inherit_doc x]
abbrev g (m : (ℓ : Loc nD τ sig) → Buf (Elt Ideal) ℓ) (c : Dev nD) : S1024.Idx → EReal := m (c, main_arg1)

@[inherit_doc x]
abbrev d (m : (ℓ : Loc nD τ sig) → Buf (Elt Ideal) ℓ) (c : Dev nD) : S8192x1024.Idx → EReal := m (c, main_arg2)

@[inherit_doc x]
abbrev r (m : (ℓ : Loc nD τ sig) → Buf (Elt Ideal) ℓ) (c : Dev nD) : S8192x1024.Idx → EReal := m (c, main_arg3)

theorem lt (t : Fin cfg0.N) : t.val < 16 := t.isLt

/-- The row of the arrays at which row `a` of a point's tile stands. -/
abbrev rowAt (t : Fin cfg0.N) (a : Fin 512) : Fin 8192 := ⟨t.val * 512 + a.val, by have := lt t; omega⟩

theorem argG (c : Dev nD) (k : Fin 1024) : (V m c main_v0 : S1x1024.Idx → EReal) (ix2 0 k) = g m c (ix1 k) := by
  unfold V
  after_results
  pointwise

theorem blk0 (c : Dev nD) (t : Fin cfg0.N) (a : Fin 512) (k : Fin 1024) :
    (iblk m c 0 t : S512x1024.Idx → EReal) (ix2 a k) = x m c (ix2 (rowAt t a) k) := by
  have e := (index t).1
  refine congrArg (x m c) ?_
  refine (eq_ix2 ((win0_0.blk t).view.emb (ix2 a k))).trans (congrArg₂ ix2 (Fin.ext ?_) (Fin.ext ?_)) <;> blk_simp [e] <;> rfl

theorem blk1 (c : Dev nD) (t : Fin cfg0.N) (a : Fin 512) (k : Fin 1024) :
    (iblk m c 1 t : S512x1024.Idx → EReal) (ix2 a k) = d m c (ix2 (rowAt t a) k) := by
  have e := (index t).2.1
  refine congrArg (d m c) ?_
  refine (eq_ix2 ((win0_1.blk t).view.emb (ix2 a k))).trans (congrArg₂ ix2 (Fin.ext ?_) (Fin.ext ?_)) <;> blk_simp [e] <;> rfl

theorem blk2 (c : Dev nD) (t : Fin cfg0.N) (a : Fin 512) (k : Fin 1024) :
    (iblk m c 2 t : S512x1024.Idx → EReal) (ix2 a k) = r m c (ix2 (rowAt t a) k) := by
  have e := (index t).2.2.1
  refine congrArg (r m c) ?_
  refine (eq_ix2 ((win0_2.blk t).view.emb (ix2 a k))).trans (congrArg₂ ix2 (Fin.ext ?_) (Fin.ext ?_)) <;> blk_simp [e] <;> rfl

theorem blk3 (c : Dev nD) (t : Fin cfg0.N) (k : Fin 1024) :
    (iblk m c 3 t : S1x1024.Idx → EReal) (ix2 0 k) = g m c (ix1 k) := by
  have e := (index t).2.2.2.1
  refine (congrArg (V m c main_v0) ?_).trans (argG m c k)
  refine (eq_ix2 ((win0_3.blk t).view.emb (ix2 0 k))).trans (congrArg₂ ix2 (Fin.ext ?_) (Fin.ext ?_)) <;> blk_simp [e] <;> rfl

/-- A row of an array. -/
abbrev row (v : S8192x1024.Idx → EReal) (a : Fin 8192) : Fin 1024 → EReal := fun k => v (ix2 a k)

/-- The gradient in the stream. -/
def outX (m : (ℓ : Loc nD τ sig) → Buf (Elt Ideal) ℓ) (c : Dev nD) : S8192x1024.Idx → EReal := fun i =>
  dx (row (x m c) (i 0)) (fun k => g m c (ix1 k)) (row (d m c) (i 0)) (row (r m c) (i 0)) (i 1)

/-- The gradient in the scale. -/
def outG (m : (ℓ : Loc nD τ sig) → Buf (Elt Ideal) ℓ) (c : Dev nD) : S1x1024.Idx → EReal := fun i =>
  ∑ a : Fin 8192, dg (row (x m c) a) (row (d m c) a) (i 1)

theorem part_eq (c : Dev nD) (n : ℕ) (hn : n < cfg0.N) (b : Fin 1024) :
    part m c n hn b = ∑ a : Fin 512, dg (row (x m c) (rowAt ⟨n, hn⟩ a)) (row (d m c) (rowAt ⟨n, hn⟩ a)) b := by
  refine (pay5_apply _ _ _).trans (Finset.sum_congr rfl fun a _ => ?_)
  exact congrArg₂ (fun u v => dg u v b) (funext fun k => blk0 m c _ a k) (funext fun k => blk1 m c _ a k)

theorem emb4 (t : Fin cfg0.N) (a : Fin 512) (b : Fin 1024) :
    (win0_4.blk t).view.emb (ix2 a b) = ix2 (rowAt t a) b := by
  have e := (index t).2.2.2.2.1
  refine (eq_ix2 ((win0_4.blk t).view.emb (ix2 a b))).trans (congrArg₂ ix2 (Fin.ext ?_) (Fin.ext ?_)) <;> blk_simp [e] <;> rfl

theorem emb5 (t : Fin cfg0.N) (b : Fin 1024) : (win0_5.blk t).view.emb (ix2 0 b) = ix2 (0 : Fin 1) b := by
  have e := (index t).2.2.2.2.2
  refine (eq_ix2 ((win0_5.blk t).view.emb (ix2 0 b))).trans (congrArg₂ ix2 (Fin.ext ?_) (Fin.ext ?_)) <;> blk_simp [e] <;> rfl

/-- The array the call leaves for the gradient in the stream. -/
theorem arrX (c : Dev nD) : (dats m 0 c).arrAt 4 cfg0.N = outX m c := by
  refine (dats m 0 c).arrAt_eq_of_covers 4 _ (by decide +kernel) fun t hf y => ?_
  blk_simp
  rw [after0_4]
  obtain ⟨a, b, rfl⟩ : ∃ (a : Fin 512) (b : Fin 1024), y = ix2 a b := ⟨y 0, y 1, eq_ix2 y⟩
  refine (congrFun (tile m c t) (ix2 a b)).trans ((pay6_apply _ _ _ _ a b).trans ?_)
  refine Eq.trans ?_ (congrArg (outX m c) (emb4 t a b)).symm
  show _ = dx (row (x m c) (rowAt t a)) (fun k => g m c (ix1 k)) (row (d m c) (rowAt t a)) (row (r m c) (rowAt t a)) b
  rw [funext fun k => blk0 m c t a k, funext fun k => blk1 m c t a k, funext fun k => blk2 m c t a k, funext fun k => blk3 m c t k]

/-- The array the call leaves for the gradient in the scale. -/
theorem arrG (c : Dev nD) : (dats m 0 c).arrAt 5 cfg0.N = outG m c := by
  refine (dats m 0 c).arrAt_eq_of_covers 5 _ (by decide +kernel) fun t hf y => ?_
  have ht : t.val = 15 := by
    have := (flush0_5 t).mp hf
    have := lt t
    omega
  blk_simp
  rw [after0_5]
  obtain ⟨z, b, rfl⟩ : ∃ (z : Fin 1) (b : Fin 1024), y = ix2 z b := ⟨y 0, y 1, eq_ix2 y⟩
  obtain rfl : z = 0 := Subsingleton.elim _ _
  refine (fold m c b t.val t.isLt).trans ?_
  refine Eq.trans ?_ (congrArg (outG m c) (emb5 t b)).symm
  obtain ⟨n, hn⟩ := t
  obtain rfl : n = 15 := ht
  refine Eq.trans ?_ (Cert.Tiles.sum_blocks 16 512 (fun a : Fin 8192 => dg (row (x m c) a) (row (d m c) a) b)).symm
  exact Finset.sum_congr rfl fun s _ => part_eq m c s.val _ b

end Cert.NormBwdIdeal.Value

namespace Cert.Proof
open Idealize.ShloMosaic Idealize.ShloMosaic.TcCoe Idealize.SL.Sem

/-- Kernel and reference leave the same arrays. -/
theorem normBwd : @Cert.algebraic_NormBwdIdeal_NormBwdRefIdeal Cert.NormBwdIdeal.Gen.facts Cert.NormBwdRefIdeal.Gen.facts := by
  unfold Cert.algebraic_NormBwdIdeal_NormBwdRefIdeal
  intro m g m' g' _ hargs
  refine ⟨fun c => Cert.NormBwdIdeal.Value.outX m c, fun c => Cert.NormBwdIdeal.Value.outG m c, (θ_run _ _ _).mono (fun r h c => ?_) (Cert.NormBwdIdeal.Value.run_blocks m g),
    (θ_run _ _ _).mono (fun r h c => ?_) (Cert.NormBwdRefIdeal.Value.run m' g')⟩
  · exact ⟨(h c).1.trans (Cert.NormBwdIdeal.Value.arrX m c), (h c).2.1.trans (Cert.NormBwdIdeal.Value.arrG m c), (h c).2.2⟩
  · refine ⟨(h c).1.trans (funext fun j => ?_), (h c).2.1.trans (funext fun j => ?_), (h c).2.2⟩
    · rw [(hargs c).1, (hargs c).2.1, (hargs c).2.2.1, (hargs c).2.2.2]
      obtain ⟨a, b, rfl⟩ : ∃ (a : Fin 8192) (b : Fin 1024), j = ix2 a b := ⟨j 0, j 1, eq_ix2 j⟩
      pointwise
      simp only [Ideal.ofBits_zero_f32, zero_add, Fin.sum_univ_one]
      exact Cert.RmsNorm.last_first (Cert.NormBwdIdeal.Value.r m c (ix2 a b)) _ _ _
    · rw [(hargs c).1, (hargs c).2.2.1]
      pointwise
      simp only [Ideal.ofBits_zero_f32, zero_add, Fin.sum_univ_one]
      rfl

/-- The reference's frame: it leaves its arguments alone and has no semaphore. -/
theorem frame_NormBwdRef : @Cert.quiescent_NormBwdRefIdeal Cert.NormBwdRefIdeal.Gen.facts := by
  intro m g _
  refine (θ_run _ _ _).mono (fun r h => ⟨fun c => (h c).2.2, funext fun s => ?_⟩) (Cert.NormBwdRefIdeal.Value.run m g)
  exact ((by decide : ∀ sm : SemLoc Cert.NormBwdRefIdeal.sig, False) s.2).elim

end Cert.Proof
-- ==== Proof.Gate.lean ====
/-
  The gate of the feed-forward block, column by column: a causal convolution of three taps along the time of each sequence,
  the tanh form of gelu, and the derivative of the two.
-/
module

public import proofs.«01_k».proof.Proof.Tiles
public import Idealize.ShloMosaic.Lib.Pointwise.Reduce
public import Idealize.ShloMosaic.Lib.Pointwise.Tactic
public import Idealize.ShloMosaic.Lib.Pointwise.Select
public import Idealize.ShloMosaic.Lib.Pointwise.Reshape

@[expose] public section

noncomputable section

namespace Cert.Gate
open Idealize.ShloMosaic

/-- A column of an array of 8192 rows; there is nothing below the last row. -/
def col {n : ℕ} (v : (⟨2, ![8192, n]⟩ : Shape).Idx → EReal) (j : Fin n) (r : ℕ) : EReal :=
  if h : r < 8192 then v (ix2 ⟨r, h⟩ j) else 0

theorem col_eq {n : ℕ} (v : (⟨2, ![8192, n]⟩ : Shape).Idx → EReal) (j : Fin n) (r : ℕ) (h : r < 8192) :
    col v j r = v (ix2 ⟨r, h⟩ j) := dif_pos h

/-- `s` steps earlier in the same sequence, zero before its first step. -/
def back (u : ℕ → EReal) (s r : ℕ) : EReal := if s ≤ r % 2048 then u (r - s) else 0

/-- `s` steps later in the same sequence, zero after its last step. -/
def ahead (u : ℕ → EReal) (s r : ℕ) : EReal := if r % 2048 + s < 2048 then u (r + s) else 0

/-- The convolution, `w` at the current step first. -/
def conv (u : ℕ → EReal) (w0 w1 w2 b : EReal) (r : ℕ) : EReal := b + u r * w2 + back u 2 r * w0 + back u 1 r * w1

/-- The tanh of the gelu. -/
def th (z : EReal) : EReal :=
  Ideal.tanh (Ideal.ofBits FTy.f32 1061962282#32 * (z + Ideal.ofBits FTy.f32 1027024659#32 * z * z * z))

/-- The gelu. -/
def gelu (z : EReal) : EReal := Ideal.ofBits FTy.f32 1056964608#32 * z * (1 + th z)

/-- The test whether a tile is the `n`th of its sequence. -/
def isNth (n : BitVec 32) (k : ℕ) : BitVec 1 :=
  Scalar.cmpi .eq (Scalar.select (Scalar.andi (Scalar.xori (Scalar.cmpi .slt (Scalar.remsi (BitVec.ofNat 32 k) 8#32) 0#32) 0#1)
      (Scalar.cmpi .ne (Scalar.remsi (BitVec.ofNat 32 k) 8#32) 0#32))
    (Scalar.addi (Scalar.remsi (BitVec.ofNat 32 k) 8#32) 8#32) (Scalar.remsi (BitVec.ofNat 32 k) 8#32)) n

theorem isFirst_eq (k : ℕ) (hk : k < 32) : isNth 0#32 k = if k % 8 = 0 then 1#1 else 0#1 :=
  (by decide +kernel : ∀ k : Fin 32, isNth 0#32 k.val = if k.val % 8 = 0 then 1#1 else 0#1) ⟨k, hk⟩

theorem isLast_eq (k : ℕ) (hk : k < 32) : isNth 7#32 k = if k % 8 = 7 then 1#1 else 0#1 :=
  (by decide +kernel : ∀ k : Fin 32, isNth 7#32 k.val = if k.val % 8 = 7 then 1#1 else 0#1) ⟨k, hk⟩

theorem back_zero (u : ℕ → EReal) (r : ℕ) : back u 0 r = u r := if_pos (Nat.zero_le _)

/-- The reference's shift: the sequences with two rows of zeros before each, read `s` rows before the end of the two. -/
theorem tap {n : ℕ} (v : (⟨2, ![8192, n]⟩ : Shape).Idx → EReal) (j : Fin n) (q : Fin 4) (p : Fin 2048) (x s : ℕ) (hx : x + s = p.val + 2)
    (h2 : ¬x < 2 → q.val * 2048 + (x - 2) < 8192) :
    (if h : x < 2 then 0 else v (ix2 ⟨q.val * 2048 + (x - 2), h2 h⟩ j)) = back (col v j) s (q.val * 2048 + p.val) := by
  have e : (q.val * 2048 + p.val) % 2048 = p.val := by omega
  unfold back
  rw [e]
  by_cases h : x < 2
  · rw [dif_pos h, if_neg (by omega)]
  · rw [dif_neg h, if_pos (by omega)]
    refine (congrArg (fun r => v (ix2 r j)) (Fin.ext ?_)).trans (col_eq v j _ (by omega)).symm
    show q.val * 2048 + (x - 2) = q.val * 2048 + p.val - s
    omega

/-- The select of a row of the block before, unless a sequence starts here. -/
theorem select_eq (p : Prop) [Decidable p] (c : BitVec 1) (hc : c = if p then 1#1 else 0#1) (x y : EReal) :
    Scalar.select c x y = if p then x else y := by
  subst hc
  by_cases h : p
  · rw [if_pos h, if_pos h]; rfl
  · rw [if_neg h, if_neg h]; rfl

/-- The kernel's shift by `s` steps: rows of the tile `t` joined below the last sixteen rows before it and turned by `s`. -/
theorem shift (u : ℕ → EReal) (t s len a : ℕ) (hs : s = 1 ∨ s = 2) (hl : 2 < len) (ha : a < len) (hin : t % 8 * 256 + a < 2048)
    (c : BitVec 1) (hc : c = if t % 8 = 0 then 1#1 else 0#1) (p : Fin 16 → EReal) (v : Fin len → EReal)
    (hp : t % 8 ≠ 0 → ∀ k : Fin 16, p k = u (t * 256 - 16 + k.val))
    (hv : ∀ k : Fin len, t % 8 * 256 + k.val < 2048 → v k = u (t * 256 + k.val))
    (h1 : (16 + a + (16 + len) - s) % (16 + len) < 16 → (16 + a + (16 + len) - s) % (16 + len) < 16)
    (h2 : ¬(16 + a + (16 + len) - s) % (16 + len) < 16 → (16 + a + (16 + len) - s) % (16 + len) - 16 < len) :
    (if h : (16 + a + (16 + len) - s) % (16 + len) < 16 then Scalar.select c 0 (p ⟨_, h1 h⟩) else v ⟨_, h2 h⟩)
      = back u s (t * 256 + a) := by
  have e : (16 + a + (16 + len) - s) % (16 + len) = 16 + a - s := by
    rw [show 16 + a + (16 + len) - s = 16 + a - s + (16 + len) by omega, Nat.add_mod_right]
    exact Nat.mod_eq_of_lt (by omega)
  have e8 : (t * 256 + a) % 2048 = t % 8 * 256 + a := by omega
  unfold back
  rw [e8]
  by_cases h : a < s
  · rw [dif_pos (show _ < 16 by rw [e]; omega), select_eq _ _ hc]
    by_cases h0 : t % 8 = 0
    · rw [if_pos h0, if_neg (by omega)]
    · rw [if_neg h0, if_pos (by omega), hp h0]
      exact congrArg u (by show t * 256 - 16 + (16 + a + (16 + len) - s) % (16 + len) = _; rw [e]; omega)
  · rw [dif_neg (show ¬_ < 16 by rw [e]; omega), if_pos (by omega), hv _ (by show t % 8 * 256 + ((16 + a + (16 + len) - s) % (16 + len) - 16) < 2048; rw [e]; omega)]
    exact congrArg u (by show t * 256 + ((16 + a + (16 + len) - s) % (16 + len) - 16) = _; rw [e]; omega)

/-- The reference's order of the taps. -/
theorem conv_ref (u : ℕ → EReal) (w0 w1 w2 b : EReal) (r : ℕ) :
    b + back u 2 r * w0 + back u 1 r * w1 + back u 0 r * w2 = conv u w0 w1 w2 b r := by
  rw [back_zero]
  unfold conv
  rw [add_assoc b, add_assoc b, add_assoc b, add_assoc b, add_comm _ (u r * w2), add_assoc (u r * w2)]

/-- The reference's grouping of the gelu's factors. -/
theorem gelu_ref (z : EReal) :
    z * (Ideal.ofBits FTy.f32 1056964608#32 * (1 + Ideal.tanh (Ideal.ofBits FTy.f32 1061962282#32 * (z + Ideal.ofBits FTy.f32 1027024659#32 * (z * z * z)))))
      = gelu z := by
  unfold gelu th
  rw [← mul_assoc, mul_comm z, ← mul_assoc (Ideal.ofBits FTy.f32 1027024659#32), ← mul_assoc (Ideal.ofBits FTy.f32 1027024659#32)]

end Cert.Gate
-- ==== Proof.FfnActValue.lean ====
/-
  The gate of the feed-forward block: the convolution of the one half of the columns, its gelu, times the other half.
-/
module

public import proofs.«01_k».proof.Defs
public import proofs.«01_k».proof.Proof.Gate
public import proofs.«01_k».proof.Proof.Gen.FfnActIdeal.Value
public import proofs.«01_k».proof.Proof.Gen.FfnActRefIdeal.Run

@[expose] public section

set_option maxRecDepth 16384

noncomputable section

namespace Cert.FfnActIdeal.Value

open Cert.FfnActIdeal Cert.FfnActIdeal.Gen Idealize.ShloMosaic Idealize.ShloMosaic.TcCoe Idealize.SL.Sem Cert.Gate

section Tile
variable (u z : ℕ → EReal) (t : ℕ) (ht : t < 32) (i : grid0.Coords) (hi : (i 0).val = t)
  (x0 : Vec Ideal S256x6144 .bf16) (x1 : Vec Ideal S16x6144 .bf16) (x2 : Vec Ideal S3x3072 .f32) (x3 : Vec Ideal S1x3072 .f32) (b : Fin 3072)

include ht hi in
/-- One entry of a point's tile, where the tile's columns are those of the array. -/
theorem tile_apply (hu : ∀ k : Fin 256, x0 (ix2 k ⟨b.val, by omega⟩) = u (t * 256 + k.val))
    (hz : ∀ k : Fin 256, x0 (ix2 k ⟨3072 + b.val, by omega⟩) = z (t * 256 + k.val))
    (hp : t % 8 ≠ 0 → ∀ k : Fin 16, x1 (ix2 k ⟨b.val, by omega⟩) = u (t * 256 - 16 + k.val)) (a : Fin 256) :
    out0_4 i x0 x1 x2 x3 (ix2 a b)
      = gelu (conv u (x2 (ix2 0 b)) (x2 (ix2 1 b)) (x2 (ix2 2 b)) (x3 (ix2 0 b)) (t * 256 + a.val)) * z (t * 256 + a.val) := by
  frame_out
  have h2 : k0_pay4 i (View.ld x0 r0_0) (View.ld x1 r0_1) x2 x3 (ix2 a b)
      = x3 (ix2 0 b) + u (t * 256 + a.val) * x2 (ix2 2 b) + back u 2 (t * 256 + a.val) * x2 (ix2 0 b) := by
    unfold k0_pay4 k0_pay3 k0_pay2
    pointwise
    refine congrArg₂ (fun v v' : EReal => x3 (ix2 0 b) + v * x2 (ix2 2 b) + v' * x2 (ix2 0 b)) (hu a) ?_
    exact shift u t 2 256 a.val (Or.inr rfl) (by omega) a.isLt (by omega) (isNth 0#32 (i 0).val) (by rw [hi]; exact isFirst_eq t ht)
      (fun k => x1 (ix2 k ⟨b.val, by omega⟩)) (fun k => x0 (ix2 k ⟨b.val, by omega⟩)) hp (fun k _ => hu k) _ _
  have h1 : k0_pay5 i (View.ld x0 r0_0) (View.ld x1 r0_1) (ix2 a b) = back u 1 (t * 256 + a.val) := by
    unfold k0_pay5 k0_pay3 k0_pay2
    pointwise
    exact shift u t 1 256 a.val (Or.inl rfl) (by omega) a.isLt (by omega) (isNth 0#32 (i 0).val) (by rw [hi]; exact isFirst_eq t ht)
      (fun k => x1 (ix2 k ⟨b.val, by omega⟩)) (fun k => x0 (ix2 k ⟨b.val, by omega⟩)) hp (fun k _ => hu k) _ _
  have h : ∀ (y : S256x3072.Idx → EReal) (y' : S256x3072.Idx → EReal) (w : Vec Ideal S256x3072 .bf16), k0_pay1 (F := Ideal) y y' (k0_pay6 x2) w (ix2 a b) = gelu (y (ix2 a b) + y' (ix2 a b) * x2 (ix2 1 b)) * w (ix2 a b) := by
    intro y y' w
    unfold k0_pay1 k0_pay6
    pointwise
    rfl
  refine (h _ _ _).trans ?_
  rw [h1, h2]
  refine congrArg (fun v : EReal => gelu (conv u (x2 (ix2 0 b)) (x2 (ix2 1 b)) (x2 (ix2 2 b)) (x3 (ix2 0 b)) (t * 256 + a.val)) * v) ?_
  pointwise
  exact hz a

end Tile

variable (m : (ℓ : Loc nD τ sig) → Buf (Elt Ideal) ℓ)

/-- The blocks the windows stand at: a tile, the sixteen rows before it, and the convolution's weight and bias. -/
theorem index : ∀ t : Fin cfg0.N, win0_0.index t = ![t.val, 0] ∧ win0_1.index t = ![t.val * 16 - 1, 0] ∧ win0_2.index t = ![0, 0]
    ∧ win0_3.index t = ![0, 0] ∧ win0_4.index t = ![t.val, 0] ∧ (grid0.coords t 0).val = t.val :=
  (by decide +kernel : ∀ t : Fin grid0.N, _)

/-- The arrays the call is given. -/
abbrev u (m : (ℓ : Loc nD τ sig) → Buf (Elt Ideal) ℓ) (c : Dev nD) : S8192x6144.Idx → EReal := m (c, main_arg0)

@[inherit_doc u]
abbrev w (m : (ℓ : Loc nD τ sig) → Buf (Elt Ideal) ℓ) (c : Dev nD) : S3x3072.Idx → EReal := m (c, main_arg1)

@[inherit_doc u]
abbrev bias (m : (ℓ : Loc nD τ sig) → Buf (Elt Ideal) ℓ) (c : Dev nD) : S3072.Idx → EReal := m (c, main_arg2)

theorem lt (t : Fin cfg0.N) : t.val < 32 := t.isLt

theorem argU (c : Dev nD) (i : S8192x6144.Idx) : (V m c main_v0 : S8192x6144.Idx → EReal) i = u m c i := by
  unfold V
  after_results
  rfl

theorem argB (c : Dev nD) (k : Fin 3072) : (V m c main_v1 : S1x3072.Idx → EReal) (ix2 0 k) = bias m c (ix1 k) := by
  unfold V
  after_results
  pointwise

theorem blk0 (c : Dev nD) (t : Fin cfg0.N) (a : Fin 256) (k : Fin 6144) :
    (iblk m c 0 t : S256x6144.Idx → EReal) (ix2 a k) = col (u m c) k (t.val * 256 + a.val) := by
  have e := (index t).1
  have hl := lt t
  refine Eq.trans ?_ (col_eq (u m c) k _ (by omega)).symm
  refine (congrArg (V m c main_v0) ?_).trans (argU m c _)
  refine (eq_ix2 ((win0_0.blk t).view.emb (ix2 a k))).trans (congrArg₂ ix2 (Fin.ext ?_) (Fin.ext ?_)) <;> blk_simp [e] <;> rfl

theorem blk1 (c : Dev nD) (t : Fin cfg0.N) (h0 : t.val % 8 ≠ 0) (a : Fin 16) (k : Fin 6144) :
    (iblk m c 1 t : S16x6144.Idx → EReal) (ix2 a k) = col (u m c) k (t.val * 256 - 16 + a.val) := by
  have e := (index t).2.1
  have hl := lt t
  refine Eq.trans ?_ (col_eq (u m c) k _ (by omega)).symm
  refine (congrArg (V m c main_v0) ?_).trans (argU m c _)
  have e1 : (t.val * 16 - 1) * 16 = t.val * 256 - 16 := by omega
  refine (eq_ix2 ((win0_1.blk t).view.emb (ix2 a k))).trans (congrArg₂ ix2 (Fin.ext ?_) (Fin.ext ?_)) <;> blk_simp [e, e1] <;> rfl

theorem blk2 (c : Dev nD) (t : Fin cfg0.N) (a : Fin 3) (k : Fin 3072) :
    (iblk m c 2 t : S3x3072.Idx → EReal) (ix2 a k) = w m c (ix2 a k) := by
  have e := (index t).2.2.1
  refine congrArg (w m c) ?_
  refine (eq_ix2 ((win0_2.blk t).view.emb (ix2 a k))).trans (congrArg₂ ix2 (Fin.ext ?_) (Fin.ext ?_)) <;> blk_simp [e] <;> rfl

theorem blk3 (c : Dev nD) (t : Fin cfg0.N) (k : Fin 3072) :
    (iblk m c 3 t : S1x3072.Idx → EReal) (ix2 0 k) = bias m c (ix1 k) := by
  have e := (index t).2.2.2.1
  refine (congrArg (V m c main_v1) ?_).trans (argB m c k)
  refine (eq_ix2 ((win0_3.blk t).view.emb (ix2 0 k))).trans (congrArg₂ ix2 (Fin.ext ?_) (Fin.ext ?_)) <;> blk_simp [e] <;> rfl

/-- The gated activation. -/
def hid (u : S8192x6144.Idx → EReal) (w : S3x3072.Idx → EReal) (bias : S3072.Idx → EReal) (b : Fin 3072) (r : ℕ) : EReal :=
  gelu (conv (col u ⟨b.val, by omega⟩) (w (ix2 0 b)) (w (ix2 1 b)) (w (ix2 2 b)) (bias (ix1 b)) r) * col u ⟨3072 + b.val, by omega⟩ r

/-- The array the call leaves. -/
def out (m : (ℓ : Loc nD τ sig) → Buf (Elt Ideal) ℓ) (c : Dev nD) : S8192x3072.Idx → EReal := fun i =>
  hid (u m c) (w m c) (bias m c) (i 1) (i 0).val

theorem emb (t : Fin cfg0.N) (a : Fin 256) (b : Fin 3072) :
    (win0_4.blk t).view.emb (ix2 a b) = ix2 ⟨t.val * 256 + a.val, by have := lt t; omega⟩ b := by
  have e := (index t).2.2.2.2.1
  refine (eq_ix2 ((win0_4.blk t).view.emb (ix2 a b))).trans (congrArg₂ ix2 (Fin.ext ?_) (Fin.ext ?_)) <;> blk_simp [e] <;> rfl

theorem arr_eq (c : Dev nD) : (dats m 0 c).arrAt 4 cfg0.N = out m c := by
  refine (dats m 0 c).arrAt_eq_of_covers 4 _ (by decide +kernel) fun t hf y => ?_
  blk_simp
  rw [after0_4]
  obtain ⟨a, b, rfl⟩ : ∃ (a : Fin 256) (b : Fin 3072), y = ix2 a b := ⟨y 0, y 1, eq_ix2 y⟩
  refine (tile_apply (col (u m c) ⟨b.val, by omega⟩) (col (u m c) ⟨3072 + b.val, by omega⟩) t.val (lt t) (grid0.coords t) (index t).2.2.2.2.2 _ _ _ _ b
    (fun k => blk0 m c t k _) (fun k => blk0 m c t k _) (fun h0 k => blk1 m c t h0 k _) a).trans ?_
  refine Eq.trans ?_ (congrArg (out m c) (emb t a b)).symm
  rw [blk2 m c t 0 b, blk2 m c t 1 b, blk2 m c t 2 b, blk3 m c t b]
  rfl

end Cert.FfnActIdeal.Value

namespace Cert.FfnActRefIdeal.Value
open Cert.FfnActRefIdeal Cert.FfnActRefIdeal.Gen Idealize.ShloMosaic Idealize.ShloMosaic.TcCoe Idealize.SL.Sem Cert.Gate

/-- The reference's convolution. -/
def gate (u : FVec Ideal S8192x6144 .f32) (w : FVec Ideal S3x3072 .f32) (b : FVec Ideal S3072 .f32) : FVec Ideal S4x2048x3072 .f32 :=
  addf (addf (addf (broadcastInDim S4x2048x3072 ![0, 1, 2] bcast_S1x1x3072_S4x2048x3072_0_1_2 (broadcastInDim S1x1x3072 ![2] bcast_S3072_S1x1x3072_2 b)) (mulf (extractStridedSlice S4x2048x3072 ![0, 0, 0] (concatenate S4x2050x3072 1 [⟨S4x2x3072, (broadcastInDim S4x2x3072 ![] bcast_S_S4x2x3072 (constant S_ .f32 0x00000000#32))⟩, ⟨S4x2048x3072, (extractStridedSlice S4x2048x3072 ![0, 0, 0] (shapeCast _ u shapeCasts_S8192x6144_S4x2048x6144) slices_S4x2048x6144_S4x2048x3072_0_0_0)⟩] concatenates_S4x2x3072_S4x2048x3072_S4x2050x3072_d1) slices_S4x2050x3072_S4x2048x3072_0_0_0) (broadcastInDim S4x2048x3072 ![0, 1, 2] bcast_S1x1x3072_S4x2048x3072_0_1_2 (broadcastInDim S1x1x3072 ![2] bcast_S3072_S1x1x3072_2 (shapeCast _ (extractStridedSlice S1x3072 ![0, 0] w slices_S3x3072_S1x3072_0_0) shapeCasts_S1x3072_S3072))))) (mulf (extractStridedSlice S4x2048x3072 ![0, 1, 0] (concatenate S4x2050x3072 1 [⟨S4x2x3072, (broadcastInDim S4x2x3072 ![] bcast_S_S4x2x3072 (constant S_ .f32 0x00000000#32))⟩, ⟨S4x2048x3072, (extractStridedSlice S4x2048x3072 ![0, 0, 0] (shapeCast _ u shapeCasts_S8192x6144_S4x2048x6144) slices_S4x2048x6144_S4x2048x3072_0_0_0)⟩] concatenates_S4x2x3072_S4x2048x3072_S4x2050x3072_d1) slices_S4x2050x3072_S4x2048x3072_0_1_0) (broadcastInDim S4x2048x3072 ![0, 1, 2] bcast_S1x1x3072_S4x2048x3072_0_1_2 (broadcastInDim S1x1x3072 ![2] bcast_S3072_S1x1x3072_2 (shapeCast _ (extractStridedSlice S1x3072 ![1, 0] w slices_S3x3072_S1x3072_1_0) shapeCasts_S1x3072_S3072))))) (mulf (extractStridedSlice S4x2048x3072 ![0, 2, 0] (concatenate S4x2050x3072 1 [⟨S4x2x3072, (broadcastInDim S4x2x3072 ![] bcast_S_S4x2x3072 (constant S_ .f32 0x00000000#32))⟩, ⟨S4x2048x3072, (extractStridedSlice S4x2048x3072 ![0, 0, 0] (shapeCast _ u shapeCasts_S8192x6144_S4x2048x6144) slices_S4x2048x6144_S4x2048x3072_0_0_0)⟩] concatenates_S4x2x3072_S4x2048x3072_S4x2050x3072_d1) slices_S4x2050x3072_S4x2048x3072_0_2_0) (broadcastInDim S4x2048x3072 ![0, 1, 2] bcast_S1x1x3072_S4x2048x3072_0_1_2 (broadcastInDim S1x1x3072 ![2] bcast_S3072_S1x1x3072_2 (shapeCast _ (extractStridedSlice S1x3072 ![2, 0] w slices_S3x3072_S1x3072_2_0) shapeCasts_S1x3072_S3072))))

theorem gate_apply (u : FVec Ideal S8192x6144 .f32) (w : FVec Ideal S3x3072 .f32) (b : FVec Ideal S3072 .f32) (q : Fin 4) (p : Fin 2048) (j : Fin 3072) :
    gate u w b (ix3 q p j) = conv (col u ⟨j.val, by omega⟩) (w (ix2 0 j)) (w (ix2 1 j)) (w (ix2 2 j)) (b (ix1 j)) (q.val * 2048 + p.val) := by
  unfold gate
  pointwise
  refine Eq.trans ?_ (conv_ref _ _ _ _ _ _)
  rw [← tap u ⟨j.val, by omega⟩ q p p.val 2 rfl (by omega), ← tap u ⟨j.val, by omega⟩ q p (1 + p.val) 1 (by omega) (by omega),
    ← tap u ⟨j.val, by omega⟩ q p (2 + p.val) 0 (by omega) (by omega)]

/-- The gelu of the convolution times the other half of the columns. -/
def act (u : FVec Ideal S8192x6144 .f32) (g : FVec Ideal S4x2048x3072 .f32) : FVec Ideal S8192x3072 .bf16 :=
  truncf .bf16 (shapeCast _ (mulf (mulf g (mulf (broadcastInDim S4x2048x3072 ![] bcast_S_S4x2048x3072 (constant S_ .f32 0x3F000000#32)) (addf (broadcastInDim S4x2048x3072 ![] bcast_S_S4x2048x3072 (constant S_ .f32 0x3F800000#32)) (Host.tanh (mulf (broadcastInDim S4x2048x3072 ![] bcast_S_S4x2048x3072 (constant S_ .f32 0x3F4C422A#32)) (addf g (mulf (broadcastInDim S4x2048x3072 ![] bcast_S_S4x2048x3072 (constant S_ .f32 0x3D372713#32)) (mulf (mulf g g) g)))))))) (extractStridedSlice S4x2048x3072 ![0, 0, 3072] (shapeCast _ u shapeCasts_S8192x6144_S4x2048x6144) slices_S4x2048x6144_S4x2048x3072_0_0_3072)) shapeCasts_S4x2048x3072_S8192x3072) bitsLt_bf16_f32

theorem act_apply (u : FVec Ideal S8192x6144 .f32) (g : FVec Ideal S4x2048x3072 .f32) (r : Fin 8192) (j : Fin 3072) :
    act u g (ix2 r j) = gelu (g (ix3 ⟨r.val / 2048, by omega⟩ ⟨r.val % 2048, by omega⟩ j)) * u (ix2 r ⟨3072 + j.val, by omega⟩) := by
  unfold act
  pointwise
  rw [← gelu_ref]

variable (m : (ℓ : Loc nD τ sig) → Buf (Elt Ideal) ℓ)

theorem res_eq (c : Dev nD) : res_main_v43 m c = act (m ((c.tc : Thread nD τ).loc main_arg0)) (gate (m ((c.tc : Thread nD τ).loc main_arg0)) (m ((c.tc : Thread nD τ).loc main_arg1)) (m ((c.tc : Thread nD τ).loc main_arg2))) := by
  unfold res_main_v43 act gate
  rfl

end Cert.FfnActRefIdeal.Value

namespace Cert.Proof
open Idealize.ShloMosaic Idealize.ShloMosaic.TcCoe Idealize.SL.Sem

/-- Kernel and reference leave the same array. -/
theorem ffnAct : @Cert.algebraic_FfnActIdeal_FfnActRefIdeal Cert.FfnActIdeal.Gen.facts Cert.FfnActRefIdeal.Gen.facts := by
  unfold Cert.algebraic_FfnActIdeal_FfnActRefIdeal
  intro m g m' g' _ hargs
  refine ⟨fun c => Cert.FfnActIdeal.Value.out m c, (θ_run _ _ _).mono (fun r h c => ?_) (Cert.FfnActIdeal.Value.run_blocks m g),
    (θ_run _ _ _).mono (fun r h c => ?_) (Cert.FfnActRefIdeal.Value.run m' g')⟩
  · exact ⟨(h c).1.trans (Cert.FfnActIdeal.Value.arr_eq m c), (h c).2⟩
  · refine ⟨(h c).1.trans ((Cert.FfnActRefIdeal.Value.res_eq m' c).trans (funext fun y => ?_)), (h c).2⟩
    rw [(hargs c).1, (hargs c).2.1, (hargs c).2.2]
    obtain ⟨a, b, rfl⟩ : ∃ (a : Fin 8192) (b : Fin 3072), y = ix2 a b := ⟨y 0, y 1, eq_ix2 y⟩
    refine (Cert.FfnActRefIdeal.Value.act_apply _ _ a b).trans ?_
    rw [Cert.FfnActRefIdeal.Value.gate_apply]
    have e : a.val / 2048 * 2048 + a.val % 2048 = a.val := by omega
    simp only [e]
    exact congrArg (fun v : EReal => Cert.Gate.gelu _ * v) (Cert.Gate.col_eq _ _ _ a.isLt).symm

/-- The reference's frame: it leaves its arguments alone and has no semaphore. -/
theorem frame_FfnActRef : @Cert.quiescent_FfnActRefIdeal Cert.FfnActRefIdeal.Gen.facts := by
  intro m g _
  refine (θ_run _ _ _).mono (fun r h => ⟨fun c => (h c).2, funext fun s => ?_⟩) (Cert.FfnActRefIdeal.Value.run m g)
  exact ((by decide : ∀ sm : SemLoc Cert.FfnActRefIdeal.sig, False) s.2).elim

end Cert.Proof
-- ==== Proof.GateGrad.lean ====
/-
  The derivative of the gate, column by column: of the gelu, in the grouping that differentiates factor by factor and in the
  one that collects the cotangents, equal where every entry is a number; and the sums of the convolution's gradient.
-/
module

public import proofs.«01_k».proof.Proof.Gate

@[expose] public section

noncomputable section

namespace Cert.Gate
open Idealize.ShloMosaic

/-- The derivative of the gelu, factor by factor. -/
def dgelu (z : EReal) : EReal :=
  Ideal.ofBits FTy.f32 1056964608#32 * (1 + th z)
    + Ideal.ofBits FTy.f32 1056964608#32 * z
      * (Ideal.ofBits FTy.f32 1061962282#32
          * (1 + ((Ideal.ofBits FTy.f32 1027024659#32 * z + Ideal.ofBits FTy.f32 1027024659#32 * z) * z
            + Ideal.ofBits FTy.f32 1027024659#32 * z * z))
        * ((1 + th z) * (1 - th z)))

/-- The cotangent of the convolution: `u` goes through it, `v` is the other half, `d` the cotangent of the product. -/
def dgate (u v d : ℕ → EReal) (w0 w1 w2 b : EReal) (r : ℕ) : EReal := d r * v r * dgelu (conv u w0 w1 w2 b r)

/-- It is a number. -/
def IsReal (x : EReal) : Prop := ∃ r : ℝ, x = r

theorem IsReal.mul {x y : EReal} : IsReal x → IsReal y → IsReal (x * y)
  | ⟨a, ha⟩, ⟨b, hb⟩ => ⟨a * b, by rw [ha, hb, EReal.coe_mul]⟩

theorem IsReal.add {x y : EReal} : IsReal x → IsReal y → IsReal (x + y)
  | ⟨a, ha⟩, ⟨b, hb⟩ => ⟨a + b, by rw [ha, hb, EReal.coe_add]⟩

theorem IsReal.zero : IsReal 0 := ⟨0, EReal.coe_zero.symm⟩

theorem IsReal.back {u : ℕ → EReal} (hu : ∀ r, IsReal (u r)) (s r : ℕ) : IsReal (back u s r) := by
  unfold Gate.back
  split
  · exact hu _
  · exact IsReal.zero

theorem IsReal.conv {u : ℕ → EReal} (hu : ∀ r, IsReal (u r)) {w0 w1 w2 b : EReal} (h0 : IsReal w0) (h1 : IsReal w1) (h2 : IsReal w2)
    (hb : IsReal b) (r : ℕ) : IsReal (conv u w0 w1 w2 b r) :=
  (((hb.add ((hu r).mul h2)).add ((IsReal.back hu 2 r).mul h0)).add ((IsReal.back hu 1 r).mul h1))

theorem IsReal.col {n : ℕ} {v : (⟨2, ![8192, n]⟩ : Shape).Idx → EReal} (hv : ∀ i, IsReal (v i)) (j : Fin n) (r : ℕ) : IsReal (col v j r) := by
  unfold Gate.col
  split
  · exact hv _
  · exact IsReal.zero

/-- The rounded constants of the gelu. -/
theorem half_real : IsReal (Ideal.ofBits FTy.f32 1056964608#32) := ⟨8388608 * (2 ^ 24)⁻¹, by simp [Ideal.ofBits, Ideal.ieee]⟩

@[inherit_doc half_real]
theorem scale_real : IsReal (Ideal.ofBits FTy.f32 1061962282#32) := ⟨13386282 * (2 ^ 24)⁻¹, by simp [Ideal.ofBits, Ideal.ieee]⟩

@[inherit_doc half_real]
theorem cube_real : IsReal (Ideal.ofBits FTy.f32 1027024659#32) := ⟨12003091 * (2 ^ 28)⁻¹, by simp [Ideal.ofBits, Ideal.ieee]⟩

theorem three : Ideal.ofBits FTy.f32 1077936128#32 = ((3 : ℝ) : EReal) := by
  simp [Ideal.ofBits, Ideal.ieee]
  rw [← EReal.coe_mul]
  norm_num

/-- The tanh of a number is a number. -/
theorem th_real {z : EReal} (hz : IsReal z) : IsReal (th z) := by
  obtain ⟨r, hr⟩ := scale_real.mul (hz.add (((cube_real.mul hz).mul hz).mul hz))
  exact ⟨Real.tanh r, by unfold th; rw [hr]; exact Ideal.tanh_coe r⟩

/-- The two groupings agree on numbers. -/
theorem dgelu_ref {z e : EReal} (hz : IsReal z) (he : IsReal e) (t : EReal) (ht : t = th z) (f : EReal)
    (hf : f = Ideal.ofBits FTy.f32 1061962282#32 * (Ideal.ofBits FTy.f32 1056964608#32 * (z * e) * ((1 + t) * (1 - t)))) :
    e * (Ideal.ofBits FTy.f32 1056964608#32 * (1 + t)) + f
      + Ideal.ofBits FTy.f32 1027024659#32 * f * (Ideal.ofBits FTy.f32 1077936128#32 * (z * z)) = e * dgelu z := by
  subst hf
  unfold dgelu
  rw [← ht, three]
  obtain ⟨h, hh⟩ := half_real
  obtain ⟨c, hc⟩ := scale_real
  obtain ⟨k, hk⟩ := cube_real
  obtain ⟨τ, hτ⟩ := th_real hz
  obtain ⟨x, rfl⟩ := hz
  obtain ⟨y, rfl⟩ := he
  rw [ht, hτ, hh, hc, hk]
  simp only [← EReal.coe_one, ← EReal.coe_mul, ← EReal.coe_add, ← EReal.coe_sub]
  exact congrArg _ (by ring)

/-- Whether a row of the tile or of the rows after it is of the tile's sequence. -/
theorem sge_eq (a : Fin 272) : IntOp.cmpi CmpIPredicate.sge (BitVec.ofNat 32 a.val) 256#32 = if 256 ≤ a.val then 1#1 else 0#1 :=
  (by decide +kernel : ∀ a : Fin 272, IntOp.cmpi CmpIPredicate.sge (BitVec.ofNat 32 a.val) 256#32 = if 256 ≤ a.val then 1#1 else 0#1) a

/-- The rows after the last tile of a sequence are not of it. -/
theorem mask_eq (t : ℕ) (a : Fin 272) (c : BitVec 1) (hc : c = if t % 8 = 7 then 1#1 else 0#1) (x y : EReal)
    (hy : t % 8 * 256 + a.val < 2048 → x = y) :
    Scalar.select (IntOp.andi c (IntOp.cmpi CmpIPredicate.sge (BitVec.ofNat 32 a.val) 256#32)) 0 x
      = if t % 8 * 256 + a.val < 2048 then y else 0 := by
  rw [sge_eq]
  subst hc
  by_cases h7 : t % 8 = 7
  · rw [if_pos h7]
    by_cases ha : 256 ≤ a.val
    · rw [if_pos ha, if_neg (by omega)]; rfl
    · rw [if_neg ha, if_pos (by omega)]; exact hy (by omega)
  · have := a.isLt
    have hin : t % 8 * 256 + a.val < 2048 := by omega
    rw [if_neg h7, if_pos hin]
    refine Eq.trans ?_ (hy hin)
    by_cases ha : 256 ≤ a.val
    · rw [if_pos ha]; rfl
    · rw [if_neg ha]; rfl

/-- The kernel's shift the other way: the tile above the first rows after it, turned by 272 less `s`. -/
theorem turn (g : Fin 272 → EReal) (a s : ℕ) (hs : s ≤ 2) (ha : a < 256)
    (h1 : (a + 272 - (272 - s)) % 272 < 256 → (a + 272 - (272 - s)) % 272 < 272)
    (h2 : ¬(a + 272 - (272 - s)) % 272 < 256 → 256 + ((a + 272 - (272 - s)) % 272 - 256) < 272) :
    (if h : (a + 272 - (272 - s)) % 272 < 256 then g ⟨_, h1 h⟩ else g ⟨_, h2 h⟩) = g ⟨a + s, by omega⟩ := by
  have e : (a + 272 - (272 - s)) % 272 = a + s := by omega
  split <;> exact congrArg g (Fin.ext (by simp only []; omega))

theorem turn_ahead (G : ℕ → EReal) (t a s : ℕ) (hin : t % 8 * 256 + a < 2048) :
    (if t % 8 * 256 + (a + s) < 2048 then G (t * 256 + (a + s)) else 0) = ahead G s (t * 256 + a) := by
  have e8 : (t * 256 + a) % 2048 = t % 8 * 256 + a := by omega
  unfold ahead
  rw [e8, Nat.add_assoc, Nat.add_assoc]

/-- The three rows of the gradient in the weight, above rows of zeros. -/
theorem rows (a : ℕ) (x y z : EReal) (f : ℕ → EReal) (hx : x = f 2) (hy : y = f 1) (hz : z = f 0) :
    (if _ : a < 3 then if _ : a < 1 then x else if _ : a - 1 < 1 then y else z else 0) = if a < 3 then f (2 - a) else 0 := by
  by_cases h3 : a < 3
  · rw [dif_pos h3, if_pos h3]
    match a, h3 with
    | 0, _ => exact hx
    | 1, _ => exact hy
    | 2, _ => exact hz
  · rw [dif_neg h3, if_neg h3]

/-- A sum that grows by one part at a time. -/
theorem grow {N : ℕ} (f g : (n : ℕ) → n < N → EReal) (h0 : ∀ h, f 0 h = g 0 h) (hs : ∀ n h, f (n + 1) h = f n (by omega) + g (n + 1) h) :
    ∀ (n : ℕ) (hn : n < N), f n hn = ∑ s : Fin (n + 1), g s.val (Nat.lt_of_lt_of_le s.isLt hn)
  | 0, hn => (h0 hn).trans (Fin.sum_univ_one fun s : Fin 1 => g s.val (Nat.lt_of_lt_of_le s.isLt hn)).symm
  | n + 1, hn => by
    rw [hs, Fin.sum_univ_castSucc]
    exact congrArg (· + _) (grow f g h0 hs n (by omega))

section Arrays
variable (u : (⟨2, ![8192, 6144]⟩ : Shape).Idx → EReal) (d : (⟨2, ![8192, 3072]⟩ : Shape).Idx → EReal)
  (w : (⟨2, ![3, 3072]⟩ : Shape).Idx → EReal) (bias : (⟨1, ![3072]⟩ : Shape).Idx → EReal)

/-- A column of the half that is convolved, and of the other. -/
def first (b : Fin 3072) : ℕ → EReal := col u ⟨b.val, Nat.lt_of_lt_of_le b.isLt (by decide)⟩

@[inherit_doc first]
def second (b : Fin 3072) : ℕ → EReal := col u ⟨3072 + b.val, Nat.add_lt_add_left b.isLt 3072⟩

/-- A column of the convolution and of its cotangent. -/
def convAt (b : Fin 3072) : ℕ → EReal := conv (first u b) (w (ix2 0 b)) (w (ix2 1 b)) (w (ix2 2 b)) (bias (ix1 b))

@[inherit_doc convAt]
def gradAt (b : Fin 3072) : ℕ → EReal := dgate (first u b) (second u b) (col d b) (w (ix2 0 b)) (w (ix2 1 b)) (w (ix2 2 b)) (bias (ix1 b))

/-- The gradient in the half that is convolved: the cotangent's convolution the other way. -/
def dFirst (b : Fin 3072) (r : ℕ) : EReal :=
  gradAt u d w bias b r * w (ix2 2 b) + ahead (gradAt u d w bias b) 2 r * w (ix2 0 b) + ahead (gradAt u d w bias b) 1 r * w (ix2 1 b)

/-- The gradient in the other half. -/
def dSecond (b : Fin 3072) (r : ℕ) : EReal := col d b r * gelu (convAt u w bias b r)

/-- The gradient in the activation. -/
def dU : (⟨2, ![8192, 6144]⟩ : Shape).Idx → EReal := fun i =>
  if h : (i 1).val < 3072 then dFirst u d w bias ⟨(i 1).val, h⟩ (i 0).val
  else dSecond u d w bias ⟨(i 1).val - 3072, Nat.sub_lt_left_of_lt_add (Nat.not_lt.mp h) (i 1).isLt⟩ (i 0).val

/-- The gradient in the convolution's weight. -/
def dW : (⟨2, ![8, 3072]⟩ : Shape).Idx → EReal := fun i =>
  if (i 0).val < 3 then ∑ r : Fin 8192, gradAt u d w bias (i 1) r.val * back (first u (i 1)) (2 - (i 0).val) r.val else 0

/-- The gradient in its bias. -/
def dB : (⟨2, ![1, 3072]⟩ : Shape).Idx → EReal := fun i => ∑ r : Fin 8192, gradAt u d w bias (i 1) r.val

end Arrays

end Cert.Gate
-- ==== Proof.FfnActBwdTile.lean ====
/-
  One grid point of the gate's gradient: the convolution and its cotangent on the tile and the sixteen rows after it, and
  what the point writes and adds, column by column.
-/
module

public import proofs.«01_k».proof.Defs
public import proofs.«01_k».proof.Proof.GateGrad
public import proofs.«01_k».proof.Proof.Gen.FfnActBwdIdeal.Value

@[expose] public section

set_option maxRecDepth 16384

noncomputable section

namespace Cert.FfnActBwdIdeal.Value

open Cert.FfnActBwdIdeal Cert.FfnActBwdIdeal.Gen Idealize.ShloMosaic Idealize.ShloMosaic.TcCoe Idealize.SL.Sem Cert.Gate

section Tile
variable (i : grid0.Coords) (x0 : Vec Ideal S256x6144 .bf16) (x1 : Vec Ideal S256x3072 .bf16) (x2 : Vec Ideal S16x6144 .bf16)
  (x3 : Vec Ideal S16x6144 .bf16) (x4 : Vec Ideal S16x3072 .bf16) (x5 : Vec Ideal S3x3072 .f32) (x6 : Vec Ideal S1x3072 .f32)

/-- The convolved half of the tile's columns. -/
def left : FVec Ideal S256x3072 .f32 := k0_pay6 (View.ld x0 (Rect.unit ![0, 0] ![256, 3072] inb_S256x6144_S256x3072_0_0))

/-- The convolved half of the rows before the tile. -/
def before : FVec Ideal S16x3072 .f32 := k0_pay7 (View.ld x2 (Rect.unit ![0, 0] ![16, 3072] inb_S16x6144_S16x3072_0_0))

/-- The tile and the rows after it: the convolved half. -/
def cur : FVec Ideal S272x3072 .f32 :=
  k0_pay8 (View.ld x0 (Rect.unit ![0, 0] ![256, 3072] inb_S256x6144_S256x3072_0_0)) (View.ld x3 (Rect.unit ![0, 0] ![16, 3072] inb_S16x6144_S16x3072_0_0))

/-- The other half. -/
def other : FVec Ideal S272x3072 .f32 :=
  k0_pay9 (View.ld x0 (Rect.unit ![0, 3072] ![256, 3072] inb_S256x6144_S256x3072_0_3072)) (View.ld x3 (Rect.unit ![0, 3072] ![16, 3072] inb_S16x6144_S16x3072_0_3072))

/-- The cotangents. -/
def cot : FVec Ideal S272x3072 .f32 := k0_pay10 x1 x4

/-- The convolution. -/
def cv : FVec Ideal S272x3072 .f32 := k0_pay11 (isNth 0#32 (i 0).val) x5 (k0_pay5 x6) (before x2) (cur x0 x3)

/-- Half of it. -/
def half : FVec Ideal S272x3072 .f32 := k0_pay13 (isNth 0#32 (i 0).val) x5 (k0_pay5 x6) (before x2) (cur x0 x3)

/-- The cubic term's first factor. -/
def cube : FVec Ideal S272x3072 .f32 := k0_pay15 (isNth 0#32 (i 0).val) x5 (k0_pay5 x6) (before x2) (cur x0 x3)

/-- The convolution's cotangent. -/
def grad : FVec Ideal S272x3072 .f32 :=
  k0_pay20 (isNth 7#32 (i 0).val) (other x0 x3) (cot x1 x4) (cv i x0 x2 x3 x5 x6) k0_pay12 (half i x0 x2 x3 x5 x6) k0_pay14 (cube i x0 x2 x3 x5 x6)

/-- Its rows of the tile. -/
def gradC : FVec Ideal S256x3072 .f32 :=
  k0_pay21 (isNth 7#32 (i 0).val) (other x0 x3) (cot x1 x4) (cv i x0 x2 x3 x5 x6) k0_pay12 (half i x0 x2 x3 x5 x6) k0_pay14 (cube i x0 x2 x3 x5 x6)

/-- What the point writes. -/
def tileU : FVec Ideal S256x6144 .bf16 :=
  k0_pay27 x5 (k0_pay19 (cot x1 x4) (cv i x0 x2 x3 x5 x6) (half i x0 x2 x3 x5 x6) (cube i x0 x2 x3 x5 x6))
    (gradC i x0 x1 x2 x3 x4 x5 x6)
    (k0_pay22 (isNth 7#32 (i 0).val) (other x0 x3) (cot x1 x4) (cv i x0 x2 x3 x5 x6) k0_pay12 (half i x0 x2 x3 x5 x6) k0_pay14 (cube i x0 x2 x3 x5 x6))
    (k0_pay23 (isNth 7#32 (i 0).val) x5 (other x0 x3) (cot x1 x4) (cv i x0 x2 x3 x5 x6) k0_pay12 (half i x0 x2 x3 x5 x6) k0_pay14 (cube i x0 x2 x3 x5 x6))
    (k0_pay24 (isNth 7#32 (i 0).val) (other x0 x3) (cot x1 x4) (cv i x0 x2 x3 x5 x6) k0_pay12 (half i x0 x2 x3 x5 x6) k0_pay14 (cube i x0 x2 x3 x5 x6))

/-- What the point adds to the gradient in the weight. -/
def partW : FVec Ideal S8x3072 .f32 := k0_pay25 (isNth 0#32 (i 0).val) (left x0) (before x2) (gradC i x0 x1 x2 x3 x4 x5 x6)

/-- What the point adds to the gradient in the bias. -/
def partB : FVec Ideal S1x3072 .f32 := k0_pay26 (gradC i x0 x1 x2 x3 x4 x5 x6)

end Tile

section Points
variable (m : (ℓ : Loc nD τ sig) → Buf (Elt Ideal) ℓ) (c : Dev nD) (t : Fin cfg0.N)

/-- Every point writes its tile. -/
theorem tile_eq : (outsAt0 m c t.val t.isLt).1
    = tileU (grid0.coords t) (iblk m c 0 t) (iblk m c 1 t) (iblk m c 2 t) (iblk m c 3 t) (iblk m c 4 t) (iblk m c 5 t) (iblk m c 6 t) := by
  by_cases h0 : t.val % 32 = 0
  · rw [outsAt0_A m c t h0]
    frame_out
    rfl
  · rw [outsAt0_B m c t h0]
    frame_out
    rfl

/-- What point `t` adds to the gradients in the weight and the bias. -/
def addW : FVec Ideal S8x3072 .f32 :=
  partW (grid0.coords t) (iblk m c 0 t) (iblk m c 1 t) (iblk m c 2 t) (iblk m c 3 t) (iblk m c 4 t) (iblk m c 5 t) (iblk m c 6 t)

@[inherit_doc addW]
def addB : FVec Ideal S1x3072 .f32 :=
  partB (grid0.coords t) (iblk m c 0 t) (iblk m c 1 t) (iblk m c 2 t) (iblk m c 3 t) (iblk m c 4 t) (iblk m c 5 t) (iblk m c 6 t)

/-- The first point starts the sums. -/
theorem firstW (h0 : t.val % 32 = 0) (a : Fin 8) (b : Fin 3072) : (outsAt0 m c t.val t.isLt).2.1 (ix2 a b) = addW m c t (ix2 a b) := by
  have h : (outsAt0 m c t.val t.isLt).2.1 = k0_pay3 (addW m c t) (k0_pay1 (F := Ideal)) := by
    rw [outsAt0_A m c t h0]
    frame_out
    rfl
  rw [h]
  unfold k0_pay3 k0_pay1
  pointwise

@[inherit_doc firstW]
theorem firstB (h0 : t.val % 32 = 0) (b : Fin 3072) : (outsAt0 m c t.val t.isLt).2.2 (ix2 0 b) = addB m c t (ix2 0 b) := by
  have h : (outsAt0 m c t.val t.isLt).2.2 = k0_pay4 (addB m c t) (k0_pay2 (F := Ideal)) := by
    rw [outsAt0_A m c t h0]
    frame_out
    rfl
  rw [h]
  unfold k0_pay4 k0_pay2
  pointwise

/-- The others add to them. -/
theorem nextW (h0 : ¬t.val % 32 = 0) (a : Fin 8) (b : Fin 3072) : (outsAt0 m c t.val t.isLt).2.1 (ix2 a b)
    = (outsAt0 m c (t.val - 1) (Nat.lt_of_le_of_lt (Nat.sub_le _ _) t.isLt)).2.1 (ix2 a b) + addW m c t (ix2 a b) := by
  have h : (outsAt0 m c t.val t.isLt).2.1 = k0_pay3 (addW m c t) (outsAt0 m c (t.val - 1) (Nat.lt_of_le_of_lt (Nat.sub_le _ _) t.isLt)).2.1 := by
    rw [outsAt0_B m c t h0]
    frame_out
    rfl
  rw [h]
  unfold k0_pay3
  pointwise

@[inherit_doc nextW]
theorem nextB (h0 : ¬t.val % 32 = 0) (b : Fin 3072) : (outsAt0 m c t.val t.isLt).2.2 (ix2 0 b)
    = (outsAt0 m c (t.val - 1) (Nat.lt_of_le_of_lt (Nat.sub_le _ _) t.isLt)).2.2 (ix2 0 b) + addB m c t (ix2 0 b) := by
  have h : (outsAt0 m c t.val t.isLt).2.2 = k0_pay4 (addB m c t) (outsAt0 m c (t.val - 1) (Nat.lt_of_le_of_lt (Nat.sub_le _ _) t.isLt)).2.2 := by
    rw [outsAt0_B m c t h0]
    frame_out
    rfl
  rw [h]
  unfold k0_pay4
  pointwise

end Points

/-- Column `b` of the point's blocks is that of the arrays. -/
structure Reads (u v d : ℕ → EReal) (t : ℕ) (x0 : Vec Ideal S256x6144 .bf16) (x1 : Vec Ideal S256x3072 .bf16)
    (x2 : Vec Ideal S16x6144 .bf16) (x3 : Vec Ideal S16x6144 .bf16) (x4 : Vec Ideal S16x3072 .bf16) (b : Fin 3072) : Prop where
  hu : ∀ k : Fin 256, x0 (ix2 k ⟨b.val, by omega⟩) = u (t * 256 + k.val)
  hv : ∀ k : Fin 256, x0 (ix2 k ⟨3072 + b.val, by omega⟩) = v (t * 256 + k.val)
  hd : ∀ k : Fin 256, x1 (ix2 k b) = d (t * 256 + k.val)
  before_u : t % 8 ≠ 0 → ∀ k : Fin 16, x2 (ix2 k ⟨b.val, by omega⟩) = u (t * 256 - 16 + k.val)
  after_u : t % 8 ≠ 7 → ∀ k : Fin 16, x3 (ix2 k ⟨b.val, by omega⟩) = u (t * 256 + 256 + k.val)
  after_v : t % 8 ≠ 7 → ∀ k : Fin 16, x3 (ix2 k ⟨3072 + b.val, by omega⟩) = v (t * 256 + 256 + k.val)
  after_d : t % 8 ≠ 7 → ∀ k : Fin 16, x4 (ix2 k b) = d (t * 256 + 256 + k.val)

section Column
variable (u v d : ℕ → EReal) (t : ℕ) (ht : t < 32) (i : grid0.Coords) (hi : (i 0).val = t)
  (x0 : Vec Ideal S256x6144 .bf16) (x1 : Vec Ideal S256x3072 .bf16) (x2 : Vec Ideal S16x6144 .bf16)
  (x3 : Vec Ideal S16x6144 .bf16) (x4 : Vec Ideal S16x3072 .bf16) (x5 : Vec Ideal S3x3072 .f32) (x6 : Vec Ideal S1x3072 .f32) (b : Fin 3072)

variable (h : Reads u v d t x0 x1 x2 x3 x4 b)

/-- A block above the first rows after it. -/
theorem join (f : ℕ → EReal) (p : Fin 256 → EReal) (q : Fin 16 → EReal) (hp : ∀ k : Fin 256, p k = f (t * 256 + k.val))
    (hq : t % 8 ≠ 7 → ∀ k : Fin 16, q k = f (t * 256 + 256 + k.val)) (a : Fin 272) (hin : t % 8 * 256 + a.val < 2048)
    (h1 : a.val < 256 → a.val < 256) (h2 : ¬a.val < 256 → a.val - 256 < 16) :
    (if h : a.val < 256 then p ⟨a.val, h1 h⟩ else q ⟨a.val - 256, h2 h⟩) = f (t * 256 + a.val) := by
  by_cases h : a.val < 256
  · rw [dif_pos h]; exact hp _
  · rw [dif_neg h, hq (by omega)]
    exact congrArg f (by simp only []; omega)

include h in
theorem left_apply (a : Fin 256) : left x0 (ix2 a b) = u (t * 256 + a.val) := by
  unfold left k0_pay6
  pointwise
  exact h.hu a

include h in
theorem cur_apply (a : Fin 272) (hin : t % 8 * 256 + a.val < 2048) : cur x0 x3 (ix2 a b) = u (t * 256 + a.val) := by
  unfold cur k0_pay8 k0_pay6
  pointwise
  exact join t u (fun k => x0 (ix2 k ⟨b.val, by omega⟩)) (fun k => x3 (ix2 k ⟨b.val, by omega⟩)) h.hu h.after_u a hin _ _

include h in
theorem other_apply (a : Fin 272) (hin : t % 8 * 256 + a.val < 2048) : other x0 x3 (ix2 a b) = v (t * 256 + a.val) := by
  unfold other k0_pay9
  pointwise
  exact join t v (fun k => x0 (ix2 k ⟨3072 + b.val, by omega⟩)) (fun k => x3 (ix2 k ⟨3072 + b.val, by omega⟩)) h.hv h.after_v a hin _ _

include h in
theorem cot_apply (a : Fin 272) (hin : t % 8 * 256 + a.val < 2048) : cot x1 x4 (ix2 a b) = d (t * 256 + a.val) := by
  unfold cot k0_pay10
  pointwise
  exact join t d (fun k => x1 (ix2 k b)) (fun k => x4 (ix2 k b)) h.hd h.after_d a hin _ _

/-- The column's convolution and its cotangent. -/
abbrev Z : ℕ → EReal := conv u (x5 (ix2 0 b)) (x5 (ix2 1 b)) (x5 (ix2 2 b)) (x6 (ix2 0 b))

@[inherit_doc Z]
abbrev G : ℕ → EReal := dgate u v d (x5 (ix2 0 b)) (x5 (ix2 1 b)) (x5 (ix2 2 b)) (x6 (ix2 0 b))

include h ht hi in
theorem cv_apply (a : Fin 272) (hin : t % 8 * 256 + a.val < 2048) : cv i x0 x2 x3 x5 x6 (ix2 a b) = Z u x5 x6 b (t * 256 + a.val) := by
  unfold cv k0_pay11 before k0_pay7 k0_pay5
  pointwise
  have hc : isNth 0#32 (i 0).val = if t % 8 = 0 then 1#1 else 0#1 := by rw [hi]; exact isFirst_eq t ht
  have s := fun s hs => shift u t s 272 a.val hs (by omega) a.isLt hin _ hc (fun k => x2 (ix2 k ⟨b.val, by omega⟩)) (fun k => cur x0 x3 (ix2 k b)) h.before_u
    (fun k hk => cur_apply u v d t x0 x1 x2 x3 x4 b h k hk)
  unfold Z conv
  refine congrArg₂ (fun p q : EReal => p + q * x5 (ix2 1 b)) (congrArg₂ (fun p q : EReal => x6 (ix2 0 b) + p * x5 (ix2 2 b) + q * x5 (ix2 0 b))
    (cur_apply u v d t x0 x1 x2 x3 x4 b h a hin) ?_) ?_
  · exact s 2 (Or.inr rfl) _ _
  · exact s 1 (Or.inl rfl) _ _

theorem half_apply (a : Fin 272) : half i x0 x2 x3 x5 x6 (ix2 a b) = Ideal.ofBits FTy.f32 1056964608#32 * cv i x0 x2 x3 x5 x6 (ix2 a b) := by
  unfold half k0_pay13 cv
  pointwise

theorem cube_apply (a : Fin 272) : cube i x0 x2 x3 x5 x6 (ix2 a b) = Ideal.ofBits FTy.f32 1027024659#32 * cv i x0 x2 x3 x5 x6 (ix2 a b) := by
  unfold cube k0_pay15 cv
  pointwise

include h ht hi in
theorem grad_apply (a : Fin 272) : grad i x0 x1 x2 x3 x4 x5 x6 (ix2 a b)
    = if t % 8 * 256 + a.val < 2048 then G u v d x5 x6 b (t * 256 + a.val) else 0 := by
  unfold grad k0_pay20 k0_pay18 k0_pay17 k0_pay16 k0_pay14 k0_pay12
  pointwise
  refine mask_eq t a (isNth 7#32 (i 0).val) (by rw [hi]; exact isLast_eq t ht) _ _ fun hin => ?_
  rw [half_apply, cube_apply, cv_apply u v d t ht i hi x0 x1 x2 x3 x4 x5 x6 b h a hin, cot_apply u v d t x0 x1 x2 x3 x4 b h a hin,
    other_apply u v d t x0 x1 x2 x3 x4 b h a hin]
  rfl

theorem gradC_eq (a : Fin 256) : gradC i x0 x1 x2 x3 x4 x5 x6 (ix2 a b)
    = grad i x0 x1 x2 x3 x4 x5 x6 (ix2 ⟨a.val, Nat.lt_of_lt_of_le a.isLt (by decide)⟩ b) := by
  unfold gradC grad k0_pay21
  pointwise

include h ht hi in
theorem gradC_apply (a : Fin 256) : gradC i x0 x1 x2 x3 x4 x5 x6 (ix2 a b) = G u v d x5 x6 b (t * 256 + a.val) :=
  (gradC_eq i x0 x1 x2 x3 x4 x5 x6 b a).trans ((grad_apply u v d t ht i hi x0 x1 x2 x3 x4 x5 x6 b h _).trans (if_pos (by simp only []; omega)))

include h ht hi in
/-- The convolved half of what the point writes. -/
theorem tileU_left (a : Fin 256) : tileU i x0 x1 x2 x3 x4 x5 x6 (ix2 a ⟨b.val, by omega⟩)
    = G u v d x5 x6 b (t * 256 + a.val) * x5 (ix2 2 b) + ahead (G u v d x5 x6 b) 2 (t * 256 + a.val) * x5 (ix2 0 b)
      + ahead (G u v d x5 x6 b) 1 (t * 256 + a.val) * x5 (ix2 1 b) := by
  have hg := grad_apply u v d t ht i hi x0 x1 x2 x3 x4 x5 x6 b h
  have hs := fun s hs h1 h2 => (turn (fun k => grad i x0 x1 x2 x3 x4 x5 x6 (ix2 k b)) a.val s hs a.isLt h1 h2).trans
    ((hg _).trans (turn_ahead (G u v d x5 x6 b) t a.val s (by omega)))
  unfold tileU k0_pay27 k0_pay24 k0_pay23 gradC k0_pay21 k0_pay22
  pointwise
  refine congrArg₂ (fun p q : EReal => p + q * x5 (ix2 1 b)) (congrArg₂ (fun p q : EReal => p * x5 (ix2 2 b) + q * x5 (ix2 0 b)) ?_ ?_) ?_
  · exact (hg _).trans (if_pos (by simp only []; omega))
  · exact hs 2 (by omega) _ _
  · exact hs 1 (by omega) _ _

include h ht hi in
/-- The other half. -/
theorem tileU_right (a : Fin 256) : tileU i x0 x1 x2 x3 x4 x5 x6 (ix2 a ⟨3072 + b.val, by omega⟩)
    = d (t * 256 + a.val) * gelu (Z u x5 x6 b (t * 256 + a.val)) := by
  unfold tileU k0_pay27 k0_pay19 k0_pay18 k0_pay17 k0_pay16
  pointwise
  rw [dif_neg (by omega)]
  generalize hj : (⟨3072 + b.val - 3072, by omega⟩ : Fin 3072) = j
  obtain rfl : b = j := hj ▸ Fin.ext (by simp only []; omega)
  rw [half_apply, cube_apply, cv_apply u v d t ht i hi x0 x1 x2 x3 x4 x5 x6 b h _ (by simp only []; omega),
    cot_apply u v d t x0 x1 x2 x3 x4 b h _ (by simp only []; omega)]
  rfl

include h ht hi in
/-- The sums of the point. -/
theorem partW_apply (a : Fin 8) : partW i x0 x1 x2 x3 x4 x5 x6 (ix2 a b)
    = if a.val < 3 then ∑ k : Fin 256, G u v d x5 x6 b (t * 256 + k.val) * back u (2 - a.val) (t * 256 + k.val) else 0 := by
  unfold partW k0_pay25 before k0_pay7
  pointwise
  have hc : isNth 0#32 (i 0).val = if t % 8 = 0 then 1#1 else 0#1 := by rw [hi]; exact isFirst_eq t ht
  have hl := left_apply u v d t x0 x1 x2 x3 x4 b h
  have s := fun s hs (k : Fin 256) => shift u t s 256 k.val hs (by omega) k.isLt (by omega) _ hc (fun k => x2 (ix2 k ⟨b.val, by omega⟩))
    (fun k => left x0 (ix2 k b)) h.before_u (fun k _ => hl k)
  have g := gradC_apply u v d t ht i hi x0 x1 x2 x3 x4 x5 x6 b h
  exact rows a.val _ _ _ (fun s => ∑ k : Fin 256, G u v d x5 x6 b (t * 256 + k.val) * back u s (t * 256 + k.val))
    (Finset.sum_congr rfl fun k _ => congrArg₂ (fun p q : EReal => p * q) (g k) (s 2 (Or.inr rfl) k _ _))
    (Finset.sum_congr rfl fun k _ => congrArg₂ (fun p q : EReal => p * q) (g k) (s 1 (Or.inl rfl) k _ _))
    (Finset.sum_congr rfl fun k _ => congrArg₂ (fun p q : EReal => p * q) (g k) ((hl k).trans (back_zero u _).symm))

include h ht hi in
@[inherit_doc partW_apply]
theorem partB_apply : partB i x0 x1 x2 x3 x4 x5 x6 (ix2 0 b) = ∑ k : Fin 256, G u v d x5 x6 b (t * 256 + k.val) := by
  unfold partB k0_pay26
  pointwise
  exact Finset.sum_congr rfl fun k _ => gradC_apply u v d t ht i hi x0 x1 x2 x3 x4 x5 x6 b h k

end Column

end Cert.FfnActBwdIdeal.Value
-- ==== Proof.FfnActBwdValue.lean ====
/-
  The gradient of the gate: what the grid's points leave in the three arrays.
-/
module

public import proofs.«01_k».proof.Proof.FfnActBwdTile

@[expose] public section

set_option maxRecDepth 16384

noncomputable section

namespace Cert.FfnActBwdIdeal.Value

open Cert.FfnActBwdIdeal Cert.FfnActBwdIdeal.Gen Idealize.ShloMosaic Idealize.ShloMosaic.TcCoe Idealize.SL.Sem Cert.Gate

variable (m : (ℓ : Loc nD τ sig) → Buf (Elt Ideal) ℓ) (c : Dev nD) (t : Fin cfg0.N)

/-- The blocks the windows stand at: two tiles, the rows before and after them, the weight and the bias, and what is written. -/
theorem index : ∀ t : Fin cfg0.N, win0_0.index t = ![t.val, 0] ∧ win0_1.index t = ![t.val, 0] ∧ win0_2.index t = ![t.val * 16 - 1, 0]
    ∧ win0_3.index t = ![min ((t.val + 1) * 16) 511, 0] ∧ win0_4.index t = ![min ((t.val + 1) * 16) 511, 0] ∧ win0_5.index t = ![0, 0]
    ∧ win0_6.index t = ![0, 0] ∧ win0_7.index t = ![t.val, 0] ∧ win0_8.index t = ![0, 0] ∧ win0_9.index t = ![0, 0]
    ∧ (grid0.coords t 0).val = t.val :=
  (by decide +kernel : ∀ t : Fin grid0.N, _)

theorem lt : t.val < 32 := t.isLt

/-- The arrays the call is given. -/
abbrev u (m : (ℓ : Loc nD τ sig) → Buf (Elt Ideal) ℓ) (c : Dev nD) : S8192x6144.Idx → EReal := m (c, main_arg0)

@[inherit_doc u]
abbrev d (m : (ℓ : Loc nD τ sig) → Buf (Elt Ideal) ℓ) (c : Dev nD) : S8192x3072.Idx → EReal := m (c, main_arg1)

@[inherit_doc u]
abbrev w (m : (ℓ : Loc nD τ sig) → Buf (Elt Ideal) ℓ) (c : Dev nD) : S3x3072.Idx → EReal := m (c, main_arg2)

@[inherit_doc u]
abbrev bias (m : (ℓ : Loc nD τ sig) → Buf (Elt Ideal) ℓ) (c : Dev nD) : S3072.Idx → EReal := m (c, main_arg3)

theorem argU (i : S8192x6144.Idx) : (V m c main_v0 : S8192x6144.Idx → EReal) i = u m c i := by
  unfold V
  after_results
  rfl

theorem argD (i : S8192x3072.Idx) : (V m c main_v1 : S8192x3072.Idx → EReal) i = d m c i := by
  unfold V
  after_results
  rfl

theorem argB (k : Fin 3072) : (V m c main_v2 : S1x3072.Idx → EReal) (ix2 0 k) = bias m c (ix1 k) := by
  unfold V
  after_results
  pointwise

theorem blk0 (a : Fin 256) (k : Fin 6144) : (iblk m c 0 t : S256x6144.Idx → EReal) (ix2 a k) = col (u m c) k (t.val * 256 + a.val) := by
  have e := (index t).1
  have hl := lt t
  refine Eq.trans ?_ (col_eq (u m c) k _ (by omega)).symm
  refine (congrArg (V m c main_v0) ?_).trans (argU m c _)
  refine (eq_ix2 ((win0_0.blk t).view.emb (ix2 a k))).trans (congrArg₂ ix2 (Fin.ext ?_) (Fin.ext ?_)) <;> blk_simp [e] <;> rfl

theorem blk1 (a : Fin 256) (k : Fin 3072) : (iblk m c 1 t : S256x3072.Idx → EReal) (ix2 a k) = col (d m c) k (t.val * 256 + a.val) := by
  have e := (index t).2.1
  have hl := lt t
  refine Eq.trans ?_ (col_eq (d m c) k _ (by omega)).symm
  refine (congrArg (V m c main_v1) ?_).trans (argD m c _)
  refine (eq_ix2 ((win0_1.blk t).view.emb (ix2 a k))).trans (congrArg₂ ix2 (Fin.ext ?_) (Fin.ext ?_)) <;> blk_simp [e] <;> rfl

theorem blk2 (h0 : t.val % 8 ≠ 0) (a : Fin 16) (k : Fin 6144) :
    (iblk m c 2 t : S16x6144.Idx → EReal) (ix2 a k) = col (u m c) k (t.val * 256 - 16 + a.val) := by
  have e := (index t).2.2.1
  have hl := lt t
  refine Eq.trans ?_ (col_eq (u m c) k _ (by omega)).symm
  refine (congrArg (V m c main_v0) ?_).trans (argU m c _)
  have e1 : (t.val * 16 - 1) * 16 = t.val * 256 - 16 := by omega
  refine (eq_ix2 ((win0_2.blk t).view.emb (ix2 a k))).trans (congrArg₂ ix2 (Fin.ext ?_) (Fin.ext ?_)) <;> blk_simp [e, e1] <;> rfl

theorem after_at (h7 : t.val % 8 ≠ 7) : min ((t.val + 1) * 16) 511 * 16 = t.val * 256 + 256 ∧ t.val * 256 + 256 + 16 ≤ 8192 := by
  have hl := lt t
  omega

theorem blk3 (h7 : t.val % 8 ≠ 7) (a : Fin 16) (k : Fin 6144) :
    (iblk m c 3 t : S16x6144.Idx → EReal) (ix2 a k) = col (u m c) k (t.val * 256 + 256 + a.val) := by
  have e := (index t).2.2.2.1
  obtain ⟨e1, hl⟩ := after_at t h7
  refine Eq.trans ?_ (col_eq (u m c) k _ (by omega)).symm
  refine (congrArg (V m c main_v0) ?_).trans (argU m c _)
  refine (eq_ix2 ((win0_3.blk t).view.emb (ix2 a k))).trans (congrArg₂ ix2 (Fin.ext ?_) (Fin.ext ?_)) <;> blk_simp [e, e1] <;> rfl

theorem blk4 (h7 : t.val % 8 ≠ 7) (a : Fin 16) (k : Fin 3072) :
    (iblk m c 4 t : S16x3072.Idx → EReal) (ix2 a k) = col (d m c) k (t.val * 256 + 256 + a.val) := by
  have e := (index t).2.2.2.2.1
  obtain ⟨e1, hl⟩ := after_at t h7
  refine Eq.trans ?_ (col_eq (d m c) k _ (by omega)).symm
  refine (congrArg (V m c main_v1) ?_).trans (argD m c _)
  refine (eq_ix2 ((win0_4.blk t).view.emb (ix2 a k))).trans (congrArg₂ ix2 (Fin.ext ?_) (Fin.ext ?_)) <;> blk_simp [e, e1] <;> rfl

theorem blk5 (a : Fin 3) (k : Fin 3072) : (iblk m c 5 t : S3x3072.Idx → EReal) (ix2 a k) = w m c (ix2 a k) := by
  have e := (index t).2.2.2.2.2.1
  refine congrArg (w m c) ?_
  refine (eq_ix2 ((win0_5.blk t).view.emb (ix2 a k))).trans (congrArg₂ ix2 (Fin.ext ?_) (Fin.ext ?_)) <;> blk_simp [e] <;> rfl

theorem blk6 (k : Fin 3072) : (iblk m c 6 t : S1x3072.Idx → EReal) (ix2 0 k) = bias m c (ix1 k) := by
  have e := (index t).2.2.2.2.2.2.1
  refine (congrArg (V m c main_v2) ?_).trans (argB m c k)
  refine (eq_ix2 ((win0_6.blk t).view.emb (ix2 0 k))).trans (congrArg₂ ix2 (Fin.ext ?_) (Fin.ext ?_)) <;> blk_simp [e] <;> rfl

/-- The blocks of a point, column by column. -/
theorem reads (b : Fin 3072) : Reads (first (u m c) b) (second (u m c) b) (col (d m c) b) t.val
    (iblk m c 0 t) (iblk m c 1 t) (iblk m c 2 t) (iblk m c 3 t) (iblk m c 4 t) b where
  hu k := blk0 m c t k _
  hv k := blk0 m c t k _
  hd k := blk1 m c t k b
  before_u h k := blk2 m c t h k _
  after_u h k := blk3 m c t h k _
  after_v h k := blk3 m c t h k _
  after_d h k := blk4 m c t h k b

theorem coord : (grid0.coords t 0).val = t.val := (index t).2.2.2.2.2.2.2.2.2.2

theorem convAt_eq (b : Fin 3072) : Z (first (u m c) b) (iblk m c 5 t) (iblk m c 6 t) b = convAt (u m c) (w m c) (bias m c) b := by
  unfold Z convAt
  rw [blk5 m c t 0 b, blk5 m c t 1 b, blk5 m c t 2 b, blk6 m c t b]

theorem gradAt_eq (b : Fin 3072) : G (first (u m c) b) (second (u m c) b) (col (d m c) b) (iblk m c 5 t) (iblk m c 6 t) b
    = gradAt (u m c) (d m c) (w m c) (bias m c) b := by
  unfold G gradAt
  rw [blk5 m c t 0 b, blk5 m c t 1 b, blk5 m c t 2 b, blk6 m c t b]

/-- What a point adds to the gradient in the weight. -/
theorem addW_eq (a : Fin 8) (b : Fin 3072) : addW m c t (ix2 a b) = if a.val < 3 then ∑ k : Fin 256,
    gradAt (u m c) (d m c) (w m c) (bias m c) b (t.val * 256 + k.val) * back (first (u m c) b) (2 - a.val) (t.val * 256 + k.val) else 0 := by
  rw [← gradAt_eq m c t b]
  exact partW_apply _ _ _ t.val (lt t) (grid0.coords t) (coord t) _ _ _ _ _ _ _ b (reads m c t b) a

@[inherit_doc addW_eq]
theorem addB_eq (b : Fin 3072) : addB m c t (ix2 0 b) = ∑ k : Fin 256, gradAt (u m c) (d m c) (w m c) (bias m c) b (t.val * 256 + k.val) := by
  rw [← gradAt_eq m c t b]
  exact partB_apply _ _ _ t.val (lt t) (grid0.coords t) (coord t) _ _ _ _ _ _ _ b (reads m c t b)

/-- The sums after a point. -/
theorem foldW (a : Fin 8) (b : Fin 3072) (n : ℕ) (hn : n < cfg0.N) : (outsAt0 m c n hn).2.1 (ix2 a b)
    = ∑ s : Fin (n + 1), addW m c ⟨s.val, Nat.lt_of_lt_of_le s.isLt hn⟩ (ix2 a b) :=
  grow (fun n hn => (outsAt0 m c n hn).2.1 (ix2 a b)) (fun n hn => addW m c ⟨n, hn⟩ (ix2 a b)) (fun h => firstW m c ⟨0, h⟩ rfl a b)
    (fun n h => nextW m c ⟨n + 1, h⟩ (by have : n + 1 < 32 := h; show ¬(n + 1) % 32 = 0; omega) a b) n hn

@[inherit_doc foldW]
theorem foldB (b : Fin 3072) (n : ℕ) (hn : n < cfg0.N) : (outsAt0 m c n hn).2.2 (ix2 0 b)
    = ∑ s : Fin (n + 1), addB m c ⟨s.val, Nat.lt_of_lt_of_le s.isLt hn⟩ (ix2 0 b) :=
  grow (fun n hn => (outsAt0 m c n hn).2.2 (ix2 0 b)) (fun n hn => addB m c ⟨n, hn⟩ (ix2 0 b)) (fun h => firstB m c ⟨0, h⟩ rfl b)
    (fun n h => nextB m c ⟨n + 1, h⟩ (by have : n + 1 < 32 := h; show ¬(n + 1) % 32 = 0; omega) b) n hn

theorem emb7 (a : Fin 256) (b : Fin 6144) :
    (win0_7.blk t).view.emb (ix2 a b) = ix2 ⟨t.val * 256 + a.val, by have := lt t; omega⟩ b := by
  have e := (index t).2.2.2.2.2.2.2.1
  refine (eq_ix2 ((win0_7.blk t).view.emb (ix2 a b))).trans (congrArg₂ ix2 (Fin.ext ?_) (Fin.ext ?_)) <;> blk_simp [e] <;> rfl

theorem emb8 (a : Fin 8) (b : Fin 3072) : (win0_8.blk t).view.emb (ix2 a b) = ix2 a b := by
  have e := (index t).2.2.2.2.2.2.2.2.1
  refine (eq_ix2 ((win0_8.blk t).view.emb (ix2 a b))).trans (congrArg₂ ix2 (Fin.ext ?_) (Fin.ext ?_)) <;> blk_simp [e] <;> rfl

theorem emb9 (b : Fin 3072) : (win0_9.blk t).view.emb (ix2 0 b) = ix2 (0 : Fin 1) b := by
  have e := (index t).2.2.2.2.2.2.2.2.2.1
  refine (eq_ix2 ((win0_9.blk t).view.emb (ix2 0 b))).trans (congrArg₂ ix2 (Fin.ext ?_) (Fin.ext ?_)) <;> blk_simp [e] <;> rfl

/-- The array the call leaves for the gradient in the activation. -/
theorem arrU : (dats m 0 c).arrAt 7 cfg0.N = dU (u m c) (d m c) (w m c) (bias m c) := by
  refine (dats m 0 c).arrAt_eq_of_covers 7 _ (by decide +kernel) fun t hf y => ?_
  blk_simp
  rw [after0_7]
  obtain ⟨a, b, rfl⟩ : ∃ (a : Fin 256) (b : Fin 6144), y = ix2 a b := ⟨y 0, y 1, eq_ix2 y⟩
  refine (congrFun (tile_eq m c t) (ix2 a b)).trans ?_
  refine Eq.trans ?_ (congrArg (dU (u m c) (d m c) (w m c) (bias m c)) (emb7 t a b)).symm
  by_cases hb : b.val < 3072
  · refine Eq.trans ?_ (dif_pos hb).symm
    refine (tileU_left (first (u m c) ⟨b.val, hb⟩) (second (u m c) ⟨b.val, hb⟩) (col (d m c) ⟨b.val, hb⟩) t.val (lt t) (grid0.coords t) (coord t)
      _ _ _ _ _ _ _ ⟨b.val, hb⟩ (reads m c t ⟨b.val, hb⟩) a).trans ?_
    rw [gradAt_eq m c t ⟨b.val, hb⟩, blk5 m c t 0 ⟨b.val, hb⟩, blk5 m c t 1 ⟨b.val, hb⟩, blk5 m c t 2 ⟨b.val, hb⟩]
    rfl
  · refine Eq.trans ?_ (dif_neg hb).symm
    have hl : b.val - 3072 < 3072 := by omega
    have hk : b = ⟨3072 + (b.val - 3072), by omega⟩ := Fin.ext (by simp only []; omega)
    refine (congrArg (fun j => tileU _ _ _ _ _ _ _ _ (ix2 a j)) hk).trans ?_
    refine (tileU_right (first (u m c) ⟨_, hl⟩) (second (u m c) ⟨_, hl⟩) (col (d m c) ⟨_, hl⟩) t.val (lt t) (grid0.coords t) (coord t)
      _ _ _ _ _ _ _ ⟨_, hl⟩ (reads m c t ⟨_, hl⟩) a).trans ?_
    rw [convAt_eq m c t ⟨_, hl⟩]
    rfl

/-- The array the call leaves for the gradient in the weight. -/
theorem arrW : (dats m 0 c).arrAt 8 cfg0.N = dW (u m c) (d m c) (w m c) (bias m c) := by
  refine (dats m 0 c).arrAt_eq_of_covers 8 _ (by decide +kernel) fun t hf y => ?_
  have ht : t.val = 31 := by
    have := (flush0_8 t).mp hf
    have := lt t
    omega
  blk_simp
  rw [after0_8]
  obtain ⟨a, b, rfl⟩ : ∃ (a : Fin 8) (b : Fin 3072), y = ix2 a b := ⟨y 0, y 1, eq_ix2 y⟩
  refine (foldW m c a b t.val t.isLt).trans ?_
  refine Eq.trans ?_ (congrArg (dW (u m c) (d m c) (w m c) (bias m c)) (emb8 t a b)).symm
  obtain ⟨n, hn⟩ := t
  obtain rfl : n = 31 := ht
  refine (Finset.sum_congr rfl fun s _ => addW_eq m c _ a b).trans ?_
  show _ = if a.val < 3 then _ else _
  by_cases ha : a.val < 3
  · simp only [if_pos ha]
    exact (Cert.Tiles.sum_blocks 32 256 (fun r : Fin 8192 => gradAt (u m c) (d m c) (w m c) (bias m c) b r.val * back (first (u m c) b) (2 - a.val) r.val)).symm
  · simp only [if_neg ha]
    exact Finset.sum_const_zero

/-- The array the call leaves for the gradient in the bias. -/
theorem arrB : (dats m 0 c).arrAt 9 cfg0.N = dB (u m c) (d m c) (w m c) (bias m c) := by
  refine (dats m 0 c).arrAt_eq_of_covers 9 _ (by decide +kernel) fun t hf y => ?_
  have ht : t.val = 31 := by
    have := (flush0_9 t).mp hf
    have := lt t
    omega
  blk_simp
  rw [after0_9]
  obtain ⟨z, b, rfl⟩ : ∃ (z : Fin 1) (b : Fin 3072), y = ix2 z b := ⟨y 0, y 1, eq_ix2 y⟩
  obtain rfl : z = 0 := Subsingleton.elim _ _
  refine (foldB m c b t.val t.isLt).trans ?_
  refine Eq.trans ?_ (congrArg (dB (u m c) (d m c) (w m c) (bias m c)) (emb9 t b)).symm
  obtain ⟨n, hn⟩ := t
  obtain rfl : n = 31 := ht
  refine (Finset.sum_congr rfl fun s _ => addB_eq m c _ b).trans ?_
  exact (Cert.Tiles.sum_blocks 32 256 (fun r : Fin 8192 => gradAt (u m c) (d m c) (w m c) (bias m c) b r.val)).symm

end Cert.FfnActBwdIdeal.Value
-- ==== Proof.Blocks.lean ====
/-
  The two scans on one block of eight time steps, over the reals.

  A block of the forward scan combines its eight rows in three doubling steps (by 1, 2 and 4 rows) and then applies the
  carry that came from the block before. Read at a row, that is the plain recurrence h_{t+1} = a_t h_t + b_t
  (`fwd_apply`). The backward scan does the same from the last row to the first, G_t = d_t + a_{t+1} G_{t+1}
  (`bwd_apply`), and multiplies by the state before the step (`bwd_da_apply`).
-/
module

public import proofs.«01_k».proof.Proof.Gen.KernelIdeal.Frame
public import Idealize.ShloMosaic.Lib.Pointwise.TacticCore
public import Idealize.ShloMosaic.Lib.Pointwise.ShapeOpsCore
public import Idealize.ShloMosaic.Lib.KernelVsHost
public import Idealize.ShloMosaic.Lib.IdealHost

@[expose] public section

set_option maxRecDepth 16384

noncomputable section

namespace Cert.KernelIdeal.Scan

open Idealize.ShloMosaic Idealize.SL.Sem Cert.KernelIdeal
open Idealize.ShloMosaic.Pointwise

/-- The row numbers of an 8 by 256 vector. -/
abbrev rows : IVec S8x256 32 := iota Kind.tc S8x256 32 [0] Gen.iota_S8x256_d0_w32

/-- The recurrence h_{t+1} = a_t h_t + b_t from 0, over the reals. -/
def hseq (a b : ℕ → ℝ) : ℕ → ℝ
  | 0 => 0
  | t + 1 => a t * hseq a b t + b t

/-- A choice by a signed comparison `≥` is a choice by the integers' order. -/
theorem select_sge {α : Type} (x y : BitVec 32) (u v : α) :
    Scalar.select (IntOp.cmpi CmpIPredicate.sge x y) u v = if y.toInt ≤ x.toInt then u else v := by
  unfold Scalar.select IntOp.cmpi
  simp only [BitVec.sle_eq_decide]
  by_cases h : y.toInt ≤ x.toInt <;> simp [h]

/-- A choice by a signed comparison `<` is a choice by the integers' order. -/
theorem select_slt {α : Type} (x y : BitVec 32) (u v : α) :
    Scalar.select (IntOp.cmpi CmpIPredicate.slt x y) u v = if x.toInt < y.toInt then u else v := by
  unfold Scalar.select IntOp.cmpi
  simp only [BitVec.slt_eq_decide]
  by_cases h : x.toInt < y.toInt <;> simp [h]

/-- A choice by a signed comparison `>` is a choice by the integers' order. -/
theorem select_sgt {α : Type} (x y : BitVec 32) (u v : α) :
    Scalar.select (Scalar.cmpi CmpIPredicate.sgt x y) u v = if y.toInt < x.toInt then u else v := by
  unfold Scalar.select Scalar.cmpi IntOp.cmpi
  simp only [BitVec.slt_eq_decide]
  by_cases h : y.toInt < x.toInt <;> simp [h]

/-- What a block of the forward scan stores at row `r`, its carry being the state before its first row. -/
theorem fwd_apply (r : Fin 8) (j : Fin 256) (a8 b8 h : FVec Ideal S8x256 .f32) (a b : ℕ → ℝ) (n : ℕ)
    (ha : ∀ s : Fin 8, a8 (ix2 s j) = ((a (n + s.val) : ℝ) : EReal))
    (hb : ∀ s : Fin 8, b8 (ix2 s j) = ((b (n + s.val) : ℝ) : EReal))
    (hh : ∀ s : Fin 8, h (ix2 s j) = ((hseq a b n : ℝ) : EReal)) :
    Gen.k0_pay2 (F := Ideal) h (Gen.k0_pay5 rows a8 b8) (Gen.k0_pay6 rows a8) (Gen.k0_pay7 rows a8) (Gen.k0_pay8 rows) 4#32 (ix2 r j)
      = ((hseq a b (n + r.val + 1) : ℝ) : EReal) := by
  unfold Gen.k0_pay2 Gen.k0_pay5 Gen.k0_pay7 Gen.k0_pay6 Gen.k0_pay8 Gen.k0_pay4
  pointwise
  fin_cases r <;> dsimp <;>
  simp [ha, hb, hh, select_sge, hseq] <;> simp only [← EReal.coe_mul, ← EReal.coe_add] <;>
   (refine congrArg _ ?_; ring)

/-- The carry a block of the forward scan hands on is its last row, at every row. -/
theorem fwd_carry (r : Fin 8) (j : Fin 256) (h x y z : FVec Ideal S8x256 .f32) (w : IVec S8x256 1) :
    Gen.k0_pay3 (F := Ideal) h x y z w 4#32 (ix2 r j) = Gen.k0_pay2 (F := Ideal) h x y z w 4#32 (ix2 7 j) := by
  unfold Gen.k0_pay3
  generalize Gen.k0_pay2 (F := Ideal) h x y z w 4#32 = p
  simp only [shapeCast_self]
  pointwise
  first | done | rfl

/-- What a block of the backward scan stores at row `r`: the gradient with respect to the state after the step. -/
theorem bwd_apply (r : Fin 8) (j : Fin 256) (a8 d8 an gn : FVec Ideal S8x256 .f32) (a d G : ℕ → ℝ) (n : ℕ)
    (ha : ∀ s : Fin 8, a8 (ix2 s j) = ((a (n + s.val) : ℝ) : EReal))
    (hd : ∀ s : Fin 8, d8 (ix2 s j) = ((d (n + s.val) : ℝ) : EReal))
    (han : ∀ s : Fin 8, an (ix2 s j) = ((a (n + 8) : ℝ) : EReal))
    (hgn : ∀ s : Fin 8, gn (ix2 s j) = ((G (n + 8) : ℝ) : EReal))
    (hG : ∀ s, s < 8 → G (n + s) = d (n + s) + a (n + s + 1) * G (n + s + 1)) :
    Gen.k1_pay8 (F := Ideal) rows gn (Gen.k1_pay6 rows an a8 d8) (Gen.k1_pay7 rows an a8) (ix2 r j)
      = ((G (n + r.val) : ℝ) : EReal) := by
  have g0 := hG 0 (by omega)
  have g1 := hG 1 (by omega)
  have g2 := hG 2 (by omega)
  have g3 := hG 3 (by omega)
  have g4 := hG 4 (by omega)
  have g5 := hG 5 (by omega)
  have g6 := hG 6 (by omega)
  have g7 := hG 7 (by omega)
  simp only [Nat.add_assoc, Nat.reduceAdd, Nat.add_zero] at g0 g1 g2 g3 g4 g5 g6 g7
  unfold Gen.k1_pay8 Gen.k1_pay7 Gen.k1_pay6 Gen.k1_pay5 Gen.k1_pay4
  pointwise
  fin_cases r <;> dsimp <;>
  simp [ha, hd, han, hgn, select_slt, g0, g1, g2, g3, g4, g5, g6, g7] <;> simp only [← EReal.coe_mul, ← EReal.coe_add] <;>
   (refine congrArg _ ?_; ring)

/-- The two carries a block of the backward scan hands on are its first rows, at every row. -/
theorem bwd_carry (r : Fin 8) (j : Fin 256) (gn x y : FVec Ideal S8x256 .f32) :
    Gen.k1_pay10 (F := Ideal) rows gn x y (ix2 r j) = Gen.k1_pay8 (F := Ideal) rows gn x y (ix2 0 j) := by
  unfold Gen.k1_pay10
  generalize Gen.k1_pay8 (F := Ideal) rows gn x y = p
  simp only [shapeCast_self]
  pointwise
  first | done | rfl

theorem bwd_carry_a (r : Fin 8) (j : Fin 256) (a8 : FVec Ideal S8x256 .f32) :
    Gen.k1_pay2 (F := Ideal) (Gen.k1_pay11 a8) (ix2 r j) = a8 (ix2 0 j) := by
  unfold Gen.k1_pay2 Gen.k1_pay11
  simp only [shapeCast_self]
  pointwise
  first | done | rfl

/-- What a block of the backward scan stores beside it at row `r`: that gradient times the state before the step. -/
theorem bwd_da_apply (r : Fin 8) (j : Fin 256) (h8 hp gn x y : FVec Ideal S8x256 .f32) (v4 : BitVec 32) :
    Gen.k1_pay9 (F := Ideal) rows gn v4 (Gen.k1_pay3 h8) x y hp (ix2 r j)
      = Gen.k1_pay8 (F := Ideal) rows gn x y (ix2 r j)
        * (if h : 1 ≤ r.val then h8 (ix2 ⟨r.val - 1, by omega⟩ j) else if 0 < v4.toInt then hp (ix2 7 j) else 0) := by
  unfold Gen.k1_pay9 Gen.k1_pay3
  generalize Gen.k1_pay8 (F := Ideal) rows gn x y = p
  simp only [shapeCast_self]
  pointwise
  fin_cases r <;> dsimp <;> simp [select_sge, select_sgt]
end Cert.KernelIdeal.Scan
-- ==== Proof.Trips.lean ====
/-
  The two scan loops on one block of 2048 time steps by 256 lanes.

  Each loop makes 256 trips of eight rows. The states here say what the loop carries before a trip and that every piece
  it has stored so far is a piece of one function of the block: the forward scan's state after each time step
  (`fwdBlk`), the backward scan's gradient at each time step (`bwdBlk`) and that gradient times the saved state before
  the step (`daBlk`).
-/
module

public import proofs.«01_k».proof.Proof.Blocks
public import Idealize.ShloMosaic.Lib.WholeRead

@[expose] public section

set_option maxRecDepth 16384

noncomputable section

namespace Cert.KernelIdeal.Scan

open Idealize.ShloMosaic Idealize.SL.Sem Cert.KernelIdeal

/-- A block of 2048 time steps by 256 lanes. -/
abbrev Blk := S2048x256.Idx → EReal

/-- Every element is a real number. -/
def AllReal {s : Shape} (x : s.Idx → EReal) : Prop := ∀ y, x y = (((x y).toReal : ℝ) : EReal)

/-- A lane of a block as a sequence in time, 0 past its end. -/
def col (x : Blk) (j : Fin 256) (t : ℕ) : ℝ := if h : t < 2048 then (x (ix2 ⟨t, h⟩ j)).toReal else 0

/-- The states of the forward scan of a block. -/
def fwdBlk (a b : Blk) : Blk := fun y => ((hseq (col a (y 1)) (col b (y 1)) ((y 0 : Fin 2048).val + 1) : ℝ) : EReal)

theorem col_eq (x : Blk) (hx : AllReal x) (j : Fin 256) (t : ℕ) (h : t < 2048) : x (ix2 ⟨t, h⟩ j) = ((col x j t : ℝ) : EReal) := by
  unfold col; rw [dif_pos h]; exact hx _

/-- Eight rows of a block, read through a whole buffer. -/
theorem read_rows (m : Memref sig .tc .vmem S2048x256 .f32) (hm : m.IsWhole) (x : Vec Ideal S2048x256 .f32)
    (off : Fin 2 → ℕ) (inb : ∀ a, off a + S8x256.size a ≤ S2048x256.size a) (n : ℕ) (hn : n + 8 ≤ 2048) (ho : off = ![n, 0])
    (r : Fin 8) (j : Fin 256) :
    View.readAt (Elt Ideal) m.view (Rect.unit (s := S2048x256) off S8x256.size inb).toLoadRect (hm.unread x) (ix2 r j)
      = x (ix2 ⟨n + r.val, by omega⟩ j) := by
  subst ho
  rw [View.readAt_eq_ld, Memref.IsWhole.read_unread]
  pointwise

theorem read_col (m : Memref sig .tc .vmem S2048x256 .f32) (hm : m.IsWhole) (x : Vec Ideal S2048x256 .f32) (hx : AllReal x)
    (off : Fin 2 → ℕ) (inb : ∀ a, off a + S8x256.size a ≤ S2048x256.size a) (n : ℕ) (hn : n + 8 ≤ 2048) (ho : off = ![n, 0])
    (r : Fin 8) (j : Fin 256) :
    View.readAt (Elt Ideal) m.view (Rect.unit (s := S2048x256) off S8x256.size inb).toLoadRect (hm.unread x) (ix2 r j)
      = ((col x j (n + r.val) : ℝ) : EReal) :=
  (read_rows m hm x off inb n hn ho r j).trans (col_eq x hx j _ _)

theorem trips0 (k : Fin k0_t1_loop.trips) : k.val < 256 := Nat.lt_of_lt_of_le k.isLt Gen.k0_t1_abs.2.1

section Fwd
variable (c : Dev nD) (i : grid0.Coords) (arg2 : Memref sig .tc .vmem S2048x256 .f32) (harg2 : arg2.IsWhole) (arg3 : Memref sig .tc .vmem S2048x256 .f32) (harg3 : arg3.IsWhole) (arg4 : Memref sig .tc .vmem S2048x256 .f32) (harg4 : arg4.IsWhole)
  (x0 x1 : Vec Ideal S2048x256 .f32) (h0 : AllReal x0) (h1 : AllReal x1)

abbrev st0 (k : ℕ) := Gen.st_k0_t1 (F := Ideal) Variants.none c none i arg2 harg2 arg3 harg3 arg4 harg4 Gen.kernelRun0_A.sl.v0 (harg2.unread x0) (harg3.unread x1) Gen.k0_pay1 k

/-- The eight rows of `a` and of `b` trip `k` reads. -/
abbrev rowsA (k : Fin k0_t1_loop.trips) : FVec Ideal S8x256 .f32 :=
  View.readAt (Elt Ideal) arg2.view (Rect.unit (s := S2048x256) (k0_off1 k) S8x256.size (Gen.k0_off1_inb k)).toLoadRect (harg2.unread x0)
abbrev rowsB (k : Fin k0_t1_loop.trips) : FVec Ideal S8x256 .f32 :=
  View.readAt (Elt Ideal) arg3.view (Rect.unit (s := S2048x256) (k0_off1 k) S8x256.size (Gen.k0_off1_inb k)).toLoadRect (harg3.unread x1)

/-- What one trip of the forward loop hands on. -/
theorem trip0_R (k : Fin k0_t1_loop.trips) (h : FVec Ideal S8x256 .f32) :
    Gen.tripR_k0_t1 (F := Ideal) Variants.none c none i arg2 harg2 arg3 harg3 arg4 harg4 Gen.kernelRun0_A.sl.v0 (harg2.unread x0) (harg3.unread x1) k h
      = Gen.k0_pay3 h (Gen.k0_pay5 rows (rowsA arg2 harg2 x0 k) (rowsB arg3 harg3 x1 k)) (Gen.k0_pay6 rows (rowsA arg2 harg2 x0 k)) (Gen.k0_pay7 rows (rowsA arg2 harg2 x0 k)) (Gen.k0_pay8 rows) 4#32 := by
  unfold Gen.tripR_k0_t1 Gen.trip_k0_t1; rfl

/-- What one trip of the forward loop stores. -/
theorem trip0_L (k : Fin k0_t1_loop.trips) (h : FVec Ideal S8x256 .f32) :
    Gen.tripL_k0_t1 (F := Ideal) Variants.none c none i arg2 harg2 arg3 harg3 arg4 harg4 Gen.kernelRun0_A.sl.v0 (harg2.unread x0) (harg3.unread x1) k h
      = [⟨Rect.unit (s := S2048x256) (k0_off1 k) S8x256.size (Gen.k0_off1_inb k), Gen.k0_pay2 h (Gen.k0_pay5 rows (rowsA arg2 harg2 x0 k) (rowsB arg3 harg3 x1 k)) (Gen.k0_pay6 rows (rowsA arg2 harg2 x0 k)) (Gen.k0_pay7 rows (rowsA arg2 harg2 x0 k)) (Gen.k0_pay8 rows) 4#32⟩] := by
  unfold Gen.tripL_k0_t1 Gen.trip_k0_t1; rfl

/-- The rectangle of eight rows, at an index. -/
theorem emb_rows (off : Fin 2 → ℕ) (inb : ∀ a, off a + S8x256.size a ≤ S2048x256.size a) (n : ℕ) (hn : n + 8 ≤ 2048) (ho : off = ![n, 0])
    (r : Fin 8) (j : Fin 256) :
    (Rect.unit (s := S2048x256) off S8x256.size inb).emb (ix2 r j) = ix2 ⟨n + r.val, by omega⟩ j := by
  subst ho
  rw [eq_ix2 ((Rect.unit (s := S2048x256) ![n, 0] S8x256.size inb).emb (ix2 r j))]
  refine congrArg₂ ix2 (Fin.ext ?_) (Fin.ext ?_)
  · show n + 1 * r.val = n + r.val
    omega
  · show 0 + 1 * j.val = j.val
    omega

include h0 h1 in
/-- Before trip `k` the forward loop carries the state before row `8 k`, and what it has stored are pieces of `fwdBlk`. -/
theorem fwd_state (k : ℕ) (hk : k ≤ k0_t1_loop.trips) :
    (∀ (r : Fin 8) (j : Fin 256), (st0 c i arg2 harg2 arg3 harg3 arg4 harg4 x0 x1 k).1 (ix2 r j) = ((hseq (col x0 j) (col x1 j) (8 * k) : ℝ) : EReal))
    ∧ ∀ p ∈ (st0 c i arg2 harg2 arg3 harg3 arg4 harg4 x0 x1 k).2, ∀ x : p.1.shape.Idx, p.2 x = fwdBlk x0 x1 (p.1.emb x) := by
  induction k with
  | zero =>
    refine ⟨fun r j => ?_, fun p hp => absurd hp List.not_mem_nil⟩
    show Gen.k0_pay1 (F := Ideal) (ix2 r j) = _
    unfold Gen.k0_pay1
    pointwise
    simp [hseq]
  | succ k ih =>
    have hk' : k < k0_t1_loop.trips := hk
    have hk2 : k < 256 := trips0 ⟨k, hk'⟩
    obtain ⟨ihc, ihp⟩ := ih (Nat.le_of_lt hk')
    unfold st0 at ihc ihp ⊢
    have es := Gen.st_k0_t1_succ (F := Ideal) Variants.none c none i arg2 harg2 arg3 harg3 arg4 harg4 Gen.kernelRun0_A.sl.v0 (harg2.unread x0) (harg3.unread x1) Gen.k0_pay1 ⟨k, hk'⟩
    dsimp only at es
    generalize Gen.st_k0_t1 (F := Ideal) Variants.none c none i arg2 harg2 arg3 harg3 arg4 harg4 Gen.kernelRun0_A.sl.v0 (harg2.unread x0) (harg3.unread x1) Gen.k0_pay1 k = st at es ihc ihp
    have key := fun (r : Fin 8) (j : Fin 256) =>
      fwd_apply r j (rowsA arg2 harg2 x0 ⟨k, hk'⟩) (rowsB arg3 harg3 x1 ⟨k, hk'⟩) st.1 (col x0 j) (col x1 j) (8 * k)
        (fun s => read_col arg2 harg2 x0 h0 _ (Gen.k0_off1_inb ⟨k, hk'⟩) (8 * k) (by omega) (Gen.k0_off1_eq ⟨k, hk'⟩) s j)
        (fun s => read_col arg3 harg3 x1 h1 _ (Gen.k0_off1_inb ⟨k, hk'⟩) (8 * k) (by omega) (Gen.k0_off1_eq ⟨k, hk'⟩) s j) (fun s => ihc s j)
    rw [es, trip0_R, trip0_L]
    dsimp only
    refine ⟨fun r j => ?_, fun p hp x => ?_⟩
    · rw [fwd_carry]
      exact key 7 j
    · rcases List.mem_append.1 hp with hp | hp
      · obtain rfl := List.mem_singleton.1 hp
        obtain ⟨r, j, rfl⟩ : ∃ (r : Fin 8) (j : Fin 256), x = ix2 r j := ⟨x 0, x 1, eq_ix2 x⟩
        refine (key r j).trans ?_
        dsimp only
        rw [emb_rows _ _ (8 * k) (by omega) (Gen.k0_off1_eq ⟨k, hk'⟩)]
        rfl
      · exact ihp p hp x

include h0 h1 in
/-- What the forward kernel leaves in its output block. -/
theorem fwd_out : Gen.out0_A_2 (F := Ideal) c i arg2 harg2 arg3 harg3 arg4 harg4 x0 x1 = fwdBlk x0 x1 := by
  funext y
  unfold Gen.out0_A_2
  rw [View.read_writes_junk_apply_eq_canon]
  refine View.canon_apply_of_pieces (fwdBlk x0 x1) _ ?_ y (Gen.cover0_A_2 c i arg2 harg2 arg3 harg3 arg4 harg4 x0 x1 y)
  have e : (Gen.kernelRun0_A (F := Ideal) c i arg2 harg2 arg3 harg3 arg4 harg4 x0 x1).1
      = (st0 c i arg2 harg2 arg3 harg3 arg4 harg4 x0 x1 k0_t1_loop.trips).2 := by
    unfold Gen.kernelRun0_A; rfl
  rw [e]
  exact (fwd_state c i arg2 harg2 arg3 harg3 arg4 harg4 x0 x1 h0 h1 _ le_rfl).2

end Fwd

/-! ### The backward loop -/

theorem trips1 (k : Fin k1_t1_loop.trips) : k.val < 256 := Nat.lt_of_lt_of_le k.isLt Gen.k1_t1_abs.2.1

/-- The gradients of the backward scan of a lane: `gseq a d n` is the gradient `n` steps before the end. -/
def gseq (a d : ℕ → ℝ) : ℕ → ℝ
  | 0 => 0
  | n + 1 => d (2047 - n) + a (2047 - n + 1) * gseq a d n

/-- The gradient at time step `t`. -/
def gat (a d : ℕ → ℝ) (t : ℕ) : ℝ := gseq a d (2048 - t)

theorem gat_step (a d : ℕ → ℝ) (t : ℕ) (h : t < 2048) : gat a d t = d t + a (t + 1) * gat a d (t + 1) := by
  unfold gat
  have e : 2048 - t = (2048 - (t + 1)) + 1 := by omega
  rw [e]
  show d (2047 - (2048 - (t + 1))) + a (2047 - (2048 - (t + 1)) + 1) * gseq a d (2048 - (t + 1)) = _
  rw [show 2047 - (2048 - (t + 1)) = t by omega]

/-- The gradient with respect to the state after each time step of a block. -/
def bwdBlk (a d : Blk) : Blk := fun y => ((gat (col a (y 1)) (col d (y 1)) (y 0 : Fin 2048).val : ℝ) : EReal)

/-- A lane of saved states, as the states before each time step: 0 before the first. -/
def before (h : Blk) (j : Fin 256) : ℕ → ℝ
  | 0 => 0
  | t + 1 => col h j t

/-- The gradient with respect to `a` of a block. -/
def daBlk (a h d : Blk) : Blk := fun y =>
  ((gat (col a (y 1)) (col d (y 1)) (y 0 : Fin 2048).val * before h (y 1) (y 0 : Fin 2048).val : ℝ) : EReal)

theorem off2_eq : ∀ k : Fin k1_t1_loop.trips, k1_off2 k = ![8 * (254 - k.val), 0] := by decide +kernel

theorem v4_eq : ∀ k : Fin k1_t1_loop.trips, (Gen.trip_k1_t1.sl.v4 k).toInt = 255 - (k.val : ℤ) := by decide +kernel

section Bwd
variable (c : Dev nD) (i : grid1.Coords) (arg2 : Memref sig .tc .vmem S2048x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole)
  (x0 x1 x2 : Vec Ideal S2048x256 .f32) (h0 : AllReal x0) (h1 : AllReal x1) (h2 : AllReal x2)

abbrev st1 (k : ℕ) := Gen.st_k1_t1 (F := Ideal) Variants.none c none i arg2 harg2 arg3 harg3 arg4 harg4 arg5 harg5 arg6 harg6 Gen.kernelRun1_A.sl.v0 (harg2.unread x0) (harg3.unread x1) (harg4.unread x2) (Gen.k1_pay1, Gen.k1_pay1) k

/-- The eight rows a trip of the backward loop reads of an array, and those before them. -/
abbrev rows1 (m : Memref sig .tc .vmem S2048x256 .f32) (hm : m.IsWhole) (x : Vec Ideal S2048x256 .f32) (k : Fin k1_t1_loop.trips) : FVec Ideal S8x256 .f32 :=
  View.readAt (Elt Ideal) m.view (Rect.unit (s := S2048x256) (k1_off1 k) S8x256.size (Gen.k1_off1_inb k)).toLoadRect (hm.unread x)
abbrev rows2 (m : Memref sig .tc .vmem S2048x256 .f32) (hm : m.IsWhole) (x : Vec Ideal S2048x256 .f32) (k : Fin k1_t1_loop.trips) : FVec Ideal S8x256 .f32 :=
  View.readAt (Elt Ideal) m.view (Rect.unit (s := S2048x256) (k1_off2 k) S8x256.size (Gen.k1_off2_inb k)).toLoadRect (hm.unread x)

theorem trip1_R (k : Fin k1_t1_loop.trips) (h : FVec Ideal S8x256 .f32 × FVec Ideal S8x256 .f32) :
    Gen.tripR_k1_t1 (F := Ideal) Variants.none c none i arg2 harg2 arg3 harg3 arg4 harg4 arg5 harg5 arg6 harg6 Gen.kernelRun1_A.sl.v0 (harg2.unread x0) (harg3.unread x1) (harg4.unread x2) k h
      = (Gen.k1_pay10 rows h.1 (Gen.k1_pay6 rows h.2 (rows1 arg2 harg2 x0 k) (rows1 arg4 harg4 x2 k)) (Gen.k1_pay7 rows h.2 (rows1 arg2 harg2 x0 k)),
          Gen.k1_pay2 (Gen.k1_pay11 (rows1 arg2 harg2 x0 k))) := by
  unfold Gen.tripR_k1_t1 Gen.trip_k1_t1; rfl
/-- What one trip of the backward loop stores of the gradient. -/
theorem trip1_L (k : Fin k1_t1_loop.trips) (h : FVec Ideal S8x256 .f32 × FVec Ideal S8x256 .f32) :
    (Gen.trip_k1_t1 (F := Ideal) Variants.none c none i arg2 harg2 arg3 harg3 arg4 harg4 arg5 harg5 arg6 harg6 Gen.kernelRun1_A.sl.v0 (harg2.unread x0) (harg3.unread x1) (harg4.unread x2) k).2.1 h
      = [⟨Rect.unit (s := S2048x256) (k1_off1 k) S8x256.size (Gen.k1_off1_inb k),
            Gen.k1_pay8 rows h.1 (Gen.k1_pay6 rows h.2 (rows1 arg2 harg2 x0 k) (rows1 arg4 harg4 x2 k)) (Gen.k1_pay7 rows h.2 (rows1 arg2 harg2 x0 k))⟩] := by
  unfold Gen.trip_k1_t1; rfl

/-- What it stores of the gradient with respect to `a`. -/
theorem trip1_L' (k : Fin k1_t1_loop.trips) (h : FVec Ideal S8x256 .f32 × FVec Ideal S8x256 .f32) :
    (Gen.trip_k1_t1 (F := Ideal) Variants.none c none i arg2 harg2 arg3 harg3 arg4 harg4 arg5 harg5 arg6 harg6 Gen.kernelRun1_A.sl.v0 (harg2.unread x0) (harg3.unread x1) (harg4.unread x2) k).2.2.1 h
      = [⟨Rect.unit (s := S2048x256) (k1_off1 k) S8x256.size (Gen.k1_off1_inb k),
            Gen.k1_pay9 rows h.1 (Gen.trip_k1_t1.sl.v4 k) (Gen.k1_pay3 (rows1 arg3 harg3 x1 k)) (Gen.k1_pay6 rows h.2 (rows1 arg2 harg2 x0 k) (rows1 arg4 harg4 x2 k))
              (Gen.k1_pay7 rows h.2 (rows1 arg2 harg2 x0 k)) (rows2 arg3 harg3 x1 k)⟩] := by
  unfold Gen.trip_k1_t1; rfl

include h0 h1 h2 in
/-- Before trip `k` the backward loop carries the gradient and the decay at row `2048 - 8 k`, and what it has stored are
    pieces of `bwdBlk` and of `daBlk`. -/
theorem bwd_state (k : ℕ) (hk : k ≤ k1_t1_loop.trips) :
    ((∀ (r : Fin 8) (j : Fin 256), (st1 c i arg2 harg2 arg3 harg3 arg4 harg4 arg5 harg5 arg6 harg6 x0 x1 x2 k).1.1 (ix2 r j) = ((gat (col x0 j) (col x2 j) (2048 - 8 * k) : ℝ) : EReal))
    ∧ (∀ (r : Fin 8) (j : Fin 256), (st1 c i arg2 harg2 arg3 harg3 arg4 harg4 arg5 harg5 arg6 harg6 x0 x1 x2 k).1.2 (ix2 r j) = ((col x0 j (2048 - 8 * k) : ℝ) : EReal)))
    ∧ (∀ p ∈ (st1 c i arg2 harg2 arg3 harg3 arg4 harg4 arg5 harg5 arg6 harg6 x0 x1 x2 k).2.1, ∀ x : p.1.shape.Idx, p.2 x = bwdBlk x0 x2 (p.1.emb x))
    ∧ ∀ p ∈ (st1 c i arg2 harg2 arg3 harg3 arg4 harg4 arg5 harg5 arg6 harg6 x0 x1 x2 k).2.2, ∀ x : p.1.shape.Idx, p.2 x = daBlk x0 x1 x2 (p.1.emb x) := by
  induction k with
  | zero =>
    refine ⟨⟨fun r j => ?_, fun r j => ?_⟩, fun p hp => absurd hp List.not_mem_nil, fun p hp => absurd hp List.not_mem_nil⟩
    · show Gen.k1_pay1 (F := Ideal) (ix2 r j) = _
      unfold Gen.k1_pay1
      pointwise
      simp [gat, gseq]
    · show Gen.k1_pay1 (F := Ideal) (ix2 r j) = _
      unfold Gen.k1_pay1
      pointwise
      simp [col]
  | succ k ih =>
    have hk' : k < k1_t1_loop.trips := hk
    have hk2 : k < 256 := trips1 ⟨k, hk'⟩
    obtain ⟨⟨ihg, iha⟩, ihp, ihq⟩ := ih (Nat.le_of_lt hk')
    unfold st1 at ihg iha ihp ihq ⊢
    have es := Gen.st_k1_t1_succ (F := Ideal) Variants.none c none i arg2 harg2 arg3 harg3 arg4 harg4 arg5 harg5 arg6 harg6 Gen.kernelRun1_A.sl.v0 (harg2.unread x0) (harg3.unread x1) (harg4.unread x2) (Gen.k1_pay1, Gen.k1_pay1) ⟨k, hk'⟩
    dsimp only at es
    generalize Gen.st_k1_t1 (F := Ideal) Variants.none c none i arg2 harg2 arg3 harg3 arg4 harg4 arg5 harg5 arg6 harg6 Gen.kernelRun1_A.sl.v0 (harg2.unread x0) (harg3.unread x1) (harg4.unread x2) (Gen.k1_pay1, Gen.k1_pay1) k = st at es ihg iha ihp ihq
    have eo : k1_off1 ⟨k, hk'⟩ = ![2040 - 8 * k, 0] := Gen.k1_off1_eq ⟨k, hk'⟩
    have en : 2040 - 8 * k + 8 = 2048 - 8 * k := by omega
    have key := fun (r : Fin 8) (j : Fin 256) =>
      bwd_apply r j (rows1 arg2 harg2 x0 ⟨k, hk'⟩) (rows1 arg4 harg4 x2 ⟨k, hk'⟩) st.1.2 st.1.1 (col x0 j) (col x2 j) (gat (col x0 j) (col x2 j)) (2040 - 8 * k)
        (fun s => read_col arg2 harg2 x0 h0 _ (Gen.k1_off1_inb ⟨k, hk'⟩) (2040 - 8 * k) (by omega) eo s j)
        (fun s => read_col arg4 harg4 x2 h2 _ (Gen.k1_off1_inb ⟨k, hk'⟩) (2040 - 8 * k) (by omega) eo s j)
        (fun s => by rw [en]; exact iha s j) (fun s => by rw [en]; exact ihg s j)
        (fun s hs => gat_step _ _ _ (by omega))
    rw [es, trip1_R, trip1_L, trip1_L']
    dsimp only
    refine ⟨⟨fun r j => ?_, fun r j => ?_⟩, fun p hp x => ?_, fun p hp x => ?_⟩
    · rw [bwd_carry]
      exact (key 0 j).trans (by rw [show 2048 - 8 * (k + 1) = 2040 - 8 * k by omega]; rfl)
    · rw [bwd_carry_a, show 2048 - 8 * (k + 1) = 2040 - 8 * k by omega]
      exact read_col arg2 harg2 x0 h0 _ (Gen.k1_off1_inb ⟨k, hk'⟩) (2040 - 8 * k) (by omega) eo 0 j
    · rcases List.mem_append.1 hp with hp | hp
      · obtain rfl := List.mem_singleton.1 hp
        obtain ⟨r, j, rfl⟩ : ∃ (r : Fin 8) (j : Fin 256), x = ix2 r j := ⟨x 0, x 1, eq_ix2 x⟩
        refine (key r j).trans ?_
        dsimp only
        rw [emb_rows _ _ (2040 - 8 * k) (by omega) eo]
        rfl
      · exact ihp p hp x
    · rcases List.mem_append.1 hp with hp | hp
      · obtain rfl := List.mem_singleton.1 hp
        obtain ⟨r, j, rfl⟩ : ∃ (r : Fin 8) (j : Fin 256), x = ix2 r j := ⟨x 0, x 1, eq_ix2 x⟩
        refine (bwd_da_apply r j _ _ _ _ _ _).trans ?_
        rw [key r j]
        dsimp only
        rw [emb_rows _ _ (2040 - 8 * k) (by omega) eo]
        have eb : (if h : 1 ≤ r.val then rows1 arg3 harg3 x1 ⟨k, hk'⟩ (ix2 ⟨r.val - 1, by omega⟩ j)
            else if 0 < (Gen.trip_k1_t1.sl.v4 ⟨k, hk'⟩).toInt then rows2 arg3 harg3 x1 ⟨k, hk'⟩ (ix2 7 j) else 0)
            = ((before x1 j (2040 - 8 * k + r.val) : ℝ) : EReal) := by
          split
          · rename_i hr
            refine (read_col arg3 harg3 x1 h1 _ (Gen.k1_off1_inb ⟨k, hk'⟩) (2040 - 8 * k) (by omega) eo _ j).trans ?_
            rw [show 2040 - 8 * k + r.val = (2040 - 8 * k + (r.val - 1)) + 1 by omega]
            rfl
          · rename_i hr
            rw [v4_eq]
            split
            · rename_i hv
              have hv' : k < 255 := by simp only [] at hv; omega
              refine (read_col arg3 harg3 x1 h1 _ (Gen.k1_off2_inb ⟨k, hk'⟩) (8 * (254 - k)) (by omega) (off2_eq ⟨k, hk'⟩) _ j).trans ?_
              rw [show 2040 - 8 * k + r.val = (8 * (254 - k) + 7) + 1 by omega]
              rfl
            · rename_i hv
              have hv' : k = 255 := by simp only [] at hv; omega
              rw [show 2040 - 8 * k + r.val = 0 by omega]
              rfl
        rw [eb]
        exact (EReal.coe_mul _ _).symm
      · exact ihq p hp x

include h0 h1 h2 in
/-- What the backward kernel leaves in its two output blocks. -/
theorem bwd_out : Gen.out1_A_3 (F := Ideal) c i arg2 harg2 arg3 harg3 arg4 harg4 arg5 harg5 arg6 harg6 x0 x1 x2 = bwdBlk x0 x2 := by
  funext y
  unfold Gen.out1_A_3
  rw [View.read_writes_junk_apply_eq_canon]
  refine View.canon_apply_of_pieces (bwdBlk x0 x2) _ ?_ y (Gen.cover1_A_3 c i arg2 harg2 arg3 harg3 arg4 harg4 arg5 harg5 arg6 harg6 x0 x1 x2 y)
  have e : (Gen.kernelRun1_A (F := Ideal) c i arg2 harg2 arg3 harg3 arg4 harg4 arg5 harg5 arg6 harg6 x0 x1 x2).1
      = (st1 c i arg2 harg2 arg3 harg3 arg4 harg4 arg5 harg5 arg6 harg6 x0 x1 x2 k1_t1_loop.trips).2.1 := by
    unfold Gen.kernelRun1_A; rfl
  rw [e]
  exact (bwd_state c i arg2 harg2 arg3 harg3 arg4 harg4 arg5 harg5 arg6 harg6 x0 x1 x2 h0 h1 h2 _ le_rfl).2.1

include h0 h1 h2 in
theorem bwd_out_da : Gen.out1_A_4 (F := Ideal) c i arg2 harg2 arg3 harg3 arg4 harg4 arg5 harg5 arg6 harg6 x0 x1 x2 = daBlk x0 x1 x2 := by
  funext y
  unfold Gen.out1_A_4
  rw [View.read_writes_junk_apply_eq_canon]
  refine View.canon_apply_of_pieces (daBlk x0 x1 x2) _ ?_ y (Gen.cover1_A_4 c i arg2 harg2 arg3 harg3 arg4 harg4 arg5 harg5 arg6 harg6 x0 x1 x2 y)
  have e : (Gen.kernelRun1_A (F := Ideal) c i arg2 harg2 arg3 harg3 arg4 harg4 arg5 harg5 arg6 harg6 x0 x1 x2).2.1
      = (st1 c i arg2 harg2 arg3 harg3 arg4 harg4 arg5 harg5 arg6 harg6 x0 x1 x2 k1_t1_loop.trips).2.2 := by
    unfold Gen.kernelRun1_A; rfl
  rw [e]
  exact (bwd_state c i arg2 harg2 arg3 harg3 arg4 harg4 arg5 harg5 arg6 harg6 x0 x1 x2 h0 h1 h2 _ le_rfl).2.2

end Bwd
end Cert.KernelIdeal.Scan
-- ==== Proof.Pre.lean ====
/-
  The precondition: it says of the three argument arrays that every entry is a number.
-/
module

public import proofs.«01_k».proof.Defs
public import proofs.«01_k».proof.Proof.Trips
public import Idealize.ShloMosaic.Lib.Pointwise

@[expose] public section

set_option maxRecDepth 16384

noncomputable section

namespace Cert.Pre_finite.Scan

open Idealize.ShloMosaic Idealize.ShloMosaic.TcCoe Idealize.SL.Sem
open Cert.KernelIdeal.Scan (AllReal)

theorem facts : Cert.Pre_finite.Facts := ⟨by decide⟩

/-- A number between the two infinities is real. -/
theorem real_of_between (x : EReal) (h : ⊥ < x ∧ x < ⊤) : x = (x.toReal : EReal) :=
  (EReal.coe_toReal h.2.ne h.1.ne').symm

attribute [local instance] facts

theorem bit_and (p q : Prop) [Decidable p] [Decidable q] (h : BitVec.ofBool (decide p) &&& BitVec.ofBool (decide q) = 1#1) : p ∧ q := by
  by_cases hp : p <;> by_cases hq : q <;> simp [hp, hq] at h ⊢

theorem allReal (x : FVec Ideal S8192x1024 .f32)
    (h : andi (cmpf .ogt x (broadcastInDim S8192x1024 ![] facts.bcast_S_S8192x1024 (constant S_ .f32 0xFF800000#32)))
      (cmpf .olt x (broadcastInDim S8192x1024 ![] facts.bcast_S_S8192x1024 (constant S_ .f32 0x7F800000#32))) = fun _ => 1#1) :
    AllReal x := fun y => by
  have hy := congrFun h y
  pointwise at hy
  have hb := bit_and _ _ hy
  have lo : Ideal.ofBits .f32 4286578688#32 = ⊥ := by simp [Ideal.ofBits, Ideal.ieee]
  have hi : Ideal.ofBits .f32 2139095040#32 = ⊤ := by simp [Ideal.ofBits, Ideal.ieee]
  rw [lo, hi] at hb
  exact real_of_between _ hb

theorem args (m : (ℓ : Loc Cert.KernelIdeal.nD Cert.KernelIdeal.τ Cert.KernelIdeal.sig) → Buf (Elt Ideal) ℓ)
    (h : Cert.Pre_KernelIdeal_finite m) (c : Dev Cert.KernelIdeal.nD) :
    AllReal (m ((c : Thread Cert.KernelIdeal.nD Cert.KernelIdeal.τ).loc Cert.KernelIdeal.main_arg0))
    ∧ AllReal (m ((c : Thread Cert.KernelIdeal.nD Cert.KernelIdeal.τ).loc Cert.KernelIdeal.main_arg1))
    ∧ AllReal (m ((c : Thread Cert.KernelIdeal.nD Cert.KernelIdeal.τ).loc Cert.KernelIdeal.main_arg2)) :=
  ⟨allReal _ (h c).1, allReal _ (h c).2.1, allReal _ (h c).2.2⟩

end Cert.Pre_finite.Scan
-- ==== Proof.FfnActBwdRef.lean ====
/-
  The reference of the gate's gradient, column by column, and that it leaves what the kernel leaves.
-/
module

public import proofs.«01_k».proof.Defs
public import proofs.«01_k».proof.Proof.FfnActBwdValue
public import proofs.«01_k».proof.Proof.Gen.FfnActBwdRefIdeal.Run
public import proofs.«01_k».proof.Proof.Pre

@[expose] public section

set_option maxRecDepth 16384

noncomputable section

namespace Cert.Gate
open Idealize.ShloMosaic

/-- A sum over the first two of three axes. -/
theorem sum_lead {A B n : ℕ} (h : (⟨3, ![A, B, n]⟩ : Shape).ReducesTo [0, 1] ⟨1, ![n]⟩) (v : (⟨3, ![A, B, n]⟩ : Shape).Idx → EReal) (init : EReal) (j : Fin n) :
    Ideal.hostReduceAdd h v init (ix1 j) = init + ∑ q : Fin A, ∑ p : Fin B, v (ix3 q p j) := by
  refine congrArg (init + ·) ?_
  rw [← Fintype.sum_prod_type (f := fun k : Fin A × Fin B => v (ix3 k.1 k.2 j))]
  refine Finset.sum_filter_eq_sum_of_fiber _ (fun k : Fin A × Fin B => ix3 k.1 k.2 j) (fun k k' e => Prod.ext (congrFun e 0) (congrFun e 1)) (fun i => ?_) v
  constructor
  · intro e
    refine ⟨(i 0, i 1), ?_⟩
    funext a; apply Fin.ext
    match a with
    | ⟨0, _⟩ => rfl
    | ⟨1, _⟩ => rfl
    | ⟨2, _⟩ => exact (congrArg Fin.val (congrFun e 0)).symm
  · rintro ⟨k, rfl⟩
    funext b
    apply Fin.ext
    match b with
    | ⟨0, _⟩ => rfl

/-- Three rows added up, each with zeros in the others' places. -/
theorem one_of (a : ℕ) (ha : a < 3) (f : ℕ → EReal) :
    (if a = 2 then f 0 else 0) + (if a = 1 then f 1 else 0) + (if a = 0 then f 2 else 0) = f (2 - a) := by
  match a, ha with
  | 0, _ => simp
  | 1, _ => simp
  | 2, _ => simp

/-- The sequences one after the other. -/
theorem sum_rows (f : ℕ → EReal) : ∑ q : Fin 4, ∑ p : Fin 2048, f (q.val * 2048 + p.val) = ∑ r : Fin 8192, f r.val :=
  (Cert.Tiles.sum_blocks 4 2048 fun r : Fin 8192 => f r.val).symm

section Pad
variable {s t e : Shape} {α : Type} (lo hi z : Fin s.rank → ℕ) (hz : ∀ a, z a = 0) (x : s.Idx → α) (v : e.Idx → α) (h : s.Pads lo hi z t) (hu : 0 < e.numel) (j : t.Idx)

include hz

/-- Padding read at a place of the operand. -/
theorem pad_in (k : s.Idx) (hk : ∀ a : Fin s.rank, (j (a.cast h.1)).val = lo a + (k a).val) :
    pad t lo hi z x v h hu j = x k := by
  have e1 : ∀ a, ((j (a.cast h.1)).val - lo a) / (z a + 1) = (k a).val := fun a => by rw [hk a, hz a]; simp
  unfold pad
  rw [dif_pos fun a => ⟨by rw [hk a]; exact Nat.le_add_right _ _, by rw [hz a]; exact Nat.mod_one _, by rw [e1 a]; exact (k a).isLt⟩]
  exact congrArg x (funext fun a => Fin.ext (e1 a))

/-- Padding read beside the operand. -/
theorem pad_out (a : Fin s.rank) (ha : (j (a.cast h.1)).val < lo a ∨ lo a + s.size a ≤ (j (a.cast h.1)).val) :
    pad t lo hi z x v h hu j = v (Shape.Idx.first hu) := by
  unfold pad
  rw [dif_neg fun hin => ?_]
  have h1 := (hin a).1
  have h2 := (hin a).2.2
  rw [hz a, Nat.zero_add, Nat.div_one] at h2
  omega

end Pad

end Cert.Gate

namespace Cert.FfnActBwdRefIdeal.Value
open Cert.FfnActBwdRefIdeal Cert.FfnActBwdRefIdeal.Gen Idealize.ShloMosaic Idealize.ShloMosaic.TcCoe Idealize.SL.Sem Cert.Gate

variable (V0 : Valuation τ sig (Elt Ideal))

/-- The arrays the reference is given. -/
abbrev u : S8192x6144.Idx → EReal := V0 (Proc.devRef .tc main_arg0)

@[inherit_doc u]
abbrev d : S8192x3072.Idx → EReal := V0 (Proc.devRef .tc main_arg1)

@[inherit_doc u]
abbrev w : S3x3072.Idx → EReal := V0 (Proc.devRef .tc main_arg2)

@[inherit_doc u]
abbrev bias : S3072.Idx → EReal := V0 (Proc.devRef .tc main_arg3)

variable (q : Fin 4) (p : Fin 2048) (j : Fin 3072)

/-- The convolved half, two steps, one step and no step earlier. -/
theorem back_two : res_main_v5 V0 (ix3 q p j) = back (first (u V0) j) 2 (q.val * 2048 + p.val) := by
  unfold res_main_v5 res_main_v3 res_main_v0
  pointwise
  exact tap (u V0) ⟨j.val, by omega⟩ q p p.val 2 rfl (by omega)

@[inherit_doc back_two]
theorem back_one : res_main_v14 V0 (ix3 q p j) = back (first (u V0) j) 1 (q.val * 2048 + p.val) := by
  unfold res_main_v14 res_main_v3 res_main_v0
  pointwise
  exact tap (u V0) ⟨j.val, by omega⟩ q p (1 + p.val) 1 (by omega) (by omega)

@[inherit_doc back_two]
theorem back_none : res_main_v21 V0 (ix3 q p j) = back (first (u V0) j) 0 (q.val * 2048 + p.val) := by
  unfold res_main_v21 res_main_v3 res_main_v0
  pointwise
  exact (col_eq (u V0) ⟨j.val, by omega⟩ _ (by omega)).symm.trans (back_zero _ _).symm

/-- The convolution's weight, one tap at a time. -/
theorem weight_zero : res_main_v8 V0 (ix3 0 0 j) = w V0 (ix2 0 j) := by
  unfold res_main_v8
  pointwise

@[inherit_doc weight_zero]
theorem weight_one : res_main_v17 V0 (ix3 0 0 j) = w V0 (ix2 1 j) := by
  unfold res_main_v17
  pointwise

@[inherit_doc weight_zero]
theorem weight_two : res_main_v24 V0 (ix3 0 0 j) = w V0 (ix2 2 j) := by
  unfold res_main_v24
  pointwise

/-- The convolution. -/
theorem conv_eq : res_main_v27 V0 (ix3 q p j) = convAt (u V0) (w V0) (bias V0) j (q.val * 2048 + p.val) := by
  unfold res_main_v27 convAt
  pointwise
  rw [back_two, back_one, back_none, weight_zero, weight_one, weight_two]
  exact conv_ref _ _ _ _ _ _

/-- Its tanh. -/
theorem tanh_eq : res_main_v38 V0 (ix3 q p j) = th (convAt (u V0) (w V0) (bias V0) j (q.val * 2048 + p.val)) := by
  unfold res_main_v38
  pointwise
  rw [conv_eq]
  unfold th
  rw [← mul_assoc (Ideal.ofBits FTy.f32 1027024659#32), ← mul_assoc (Ideal.ofBits FTy.f32 1027024659#32)]

theorem second_eq : res_main_v49 V0 (ix3 q p j) = second (u V0) j (q.val * 2048 + p.val) := by
  unfold res_main_v49 res_main_v0
  pointwise
  exact (col_eq (u V0) ⟨3072 + j.val, by omega⟩ _ (by omega)).symm

theorem cot_eq : res_main_v52 V0 (ix3 q p j) = col (d V0) j (q.val * 2048 + p.val) := by
  unfold res_main_v52
  pointwise
  exact (col_eq (d V0) j _ (by omega)).symm

/-- The product with the cotangent. -/
theorem dsecond_eq : (mulf (res_main_v48 V0) (res_main_v52 V0) : FVec Ideal S4x2048x3072 .f32) (ix3 q p j)
    = dSecond (u V0) (d V0) (w V0) (bias V0) j (q.val * 2048 + p.val) := by
  unfold res_main_v48 res_main_v47 dSecond
  pointwise
  rw [cot_eq, tanh_eq, conv_eq]
  unfold gelu
  rw [mul_comm, mul_left_comm (convAt _ _ _ _ _), ← mul_assoc (Ideal.ofBits _ _)]

variable (hu : ∀ i, IsReal (u V0 i)) (hd : ∀ i, IsReal (d V0 i)) (hw : ∀ i, IsReal (w V0 i)) (hb : ∀ i, IsReal (bias V0 i))

include hu hd hw hb in
/-- The convolution's cotangent. -/
theorem grad_eq : res_main_v67 V0 (ix3 q p j) = gradAt (u V0) (d V0) (w V0) (bias V0) j (q.val * 2048 + p.val) := by
  unfold res_main_v67 res_main_v62 res_main_v54 res_main_v47
  pointwise
  rw [conv_eq, cot_eq, tanh_eq, second_eq]
  exact dgelu_ref (IsReal.conv (IsReal.col hu _) (hw _) (hw _) (hw _) (hb _) _) ((IsReal.col hd _ _).mul (IsReal.col hu _ _)) _ rfl _ rfl

include hu hd hw hb in
/-- One tap of its convolution the other way, before the first two rows are dropped. -/
theorem shifted (lo hi s : ℕ) (hs : lo + s = 2) (hp : S4x2048x3072.Pads ![0, lo, 0] ![0, hi, 0] ![0, 0, 0] S4x2050x3072) (y : FVec Ideal S1x1x3072 .f32) :
    pad S4x2050x3072 ![0, lo, 0] ![0, hi, 0] ![0, 0, 0] (mulf (res_main_v67 V0) (broadcastInDim S4x2048x3072 ![0, 1, 2] bcast_S1x1x3072_S4x2048x3072_0_1_2 y))
        (constant S_ .f32 0x00000000#32) hp h_S_ (ix3 q (⟨2 + p.val, by omega⟩ : Fin 2050) j)
      = ahead (gradAt (u V0) (d V0) (w V0) (bias V0) j) s (q.val * 2048 + p.val) * y (ix3 0 0 j) := by
  have e : (q.val * 2048 + p.val) % 2048 = p.val := by omega
  unfold ahead
  rw [e]
  by_cases h : p.val + s < 2048
  · rw [if_pos h]
    refine (pad_in _ _ _ (by decide) _ _ _ _ _ (ix3 q (⟨p.val + s, h⟩ : Fin 2048) j) fun a => ?_).trans ?_
    · match a with
      | ⟨0, _⟩ => exact (Nat.zero_add _).symm
      | ⟨1, _⟩ => show 2 + p.val = lo + (p.val + s); omega
      | ⟨2, _⟩ => exact (Nat.zero_add _).symm
    · pointwise
      rw [grad_eq V0 q ⟨p.val + s, h⟩ j hu hd hw hb]
      exact congrArg (fun r => gradAt _ _ _ _ j r * _) (Nat.add_assoc _ _ _).symm
  · rw [if_neg h]
    refine (pad_out _ _ _ (by decide) _ _ _ _ _ (1 : Fin 3) (Or.inr ?_)).trans ?_
    · show lo + 2048 ≤ 2 + p.val
      omega
    · pointwise
      exact (zero_mul _).symm

include hu hd hw hb in
/-- The gradient in the half that is convolved. -/
theorem dfirst_eq : (res_main_v101 V0 : S4x2050x3072.Idx → EReal) (ix3 q (⟨2 + p.val, by omega⟩ : Fin 2050) j)
    = dFirst (u V0) (d V0) (w V0) (bias V0) j (q.val * 2048 + p.val) := by
  have h := fun lo hi s hs hp y => shifted V0 q p j hu hd hw hb lo hi s hs hp y
  unfold res_main_v101
  refine (congrArg₂ (fun x y : EReal => x + y) (congrArg₂ (fun x y : EReal => x + y) (h 2 0 0 rfl _ _) (h 1 1 1 rfl _ _)) (h 0 2 2 rfl _ _)).trans ?_
  rw [weight_zero, weight_one, weight_two, add_right_comm]
  unfold dFirst
  rw [show ahead (gradAt (u V0) (d V0) (w V0) (bias V0) j) 0 (q.val * 2048 + p.val) = gradAt (u V0) (d V0) (w V0) (bias V0) j (q.val * 2048 + p.val) from
    if_pos (by omega)]

/-- The sum over all rows. -/
def total (x : FVec Ideal S4x2048x3072 .f32) : FVec Ideal S3072 .f32 :=
  Host.reduceAdd (shapeCast _ (Host.reduceAdd x (constant S_ .f32 0x00000000#32) reducesTo_S4x2048x3072_S3072_d0_1 h_S_) shapeCasts_S3072_S1x1x3072) (constant S_ .f32 0x00000000#32) reducesTo_S1x1x3072_S3072_d0_1 h_S_

theorem total_apply (x : FVec Ideal S4x2048x3072 .f32) (f : ℕ → EReal) (hx : ∀ (q : Fin 4) (p : Fin 2048), x (ix3 q p j) = f (q.val * 2048 + p.val)) :
    total x (ix1 j) = ∑ r : Fin 8192, f r.val := by
  unfold total
  pointwise
  refine (sum_lead _ _ _ _).trans ?_
  rw [zero_add, Fin.sum_univ_one, Fin.sum_univ_one]
  pointwise
  refine (sum_lead _ _ _ _).trans ?_
  rw [zero_add, ← sum_rows]
  exact Finset.sum_congr rfl fun q _ => Finset.sum_congr rfl fun p _ => hx q p

/-- The sequences' rows one below the other. -/
theorem flat (x : FVec Ideal S4x2048x6144 .f32) (r : Fin 8192) (k : Fin 6144) :
    (truncf .bf16 (shapeCast _ x shapeCasts_S4x2048x6144_S8192x6144) bitsLt_bf16_f32 : FVec Ideal S8192x6144 .bf16) (ix2 r k)
      = x (ix3 ⟨r.val / 2048, by omega⟩ ⟨r.val % 2048, by omega⟩ k) := by
  pointwise

/-- Three rows above five rows of zeros. -/
theorem above (x : FVec Ideal S3x3072 .f32) (a : Fin 8) :
    concatenate S8x3072 0 [⟨S3x3072, x⟩, ⟨S5x3072, (broadcastInDim S5x3072 ![] bcast_S_S5x3072 (constant S_ .f32 0x00000000#32))⟩] concatenates_S3x3072_S5x3072_S8x3072_d0 (ix2 a j)
      = if h : a.val < 3 then x (ix2 ⟨a.val, h⟩ j) else 0 := by
  pointwise

/-- One row among three. -/
theorem onRow (lo hi : ℕ) (hp : S1x3072.Pads ![lo, 0] ![hi, 0] ![0, 0] S3x3072) (y : FVec Ideal S3072 .f32) (a : Fin 3) :
    pad S3x3072 ![lo, 0] ![hi, 0] ![0, 0] (broadcastInDim S1x3072 ![1] bcast_S3072_S1x3072_1 y) (constant S_ .f32 0x00000000#32) hp h_S_ (ix2 a j)
      = if a.val = lo then y (ix1 j) else 0 := by
  by_cases h : a.val = lo
  · rw [if_pos h]
    refine (pad_in _ _ _ (by decide) _ _ _ _ _ (ix2 (0 : Fin 1) j) fun b => ?_).trans ?_
    · match b with
      | ⟨0, _⟩ => exact h
      | ⟨1, _⟩ => exact (Nat.zero_add _).symm
    · pointwise
  · rw [if_neg h]
    refine (pad_out _ _ _ (by decide) _ _ _ _ _ (0 : Fin 2) ?_).trans ?_
    · show a.val < lo ∨ lo + 1 ≤ a.val
      omega
    · pointwise

include hu hd hw hb in
/-- The reference's gradient in the activation. -/
theorem resU : truncf .bf16 (shapeCast _ (addf (pad S4x2048x6144 ![0, 0, 3072] ![0, 0, 0] ![0, 0, 0] (mulf (res_main_v48 V0) (res_main_v52 V0)) (constant S_ .f32 0x00000000#32) pads_S4x2048x3072_S4x2048x6144_000_000_307200 h_S_) (pad S4x2048x6144 ![0, 0, 0] ![0, 0, 3072] ![0, 0, 0] (extractStridedSlice S4x2048x3072 ![0, 2, 0] (res_main_v101 V0) slices_S4x2050x3072_S4x2048x3072_0_2_0) (constant S_ .f32 0x00000000#32) pads_S4x2048x3072_S4x2048x6144_000_000_030720 h_S_)) shapeCasts_S4x2048x6144_S8192x6144) bitsLt_bf16_f32
    = dU (u V0) (d V0) (w V0) (bias V0) := by
  have h0 := pads_S4x2048x3072_S4x2048x6144_000_000_307200
  have h1 := pads_S4x2048x3072_S4x2048x6144_000_000_030720
  funext i
  obtain ⟨r, k, rfl⟩ : ∃ (r : Fin 8192) (k : Fin 6144), i = ix2 r k := ⟨i 0, i 1, eq_ix2 i⟩
  refine (flat _ r k).trans ?_
  have e : r.val / 2048 * 2048 + r.val % 2048 = r.val := by omega
  by_cases hk : k.val < 3072
  · refine Eq.trans (congrArg₂ (fun x y : EReal => x + y) (pad_out _ _ _ (by decide) _ _ h0 _ _ (2 : Fin 3) (Or.inl hk))
      (pad_in _ _ _ (by decide) _ _ h1 _ _ (ix3 (⟨r.val / 2048, by omega⟩ : Fin 4) (⟨r.val % 2048, by omega⟩ : Fin 2048) (⟨k.val, hk⟩ : Fin 3072)) fun a => ?_)) ?_
    · match a with
      | ⟨0, _⟩ => exact (Nat.zero_add _).symm
      | ⟨1, _⟩ => exact (Nat.zero_add _).symm
      | ⟨2, _⟩ => exact (Nat.zero_add _).symm
    · refine Eq.trans ?_ (dif_pos hk).symm
      pointwise
      refine (dfirst_eq V0 ⟨r.val / 2048, by omega⟩ ⟨r.val % 2048, by omega⟩ ⟨k.val, hk⟩ hu hd hw hb).trans ?_
      exact congrArg (dFirst _ _ _ _ _) e
  · have hl : k.val - 3072 < 3072 := by omega
    refine Eq.trans (congrArg₂ (fun x y : EReal => x + y) (pad_in _ _ _ (by decide) _ _ h0 _ _ (ix3 (⟨r.val / 2048, by omega⟩ : Fin 4) (⟨r.val % 2048, by omega⟩ : Fin 2048) (⟨k.val - 3072, hl⟩ : Fin 3072)) fun a => ?_)
      (pad_out _ _ _ (by decide) _ _ h1 _ _ (2 : Fin 3) (Or.inr ?_))) ?_
    · match a with
      | ⟨0, _⟩ => exact (Nat.zero_add _).symm
      | ⟨1, _⟩ => exact (Nat.zero_add _).symm
      | ⟨2, _⟩ => show k.val = 3072 + (k.val - 3072); omega
    · show 0 + 3072 ≤ k.val
      omega
    · refine Eq.trans ?_ (dif_neg hk).symm
      rw [dsecond_eq]
      pointwise
      exact congrArg (dSecond _ _ _ _ _) e

include hu hd hw hb in
/-- The reference's gradient in the weight. -/
theorem resW : concatenate S8x3072 0 [⟨S3x3072, (addf (addf (pad S3x3072 ![2, 0] ![0, 0] ![0, 0] (broadcastInDim S1x3072 ![1] bcast_S3072_S1x3072_1 (total (mulf (res_main_v21 V0) (res_main_v67 V0)))) (constant S_ .f32 0x00000000#32) pads_S1x3072_S3x3072_200_000 h_S_) (pad S3x3072 ![1, 0] ![1, 0] ![0, 0] (broadcastInDim S1x3072 ![1] bcast_S3072_S1x3072_1 (total (mulf (res_main_v14 V0) (res_main_v67 V0)))) (constant S_ .f32 0x00000000#32) pads_S1x3072_S3x3072_110_000 h_S_)) (pad S3x3072 ![0, 0] ![2, 0] ![0, 0] (broadcastInDim S1x3072 ![1] bcast_S3072_S1x3072_1 (total (mulf (res_main_v5 V0) (res_main_v67 V0)))) (constant S_ .f32 0x00000000#32) pads_S1x3072_S3x3072_020_000 h_S_))⟩, ⟨S5x3072, (broadcastInDim S5x3072 ![] bcast_S_S5x3072 (constant S_ .f32 0x00000000#32))⟩] concatenates_S3x3072_S5x3072_S8x3072_d0
    = dW (u V0) (d V0) (w V0) (bias V0) := by
  funext i
  obtain ⟨a, j, rfl⟩ : ∃ (a : Fin 8) (j : Fin 3072), i = ix2 a j := ⟨i 0, i 1, eq_ix2 i⟩
  have sum := fun (x : FVec Ideal S4x2048x3072 .f32) (s : ℕ) (hx : ∀ (q : Fin 4) (p : Fin 2048), x (ix3 q p j) = back (first (u V0) j) s (q.val * 2048 + p.val)) =>
    total_apply j (mulf x (res_main_v67 V0)) (fun r => gradAt (u V0) (d V0) (w V0) (bias V0) j r * back (first (u V0) j) s r) fun q p =>
      (congrArg₂ (fun x y : EReal => x * y) (hx q p) (grad_eq V0 q p j hu hd hw hb)).trans (mul_comm _ _)
  refine (above j _ a).trans ?_
  show _ = if a.val < 3 then _ else _
  by_cases ha : a.val < 3
  · rw [dif_pos ha, if_pos ha]
    refine (congrArg₂ (fun x y : EReal => x + y) (congrArg₂ (fun x y : EReal => x + y) (onRow j 2 0 _ _ ⟨a.val, ha⟩) (onRow j 1 1 _ _ ⟨a.val, ha⟩)) (onRow j 0 2 _ _ ⟨a.val, ha⟩)).trans ?_
    rw [sum _ 0 (fun q p => back_none V0 q p j), sum _ 1 (fun q p => back_one V0 q p j), sum _ 2 (fun q p => back_two V0 q p j)]
    exact one_of a.val ha fun s => ∑ r : Fin 8192, gradAt (u V0) (d V0) (w V0) (bias V0) j r.val * back (first (u V0) j) s r.val
  · rw [dif_neg ha, if_neg ha]

include hu hd hw hb in
/-- The reference's gradient in the bias. -/
theorem resB : shapeCast _ (total (res_main_v67 V0)) shapeCasts_S3072_S1x3072 = dB (u V0) (d V0) (w V0) (bias V0) := by
  have h : ∀ (x : FVec Ideal S3072 .f32) (z : Fin 1) (j : Fin 3072), shapeCast S1x3072 x shapeCasts_S3072_S1x3072 (ix2 z j) = x (ix1 j) := by
    intro x z j
    pointwise
  funext i
  obtain ⟨z, j, rfl⟩ : ∃ (z : Fin 1) (j : Fin 3072), i = ix2 z j := ⟨i 0, i 1, eq_ix2 i⟩
  exact (h _ z j).trans (total_apply j _ _ fun q p => grad_eq V0 q p j hu hd hw hb)

end Cert.FfnActBwdRefIdeal.Value

namespace Cert.Pre_finite_act.Gate
open Idealize.ShloMosaic Idealize.ShloMosaic.TcCoe Idealize.ShloMosaic.StableHlo Idealize.SL.Sem Cert.Gate

theorem facts : Cert.Pre_finite_act.Facts := ⟨by decide, by decide, by decide, by decide⟩

/-- An array that lies between the infinities consists of numbers. -/
theorem numbers {s : Shape} (x : FVec Ideal s .f32) (b : S_.BroadcastsInDim s (![] : Fin 0 → Fin s.rank))
    (h : andi (cmpf .ogt x (broadcastInDim s ![] b (constant S_ .f32 0xFF800000#32))) (cmpf .olt x (broadcastInDim s ![] b (constant S_ .f32 0x7F800000#32))) = fun _ => 1#1) :
    ∀ i, IsReal (x i) := fun i => by
  have hy := congrFun h i
  pointwise at hy
  have hb := Cert.Pre_finite.Scan.bit_and _ _ hy
  have lo : Ideal.ofBits .f32 4286578688#32 = ⊥ := by simp [Ideal.ofBits, Ideal.ieee]
  have hi : Ideal.ofBits .f32 2139095040#32 = ⊤ := by simp [Ideal.ofBits, Ideal.ieee]
  rw [lo, hi] at hb
  exact ⟨_, Cert.Pre_finite.Scan.real_of_between _ hb⟩

attribute [local instance] facts

/-- The precondition says so of the four arrays. -/
theorem args (m : (ℓ : Loc Cert.FfnActBwdIdeal.nD Cert.FfnActBwdIdeal.τ Cert.FfnActBwdIdeal.sig) → Buf (Elt Ideal) ℓ)
    (h : Cert.Pre_FfnActBwdIdeal_finite_act m) (c : Dev Cert.FfnActBwdIdeal.nD) :
    (∀ i, IsReal (Cert.FfnActBwdIdeal.Value.u m c i)) ∧ (∀ i, IsReal (Cert.FfnActBwdIdeal.Value.d m c i))
    ∧ (∀ i, IsReal (Cert.FfnActBwdIdeal.Value.w m c i)) ∧ (∀ i, IsReal (Cert.FfnActBwdIdeal.Value.bias m c i)) :=
  ⟨numbers _ _ (h c).1, numbers _ _ (h c).2.1, numbers _ _ (h c).2.2.1, numbers _ _ (h c).2.2.2⟩

end Cert.Pre_finite_act.Gate

namespace Cert.Proof
open Idealize.ShloMosaic Idealize.ShloMosaic.TcCoe Idealize.ShloMosaic.StableHlo Idealize.SL.Sem Cert.Gate

/-- Kernel and reference leave the same arrays. -/
theorem ffnActBwd : @Cert.algebraic_FfnActBwdIdeal_FfnActBwdRefIdeal_pre_finite_act Cert.FfnActBwdIdeal.Gen.facts Cert.FfnActBwdRefIdeal.Gen.facts
    Cert.Pre_finite_act.Gate.facts := by
  unfold Cert.algebraic_FfnActBwdIdeal_FfnActBwdRefIdeal_pre_finite_act
  intro m g m' g' hp hargs
  refine ⟨fun c => dU (Cert.FfnActBwdIdeal.Value.u m c) (Cert.FfnActBwdIdeal.Value.d m c) (Cert.FfnActBwdIdeal.Value.w m c) (Cert.FfnActBwdIdeal.Value.bias m c),
    fun c => dW (Cert.FfnActBwdIdeal.Value.u m c) (Cert.FfnActBwdIdeal.Value.d m c) (Cert.FfnActBwdIdeal.Value.w m c) (Cert.FfnActBwdIdeal.Value.bias m c),
    fun c => dB (Cert.FfnActBwdIdeal.Value.u m c) (Cert.FfnActBwdIdeal.Value.d m c) (Cert.FfnActBwdIdeal.Value.w m c) (Cert.FfnActBwdIdeal.Value.bias m c),
    (θ_run _ _ _).mono (fun r h c => ?_) (Cert.FfnActBwdIdeal.Value.run_blocks m g),
    (θ_run _ _ _).mono (fun r h c => ?_) (Cert.FfnActBwdRefIdeal.Value.run m' g')⟩
  · exact ⟨(h c).1.trans (Cert.FfnActBwdIdeal.Value.arrU m c), (h c).2.1.trans (Cert.FfnActBwdIdeal.Value.arrW m c),
      (h c).2.2.1.trans (Cert.FfnActBwdIdeal.Value.arrB m c), (h c).2.2.2⟩
  · obtain ⟨hu, hd, hw, hb⟩ := Cert.Pre_finite_act.Gate.args m hp c
    have eu : Cert.FfnActBwdRefIdeal.Value.u (launchContents m' c) = Cert.FfnActBwdIdeal.Value.u m c := (hargs c).1
    have ed : Cert.FfnActBwdRefIdeal.Value.d (launchContents m' c) = Cert.FfnActBwdIdeal.Value.d m c := (hargs c).2.1
    have ew : Cert.FfnActBwdRefIdeal.Value.w (launchContents m' c) = Cert.FfnActBwdIdeal.Value.w m c := (hargs c).2.2.1
    have eb : Cert.FfnActBwdRefIdeal.Value.bias (launchContents m' c) = Cert.FfnActBwdIdeal.Value.bias m c := (hargs c).2.2.2
    rw [← eu] at hu
    rw [← ed] at hd
    rw [← ew] at hw
    rw [← eb] at hb
    refine ⟨(h c).1.trans ((Cert.FfnActBwdRefIdeal.Value.resU (launchContents m' c) hu hd hw hb).trans ?_),
      (h c).2.1.trans ((Cert.FfnActBwdRefIdeal.Value.resW (launchContents m' c) hu hd hw hb).trans ?_),
      (h c).2.2.1.trans ((Cert.FfnActBwdRefIdeal.Value.resB (launchContents m' c) hu hd hw hb).trans ?_), (h c).2.2.2⟩ <;> rw [eu, ed, ew, eb]

/-- The reference's frame: it leaves its arguments alone and has no semaphore. -/
theorem frame_FfnActBwdRef : @Cert.quiescent_FfnActBwdRefIdeal Cert.FfnActBwdRefIdeal.Gen.facts := by
  intro m g _
  refine (θ_run _ _ _).mono (fun r h => ⟨fun c => (h c).2.2.2, funext fun s => ?_⟩) (Cert.FfnActBwdRefIdeal.Value.run m g)
  exact ((by decide : ∀ sm : SemLoc Cert.FfnActBwdRefIdeal.sig, False) s.2).elim

end Cert.Proof
-- ==== Proof.LruMixBwdRef.lean ====
/-
  The gradient of the product of the scan's states with the other branch's gelu: in the states, in that branch, and in the
  bias of the product that follows, a sum over all rows that grows from tile to tile.
-/
module

public import proofs.«01_k».proof.Defs
public import proofs.«01_k».proof.Proof.FfnActBwdRef
public import proofs.«01_k».proof.Proof.Gen.LruMixBwdIdeal.Value
public import proofs.«01_k».proof.Proof.Gen.LruMixBwdRefIdeal.Run

@[expose] public section

set_option maxRecDepth 16384

noncomputable section

namespace Cert.LruMixBwdIdeal.Value

open Cert.LruMixBwdIdeal Cert.LruMixBwdIdeal.Gen Idealize.ShloMosaic Idealize.ShloMosaic.TcCoe Idealize.SL.Sem Cert.Gate

/-- The half of a block's columns that goes through the gelu. -/
def left (x2 : Vec Ideal S512x2048 .f32) : FVec Ideal S512x1024 .f32 := View.ld x2 (Rect.unit ![0, 0] ![512, 1024] inb_S512x2048_S512x1024_0_0)

theorem left_apply (x2 : Vec Ideal S512x2048 .f32) (a : Fin 512) (b : Fin 1024) : left x2 (ix2 a b) = x2 (ix2 a ⟨b.val, Nat.lt_of_lt_of_le b.isLt (by decide)⟩) := by
  unfold left
  pointwise

theorem pay10_apply (x0 v : FVec Ideal S512x1024 .f32) (a : Fin 512) (b : Fin 1024) :
    k0_pay10 x0 v (ix2 a b) = x0 (ix2 a b) * gelu (v (ix2 a b)) := by
  unfold k0_pay10 k0_pay8 k0_pay7 k0_pay6 k0_pay5 k0_pay4
  pointwise
  rfl

theorem pay1_apply (x0 x1 v : FVec Ideal S512x1024 .f32) (a : Fin 512) (b : Fin 1024) :
    k0_pay1 x0 x1 (k0_pay9 v) (ix2 a b) = x0 (ix2 a b) * x1 (ix2 a b) * dgelu (v (ix2 a b)) := by
  unfold k0_pay1 k0_pay9 k0_pay8 k0_pay7 k0_pay6 k0_pay5 k0_pay4
  pointwise
  rfl

variable (m : (ℓ : Loc nD τ sig) → Buf (Elt Ideal) ℓ) (c : Dev nD) (t : Fin cfg0.N)

/-- What a point adds to the gradient in the bias. -/
def part (b : Fin 1024) : EReal := ∑ a : Fin 512, (iblk m c 3 t : S512x1024.Idx → EReal) (ix2 a b)

/-- Every point writes its tile of the gradient in the states. -/
theorem tileH : (outsAt0 m c t.val t.isLt).1 = k0_pay10 (F := Ideal) (iblk m c 0 t) (left (iblk m c 2 t)) := by
  by_cases h0 : t.val % 16 = 0
  · rw [outsAt0_A m c t h0]
    frame_out
    rfl
  · rw [outsAt0_B m c t h0]
    frame_out
    rfl

/-- Every point writes its tile of the gradient in the branch. -/
theorem tileU : (outsAt0 m c t.val t.isLt).2.1 = k0_pay1 (F := Ideal) (iblk m c 0 t) (iblk m c 1 t) (k0_pay9 (left (iblk m c 2 t))) := by
  by_cases h0 : t.val % 16 = 0
  · rw [outsAt0_A m c t h0]
    frame_out
    rfl
  · rw [outsAt0_B m c t h0]
    frame_out
    rfl

/-- The first point starts the sum. -/
theorem start (h0 : t.val % 16 = 0) (b : Fin 1024) : (outsAt0 m c t.val t.isLt).2.2 (ix2 0 b) = part m c t b := by
  rw [outsAt0_A m c t h0]
  frame_out
  unfold k0_pay3 k0_pay2 part
  pointwise

/-- The others add to it. -/
theorem next (h0 : ¬t.val % 16 = 0) (b : Fin 1024) :
    (outsAt0 m c t.val t.isLt).2.2 (ix2 0 b)
      = (outsAt0 m c (t.val - 1) (Nat.lt_of_le_of_lt (Nat.sub_le _ _) t.isLt)).2.2 (ix2 0 b) + part m c t b := by
  rw [outsAt0_B m c t h0]
  frame_out
  unfold k0_pay3 part
  pointwise

/-- The sum after a point. -/
theorem fold (b : Fin 1024) (n : ℕ) (hn : n < cfg0.N) :
    (outsAt0 m c n hn).2.2 (ix2 0 b) = ∑ s : Fin (n + 1), part m c ⟨s.val, Nat.lt_of_lt_of_le s.isLt hn⟩ b :=
  grow (fun n hn => (outsAt0 m c n hn).2.2 (ix2 0 b)) (fun n hn => part m c ⟨n, hn⟩ b) (fun h => start m c ⟨0, h⟩ rfl b)
    (fun n h => next m c ⟨n + 1, h⟩ (by have : n + 1 < 16 := h; show ¬(n + 1) % 16 = 0; omega) b) n hn

/-- The blocks the windows stand at. -/
theorem index : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![0, 0] :=
  (by decide +kernel : ∀ t : Fin grid0.N, _)

/-- The arrays the call is given. -/
abbrev d (m : (ℓ : Loc nD τ sig) → Buf (Elt Ideal) ℓ) (c : Dev nD) : S8192x1024.Idx → EReal := m (c, main_arg0)

@[inherit_doc d]
abbrev h (m : (ℓ : Loc nD τ sig) → Buf (Elt Ideal) ℓ) (c : Dev nD) : S8192x1024.Idx → EReal := m (c, main_arg1)

@[inherit_doc d]
abbrev u (m : (ℓ : Loc nD τ sig) → Buf (Elt Ideal) ℓ) (c : Dev nD) : S8192x2048.Idx → EReal := m (c, main_arg2)

@[inherit_doc d]
abbrev dy (m : (ℓ : Loc nD τ sig) → Buf (Elt Ideal) ℓ) (c : Dev nD) : S8192x1024.Idx → EReal := m (c, main_arg3)

theorem lt : t.val < 16 := t.isLt

/-- The row of the arrays at which row `a` of a point's tile stands. -/
abbrev rowAt (a : Fin 512) : Fin 8192 := ⟨t.val * 512 + a.val, by have := lt t; omega⟩

theorem blk0 (a : Fin 512) (k : Fin 1024) : (iblk m c 0 t : S512x1024.Idx → EReal) (ix2 a k) = d m c (ix2 (rowAt t a) k) := by
  have e := (index t).1
  refine congrArg (d m c) ?_
  refine (eq_ix2 ((win0_0.blk t).view.emb (ix2 a k))).trans (congrArg₂ ix2 (Fin.ext ?_) (Fin.ext ?_)) <;> blk_simp [e] <;> rfl

theorem blk1 (a : Fin 512) (k : Fin 1024) : (iblk m c 1 t : S512x1024.Idx → EReal) (ix2 a k) = h m c (ix2 (rowAt t a) k) := by
  have e := (index t).2.1
  refine congrArg (h m c) ?_
  refine (eq_ix2 ((win0_1.blk t).view.emb (ix2 a k))).trans (congrArg₂ ix2 (Fin.ext ?_) (Fin.ext ?_)) <;> blk_simp [e] <;> rfl

theorem blk2 (a : Fin 512) (k : Fin 2048) : (iblk m c 2 t : S512x2048.Idx → EReal) (ix2 a k) = u m c (ix2 (rowAt t a) k) := by
  have e := (index t).2.2.1
  refine congrArg (u m c) ?_
  refine (eq_ix2 ((win0_2.blk t).view.emb (ix2 a k))).trans (congrArg₂ ix2 (Fin.ext ?_) (Fin.ext ?_)) <;> blk_simp [e] <;> rfl

theorem blk3 (a : Fin 512) (k : Fin 1024) : (iblk m c 3 t : S512x1024.Idx → EReal) (ix2 a k) = dy m c (ix2 (rowAt t a) k) := by
  have e := (index t).2.2.2.1
  refine congrArg (dy m c) ?_
  refine (eq_ix2 ((win0_3.blk t).view.emb (ix2 a k))).trans (congrArg₂ ix2 (Fin.ext ?_) (Fin.ext ?_)) <;> blk_simp [e] <;> rfl

theorem emb4 (a : Fin 512) (b : Fin 1024) : (win0_4.blk t).view.emb (ix2 a b) = ix2 (rowAt t a) b := by
  have e := (index t).2.2.2.2.1
  refine (eq_ix2 ((win0_4.blk t).view.emb (ix2 a b))).trans (congrArg₂ ix2 (Fin.ext ?_) (Fin.ext ?_)) <;> blk_simp [e] <;> rfl

theorem emb5 (a : Fin 512) (b : Fin 1024) : (win0_5.blk t).view.emb (ix2 a b) = ix2 (rowAt t a) b := by
  have e := (index t).2.2.2.2.2.1
  refine (eq_ix2 ((win0_5.blk t).view.emb (ix2 a b))).trans (congrArg₂ ix2 (Fin.ext ?_) (Fin.ext ?_)) <;> blk_simp [e] <;> rfl

theorem emb6 (b : Fin 1024) : (win0_6.blk t).view.emb (ix2 0 b) = ix2 (0 : Fin 1) b := by
  have e := (index t).2.2.2.2.2.2
  refine (eq_ix2 ((win0_6.blk t).view.emb (ix2 0 b))).trans (congrArg₂ ix2 (Fin.ext ?_) (Fin.ext ?_)) <;> blk_simp [e] <;> rfl

/-- An entry of the branch. -/
abbrev branch (u : S8192x2048.Idx → EReal) (a : Fin 8192) (b : Fin 1024) : EReal := u (ix2 a ⟨b.val, Nat.lt_of_lt_of_le b.isLt (by decide)⟩)

/-- The gradient in the states. -/
def outH (d : S8192x1024.Idx → EReal) (u : S8192x2048.Idx → EReal) : S8192x1024.Idx → EReal := fun i => d i * gelu (branch u (i 0) (i 1))

/-- The gradient in the branch. -/
def outU (d h : S8192x1024.Idx → EReal) (u : S8192x2048.Idx → EReal) : S8192x1024.Idx → EReal := fun i => d i * h i * dgelu (branch u (i 0) (i 1))

/-- The gradient in the bias. -/
def outB (dy : S8192x1024.Idx → EReal) : S1x1024.Idx → EReal := fun i => ∑ a : Fin 8192, dy (ix2 a (i 1))

/-- The array the call leaves for the gradient in the states. -/
theorem arrH : (dats m 0 c).arrAt 4 cfg0.N = outH (d m c) (u m c) := by
  refine (dats m 0 c).arrAt_eq_of_covers 4 _ (by decide +kernel) fun t hf y => ?_
  blk_simp
  rw [after0_4]
  obtain ⟨a, b, rfl⟩ : ∃ (a : Fin 512) (b : Fin 1024), y = ix2 a b := ⟨y 0, y 1, eq_ix2 y⟩
  refine (congrFun (tileH m c t) (ix2 a b)).trans ((pay10_apply _ _ a b).trans ?_)
  refine Eq.trans ?_ (congrArg (outH (d m c) (u m c)) (emb4 t a b)).symm
  rw [left_apply, blk0 m c t a b, blk2 m c t a _]
  rfl

/-- The array the call leaves for the gradient in the branch. -/
theorem arrU : (dats m 0 c).arrAt 5 cfg0.N = outU (d m c) (h m c) (u m c) := by
  refine (dats m 0 c).arrAt_eq_of_covers 5 _ (by decide +kernel) fun t hf y => ?_
  blk_simp
  rw [after0_5]
  obtain ⟨a, b, rfl⟩ : ∃ (a : Fin 512) (b : Fin 1024), y = ix2 a b := ⟨y 0, y 1, eq_ix2 y⟩
  refine (congrFun (tileU m c t) (ix2 a b)).trans ((pay1_apply _ _ _ a b).trans ?_)
  refine Eq.trans ?_ (congrArg (outU (d m c) (h m c) (u m c)) (emb5 t a b)).symm
  rw [left_apply, blk0 m c t a b, blk1 m c t a b, blk2 m c t a _]
  rfl

/-- The array the call leaves for the gradient in the bias. -/
theorem arrB : (dats m 0 c).arrAt 6 cfg0.N = outB (dy m c) := by
  refine (dats m 0 c).arrAt_eq_of_covers 6 _ (by decide +kernel) fun t hf y => ?_
  have ht : t.val = 15 := by
    have := (flush0_6 t).mp hf
    have := lt t
    omega
  blk_simp
  rw [after0_6]
  obtain ⟨z, b, rfl⟩ : ∃ (z : Fin 1) (b : Fin 1024), y = ix2 z b := ⟨y 0, y 1, eq_ix2 y⟩
  obtain rfl : z = 0 := Subsingleton.elim _ _
  refine (fold m c b t.val t.isLt).trans ?_
  refine Eq.trans ?_ (congrArg (outB (dy m c)) (emb6 t b)).symm
  obtain ⟨n, hn⟩ := t
  obtain rfl : n = 15 := ht
  refine Eq.trans ?_ (Cert.Tiles.sum_blocks 16 512 (fun a : Fin 8192 => dy m c (ix2 a b))).symm
  exact Finset.sum_congr rfl fun s _ => Finset.sum_congr rfl fun a _ => blk3 m c _ a b

end Cert.LruMixBwdIdeal.Value

namespace Cert.Pre_finite_mix.Gate
open Idealize.ShloMosaic Idealize.ShloMosaic.TcCoe Idealize.SL.Sem Cert.Gate

theorem facts : Cert.Pre_finite_mix.Facts := ⟨by decide, by decide⟩

attribute [local instance] facts

/-- The precondition says of three arrays that they consist of numbers. -/
theorem args (m : (ℓ : Loc Cert.LruMixBwdIdeal.nD Cert.LruMixBwdIdeal.τ Cert.LruMixBwdIdeal.sig) → Buf (Elt Ideal) ℓ)
    (h : Cert.Pre_LruMixBwdIdeal_finite_mix m) (c : Dev Cert.LruMixBwdIdeal.nD) :
    (∀ i, IsReal (Cert.LruMixBwdIdeal.Value.d m c i)) ∧ (∀ i, IsReal (Cert.LruMixBwdIdeal.Value.h m c i))
    ∧ (∀ i, IsReal (Cert.LruMixBwdIdeal.Value.u m c i)) :=
  ⟨Cert.Pre_finite_act.Gate.numbers _ _ (h c).1, Cert.Pre_finite_act.Gate.numbers _ _ (h c).2.1, Cert.Pre_finite_act.Gate.numbers _ _ (h c).2.2⟩

end Cert.Pre_finite_mix.Gate

namespace Cert.Gate
open Idealize.ShloMosaic

/-- The reference's grouping of the cube. -/
theorem th_ref (z : EReal) :
    Ideal.tanh (Ideal.ofBits FTy.f32 1061962282#32 * (z + Ideal.ofBits FTy.f32 1027024659#32 * (z * z * z))) = th z := by
  unfold th
  rw [← mul_assoc (Ideal.ofBits FTy.f32 1027024659#32), ← mul_assoc (Ideal.ofBits FTy.f32 1027024659#32)]

end Cert.Gate

namespace Cert.Proof
open Idealize.ShloMosaic Idealize.ShloMosaic.TcCoe Idealize.SL.Sem Cert.Gate

/-- Kernel and reference leave the same arrays. -/
theorem lruMixBwd : @Cert.algebraic_LruMixBwdIdeal_LruMixBwdRefIdeal_pre_finite_mix Cert.LruMixBwdIdeal.Gen.facts Cert.LruMixBwdRefIdeal.Gen.facts
    Cert.Pre_finite_mix.Gate.facts := by
  unfold Cert.algebraic_LruMixBwdIdeal_LruMixBwdRefIdeal_pre_finite_mix
  intro m g m' g' hp hargs
  refine ⟨fun c => Cert.LruMixBwdIdeal.Value.outH (Cert.LruMixBwdIdeal.Value.d m c) (Cert.LruMixBwdIdeal.Value.u m c),
    fun c => Cert.LruMixBwdIdeal.Value.outU (Cert.LruMixBwdIdeal.Value.d m c) (Cert.LruMixBwdIdeal.Value.h m c) (Cert.LruMixBwdIdeal.Value.u m c),
    fun c => Cert.LruMixBwdIdeal.Value.outB (Cert.LruMixBwdIdeal.Value.dy m c),
    (θ_run _ _ _).mono (fun r h c => ?_) (Cert.LruMixBwdIdeal.Value.run_blocks m g),
    (θ_run _ _ _).mono (fun r h c => ?_) (Cert.LruMixBwdRefIdeal.Value.run m' g')⟩
  · exact ⟨(h c).1.trans (Cert.LruMixBwdIdeal.Value.arrH m c), (h c).2.1.trans (Cert.LruMixBwdIdeal.Value.arrU m c),
      (h c).2.2.1.trans (Cert.LruMixBwdIdeal.Value.arrB m c), (h c).2.2.2⟩
  · obtain ⟨hd, hh, hu⟩ := Cert.Pre_finite_mix.Gate.args m hp c
    refine ⟨(h c).1.trans (funext fun j => ?_), (h c).2.1.trans (funext fun j => ?_), (h c).2.2.1.trans (funext fun j => ?_), (h c).2.2.2⟩
    · rw [(hargs c).1, (hargs c).2.2.1]
      obtain ⟨a, b, rfl⟩ : ∃ (a : Fin 8192) (b : Fin 1024), j = ix2 a b := ⟨j 0, j 1, eq_ix2 j⟩
      pointwise
      exact congrArg _ (gelu_ref _)
    · unfold Cert.LruMixBwdRefIdeal.Value.res_main_v36
      rw [(hargs c).1, (hargs c).2.1, (hargs c).2.2.1]
      obtain ⟨a, b, rfl⟩ : ∃ (a : Fin 8192) (b : Fin 1024), j = ix2 a b := ⟨j 0, j 1, eq_ix2 j⟩
      pointwise
      refine (dgelu_ref (hu _) ((hh _).mul (hd _)) _ (th_ref _) _ rfl).trans ?_
      exact congrArg (fun x : EReal => x * _) (mul_comm _ _)
    · rw [(hargs c).2.2.2]
      obtain ⟨z, b, rfl⟩ : ∃ (z : Fin 1) (b : Fin 1024), j = ix2 z b := ⟨j 0, j 1, eq_ix2 j⟩
      pointwise
      simp only [Ideal.ofBits_zero_f32, zero_add, Fin.sum_univ_one]
      rfl

/-- The reference's frame: it leaves its arguments alone and has no semaphore. -/
theorem frame_LruMixBwdRef : @Cert.quiescent_LruMixBwdRefIdeal Cert.LruMixBwdRefIdeal.Gen.facts := by
  intro m g _
  refine (θ_run _ _ _).mono (fun r h => ⟨fun c => (h c).2.2.2, funext fun s => ?_⟩) (Cert.LruMixBwdRefIdeal.Value.run m g)
  exact ((by decide : ∀ sm : SemLoc Cert.LruMixBwdRefIdeal.sig, False) s.2).elim

end Cert.Proof
-- ==== Proof.RwkvMixBwdTile.lean ====
/-
  The gradient of the time mixing, tile by tile: the norm of a tile and of the rows before it, its difference to the step
  before, the six cotangents weighted by the mixing coefficients, and the weighted sum moved one step earlier.
-/
module

public import proofs.«01_k».proof.Defs
public import proofs.«01_k».proof.Proof.GateGrad
public import proofs.«01_k».proof.Proof.NormBwdValue
public import Idealize.ShloMosaic.Lib.Pointwise.Select
public import Idealize.ShloMosaic.Lib.Pointwise.Reshape
public import proofs.«01_k».proof.Proof.Gen.RwkvMixBwdIdeal.Value

@[expose] public section

set_option maxRecDepth 16384

noncomputable section

namespace Cert.Mix
open Idealize.ShloMosaic Cert.Gate Cert.RmsNorm

/-- Six terms, added in their order. -/
def six (f : Fin 6 → EReal) : EReal := f 0 + f 1 + f 2 + f 3 + f 4 + f 5

/-- The normed stream, column `b`. -/
def hid (X : ℕ → Fin 1024 → EReal) (g : Fin 1024 → EReal) (b : Fin 1024) (r : ℕ) : EReal := X r b * inv (X r) * g b

/-- The step before minus the step. -/
def diff (X : ℕ → Fin 1024 → EReal) (g : Fin 1024 → EReal) (b : Fin 1024) (r : ℕ) : EReal := back (hid X g b) 1 r - hid X g b r

/-- The cotangent of the step before. -/
def low (w : Fin 6 → Fin 1024 → EReal) (D : Fin 6 → ℕ → Fin 1024 → EReal) (b : Fin 1024) (r : ℕ) : EReal := six fun i => D i r b * w i b

/-- The cotangent of the step itself. -/
def high (w : Fin 6 → Fin 1024 → EReal) (D : Fin 6 → ℕ → Fin 1024 → EReal) (b : Fin 1024) (r : ℕ) : EReal := six fun i => D i r b * (1 - w i b)

/-- The cotangent of the normed stream. -/
def dh (w : Fin 6 → Fin 1024 → EReal) (D : Fin 6 → ℕ → Fin 1024 → EReal) (r : ℕ) (b : Fin 1024) : EReal := high w D b r + ahead (low w D b) 1 r

/-- A tile above the first rows after it, moved up by one row. -/
theorem move_up (f : ℕ → EReal) (t a : ℕ) (ha : a < 256) (c : BitVec 1) (hc : c = if t % 8 = 7 then 1#1 else 0#1) (p : Fin 256 → EReal) (q : Fin 16 → EReal)
    (hp : ∀ k : Fin 256, p k = f (t * 256 + k.val)) (hq : t % 8 ≠ 7 → ∀ k : Fin 16, q k = f (t * 256 + 256 + k.val))
    (h1 : (a + 272 - 271) % 272 < 256 → (a + 272 - 271) % 272 < 256) (h2 : ¬(a + 272 - 271) % 272 < 256 → (a + 272 - 271) % 272 - 256 < 16) :
    (if h : (a + 272 - 271) % 272 < 256 then p ⟨_, h1 h⟩ else Scalar.select c 0 (q ⟨_, h2 h⟩)) = ahead f 1 (t * 256 + a) := by
  unfold ahead
  by_cases h : (a + 272 - 271) % 272 < 256
  · rw [dif_pos h, hp, if_pos (by omega)]
    exact congrArg f (by simp only []; omega)
  · rw [dif_neg h, select_eq _ c hc]
    by_cases h7 : t % 8 = 7
    · rw [if_pos h7, if_neg (by omega)]
    · rw [if_neg h7, if_pos (by omega), hq h7]
      exact congrArg f (by simp only []; omega)

/-- Six rows, one for each of the coefficients, above two rows of zeros. -/
theorem stack (a : ℕ) (x0 x1 x2 x3 x4 x5 : EReal) (f : Fin 6 → EReal) (h0 : x0 = f 0) (h1 : x1 = f 1) (h2 : x2 = f 2) (h3 : x3 = f 3) (h4 : x4 = f 4)
    (h5 : x5 = f 5) : (if _ : a < 6 then if _ : a < 1 then x0 else if _ : a - 1 < 1 then x1 else if _ : a - 1 - 1 < 1 then x2 else
      if _ : a - 1 - 1 - 1 < 1 then x3 else if _ : a - 1 - 1 - 1 - 1 < 1 then x4 else x5 else 0) = if h : a < 6 then f ⟨a, h⟩ else 0 := by
  by_cases h6 : a < 6
  · rw [dif_pos h6, dif_pos h6]
    match a, h6 with
    | 0, _ => exact h0
    | 1, _ => exact h1
    | 2, _ => exact h2
    | 3, _ => exact h3
    | 4, _ => exact h4
    | 5, _ => exact h5
  · rw [dif_neg h6, dif_neg h6]

/-- The rows of an array. -/
def rowsOf (v : (⟨2, ![8192, 1024]⟩ : Shape).Idx → EReal) (r : ℕ) : Fin 1024 → EReal := fun k => col v k r

section Arrays
variable (x : (⟨2, ![8192, 1024]⟩ : Shape).Idx → EReal) (g : (⟨1, ![1024]⟩ : Shape).Idx → EReal) (w : (⟨2, ![6, 1024]⟩ : Shape).Idx → EReal)
  (d : Fin 6 → (⟨2, ![8192, 1024]⟩ : Shape).Idx → EReal) (y : (⟨2, ![8192, 1024]⟩ : Shape).Idx → EReal)

/-- The cotangent of the normed stream, row by row. -/
def grad : ℕ → Fin 1024 → EReal := dh (fun i k => w (ix2 i k)) (fun i => rowsOf (d i))

/-- The gradient in the stream, with the cotangent of the residual path. -/
def outX : (⟨2, ![8192, 1024]⟩ : Shape).Idx → EReal := fun i =>
  dx (rowsOf x (i 0).val) (fun k => g (ix1 k)) (grad w d (i 0).val) (rowsOf y (i 0).val) (i 1)

/-- The gradient in the norm's scale. -/
def outG : (⟨2, ![1, 1024]⟩ : Shape).Idx → EReal := fun i => ∑ r : Fin 8192, dg (rowsOf x r.val) (grad w d r.val) (i 1)

/-- The gradient in the coefficients, above two rows of zeros. -/
def outM : (⟨2, ![8, 1024]⟩ : Shape).Idx → EReal := fun i => if h : (i 0).val < 6 then
  ∑ r : Fin 8192, rowsOf (d ⟨(i 0).val, h⟩) r.val (i 1) * diff (rowsOf x) (fun k => g (ix1 k)) (i 1) r.val else 0

end Arrays

end Cert.Mix

namespace Cert.RwkvMixBwdIdeal.Value

open Cert.RwkvMixBwdIdeal Cert.RwkvMixBwdIdeal.Gen Idealize.ShloMosaic Idealize.ShloMosaic.TcCoe Idealize.SL.Sem Cert.Gate Cert.RmsNorm Cert.Mix

section Tile
variable (i : grid0.Coords) (x0 : Vec Ideal S256x1024 .f32) (xs : Fin 6 → Vec Ideal S256x1024 .f32) (x7 : Vec Ideal S256x1024 .f32)
  (x8 : Vec Ideal S16x1024 .f32) (ys : Fin 6 → Vec Ideal S16x1024 .f32) (x15 : Vec Ideal S1x1024 .f32) (x16 : Vec Ideal S8x1024 .f32)

/-- The step before minus the step. -/
def diffT : FVec Ideal S256x1024 .f32 := k0_pay7 (isNth 0#32 (i 0).val) x0 x8 (k0_pay3 x15) (k0_pay5 x0) (k0_pay6 (F := Ideal))

/-- The cotangent of the step itself. -/
def highT : FVec Ideal S256x1024 .f32 := k0_pay23 (k0_pay4 x16) (xs 3) (xs 4) (xs 5) (k0_pay13 (k0_pay4 x16) (xs 0) (xs 1) (xs 2))

/-- What the step after hands back. -/
def upT : FVec Ideal S256x1024 .f32 := k0_pay25 (isNth 7#32 (i 0).val) (k0_pay4 x16) (xs 3) (xs 4) (xs 5) (ys 3) (ys 4) (ys 5)
  (k0_pay14 (k0_pay4 x16) (xs 0) (xs 1) (xs 2)) (k0_pay15 (k0_pay4 x16) (ys 0) (ys 1) (ys 2))

/-- What the point writes. -/
def tileX : FVec Ideal S256x1024 .f32 := k0_pay30 x0 (k0_pay3 x15) (highT xs x16) (upT i xs ys x16) x7

/-- What the point adds to the gradient in the norm's scale. -/
def partG : FVec Ideal S1x1024 .f32 := k0_pay29 x0 (highT xs x16) (upT i xs ys x16)

/-- What the point adds to the gradient in the coefficients. -/
def partM : FVec Ideal S8x1024 .f32 := k0_pay31 (k0_pay9 (diffT i x0 x8 x15) (xs 0)) (k0_pay11 (diffT i x0 x8 x15) (xs 1))
  (k0_pay17 (k0_pay16 (diffT i x0 x8 x15) (xs 2))) (k0_pay19 (diffT i x0 x8 x15) (xs 3)) (k0_pay21 (diffT i x0 x8 x15) (xs 4))
  (k0_pay24 (diffT i x0 x8 x15) (xs 5))

end Tile

section Points
variable (m : (ℓ : Loc nD τ sig) → Buf (Elt Ideal) ℓ) (c : Dev nD) (t : Fin cfg0.N)

/-- The point's tiles of the cotangents and the rows after them. -/
def dBlk : Fin 6 → Vec Ideal S256x1024 .f32 := ![iblk m c 1 t, iblk m c 2 t, iblk m c 3 t, iblk m c 4 t, iblk m c 5 t, iblk m c 6 t]

@[inherit_doc dBlk]
def nBlk : Fin 6 → Vec Ideal S16x1024 .f32 := ![iblk m c 9 t, iblk m c 10 t, iblk m c 11 t, iblk m c 12 t, iblk m c 13 t, iblk m c 14 t]

/-- Every point writes its tile. -/
theorem tile_eq : (outsAt0 m c t.val t.isLt).1
    = tileX (grid0.coords t) (iblk m c 0 t) (dBlk m c t) (iblk m c 7 t) (nBlk m c t) (iblk m c 15 t) (iblk m c 16 t) := by
  by_cases h0 : t.val % 32 = 0
  · rw [outsAt0_A m c t h0]
    frame_out
    rfl
  · rw [outsAt0_B m c t h0]
    frame_out
    rfl

/-- What point `t` adds to the gradients in the scale and in the coefficients. -/
def addG : FVec Ideal S1x1024 .f32 := partG (grid0.coords t) (iblk m c 0 t) (dBlk m c t) (nBlk m c t) (iblk m c 16 t)

@[inherit_doc addG]
def addM : FVec Ideal S8x1024 .f32 := partM (grid0.coords t) (iblk m c 0 t) (dBlk m c t) (iblk m c 8 t) (iblk m c 15 t)

/-- The first point starts the sums. -/
theorem firstG (h0 : t.val % 32 = 0) (b : Fin 1024) : (outsAt0 m c t.val t.isLt).2.1 (ix2 0 b) = addG m c t (ix2 0 b) := by
  have h : (outsAt0 m c t.val t.isLt).2.1 = k0_pay1 (addG m c t) (k0_pay32 (F := Ideal)) := by
    rw [outsAt0_A m c t h0]
    frame_out
    rfl
  rw [h]
  unfold k0_pay1 k0_pay32
  pointwise

@[inherit_doc firstG]
theorem firstM (h0 : t.val % 32 = 0) (a : Fin 8) (b : Fin 1024) : (outsAt0 m c t.val t.isLt).2.2 (ix2 a b) = addM m c t (ix2 a b) := by
  have h : (outsAt0 m c t.val t.isLt).2.2 = k0_pay2 (addM m c t) (k0_pay33 (F := Ideal)) := by
    rw [outsAt0_A m c t h0]
    frame_out
    rfl
  rw [h]
  unfold k0_pay2 k0_pay33
  pointwise

/-- The others add to them. -/
theorem nextG (h0 : ¬t.val % 32 = 0) (b : Fin 1024) : (outsAt0 m c t.val t.isLt).2.1 (ix2 0 b)
    = (outsAt0 m c (t.val - 1) (Nat.lt_of_le_of_lt (Nat.sub_le _ _) t.isLt)).2.1 (ix2 0 b) + addG m c t (ix2 0 b) := by
  have h : (outsAt0 m c t.val t.isLt).2.1 = k0_pay1 (addG m c t) (outsAt0 m c (t.val - 1) (Nat.lt_of_le_of_lt (Nat.sub_le _ _) t.isLt)).2.1 := by
    rw [outsAt0_B m c t h0]
    frame_out
    rfl
  rw [h]
  unfold k0_pay1
  pointwise

@[inherit_doc nextG]
theorem nextM (h0 : ¬t.val % 32 = 0) (a : Fin 8) (b : Fin 1024) : (outsAt0 m c t.val t.isLt).2.2 (ix2 a b)
    = (outsAt0 m c (t.val - 1) (Nat.lt_of_le_of_lt (Nat.sub_le _ _) t.isLt)).2.2 (ix2 a b) + addM m c t (ix2 a b) := by
  have h : (outsAt0 m c t.val t.isLt).2.2 = k0_pay2 (addM m c t) (outsAt0 m c (t.val - 1) (Nat.lt_of_le_of_lt (Nat.sub_le _ _) t.isLt)).2.2 := by
    rw [outsAt0_B m c t h0]
    frame_out
    rfl
  rw [h]
  unfold k0_pay2
  pointwise

end Points

/-- The point's blocks are those of the arrays. -/
structure Reads (X : ℕ → Fin 1024 → EReal) (D : Fin 6 → ℕ → Fin 1024 → EReal) (t : ℕ) (x0 : Vec Ideal S256x1024 .f32)
    (xs : Fin 6 → Vec Ideal S256x1024 .f32) (x8 : Vec Ideal S16x1024 .f32) (ys : Fin 6 → Vec Ideal S16x1024 .f32) : Prop where
  hx : ∀ (k : Fin 256) (b : Fin 1024), x0 (ix2 k b) = X (t * 256 + k.val) b
  hd : ∀ (i : Fin 6) (k : Fin 256) (b : Fin 1024), xs i (ix2 k b) = D i (t * 256 + k.val) b
  before_x : t % 8 ≠ 0 → ∀ (k : Fin 16) (b : Fin 1024), x8 (ix2 k b) = X (t * 256 - 16 + k.val) b
  after_d : t % 8 ≠ 7 → ∀ (i : Fin 6) (k : Fin 16) (b : Fin 1024), ys i (ix2 k b) = D i (t * 256 + 256 + k.val) b

section Column
variable (X : ℕ → Fin 1024 → EReal) (D : Fin 6 → ℕ → Fin 1024 → EReal) (t : ℕ) (ht : t < 32) (i : grid0.Coords) (hi : (i 0).val = t)
  (x0 : Vec Ideal S256x1024 .f32) (xs : Fin 6 → Vec Ideal S256x1024 .f32) (x7 : Vec Ideal S256x1024 .f32)
  (x8 : Vec Ideal S16x1024 .f32) (ys : Fin 6 → Vec Ideal S16x1024 .f32) (x15 : Vec Ideal S1x1024 .f32) (x16 : Vec Ideal S8x1024 .f32)

variable (h : Reads X D t x0 xs x8 ys)

/-- The coefficients as the call reads them. -/
abbrev W : Fin 6 → Fin 1024 → EReal := fun i k => x16 (ix2 (i.castLE (by decide)) k)

/-- The norm's scale as the call reads it. -/
abbrev S : Fin 1024 → EReal := fun k => x15 (ix2 0 k)

/-- A row's normed entry. -/
theorem hid_of (x : Fin 1024 → EReal) (r : ℕ) (hr : ∀ k, x k = X r k) (g : Fin 1024 → EReal) (b : Fin 1024) :
    x b * Ideal.rsqrt (Ideal.div (∑ k, x k * x k) (Ideal.ofBits FTy.f32 1149239296#32) + Ideal.ofBits FTy.f32 897988541#32) * g b = hid X g b r := by
  obtain rfl : x = X r := funext hr
  rfl

include h ht hi in
theorem diffT_apply (a : Fin 256) (b : Fin 1024) : diffT i x0 x8 x15 (ix2 a b) = diff X (S x15) b (t * 256 + a.val) := by
  unfold diffT k0_pay7 k0_pay3 k0_pay5 k0_pay6
  pointwise
  have hc : isNth 0#32 (i 0).val = if t % 8 = 0 then 1#1 else 0#1 := by rw [hi]; exact isFirst_eq t ht
  have e := fun k : Fin 256 => hid_of X (fun j => x0 (ix2 k j)) (t * 256 + k.val) (fun j => h.hx k j) (S x15) b
  refine congrArg₂ (fun p q : EReal => p - q) ?_ (e a)
  exact shift (hid X (S x15) b) t 1 256 a.val (Or.inl rfl) (by omega) a.isLt (by omega) _ hc _ _
    (fun h0 k => hid_of X (fun j => x8 (ix2 k j)) (t * 256 - 16 + k.val) (fun j => h.before_x h0 k j) (S x15) b) (fun k _ => e k) _ _

include h in
theorem highT_apply (a : Fin 256) (b : Fin 1024) : highT xs x16 (ix2 a b) = high (W x16) D b (t * 256 + a.val) := by
  unfold highT k0_pay23 k0_pay13 k0_pay8 k0_pay10 k0_pay12 k0_pay18 k0_pay20 k0_pay22 k0_pay4
  pointwise
  unfold high six
  simp only [← h.hd]
  rfl

include h ht hi in
theorem upT_apply (a : Fin 256) (b : Fin 1024) : upT i xs ys x16 (ix2 a b) = ahead (low (W x16) D b) 1 (t * 256 + a.val) := by
  unfold upT k0_pay25 k0_pay14 k0_pay15 k0_pay8 k0_pay10 k0_pay12 k0_pay18 k0_pay20 k0_pay22 k0_pay4
  pointwise
  have hc : isNth 7#32 (i 0).val = if t % 8 = 7 then 1#1 else 0#1 := by rw [hi]; exact isLast_eq t ht
  refine move_up (low (W x16) D b) t a.val a.isLt _ hc (fun k => six fun i => xs i (ix2 k b) * W x16 i b) (fun k => six fun i => ys i (ix2 k b) * W x16 i b) ?_ ?_ _ _
  · intro k
    unfold low
    simp only [h.hd]
  · intro h7 k
    unfold low
    simp only [h.after_d h7]

include h ht hi in
/-- What the point writes. -/
theorem tileX_apply (a : Fin 256) (b : Fin 1024) : tileX i x0 xs x7 ys x15 x16 (ix2 a b)
    = dx (X (t * 256 + a.val)) (S x15) (dh (W x16) D (t * 256 + a.val)) (fun k => x7 (ix2 a k)) b := by
  have e : (fun k => highT xs x16 (ix2 a k) + upT i xs ys x16 (ix2 a k)) = dh (W x16) D (t * 256 + a.val) := funext fun k =>
    congrArg₂ (fun p q : EReal => p + q) (highT_apply X D t x0 xs x8 ys x16 h a k) (upT_apply X D t ht i hi x0 xs x8 ys x16 h a k)
  rw [← e, ← funext (h.hx a)]
  unfold tileX k0_pay30 k0_pay28 k0_pay27 k0_pay26 k0_pay3
  pointwise
  simp only [Fin.sum_univ_one]
  rfl

include h ht hi in
/-- The sums of the point. -/
theorem partG_apply (b : Fin 1024) : partG i x0 xs ys x16 (ix2 0 b)
    = ∑ k : Fin 256, dg (X (t * 256 + k.val)) (dh (W x16) D (t * 256 + k.val)) b := by
  have e : partG i x0 xs ys x16 (ix2 0 b)
      = ∑ a : Fin 256, dg (fun k => x0 (ix2 a k)) (fun k => highT xs x16 (ix2 a k) + upT i xs ys x16 (ix2 a k)) b := by
    unfold partG k0_pay29 k0_pay28 k0_pay27 k0_pay26
    pointwise
    rfl
  refine e.trans (Finset.sum_congr rfl fun a _ => congrArg₂ (fun p q => dg p q b) (funext (h.hx a)) (funext fun k => ?_))
  exact congrArg₂ (fun p q : EReal => p + q) (highT_apply X D t x0 xs x8 ys x16 h a k) (upT_apply X D t ht i hi x0 xs x8 ys x16 h a k)

include h ht hi in
@[inherit_doc partG_apply]
theorem partM_apply (a : Fin 8) (b : Fin 1024) : partM i x0 xs x8 x15 (ix2 a b)
    = if h6 : a.val < 6 then ∑ k : Fin 256, D ⟨a.val, h6⟩ (t * 256 + k.val) b * diff X (S x15) b (t * 256 + k.val) else 0 := by
  unfold partM k0_pay31 k0_pay9 k0_pay11 k0_pay16 k0_pay17 k0_pay19 k0_pay21 k0_pay24
  pointwise
  have e := fun i' (k : Fin 256) => congrArg₂ (fun p q : EReal => p * q) (h.hd i' k b) (diffT_apply X D t ht i hi x0 xs x8 ys x15 h k b)
  have s := fun i' => Finset.sum_congr rfl fun k (_ : k ∈ Finset.univ) => e i' k
  exact stack a.val _ _ _ _ _ _ (fun i' => ∑ k : Fin 256, D i' (t * 256 + k.val) b * diff X (S x15) b (t * 256 + k.val)) (s 0) (s 1) (s 2) (s 3) (s 4) (s 5)

end Column

end Cert.RwkvMixBwdIdeal.Value
-- ==== Proof.RwkvMixBwdValue.lean ====
/-
  The gradient of the time mixing: what the grid's points leave in the three arrays.
-/
module

public import proofs.«01_k».proof.Proof.RwkvMixBwdTile

@[expose] public section

set_option maxRecDepth 16384

noncomputable section

namespace Cert.RwkvMixBwdIdeal.Value

open Cert.RwkvMixBwdIdeal Cert.RwkvMixBwdIdeal.Gen Idealize.ShloMosaic Idealize.ShloMosaic.TcCoe Idealize.SL.Sem Cert.Gate Cert.RmsNorm Cert.Mix

variable (m : (ℓ : Loc nD τ sig) → Buf (Elt Ideal) ℓ) (c : Dev nD) (t : Fin cfg0.N)

/-- The blocks of the tiles, and the point's number. -/
theorem tiles : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_17.index t = ![t.val, 0] ∧ (grid0.coords t 0).val = t.val :=
  (by decide +kernel : ∀ t : Fin grid0.N, _)

/-- The blocks before and after them. -/
theorem sides : ∀ t : Fin cfg0.N, win0_8.index t = ![t.val * 16 - 1, 0] ∧ win0_9.index t = ![min ((t.val + 1) * 16) 511, 0]
    ∧ win0_10.index t = ![min ((t.val + 1) * 16) 511, 0] ∧ win0_11.index t = ![min ((t.val + 1) * 16) 511, 0]
    ∧ win0_12.index t = ![min ((t.val + 1) * 16) 511, 0] ∧ win0_13.index t = ![min ((t.val + 1) * 16) 511, 0]
    ∧ win0_14.index t = ![min ((t.val + 1) * 16) 511, 0] :=
  (by decide +kernel : ∀ t : Fin grid0.N, _)

/-- The arrays read or written as a whole. -/
theorem wholes : ∀ t : Fin cfg0.N, win0_15.index t = ![0, 0] ∧ win0_16.index t = ![0, 0] ∧ win0_18.index t = ![0, 0] ∧ win0_19.index t = ![0, 0] :=
  (by decide +kernel : ∀ t : Fin grid0.N, _)

theorem lt : t.val < 32 := t.isLt

/-- The arrays the call is given. -/
abbrev x (m : (ℓ : Loc nD τ sig) → Buf (Elt Ideal) ℓ) (c : Dev nD) : S8192x1024.Idx → EReal := m (c, main_arg0)

@[inherit_doc x]
abbrev g (m : (ℓ : Loc nD τ sig) → Buf (Elt Ideal) ℓ) (c : Dev nD) : S1024.Idx → EReal := m (c, main_arg1)

@[inherit_doc x]
abbrev w (m : (ℓ : Loc nD τ sig) → Buf (Elt Ideal) ℓ) (c : Dev nD) : S6x1024.Idx → EReal := m (c, main_arg2)

@[inherit_doc x]
abbrev d (m : (ℓ : Loc nD τ sig) → Buf (Elt Ideal) ℓ) (c : Dev nD) : Fin 6 → S8192x1024.Idx → EReal :=
  ![m (c, main_arg3), m (c, main_arg4), m (c, main_arg5), m (c, main_arg6), m (c, main_arg7), m (c, main_arg8)]

@[inherit_doc x]
abbrev y (m : (ℓ : Loc nD τ sig) → Buf (Elt Ideal) ℓ) (c : Dev nD) : S8192x1024.Idx → EReal := m (c, main_arg9)

theorem argG (k : Fin 1024) : (V m c main_v0 : S1x1024.Idx → EReal) (ix2 0 k) = g m c (ix1 k) := by
  unfold V
  after_results
  pointwise

theorem argW (i : Fin 6) (k : Fin 1024) : (V m c main_v2 : S8x1024.Idx → EReal) (ix2 (i.castLE (by decide)) k) = w m c (ix2 i k) := by
  unfold V
  after_results
  pointwise
  exact dif_pos i.isLt

/-- An entry of an array, read by its row and column. -/
theorem at_row (v : S8192x1024.Idx → EReal) (e : S8192x1024.Idx) (k : Fin 1024) (r : ℕ) (h0 : (e 0).val = r) (h1 : (e 1).val = k.val) :
    v e = rowsOf v r k := by
  subst h0
  obtain rfl : e 1 = k := Fin.ext h1
  exact (congrArg v (eq_ix2 e)).trans (col_eq v (e 1) _ (e 0).isLt).symm

theorem tile_x (a : Fin 256) (k : Fin 1024) : (iblk m c 0 t : S256x1024.Idx → EReal) (ix2 a k) = rowsOf (x m c) (t.val * 256 + a.val) k := by
  have e := (tiles t).1
  refine at_row (x m c) ((win0_0.blk t).view.emb (ix2 a k)) k _ ?_ ?_ <;> blk_simp [e] <;> rfl

theorem tile_y (a : Fin 256) (k : Fin 1024) : (iblk m c 7 t : S256x1024.Idx → EReal) (ix2 a k) = rowsOf (y m c) (t.val * 256 + a.val) k := by
  have e := (tiles t).2.2.2.2.2.2.2.1
  refine at_row (y m c) ((win0_7.blk t).view.emb (ix2 a k)) k _ ?_ ?_ <;> blk_simp [e] <;> rfl

theorem tile_d (i : Fin 6) (a : Fin 256) (k : Fin 1024) : dBlk m c t i (ix2 a k) = rowsOf (d m c i) (t.val * 256 + a.val) k := by
  obtain ⟨-, e1, e2, e3, e4, e5, e6, -⟩ := tiles t
  match i with
  | 0 => refine at_row (d m c 0) ((win0_1.blk t).view.emb (ix2 a k)) k _ ?_ ?_ <;> blk_simp [e1] <;> rfl
  | 1 => refine at_row (d m c 1) ((win0_2.blk t).view.emb (ix2 a k)) k _ ?_ ?_ <;> blk_simp [e2] <;> rfl
  | 2 => refine at_row (d m c 2) ((win0_3.blk t).view.emb (ix2 a k)) k _ ?_ ?_ <;> blk_simp [e3] <;> rfl
  | 3 => refine at_row (d m c 3) ((win0_4.blk t).view.emb (ix2 a k)) k _ ?_ ?_ <;> blk_simp [e4] <;> rfl
  | 4 => refine at_row (d m c 4) ((win0_5.blk t).view.emb (ix2 a k)) k _ ?_ ?_ <;> blk_simp [e5] <;> rfl
  | 5 => refine at_row (d m c 5) ((win0_6.blk t).view.emb (ix2 a k)) k _ ?_ ?_ <;> blk_simp [e6] <;> rfl

theorem before_x (h0 : t.val % 8 ≠ 0) (a : Fin 16) (k : Fin 1024) :
    (iblk m c 8 t : S16x1024.Idx → EReal) (ix2 a k) = rowsOf (x m c) (t.val * 256 - 16 + a.val) k := by
  have e := (sides t).1
  have e1 : (t.val * 16 - 1) * 16 = t.val * 256 - 16 := by omega
  refine at_row (x m c) ((win0_8.blk t).view.emb (ix2 a k)) k _ ?_ ?_ <;> blk_simp [e, e1] <;> rfl

theorem after_d (h7 : t.val % 8 ≠ 7) (i : Fin 6) (a : Fin 16) (k : Fin 1024) : nBlk m c t i (ix2 a k) = rowsOf (d m c i) (t.val * 256 + 256 + a.val) k := by
  obtain ⟨-, e1, e2, e3, e4, e5, e6⟩ := sides t
  have e : min ((t.val + 1) * 16) 511 * 16 = t.val * 256 + 256 := by have := lt t; omega
  match i with
  | 0 => refine at_row (d m c 0) ((win0_9.blk t).view.emb (ix2 a k)) k _ ?_ ?_ <;> blk_simp [e1, e] <;> rfl
  | 1 => refine at_row (d m c 1) ((win0_10.blk t).view.emb (ix2 a k)) k _ ?_ ?_ <;> blk_simp [e2, e] <;> rfl
  | 2 => refine at_row (d m c 2) ((win0_11.blk t).view.emb (ix2 a k)) k _ ?_ ?_ <;> blk_simp [e3, e] <;> rfl
  | 3 => refine at_row (d m c 3) ((win0_12.blk t).view.emb (ix2 a k)) k _ ?_ ?_ <;> blk_simp [e4, e] <;> rfl
  | 4 => refine at_row (d m c 4) ((win0_13.blk t).view.emb (ix2 a k)) k _ ?_ ?_ <;> blk_simp [e5, e] <;> rfl
  | 5 => refine at_row (d m c 5) ((win0_14.blk t).view.emb (ix2 a k)) k _ ?_ ?_ <;> blk_simp [e6, e] <;> rfl

/-- The blocks of a point. -/
theorem reads : Reads (rowsOf (x m c)) (fun i => rowsOf (d m c i)) t.val (iblk m c 0 t) (dBlk m c t) (iblk m c 8 t) (nBlk m c t) where
  hx := tile_x m c t
  hd := tile_d m c t
  before_x := before_x m c t
  after_d := after_d m c t

theorem scale : S (iblk m c 15 t) = fun k => g m c (ix1 k) := by
  have e := (wholes t).1
  refine funext fun k => (congrArg (V m c main_v0) ?_).trans (argG m c k)
  refine (eq_ix2 ((win0_15.blk t).view.emb (ix2 0 k))).trans (congrArg₂ ix2 (Fin.ext ?_) (Fin.ext ?_)) <;> blk_simp [e] <;> rfl

theorem coeffs : W (iblk m c 16 t) = fun i k => w m c (ix2 i k) := by
  have e := (wholes t).2.1
  refine funext fun i => funext fun k => (congrArg (V m c main_v2) ?_).trans (argW m c i k)
  refine (eq_ix2 ((win0_16.blk t).view.emb (ix2 (i.castLE (by decide)) k))).trans (congrArg₂ ix2 (Fin.ext ?_) (Fin.ext ?_)) <;> blk_simp [e] <;> rfl

theorem coord : (grid0.coords t 0).val = t.val := (tiles t).2.2.2.2.2.2.2.2.2

/-- What a point adds to the gradient in the scale. -/
theorem addG_eq (b : Fin 1024) : addG m c t (ix2 0 b)
    = ∑ k : Fin 256, dg (rowsOf (x m c) (t.val * 256 + k.val)) (Mix.grad (w m c) (d m c) (t.val * 256 + k.val)) b := by
  unfold Mix.grad
  rw [← coeffs m c t]
  exact partG_apply _ _ t.val (lt t) (grid0.coords t) (coord t) _ _ _ _ _ (reads m c t) b

/-- What it adds to the gradient in the coefficients. -/
theorem addM_eq (a : Fin 8) (b : Fin 1024) : addM m c t (ix2 a b) = if h : a.val < 6 then
    ∑ k : Fin 256, rowsOf (d m c ⟨a.val, h⟩) (t.val * 256 + k.val) b * diff (rowsOf (x m c)) (fun k => g m c (ix1 k)) b (t.val * 256 + k.val) else 0 := by
  rw [← scale m c t]
  exact partM_apply _ _ t.val (lt t) (grid0.coords t) (coord t) _ _ _ _ _ (reads m c t) a b

/-- The sums after a point. -/
theorem foldG (b : Fin 1024) (n : ℕ) (hn : n < cfg0.N) : (outsAt0 m c n hn).2.1 (ix2 0 b)
    = ∑ s : Fin (n + 1), addG m c ⟨s.val, Nat.lt_of_lt_of_le s.isLt hn⟩ (ix2 0 b) :=
  grow (fun n hn => (outsAt0 m c n hn).2.1 (ix2 0 b)) (fun n hn => addG m c ⟨n, hn⟩ (ix2 0 b)) (fun h => firstG m c ⟨0, h⟩ rfl b)
    (fun n h => nextG m c ⟨n + 1, h⟩ (by have : n + 1 < 32 := h; show ¬(n + 1) % 32 = 0; omega) b) n hn

@[inherit_doc foldG]
theorem foldM (a : Fin 8) (b : Fin 1024) (n : ℕ) (hn : n < cfg0.N) : (outsAt0 m c n hn).2.2 (ix2 a b)
    = ∑ s : Fin (n + 1), addM m c ⟨s.val, Nat.lt_of_lt_of_le s.isLt hn⟩ (ix2 a b) :=
  grow (fun n hn => (outsAt0 m c n hn).2.2 (ix2 a b)) (fun n hn => addM m c ⟨n, hn⟩ (ix2 a b)) (fun h => firstM m c ⟨0, h⟩ rfl a b)
    (fun n h => nextM m c ⟨n + 1, h⟩ (by have : n + 1 < 32 := h; show ¬(n + 1) % 32 = 0; omega) a b) n hn

/-- The array the call leaves for the gradient in the stream. -/
theorem arrX : (dats m 0 c).arrAt 17 cfg0.N = outX (x m c) (g m c) (w m c) (d m c) (y m c) := by
  refine (dats m 0 c).arrAt_eq_of_covers 17 _ (by decide +kernel) fun t hf z => ?_
  blk_simp
  rw [after0_17]
  obtain ⟨a, b, rfl⟩ : ∃ (a : Fin 256) (b : Fin 1024), z = ix2 a b := ⟨z 0, z 1, eq_ix2 z⟩
  have e := (tiles t).2.2.2.2.2.2.2.2.1
  have hl : t.val * 256 + a.val < 8192 := by have := lt t; omega
  have he : (win0_17.blk t).view.emb (ix2 a b) = ix2 ⟨t.val * 256 + a.val, hl⟩ b := by
    refine (eq_ix2 ((win0_17.blk t).view.emb (ix2 a b))).trans (congrArg₂ ix2 (Fin.ext ?_) (Fin.ext ?_)) <;> blk_simp [e] <;> rfl
  refine (congrFun (tile_eq m c t) (ix2 a b)).trans ?_
  refine Eq.trans ?_ (congrArg (outX (x m c) (g m c) (w m c) (d m c) (y m c)) he).symm
  refine (tileX_apply _ _ t.val (lt t) (grid0.coords t) (coord t) _ _ _ _ _ _ _ (reads m c t) a b).trans ?_
  rw [scale, coeffs, funext fun k => tile_y m c t a k]
  rfl

/-- The array the call leaves for the gradient in the scale. -/
theorem arrG : (dats m 0 c).arrAt 18 cfg0.N = outG (x m c) (w m c) (d m c) := by
  refine (dats m 0 c).arrAt_eq_of_covers 18 _ (by decide +kernel) fun t hf z => ?_
  have ht : t.val = 31 := by
    have := (flush0_18 t).mp hf
    have := lt t
    omega
  blk_simp
  rw [after0_18]
  obtain ⟨z, b, rfl⟩ : ∃ (a : Fin 1) (b : Fin 1024), z = ix2 a b := ⟨z 0, z 1, eq_ix2 z⟩
  obtain rfl : z = 0 := Subsingleton.elim _ _
  have e := (wholes t).2.2.1
  have he : (win0_18.blk t).view.emb (ix2 0 b) = ix2 (0 : Fin 1) b := by
    refine (eq_ix2 ((win0_18.blk t).view.emb (ix2 0 b))).trans (congrArg₂ ix2 (Fin.ext ?_) (Fin.ext ?_)) <;> blk_simp [e] <;> rfl
  refine (foldG m c b t.val t.isLt).trans ?_
  refine Eq.trans ?_ (congrArg (outG (x m c) (w m c) (d m c)) he).symm
  obtain ⟨n, hn⟩ := t
  obtain rfl : n = 31 := ht
  refine (Finset.sum_congr rfl fun s _ => addG_eq m c _ b).trans ?_
  exact (Cert.Tiles.sum_blocks 32 256 (fun r : Fin 8192 => dg (rowsOf (x m c) r.val) (Mix.grad (w m c) (d m c) r.val) b)).symm

/-- The array the call leaves for the gradient in the coefficients. -/
theorem arrM : (dats m 0 c).arrAt 19 cfg0.N = outM (x m c) (g m c) (d m c) := by
  refine (dats m 0 c).arrAt_eq_of_covers 19 _ (by decide +kernel) fun t hf z => ?_
  have ht : t.val = 31 := by
    have := (flush0_19 t).mp hf
    have := lt t
    omega
  blk_simp
  rw [after0_19]
  obtain ⟨a, b, rfl⟩ : ∃ (a : Fin 8) (b : Fin 1024), z = ix2 a b := ⟨z 0, z 1, eq_ix2 z⟩
  have e := (wholes t).2.2.2
  have he : (win0_19.blk t).view.emb (ix2 a b) = ix2 a b := by
    refine (eq_ix2 ((win0_19.blk t).view.emb (ix2 a b))).trans (congrArg₂ ix2 (Fin.ext ?_) (Fin.ext ?_)) <;> blk_simp [e] <;> rfl
  refine (foldM m c a b t.val t.isLt).trans ?_
  refine Eq.trans ?_ (congrArg (outM (x m c) (g m c) (d m c)) he).symm
  obtain ⟨n, hn⟩ := t
  obtain rfl : n = 31 := ht
  refine (Finset.sum_congr rfl fun s _ => addM_eq m c _ a b).trans ?_
  show _ = if h : a.val < 6 then _ else _
  by_cases ha : a.val < 6
  · simp only [dif_pos ha]
    exact (Cert.Tiles.sum_blocks 32 256 (fun r : Fin 8192 => rowsOf (d m c ⟨a.val, ha⟩) r.val b * diff (rowsOf (x m c)) (fun k => g m c (ix1 k)) b r.val)).symm
  · simp only [dif_neg ha]
    exact Finset.sum_const_zero

end Cert.RwkvMixBwdIdeal.Value
-- ==== Proof.RwkvMixBwdRef.lean ====
/-
  The reference of the time mixing's gradient, row by row, and that it leaves what the kernel leaves.
-/
module

public import proofs.«01_k».proof.Proof.RwkvMixBwdValue
public import proofs.«01_k».proof.Proof.FfnActBwdRef
public import proofs.«01_k».proof.Proof.Gen.RwkvMixBwdRefIdeal.Run

@[expose] public section

set_option maxRecDepth 16384

noncomputable section

namespace Cert.Mix
open Idealize.ShloMosaic Cert.Gate Cert.RmsNorm

/-- The six terms in the other order. -/
theorem six_rev (f : Fin 6 → EReal) : f 5 + f 4 + f 3 + f 2 + f 1 + f 0 = six f := by
  unfold six
  ac_rfl

/-- On numbers the six cotangents, less their weighted sum, are weighted by what the coefficients leave. -/
theorem six_sub {w d : Fin 6 → EReal} (hw : ∀ i, IsReal (w i)) (hd : ∀ i, IsReal (d i)) :
    d 5 + d 4 + d 3 + d 2 + d 1 + d 0 + -(six fun i => d i * w i) = six fun i => d i * (1 - w i) := by
  choose v hv using hw
  choose e he using hd
  unfold six
  simp only [hv, he, ← EReal.coe_one]
  norm_cast
  ring

/-- One of six rows, each with zeros in the others' places. -/
theorem pick (a : Fin 6) (f : Fin 6 → EReal) :
    (if a.val = 5 then f 5 else 0) + (if a.val = 4 then f 4 else 0) + (if a.val = 3 then f 3 else 0) + (if a.val = 2 then f 2 else 0)
      + (if a.val = 1 then f 1 else 0) + (if a.val = 0 then f 0 else 0) = f a := by
  match a with
  | 0 => simp
  | 1 => simp
  | 2 => simp
  | 3 => simp
  | 4 => simp
  | 5 => simp

end Cert.Mix

namespace Cert.RwkvMixBwdRefIdeal.Value
open Cert.RwkvMixBwdRefIdeal Cert.RwkvMixBwdRefIdeal.Gen Idealize.ShloMosaic Idealize.ShloMosaic.TcCoe Idealize.SL.Sem Idealize.ShloMosaic.StableHlo Cert.Gate Cert.RmsNorm Cert.Mix

variable (V0 : Valuation τ sig (Elt Ideal))

/-- The arrays the reference is given. -/
abbrev x : S8192x1024.Idx → EReal := V0 (Proc.devRef .tc main_arg0)

@[inherit_doc x]
abbrev g : S1024.Idx → EReal := V0 (Proc.devRef .tc main_arg1)

@[inherit_doc x]
abbrev w : S6x1024.Idx → EReal := V0 (Proc.devRef .tc main_arg2)

@[inherit_doc x]
abbrev d : Fin 6 → S8192x1024.Idx → EReal := ![V0 (Proc.devRef .tc main_arg3), V0 (Proc.devRef .tc main_arg4), V0 (Proc.devRef .tc main_arg5),
  V0 (Proc.devRef .tc main_arg6), V0 (Proc.devRef .tc main_arg7), V0 (Proc.devRef .tc main_arg8)]

@[inherit_doc x]
abbrev y : S8192x1024.Idx → EReal := V0 (Proc.devRef .tc main_arg9)

variable (q : Fin 4) (p : Fin 2048) (j : Fin 1024)

/-- A sequence's row of an array. -/
theorem split (v : FVec Ideal S8192x1024 .f32) : (shapeCast S4x2048x1024 v shapeCasts_S8192x1024_S4x2048x1024 : FVec Ideal S4x2048x1024 .f32) (ix3 q p j)
    = rowsOf v (q.val * 2048 + p.val) j := by
  pointwise
  exact (col_eq v j _ (by omega)).symm

theorem x_eq : res_main_v0 V0 (ix3 q p j) = rowsOf (x V0) (q.val * 2048 + p.val) j := split q p j _

/-- The mean square and the factor of a row. -/
theorem den_eq : res_main_v7 V0 (ix3 q p 0) = den (rowsOf (x V0) (q.val * 2048 + p.val)) := by
  unfold res_main_v7
  pointwise
  simp only [x_eq]
  rfl

@[inherit_doc den_eq]
theorem inv_eq : res_main_v8 V0 (ix3 q p 0) = inv (rowsOf (x V0) (q.val * 2048 + p.val)) := by
  unfold res_main_v8
  pointwise
  rw [den_eq]
  rfl

/-- The row without its scale, and with it. -/
theorem unit_eq : res_main_v13 V0 (ix3 q p j) = rowsOf (x V0) (q.val * 2048 + p.val) j * inv (rowsOf (x V0) (q.val * 2048 + p.val)) := by
  unfold res_main_v13
  pointwise
  rw [x_eq, inv_eq]

theorem scale_eq : res_main_v14 V0 (ix3 0 0 j) = g V0 (ix1 j) := by
  unfold res_main_v14
  pointwise

@[inherit_doc unit_eq]
theorem hid_eq : res_main_v16 V0 (ix3 q p j) = hid (rowsOf (x V0)) (fun k => g V0 (ix1 k)) j (q.val * 2048 + p.val) := by
  unfold res_main_v16
  pointwise
  rw [unit_eq, scale_eq]
  rfl

/-- The step before minus the step. -/
theorem diff_eq : res_main_v21 V0 (ix3 q p j) = diff (rowsOf (x V0)) (fun k => g V0 (ix1 k)) j (q.val * 2048 + p.val) := by
  have e : (q.val * 2048 + p.val) % 2048 = p.val := by omega
  unfold res_main_v21
  pointwise
  rw [hid_eq]
  unfold diff back
  rw [e]
  refine congrArg (fun z : EReal => z - _) ?_
  by_cases hp : p.val < 1
  · rw [dif_pos hp, if_neg (by omega)]
  · rw [dif_neg hp]
    refine (hid_eq V0 q ⟨p.val - 1, by omega⟩ j).trans ((congrArg _ ?_).trans (if_pos (by omega)).symm)
    show q.val * 2048 + (p.val - 1) = _
    omega

/-- The cotangents. -/
theorem d0_eq : res_main_v121 V0 (ix3 q p j) = rowsOf (d V0 0) (q.val * 2048 + p.val) j := split q p j _

@[inherit_doc d0_eq]
theorem d1_eq : res_main_v109 V0 (ix3 q p j) = rowsOf (d V0 1) (q.val * 2048 + p.val) j := split q p j _

@[inherit_doc d0_eq]
theorem d2_eq : res_main_v97 V0 (ix3 q p j) = rowsOf (d V0 2) (q.val * 2048 + p.val) j := split q p j _

@[inherit_doc d0_eq]
theorem d3_eq : res_main_v85 V0 (ix3 q p j) = rowsOf (d V0 3) (q.val * 2048 + p.val) j := split q p j _

@[inherit_doc d0_eq]
theorem d4_eq : res_main_v73 V0 (ix3 q p j) = rowsOf (d V0 4) (q.val * 2048 + p.val) j := split q p j _

@[inherit_doc d0_eq]
theorem d5_eq : res_main_v64 V0 (ix3 q p j) = rowsOf (d V0 5) (q.val * 2048 + p.val) j := split q p j _

/-- What the step before is handed. -/
theorem low_eq : res_main_v128 V0 (ix3 q p j) = low (fun i k => w V0 (ix2 i k)) (fun i => rowsOf (d V0 i)) j (q.val * 2048 + p.val) := by
  unfold res_main_v128 res_main_v59 res_main_v52 res_main_v45 res_main_v38 res_main_v31 res_main_v24
  pointwise
  rw [d0_eq, d1_eq, d2_eq, d3_eq, d4_eq, d5_eq]
  exact six_rev fun i => rowsOf (d V0 i) (q.val * 2048 + p.val) j * w V0 (ix2 i j)

/-- The next row of the same sequence, and zeros after the last. -/
theorem next_eq (v : FVec Ideal S4x2048x1024 .f32) (f : ℕ → EReal) (hv : ∀ p : Fin 2048, v (ix3 q p j) = f (q.val * 2048 + p.val)) :
    pad S4x2048x1024 ![0, 0, 0] ![0, 1, 0] ![0, 0, 0] (extractStridedSlice S4x2047x1024 ![0, 1, 0] v slices_S4x2048x1024_S4x2047x1024_0_1_0)
      (constant S_ .f32 0x00000000#32) pads_S4x2047x1024_S4x2048x1024_000_010_000 h_S_ (ix3 q p j) = ahead f 1 (q.val * 2048 + p.val) := by
  have e : (q.val * 2048 + p.val) % 2048 = p.val := by omega
  unfold ahead
  rw [e]
  by_cases h : p.val + 1 < 2048
  · rw [if_pos h]
    refine (pad_in _ _ _ (by decide) _ _ _ _ _ (ix3 q (⟨p.val, by omega⟩ : Fin 2047) j) fun a => ?_).trans ?_
    · match a with
      | ⟨0, _⟩ => exact (Nat.zero_add _).symm
      | ⟨1, _⟩ => exact (Nat.zero_add _).symm
      | ⟨2, _⟩ => exact (Nat.zero_add _).symm
    · pointwise
      rw [hv]
      exact congrArg f (by simp only []; omega)
  · rw [if_neg h]
    refine (pad_out _ _ _ (by decide) _ _ _ _ _ (1 : Fin 3) (Or.inr ?_)).trans ?_
    · show 0 + 2047 ≤ p.val
      omega
    · pointwise

variable (hw : ∀ i, IsReal (w V0 i)) (hd : ∀ n i, IsReal (d V0 n i))

include hw hd in
/-- What the step keeps. -/
theorem high_eq : addf (addf (addf (addf (addf (addf (res_main_v64 V0) (res_main_v73 V0)) (res_main_v85 V0)) (res_main_v97 V0)) (res_main_v109 V0)) (res_main_v121 V0)) (Host.negf (res_main_v128 V0)) (ix3 q p j)
    = high (fun i k => w V0 (ix2 i k)) (fun i => rowsOf (d V0 i)) j (q.val * 2048 + p.val) := by
  pointwise
  rw [low_eq, d0_eq, d1_eq, d2_eq, d3_eq, d4_eq, d5_eq]
  exact six_sub (w := fun i => w V0 (ix2 i j)) (d := fun i => rowsOf (d V0 i) (q.val * 2048 + p.val) j) (fun i => hw _) fun i => IsReal.col (hd i) j _

include hw hd in
/-- The cotangent of the normed stream. -/
theorem grad_eq : res_main_v138 V0 (ix3 q p j) = grad (w V0) (d V0) (q.val * 2048 + p.val) j := by
  have s : ∀ u v : FVec Ideal S4x2048x1024 .f32, addf u v (ix3 q p j) = u (ix3 q p j) + v (ix3 q p j) := fun u v => rfl
  unfold res_main_v138
  rw [s, high_eq V0 q p j hw hd, next_eq q p j _ _ fun p => low_eq V0 q p j]
  unfold grad dh
  rfl

include hw hd in
/-- The cotangent times the scale. -/
theorem scaled_eq : res_main_v143 V0 (ix3 q p j) = grad (w V0) (d V0) (q.val * 2048 + p.val) j * g V0 (ix1 j) := by
  unfold res_main_v143
  pointwise
  rw [grad_eq V0 q p j hw hd, scale_eq]

include hw hd in
/-- The cotangent of the mean square, spread over the row. -/
theorem coef_eq : res_main_v154 V0 (ix3 q p j)
    = coef (rowsOf (x V0) (q.val * 2048 + p.val)) (fun k => g V0 (ix1 k)) (grad (w V0) (d V0) (q.val * 2048 + p.val)) := by
  unfold res_main_v154
  pointwise
  simp only [Ideal.ofBits_zero_f32, zero_add, Fin.sum_univ_one, x_eq, scaled_eq V0 _ _ _ hw hd, inv_eq, den_eq]
  rfl

include hw hd in
/-- The reference's gradient in the stream. -/
theorem resX : addf (V0 (Proc.devRef .tc main_arg9)) (shapeCast _ (addf (addf (mulf (res_main_v143 V0) (broadcastInDim S4x2048x1024 ![0, 1, 2] bcast_S4x2048x1_S4x2048x1024_0_1_2 (res_main_v8 V0))) (mulf (res_main_v0 V0) (res_main_v154 V0))) (mulf (res_main_v154 V0) (res_main_v0 V0))) shapeCasts_S4x2048x1024_S8192x1024)
    = outX (x V0) (g V0) (w V0) (d V0) (y V0) := by
  funext i
  obtain ⟨r, k, rfl⟩ : ∃ (r : Fin 8192) (k : Fin 1024), i = ix2 r k := ⟨i 0, i 1, eq_ix2 i⟩
  have e : r.val / 2048 * 2048 + r.val % 2048 = r.val := by omega
  pointwise
  rw [scaled_eq V0 _ _ _ hw hd, coef_eq V0 _ _ _ hw hd, inv_eq, x_eq]
  simp only [e]
  exact (add_comm _ _).trans (congrArg (fun z : EReal => _ + z) (col_eq (y V0) k r.val r.isLt).symm)

/-- The sum over all rows. -/
def total (v : FVec Ideal S4x2048x1024 .f32) : FVec Ideal S1024 .f32 :=
  Host.reduceAdd (shapeCast _ (Host.reduceAdd v (constant S_ .f32 0x00000000#32) reducesTo_S4x2048x1024_S1024_d0_1 h_S_) shapeCasts_S1024_S1x1x1024) (constant S_ .f32 0x00000000#32) reducesTo_S1x1x1024_S1024_d0_1 h_S_

theorem total_apply (v : FVec Ideal S4x2048x1024 .f32) (f : ℕ → EReal) (hv : ∀ (q : Fin 4) (p : Fin 2048), v (ix3 q p j) = f (q.val * 2048 + p.val)) :
    total v (ix1 j) = ∑ r : Fin 8192, f r.val := by
  unfold total
  pointwise
  refine (sum_lead _ _ _ _).trans ?_
  rw [zero_add, Fin.sum_univ_one, Fin.sum_univ_one]
  pointwise
  refine (sum_lead _ _ _ _).trans ?_
  rw [zero_add, ← sum_rows]
  exact Finset.sum_congr rfl fun q _ => Finset.sum_congr rfl fun p _ => hv q p

include hw hd in
/-- The reference's gradient in the scale. -/
theorem resG : shapeCast _ (total (mulf (res_main_v13 V0) (res_main_v138 V0))) shapeCasts_S1024_S1x1024 = outG (x V0) (w V0) (d V0) := by
  have h : ∀ (v : FVec Ideal S1024 .f32) (z : Fin 1) (j : Fin 1024), shapeCast S1x1024 v shapeCasts_S1024_S1x1024 (ix2 z j) = v (ix1 j) := by
    intro v z j
    pointwise
  funext i
  obtain ⟨z, j, rfl⟩ : ∃ (z : Fin 1) (j : Fin 1024), i = ix2 z j := ⟨i 0, i 1, eq_ix2 i⟩
  exact (h _ z j).trans (total_apply j _ (fun r => dg (rowsOf (x V0) r) (grad (w V0) (d V0) r) j) fun q p =>
    congrArg₂ (fun u v : EReal => u * v) (unit_eq V0 q p j) (grad_eq V0 q p j hw hd))

/-- Six rows above two rows of zeros. -/
theorem above (v : FVec Ideal S6x1024 .f32) (a : Fin 8) :
    concatenate S8x1024 0 [⟨S6x1024, v⟩, ⟨S2x1024, (broadcastInDim S2x1024 ![] bcast_S_S2x1024 (constant S_ .f32 0x00000000#32))⟩] concatenates_S6x1024_S2x1024_S8x1024_d0 (ix2 a j)
      = if h : a.val < 6 then v (ix2 ⟨a.val, h⟩ j) else 0 := by
  pointwise

/-- The sum of products with the difference, as one row among six. -/
theorem onRow (lo hi : ℕ) (hp : S1x1024.Pads ![lo, 0] ![hi, 0] ![0, 0] S6x1024) (v : FVec Ideal S4x2048x1024 .f32) (f : ℕ → Fin 1024 → EReal)
    (hv : ∀ (q : Fin 4) (p : Fin 2048), v (ix3 q p j) = f (q.val * 2048 + p.val) j) (a : Fin 6) :
    pad S6x1024 ![lo, 0] ![hi, 0] ![0, 0] (broadcastInDim S1x1024 ![1] bcast_S1024_S1x1024_1 (total (mulf (res_main_v21 V0) v))) (constant S_ .f32 0x00000000#32) hp h_S_ (ix2 a j)
      = if a.val = lo then ∑ r : Fin 8192, f r.val j * diff (rowsOf (x V0)) (fun k => g V0 (ix1 k)) j r.val else 0 := by
  by_cases h : a.val = lo
  · rw [if_pos h]
    refine (pad_in _ _ _ (by decide) _ _ _ _ _ (ix2 (0 : Fin 1) j) fun b => ?_).trans ?_
    · match b with
      | ⟨0, _⟩ => exact h
      | ⟨1, _⟩ => exact (Nat.zero_add _).symm
    · pointwise
      refine total_apply j _ (fun r => f r j * diff (rowsOf (x V0)) (fun k => g V0 (ix1 k)) j r) fun q p => ?_
      exact (congrArg₂ (fun u v : EReal => u * v) (diff_eq V0 q p j) (hv q p)).trans (mul_comm _ _)
  · rw [if_neg h]
    refine (pad_out _ _ _ (by decide) _ _ _ _ _ (0 : Fin 2) ?_).trans ?_
    · show a.val < lo ∨ lo + 1 ≤ a.val
      omega
    · pointwise

/-- The reference's gradient in the coefficients. -/
theorem resM : concatenate S8x1024 0 [⟨S6x1024, (addf (addf (addf (addf (addf (pad S6x1024 ![5, 0] ![0, 0] ![0, 0] (broadcastInDim S1x1024 ![1] bcast_S1024_S1x1024_1 (total (mulf (res_main_v21 V0) (res_main_v64 V0)))) (constant S_ .f32 0x00000000#32) pads_S1x1024_S6x1024_500_000 h_S_) (pad S6x1024 ![4, 0] ![1, 0] ![0, 0] (broadcastInDim S1x1024 ![1] bcast_S1024_S1x1024_1 (total (mulf (res_main_v21 V0) (res_main_v73 V0)))) (constant S_ .f32 0x00000000#32) pads_S1x1024_S6x1024_410_000 h_S_)) (pad S6x1024 ![3, 0] ![2, 0] ![0, 0] (broadcastInDim S1x1024 ![1] bcast_S1024_S1x1024_1 (total (mulf (res_main_v21 V0) (res_main_v85 V0)))) (constant S_ .f32 0x00000000#32) pads_S1x1024_S6x1024_320_000 h_S_)) (pad S6x1024 ![2, 0] ![3, 0] ![0, 0] (broadcastInDim S1x1024 ![1] bcast_S1024_S1x1024_1 (total (mulf (res_main_v21 V0) (res_main_v97 V0)))) (constant S_ .f32 0x00000000#32) pads_S1x1024_S6x1024_230_000 h_S_)) (pad S6x1024 ![1, 0] ![4, 0] ![0, 0] (broadcastInDim S1x1024 ![1] bcast_S1024_S1x1024_1 (total (mulf (res_main_v21 V0) (res_main_v109 V0)))) (constant S_ .f32 0x00000000#32) pads_S1x1024_S6x1024_140_000 h_S_)) (pad S6x1024 ![0, 0] ![5, 0] ![0, 0] (broadcastInDim S1x1024 ![1] bcast_S1024_S1x1024_1 (total (mulf (res_main_v21 V0) (res_main_v121 V0)))) (constant S_ .f32 0x00000000#32) pads_S1x1024_S6x1024_050_000 h_S_))⟩, ⟨S2x1024, (broadcastInDim S2x1024 ![] bcast_S_S2x1024 (constant S_ .f32 0x00000000#32))⟩] concatenates_S6x1024_S2x1024_S8x1024_d0
    = outM (x V0) (g V0) (d V0) := by
  funext i
  obtain ⟨a, j, rfl⟩ : ∃ (a : Fin 8) (j : Fin 1024), i = ix2 a j := ⟨i 0, i 1, eq_ix2 i⟩
  refine (above j _ a).trans ?_
  show _ = if h : a.val < 6 then _ else _
  by_cases ha : a.val < 6
  · rw [dif_pos ha, dif_pos ha]
    have s := fun u v u' v' : EReal => congrArg₂ (fun a b : EReal => a + b) (x := u) (x' := u') (y := v) (y' := v')
    refine (s _ _ _ _ (s _ _ _ _ (s _ _ _ _ (s _ _ _ _ (s _ _ _ _ (onRow V0 j 5 0 _ _ _ (fun q p => d5_eq V0 q p j) ⟨a.val, ha⟩)
      (onRow V0 j 4 1 _ _ _ (fun q p => d4_eq V0 q p j) ⟨a.val, ha⟩)) (onRow V0 j 3 2 _ _ _ (fun q p => d3_eq V0 q p j) ⟨a.val, ha⟩))
      (onRow V0 j 2 3 _ _ _ (fun q p => d2_eq V0 q p j) ⟨a.val, ha⟩)) (onRow V0 j 1 4 _ _ _ (fun q p => d1_eq V0 q p j) ⟨a.val, ha⟩))
      (onRow V0 j 0 5 _ _ _ (fun q p => d0_eq V0 q p j) ⟨a.val, ha⟩)).trans ?_
    exact pick ⟨a.val, ha⟩ fun n => ∑ r : Fin 8192, rowsOf (d V0 n) r.val j * diff (rowsOf (x V0)) (fun k => g V0 (ix1 k)) j r.val
  · rw [dif_neg ha, dif_neg ha]

end Cert.RwkvMixBwdRefIdeal.Value

namespace Cert.Pre_finite_shift.Gate
open Idealize.ShloMosaic Idealize.ShloMosaic.TcCoe Idealize.SL.Sem Cert.Gate

theorem facts : Cert.Pre_finite_shift.Facts := ⟨by decide, by decide⟩

attribute [local instance] facts

/-- The precondition says of the coefficients and the six cotangents that they consist of numbers. -/
theorem args (m : (ℓ : Loc Cert.RwkvMixBwdIdeal.nD Cert.RwkvMixBwdIdeal.τ Cert.RwkvMixBwdIdeal.sig) → Buf (Elt Ideal) ℓ)
    (h : Cert.Pre_RwkvMixBwdIdeal_finite_shift m) (c : Dev Cert.RwkvMixBwdIdeal.nD) :
    (∀ i, IsReal (Cert.RwkvMixBwdIdeal.Value.w m c i)) ∧ ∀ n i, IsReal (Cert.RwkvMixBwdIdeal.Value.d m c n i) := by
  obtain ⟨h0, h1, h2, h3, h4, h5, h6⟩ := h c
  refine ⟨Cert.Pre_finite_act.Gate.numbers _ _ h0, fun n => ?_⟩
  match n with
  | 0 => exact Cert.Pre_finite_act.Gate.numbers _ _ h1
  | 1 => exact Cert.Pre_finite_act.Gate.numbers _ _ h2
  | 2 => exact Cert.Pre_finite_act.Gate.numbers _ _ h3
  | 3 => exact Cert.Pre_finite_act.Gate.numbers _ _ h4
  | 4 => exact Cert.Pre_finite_act.Gate.numbers _ _ h5
  | 5 => exact Cert.Pre_finite_act.Gate.numbers _ _ h6

end Cert.Pre_finite_shift.Gate

namespace Cert.Proof
open Idealize.ShloMosaic Idealize.ShloMosaic.TcCoe Idealize.ShloMosaic.StableHlo Idealize.SL.Sem Cert.Mix

/-- Kernel and reference leave the same arrays. -/
theorem rwkvMixBwd : @Cert.algebraic_RwkvMixBwdIdeal_RwkvMixBwdRefIdeal_pre_finite_shift Cert.RwkvMixBwdIdeal.Gen.facts Cert.RwkvMixBwdRefIdeal.Gen.facts
    Cert.Pre_finite_shift.Gate.facts := by
  unfold Cert.algebraic_RwkvMixBwdIdeal_RwkvMixBwdRefIdeal_pre_finite_shift
  intro m g m' g' hp hargs
  refine ⟨fun c => outX (Cert.RwkvMixBwdIdeal.Value.x m c) (Cert.RwkvMixBwdIdeal.Value.g m c) (Cert.RwkvMixBwdIdeal.Value.w m c)
      (Cert.RwkvMixBwdIdeal.Value.d m c) (Cert.RwkvMixBwdIdeal.Value.y m c),
    fun c => outG (Cert.RwkvMixBwdIdeal.Value.x m c) (Cert.RwkvMixBwdIdeal.Value.w m c) (Cert.RwkvMixBwdIdeal.Value.d m c),
    fun c => outM (Cert.RwkvMixBwdIdeal.Value.x m c) (Cert.RwkvMixBwdIdeal.Value.g m c) (Cert.RwkvMixBwdIdeal.Value.d m c),
    (θ_run _ _ _).mono (fun r h c => ?_) (Cert.RwkvMixBwdIdeal.Value.run_blocks m g),
    (θ_run _ _ _).mono (fun r h c => ?_) (Cert.RwkvMixBwdRefIdeal.Value.run m' g')⟩
  · exact ⟨(h c).1.trans (Cert.RwkvMixBwdIdeal.Value.arrX m c), (h c).2.1.trans (Cert.RwkvMixBwdIdeal.Value.arrG m c),
      (h c).2.2.1.trans (Cert.RwkvMixBwdIdeal.Value.arrM m c), (h c).2.2.2⟩
  · obtain ⟨hw, hd⟩ := Cert.Pre_finite_shift.Gate.args m hp c
    obtain ⟨ex, eg, ew, e0, e1, e2, e3, e4, e5, ey⟩ := hargs c
    have hx : Cert.RwkvMixBwdRefIdeal.Value.x (launchContents m' c) = Cert.RwkvMixBwdIdeal.Value.x m c := ex
    have hg : Cert.RwkvMixBwdRefIdeal.Value.g (launchContents m' c) = Cert.RwkvMixBwdIdeal.Value.g m c := eg
    have hw' : Cert.RwkvMixBwdRefIdeal.Value.w (launchContents m' c) = Cert.RwkvMixBwdIdeal.Value.w m c := ew
    have hy : Cert.RwkvMixBwdRefIdeal.Value.y (launchContents m' c) = Cert.RwkvMixBwdIdeal.Value.y m c := ey
    have hd' : Cert.RwkvMixBwdRefIdeal.Value.d (launchContents m' c) = Cert.RwkvMixBwdIdeal.Value.d m c := by
      funext n
      match n with
      | 0 => exact e0
      | 1 => exact e1
      | 2 => exact e2
      | 3 => exact e3
      | 4 => exact e4
      | 5 => exact e5
    have rw' : ∀ i, Cert.Gate.IsReal (Cert.RwkvMixBwdRefIdeal.Value.w (launchContents m' c) i) := hw' ▸ hw
    have rd : ∀ n i, Cert.Gate.IsReal (Cert.RwkvMixBwdRefIdeal.Value.d (launchContents m' c) n i) := hd' ▸ hd
    refine ⟨(h c).1.trans ((Cert.RwkvMixBwdRefIdeal.Value.resX _ rw' rd).trans ?_), (h c).2.1.trans ((Cert.RwkvMixBwdRefIdeal.Value.resG _ rw' rd).trans ?_),
      (h c).2.2.1.trans ((Cert.RwkvMixBwdRefIdeal.Value.resM _).trans ?_), (h c).2.2.2⟩
    · rw [hx, hg, hw', hd', hy]
    · rw [hx, hw', hd']
    · rw [hx, hg, hd']

/-- The reference's frame: it leaves its arguments alone and has no semaphore. -/
theorem frame_RwkvMixBwdRef : @Cert.quiescent_RwkvMixBwdRefIdeal Cert.RwkvMixBwdRefIdeal.Gen.facts := by
  intro m g _
  refine (θ_run _ _ _).mono (fun r h => ⟨fun c => (h c).2.2.2, funext fun s => ?_⟩) (Cert.RwkvMixBwdRefIdeal.Value.run m g)
  exact ((by decide : ∀ sm : SemLoc Cert.RwkvMixBwdRefIdeal.sig, False) s.2).elim

end Cert.Proof
-- ==== Proof.Heads.lean ====
/-
  Sums over the sixty-four channels of a head, the norm of a head and its gradient, at real numbers.
-/
module

public import Idealize.ShloMosaic.Lib.Pointwise

@[expose] public section

noncomputable section

namespace Cert.Heads
open Idealize.ShloMosaic

/-- The sum over the channels of the head that channel `b` belongs to. -/
def hs (f : Fin 1024 → ℝ) (b : Fin 1024) : ℝ := ∑ k : Fin 1024, if k.val / 64 = b.val / 64 then f k else 0

/-- What is added to the variance. -/
def eps : ℝ := 10995116 * (2 ^ 34)⁻¹

theorem eps_pos : 0 < eps := by unfold eps; norm_num

theorem hs_nonneg {f : Fin 1024 → ℝ} (hf : ∀ k, 0 ≤ f k) (b : Fin 1024) : 0 ≤ hs f b :=
  Finset.sum_nonneg fun k _ => by split_ifs; exacts [hf k, le_refl 0]

/-- A factor that is the same in every channel of a head leaves the sum. -/
theorem hs_mul (c f : Fin 1024 → ℝ) (b : Fin 1024) (hc : ∀ k : Fin 1024, k.val / 64 = b.val / 64 → c k = c b) :
    hs (fun k => f k * c k) b = hs f b * c b := by
  unfold hs
  rw [Finset.sum_mul]
  refine Finset.sum_congr rfl fun k _ => ?_
  by_cases h : k.val / 64 = b.val / 64
  · rw [if_pos h, if_pos h, ← hc k h]
  · rw [if_neg h, if_neg h, zero_mul]

theorem hs_const (f : Fin 1024 → ℝ) (b k : Fin 1024) (h : k.val / 64 = b.val / 64) : hs f k = hs f b := by
  unfold hs
  rw [h]

/-- One row of the arguments. -/
structure Row where
  y : Fin 1024 → ℝ
  r : Fin 1024 → ℝ
  k : Fin 1024 → ℝ
  v : Fin 1024 → ℝ
  g : Fin 1024 → ℝ
  z : Fin 1024 → ℝ
  lw : Fin 1024 → ℝ
  lb : Fin 1024 → ℝ
  rk : Fin 1024 → ℝ

namespace Row
variable (A : Row) (b : Fin 1024)

/-- The row minus its head's mean. -/
def cen : ℝ := A.y b - hs A.y b * (1 / 64)

/-- The head's variance. -/
def var : ℝ := hs (fun k => A.cen k * A.cen k) b * (1 / 64) + eps

/-- The factor of the norm. -/
def rs : ℝ := (√(A.var b))⁻¹

/-- The derivative of the factor in the variance. -/
def sl : ℝ := -(1 / 2) * (A.rs b * (1 / A.var b))

/-- The bonus: the head's product of receptance, key and weight. -/
def bon : ℝ := hs (fun k => A.r k * A.k k * A.rk k) b

/-- The cotangent before the gate. -/
def up : ℝ := A.z b * A.g b

/-- The cotangent of the bonus. -/
def hv : ℝ := hs (fun k => A.up k * A.v k) b

/-- The cotangent of the variance, shared by the channels of the head. -/
def cv : ℝ := hs (fun k => A.cen k * (A.up k * A.lw k) * A.sl k * (1 / 64)) b

/-- The cotangent of the centred row. -/
def core : ℝ := A.up b * A.lw b * A.rs b + A.cen b * A.cv b + A.cv b * A.cen b

/-- The gradients. -/
def dy : ℝ := A.core b + hs (fun k => (0 - A.core k) * (1 / 64)) b

@[inherit_doc dy]
def dr : ℝ := A.hv b * A.rk b * A.k b

@[inherit_doc dy]
def dk : ℝ := A.r b * (A.hv b * A.rk b)

@[inherit_doc dy]
def dv : ℝ := A.bon b * A.up b

@[inherit_doc dy]
def dgate : ℝ := (A.cen b * A.rs b * A.lw b + A.lb b + A.bon b * A.v b) * A.z b

@[inherit_doc dy]
def dlw : ℝ := A.cen b * A.rs b * A.up b

@[inherit_doc dy]
def drk : ℝ := A.r b * A.k b * A.hv b

theorem var_pos : 0 < A.var b :=
  add_pos_of_nonneg_of_pos (mul_nonneg (hs_nonneg (fun k => mul_self_nonneg _) b) (by norm_num)) eps_pos

end Row

/-- The constants of the programs. -/
theorem lit_inv64 : Ideal.ofBits .f32 0x3C800000#32 = (((1 : ℝ) / 64 : ℝ) : EReal) := by
  simp [Ideal.ofBits, Ideal.ieee, -EReal.coe_mul]; norm_num

@[inherit_doc lit_inv64]
theorem lit_64 : Ideal.ofBits .f32 0x42800000#32 = ((64 : ℝ) : EReal) := by
  simp [Ideal.ofBits, Ideal.ieee, -EReal.coe_mul]; norm_num

@[inherit_doc lit_inv64]
theorem lit_two : Ideal.ofBits .f32 0x40000000#32 = ((2 : ℝ) : EReal) := by
  simp [Ideal.ofBits, Ideal.ieee, -EReal.coe_mul]; norm_num

@[inherit_doc lit_inv64]
theorem lit_half : Ideal.ofBits .f32 0xBF000000#32 = ((-(1 / 2) : ℝ) : EReal) := by
  simp [Ideal.ofBits, Ideal.ieee, -EReal.coe_mul, -EReal.coe_neg]; norm_num

@[inherit_doc lit_inv64]
theorem lit_eps : Ideal.ofBits .f32 0x3A27C5AC#32 = ((eps : ℝ) : EReal) := by
  unfold eps
  simp [Ideal.ofBits, Ideal.ieee, -EReal.coe_mul]

/-- A sum of real numbers. -/
theorem coe_sum {n : ℕ} (u : Fin n → EReal) (s : Fin n → ℝ) (h : ∀ k, u k = (s k : EReal)) : ∑ k, u k = ((∑ k, s k : ℝ) : EReal) := by
  rw [Finset.sum_congr rfl fun k _ => h k]
  exact (map_sum (⟨⟨Real.toEReal, rfl⟩, fun _ _ => EReal.coe_add _ _⟩ : ℝ →+ EReal) s Finset.univ).symm

/-- The two halves of a sum: a number, and what the rounding of it loses, which is nothing. -/
theorem halves {n : ℕ} (z : Fin n → EReal) (f : Fin n → ℝ) (hz : ∀ k, z k = (f k : EReal)) (u v : Fin n → EReal) (p : Fin n → Prop)
    [DecidablePred p] (hu : ∀ k, u k = if p k then 1 else 0) :
    ∑ k, z k * u k + ∑ k, (z k - z k) * v k = ((∑ k, if p k then f k else 0 : ℝ) : EReal) := by
  rw [Finset.sum_eq_zero (f := fun k => (z k - z k) * v k) fun k _ => by simp only [hz, ← EReal.coe_sub, sub_self, EReal.coe_zero, zero_mul], add_zero]
  refine coe_sum _ _ fun k => ?_
  rw [hz, hu]
  split_ifs <;> simp

/-- The head of a channel is one of the hundred and twenty-eight places of the summing matrix. -/
theorem gather (f : Fin 1024 → ℝ) (b : Fin 1024) :
    (∑ n : Fin 128, if b.val / 64 = n.val then (∑ k : Fin 1024, if k.val / 64 = n.val then f k else 0) else 0) = hs f b := by
  have hb : b.val / 64 < 128 := by omega
  rw [Finset.sum_eq_single_of_mem (⟨b.val / 64, hb⟩ : Fin 128) (Finset.mem_univ _) fun n _ hn => if_neg fun h => hn (Fin.ext h.symm), if_pos rfl]
  rfl

end Cert.Heads

end
-- ==== Proof.RwkvPostBwdTile.lean ====
/-
  The gradient of the gated head norm, tile by tile. The kernel sums a head by two products with matrices of zeros and ones,
  each of them given a number and what its rounding loses.
-/
module

public import proofs.«01_k».proof.Defs
public import proofs.«01_k».proof.Proof.Heads
public import Idealize.ShloMosaic.Lib.Pointwise.Select
public import Idealize.ShloMosaic.Lib.Pointwise.Reshape
public import proofs.«01_k».proof.Proof.Gen.RwkvPostBwdIdeal.Value

@[expose] public section

set_option maxRecDepth 16384

noncomputable section

namespace Cert.RwkvPostBwdIdeal.Value

open Cert.RwkvPostBwdIdeal Cert.RwkvPostBwdIdeal.Gen Idealize.ShloMosaic Idealize.ShloMosaic.TcCoe Idealize.SL.Sem Cert.Heads

/-- The sums of the heads, one in each of the hundred and twenty-eight places. -/
def lead (e : FVec Ideal S2048x128 .bf16) (z : FVec Ideal S256x1024 .f32) : FVec Ideal S256x128 .f32 :=
  matmul dot_S256x2048_S2048x128_S256x128_1_0_0_1_n_n none (concatenate S256x2048 1 [⟨S256x1024, truncf .bf16 z bitsLt_bf16_f32⟩,
    ⟨S256x1024, truncf .bf16 (subf z (extf .f32 (truncf .bf16 z bitsLt_bf16_f32) bitsLt_bf16_f32)) bitsLt_bf16_f32⟩]
    concatenates_S256x1024_S256x1024_S256x2048_d1) e (constant S256x128 .f32 0x00000000#32)

/-- The sums of the heads, spread over the channels. -/
def heads (e : FVec Ideal S2048x128 .bf16) (et : FVec Ideal S256x1024 .bf16) (z : FVec Ideal S256x1024 .f32) : FVec Ideal S256x1024 .f32 :=
  matmul dot_S256x256_S256x1024_S256x1024_1_0_0_1_n_n none (concatenate S256x256 1 [⟨S256x128, truncf .bf16 (lead e z) bitsLt_bf16_f32⟩,
    ⟨S256x128, truncf .bf16 (subf (lead e z) (extf .f32 (truncf .bf16 (lead e z) bitsLt_bf16_f32) bitsLt_bf16_f32)) bitsLt_bf16_f32⟩]
    concatenates_S256x128_S256x128_S256x256_d1) et (constant S256x1024 .f32 0x00000000#32)

/-- The matrices of zeros and ones. -/
structure Sums (e : FVec Ideal S2048x128 .bf16) (et : FVec Ideal S256x1024 .bf16) : Prop where
  he : ∀ (k : Fin 2048) (n : Fin 128), e (ix2 k n) = if k.val % 1024 / 64 = n.val then 1 else 0
  het : ∀ (n : Fin 256) (b : Fin 1024), et (ix2 n b) = if b.val / 64 = n.val % 128 then 1 else 0

section
variable {e : FVec Ideal S2048x128 .bf16} {et : FVec Ideal S256x1024 .bf16} (h : Sums e et)
include h

theorem lead_apply (z : FVec Ideal S256x1024 .f32) (a : Fin 256) (f : Fin 1024 → ℝ) (hz : ∀ k, z (ix2 a k) = (f k : EReal)) (n : Fin 128) :
    lead e z (ix2 a n) = ((∑ k : Fin 1024, if k.val / 64 = n.val then f k else 0 : ℝ) : EReal) := by
  unfold lead
  pointwise
  refine halves (fun k => z (ix2 a k)) f hz _ _ (fun k => k.val / 64 = n.val) (fun k => ?_)
  refine (h.he _ n).trans ?_
  have e : k.val % 1024 = k.val := Nat.mod_eq_of_lt k.isLt
  simp only [e]

theorem heads_apply (z : FVec Ideal S256x1024 .f32) (a : Fin 256) (f : Fin 1024 → ℝ) (hz : ∀ k, z (ix2 a k) = (f k : EReal)) (b : Fin 1024) :
    heads e et z (ix2 a b) = ((hs f b : ℝ) : EReal) := by
  rw [← gather]
  unfold heads
  pointwise
  refine halves (fun k => lead e z (ix2 a k)) _ (lead_apply h z a f hz) _ _ (fun k => b.val / 64 = k.val) (fun k => ?_)
  refine (h.het _ b).trans ?_
  have e : k.val % 128 = k.val := Nat.mod_eq_of_lt k.isLt
  simp only [e]

end

section Tile
variable (x0 x1 x2 x3 x4 x5 : Vec Ideal S256x1024 .f32) (x6 x7 x8 : Vec Ideal S1x1024 .f32) (x9 : Vec Ideal S2048x128 .bf16) (x10 : Vec Ideal S256x1024 .bf16)

/-- The tile minus the means of its heads, and the halves of its square. -/
def cT : FVec Ideal S256x1024 .f32 := k0_pay6 x0 x9 x10

@[inherit_doc cT]
def sqT : FVec Ideal S256x2048 .bf16 := k0_pay7 x0 x9 x10

/-- The variance, the factor of the norm and its derivative. -/
def varT : FVec Ideal S256x1024 .f32 := k0_pay8 (k0_pay4 x9) (k0_pay5 x10) (sqT x0 x9 x10)

@[inherit_doc varT]
def rsT : FVec Ideal S256x1024 .f32 := k0_pay9 (k0_pay4 x9) (k0_pay5 x10) (sqT x0 x9 x10)

@[inherit_doc varT]
def slT : FVec Ideal S256x1024 .f32 := k0_pay10 (k0_pay4 x9) (k0_pay5 x10) (sqT x0 x9 x10)

/-- The bonus, and the cotangent of it. -/
def bonT : FVec Ideal S256x1024 .f32 := k0_pay13 x1 x2 (k0_pay3 x8) (k0_pay4 x9) (k0_pay5 x10)

@[inherit_doc bonT]
def hvT : FVec Ideal S256x1024 .f32 := k0_pay20 (k0_pay5 x10) (k0_pay17 x3 x4 (k0_pay4 x9) x5) (k0_pay18 x3 x4 (k0_pay4 x9) x5) (k0_pay19 x3 x4 (k0_pay4 x9) x5)

/-- The cotangent of the tile before the means are taken away. -/
def coreT : FVec Ideal S256x1024 .f32 := k0_pay27 (k0_pay1 x6) (k0_pay4 x9) (k0_pay5 x10) (cT x0 x9 x10) (rsT x0 x9 x10) (slT x0 x9 x10) (k0_pay15 x4 x5)

/-- What the point writes. -/
def tileY : FVec Ideal S256x1024 .f32 := k0_pay30 (k0_pay5 x10) (coreT x0 x4 x5 x6 x9 x10)
  (k0_pay28 (k0_pay1 x6) (k0_pay4 x9) (k0_pay5 x10) (cT x0 x9 x10) (rsT x0 x9 x10) (slT x0 x9 x10) (k0_pay15 x4 x5))
  (k0_pay29 (k0_pay1 x6) (k0_pay4 x9) (k0_pay5 x10) (cT x0 x9 x10) (rsT x0 x9 x10) (slT x0 x9 x10) (k0_pay15 x4 x5))

@[inherit_doc tileY]
def tileR : FVec Ideal S256x1024 .f32 := k0_pay24 x2 (k0_pay3 x8) (k0_pay5 x10) (k0_pay17 x3 x4 (k0_pay4 x9) x5) (k0_pay18 x3 x4 (k0_pay4 x9) x5) (k0_pay19 x3 x4 (k0_pay4 x9) x5)

@[inherit_doc tileY]
def tileK : FVec Ideal S256x1024 .f32 := k0_pay23 x1 (k0_pay3 x8) (k0_pay5 x10) (k0_pay17 x3 x4 (k0_pay4 x9) x5) (k0_pay18 x3 x4 (k0_pay4 x9) x5) (k0_pay19 x3 x4 (k0_pay4 x9) x5)

@[inherit_doc tileY]
def tileV : FVec Ideal S256x1024 .f32 := k0_pay16 x1 x2 x4 (k0_pay3 x8) (k0_pay4 x9) (k0_pay5 x10) x5

@[inherit_doc tileY]
def tileG : FVec Ideal S256x1024 .f32 := k0_pay14 x1 x2 x3 (k0_pay1 x6) (k0_pay2 x7) (k0_pay3 x8) (k0_pay4 x9) (k0_pay5 x10) (cT x0 x9 x10) (sqT x0 x9 x10) x5

/-- What the point adds to the gradients in the scale, the shift and the bonus weight. -/
def partW : FVec Ideal S1x1024 .f32 := k0_pay26 (k0_pay11 (k0_pay4 x9) (k0_pay5 x10) (cT x0 x9 x10) (sqT x0 x9 x10)) (k0_pay15 x4 x5)

@[inherit_doc partW]
def partB : FVec Ideal S1x1024 .f32 := k0_pay25 (k0_pay15 x4 x5)

@[inherit_doc partW]
def partK : FVec Ideal S1x1024 .f32 := k0_pay21 (k0_pay5 x10) (k0_pay12 x1 x2) (k0_pay17 x3 x4 (k0_pay4 x9) x5) (k0_pay18 x3 x4 (k0_pay4 x9) x5) (k0_pay19 x3 x4 (k0_pay4 x9) x5)

/-- Row `a` of the blocks. -/
structure At (A : Row) (a : Fin 256) : Prop where
  y : ∀ b, x0 (ix2 a b) = (A.y b : EReal)
  r : ∀ b, x1 (ix2 a b) = (A.r b : EReal)
  k : ∀ b, x2 (ix2 a b) = (A.k b : EReal)
  v : ∀ b, x3 (ix2 a b) = (A.v b : EReal)
  g : ∀ b, x4 (ix2 a b) = (A.g b : EReal)
  z : ∀ b, x5 (ix2 a b) = (A.z b : EReal)
  lw : ∀ b, x6 (ix2 0 b) = (A.lw b : EReal)
  lb : ∀ b, x7 (ix2 0 b) = (A.lb b : EReal)
  rk : ∀ b, x8 (ix2 0 b) = (A.rk b : EReal)

variable {x0 x1 x2 x3 x4 x5 x6 x7 x8 x9 x10} {A : Row} {a : Fin 256} (h : At x0 x1 x2 x3 x4 x5 x6 x7 x8 A a)
  (hE : Sums (k0_pay4 (F := Ideal) x9) (k0_pay5 x10)) (b : Fin 1024)

include h hE

theorem cT_apply : cT x0 x9 x10 (ix2 a b) = (A.cen b : EReal) := by
  have e : cT x0 x9 x10 = subf x0 (mulf (heads (k0_pay4 x9) (k0_pay5 x10) x0) (broadcast S256x1024 (Scalar.ofBits .f32 0x3C800000#32))) := rfl
  rw [e]
  pointwise
  rw [heads_apply hE x0 a A.y h.y b, h.y, lit_inv64]
  simp only [← EReal.coe_mul, ← EReal.coe_sub]
  rfl

theorem varT_apply : varT x0 x9 x10 (ix2 a b) = (A.var b : EReal) := by
  have e : varT x0 x9 x10 = addf (mulf (heads (k0_pay4 x9) (k0_pay5 x10) (mulf (cT x0 x9 x10) (cT x0 x9 x10))) (broadcast S256x1024 (Scalar.ofBits .f32 0x3C800000#32)))
    (broadcast S256x1024 (Scalar.ofBits .f32 0x3A27C5AC#32)) := rfl
  rw [e]
  pointwise
  rw [heads_apply hE _ a (fun k => A.cen k * A.cen k) (fun k => ?_) b, lit_inv64, lit_eps]
  · simp only [← EReal.coe_mul, ← EReal.coe_add]
    rfl
  · rw [EReal.coe_mul, ← cT_apply h hE k]
    rfl

theorem rsT_apply : rsT x0 x9 x10 (ix2 a b) = (A.rs b : EReal) := by
  refine (congrArg Ideal.rsqrt (varT_apply h hE b)).trans ?_
  rw [Ideal.rsqrt_coe, if_neg (not_lt.mpr (A.var_pos b).le), if_neg (A.var_pos b).ne']
  rfl

theorem slT_apply : slT x0 x9 x10 (ix2 a b) = (A.sl b : EReal) := by
  have e : slT x0 x9 x10 = mulf (broadcast S256x1024 (Scalar.ofBits .f32 0xBF000000#32)) (divf (rsT x0 x9 x10) (varT x0 x9 x10)) := rfl
  rw [e]
  pointwise
  rw [rsT_apply h hE, varT_apply h hE, Ideal.div_coe (A.var_pos b).ne', lit_half]
  simp only [← EReal.coe_mul]
  rfl

theorem upT_apply : k0_pay15 (F := Ideal) x4 x5 (ix2 a b) = (A.up b : EReal) := by
  unfold k0_pay15
  pointwise
  rw [h.g, h.z, ← EReal.coe_mul]
  rfl

theorem bonT_apply : bonT x1 x2 x8 x9 x10 (ix2 a b) = (A.bon b : EReal) := by
  have e : bonT x1 x2 x8 x9 x10 = heads (k0_pay4 x9) (k0_pay5 x10) (mulf (mulf x1 x2) (broadcastTo S256x1024 (k0_pay3 x8) broadcasts_S1x1024_S256x1024)) := rfl
  rw [e]
  refine heads_apply hE _ a (fun k => A.r k * A.k k * A.rk k) (fun k => ?_) b
  unfold k0_pay3
  pointwise
  rw [h.r, h.k, h.rk]
  simp only [← EReal.coe_mul]

theorem hvT_apply : hvT x3 x4 x5 x9 x10 (ix2 a b) = (A.hv b : EReal) := by
  have e : hvT x3 x4 x5 x9 x10 = heads (k0_pay4 x9) (k0_pay5 x10) (mulf (k0_pay15 x4 x5) x3) := rfl
  rw [e]
  refine heads_apply hE _ a (fun k => A.up k * A.v k) (fun k => ?_) b
  rw [EReal.coe_mul, ← upT_apply h hE k, ← h.v k]
  rfl

theorem coreT_apply : coreT x0 x4 x5 x6 x9 x10 (ix2 a b) = (A.core b : EReal) := by
  have q : ∀ k, mulf (k0_pay15 x4 x5) (broadcastTo S256x1024 (k0_pay1 x6) broadcasts_S1x1024_S256x1024) (ix2 a k) = ((A.up k * A.lw k : ℝ) : EReal) := by
    intro k
    rw [EReal.coe_mul, ← upT_apply h hE k, ← h.lw k]
    unfold k0_pay1
    pointwise
  generalize hq : mulf (k0_pay15 x4 x5) (broadcastTo S256x1024 (k0_pay1 x6) broadcasts_S1x1024_S256x1024) = Q at q
  have w := heads_apply hE (mulf (mulf (mulf (cT x0 x9 x10) Q) (slT x0 x9 x10)) (broadcast S256x1024 (Scalar.ofBits .f32 0x3C800000#32))) a
    (fun k => A.cen k * (A.up k * A.lw k) * A.sl k * (1 / 64)) (fun k => by
      pointwise
      rw [cT_apply h hE k, q k, slT_apply h hE k, lit_inv64]
      simp only [← EReal.coe_mul]) b
  obtain ⟨G, hG⟩ : ∃ G, G = heads (k0_pay4 x9) (k0_pay5 x10)
    (mulf (mulf (mulf (cT x0 x9 x10) Q) (slT x0 x9 x10)) (broadcast S256x1024 (Scalar.ofBits .f32 0x3C800000#32))) := ⟨_, rfl⟩
  have e : coreT x0 x4 x5 x6 x9 x10 = addf (addf (mulf Q (rsT x0 x9 x10)) (mulf (cT x0 x9 x10) G)) (mulf G (cT x0 x9 x10)) := by
    rw [hG, ← hq]
    rfl
  rw [← hG] at w
  rw [e]
  pointwise
  rw [w, cT_apply h hE b, q b, rsT_apply h hE b]
  simp only [← EReal.coe_mul, ← EReal.coe_add]
  rfl

theorem tileY_apply : tileY x0 x4 x5 x6 x9 x10 (ix2 a b) = (A.dy b : EReal) := by
  have w := heads_apply hE (mulf (subf (broadcast S256x1024 (Scalar.ofBits .f32 0x00000000#32)) (coreT x0 x4 x5 x6 x9 x10)) (broadcast S256x1024 (Scalar.ofBits .f32 0x3C800000#32))) a
    (fun k => (0 - A.core k) * (1 / 64)) (fun k => by
      pointwise
      rw [coreT_apply h hE k, lit_inv64, ← EReal.coe_zero]
      simp only [← EReal.coe_mul, ← EReal.coe_sub]) b
  obtain ⟨G, hG⟩ : ∃ G, G = heads (k0_pay4 x9) (k0_pay5 x10)
    (mulf (subf (broadcast S256x1024 (Scalar.ofBits .f32 0x00000000#32)) (coreT x0 x4 x5 x6 x9 x10)) (broadcast S256x1024 (Scalar.ofBits .f32 0x3C800000#32))) := ⟨_, rfl⟩
  have e : tileY x0 x4 x5 x6 x9 x10 = addf (coreT x0 x4 x5 x6 x9 x10) G := by
    rw [hG]
    rfl
  rw [← hG] at w
  rw [e]
  pointwise
  rw [w, coreT_apply h hE b]
  simp only [← EReal.coe_add]
  rfl

theorem tileR_apply : tileR x2 x3 x4 x5 x8 x9 x10 (ix2 a b) = (A.dr b : EReal) := by
  have e : tileR x2 x3 x4 x5 x8 x9 x10 = mulf (mulf (hvT x3 x4 x5 x9 x10) (broadcastTo S256x1024 (k0_pay3 x8) broadcasts_S1x1024_S256x1024)) x2 := rfl
  rw [e]
  unfold k0_pay3
  pointwise
  rw [hvT_apply h hE b, h.rk, h.k]
  simp only [← EReal.coe_mul]
  rfl

theorem tileK_apply : tileK x1 x3 x4 x5 x8 x9 x10 (ix2 a b) = (A.dk b : EReal) := by
  have e : tileK x1 x3 x4 x5 x8 x9 x10 = mulf x1 (mulf (hvT x3 x4 x5 x9 x10) (broadcastTo S256x1024 (k0_pay3 x8) broadcasts_S1x1024_S256x1024)) := rfl
  rw [e]
  unfold k0_pay3
  pointwise
  rw [hvT_apply h hE b, h.rk, h.r]
  simp only [← EReal.coe_mul]
  rfl

theorem tileV_apply : tileV x1 x2 x4 x5 x8 x9 x10 (ix2 a b) = (A.dv b : EReal) := by
  have e : tileV x1 x2 x4 x5 x8 x9 x10 = mulf (bonT x1 x2 x8 x9 x10) (k0_pay15 x4 x5) := rfl
  rw [e]
  pointwise
  rw [bonT_apply h hE b, upT_apply h hE b]
  simp only [← EReal.coe_mul]
  rfl

theorem tileG_apply : tileG x0 x1 x2 x3 x5 x6 x7 x8 x9 x10 (ix2 a b) = (A.dgate b : EReal) := by
  have e : tileG x0 x1 x2 x3 x5 x6 x7 x8 x9 x10 = mulf (addf (addf (mulf (mulf (cT x0 x9 x10) (rsT x0 x9 x10))
    (broadcastTo S256x1024 (k0_pay1 x6) broadcasts_S1x1024_S256x1024)) (broadcastTo S256x1024 (k0_pay2 x7) broadcasts_S1x1024_S256x1024))
    (mulf (bonT x1 x2 x8 x9 x10) x3)) x5 := rfl
  rw [e]
  unfold k0_pay1 k0_pay2
  pointwise
  rw [cT_apply h hE b, rsT_apply h hE b, bonT_apply h hE b, h.lw, h.lb, h.v, h.z]
  simp only [← EReal.coe_mul, ← EReal.coe_add]
  rfl

end Tile

section Parts
variable {x0 x1 x2 x3 x4 x5 : Vec Ideal S256x1024 .f32} {x6 x7 x8 : Vec Ideal S1x1024 .f32} {x9 : Vec Ideal S2048x128 .bf16} {x10 : Vec Ideal S256x1024 .bf16}
  {A : Fin 256 → Row} (h : ∀ a, At x0 x1 x2 x3 x4 x5 x6 x7 x8 (A a) a) (hE : Sums (k0_pay4 (F := Ideal) x9) (k0_pay5 x10)) (b : Fin 1024)
include h hE

theorem partW_apply : partW x0 x4 x5 x9 x10 (ix2 0 b) = ∑ a, ((A a).dlw b : EReal) := by
  have e : partW x0 x4 x5 x9 x10 = k0_pay26 (mulf (cT x0 x9 x10) (rsT x0 x9 x10)) (k0_pay15 x4 x5) := rfl
  rw [e]
  unfold k0_pay26
  pointwise
  refine Finset.sum_congr rfl fun k _ => ?_
  rw [cT_apply (h k) hE b, rsT_apply (h k) hE b, upT_apply (h k) hE b]
  simp only [← EReal.coe_mul]
  rfl

theorem partB_apply : partB x4 x5 (ix2 0 b) = ∑ a, ((A a).up b : EReal) := by
  unfold partB k0_pay25
  pointwise
  exact Finset.sum_congr rfl fun k _ => upT_apply (h k) hE b

theorem partK_apply : partK x1 x2 x3 x4 x5 x9 x10 (ix2 0 b) = ∑ a, ((A a).drk b : EReal) := by
  unfold partK k0_pay21 k0_pay12
  pointwise
  refine Finset.sum_congr rfl fun k _ => ?_
  refine (congrArg _ (hvT_apply (h k) hE b)).trans ?_
  rw [(h k).r, (h k).k]
  simp only [← EReal.coe_mul]
  rfl

end Parts

end Cert.RwkvPostBwdIdeal.Value

end
-- ==== Proof.RwkvPostBwdValue.lean ====
/-
  The gradient of the gated head norm: what the grid's points leave in the eight arrays.
-/
module

public import proofs.«01_k».proof.Proof.RwkvPostBwdTile
public import proofs.«01_k».proof.Proof.FfnActBwdRef
public import proofs.«01_k».proof.Proof.Tiles

@[expose] public section

set_option maxRecDepth 16384

noncomputable section

namespace Cert.Heads

open Idealize.ShloMosaic Cert.Gate

/-- The arrays the call is given. -/
structure Args where
  y : (⟨2, ![8192, 1024]⟩ : Shape).Idx → EReal
  r : (⟨2, ![8192, 1024]⟩ : Shape).Idx → EReal
  k : (⟨2, ![8192, 1024]⟩ : Shape).Idx → EReal
  v : (⟨2, ![8192, 1024]⟩ : Shape).Idx → EReal
  g : (⟨2, ![8192, 1024]⟩ : Shape).Idx → EReal
  z : (⟨2, ![8192, 1024]⟩ : Shape).Idx → EReal
  lw : (⟨1, ![1024]⟩ : Shape).Idx → EReal
  lb : (⟨1, ![1024]⟩ : Shape).Idx → EReal
  rk : (⟨2, ![16, 64]⟩ : Shape).Idx → EReal

/-- They consist of numbers. -/
structure Args.Real (A : Args) : Prop where
  y : ∀ i, IsReal (A.y i)
  r : ∀ i, IsReal (A.r i)
  k : ∀ i, IsReal (A.k i)
  v : ∀ i, IsReal (A.v i)
  g : ∀ i, IsReal (A.g i)
  z : ∀ i, IsReal (A.z i)
  lw : ∀ i, IsReal (A.lw i)
  lb : ∀ i, IsReal (A.lb i)
  rk : ∀ i, IsReal (A.rk i)

theorem real_eq {x : EReal} (h : IsReal x) : x = (x.toReal : EReal) := by
  obtain ⟨r, rfl⟩ := h
  rfl

/-- The head of a channel, and its place in it. -/
def headOf (b : Fin 1024) : (⟨2, ![16, 64]⟩ : Shape).Idx :=
  ix2 ⟨b.val / 64, Nat.div_lt_of_lt_mul b.isLt⟩ ⟨b.val % 64, Nat.mod_lt _ (by decide)⟩

/-- Row `r` of them. -/
def Args.row (A : Args) (r : Fin 8192) : Row where
  y b := (A.y (ix2 r b)).toReal
  r b := (A.r (ix2 r b)).toReal
  k b := (A.k (ix2 r b)).toReal
  v b := (A.v (ix2 r b)).toReal
  g b := (A.g (ix2 r b)).toReal
  z b := (A.z (ix2 r b)).toReal
  lw b := (A.lw (ix1 b)).toReal
  lb b := (A.lb (ix1 b)).toReal
  rk b := (A.rk (headOf b)).toReal

/-- An array given row by row. -/
def rows (A : Args) (f : Row → Fin 1024 → ℝ) : (⟨2, ![8192, 1024]⟩ : Shape).Idx → EReal := fun i => (f (A.row (i 0)) (i 1) : EReal)

/-- The sum over the rows. -/
def total (A : Args) (f : Row → Fin 1024 → ℝ) : (⟨2, ![1, 1024]⟩ : Shape).Idx → EReal := fun i => ∑ r : Fin 8192, (f (A.row r) (i 1) : EReal)

end Cert.Heads

namespace Cert.RwkvPostBwdIdeal.Value

open Cert.RwkvPostBwdIdeal Cert.RwkvPostBwdIdeal.Gen Idealize.ShloMosaic Idealize.ShloMosaic.TcCoe Idealize.SL.Sem Cert.Gate Cert.Heads

variable (m : (ℓ : Loc nD τ sig) → Buf (Elt Ideal) ℓ) (c : Dev nD) (t : Fin cfg0.N)

/-- The channels' heads, as the host counts them. -/
def chan : IVec S1024 32 :=
  select (andi (cmpi .ne (signi (iotaInDim S1024 32 0)) (broadcastInDim S1024 ![] bcast_S_S1024 (signi (constantI S_ 32 64#32))))
      (cmpi .ne (Host.remsi (iotaInDim S1024 32 0) (broadcastInDim S1024 ![] bcast_S_S1024 (constantI S_ 32 64#32)))
        (broadcastInDim S1024 ![] bcast_S_S1024 (constantI S_ 32 0#32))))
    (subi (Host.divsi (iotaInDim S1024 32 0) (broadcastInDim S1024 ![] bcast_S_S1024 (constantI S_ 32 64#32))) (broadcastInDim S1024 ![] bcast_S_S1024 (constantI S_ 32 1#32)))
    (Host.divsi (iotaInDim S1024 32 0) (broadcastInDim S1024 ![] bcast_S_S1024 (constantI S_ 32 64#32)))

/-- One where the channel is of the head. -/
def onehot : FVec Ideal S1024x128 .bf16 :=
  uitofp .bf16 (cmpi .eq (broadcastInDim S1024x128 ![0, 1] bcast_S1024x1_S1024x128_0_1 (broadcastInDim S1024x1 ![0] bcast_S1024_S1024x1_0 chan))
    (broadcastInDim S1024x128 ![0, 1] bcast_S1x128_S1024x128_0_1 (broadcastInDim S1x128 ![1] bcast_S128_S1x128_1 (iotaInDim S128 32 0))))

theorem chan_apply (k : Fin 1024) : chan (ix1 k) = BitVec.ofNat 32 (k.val / 64) := by
  unfold chan
  pointwise
  revert k
  decide +kernel

theorem onehot_apply (k : Fin 1024) (n : Fin 128) : onehot (ix2 k n) = if k.val / 64 = n.val then (1 : EReal) else 0 := by
  unfold onehot
  pointwise
  rw [chan_apply]
  have e : BitVec.ofNat 32 (k.val / 64) = BitVec.ofNat 32 n.val ↔ k.val / 64 = n.val := by
    rw [← BitVec.toNat_inj, BitVec.toNat_ofNat, BitVec.toNat_ofNat, Nat.mod_eq_of_lt (by have := k.isLt; omega), Nat.mod_eq_of_lt (by have := n.isLt; omega)]
  by_cases h : k.val / 64 = n.val
  · rw [if_pos h, e.mpr h]
    simp [IntOp.cmpi, FloatOps.uitofp]
  · have h' : ¬BitVec.ofNat 32 (k.val / 64) = BitVec.ofNat 32 n.val := fun x => h (e.mp x)
    rw [if_neg h]
    simp [IntOp.cmpi, FloatOps.uitofp, h']

theorem hostE : (V m c main_v9 : S2048x128.Idx → EReal) = concatenate S2048x128 0 [⟨S1024x128, onehot⟩, ⟨S1024x128, onehot⟩] concatenates_S1024x128_S1024x128_S2048x128_d0 := by
  unfold V
  simp only [hostOps0, hostOps0_1, hostOps0_2, List.flatten_cons, List.flatten_nil, List.append_nil, List.cons_append, List.nil_append]
  after_results
  rfl

theorem hostT : (V m c main_v12 : S256x1024.Idx → EReal) = concatenate S256x1024 0 [⟨S128x1024, transpose S128x1024 [1, 0] onehot transposes_S1024x128_S128x1024_1_0⟩, ⟨S128x1024, transpose S128x1024 [1, 0] onehot transposes_S1024x128_S128x1024_1_0⟩] concatenates_S128x1024_S128x1024_S256x1024_d0 := by
  unfold V
  simp only [hostOps0, hostOps0_1, hostOps0_2, List.flatten_cons, List.flatten_nil, List.append_nil, List.cons_append, List.nil_append]
  after_results
  rfl

/-- The two matrices sum the heads. -/
theorem sums : Sums (V m c main_v9) (V m c main_v12) where
  he k n := by
    rw [hostE]
    pointwise
    by_cases h : k.val < 1024
    · rw [dif_pos h, onehot_apply, Nat.mod_eq_of_lt h]
    · rw [dif_neg h, onehot_apply]
      have e : k.val % 1024 = k.val - 1024 := by have := k.isLt; omega
      simp only [e]
  het n b := by
    rw [hostT]
    pointwise
    by_cases h : n.val < 128
    · rw [dif_pos h, onehot_apply, Nat.mod_eq_of_lt h]
    · rw [dif_neg h, onehot_apply]
      have e : n.val % 128 = n.val - 128 := by have := n.isLt; omega
      simp only [e]

theorem argR (b : Fin 1024) : (V m c main_v15 : S1x1024.Idx → EReal) (ix2 0 b) = (m (c, main_arg8) : S16x64.Idx → EReal) (headOf b) := by
  unfold V headOf
  simp only [hostOps0, hostOps0_1, hostOps0_2, List.flatten_cons, List.flatten_nil, List.append_nil, List.cons_append, List.nil_append]
  after_results
  pointwise

theorem argW (b : Fin 1024) : (V m c main_v13 : S1x1024.Idx → EReal) (ix2 0 b) = (m (c, main_arg6) : S1024.Idx → EReal) (ix1 b) := by
  unfold V
  simp only [hostOps0, hostOps0_1, hostOps0_2, List.flatten_cons, List.flatten_nil, List.append_nil, List.cons_append, List.nil_append]
  after_results
  pointwise

theorem argB (b : Fin 1024) : (V m c main_v14 : S1x1024.Idx → EReal) (ix2 0 b) = (m (c, main_arg7) : S1024.Idx → EReal) (ix1 b) := by
  unfold V
  simp only [hostOps0, hostOps0_1, hostOps0_2, List.flatten_cons, List.flatten_nil, List.append_nil, List.cons_append, List.nil_append]
  after_results
  pointwise

/-- The blocks of the tiles. -/
theorem tiles : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_11.index t = ![t.val, 0]
    ∧ win0_12.index t = ![t.val, 0] ∧ win0_13.index t = ![t.val, 0] ∧ win0_14.index t = ![t.val, 0] ∧ win0_15.index t = ![t.val, 0] :=
  (by decide +kernel : ∀ t : Fin grid0.N, _)

/-- The arrays read or written as a whole. -/
theorem wholes : ∀ t : Fin cfg0.N, win0_6.index t = ![0, 0] ∧ win0_7.index t = ![0, 0] ∧ win0_8.index t = ![0, 0] ∧ win0_9.index t = ![0, 0]
    ∧ win0_10.index t = ![0, 0] ∧ win0_16.index t = ![0, 0] ∧ win0_17.index t = ![0, 0] ∧ win0_18.index t = ![0, 0] :=
  (by decide +kernel : ∀ t : Fin grid0.N, _)

theorem lt : t.val < 32 := t.isLt

/-- The arrays the call is given. -/
def args (m : (ℓ : Loc nD τ sig) → Buf (Elt Ideal) ℓ) (c : Dev nD) : Args where
  y := m (c, main_arg0)
  r := m (c, main_arg1)
  k := m (c, main_arg2)
  v := m (c, main_arg3)
  g := m (c, main_arg4)
  z := m (c, main_arg5)
  lw := m (c, main_arg6)
  lb := m (c, main_arg7)
  rk := m (c, main_arg8)

/-- Row `a` of point `t`. -/
def rowAt (t : ℕ) (ht : t < 32) (a : Fin 256) : Fin 8192 := ⟨t * 256 + a.val, by have := a.isLt; omega⟩

section Blocks
variable (hA : (args m c).Real)
include hA

theorem read_y (a : Fin 256) (b : Fin 1024) : (iblk m c 0 t : S256x1024.Idx → EReal) (ix2 a b) = (((args m c).row (rowAt t.val (lt t) a)).y b : EReal) := by
  have e := (tiles t).1
  refine (congrArg (args m c).y ?_).trans (real_eq (hA.y (ix2 (rowAt t.val (lt t) a) b)))
  refine (eq_ix2 ((win0_0.blk t).view.emb (ix2 a b))).trans (congrArg₂ ix2 (Fin.ext ?_) (Fin.ext ?_)) <;> blk_simp [e] <;> rfl

theorem read_r (a : Fin 256) (b : Fin 1024) : (iblk m c 1 t : S256x1024.Idx → EReal) (ix2 a b) = (((args m c).row (rowAt t.val (lt t) a)).r b : EReal) := by
  have e := (tiles t).2.1
  refine (congrArg (args m c).r ?_).trans (real_eq (hA.r (ix2 (rowAt t.val (lt t) a) b)))
  refine (eq_ix2 ((win0_1.blk t).view.emb (ix2 a b))).trans (congrArg₂ ix2 (Fin.ext ?_) (Fin.ext ?_)) <;> blk_simp [e] <;> rfl

theorem read_k (a : Fin 256) (b : Fin 1024) : (iblk m c 2 t : S256x1024.Idx → EReal) (ix2 a b) = (((args m c).row (rowAt t.val (lt t) a)).k b : EReal) := by
  have e := (tiles t).2.2.1
  refine (congrArg (args m c).k ?_).trans (real_eq (hA.k (ix2 (rowAt t.val (lt t) a) b)))
  refine (eq_ix2 ((win0_2.blk t).view.emb (ix2 a b))).trans (congrArg₂ ix2 (Fin.ext ?_) (Fin.ext ?_)) <;> blk_simp [e] <;> rfl

theorem read_v (a : Fin 256) (b : Fin 1024) : (iblk m c 3 t : S256x1024.Idx → EReal) (ix2 a b) = (((args m c).row (rowAt t.val (lt t) a)).v b : EReal) := by
  have e := (tiles t).2.2.2.1
  refine (congrArg (args m c).v ?_).trans (real_eq (hA.v (ix2 (rowAt t.val (lt t) a) b)))
  refine (eq_ix2 ((win0_3.blk t).view.emb (ix2 a b))).trans (congrArg₂ ix2 (Fin.ext ?_) (Fin.ext ?_)) <;> blk_simp [e] <;> rfl

theorem read_g (a : Fin 256) (b : Fin 1024) : (iblk m c 4 t : S256x1024.Idx → EReal) (ix2 a b) = (((args m c).row (rowAt t.val (lt t) a)).g b : EReal) := by
  have e := (tiles t).2.2.2.2.1
  refine (congrArg (args m c).g ?_).trans (real_eq (hA.g (ix2 (rowAt t.val (lt t) a) b)))
  refine (eq_ix2 ((win0_4.blk t).view.emb (ix2 a b))).trans (congrArg₂ ix2 (Fin.ext ?_) (Fin.ext ?_)) <;> blk_simp [e] <;> rfl

theorem read_z (a : Fin 256) (b : Fin 1024) : (iblk m c 5 t : S256x1024.Idx → EReal) (ix2 a b) = (((args m c).row (rowAt t.val (lt t) a)).z b : EReal) := by
  have e := (tiles t).2.2.2.2.2.1
  refine (congrArg (args m c).z ?_).trans (real_eq (hA.z (ix2 (rowAt t.val (lt t) a) b)))
  refine (eq_ix2 ((win0_5.blk t).view.emb (ix2 a b))).trans (congrArg₂ ix2 (Fin.ext ?_) (Fin.ext ?_)) <;> blk_simp [e] <;> rfl

theorem read_lw (r : Fin 8192) (b : Fin 1024) : (iblk m c 6 t : S1x1024.Idx → EReal) (ix2 0 b) = (((args m c).row r).lw b : EReal) := by
  have e := (wholes t).1
  refine (congrArg (V m c main_v13) ?_).trans ((argW m c b).trans (real_eq (hA.lw (ix1 b))))
  refine (eq_ix2 ((win0_6.blk t).view.emb (ix2 0 b))).trans (congrArg₂ ix2 (Fin.ext ?_) (Fin.ext ?_)) <;> blk_simp [e] <;> rfl

theorem read_lb (r : Fin 8192) (b : Fin 1024) : (iblk m c 7 t : S1x1024.Idx → EReal) (ix2 0 b) = (((args m c).row r).lb b : EReal) := by
  have e := (wholes t).2.1
  refine (congrArg (V m c main_v14) ?_).trans ((argB m c b).trans (real_eq (hA.lb (ix1 b))))
  refine (eq_ix2 ((win0_7.blk t).view.emb (ix2 0 b))).trans (congrArg₂ ix2 (Fin.ext ?_) (Fin.ext ?_)) <;> blk_simp [e] <;> rfl

theorem read_rk (r : Fin 8192) (b : Fin 1024) : (iblk m c 8 t : S1x1024.Idx → EReal) (ix2 0 b) = (((args m c).row r).rk b : EReal) := by
  have e := (wholes t).2.2.1
  refine (congrArg (V m c main_v15) ?_).trans ((argR m c b).trans (real_eq (hA.rk (headOf b))))
  refine (eq_ix2 ((win0_8.blk t).view.emb (ix2 0 b))).trans (congrArg₂ ix2 (Fin.ext ?_) (Fin.ext ?_)) <;> blk_simp [e] <;> rfl

/-- The blocks of a point. -/
theorem reads (a : Fin 256) : At (iblk m c 0 t) (iblk m c 1 t) (iblk m c 2 t) (iblk m c 3 t) (iblk m c 4 t) (iblk m c 5 t) (iblk m c 6 t)
    (iblk m c 7 t) (iblk m c 8 t) ((args m c).row (rowAt t.val (lt t) a)) a where
  y := read_y m c t hA a
  r := read_r m c t hA a
  k := read_k m c t hA a
  v := read_v m c t hA a
  g := read_g m c t hA a
  z := read_z m c t hA a
  lw := read_lw m c t hA _
  lb := read_lb m c t hA _
  rk := read_rk m c t hA _

omit hA in
/-- The matrices of a point. -/
theorem matrices : Sums (k0_pay4 (F := Ideal) (iblk m c 9 t)) (k0_pay5 (iblk m c 10 t)) := by
  have e9 := (wholes t).2.2.2.1
  have e10 := (wholes t).2.2.2.2.1
  have h9 : (iblk m c 9 t : S2048x128.Idx → EReal) = V m c main_v9 := by
    funext i
    obtain ⟨k, n, rfl⟩ : ∃ (k : Fin 2048) (n : Fin 128), i = ix2 k n := ⟨i 0, i 1, eq_ix2 i⟩
    refine congrArg (V m c main_v9) ?_
    refine (eq_ix2 ((win0_9.blk t).view.emb (ix2 k n))).trans (congrArg₂ ix2 (Fin.ext ?_) (Fin.ext ?_)) <;> blk_simp [e9] <;> rfl
  have h10 : (iblk m c 10 t : S256x1024.Idx → EReal) = V m c main_v12 := by
    funext i
    obtain ⟨k, n, rfl⟩ : ∃ (k : Fin 256) (n : Fin 1024), i = ix2 k n := ⟨i 0, i 1, eq_ix2 i⟩
    refine congrArg (V m c main_v12) ?_
    refine (eq_ix2 ((win0_10.blk t).view.emb (ix2 k n))).trans (congrArg₂ ix2 (Fin.ext ?_) (Fin.ext ?_)) <;> blk_simp [e10] <;> rfl
  have s := sums m c
  rw [← h9, ← h10] at s
  have p9 : k0_pay4 (F := Ideal) (iblk m c 9 t) = iblk m c 9 t := by
    funext i
    unfold k0_pay4
    pointwise
  have p10 : k0_pay5 (F := Ideal) (iblk m c 10 t) = iblk m c 10 t := by
    funext i
    unfold k0_pay5
    pointwise
  rw [p9, p10]
  exact s

end Blocks

section Points

theorem pointY : (outsAt0 m c t.val t.isLt).1 = tileY (iblk m c 0 t) (iblk m c 4 t) (iblk m c 5 t) (iblk m c 6 t) (iblk m c 9 t) (iblk m c 10 t) := by
  by_cases h0 : t.val % 32 = 0
  · rw [outsAt0_A m c t h0]
    frame_out
    rfl
  · rw [outsAt0_B m c t h0]
    frame_out
    rfl

theorem pointR : (outsAt0 m c t.val t.isLt).2.1 = tileR (iblk m c 2 t) (iblk m c 3 t) (iblk m c 4 t) (iblk m c 5 t) (iblk m c 8 t) (iblk m c 9 t) (iblk m c 10 t) := by
  by_cases h0 : t.val % 32 = 0
  · rw [outsAt0_A m c t h0]
    frame_out
    rfl
  · rw [outsAt0_B m c t h0]
    frame_out
    rfl

theorem pointK : (outsAt0 m c t.val t.isLt).2.2.1 = tileK (iblk m c 1 t) (iblk m c 3 t) (iblk m c 4 t) (iblk m c 5 t) (iblk m c 8 t) (iblk m c 9 t) (iblk m c 10 t) := by
  by_cases h0 : t.val % 32 = 0
  · rw [outsAt0_A m c t h0]
    frame_out
    rfl
  · rw [outsAt0_B m c t h0]
    frame_out
    rfl

theorem pointV : (outsAt0 m c t.val t.isLt).2.2.2.1 = tileV (iblk m c 1 t) (iblk m c 2 t) (iblk m c 4 t) (iblk m c 5 t) (iblk m c 8 t) (iblk m c 9 t) (iblk m c 10 t) := by
  by_cases h0 : t.val % 32 = 0
  · rw [outsAt0_A m c t h0]
    frame_out
    rfl
  · rw [outsAt0_B m c t h0]
    frame_out
    rfl

theorem pointG : (outsAt0 m c t.val t.isLt).2.2.2.2.1 = tileG (iblk m c 0 t) (iblk m c 1 t) (iblk m c 2 t) (iblk m c 3 t) (iblk m c 5 t) (iblk m c 6 t) (iblk m c 7 t) (iblk m c 8 t) (iblk m c 9 t) (iblk m c 10 t) := by
  by_cases h0 : t.val % 32 = 0
  · rw [outsAt0_A m c t h0]
    frame_out
    rfl
  · rw [outsAt0_B m c t h0]
    frame_out
    rfl

/-- What point `t` adds to the sum. -/
def addW : FVec Ideal S1x1024 .f32 := partW (iblk m c 0 t) (iblk m c 4 t) (iblk m c 5 t) (iblk m c 9 t) (iblk m c 10 t)

theorem firstW (h0 : t.val % 32 = 0) (b : Fin 1024) : (outsAt0 m c t.val t.isLt).2.2.2.2.2.1 (ix2 0 b) = addW m c t (ix2 0 b) := by
  have h : (outsAt0 m c t.val t.isLt).2.2.2.2.2.1 = k0_pay34 (addW m c t) (k0_pay31 (F := Ideal)) := by
    rw [outsAt0_A m c t h0]
    frame_out
    rfl
  rw [h]
  unfold k0_pay34 k0_pay31
  pointwise

theorem nextW (h0 : ¬t.val % 32 = 0) (b : Fin 1024) : (outsAt0 m c t.val t.isLt).2.2.2.2.2.1 (ix2 0 b)
    = (outsAt0 m c (t.val - 1) (Nat.lt_of_le_of_lt (Nat.sub_le _ _) t.isLt)).2.2.2.2.2.1 (ix2 0 b) + addW m c t (ix2 0 b) := by
  have h : (outsAt0 m c t.val t.isLt).2.2.2.2.2.1 = k0_pay34 (addW m c t) (outsAt0 m c (t.val - 1) (Nat.lt_of_le_of_lt (Nat.sub_le _ _) t.isLt)).2.2.2.2.2.1 := by
    rw [outsAt0_B m c t h0]
    frame_out
    rfl
  rw [h]
  unfold k0_pay34
  pointwise

theorem foldW (b : Fin 1024) (n : ℕ) (hn : n < cfg0.N) : (outsAt0 m c n hn).2.2.2.2.2.1 (ix2 0 b)
    = ∑ s : Fin (n + 1), addW m c ⟨s.val, Nat.lt_of_lt_of_le s.isLt hn⟩ (ix2 0 b) :=
  grow (fun n hn => (outsAt0 m c n hn).2.2.2.2.2.1 (ix2 0 b)) (fun n hn => addW m c ⟨n, hn⟩ (ix2 0 b)) (fun h => firstW m c ⟨0, h⟩ rfl b)
    (fun n h => nextW m c ⟨n + 1, h⟩ (by have : n + 1 < 32 := h; show ¬(n + 1) % 32 = 0; omega) b) n hn

/-- What point `t` adds to the sum. -/
def addB : FVec Ideal S1x1024 .f32 := partB (iblk m c 4 t) (iblk m c 5 t)

theorem firstB (h0 : t.val % 32 = 0) (b : Fin 1024) : (outsAt0 m c t.val t.isLt).2.2.2.2.2.2.1 (ix2 0 b) = addB m c t (ix2 0 b) := by
  have h : (outsAt0 m c t.val t.isLt).2.2.2.2.2.2.1 = k0_pay35 (addB m c t) (k0_pay32 (F := Ideal)) := by
    rw [outsAt0_A m c t h0]
    frame_out
    rfl
  rw [h]
  unfold k0_pay35 k0_pay32
  pointwise

theorem nextB (h0 : ¬t.val % 32 = 0) (b : Fin 1024) : (outsAt0 m c t.val t.isLt).2.2.2.2.2.2.1 (ix2 0 b)
    = (outsAt0 m c (t.val - 1) (Nat.lt_of_le_of_lt (Nat.sub_le _ _) t.isLt)).2.2.2.2.2.2.1 (ix2 0 b) + addB m c t (ix2 0 b) := by
  have h : (outsAt0 m c t.val t.isLt).2.2.2.2.2.2.1 = k0_pay35 (addB m c t) (outsAt0 m c (t.val - 1) (Nat.lt_of_le_of_lt (Nat.sub_le _ _) t.isLt)).2.2.2.2.2.2.1 := by
    rw [outsAt0_B m c t h0]
    frame_out
    rfl
  rw [h]
  unfold k0_pay35
  pointwise

theorem foldB (b : Fin 1024) (n : ℕ) (hn : n < cfg0.N) : (outsAt0 m c n hn).2.2.2.2.2.2.1 (ix2 0 b)
    = ∑ s : Fin (n + 1), addB m c ⟨s.val, Nat.lt_of_lt_of_le s.isLt hn⟩ (ix2 0 b) :=
  grow (fun n hn => (outsAt0 m c n hn).2.2.2.2.2.2.1 (ix2 0 b)) (fun n hn => addB m c ⟨n, hn⟩ (ix2 0 b)) (fun h => firstB m c ⟨0, h⟩ rfl b)
    (fun n h => nextB m c ⟨n + 1, h⟩ (by have : n + 1 < 32 := h; show ¬(n + 1) % 32 = 0; omega) b) n hn

/-- What point `t` adds to the sum. -/
def addRk : FVec Ideal S1x1024 .f32 := partK (iblk m c 1 t) (iblk m c 2 t) (iblk m c 3 t) (iblk m c 4 t) (iblk m c 5 t) (iblk m c 9 t) (iblk m c 10 t)

theorem firstRk (h0 : t.val % 32 = 0) (b : Fin 1024) : (outsAt0 m c t.val t.isLt).2.2.2.2.2.2.2 (ix2 0 b) = addRk m c t (ix2 0 b) := by
  have h : (outsAt0 m c t.val t.isLt).2.2.2.2.2.2.2 = k0_pay36 (addRk m c t) (k0_pay33 (F := Ideal)) := by
    rw [outsAt0_A m c t h0]
    frame_out
    rfl
  rw [h]
  unfold k0_pay36 k0_pay33
  pointwise

theorem nextRk (h0 : ¬t.val % 32 = 0) (b : Fin 1024) : (outsAt0 m c t.val t.isLt).2.2.2.2.2.2.2 (ix2 0 b)
    = (outsAt0 m c (t.val - 1) (Nat.lt_of_le_of_lt (Nat.sub_le _ _) t.isLt)).2.2.2.2.2.2.2 (ix2 0 b) + addRk m c t (ix2 0 b) := by
  have h : (outsAt0 m c t.val t.isLt).2.2.2.2.2.2.2 = k0_pay36 (addRk m c t) (outsAt0 m c (t.val - 1) (Nat.lt_of_le_of_lt (Nat.sub_le _ _) t.isLt)).2.2.2.2.2.2.2 := by
    rw [outsAt0_B m c t h0]
    frame_out
    rfl
  rw [h]
  unfold k0_pay36
  pointwise

theorem foldRk (b : Fin 1024) (n : ℕ) (hn : n < cfg0.N) : (outsAt0 m c n hn).2.2.2.2.2.2.2 (ix2 0 b)
    = ∑ s : Fin (n + 1), addRk m c ⟨s.val, Nat.lt_of_lt_of_le s.isLt hn⟩ (ix2 0 b) :=
  grow (fun n hn => (outsAt0 m c n hn).2.2.2.2.2.2.2 (ix2 0 b)) (fun n hn => addRk m c ⟨n, hn⟩ (ix2 0 b)) (fun h => firstRk m c ⟨0, h⟩ rfl b)
    (fun n h => nextRk m c ⟨n + 1, h⟩ (by have : n + 1 < 32 := h; show ¬(n + 1) % 32 = 0; omega) b) n hn

end Points

/-- The sum over the rows, taken point by point. -/
theorem by_points (f : Fin 8192 → EReal) : (∑ s : Fin 32, ∑ a : Fin 256, f (rowAt s.val s.isLt a)) = ∑ r : Fin 8192, f r :=
  (Cert.Tiles.sum_blocks 32 256 f).symm

section Arrays
variable (hA : (args m c).Real)
include hA

theorem arrY : (dats m 0 c).arrAt 11 cfg0.N = rows (args m c) Row.dy := by
  refine (dats m 0 c).arrAt_eq_of_covers 11 _ (by decide +kernel) fun t hf z => ?_
  blk_simp
  rw [after0_11]
  obtain ⟨a, b, rfl⟩ : ∃ (a : Fin 256) (b : Fin 1024), z = ix2 a b := ⟨z 0, z 1, eq_ix2 z⟩
  have e := (tiles t).2.2.2.2.2.2.1
  have he : (win0_11.blk t).view.emb (ix2 a b) = ix2 (rowAt t.val (lt t) a) b := by
    refine (eq_ix2 ((win0_11.blk t).view.emb (ix2 a b))).trans (congrArg₂ ix2 (Fin.ext ?_) (Fin.ext ?_)) <;> blk_simp [e] <;> rfl
  refine (congrFun (pointY m c t) (ix2 a b)).trans ?_
  exact (tileY_apply (reads m c t hA a) (matrices m c t) b).trans (congrArg (rows (args m c) Row.dy) he).symm

theorem arrR : (dats m 0 c).arrAt 12 cfg0.N = rows (args m c) Row.dr := by
  refine (dats m 0 c).arrAt_eq_of_covers 12 _ (by decide +kernel) fun t hf z => ?_
  blk_simp
  rw [after0_12]
  obtain ⟨a, b, rfl⟩ : ∃ (a : Fin 256) (b : Fin 1024), z = ix2 a b := ⟨z 0, z 1, eq_ix2 z⟩
  have e := (tiles t).2.2.2.2.2.2.2.1
  have he : (win0_12.blk t).view.emb (ix2 a b) = ix2 (rowAt t.val (lt t) a) b := by
    refine (eq_ix2 ((win0_12.blk t).view.emb (ix2 a b))).trans (congrArg₂ ix2 (Fin.ext ?_) (Fin.ext ?_)) <;> blk_simp [e] <;> rfl
  refine (congrFun (pointR m c t) (ix2 a b)).trans ?_
  exact (tileR_apply (reads m c t hA a) (matrices m c t) b).trans (congrArg (rows (args m c) Row.dr) he).symm

theorem arrK : (dats m 0 c).arrAt 13 cfg0.N = rows (args m c) Row.dk := by
  refine (dats m 0 c).arrAt_eq_of_covers 13 _ (by decide +kernel) fun t hf z => ?_
  blk_simp
  rw [after0_13]
  obtain ⟨a, b, rfl⟩ : ∃ (a : Fin 256) (b : Fin 1024), z = ix2 a b := ⟨z 0, z 1, eq_ix2 z⟩
  have e := (tiles t).2.2.2.2.2.2.2.2.1
  have he : (win0_13.blk t).view.emb (ix2 a b) = ix2 (rowAt t.val (lt t) a) b := by
    refine (eq_ix2 ((win0_13.blk t).view.emb (ix2 a b))).trans (congrArg₂ ix2 (Fin.ext ?_) (Fin.ext ?_)) <;> blk_simp [e] <;> rfl
  refine (congrFun (pointK m c t) (ix2 a b)).trans ?_
  exact (tileK_apply (reads m c t hA a) (matrices m c t) b).trans (congrArg (rows (args m c) Row.dk) he).symm

theorem arrV : (dats m 0 c).arrAt 14 cfg0.N = rows (args m c) Row.dv := by
  refine (dats m 0 c).arrAt_eq_of_covers 14 _ (by decide +kernel) fun t hf z => ?_
  blk_simp
  rw [after0_14]
  obtain ⟨a, b, rfl⟩ : ∃ (a : Fin 256) (b : Fin 1024), z = ix2 a b := ⟨z 0, z 1, eq_ix2 z⟩
  have e := (tiles t).2.2.2.2.2.2.2.2.2.1
  have he : (win0_14.blk t).view.emb (ix2 a b) = ix2 (rowAt t.val (lt t) a) b := by
    refine (eq_ix2 ((win0_14.blk t).view.emb (ix2 a b))).trans (congrArg₂ ix2 (Fin.ext ?_) (Fin.ext ?_)) <;> blk_simp [e] <;> rfl
  refine (congrFun (pointV m c t) (ix2 a b)).trans ?_
  exact (tileV_apply (reads m c t hA a) (matrices m c t) b).trans (congrArg (rows (args m c) Row.dv) he).symm

theorem arrG : (dats m 0 c).arrAt 15 cfg0.N = rows (args m c) Row.dgate := by
  refine (dats m 0 c).arrAt_eq_of_covers 15 _ (by decide +kernel) fun t hf z => ?_
  blk_simp
  rw [after0_15]
  obtain ⟨a, b, rfl⟩ : ∃ (a : Fin 256) (b : Fin 1024), z = ix2 a b := ⟨z 0, z 1, eq_ix2 z⟩
  have e := (tiles t).2.2.2.2.2.2.2.2.2.2
  have he : (win0_15.blk t).view.emb (ix2 a b) = ix2 (rowAt t.val (lt t) a) b := by
    refine (eq_ix2 ((win0_15.blk t).view.emb (ix2 a b))).trans (congrArg₂ ix2 (Fin.ext ?_) (Fin.ext ?_)) <;> blk_simp [e] <;> rfl
  refine (congrFun (pointG m c t) (ix2 a b)).trans ?_
  exact (tileG_apply (reads m c t hA a) (matrices m c t) b).trans (congrArg (rows (args m c) Row.dgate) he).symm

theorem arrW : (dats m 0 c).arrAt 16 cfg0.N = total (args m c) Row.dlw := by
  refine (dats m 0 c).arrAt_eq_of_covers 16 _ (by decide +kernel) fun t hf z => ?_
  have ht : t.val = 31 := by
    have := (flush0_16 t).mp hf
    have := lt t
    omega
  blk_simp
  rw [after0_16]
  obtain ⟨z, b, rfl⟩ : ∃ (a : Fin 1) (b : Fin 1024), z = ix2 a b := ⟨z 0, z 1, eq_ix2 z⟩
  obtain rfl : z = 0 := Subsingleton.elim _ _
  have e := (wholes t).2.2.2.2.2.1
  have he : (win0_16.blk t).view.emb (ix2 0 b) = ix2 (0 : Fin 1) b := by
    refine (eq_ix2 ((win0_16.blk t).view.emb (ix2 0 b))).trans (congrArg₂ ix2 (Fin.ext ?_) (Fin.ext ?_)) <;> blk_simp [e] <;> rfl
  refine (foldW m c b t.val t.isLt).trans ?_
  refine Eq.trans ?_ (congrArg (total (args m c) Row.dlw) he).symm
  obtain ⟨n, hn⟩ := t
  obtain rfl : n = 31 := ht
  refine (Finset.sum_congr rfl fun s _ => partW_apply (fun a => reads m c _ hA a) (matrices m c ⟨s.val, Nat.lt_of_lt_of_le s.isLt hn⟩) b).trans ?_
  exact by_points fun r => (((args m c).row r).dlw b : EReal)

theorem arrB : (dats m 0 c).arrAt 17 cfg0.N = total (args m c) Row.up := by
  refine (dats m 0 c).arrAt_eq_of_covers 17 _ (by decide +kernel) fun t hf z => ?_
  have ht : t.val = 31 := by
    have := (flush0_17 t).mp hf
    have := lt t
    omega
  blk_simp
  rw [after0_17]
  obtain ⟨z, b, rfl⟩ : ∃ (a : Fin 1) (b : Fin 1024), z = ix2 a b := ⟨z 0, z 1, eq_ix2 z⟩
  obtain rfl : z = 0 := Subsingleton.elim _ _
  have e := (wholes t).2.2.2.2.2.2.1
  have he : (win0_17.blk t).view.emb (ix2 0 b) = ix2 (0 : Fin 1) b := by
    refine (eq_ix2 ((win0_17.blk t).view.emb (ix2 0 b))).trans (congrArg₂ ix2 (Fin.ext ?_) (Fin.ext ?_)) <;> blk_simp [e] <;> rfl
  refine (foldB m c b t.val t.isLt).trans ?_
  refine Eq.trans ?_ (congrArg (total (args m c) Row.up) he).symm
  obtain ⟨n, hn⟩ := t
  obtain rfl : n = 31 := ht
  refine (Finset.sum_congr rfl fun s _ => partB_apply (fun a => reads m c _ hA a) (matrices m c ⟨s.val, Nat.lt_of_lt_of_le s.isLt hn⟩) b).trans ?_
  exact by_points fun r => (((args m c).row r).up b : EReal)

theorem arrRk : (dats m 0 c).arrAt 18 cfg0.N = total (args m c) Row.drk := by
  refine (dats m 0 c).arrAt_eq_of_covers 18 _ (by decide +kernel) fun t hf z => ?_
  have ht : t.val = 31 := by
    have := (flush0_18 t).mp hf
    have := lt t
    omega
  blk_simp
  rw [after0_18]
  obtain ⟨z, b, rfl⟩ : ∃ (a : Fin 1) (b : Fin 1024), z = ix2 a b := ⟨z 0, z 1, eq_ix2 z⟩
  obtain rfl : z = 0 := Subsingleton.elim _ _
  have e := (wholes t).2.2.2.2.2.2.2
  have he : (win0_18.blk t).view.emb (ix2 0 b) = ix2 (0 : Fin 1) b := by
    refine (eq_ix2 ((win0_18.blk t).view.emb (ix2 0 b))).trans (congrArg₂ ix2 (Fin.ext ?_) (Fin.ext ?_)) <;> blk_simp [e] <;> rfl
  refine (foldRk m c b t.val t.isLt).trans ?_
  refine Eq.trans ?_ (congrArg (total (args m c) Row.drk) he).symm
  obtain ⟨n, hn⟩ := t
  obtain rfl : n = 31 := ht
  refine (Finset.sum_congr rfl fun s _ => partK_apply (fun a => reads m c _ hA a) (matrices m c ⟨s.val, Nat.lt_of_lt_of_le s.isLt hn⟩) b).trans ?_
  exact by_points fun r => (((args m c).row r).drk b : EReal)

end Arrays

end Cert.RwkvPostBwdIdeal.Value
-- ==== Proof.RwkvPostBwdRef.lean ====
/-
  The reference of the head norm's gradient, row by row, and that it leaves what the kernel leaves.
-/
module

public import proofs.«01_k».proof.Proof.RwkvPostBwdValue
public import proofs.«01_k».proof.Proof.Gen.RwkvPostBwdRefIdeal.Run

@[expose] public section

set_option maxRecDepth 16384

noncomputable section

namespace Cert.Heads
open Idealize.ShloMosaic

/-- Channel `l` of head `h`. -/
def ch (h : Fin 16) (l : Fin 64) : Fin 1024 := ⟨h.val * 64 + l.val, by omega⟩

theorem headOf_ch (h : Fin 16) (l : Fin 64) : headOf (ch h l) = ix2 h l := by
  refine congrArg₂ ix2 (Fin.ext ?_) (Fin.ext ?_)
  · show (h.val * 64 + l.val) / 64 = h.val
    omega
  · show (h.val * 64 + l.val) % 64 = l.val
    omega

theorem ch_split (b : Fin 1024) : ch ⟨b.val / 64, Nat.div_lt_of_lt_mul b.isLt⟩ ⟨b.val % 64, Nat.mod_lt _ (by decide)⟩ = b :=
  Fin.ext (Nat.div_add_mod' b.val 64)

/-- The sum over a head, over its sixty-four channels. -/
theorem hs_ch (f : Fin 1024 → ℝ) (h : Fin 16) (l : Fin 64) : hs f (ch h l) = ∑ j : Fin 64, f (ch h j) := by
  have e : ∀ (i : Fin 16) (j : Fin 64), (if (ch i j).val / 64 = (ch h l).val / 64 then f (ch i j) else 0) = if i = h then f (ch i j) else 0 := by
    intro i j
    have e1 : (ch i j).val / 64 = i.val := by show (i.val * 64 + j.val) / 64 = i.val; omega
    have e2 : (ch h l).val / 64 = h.val := by show (h.val * 64 + l.val) / 64 = h.val; omega
    rw [e1, e2]
    exact if_congr Fin.ext_iff.symm rfl rfl
  unfold hs
  refine (Equiv.sum_comp (finProdFinEquiv (m := 16) (n := 64)) _).symm.trans ((Fintype.sum_prod_type _).trans ?_)
  have e0 : ∀ (i : Fin 16) (j : Fin 64), finProdFinEquiv (i, j) = ch i j := fun i j =>
    Fin.ext (by show j.val + 64 * i.val = i.val * 64 + j.val; omega)
  refine (Finset.sum_congr rfl fun i _ => Finset.sum_congr rfl fun j _ => by rw [e0]).trans ?_
  refine (Finset.sum_congr rfl fun i _ => Finset.sum_congr rfl fun j _ => e i j).trans ?_
  rw [Finset.sum_eq_single_of_mem h (Finset.mem_univ _) fun i _ hi => Finset.sum_eq_zero fun j _ => if_neg hi]
  exact Finset.sum_congr rfl fun j _ => if_pos rfl

theorem hs_add (f g : Fin 1024 → ℝ) (b : Fin 1024) : hs (fun k => f k + g k) b = hs f b + hs g b := by
  unfold hs
  rw [← Finset.sum_add_distrib]
  refine Finset.sum_congr rfl fun k _ => ?_
  split_ifs
  · rfl
  · exact (add_zero 0).symm

/-- Entries that are numbers. -/
theorem mul_at {s : Shape} {X Y : FVec Ideal s .f32} {i : s.Idx} {a b : ℝ} (hX : X i = (a : EReal)) (hY : Y i = (b : EReal)) : mulf X Y i = ((a * b : ℝ) : EReal) := by
  rw [EReal.coe_mul, ← hX, ← hY]
  rfl

@[inherit_doc mul_at]
theorem add_at {s : Shape} {X Y : FVec Ideal s .f32} {i : s.Idx} {a b : ℝ} (hX : X i = (a : EReal)) (hY : Y i = (b : EReal)) : addf X Y i = ((a + b : ℝ) : EReal) := by
  rw [EReal.coe_add, ← hX, ← hY]
  rfl

@[inherit_doc mul_at]
theorem sub_at {s : Shape} {X Y : FVec Ideal s .f32} {i : s.Idx} {a b : ℝ} (hX : X i = (a : EReal)) (hY : Y i = (b : EReal)) : subf X Y i = ((a - b : ℝ) : EReal) := by
  rw [EReal.coe_sub, ← hX, ← hY]
  rfl

@[inherit_doc mul_at]
theorem neg_at {s : Shape} {X : FVec Ideal s .f32} {i : s.Idx} {a : ℝ} (hX : X i = (a : EReal)) : Host.negf X i = ((-a : ℝ) : EReal) := by
  rw [EReal.coe_neg, ← hX]
  rfl

@[inherit_doc mul_at]
theorem div_at {s : Shape} {X Y : FVec Ideal s .f32} {i : s.Idx} {a b : ℝ} (hX : X i = (a : EReal)) (hY : Y i = (b : EReal)) (hb : b ≠ 0) :
    Host.divf X Y i = ((a * (1 / b) : ℝ) : EReal) := by
  rw [EReal.coe_mul, ← hX, ← Ideal.div_coe hb, ← hY]
  rfl

namespace Row
variable (A : Row) (b : Fin 1024)

theorem var_const (k : Fin 1024) (h : k.val / 64 = b.val / 64) : A.var k = A.var b := by
  unfold var
  rw [hs_const _ b k h]

theorem sl_const (k : Fin 1024) (h : k.val / 64 = b.val / 64) : A.sl k = A.sl b := by
  unfold sl rs
  rw [A.var_const b k h]

/-- The factors that are the same in a head stand before the sum. -/
theorem cv_eq : hs (fun k => A.cen k * (A.up k * A.lw k)) b * A.sl b * (1 / 64) = A.cv b := by
  unfold cv
  rw [hs_mul (fun _ => 1 / 64) (fun k => A.cen k * (A.up k * A.lw k) * A.sl k) b fun _ _ => rfl, hs_mul A.sl _ b (A.sl_const b)]

theorem core_eq : A.up b * A.lw b * A.rs b + A.cv b * (2 * A.cen b) = A.core b := by
  unfold core
  ring

theorem dy_eq : A.core b + (hs (fun k => -(A.up k * A.lw k * A.rs k)) b + hs (fun k => -(A.cv k * (2 * A.cen k))) b) * (1 / 64) = A.dy b := by
  unfold dy
  rw [hs_mul (fun _ => 1 / 64) (fun k => 0 - A.core k) b fun _ _ => rfl, ← hs_add]
  refine congrArg (fun f => A.core b + hs f b * (1 / 64)) (funext fun k => ?_)
  rw [← A.core_eq k]
  ring

end Row

end Cert.Heads

namespace Cert.RwkvPostBwdRefIdeal.Value
open Cert.RwkvPostBwdRefIdeal Cert.RwkvPostBwdRefIdeal.Gen Idealize.ShloMosaic Idealize.ShloMosaic.TcCoe Idealize.SL.Sem Idealize.ShloMosaic.StableHlo Cert.Heads

/-- The reference's steps: channels split into heads and joined again, -/
def split (x : FVec Ideal S8192x1024 .f32) : FVec Ideal S8192x16x64 .f32 := shapeCast _ x shapeCasts_S8192x1024_S8192x16x64

@[inherit_doc split]
def join (x : FVec Ideal S8192x16x64 .f32) : FVec Ideal S8192x1024 .f32 := shapeCast _ x shapeCasts_S8192x16x64_S8192x1024

/-- sums over a head, -/
def sumH (x : FVec Ideal S8192x16x64 .f32) : FVec Ideal S8192x16 .f32 := Host.reduceAdd x (constant S_ .f32 0x00000000#32) reducesTo_S8192x16x64_S8192x16_d2 h_S_

@[inherit_doc sumH]
def drop (x : FVec Ideal S8192x16x1 .f32) : FVec Ideal S8192x16 .f32 := Host.reduceAdd x (constant S_ .f32 0x00000000#32) reducesTo_S8192x16x1_S8192x16_d2 h_S_

/-- and what they are spread over. -/
def one (x : FVec Ideal S8192x16 .f32) : FVec Ideal S8192x16x1 .f32 := broadcastInDim S8192x16x1 ![0, 1] bcast_S8192x16_S8192x16x1_0_1 x

@[inherit_doc one]
def flat (x : FVec Ideal S8192x16 .f32) : FVec Ideal S8192x16x1 .f32 := shapeCast _ x shapeCasts_S8192x16_S8192x16x1

@[inherit_doc one]
def spread (x : FVec Ideal S8192x16x1 .f32) : FVec Ideal S8192x16x64 .f32 := broadcastInDim S8192x16x64 ![0, 1, 2] bcast_S8192x16x1_S8192x16x64_0_1_2 x

@[inherit_doc one]
def fan (x : FVec Ideal S8192x16 .f32) : FVec Ideal S8192x16x64 .f32 := broadcastInDim S8192x16x64 ![0, 1] bcast_S8192x16_S8192x16x64_0_1 x

@[inherit_doc one]
def lit (b : BitVec 32) : FVec Ideal S8192x16x1 .f32 := broadcastInDim S8192x16x1 ![] bcast_S_S8192x16x1 (constant S_ .f32 b)

@[inherit_doc one]
def wide (x : FVec Ideal S1024 .f32) : FVec Ideal S8192x1024 .f32 := broadcastInDim S8192x1024 ![0, 1] bcast_S1x1024_S8192x1024_0_1 (broadcastInDim S1x1024 ![1] bcast_S1024_S1x1024_1 x)

@[inherit_doc one]
def tall (x : FVec Ideal S16x64 .f32) : FVec Ideal S8192x16x64 .f32 :=
  broadcastInDim S8192x16x64 ![0, 1, 2] bcast_S1x16x64_S8192x16x64_0_1_2 (broadcastInDim S1x16x64 ![1, 2] bcast_S16x64_S1x16x64_1_2 x)

section Steps
variable (r : Fin 8192) (f : Fin 1024 → ℝ)

/-- Row `r` of an array of heads. -/
def Is (X : FVec Ideal S8192x16x64 .f32) : Prop := ∀ h l, X (ix3 r h l) = (f (ch h l) : EReal)

@[inherit_doc Is]
def Is1 (X : FVec Ideal S8192x16x1 .f32) : Prop := ∀ h l, X (ix3 r h 0) = (f (ch h l) : EReal)

@[inherit_doc Is]
def Is2 (X : FVec Ideal S8192x16 .f32) : Prop := ∀ h l, X (ix2 r h) = (f (ch h l) : EReal)

variable {r f}

theorem split_is {x : FVec Ideal S8192x1024 .f32} (hx : ∀ b, x (ix2 r b) = (f b : EReal)) : Is r f (split x) := by
  intro h l
  rw [← hx]
  unfold split ch
  pointwise

theorem join_is {x : FVec Ideal S8192x16x64 .f32} (hx : Is r f x) (b : Fin 1024) : join x (ix2 r b) = (f b : EReal) := by
  refine Eq.trans ?_ ((hx ⟨b.val / 64, Nat.div_lt_of_lt_mul b.isLt⟩ ⟨b.val % 64, Nat.mod_lt _ (by decide)⟩).trans (by rw [ch_split]))
  unfold join
  pointwise

theorem sumH_is {x : FVec Ideal S8192x16x64 .f32} (hx : Is r f x) : Is2 r (hs f) (sumH x) := by
  intro h l
  rw [hs_ch, ← coe_sum _ _ (hx h)]
  unfold sumH
  pointwise

theorem drop_is {x : FVec Ideal S8192x16x1 .f32} (hx : Is1 r f x) : Is2 r f (drop x) := by
  intro h l
  rw [← hx h l]
  unfold drop
  pointwise
  simp

theorem one_is {x : FVec Ideal S8192x16 .f32} (hx : Is2 r f x) : Is1 r f (one x) := by
  intro h l
  rw [← hx h l]
  unfold one
  pointwise

theorem flat_is {x : FVec Ideal S8192x16 .f32} (hx : Is2 r f x) : Is1 r f (flat x) := by
  intro h l
  rw [← hx h l]
  unfold flat
  pointwise

theorem spread_is {x : FVec Ideal S8192x16x1 .f32} (hx : Is1 r f x) : Is r f (spread x) := by
  intro h l
  rw [← hx h l]
  unfold spread
  pointwise

theorem fan_is {x : FVec Ideal S8192x16 .f32} (hx : Is2 r f x) : Is r f (fan x) := by
  intro h l
  rw [← hx h l]
  unfold fan
  pointwise

theorem lit_is (b : BitVec 32) (v : ℝ) (hb : Ideal.ofBits .f32 b = (v : EReal)) : Is1 r (fun _ => v) (lit b) := by
  intro h l
  refine Eq.trans ?_ hb
  unfold lit
  pointwise

end Steps

variable (A : Args)

/-- The reference's arrays, from the inside out. -/
def cenR : FVec Ideal S8192x16x64 .f32 := subf (split A.y) (spread (Host.divf (one (sumH (split A.y))) (lit 0x42800000#32)))

@[inherit_doc cenR]
def varR : FVec Ideal S8192x16x1 .f32 := addf (Host.divf (one (sumH (mulf (cenR A) (cenR A)))) (lit 0x42800000#32)) (lit 0x3A27C5AC#32)

@[inherit_doc cenR]
def rsR : FVec Ideal S8192x16x1 .f32 := Host.rsqrt (varR A)

@[inherit_doc cenR]
def upR : FVec Ideal S8192x1024 .f32 := mulf (F := Ideal) (s := S8192x1024) (φ := .f32) A.z A.g

@[inherit_doc cenR]
def qR : FVec Ideal S8192x16x64 .f32 := split (mulf (upR A) (wide A.lw))

@[inherit_doc cenR]
def bonR : FVec Ideal S8192x16x64 .f32 := spread (one (sumH (mulf (mulf (split A.r) (split A.k)) (tall A.rk))))

@[inherit_doc cenR]
def hvR : FVec Ideal S8192x16x64 .f32 := fan (drop (flat (sumH (mulf (split (upR A)) (split A.v)))))

@[inherit_doc cenR]
def cvR : FVec Ideal S8192x16x64 .f32 :=
  fan (drop (Host.divf (mulf (flat (sumH (mulf (cenR A) (qR A)))) (mulf (lit 0xBF000000#32) (Host.divf (rsR A) (varR A)))) (lit 0x42800000#32)))

@[inherit_doc cenR]
def squareR : FVec Ideal S8192x16x64 .f32 := mulf (cvR A) (mulf (broadcastInDim S8192x16x64 ![] bcast_S_S8192x16x64 (constant S_ .f32 0x40000000#32)) (cenR A))

@[inherit_doc cenR]
def dyR : FVec Ideal S8192x16x64 .f32 := addf (addf (mulf (qR A) (spread (rsR A))) (squareR A))
  (fan (drop (Host.divf (addf (flat (sumH (Host.negf (mulf (qR A) (spread (rsR A)))))) (flat (sumH (Host.negf (squareR A))))) (lit 0x42800000#32))))

section Rows
variable {A} (hA : A.Real) (r : Fin 8192)
include hA

theorem y_is : Is r (A.row r).y (split A.y) := split_is fun b => real_eq (hA.y (ix2 r b))

theorem r_is : Is r (A.row r).r (split A.r) := split_is fun b => real_eq (hA.r (ix2 r b))

theorem k_is : Is r (A.row r).k (split A.k) := split_is fun b => real_eq (hA.k (ix2 r b))

theorem v_is : Is r (A.row r).v (split A.v) := split_is fun b => real_eq (hA.v (ix2 r b))

theorem lw_at (b : Fin 1024) : wide A.lw (ix2 r b) = ((A.row r).lw b : EReal) := by
  refine Eq.trans ?_ (real_eq (hA.lw (ix1 b)))
  unfold wide
  pointwise

theorem lb_at (b : Fin 1024) : wide A.lb (ix2 r b) = ((A.row r).lb b : EReal) := by
  refine Eq.trans ?_ (real_eq (hA.lb (ix1 b)))
  unfold wide
  pointwise

theorem rk_is : Is r (A.row r).rk (tall A.rk) := by
  intro h l
  refine Eq.trans ?_ (real_eq (hA.rk (headOf (ch h l))))
  rw [headOf_ch]
  unfold tall
  pointwise

theorem up_at (b : Fin 1024) : upR A (ix2 r b) = ((A.row r).up b : EReal) := mul_at (real_eq (hA.z _)) (real_eq (hA.g _))

theorem up_is : Is r (A.row r).up (split (upR A)) := split_is (up_at hA r)

theorem q_is : Is r (fun b => (A.row r).up b * (A.row r).lw b) (qR A) := split_is fun b => mul_at (up_at hA r b) (lw_at hA r b)

theorem cen_is : Is r (A.row r).cen (cenR A) := fun h l =>
  sub_at (y_is hA r h l) (spread_is (f := fun b => hs (A.row r).y b * (1 / 64)) (fun h l => div_at (one_is (sumH_is (y_is hA r)) h l) (lit_is _ 64 lit_64 h l) (by norm_num)) h l)

theorem var_is : Is1 r (A.row r).var (varR A) := fun h l =>
  add_at (div_at (one_is (sumH_is (f := fun k => (A.row r).cen k * (A.row r).cen k) fun h l => mul_at (cen_is hA r h l) (cen_is hA r h l)) h l) (lit_is _ 64 lit_64 h l) (by norm_num))
    (lit_is _ eps lit_eps h l)

theorem rs_is : Is1 r (A.row r).rs (rsR A) := fun h l => by
  refine (congrArg Ideal.rsqrt (var_is hA r h l)).trans ?_
  rw [Ideal.rsqrt_coe, if_neg (not_lt.mpr ((A.row r).var_pos _).le), if_neg ((A.row r).var_pos _).ne']
  rfl

theorem bon_is : Is r (A.row r).bon (bonR A) :=
  spread_is (one_is (sumH_is (f := fun k => (A.row r).r k * (A.row r).k k * (A.row r).rk k) fun h l => mul_at (mul_at (r_is hA r h l) (k_is hA r h l)) (rk_is hA r h l)))

theorem hv_is : Is r (A.row r).hv (hvR A) :=
  fan_is (drop_is (flat_is (sumH_is (f := fun k => (A.row r).up k * (A.row r).v k) fun h l => mul_at (up_is hA r h l) (v_is hA r h l))))

theorem cv_is : Is r (A.row r).cv (cvR A) := by
  have e : (A.row r).cv = fun b => hs (fun k => (A.row r).cen k * ((A.row r).up k * (A.row r).lw k)) b * (A.row r).sl b * (1 / 64) := funext fun b => ((A.row r).cv_eq b).symm
  rw [e]
  refine fan_is (drop_is fun h l => div_at (mul_at (flat_is (sumH_is fun h l => mul_at (cen_is hA r h l) (q_is hA r h l)) h l) ?_) (lit_is _ 64 lit_64 h l) (by norm_num))
  exact mul_at (lit_is _ (-(1 / 2)) lit_half h l) (div_at (rs_is hA r h l) (var_is hA r h l) ((A.row r).var_pos _).ne')

theorem square_is : Is r (fun b => (A.row r).cv b * (2 * (A.row r).cen b)) (squareR A) := fun h l =>
  mul_at (cv_is hA r h l) (mul_at (Eq.trans (by pointwise) lit_two) (cen_is hA r h l))

theorem main_is : Is r (fun b => (A.row r).up b * (A.row r).lw b * (A.row r).rs b) (mulf (qR A) (spread (rsR A))) := fun h l =>
  mul_at (q_is hA r h l) (spread_is (rs_is hA r) h l)

theorem dy_is : Is r (A.row r).dy (dyR A) := by
  have e : (A.row r).dy = fun b => (A.row r).up b * (A.row r).lw b * (A.row r).rs b + (A.row r).cv b * (2 * (A.row r).cen b)
      + (hs (fun k => -((A.row r).up k * (A.row r).lw k * (A.row r).rs k)) b + hs (fun k => -((A.row r).cv k * (2 * (A.row r).cen k))) b) * (1 / 64) :=
    funext fun b => by rw [(A.row r).core_eq b, (A.row r).dy_eq b]
  rw [e]
  refine fun h l => add_at (add_at (main_is hA r h l) (square_is hA r h l)) (fan_is (f := fun b => (hs (fun k => -((A.row r).up k * (A.row r).lw k * (A.row r).rs k)) b
    + hs (fun k => -((A.row r).cv k * (2 * (A.row r).cen k))) b) * (1 / 64)) (drop_is fun h l => div_at (add_at ?_ ?_) (lit_is _ 64 lit_64 h l) (by norm_num)) h l)
  · exact flat_is (sumH_is fun h l => neg_at (main_is hA r h l)) h l
  · exact flat_is (sumH_is fun h l => neg_at (square_is hA r h l)) h l

/-- The norm of a row. -/
theorem norm_at (b : Fin 1024) : join (mulf (cenR A) (spread (rsR A))) (ix2 r b) = (((A.row r).cen b * (A.row r).rs b : ℝ) : EReal) :=
  join_is (f := fun b => (A.row r).cen b * (A.row r).rs b) (fun h l => mul_at (cen_is hA r h l) (spread_is (rs_is hA r) h l)) b

end Rows

section Results
variable {A} (hA : A.Real)
include hA

omit hA in
/-- An array is known by its rows. -/
theorem by_rows (X : FVec Ideal S8192x1024 .f32) (f : Row → Fin 1024 → ℝ) (h : ∀ r b, X (ix2 r b) = (f (A.row r) b : EReal)) : X = rows A f :=
  funext fun i => (congrArg X (eq_ix2 i)).trans (h (i 0) (i 1))

theorem resY : join (dyR A) = rows A Row.dy := by_rows _ _ fun r b => join_is (dy_is hA r) b

theorem resR : join (mulf (mulf (hvR A) (tall A.rk)) (split A.k)) = rows A Row.dr :=
  by_rows _ _ fun r b => join_is (f := (A.row r).dr) (fun h l => mul_at (mul_at (hv_is hA r h l) (rk_is hA r h l)) (k_is hA r h l)) b

theorem resK : join (mulf (split A.r) (mulf (hvR A) (tall A.rk))) = rows A Row.dk :=
  by_rows _ _ fun r b => join_is (f := (A.row r).dk) (fun h l => mul_at (r_is hA r h l) (mul_at (hv_is hA r h l) (rk_is hA r h l))) b

theorem resV : join (mulf (bonR A) (split (upR A))) = rows A Row.dv :=
  by_rows _ _ fun r b => join_is (f := (A.row r).dv) (fun h l => mul_at (bon_is hA r h l) (up_is hA r h l)) b

theorem resG : mulf (addf (addf (mulf (join (mulf (cenR A) (spread (rsR A)))) (wide A.lw)) (wide A.lb)) (join (mulf (bonR A) (split A.v)))) A.z = rows A Row.dgate :=
  by_rows _ _ fun r b => mul_at (add_at (add_at (mul_at (norm_at hA r b) (lw_at hA r b)) (lb_at hA r b))
    (join_is (f := fun b => (A.row r).bon b * (A.row r).v b) (fun h l => mul_at (bon_is hA r h l) (v_is hA r h l)) b)) (real_eq (hA.z (ix2 r b)))

omit hA in
/-- The sum over the rows, and once more over the one row it is. -/
def sumRows (x : FVec Ideal S8192x1024 .f32) : FVec Ideal S1x1024 .f32 :=
  shapeCast _ (Host.reduceAdd (shapeCast _ (Host.reduceAdd x (constant S_ .f32 0x00000000#32) reducesTo_S8192x1024_S1024_d0 h_S_) shapeCasts_S1024_S1x1024)
    (constant S_ .f32 0x00000000#32) reducesTo_S1x1024_S1024_d0 h_S_) shapeCasts_S1024_S1x1024

omit hA in
@[inherit_doc sumRows]
def sumHeads (x : FVec Ideal S8192x16x64 .f32) : FVec Ideal S1x1024 .f32 :=
  shapeCast _ (Host.reduceAdd (shapeCast _ (Host.reduceAdd x (constant S_ .f32 0x00000000#32) reducesTo_S8192x16x64_S16x64_d0 h_S_) shapeCasts_S16x64_S1x16x64)
    (constant S_ .f32 0x00000000#32) reducesTo_S1x16x64_S16x64_d0 h_S_) shapeCasts_S16x64_S1x1024

omit hA in
theorem sumRows_eq (x : FVec Ideal S8192x1024 .f32) (f : Row → Fin 1024 → ℝ) (h : ∀ r b, x (ix2 r b) = (f (A.row r) b : EReal)) : sumRows x = total A f := by
  funext i
  obtain ⟨z, b, rfl⟩ : ∃ (a : Fin 1) (b : Fin 1024), i = ix2 a b := ⟨i 0, i 1, eq_ix2 i⟩
  refine Eq.trans ?_ (Finset.sum_congr rfl fun r _ => h r b)
  unfold sumRows
  pointwise
  simp

omit hA in
theorem sumHeads_eq (x : FVec Ideal S8192x16x64 .f32) (f : Row → Fin 1024 → ℝ) (h : ∀ r, Is r (f (A.row r)) x) : sumHeads x = total A f := by
  funext i
  obtain ⟨z, b, rfl⟩ : ∃ (a : Fin 1) (b : Fin 1024), i = ix2 a b := ⟨i 0, i 1, eq_ix2 i⟩
  refine Eq.trans ?_ (Finset.sum_congr rfl fun r _ =>
    (h r ⟨b.val / 64, Nat.div_lt_of_lt_mul b.isLt⟩ ⟨b.val % 64, Nat.mod_lt _ (by decide)⟩).trans (by rw [ch_split]))
  unfold sumHeads
  pointwise
  simp

theorem resW : sumRows (mulf (join (mulf (cenR A) (spread (rsR A)))) (upR A)) = total A Row.dlw :=
  sumRows_eq _ _ fun r b => mul_at (norm_at hA r b) (up_at hA r b)

theorem resB : sumRows (upR A) = total A Row.up := sumRows_eq _ _ fun r b => up_at hA r b

theorem resRk : sumHeads (mulf (mulf (split A.r) (split A.k)) (hvR A)) = total A Row.drk :=
  sumHeads_eq _ _ fun r h l => mul_at (mul_at (r_is hA r h l) (k_is hA r h l)) (hv_is hA r h l)

end Results

/-- The arrays the reference is given. -/
def args (m : (ℓ : Loc nD τ sig) → Buf (Elt Ideal) ℓ) (c : Dev nD) : Args where
  y := m (c.tc.loc main_arg0)
  r := m (c.tc.loc main_arg1)
  k := m (c.tc.loc main_arg2)
  v := m (c.tc.loc main_arg3)
  g := m (c.tc.loc main_arg4)
  z := m (c.tc.loc main_arg5)
  lw := m (c.tc.loc main_arg6)
  lb := m (c.tc.loc main_arg7)
  rk := m (c.tc.loc main_arg8)

theorem outY (m : (ℓ : Loc nD τ sig) → Buf (Elt Ideal) ℓ) (c : Dev nD) : res_main_v100 m c = join (dyR (args m c)) := rfl

end Cert.RwkvPostBwdRefIdeal.Value

namespace Cert.Pre_finite_post.Gate
open Idealize.ShloMosaic Idealize.ShloMosaic.TcCoe Cert.Heads

theorem facts : Cert.Pre_finite_post.Facts := ⟨by decide, by decide, by decide⟩

attribute [local instance] facts

/-- The precondition says of the nine arrays that they consist of numbers. -/
theorem args (m : (ℓ : Loc Cert.RwkvPostBwdIdeal.nD Cert.RwkvPostBwdIdeal.τ Cert.RwkvPostBwdIdeal.sig) → Buf (Elt Ideal) ℓ)
    (h : Cert.Pre_RwkvPostBwdIdeal_finite_post m) (c : Dev Cert.RwkvPostBwdIdeal.nD) : (Cert.RwkvPostBwdIdeal.Value.args m c).Real := by
  obtain ⟨h0, h1, h2, h3, h4, h5, h6, h7, h8⟩ := h c
  exact ⟨Cert.Pre_finite_act.Gate.numbers _ _ h0, Cert.Pre_finite_act.Gate.numbers _ _ h1, Cert.Pre_finite_act.Gate.numbers _ _ h2,
    Cert.Pre_finite_act.Gate.numbers _ _ h3, Cert.Pre_finite_act.Gate.numbers _ _ h4, Cert.Pre_finite_act.Gate.numbers _ _ h5,
    Cert.Pre_finite_act.Gate.numbers _ _ h6, Cert.Pre_finite_act.Gate.numbers _ _ h7, Cert.Pre_finite_act.Gate.numbers _ _ h8⟩

end Cert.Pre_finite_post.Gate

namespace Cert.Proof
open Idealize.ShloMosaic Idealize.ShloMosaic.TcCoe Idealize.ShloMosaic.StableHlo Idealize.SL.Sem Cert.Heads

/-- Kernel and reference leave the same arrays. -/
theorem rwkvPostBwd : @Cert.algebraic_RwkvPostBwdIdeal_RwkvPostBwdRefIdeal_pre_finite_post Cert.RwkvPostBwdIdeal.Gen.facts Cert.RwkvPostBwdRefIdeal.Gen.facts
    Cert.Pre_finite_post.Gate.facts := by
  unfold Cert.algebraic_RwkvPostBwdIdeal_RwkvPostBwdRefIdeal_pre_finite_post
  intro m g m' g' hp hargs
  have hA := fun c => Cert.Pre_finite_post.Gate.args m hp c
  refine ⟨fun c => rows (Cert.RwkvPostBwdIdeal.Value.args m c) Row.dy, fun c => rows (Cert.RwkvPostBwdIdeal.Value.args m c) Row.dr,
    fun c => rows (Cert.RwkvPostBwdIdeal.Value.args m c) Row.dk, fun c => rows (Cert.RwkvPostBwdIdeal.Value.args m c) Row.dv,
    fun c => rows (Cert.RwkvPostBwdIdeal.Value.args m c) Row.dgate, fun c => total (Cert.RwkvPostBwdIdeal.Value.args m c) Row.dlw,
    fun c => total (Cert.RwkvPostBwdIdeal.Value.args m c) Row.up, fun c => total (Cert.RwkvPostBwdIdeal.Value.args m c) Row.drk,
    (θ_run _ _ _).mono (fun r h c => ?_) (Cert.RwkvPostBwdIdeal.Value.run_blocks m g),
    (θ_run _ _ _).mono (fun r h c => ?_) (Cert.RwkvPostBwdRefIdeal.Value.run m' g')⟩
  · obtain ⟨h0, h1, h2, h3, h4, h5, h6, h7, h8⟩ := h c
    exact ⟨h0.trans (Cert.RwkvPostBwdIdeal.Value.arrY m c (hA c)), h1.trans (Cert.RwkvPostBwdIdeal.Value.arrR m c (hA c)),
      h2.trans (Cert.RwkvPostBwdIdeal.Value.arrK m c (hA c)), h3.trans (Cert.RwkvPostBwdIdeal.Value.arrV m c (hA c)),
      h4.trans (Cert.RwkvPostBwdIdeal.Value.arrG m c (hA c)), h5.trans (Cert.RwkvPostBwdIdeal.Value.arrW m c (hA c)),
      h6.trans (Cert.RwkvPostBwdIdeal.Value.arrB m c (hA c)), h7.trans (Cert.RwkvPostBwdIdeal.Value.arrRk m c (hA c)), h8⟩
  · obtain ⟨e0, e1, e2, e3, e4, e5, e6, e7, e8⟩ := hargs c
    have e : Cert.RwkvPostBwdRefIdeal.Value.args m' c = Cert.RwkvPostBwdIdeal.Value.args m c :=
      (Args.mk.injEq ..).mpr ⟨e0, e1, e2, e3, e4, e5, e6, e7, e8⟩
    have hR : (Cert.RwkvPostBwdRefIdeal.Value.args m' c).Real := e ▸ hA c
    obtain ⟨h0, h1, h2, h3, h4, h5, h6, h7, h8⟩ := h c
    have H : ∀ (f : Row → Fin 1024 → ℝ), rows (Cert.RwkvPostBwdRefIdeal.Value.args m' c) f = rows (Cert.RwkvPostBwdIdeal.Value.args m c) f := fun f => by rw [e]
    have H' : ∀ (f : Row → Fin 1024 → ℝ), total (Cert.RwkvPostBwdRefIdeal.Value.args m' c) f = total (Cert.RwkvPostBwdIdeal.Value.args m c) f := fun f => by rw [e]
    exact ⟨h0.trans ((Cert.RwkvPostBwdRefIdeal.Value.outY m' c).trans ((Cert.RwkvPostBwdRefIdeal.Value.resY hR).trans (H _))), h1.trans ((Cert.RwkvPostBwdRefIdeal.Value.resR hR).trans (H _)),
      h2.trans ((Cert.RwkvPostBwdRefIdeal.Value.resK hR).trans (H _)), h3.trans ((Cert.RwkvPostBwdRefIdeal.Value.resV hR).trans (H _)), h4.trans ((Cert.RwkvPostBwdRefIdeal.Value.resG hR).trans (H _)),
      h5.trans ((Cert.RwkvPostBwdRefIdeal.Value.resW hR).trans (H' _)), h6.trans ((Cert.RwkvPostBwdRefIdeal.Value.resB hR).trans (H' _)), h7.trans ((Cert.RwkvPostBwdRefIdeal.Value.resRk hR).trans (H' _)), h8⟩

/-- The reference's frame: it leaves its arguments alone and has no semaphore. -/
theorem frame_RwkvPostBwdRef : @Cert.quiescent_RwkvPostBwdRefIdeal Cert.RwkvPostBwdRefIdeal.Gen.facts := by
  intro m g _
  refine (θ_run _ _ _).mono (fun r h => ⟨fun c => (h c).2.2.2.2.2.2.2.2, funext fun s => ?_⟩) (Cert.RwkvPostBwdRefIdeal.Value.run m g)
  exact ((by decide : ∀ sm : SemLoc Cert.RwkvPostBwdRefIdeal.sig, False) s.2).elim

end Cert.Proof
-- ==== Proof.LossHeadValue.lean ====
/-
  The loss head: the loss, half the mean square error of the normed stream against the targets, summed over all rows, and
  its gradients in the stream and in the scale. Loss and gradient in the scale grow from tile to tile.
-/
module

public import proofs.«01_k».proof.Defs
public import proofs.«01_k».proof.Proof.NormBwdValue
public import proofs.«01_k».proof.Proof.Heads
public import proofs.«01_k».proof.Proof.Gen.LossHeadIdeal.Value
public import proofs.«01_k».proof.Proof.Gen.LossHeadRefIdeal.Run

@[expose] public section

set_option maxRecDepth 16384

noncomputable section

namespace Cert.RmsNorm
open Idealize.ShloMosaic

/-- The error of a row. -/
def err (x g t : Fin 1024 → EReal) (b : Fin 1024) : EReal := x b * inv x * g b - t b

/-- The cotangent of the normed row. -/
def cot (x g t : Fin 1024 → EReal) (b : Fin 1024) : EReal := err x g t b * ((1 / 1024 : ℝ) : EReal)

/-- The sum of a row's squares. -/
def sq (x g t : Fin 1024 → EReal) : EReal := ∑ b, err x g t b * err x g t b

/-- The gradient in the stream at one entry of a row. -/
def dx0 (x g d : Fin 1024 → EReal) (b : Fin 1024) : EReal :=
  d b * g b * inv x + x b * coef x g d + coef x g d * x b

theorem lit_1024 : Ideal.ofBits .f32 0x44800000#32 = ((1024 : ℝ) : EReal) := by
  simp [Ideal.ofBits, Ideal.ieee, -EReal.coe_mul]; norm_num

theorem lit_inv1024 : Ideal.ofBits .f32 0x3A800000#32 = ((1 / 1024 : ℝ) : EReal) := by
  simp [Ideal.ofBits, Ideal.ieee, -EReal.coe_mul]; norm_num

theorem lit_inv2048 : Ideal.ofBits .f32 0x3A000000#32 = ((1 / 2048 : ℝ) : EReal) := by
  simp [Ideal.ofBits, Ideal.ieee, -EReal.coe_mul]; norm_num

theorem lit_pos_half : Ideal.ofBits .f32 0x3F000000#32 = ((1 / 2 : ℝ) : EReal) := by
  simp [Ideal.ofBits, Ideal.ieee, -EReal.coe_mul]; norm_num

/-- The reference's cotangent, from the derivative of the square, is the kernel's. -/
theorem cot_eq (e : EReal) :
    Ideal.div (Ideal.ofBits .f32 0x3F000000#32) (Ideal.ofBits .f32 0x44800000#32) * (Ideal.ofBits .f32 0x40000000#32 * e)
      = e * ((1 / 1024 : ℝ) : EReal) := by
  rw [lit_pos_half, lit_1024, Cert.Heads.lit_two, Ideal.div_coe (by norm_num), ← mul_assoc, mul_comm e]
  refine congrArg (· * e) ?_
  rw [← EReal.coe_mul, ← EReal.coe_mul]
  norm_num

theorem mul_self_nonneg (e : EReal) : 0 ≤ e * e := by
  rcases le_total 0 e with h | h
  · exact mul_nonneg h h
  · have h' : 0 ≤ -e := EReal.neg_nonneg.mpr h
    have := mul_nonneg h' h'
    rwa [neg_mul_neg] at this

theorem sq_nonneg (x g t : Fin 1024 → EReal) : 0 ≤ sq x g t := Finset.sum_nonneg fun b _ => mul_self_nonneg _

/-- A factor moves into a sum of numbers that are not negative. -/
theorem sum_mul_nonneg {ι : Type} [Fintype ι] (f : ι → EReal) (hf : ∀ i, 0 ≤ f i) (c : EReal) : (∑ i, f i) * c = ∑ i, f i * c := by
  classical
  refine Finset.induction_on (motive := fun s : Finset ι => (∑ i ∈ s, f i) * c = ∑ i ∈ s, f i * c) Finset.univ (by simp) fun a s ha ih => ?_
  rw [Finset.sum_insert ha, Finset.sum_insert ha, EReal.right_distrib_of_nonneg (hf a) (Finset.sum_nonneg fun i _ => hf i), ih]

/-- The reference's loss, a half times a sum of means, is a sum of scaled sums. -/
theorem loss_eq (f : Fin 8192 → EReal) (hf : ∀ i, 0 ≤ f i) :
    Ideal.ofBits .f32 0x3F000000#32 * ∑ a, Ideal.div (f a) (Ideal.ofBits .f32 0x44800000#32) = ∑ a, f a * ((1 / 2048 : ℝ) : EReal) := by
  rw [lit_pos_half, lit_1024]
  simp only [Ideal.div_coe (show (1024 : ℝ) ≠ 0 by norm_num)]
  rw [mul_comm, sum_mul_nonneg _ fun a => mul_nonneg (hf a) (EReal.coe_nonneg.mpr (by norm_num))]
  refine Finset.sum_congr rfl fun a _ => ?_
  rw [mul_assoc, ← EReal.coe_mul]
  norm_num

end Cert.RmsNorm

namespace Cert.LossHeadIdeal.Value

open Cert.LossHeadIdeal Cert.LossHeadIdeal.Gen Idealize.ShloMosaic Idealize.ShloMosaic.TcCoe Idealize.SL.Sem Cert.RmsNorm

section Pay
variable (x : Vec Ideal S512x1024 .f32) (g : Vec Ideal S1x1024 .f32) (t : Vec Ideal S512x1024 .f32) (a : Fin 512) (b : Fin 1024)

theorem pay9_apply : k0_pay9 x g t (ix2 a b) = err (fun k => x (ix2 a k)) (fun k => g (ix2 0 k)) (fun k => t (ix2 a k)) b := by
  unfold k0_pay9 k0_pay8 k0_pay7 k0_pay6 k0_pay5
  pointwise
  rfl

theorem pay10_apply : k0_pay10 x g t (ix2 a b) = cot (fun k => x (ix2 a k)) (fun k => g (ix2 0 k)) (fun k => t (ix2 a k)) b := by
  unfold cot
  rw [← pay9_apply, ← lit_inv1024]
  unfold k0_pay10
  generalize k0_pay9 (F := Ideal) _ _ _ = E
  pointwise

theorem pay12_apply : k0_pay12 x g t (ix2 a b)
    = dx0 (fun k => x (ix2 a k)) (fun k => g (ix2 0 k)) (cot (fun k => x (ix2 a k)) (fun k => g (ix2 0 k)) (fun k => t (ix2 a k))) b := by
  rw [← funext fun k => pay10_apply x g t a k]
  unfold k0_pay12
  generalize k0_pay10 (F := Ideal) _ _ _ = D
  unfold k0_pay7 k0_pay6 k0_pay5
  pointwise
  simp only [Fin.sum_univ_one]
  rfl

theorem pay11_apply : k0_pay11 x g t (ix2 0 b)
    = ∑ a : Fin 512, dg (fun k => x (ix2 a k)) (cot (fun k => x (ix2 a k)) (fun k => g (ix2 0 k)) (fun k => t (ix2 a k))) b := by
  simp only [dg, ← pay10_apply]
  unfold k0_pay11
  generalize k0_pay10 (F := Ideal) _ _ _ = D
  unfold k0_pay8 k0_pay7 k0_pay6
  pointwise
  rfl

/-- What a tile adds to the loss, from the tile's errors. -/
theorem pay4_apply (E : FVec Ideal S512x1024 .f32) (o : Vec Ideal S1x128 .f32) (z : Fin 128) :
    k0_pay4 E o (ix2 0 z) = o (ix2 0 z) + (∑ b : Fin 1024, ∑ a : Fin 512, E (ix2 a b)) * ((1 / 2048 : ℝ) : EReal) := by
  rw [← lit_inv2048]
  unfold k0_pay4
  pointwise

theorem pay13_apply : k0_pay13 x g t (ix2 a b) = err (fun k => x (ix2 a k)) (fun k => g (ix2 0 k)) (fun k => t (ix2 a k)) b
    * err (fun k => x (ix2 a k)) (fun k => g (ix2 0 k)) (fun k => t (ix2 a k)) b := by
  rw [← pay9_apply]
  unfold k0_pay13
  generalize k0_pay9 (F := Ideal) _ _ _ = E
  pointwise

/-- The tile's sum of squares, scaled, row by row. -/
theorem tileLoss : (∑ b : Fin 1024, ∑ a : Fin 512, k0_pay13 x g t (ix2 a b)) * ((1 / 2048 : ℝ) : EReal)
    = ∑ a : Fin 512, sq (fun k => x (ix2 a k)) (fun k => g (ix2 0 k)) (fun k => t (ix2 a k)) * ((1 / 2048 : ℝ) : EReal) := by
  rw [Finset.sum_comm]
  simp only [pay13_apply]
  exact sum_mul_nonneg (fun a : Fin 512 => sq (fun k => x (ix2 a k)) (fun k => g (ix2 0 k)) (fun k => t (ix2 a k))) (fun a => sq_nonneg _ _ _) _

end Pay

variable (m : (ℓ : Loc nD τ sig) → Buf (Elt Ideal) ℓ)

/-- What grid point `n` adds to the gradient in the scale. -/
def partG (c : Dev nD) (n : ℕ) (hn : n < cfg0.N) (b : Fin 1024) : EReal :=
  k0_pay11 (F := Ideal) (iblk m c 0 ⟨n, hn⟩) (iblk m c 2 ⟨n, hn⟩) (iblk m c 1 ⟨n, hn⟩) (ix2 0 b)

/-- What it adds to the loss. -/
def partL (c : Dev nD) (n : ℕ) (hn : n < cfg0.N) : EReal :=
  (∑ b : Fin 1024, ∑ a : Fin 512, k0_pay13 (F := Ideal) (iblk m c 0 ⟨n, hn⟩) (iblk m c 2 ⟨n, hn⟩) (iblk m c 1 ⟨n, hn⟩) (ix2 a b)) * ((1 / 2048 : ℝ) : EReal)

/-- Every point writes its tile of the gradient in the stream. -/
theorem tile (c : Dev nD) (t : Fin cfg0.N) :
    (outsAt0 m c t.val t.isLt).1 = k0_pay12 (F := Ideal) (iblk m c 0 t) (iblk m c 2 t) (iblk m c 1 t) := by
  by_cases h0 : t.val % 16 = 0
  · rw [outsAt0_A m c t h0]
    frame_out
  · rw [outsAt0_B m c t h0]
    frame_out

/-- The first point starts the sums. -/
theorem firstG (c : Dev nD) (t : Fin cfg0.N) (h0 : t.val % 16 = 0) (b : Fin 1024) :
    (outsAt0 m c t.val t.isLt).2.1 (ix2 0 b) = partG m c t.val t.isLt b := by
  rw [outsAt0_A m c t h0]
  frame_out
  unfold k0_pay3 k0_pay1 partG
  pointwise

@[inherit_doc firstG]
theorem firstL (c : Dev nD) (t : Fin cfg0.N) (h0 : t.val % 16 = 0) (z : Fin 128) :
    (outsAt0 m c t.val t.isLt).2.2 (ix2 0 z) = partL m c t.val t.isLt := by
  rw [outsAt0_A m c t h0]
  frame_out
  refine (pay4_apply _ _ z).trans ?_
  unfold k0_pay2 partL
  pointwise

/-- The others add to them. -/
theorem nextG (c : Dev nD) (t : Fin cfg0.N) (h0 : ¬t.val % 16 = 0) (b : Fin 1024) :
    (outsAt0 m c t.val t.isLt).2.1 (ix2 0 b)
      = (outsAt0 m c (t.val - 1) (Nat.lt_of_le_of_lt (Nat.sub_le _ _) t.isLt)).2.1 (ix2 0 b) + partG m c t.val t.isLt b := by
  rw [outsAt0_B m c t h0]
  frame_out
  unfold k0_pay3 partG
  pointwise

@[inherit_doc nextG]
theorem nextL (c : Dev nD) (t : Fin cfg0.N) (h0 : ¬t.val % 16 = 0) (z : Fin 128) :
    (outsAt0 m c t.val t.isLt).2.2 (ix2 0 z)
      = (outsAt0 m c (t.val - 1) (Nat.lt_of_le_of_lt (Nat.sub_le _ _) t.isLt)).2.2 (ix2 0 z) + partL m c t.val t.isLt := by
  rw [outsAt0_B m c t h0]
  frame_out
  exact pay4_apply _ _ z

/-- The sums after a point. -/
theorem foldG (c : Dev nD) (b : Fin 1024) : ∀ (n : ℕ) (hn : n < cfg0.N),
    (outsAt0 m c n hn).2.1 (ix2 0 b) = ∑ s : Fin (n + 1), partG m c s.val (Nat.lt_of_lt_of_le s.isLt hn) b
  | 0, hn => (firstG m c ⟨0, hn⟩ rfl b).trans (Fin.sum_univ_one fun s : Fin 1 => partG m c s.val (Nat.lt_of_lt_of_le s.isLt hn) b).symm
  | n + 1, hn => by
    have hl : n + 1 < 16 := hn
    refine (nextG m c ⟨n + 1, hn⟩ (by show ¬(n + 1) % 16 = 0; omega) b).trans ?_
    rw [Fin.sum_univ_castSucc]
    exact congrArg (· + _) (foldG c b n (by omega))

@[inherit_doc foldG]
theorem foldL (c : Dev nD) (z : Fin 128) : ∀ (n : ℕ) (hn : n < cfg0.N),
    (outsAt0 m c n hn).2.2 (ix2 0 z) = ∑ s : Fin (n + 1), partL m c s.val (Nat.lt_of_lt_of_le s.isLt hn)
  | 0, hn => (firstL m c ⟨0, hn⟩ rfl z).trans (Fin.sum_univ_one fun s : Fin 1 => partL m c s.val (Nat.lt_of_lt_of_le s.isLt hn)).symm
  | n + 1, hn => by
    have hl : n + 1 < 16 := hn
    refine (nextL m c ⟨n + 1, hn⟩ (by show ¬(n + 1) % 16 = 0; omega) z).trans ?_
    rw [Fin.sum_univ_castSucc]
    exact congrArg (· + _) (foldL c z n (by omega))

/-- The blocks the windows stand at. -/
theorem index : ∀ t : Fin cfg0.N, win0_0.index t = ![t.val, 0] ∧ win0_1.index t = ![t.val, 0] ∧ win0_2.index t = ![0, 0]
    ∧ win0_3.index t = ![t.val, 0] ∧ win0_4.index t = ![0, 0] ∧ win0_5.index t = ![0, 0] :=
  (by decide +kernel : ∀ t : Fin grid0.N, _)

/-- The arrays the call is given. -/
abbrev x (m : (ℓ : Loc nD τ sig) → Buf (Elt Ideal) ℓ) (c : Dev nD) : S8192x1024.Idx → EReal := m (c, main_arg0)

@[inherit_doc x]
abbrev g (m : (ℓ : Loc nD τ sig) → Buf (Elt Ideal) ℓ) (c : Dev nD) : S1024.Idx → EReal := m (c, main_arg1)

@[inherit_doc x]
abbrev tgt (m : (ℓ : Loc nD τ sig) → Buf (Elt Ideal) ℓ) (c : Dev nD) : S8192x1024.Idx → EReal := m (c, main_arg2)

theorem lt (t : Fin cfg0.N) : t.val < 16 := t.isLt

/-- The row of the arrays at which row `a` of a point's tile stands. -/
abbrev rowAt (t : Fin cfg0.N) (a : Fin 512) : Fin 8192 := ⟨t.val * 512 + a.val, by have := lt t; omega⟩

theorem argG (c : Dev nD) (k : Fin 1024) : (V m c main_v0 : S1x1024.Idx → EReal) (ix2 0 k) = g m c (ix1 k) := by
  unfold V
  after_results
  pointwise

theorem blk0 (c : Dev nD) (t : Fin cfg0.N) (a : Fin 512) (k : Fin 1024) :
    (iblk m c 0 t : S512x1024.Idx → EReal) (ix2 a k) = x m c (ix2 (rowAt t a) k) := by
  have e := (index t).1
  refine congrArg (x m c) ?_
  refine (eq_ix2 ((win0_0.blk t).view.emb (ix2 a k))).trans (congrArg₂ ix2 (Fin.ext ?_) (Fin.ext ?_)) <;> blk_simp [e] <;> rfl

theorem blk1 (c : Dev nD) (t : Fin cfg0.N) (a : Fin 512) (k : Fin 1024) :
    (iblk m c 1 t : S512x1024.Idx → EReal) (ix2 a k) = tgt m c (ix2 (rowAt t a) k) := by
  have e := (index t).2.1
  refine congrArg (tgt m c) ?_
  refine (eq_ix2 ((win0_1.blk t).view.emb (ix2 a k))).trans (congrArg₂ ix2 (Fin.ext ?_) (Fin.ext ?_)) <;> blk_simp [e] <;> rfl

theorem blk2 (c : Dev nD) (t : Fin cfg0.N) (k : Fin 1024) :
    (iblk m c 2 t : S1x1024.Idx → EReal) (ix2 0 k) = g m c (ix1 k) := by
  have e := (index t).2.2.1
  refine (congrArg (V m c main_v0) ?_).trans (argG m c k)
  refine (eq_ix2 ((win0_2.blk t).view.emb (ix2 0 k))).trans (congrArg₂ ix2 (Fin.ext ?_) (Fin.ext ?_)) <;> blk_simp [e] <;> rfl

/-- A row of an array. -/
abbrev row (v : S8192x1024.Idx → EReal) (a : Fin 8192) : Fin 1024 → EReal := fun k => v (ix2 a k)

/-- The scale's row. -/
abbrev scale (m : (ℓ : Loc nD τ sig) → Buf (Elt Ideal) ℓ) (c : Dev nD) : Fin 1024 → EReal := fun k => g m c (ix1 k)

/-- The gradient in the stream. -/
def outX (m : (ℓ : Loc nD τ sig) → Buf (Elt Ideal) ℓ) (c : Dev nD) : S8192x1024.Idx → EReal := fun i =>
  dx0 (row (x m c) (i 0)) (scale m c) (cot (row (x m c) (i 0)) (scale m c) (row (tgt m c) (i 0))) (i 1)

/-- The gradient in the scale. -/
def outG (m : (ℓ : Loc nD τ sig) → Buf (Elt Ideal) ℓ) (c : Dev nD) : S1x1024.Idx → EReal := fun i =>
  ∑ a : Fin 8192, dg (row (x m c) a) (cot (row (x m c) a) (scale m c) (row (tgt m c) a)) (i 1)

/-- The loss, in every place of a row. -/
def outL (m : (ℓ : Loc nD τ sig) → Buf (Elt Ideal) ℓ) (c : Dev nD) : S1x128.Idx → EReal := fun _ =>
  ∑ a : Fin 8192, sq (row (x m c) a) (scale m c) (row (tgt m c) a) * ((1 / 2048 : ℝ) : EReal)

theorem partG_eq (c : Dev nD) (n : ℕ) (hn : n < cfg0.N) (b : Fin 1024) :
    partG m c n hn b = ∑ a : Fin 512, dg (row (x m c) (rowAt ⟨n, hn⟩ a)) (cot (row (x m c) (rowAt ⟨n, hn⟩ a)) (scale m c) (row (tgt m c) (rowAt ⟨n, hn⟩ a))) b := by
  refine (pay11_apply _ _ _ _).trans (Finset.sum_congr rfl fun a _ => ?_)
  rw [funext fun k => blk0 m c ⟨n, hn⟩ a k, funext fun k => blk1 m c ⟨n, hn⟩ a k, funext fun k => blk2 m c ⟨n, hn⟩ k]

theorem partL_eq (c : Dev nD) (n : ℕ) (hn : n < cfg0.N) :
    partL m c n hn = ∑ a : Fin 512, sq (row (x m c) (rowAt ⟨n, hn⟩ a)) (scale m c) (row (tgt m c) (rowAt ⟨n, hn⟩ a)) * ((1 / 2048 : ℝ) : EReal) := by
  refine (tileLoss _ _ _).trans (Finset.sum_congr rfl fun a _ => ?_)
  rw [funext fun k => blk0 m c ⟨n, hn⟩ a k, funext fun k => blk1 m c ⟨n, hn⟩ a k, funext fun k => blk2 m c ⟨n, hn⟩ k]

theorem emb3 (t : Fin cfg0.N) (a : Fin 512) (b : Fin 1024) :
    (win0_3.blk t).view.emb (ix2 a b) = ix2 (rowAt t a) b := by
  have e := (index t).2.2.2.1
  refine (eq_ix2 ((win0_3.blk t).view.emb (ix2 a b))).trans (congrArg₂ ix2 (Fin.ext ?_) (Fin.ext ?_)) <;> blk_simp [e] <;> rfl

theorem emb4 (t : Fin cfg0.N) (b : Fin 1024) : (win0_4.blk t).view.emb (ix2 0 b) = ix2 (0 : Fin 1) b := by
  have e := (index t).2.2.2.2.1
  refine (eq_ix2 ((win0_4.blk t).view.emb (ix2 0 b))).trans (congrArg₂ ix2 (Fin.ext ?_) (Fin.ext ?_)) <;> blk_simp [e] <;> rfl

/-- The array the call leaves for the gradient in the stream. -/
theorem arrX (c : Dev nD) : (dats m 0 c).arrAt 3 cfg0.N = outX m c := by
  refine (dats m 0 c).arrAt_eq_of_covers 3 _ (by decide +kernel) fun t hf y => ?_
  blk_simp
  rw [after0_3]
  obtain ⟨a, b, rfl⟩ : ∃ (a : Fin 512) (b : Fin 1024), y = ix2 a b := ⟨y 0, y 1, eq_ix2 y⟩
  refine (congrFun (tile m c t) (ix2 a b)).trans ((pay12_apply _ _ _ a b).trans ?_)
  refine Eq.trans ?_ (congrArg (outX m c) (emb3 t a b)).symm
  rw [funext fun k => blk0 m c t a k, funext fun k => blk1 m c t a k, funext fun k => blk2 m c t k]
  rfl

/-- The array the call leaves for the gradient in the scale. -/
theorem arrG (c : Dev nD) : (dats m 0 c).arrAt 4 cfg0.N = outG m c := by
  refine (dats m 0 c).arrAt_eq_of_covers 4 _ (by decide +kernel) fun t hf y => ?_
  have ht : t.val = 15 := by
    have := (flush0_4 t).mp hf
    have := lt t
    omega
  blk_simp
  rw [after0_4]
  obtain ⟨z, b, rfl⟩ : ∃ (z : Fin 1) (b : Fin 1024), y = ix2 z b := ⟨y 0, y 1, eq_ix2 y⟩
  obtain rfl : z = 0 := Subsingleton.elim _ _
  refine (foldG m c b t.val t.isLt).trans ?_
  refine Eq.trans ?_ (congrArg (outG m c) (emb4 t b)).symm
  obtain ⟨n, hn⟩ := t
  obtain rfl : n = 15 := ht
  refine Eq.trans ?_ (Cert.Tiles.sum_blocks 16 512 (fun a : Fin 8192 => dg (row (x m c) a) (cot (row (x m c) a) (scale m c) (row (tgt m c) a)) b)).symm
  exact Finset.sum_congr rfl fun s _ => partG_eq m c s.val _ b

/-- The array the call leaves for the loss. -/
theorem arrL (c : Dev nD) : (dats m 0 c).arrAt 5 cfg0.N = outL m c := by
  refine (dats m 0 c).arrAt_eq_of_covers 5 _ (by decide +kernel) fun t hf y => ?_
  have ht : t.val = 15 := by
    have := (flush0_5 t).mp hf
    have := lt t
    omega
  blk_simp
  rw [after0_5]
  obtain ⟨z, b, rfl⟩ : ∃ (z : Fin 1) (b : Fin 128), y = ix2 z b := ⟨y 0, y 1, eq_ix2 y⟩
  obtain rfl : z = 0 := Subsingleton.elim _ _
  refine (foldL m c b t.val t.isLt).trans ?_
  obtain ⟨n, hn⟩ := t
  obtain rfl : n = 15 := ht
  refine Eq.trans ?_ (Cert.Tiles.sum_blocks 16 512 (fun a : Fin 8192 => sq (row (x m c) a) (scale m c) (row (tgt m c) a) * ((1 / 2048 : ℝ) : EReal))).symm
  exact Finset.sum_congr rfl fun s _ => partL_eq m c s.val _

end Cert.LossHeadIdeal.Value

namespace Cert.LossHeadRefIdeal.Value

open Cert.LossHeadRefIdeal Idealize.ShloMosaic Idealize.ShloMosaic.TcCoe Idealize.SL.Sem Cert.RmsNorm

/-- The reference's gradient in the stream. -/
theorem res_apply (m : (ℓ : Loc nD τ sig) → Buf (Elt Ideal) ℓ) (c : Dev nD) (x t : S8192x1024.Idx → EReal) (g : S1024.Idx → EReal)
    (hx : (m ((c.tc : Thread nD τ).loc main_arg0) : S8192x1024.Idx → EReal) = x) (hg : (m ((c.tc : Thread nD τ).loc main_arg1) : S1024.Idx → EReal) = g)
    (ht : (m ((c.tc : Thread nD τ).loc main_arg2) : S8192x1024.Idx → EReal) = t) (a : Fin 8192) (b : Fin 1024) :
    (res_main_v50 m c : S8192x1024.Idx → EReal) (ix2 a b)
      = dx0 (fun k => x (ix2 a k)) (fun k => g (ix1 k)) (cot (fun k => x (ix2 a k)) (fun k => g (ix1 k)) (fun k => t (ix2 a k))) b := by
  subst hx hg ht
  unfold res_main_v50
  pointwise
  simp only [Ideal.ofBits_zero_f32, zero_add, Fin.sum_univ_one, cot_eq]
  rfl

end Cert.LossHeadRefIdeal.Value

namespace Cert.Proof
open Idealize.ShloMosaic Idealize.ShloMosaic.TcCoe Idealize.SL.Sem Cert.RmsNorm

/-- Kernel and reference leave the same arrays. -/
theorem lossHead : @Cert.algebraic_LossHeadIdeal_LossHeadRefIdeal Cert.LossHeadIdeal.Gen.facts Cert.LossHeadRefIdeal.Gen.facts := by
  unfold Cert.algebraic_LossHeadIdeal_LossHeadRefIdeal
  intro m g m' g' _ hargs
  refine ⟨fun c => Cert.LossHeadIdeal.Value.outL m c, fun c => Cert.LossHeadIdeal.Value.outX m c, fun c => Cert.LossHeadIdeal.Value.outG m c,
    (θ_run _ _ _).mono (fun r h c => ?_) (Cert.LossHeadIdeal.Value.run_blocks m g),
    (θ_run _ _ _).mono (fun r h c => ?_) (Cert.LossHeadRefIdeal.Value.run m' g')⟩
  · exact ⟨(h c).2.2.1.trans (Cert.LossHeadIdeal.Value.arrL m c), (h c).1.trans (Cert.LossHeadIdeal.Value.arrX m c),
      (h c).2.1.trans (Cert.LossHeadIdeal.Value.arrG m c), (h c).2.2.2⟩
  · refine ⟨(h c).1.trans (funext fun j => ?_), (h c).2.1.trans (funext fun j => ?_), (h c).2.2.1.trans (funext fun j => ?_), (h c).2.2.2⟩
    · rw [(hargs c).1, (hargs c).2.1, (hargs c).2.2]
      pointwise
      exact loss_eq (fun a => sq (Cert.LossHeadIdeal.Value.row (Cert.LossHeadIdeal.Value.x m c) a) (Cert.LossHeadIdeal.Value.scale m c)
        (Cert.LossHeadIdeal.Value.row (Cert.LossHeadIdeal.Value.tgt m c) a)) fun a => sq_nonneg _ _ _
    · obtain ⟨a, b, rfl⟩ : ∃ (a : Fin 8192) (b : Fin 1024), j = ix2 a b := ⟨j 0, j 1, eq_ix2 j⟩
      exact Cert.LossHeadRefIdeal.Value.res_apply m' c (Cert.LossHeadIdeal.Value.x m c) (Cert.LossHeadIdeal.Value.tgt m c) (Cert.LossHeadIdeal.Value.g m c)
        (hargs c).1 (hargs c).2.1 (hargs c).2.2 a b
    · rw [(hargs c).1, (hargs c).2.1, (hargs c).2.2]
      pointwise
      simp only [Ideal.ofBits_zero_f32, zero_add, Fin.sum_univ_one, cot_eq]
      rfl

/-- The reference's frame: it leaves its arguments alone and has no semaphore. -/
theorem frame_LossHeadRef : @Cert.quiescent_LossHeadRefIdeal Cert.LossHeadRefIdeal.Gen.facts := by
  intro m g _
  refine (θ_run _ _ _).mono (fun r h => ⟨fun c => (h c).2.2.2, funext fun s => ?_⟩) (Cert.LossHeadRefIdeal.Value.run m g)
  exact ((by decide : ∀ sm : SemLoc Cert.LossHeadRefIdeal.sig, False) s.2).elim

end Cert.Proof
-- ==== Proof.NormValue.lean ====
/-
  The root mean square norm, row by row.
-/
module

public import proofs.«01_k».proof.Defs
public import proofs.«01_k».proof.Proof.NormBwdValue
public import proofs.«01_k».proof.Proof.Gen.NormIdeal.Value
public import proofs.«01_k».proof.Proof.Gen.NormRefIdeal.Run

@[expose] public section

set_option maxRecDepth 16384

noncomputable section

namespace Cert.NormIdeal.Value

open Cert.NormIdeal Cert.NormIdeal.Gen Idealize.ShloMosaic Idealize.ShloMosaic.TcCoe Idealize.SL.Sem Cert.RmsNorm

theorem tile_apply (x0 : Vec Ideal S512x1024 .f32) (x1 : Vec Ideal S1x1024 .f32) (a : Fin 512) (b : Fin 1024) :
    out0_2 x0 x1 (ix2 a b) = x0 (ix2 a b) * RmsNorm.inv (fun k => x0 (ix2 a k)) * x1 (ix2 0 b) := by
  frame_out
  unfold k0_pay1
  pointwise
  rfl

variable (m : (ℓ : Loc nD τ sig) → Buf (Elt Ideal) ℓ) (c : Dev nD) (t : Fin cfg0.N)

/-- The blocks the windows stand at. -/
theorem index : ∀ t : Fin cfg0.N, win0_0.index t = ![t.val, 0] ∧ win0_1.index t = ![0, 0] ∧ win0_2.index t = ![t.val, 0] :=
  (by decide +kernel : ∀ t : Fin grid0.N, _)

/-- The arrays the call is given. -/
abbrev x (m : (ℓ : Loc nD τ sig) → Buf (Elt Ideal) ℓ) (c : Dev nD) : S8192x1024.Idx → EReal := m (c, main_arg0)

@[inherit_doc x]
abbrev g (m : (ℓ : Loc nD τ sig) → Buf (Elt Ideal) ℓ) (c : Dev nD) : S1024.Idx → EReal := m (c, main_arg1)

theorem lt : t.val < 16 := t.isLt

theorem argG (k : Fin 1024) : (V m c main_v0 : S1x1024.Idx → EReal) (ix2 0 k) = g m c (ix1 k) := by
  unfold V
  after_results
  pointwise

theorem blk0 (a : Fin 512) (k : Fin 1024) : (iblk m c 0 t : S512x1024.Idx → EReal) (ix2 a k) = x m c (ix2 ⟨t.val * 512 + a.val, by have := lt t; omega⟩ k) := by
  have e := (index t).1
  refine congrArg (x m c) ?_
  refine (eq_ix2 ((win0_0.blk t).view.emb (ix2 a k))).trans (congrArg₂ ix2 (Fin.ext ?_) (Fin.ext ?_)) <;> blk_simp [e] <;> rfl

theorem blk1 (k : Fin 1024) : (iblk m c 1 t : S1x1024.Idx → EReal) (ix2 0 k) = g m c (ix1 k) := by
  have e := (index t).2.1
  refine (congrArg (V m c main_v0) ?_).trans (argG m c k)
  refine (eq_ix2 ((win0_1.blk t).view.emb (ix2 0 k))).trans (congrArg₂ ix2 (Fin.ext ?_) (Fin.ext ?_)) <;> blk_simp [e] <;> rfl

/-- The array the call leaves. -/
def out (m : (ℓ : Loc nD τ sig) → Buf (Elt Ideal) ℓ) (c : Dev nD) : S8192x1024.Idx → EReal := fun i =>
  x m c i * RmsNorm.inv (fun k => x m c (ix2 (i 0) k)) * g m c (ix1 (i 1))

theorem emb (a : Fin 512) (b : Fin 1024) : (win0_2.blk t).view.emb (ix2 a b) = ix2 ⟨t.val * 512 + a.val, by have := lt t; omega⟩ b := by
  have e := (index t).2.2
  refine (eq_ix2 ((win0_2.blk t).view.emb (ix2 a b))).trans (congrArg₂ ix2 (Fin.ext ?_) (Fin.ext ?_)) <;> blk_simp [e] <;> rfl

theorem arr_eq : (dats m 0 c).arrAt 2 cfg0.N = out m c := by
  refine (dats m 0 c).arrAt_eq_of_covers 2 _ (by decide +kernel) fun t hf y => ?_
  blk_simp
  rw [after0_2]
  obtain ⟨a, b, rfl⟩ : ∃ (a : Fin 512) (b : Fin 1024), y = ix2 a b := ⟨y 0, y 1, eq_ix2 y⟩
  refine (tile_apply _ _ a b).trans ?_
  refine Eq.trans ?_ (congrArg (out m c) (emb t a b)).symm
  rw [funext fun k => blk0 m c t a k, blk0 m c t a b, blk1 m c t b]
  rfl

end Cert.NormIdeal.Value

namespace Cert.Proof
open Idealize.ShloMosaic Idealize.ShloMosaic.TcCoe Idealize.SL.Sem

/-- Kernel and reference leave the same array. -/
theorem norm : @Cert.algebraic_NormIdeal_NormRefIdeal Cert.NormIdeal.Gen.facts Cert.NormRefIdeal.Gen.facts := by
  unfold Cert.algebraic_NormIdeal_NormRefIdeal
  intro m g m' g' _ hargs
  refine ⟨fun c => Cert.NormIdeal.Value.out m c, (θ_run _ _ _).mono (fun r h c => ?_) (Cert.NormIdeal.Value.run_blocks m g),
    (θ_run _ _ _).mono (fun r h c => ?_) (Cert.NormRefIdeal.Value.run m' g')⟩
  · exact ⟨(h c).1.trans (Cert.NormIdeal.Value.arr_eq m c), (h c).2⟩
  · refine ⟨(h c).1.trans (funext fun y => ?_), (h c).2⟩
    rw [(hargs c).1, (hargs c).2]
    obtain ⟨a, b, rfl⟩ : ∃ (a : Fin 8192) (b : Fin 1024), y = ix2 a b := ⟨y 0, y 1, eq_ix2 y⟩
    pointwise
    rfl

/-- The reference's frame: it leaves its arguments alone and has no semaphore. -/
theorem frame_NormRef : @Cert.quiescent_NormRefIdeal Cert.NormRefIdeal.Gen.facts := by
  intro m g _
  refine (θ_run _ _ _).mono (fun r h => ⟨fun c => (h c).2, funext fun s => ?_⟩) (Cert.NormRefIdeal.Value.run m g)
  exact ((by decide : ∀ sm : SemLoc Cert.NormRefIdeal.sig, False) s.2).elim

end Cert.Proof
-- ==== Proof.LruMixValue.lean ====
/-
  The product of the scan's states with the other branch's gelu.
-/
module

public import proofs.«01_k».proof.Defs
public import proofs.«01_k».proof.Proof.Gate
public import proofs.«01_k».proof.Proof.Gen.LruMixIdeal.Value
public import proofs.«01_k».proof.Proof.Gen.LruMixRefIdeal.Run

@[expose] public section

set_option maxRecDepth 16384

noncomputable section

namespace Cert.LruMixIdeal.Value

open Cert.LruMixIdeal Cert.LruMixIdeal.Gen Idealize.ShloMosaic Idealize.ShloMosaic.TcCoe Idealize.SL.Sem Cert.Gate

theorem pay1_apply (v u : FVec Ideal S512x1024 .f32) (a : Fin 512) (b : Fin 1024) : k0_pay1 (F := Ideal) v u (ix2 a b) = v (ix2 a b) * gelu (u (ix2 a b)) := by
  unfold k0_pay1
  pointwise
  rfl

theorem tile_apply (x0 : Vec Ideal S512x1024 .f32) (x1 : Vec Ideal S512x2048 .f32) (a : Fin 512) (b : Fin 1024) :
    out0_2 x0 x1 (ix2 a b) = x0 (ix2 a b) * gelu (x1 (ix2 a ⟨b.val, Nat.lt_of_lt_of_le b.isLt (by decide)⟩)) := by
  frame_out
  refine (pay1_apply _ _ a b).trans (congrArg (fun v => x0 (ix2 a b) * gelu v) ?_)
  pointwise

variable (m : (ℓ : Loc nD τ sig) → Buf (Elt Ideal) ℓ) (c : Dev nD) (t : Fin cfg0.N)

/-- The blocks the windows stand at. -/
theorem index : ∀ t : Fin cfg0.N, win0_0.index t = ![t.val, 0] ∧ win0_1.index t = ![t.val, 0] ∧ win0_2.index t = ![t.val, 0] :=
  (by decide +kernel : ∀ t : Fin grid0.N, _)

/-- The arrays the call is given. -/
abbrev hs (m : (ℓ : Loc nD τ sig) → Buf (Elt Ideal) ℓ) (c : Dev nD) : S8192x1024.Idx → EReal := m (c, main_arg0)

@[inherit_doc hs]
abbrev u (m : (ℓ : Loc nD τ sig) → Buf (Elt Ideal) ℓ) (c : Dev nD) : S8192x2048.Idx → EReal := m (c, main_arg1)

theorem lt : t.val < 16 := t.isLt

theorem blk0 (a : Fin 512) (k : Fin 1024) : (iblk m c 0 t : S512x1024.Idx → EReal) (ix2 a k) = hs m c (ix2 ⟨t.val * 512 + a.val, by have := lt t; omega⟩ k) := by
  have e := (index t).1
  refine congrArg (hs m c) ?_
  refine (eq_ix2 ((win0_0.blk t).view.emb (ix2 a k))).trans (congrArg₂ ix2 (Fin.ext ?_) (Fin.ext ?_)) <;> blk_simp [e] <;> rfl

theorem blk1 (a : Fin 512) (k : Fin 2048) : (iblk m c 1 t : S512x2048.Idx → EReal) (ix2 a k) = u m c (ix2 ⟨t.val * 512 + a.val, by have := lt t; omega⟩ k) := by
  have e := (index t).2.1
  refine congrArg (u m c) ?_
  refine (eq_ix2 ((win0_1.blk t).view.emb (ix2 a k))).trans (congrArg₂ ix2 (Fin.ext ?_) (Fin.ext ?_)) <;> blk_simp [e] <;> rfl

/-- The array the call leaves. -/
def out (m : (ℓ : Loc nD τ sig) → Buf (Elt Ideal) ℓ) (c : Dev nD) : S8192x1024.Idx → EReal := fun i =>
  hs m c i * gelu (u m c (ix2 (i 0) ⟨(i 1).val, Nat.lt_of_lt_of_le (i 1).isLt (by decide)⟩))

theorem emb (a : Fin 512) (b : Fin 1024) : (win0_2.blk t).view.emb (ix2 a b) = ix2 ⟨t.val * 512 + a.val, by have := lt t; omega⟩ b := by
  have e := (index t).2.2
  refine (eq_ix2 ((win0_2.blk t).view.emb (ix2 a b))).trans (congrArg₂ ix2 (Fin.ext ?_) (Fin.ext ?_)) <;> blk_simp [e] <;> rfl

theorem arr_eq : (dats m 0 c).arrAt 2 cfg0.N = out m c := by
  refine (dats m 0 c).arrAt_eq_of_covers 2 _ (by decide +kernel) fun t hf y => ?_
  blk_simp
  rw [after0_2]
  obtain ⟨a, b, rfl⟩ : ∃ (a : Fin 512) (b : Fin 1024), y = ix2 a b := ⟨y 0, y 1, eq_ix2 y⟩
  refine (tile_apply _ _ a b).trans ?_
  refine Eq.trans ?_ (congrArg (out m c) (emb t a b)).symm
  rw [blk0 m c t a b, blk1 m c t a]
  rfl

end Cert.LruMixIdeal.Value

namespace Cert.Proof
open Idealize.ShloMosaic Idealize.ShloMosaic.TcCoe Idealize.SL.Sem

/-- Kernel and reference leave the same array. -/
theorem lruMix : @Cert.algebraic_LruMixIdeal_LruMixRefIdeal Cert.LruMixIdeal.Gen.facts Cert.LruMixRefIdeal.Gen.facts := by
  unfold Cert.algebraic_LruMixIdeal_LruMixRefIdeal
  intro m g m' g' _ hargs
  refine ⟨fun c => Cert.LruMixIdeal.Value.out m c, (θ_run _ _ _).mono (fun r h c => ?_) (Cert.LruMixIdeal.Value.run_blocks m g),
    (θ_run _ _ _).mono (fun r h c => ?_) (Cert.LruMixRefIdeal.Value.run m' g')⟩
  · exact ⟨(h c).1.trans (Cert.LruMixIdeal.Value.arr_eq m c), (h c).2⟩
  · refine ⟨(h c).1.trans (funext fun y => ?_), (h c).2⟩
    rw [(hargs c).1, (hargs c).2]
    obtain ⟨a, b, rfl⟩ : ∃ (a : Fin 8192) (b : Fin 1024), y = ix2 a b := ⟨y 0, y 1, eq_ix2 y⟩
    pointwise
    exact congrArg (fun v : EReal => (Cert.LruMixIdeal.Value.hs m c (ix2 a b) : EReal) * v) (Cert.Gate.gelu_ref _)

/-- The reference's frame: it leaves its arguments alone and has no semaphore. -/
theorem frame_LruMixRef : @Cert.quiescent_LruMixRefIdeal Cert.LruMixRefIdeal.Gen.facts := by
  intro m g _
  refine (θ_run _ _ _).mono (fun r h => ⟨fun c => (h c).2, funext fun s => ?_⟩) (Cert.LruMixRefIdeal.Value.run m g)
  exact ((by decide : ∀ sm : SemLoc Cert.LruMixRefIdeal.sig, False) s.2).elim

end Cert.Proof
-- ==== Proof.RwkvMixValue.lean ====
/-
  The mixing of a step with the step before it: the norm of both, their difference, and six weighted sums of the two.
-/
module

public import proofs.«01_k».proof.Proof.RwkvMixBwdTile
public import proofs.«01_k».proof.Proof.Gen.RwkvMixIdeal.Value
public import proofs.«01_k».proof.Proof.Gen.RwkvMixRefIdeal.Run

@[expose] public section

set_option maxRecDepth 16384

noncomputable section

namespace Cert.Mix
open Idealize.ShloMosaic Cert.Gate Cert.RmsNorm

/-- The normed stream and its weighted difference to the step before. -/
def mix (x : (⟨2, ![8192, 1024]⟩ : Shape).Idx → EReal) (g : (⟨1, ![1024]⟩ : Shape).Idx → EReal) (w : (⟨2, ![6, 1024]⟩ : Shape).Idx → EReal) (n : Fin 6) :
    (⟨2, ![8192, 1024]⟩ : Shape).Idx → EReal := fun i =>
  hid (rowsOf x) (fun k => g (ix1 k)) (i 1) (i 0).val + diff (rowsOf x) (fun k => g (ix1 k)) (i 1) (i 0).val * w (ix2 n (i 1))

/-- A row's normed entry. -/
theorem hid_of (X : ℕ → Fin 1024 → EReal) (x : Fin 1024 → EReal) (r : ℕ) (hr : ∀ k, x k = X r k) (g : Fin 1024 → EReal) (b : Fin 1024) :
    x b * Ideal.rsqrt (Ideal.div (∑ k, x k * x k) (Ideal.ofBits FTy.f32 1149239296#32) + Ideal.ofBits FTy.f32 897988541#32) * g b = hid X g b r := by
  obtain rfl : x = X r := funext hr
  rfl

end Cert.Mix

namespace Cert.RwkvMixIdeal.Value
open Cert.RwkvMixIdeal Cert.RwkvMixIdeal.Gen Idealize.ShloMosaic Idealize.ShloMosaic.TcCoe Idealize.SL.Sem Cert.Gate Cert.RmsNorm Cert.Mix

section Tile
variable (i : grid0.Coords) (x0 : Vec Ideal S256x1024 .f32) (x1 : Vec Ideal S16x1024 .f32) (x2 : Vec Ideal S1x1024 .f32) (x3 : Vec Ideal S8x1024 .f32)

/-- The tile's difference to the step before. -/
def diffK : FVec Ideal S256x1024 .f32 := k0_pay5 (isNth 0#32 (i 0).val) (k0_pay3 x0 x2) (k0_pay4 x1 x2) (Scalar.ofBits .f32 0x00000000#32)

theorem ld0 : View.ld x0 r0_0 = x0 := by
  funext y
  pointwise

theorem ld1 : View.ld x1 r0_1 = x1 := by
  funext y
  pointwise

theorem ld2 : View.ld x2 r0_2 = x2 := by
  funext y
  pointwise
  exact congrArg x2 ((congrArg (fun z : Fin 1 => ix2 z (y 1)) (Subsingleton.elim (0 : Fin 1) (y 0))).trans (eq_ix2 y).symm)

theorem pay13_eq : k0_pay13 i x0 x1 x2 x3 = k0_pay3 x0 x2 := by
  unfold k0_pay13
  rw [ld0, ld2]

theorem pay14_eq : k0_pay14 i x0 x1 x2 x3 = k0_pay4 x1 x2 := by
  unfold k0_pay14
  rw [ld1, ld2]

section Entry
variable (a : Fin 256) (b : Fin 1024)

/-- The six tiles a point writes. -/
theorem tile0 : out0_4 i x0 x1 x2 x3 (ix2 a b) = k0_pay3 x0 x2 (ix2 a b) + diffK i x0 x1 x2 (ix2 a b) * x3 (ix2 0 b) := by
  frame_out
  rw [pay13_eq, pay14_eq]
  unfold diffK k0_pay8 k0_pay6
  generalize k0_pay3 (F := Ideal) _ _ = H
  pointwise
  rfl

@[inherit_doc tile0]
theorem tile1 : out0_5 i x0 x1 x2 x3 (ix2 a b) = k0_pay3 x0 x2 (ix2 a b) + diffK i x0 x1 x2 (ix2 a b) * x3 (ix2 1 b) := by
  frame_out
  rw [pay13_eq, pay14_eq]
  unfold diffK k0_pay9 k0_pay6
  generalize k0_pay3 (F := Ideal) _ _ = H
  pointwise
  rfl

@[inherit_doc tile0]
theorem tile2 : out0_6 i x0 x1 x2 x3 (ix2 a b) = k0_pay3 x0 x2 (ix2 a b) + diffK i x0 x1 x2 (ix2 a b) * x3 (ix2 2 b) := by
  frame_out
  rw [pay13_eq, pay14_eq]
  unfold diffK k0_pay10 k0_pay6
  generalize k0_pay3 (F := Ideal) _ _ = H
  pointwise
  rfl

@[inherit_doc tile0]
theorem tile3 : out0_7 i x0 x1 x2 x3 (ix2 a b) = k0_pay3 x0 x2 (ix2 a b) + diffK i x0 x1 x2 (ix2 a b) * x3 (ix2 3 b) := by
  frame_out
  rw [pay13_eq, pay14_eq]
  unfold diffK k0_pay11 k0_pay6
  generalize k0_pay3 (F := Ideal) _ _ = H
  pointwise
  rfl

@[inherit_doc tile0]
theorem tile4 : out0_8 i x0 x1 x2 x3 (ix2 a b) = k0_pay3 x0 x2 (ix2 a b) + diffK i x0 x1 x2 (ix2 a b) * x3 (ix2 4 b) := by
  frame_out
  rw [pay13_eq, pay14_eq]
  unfold diffK k0_pay12 k0_pay6
  generalize k0_pay3 (F := Ideal) _ _ = H
  pointwise
  rfl

@[inherit_doc tile0]
theorem tile5 : out0_9 i x0 x1 x2 x3 (ix2 a b) = k0_pay3 x0 x2 (ix2 a b) + diffK i x0 x1 x2 (ix2 a b) * x3 (ix2 5 b) := by
  frame_out
  rw [pay13_eq, pay14_eq]
  unfold diffK k0_pay1 k0_pay7 k0_pay6
  generalize k0_pay3 (F := Ideal) _ _ = H
  pointwise
  rfl

end Entry

variable (X : ℕ → Fin 1024 → EReal) (t : ℕ) (ht : t < 32) (hi : (i 0).val = t)
  (hx : ∀ (k : Fin 256) (b : Fin 1024), x0 (ix2 k b) = X (t * 256 + k.val) b)
  (hp : t % 8 ≠ 0 → ∀ (k : Fin 16) (b : Fin 1024), x1 (ix2 k b) = X (t * 256 - 16 + k.val) b)
include hx

theorem hidK_apply (a : Fin 256) (b : Fin 1024) : k0_pay3 x0 x2 (ix2 a b) = hid X (fun k => x2 (ix2 0 k)) b (t * 256 + a.val) := by
  unfold k0_pay3 k0_pay2
  pointwise
  exact hid_of X (fun j => x0 (ix2 a j)) (t * 256 + a.val) (fun j => hx a j) (fun k => x2 (ix2 0 k)) b

include ht hi hp in
theorem diffK_apply (a : Fin 256) (b : Fin 1024) : diffK i x0 x1 x2 (ix2 a b) = diff X (fun k => x2 (ix2 0 k)) b (t * 256 + a.val) := by
  unfold diffK k0_pay5 k0_pay3 k0_pay4 k0_pay2
  pointwise
  have hc : isNth 0#32 (i 0).val = if t % 8 = 0 then 1#1 else 0#1 := by rw [hi]; exact isFirst_eq t ht
  have e := fun k : Fin 256 => hid_of X (fun j => x0 (ix2 k j)) (t * 256 + k.val) (fun j => hx k j) (fun k => x2 (ix2 0 k)) b
  refine congrArg₂ (fun p q : EReal => p - q) ?_ (e a)
  exact shift (hid X (fun k => x2 (ix2 0 k)) b) t 1 256 a.val (Or.inl rfl) (by omega) a.isLt (by omega) _ hc _ _
    (fun h0 k => hid_of X (fun j => x1 (ix2 k j)) (t * 256 - 16 + k.val) (fun j => hp h0 k j) (fun k => x2 (ix2 0 k)) b) (fun k _ => e k) _ _

end Tile

variable (m : (ℓ : Loc nD τ sig) → Buf (Elt Ideal) ℓ) (c : Dev nD) (t : Fin cfg0.N)

/-- The blocks the windows stand at: a tile, the sixteen rows before it, the scale and the coefficients, -/
theorem index : ∀ t : Fin cfg0.N, win0_0.index t = ![t.val, 0] ∧ win0_1.index t = ![t.val * 16 - 1, 0] ∧ win0_2.index t = ![0, 0]
    ∧ win0_3.index t = ![0, 0] ∧ (grid0.coords t 0).val = t.val :=
  (by decide +kernel : ∀ t : Fin grid0.N, _)

/-- and the six tiles. -/
theorem outs : ∀ t : Fin cfg0.N, win0_4.index t = ![t.val, 0] ∧ win0_5.index t = ![t.val, 0] ∧ win0_6.index t = ![t.val, 0]
    ∧ win0_7.index t = ![t.val, 0] ∧ win0_8.index t = ![t.val, 0] ∧ win0_9.index t = ![t.val, 0] :=
  (by decide +kernel : ∀ t : Fin grid0.N, _)

theorem lt : t.val < 32 := t.isLt

/-- The arrays the call is given. -/
abbrev x (m : (ℓ : Loc nD τ sig) → Buf (Elt Ideal) ℓ) (c : Dev nD) : S8192x1024.Idx → EReal := m (c, main_arg0)

@[inherit_doc x]
abbrev g (m : (ℓ : Loc nD τ sig) → Buf (Elt Ideal) ℓ) (c : Dev nD) : S1024.Idx → EReal := m (c, main_arg1)

@[inherit_doc x]
abbrev w (m : (ℓ : Loc nD τ sig) → Buf (Elt Ideal) ℓ) (c : Dev nD) : S6x1024.Idx → EReal := m (c, main_arg2)

theorem argG (k : Fin 1024) : (V m c main_v0 : S1x1024.Idx → EReal) (ix2 0 k) = g m c (ix1 k) := by
  unfold V
  after_results
  pointwise

theorem argW (i : Fin 6) (k : Fin 1024) : (V m c main_v2 : S8x1024.Idx → EReal) (ix2 (i.castLE (by decide)) k) = w m c (ix2 i k) := by
  unfold V
  after_results
  pointwise
  exact dif_pos i.isLt

/-- An entry of an array, read by its row and column. -/
theorem at_row (v : S8192x1024.Idx → EReal) (e : S8192x1024.Idx) (k : Fin 1024) (r : ℕ) (h0 : (e 0).val = r) (h1 : (e 1).val = k.val) :
    v e = rowsOf v r k := by
  subst h0
  obtain rfl : e 1 = k := Fin.ext h1
  exact (congrArg v (eq_ix2 e)).trans (col_eq v (e 1) _ (e 0).isLt).symm

theorem blk0 (a : Fin 256) (k : Fin 1024) : (iblk m c 0 t : S256x1024.Idx → EReal) (ix2 a k) = rowsOf (x m c) (t.val * 256 + a.val) k := by
  have e := (index t).1
  refine at_row (x m c) ((win0_0.blk t).view.emb (ix2 a k)) k _ ?_ ?_ <;> blk_simp [e] <;> rfl

theorem blk1 (h0 : t.val % 8 ≠ 0) (a : Fin 16) (k : Fin 1024) :
    (iblk m c 1 t : S16x1024.Idx → EReal) (ix2 a k) = rowsOf (x m c) (t.val * 256 - 16 + a.val) k := by
  have e := (index t).2.1
  have e1 : (t.val * 16 - 1) * 16 = t.val * 256 - 16 := by omega
  refine at_row (x m c) ((win0_1.blk t).view.emb (ix2 a k)) k _ ?_ ?_ <;> blk_simp [e, e1] <;> rfl

theorem blk2 (k : Fin 1024) : (iblk m c 2 t : S1x1024.Idx → EReal) (ix2 0 k) = g m c (ix1 k) := by
  have e := (index t).2.2.1
  refine (congrArg (V m c main_v0) ?_).trans (argG m c k)
  refine (eq_ix2 ((win0_2.blk t).view.emb (ix2 0 k))).trans (congrArg₂ ix2 (Fin.ext ?_) (Fin.ext ?_)) <;> blk_simp [e] <;> rfl

theorem blk3 (n : Fin 6) (k : Fin 1024) : (iblk m c 3 t : S8x1024.Idx → EReal) (ix2 (n.castLE (by decide)) k) = w m c (ix2 n k) := by
  have e := (index t).2.2.2.1
  refine (congrArg (V m c main_v2) ?_).trans (argW m c n k)
  refine (eq_ix2 ((win0_3.blk t).view.emb (ix2 (n.castLE (by decide)) k))).trans (congrArg₂ ix2 (Fin.ext ?_) (Fin.ext ?_)) <;> blk_simp [e] <;> rfl

/-- A point's entry is the array's. -/
theorem entry (n : Fin 6) (v : EReal) (e : S8192x1024.Idx) (a : Fin 256) (b : Fin 1024) (h0 : (e 0).val = t.val * 256 + a.val) (h1 : (e 1).val = b.val)
    (hv : v = k0_pay3 (iblk m c 0 t) (iblk m c 2 t) (ix2 a b)
      + diffK (grid0.coords t) (iblk m c 0 t) (iblk m c 1 t) (iblk m c 2 t) (ix2 a b) * (iblk m c 3 t : S8x1024.Idx → EReal) (ix2 (n.castLE (by decide)) b)) :
    v = mix (x m c) (g m c) (w m c) n e := by
  obtain rfl : e 1 = b := Fin.ext h1
  rw [hv, hidK_apply _ _ (rowsOf (x m c)) t.val (blk0 m c t) a (e 1),
    diffK_apply _ _ _ _ (rowsOf (x m c)) t.val (lt t) (index t).2.2.2.2 (blk0 m c t) (blk1 m c t) a (e 1), blk3 m c t n (e 1), funext (blk2 m c t), ← h0]
  rfl

theorem arr0 : (dats m 0 c).arrAt 4 cfg0.N = mix (x m c) (g m c) (w m c) 0 := by
  refine (dats m 0 c).arrAt_eq_of_covers 4 _ (by decide +kernel) fun t hf y => ?_
  blk_simp
  rw [after0_4]
  obtain ⟨a, b, rfl⟩ : ∃ (a : Fin 256) (b : Fin 1024), y = ix2 a b := ⟨y 0, y 1, eq_ix2 y⟩
  have e := (outs t).1
  refine entry m c t 0 _ ((win0_4.blk t).view.emb (ix2 a b)) a b ?_ ?_ (tile0 _ _ _ _ _ a b) <;> blk_simp [e] <;> rfl

theorem arr1 : (dats m 0 c).arrAt 5 cfg0.N = mix (x m c) (g m c) (w m c) 1 := by
  refine (dats m 0 c).arrAt_eq_of_covers 5 _ (by decide +kernel) fun t hf y => ?_
  blk_simp
  rw [after0_5]
  obtain ⟨a, b, rfl⟩ : ∃ (a : Fin 256) (b : Fin 1024), y = ix2 a b := ⟨y 0, y 1, eq_ix2 y⟩
  have e := (outs t).2.1
  refine entry m c t 1 _ ((win0_5.blk t).view.emb (ix2 a b)) a b ?_ ?_ (tile1 _ _ _ _ _ a b) <;> blk_simp [e] <;> rfl

theorem arr2 : (dats m 0 c).arrAt 6 cfg0.N = mix (x m c) (g m c) (w m c) 2 := by
  refine (dats m 0 c).arrAt_eq_of_covers 6 _ (by decide +kernel) fun t hf y => ?_
  blk_simp
  rw [after0_6]
  obtain ⟨a, b, rfl⟩ : ∃ (a : Fin 256) (b : Fin 1024), y = ix2 a b := ⟨y 0, y 1, eq_ix2 y⟩
  have e := (outs t).2.2.1
  refine entry m c t 2 _ ((win0_6.blk t).view.emb (ix2 a b)) a b ?_ ?_ (tile2 _ _ _ _ _ a b) <;> blk_simp [e] <;> rfl

theorem arr3 : (dats m 0 c).arrAt 7 cfg0.N = mix (x m c) (g m c) (w m c) 3 := by
  refine (dats m 0 c).arrAt_eq_of_covers 7 _ (by decide +kernel) fun t hf y => ?_
  blk_simp
  rw [after0_7]
  obtain ⟨a, b, rfl⟩ : ∃ (a : Fin 256) (b : Fin 1024), y = ix2 a b := ⟨y 0, y 1, eq_ix2 y⟩
  have e := (outs t).2.2.2.1
  refine entry m c t 3 _ ((win0_7.blk t).view.emb (ix2 a b)) a b ?_ ?_ (tile3 _ _ _ _ _ a b) <;> blk_simp [e] <;> rfl

theorem arr4 : (dats m 0 c).arrAt 8 cfg0.N = mix (x m c) (g m c) (w m c) 4 := by
  refine (dats m 0 c).arrAt_eq_of_covers 8 _ (by decide +kernel) fun t hf y => ?_
  blk_simp
  rw [after0_8]
  obtain ⟨a, b, rfl⟩ : ∃ (a : Fin 256) (b : Fin 1024), y = ix2 a b := ⟨y 0, y 1, eq_ix2 y⟩
  have e := (outs t).2.2.2.2.1
  refine entry m c t 4 _ ((win0_8.blk t).view.emb (ix2 a b)) a b ?_ ?_ (tile4 _ _ _ _ _ a b) <;> blk_simp [e] <;> rfl

theorem arr5 : (dats m 0 c).arrAt 9 cfg0.N = mix (x m c) (g m c) (w m c) 5 := by
  refine (dats m 0 c).arrAt_eq_of_covers 9 _ (by decide +kernel) fun t hf y => ?_
  blk_simp
  rw [after0_9]
  obtain ⟨a, b, rfl⟩ : ∃ (a : Fin 256) (b : Fin 1024), y = ix2 a b := ⟨y 0, y 1, eq_ix2 y⟩
  have e := (outs t).2.2.2.2.2
  refine entry m c t 5 _ ((win0_9.blk t).view.emb (ix2 a b)) a b ?_ ?_ (tile5 _ _ _ _ _ a b) <;> blk_simp [e] <;> rfl

end Cert.RwkvMixIdeal.Value

namespace Cert.RwkvMixRefIdeal.Value
open Cert.RwkvMixRefIdeal Cert.RwkvMixRefIdeal.Gen Idealize.ShloMosaic Idealize.ShloMosaic.TcCoe Idealize.SL.Sem Idealize.ShloMosaic.StableHlo Cert.Gate Cert.RmsNorm Cert.Mix

variable (x : FVec Ideal S8192x1024 .f32) (g : FVec Ideal S1024 .f32) (w : FVec Ideal S6x1024 .f32)

/-- The reference's mean squares, -/
def denR : FVec Ideal S4x2048x1 .f32 :=
  addf (Host.divf (broadcastInDim S4x2048x1 ![0, 1] bcast_S4x2048_S4x2048x1_0_1 (Host.reduceAdd (mulf (shapeCast _ x shapeCasts_S8192x1024_S4x2048x1024) (shapeCast _ x shapeCasts_S8192x1024_S4x2048x1024)) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32))

/-- its normed stream, -/
def hidR : FVec Ideal S4x2048x1024 .f32 :=
  mulf (mulf (shapeCast _ x shapeCasts_S8192x1024_S4x2048x1024) (broadcastInDim S4x2048x1024 ![0, 1, 2] bcast_S4x2048x1_S4x2048x1024_0_1_2 (Host.rsqrt (denR x))))
    (broadcastInDim S4x2048x1024 ![0, 1, 2] bcast_S1x1x1024_S4x2048x1024_0_1_2 (broadcastInDim S1x1x1024 ![2] bcast_S1024_S1x1x1024_2 g))

/-- the difference of a stream to the step before, -/
def diffR (h : FVec Ideal S4x2048x1024 .f32) : FVec Ideal S4x2048x1024 .f32 :=
  subf (concatenate S4x2048x1024 1 [⟨S4x1x1024, (broadcastInDim S4x1x1024 ![] bcast_S_S4x1x1024 (constant S_ .f32 0x00000000#32))⟩, ⟨S4x2047x1024, (extractStridedSlice S4x2047x1024 ![0, 0, 0] h slices_S4x2048x1024_S4x2047x1024_0_0_0)⟩] concatenates_S4x1x1024_S4x2047x1024_S4x2048x1024_d1) h

/-- and the weighted sum. -/
def mixR (h d : FVec Ideal S4x2048x1024 .f32) (v : FVec Ideal S1x1024 .f32) : FVec Ideal S8192x1024 .bf16 :=
  truncf .bf16 (shapeCast _ (addf h (mulf d (broadcastInDim S4x2048x1024 ![0, 1, 2] bcast_S1x1x1024_S4x2048x1024_0_1_2 (broadcastInDim S1x1x1024 ![2] bcast_S1024_S1x1x1024_2 (shapeCast _ v shapeCasts_S1x1024_S1024))))) shapeCasts_S4x2048x1024_S8192x1024) bitsLt_bf16_f32

section Entry
variable (q : Fin 4) (p : Fin 2048) (j : Fin 1024)

theorem split : (shapeCast S4x2048x1024 x shapeCasts_S8192x1024_S4x2048x1024 : FVec Ideal S4x2048x1024 .f32) (ix3 q p j)
    = rowsOf x (q.val * 2048 + p.val) j := by
  pointwise
  exact (col_eq x j _ (by omega)).symm

theorem denR_apply : denR x (ix3 q p 0) = den (rowsOf x (q.val * 2048 + p.val)) := by
  obtain ⟨G, hG⟩ : ∃ G, G = (shapeCast S4x2048x1024 x shapeCasts_S8192x1024_S4x2048x1024 : FVec Ideal S4x2048x1024 .f32) := ⟨_, rfl⟩
  unfold denR
  rw [← hG]
  pointwise
  have e : ∀ k, G (ix3 q p k) = rowsOf x (q.val * 2048 + p.val) k := fun k => hG ▸ split x q p k
  simp only [e]
  rfl

theorem hidR_apply : hidR x g (ix3 q p j) = hid (rowsOf x) (fun k => g (ix1 k)) j (q.val * 2048 + p.val) := by
  have e := split x q p j
  have e' := denR_apply x q p
  unfold hidR
  revert e e'
  generalize (shapeCast S4x2048x1024 x shapeCasts_S8192x1024_S4x2048x1024 : FVec Ideal S4x2048x1024 .f32) = G
  generalize denR x = D
  intro e e'
  pointwise
  rw [e, e']
  rfl

theorem diffR_apply : diffR (hidR x g) (ix3 q p j) = diff (rowsOf x) (fun k => g (ix1 k)) j (q.val * 2048 + p.val) := by
  have h := fun p => hidR_apply x g q p j
  revert h
  generalize hidR x g = H
  intro h
  have e : (q.val * 2048 + p.val) % 2048 = p.val := by omega
  unfold diffR
  pointwise
  rw [h]
  unfold diff back
  rw [e]
  refine congrArg (fun z : EReal => z - _) ?_
  by_cases hp : p.val < 1
  · rw [dif_pos hp, if_neg (by omega)]
  · rw [dif_neg hp]
    refine (h ⟨p.val - 1, by omega⟩).trans ((congrArg _ ?_).trans (if_pos (by omega)).symm)
    show q.val * 2048 + (p.val - 1) = _
    omega

end Entry

theorem mixR_apply (h d : FVec Ideal S4x2048x1024 .f32) (v : FVec Ideal S1x1024 .f32) (r : Fin 8192) (j : Fin 1024) :
    mixR h d v (ix2 r j) = h (ix3 ⟨r.val / 2048, by omega⟩ ⟨r.val % 2048, by omega⟩ j) + d (ix3 ⟨r.val / 2048, by omega⟩ ⟨r.val % 2048, by omega⟩ j) * v (ix2 0 j) := by
  unfold mixR
  pointwise

/-- A result, where `v` is a row of the coefficients. -/
theorem res (n : Fin 6) (v : FVec Ideal S1x1024 .f32) (hv : ∀ j, v (ix2 0 j) = w (ix2 n j)) : mixR (hidR x g) (diffR (hidR x g)) v = mix x g w n := by
  funext y
  obtain ⟨r, j, rfl⟩ : ∃ (a : Fin 8192) (b : Fin 1024), y = ix2 a b := ⟨y 0, y 1, eq_ix2 y⟩
  have e : r.val / 2048 * 2048 + r.val % 2048 = r.val := by omega
  rw [mixR_apply, hidR_apply, diffR_apply, hv j]
  simp only [e]
  rfl

theorem row0 (j : Fin 1024) : (extractStridedSlice S1x1024 ![0, 0] w slices_S6x1024_S1x1024_0_0 : FVec Ideal S1x1024 .f32) (ix2 0 j) = w (ix2 0 j) := by pointwise
theorem row1 (j : Fin 1024) : (extractStridedSlice S1x1024 ![1, 0] w slices_S6x1024_S1x1024_1_0 : FVec Ideal S1x1024 .f32) (ix2 0 j) = w (ix2 1 j) := by pointwise
theorem row2 (j : Fin 1024) : (extractStridedSlice S1x1024 ![2, 0] w slices_S6x1024_S1x1024_2_0 : FVec Ideal S1x1024 .f32) (ix2 0 j) = w (ix2 2 j) := by pointwise
theorem row3 (j : Fin 1024) : (extractStridedSlice S1x1024 ![3, 0] w slices_S6x1024_S1x1024_3_0 : FVec Ideal S1x1024 .f32) (ix2 0 j) = w (ix2 3 j) := by pointwise
theorem row4 (j : Fin 1024) : (extractStridedSlice S1x1024 ![4, 0] w slices_S6x1024_S1x1024_4_0 : FVec Ideal S1x1024 .f32) (ix2 0 j) = w (ix2 4 j) := by pointwise
theorem row5 (j : Fin 1024) : (extractStridedSlice S1x1024 ![5, 0] w slices_S6x1024_S1x1024_5_0 : FVec Ideal S1x1024 .f32) (ix2 0 j) = w (ix2 5 j) := by pointwise

end Cert.RwkvMixRefIdeal.Value

namespace Cert.Proof
open Idealize.ShloMosaic Idealize.ShloMosaic.TcCoe Idealize.SL.Sem Cert.Mix

/-- Kernel and reference leave the same arrays. -/
theorem rwkvMix : @Cert.algebraic_RwkvMixIdeal_RwkvMixRefIdeal Cert.RwkvMixIdeal.Gen.facts Cert.RwkvMixRefIdeal.Gen.facts := by
  unfold Cert.algebraic_RwkvMixIdeal_RwkvMixRefIdeal
  intro m g m' g' _ hargs
  let M : Fin 6 → (c : Dev Cert.RwkvMixIdeal.nD) → (⟨2, ![8192, 1024]⟩ : Shape).Idx → EReal :=
    fun n c => mix (Cert.RwkvMixIdeal.Value.x m c) (Cert.RwkvMixIdeal.Value.g m c) (Cert.RwkvMixIdeal.Value.w m c) n
  refine ⟨fun c => M 0 c, fun c => M 1 c, fun c => M 2 c, fun c => M 3 c, fun c => M 4 c, fun c => M 5 c,
    (θ_run _ _ _).mono (fun r h c => ?_) (Cert.RwkvMixIdeal.Value.run_blocks m g),
    (θ_run _ _ _).mono (fun r h c => ?_) (Cert.RwkvMixRefIdeal.Value.run m' g')⟩
  · obtain ⟨h0, h1, h2, h3, h4, h5, h6⟩ := h c
    exact ⟨h0.trans (Cert.RwkvMixIdeal.Value.arr0 m c), h1.trans (Cert.RwkvMixIdeal.Value.arr1 m c), h2.trans (Cert.RwkvMixIdeal.Value.arr2 m c),
      h3.trans (Cert.RwkvMixIdeal.Value.arr3 m c), h4.trans (Cert.RwkvMixIdeal.Value.arr4 m c), h5.trans (Cert.RwkvMixIdeal.Value.arr5 m c), h6⟩
  · obtain ⟨h0, h1, h2, h3, h4, h5, h6⟩ := h c
    obtain ⟨e0, e1, e2⟩ := hargs c
    have H : ∀ n, mix (m' ((c.tc : Thread Cert.RwkvMixRefIdeal.nD Cert.RwkvMixRefIdeal.τ).loc Cert.RwkvMixRefIdeal.main_arg0))
        (m' ((c.tc : Thread Cert.RwkvMixRefIdeal.nD Cert.RwkvMixRefIdeal.τ).loc Cert.RwkvMixRefIdeal.main_arg1))
        (m' ((c.tc : Thread Cert.RwkvMixRefIdeal.nD Cert.RwkvMixRefIdeal.τ).loc Cert.RwkvMixRefIdeal.main_arg2)) n = M n c := fun n => by rw [e0, e1, e2]
    exact ⟨h0.trans ((Cert.RwkvMixRefIdeal.Value.res _ _ _ 0 _ (Cert.RwkvMixRefIdeal.Value.row0 _)).trans (H 0)),
      h1.trans ((Cert.RwkvMixRefIdeal.Value.res _ _ _ 1 _ (Cert.RwkvMixRefIdeal.Value.row1 _)).trans (H 1)),
      h2.trans ((Cert.RwkvMixRefIdeal.Value.res _ _ _ 2 _ (Cert.RwkvMixRefIdeal.Value.row2 _)).trans (H 2)),
      h3.trans ((Cert.RwkvMixRefIdeal.Value.res _ _ _ 3 _ (Cert.RwkvMixRefIdeal.Value.row3 _)).trans (H 3)),
      h4.trans ((Cert.RwkvMixRefIdeal.Value.res _ _ _ 4 _ (Cert.RwkvMixRefIdeal.Value.row4 _)).trans (H 4)),
      h5.trans ((Cert.RwkvMixRefIdeal.Value.res _ _ _ 5 _ (Cert.RwkvMixRefIdeal.Value.row5 _)).trans (H 5)), h6⟩

/-- The reference's frame: it leaves its arguments alone and has no semaphore. -/
theorem frame_RwkvMixRef : @Cert.quiescent_RwkvMixRefIdeal Cert.RwkvMixRefIdeal.Gen.facts := by
  intro m g _
  refine (θ_run _ _ _).mono (fun r h => ⟨fun c => (h c).2.2.2.2.2.2, funext fun s => ?_⟩) (Cert.RwkvMixRefIdeal.Value.run m g)
  exact ((by decide : ∀ sm : SemLoc Cert.RwkvMixRefIdeal.sig, False) s.2).elim

end Cert.Proof
-- ==== Proof.Arrays.lean ====
/-
  The two scans' result arrays as functions of the argument arrays.

  A grid point's block is 2048 rows by 256 columns: the rows of one sequence. So each result array is, at row `m` and
  column `d`, the recurrence along the sequence the row lies in, of the column's entries (`hsArr`, `dbArr`, `daArr`).
-/
module

public import proofs.«01_k».proof.Proof.Trips
public import Idealize.ShloMosaic.Lib.Pipeline.ValueKit.Geometry

@[expose] public section

set_option maxRecDepth 16384

noncomputable section

namespace Cert.KernelIdeal.Scan

open Idealize.ShloMosaic Idealize.ShloMosaic.TcCoe Idealize.SL.Sem Cert.KernelIdeal
open Idealize.ShloMosaic.Pipeline (Dat)

/-- An array of 8192 rows, four sequences of 2048 time steps, by 1024 columns. -/
abbrev Arr := S8192x1024.Idx → EReal

/-- The coordinates' bounds. -/
theorem blk0 (y : S2048x256.Idx) : (y 0 : Fin 2048).val < 2048 := (y 0 : Fin 2048).isLt
theorem blk1 (y : S2048x256.Idx) : (y 1 : Fin 256).val < 256 := (y 1 : Fin 256).isLt
theorem arr0 (i : S8192x1024.Idx) : (i 0 : Fin 8192).val < 8192 := (i 0 : Fin 8192).isLt

/-- The place in the array of an index of grid point `t`'s block. -/
def place (t : ℕ) (ht : t < 16) (y : S2048x256.Idx) : S8192x1024.Idx :=
  ix2 ⟨t / 4 * 2048 + (y 0 : Fin 2048).val, by have := blk0 y; omega⟩
    ⟨t % 4 * 256 + (y 1 : Fin 256).val, by have := blk1 y; omega⟩

/-- Column `d` of sequence `s`, along time; 0 past its end. -/
def seq (x : Arr) (s : Fin 4) (d : Fin 1024) (t : ℕ) : ℝ :=
  if h : t < 2048 then (x (ix2 ⟨s.val * 2048 + t, by omega⟩ d)).toReal else 0

/-- The sequence a row lies in, its time step, and the column. -/
def sq (i : S8192x1024.Idx) : Fin 4 := ⟨(i 0 : Fin 8192).val / 2048, by have := arr0 i; omega⟩
def tm (i : S8192x1024.Idx) : ℕ := (i 0 : Fin 8192).val % 2048
def cl (i : S8192x1024.Idx) : Fin 1024 := i 1

/-- The states, the gradient with respect to `b`, and the gradient with respect to `a`. -/
def hsArr (a b : Arr) : Arr := fun i => ((hseq (seq a (sq i) (cl i)) (seq b (sq i) (cl i)) (tm i + 1) : ℝ) : EReal)
def dbArr (a d : Arr) : Arr := fun i => ((gat (seq a (sq i) (cl i)) (seq d (sq i) (cl i)) (tm i) : ℝ) : EReal)
def daArr (a b d : Arr) : Arr := fun i =>
  ((gat (seq a (sq i) (cl i)) (seq d (sq i) (cl i)) (tm i) * hseq (seq a (sq i) (cl i)) (seq b (sq i) (cl i)) (tm i) : ℝ) : EReal)

theorem place_sq (t : ℕ) (ht : t < 16) (y : S2048x256.Idx) : sq (place t ht y) = ⟨t / 4, by omega⟩ := by
  have := blk0 y
  refine Fin.ext ?_
  show (t / 4 * 2048 + (y 0 : Fin 2048).val) / 2048 = t / 4
  omega

theorem place_tm (t : ℕ) (ht : t < 16) (y : S2048x256.Idx) : tm (place t ht y) = (y 0 : Fin 2048).val := by
  have := blk0 y
  show (t / 4 * 2048 + (y 0 : Fin 2048).val) % 2048 = _
  omega

/-- A block's column is the sequence the block lies in. -/
theorem col_place (x : Arr) (t : ℕ) (ht : t < 16) (y : S2048x256.Idx) :
    col (fun y => x (place t ht y)) (y 1) = seq x (sq (place t ht y)) (cl (place t ht y)) := by
  rw [place_sq]
  funext n
  unfold col seq
  by_cases h : n < 2048
  · rw [dif_pos h, dif_pos h]
    refine congrArg (fun i => (x i).toReal) ?_
    rfl
  · rw [dif_neg h, dif_neg h]

theorem fwd_place (a b : Arr) (t : ℕ) (ht : t < 16) (y : S2048x256.Idx) :
    fwdBlk (fun y => a (place t ht y)) (fun y => b (place t ht y)) y = hsArr a b (place t ht y) := by
  unfold fwdBlk hsArr
  rw [place_tm, ← col_place, ← col_place]

theorem bwd_place (a d : Arr) (t : ℕ) (ht : t < 16) (y : S2048x256.Idx) :
    bwdBlk (fun y => a (place t ht y)) (fun y => d (place t ht y)) y = dbArr a d (place t ht y) := by
  unfold bwdBlk dbArr
  rw [place_tm, ← col_place, ← col_place]

/-- The places of two rows of one block's column differ in the time step alone. -/
theorem hsArr_place (a b : Arr) (t : ℕ) (ht : t < 16) (y : S2048x256.Idx) (n : ℕ) (hn : n < 2048) :
    hsArr a b (place t ht (ix2 ⟨n, hn⟩ (y 1)))
      = ((hseq (seq a (sq (place t ht y)) (cl (place t ht y))) (seq b (sq (place t ht y)) (cl (place t ht y))) (n + 1) : ℝ) : EReal) := by
  unfold hsArr
  rw [place_tm, place_sq, place_sq]
  rfl

/-- The states before each step, of a block of the saved states. -/
theorem before_place (a b : Arr) (t : ℕ) (ht : t < 16) (y : S2048x256.Idx) (n : ℕ) (hn : n ≤ 2048) :
    before (fun y => hsArr a b (place t ht y)) (y 1) n
      = hseq (seq a (sq (place t ht y)) (cl (place t ht y))) (seq b (sq (place t ht y)) (cl (place t ht y))) n := by
  cases n with
  | zero => rfl
  | succ n =>
    show col (fun y => hsArr a b (place t ht y)) (y 1) n = _
    unfold col
    rw [dif_pos (by omega)]
    exact (congrArg EReal.toReal (hsArr_place a b t ht y n (by omega))).trans (EReal.toReal_coe _)

theorem da_place (a b d : Arr) (t : ℕ) (ht : t < 16) (y : S2048x256.Idx) :
    daBlk (fun y => a (place t ht y)) (fun y => hsArr a b (place t ht y)) (fun y => d (place t ht y)) y = daArr a b d (place t ht y) := by
  unfold daBlk daArr
  rw [place_tm, before_place a b t ht y _ (le_of_lt (blk0 y)), ← col_place, ← col_place, ← col_place]

/-! ### The windows' blocks -/

theorem index0 : ∀ t : Fin cfg0.N, win0_0.index t = ![t.val / 4, t.val % 4] ∧ win0_1.index t = ![t.val / 4, t.val % 4] ∧ win0_2.index t = ![t.val / 4, t.val % 4] :=
  (by decide +kernel : ∀ t : Fin grid0.N, _)

theorem index1 : ∀ t : Fin cfg1.N, (win1_0.index t = ![t.val / 4, t.val % 4] ∧ win1_1.index t = ![t.val / 4, t.val % 4]) ∧ win1_2.index t = ![t.val / 4, t.val % 4]
    ∧ win1_3.index t = ![t.val / 4, t.val % 4] ∧ win1_4.index t = ![t.val / 4, t.val % 4] :=
  (by decide +kernel : ∀ t : Fin grid1.N, _)

theorem lt0 (t : Fin cfg0.N) : t.val < 16 := t.isLt
theorem lt1 (t : Fin cfg1.N) : t.val < 16 := t.isLt

theorem emb0_0 (t : Fin cfg0.N) (y : S2048x256.Idx) : (win0_0.blk t).view.emb y = place t.val (lt0 t) y := by
  have e := (index0 t).1
  refine (eq_ix2 ((win0_0.blk t).view.emb y)).trans (congrArg₂ ix2 (Fin.ext ?_) (Fin.ext ?_)) <;> blk_simp [e]

theorem emb0_1 (t : Fin cfg0.N) (y : S2048x256.Idx) : (win0_1.blk t).view.emb y = place t.val (lt0 t) y := by
  have e := (index0 t).2.1
  refine (eq_ix2 ((win0_1.blk t).view.emb y)).trans (congrArg₂ ix2 (Fin.ext ?_) (Fin.ext ?_)) <;> blk_simp [e]

theorem emb0_2 (t : Fin cfg0.N) (y : S2048x256.Idx) : (win0_2.blk t).view.emb y = place t.val (lt0 t) y := by
  have e := (index0 t).2.2
  refine (eq_ix2 ((win0_2.blk t).view.emb y)).trans (congrArg₂ ix2 (Fin.ext ?_) (Fin.ext ?_)) <;> blk_simp [e]

theorem emb1_0 (t : Fin cfg1.N) (y : S2048x256.Idx) : (win1_0.blk t).view.emb y = place t.val (lt1 t) y := by
  have e := (index1 t).1.1
  refine (eq_ix2 ((win1_0.blk t).view.emb y)).trans (congrArg₂ ix2 (Fin.ext ?_) (Fin.ext ?_)) <;> blk_simp [e]

theorem emb1_1 (t : Fin cfg1.N) (y : S2048x256.Idx) : (win1_1.blk t).view.emb y = place t.val (lt1 t) y := by
  have e := (index1 t).1.2
  refine (eq_ix2 ((win1_1.blk t).view.emb y)).trans (congrArg₂ ix2 (Fin.ext ?_) (Fin.ext ?_)) <;> blk_simp [e]

theorem emb1_2 (t : Fin cfg1.N) (y : S2048x256.Idx) : (win1_2.blk t).view.emb y = place t.val (lt1 t) y := by
  have e := (index1 t).2.1
  refine (eq_ix2 ((win1_2.blk t).view.emb y)).trans (congrArg₂ ix2 (Fin.ext ?_) (Fin.ext ?_)) <;> blk_simp [e]

theorem emb1_3 (t : Fin cfg1.N) (y : S2048x256.Idx) : (win1_3.blk t).view.emb y = place t.val (lt1 t) y := by
  have e := (index1 t).2.2.1
  refine (eq_ix2 ((win1_3.blk t).view.emb y)).trans (congrArg₂ ix2 (Fin.ext ?_) (Fin.ext ?_)) <;> blk_simp [e]

theorem emb1_4 (t : Fin cfg1.N) (y : S2048x256.Idx) : (win1_4.blk t).view.emb y = place t.val (lt1 t) y := by
  have e := (index1 t).2.2.2
  refine (eq_ix2 ((win1_4.blk t).view.emb y)).trans (congrArg₂ ix2 (Fin.ext ?_) (Fin.ext ?_)) <;> blk_simp [e]

/-! ### The result arrays -/

variable (V : (c : Dev nD) → (b : Ref sig .tc) → Buf (Elt Ideal) ((c : Thread nD τ).loc b)) (c : Dev nD)

theorem in0_0 (t : Fin cfg0.N) : Gen.iblk0 V c 0 t = fun y => (V c main_arg0 : Arr) (place t.val (lt0 t) y) :=
  funext fun y => congrArg (V c main_arg0 : Arr) (emb0_0 t y)
theorem in0_1 (t : Fin cfg0.N) : Gen.iblk0 V c 1 t = fun y => (V c main_arg1 : Arr) (place t.val (lt0 t) y) :=
  funext fun y => congrArg (V c main_arg1 : Arr) (emb0_1 t y)

theorem hs_eq (h0 : AllReal (V c main_arg0 : Arr)) (h1 : AllReal (V c main_arg1 : Arr)) :
    (Gen.dat0 V c).arrAt 2 cfg0.N = hsArr (V c main_arg0) (V c main_arg1) := by
  refine (Gen.dat0 V c).arrAt_eq_of_covers 2 _ (by decide +kernel) fun t hf y => ?_
  blk_simp
  rw [Gen.after0_2]
  refine Eq.trans ?_ (congrArg (hsArr (V c main_arg0) (V c main_arg1)) (emb0_2 t y)).symm
  rw [← fwd_place]
  unfold Gen.outsAt0
  rw [in0_0, in0_1]
  exact congrFun (fwd_out c _ _ _ _ _ _ _ _ _ (fun z => h0 _) (fun z => h1 _)) y

theorem in1_0 (t : Fin cfg1.N) : Gen.iblk1 V c 0 t = fun y => (V c main_arg0 : Arr) (place t.val (lt1 t) y) :=
  funext fun y => congrArg (V c main_arg0 : Arr) (emb1_0 t y)
theorem in1_1 (t : Fin cfg1.N) : Gen.iblk1 V c 1 t = fun y => (V c main_v0 : Arr) (place t.val (lt1 t) y) :=
  funext fun y => congrArg (V c main_v0 : Arr) (emb1_1 t y)
theorem in1_2 (t : Fin cfg1.N) : Gen.iblk1 V c 2 t = fun y => (V c main_arg2 : Arr) (place t.val (lt1 t) y) :=
  funext fun y => congrArg (V c main_arg2 : Arr) (emb1_2 t y)

theorem hsArr_real (a b : Arr) : AllReal (hsArr a b) := fun _ => by unfold hsArr; rw [EReal.toReal_coe]

theorem db_eq (b : Arr) (h0 : AllReal (V c main_arg0 : Arr)) (h1 : (V c main_v0 : Arr) = hsArr (V c main_arg0) b)
    (h2 : AllReal (V c main_arg2 : Arr)) :
    (Gen.dat1 V c).arrAt 3 cfg1.N = dbArr (V c main_arg0) (V c main_arg2) := by
  have h1' : AllReal (V c main_v0 : Arr) := h1 ▸ hsArr_real _ _
  refine (Gen.dat1 V c).arrAt_eq_of_covers 3 _ (by decide +kernel) fun t hf y => ?_
  blk_simp
  rw [Gen.after1_3]
  refine Eq.trans ?_ (congrArg (dbArr (V c main_arg0) (V c main_arg2)) (emb1_3 t y)).symm
  rw [← bwd_place]
  unfold Gen.outsAt1
  rw [in1_0, in1_1, in1_2]
  exact congrFun (bwd_out c _ _ _ _ _ _ _ _ _ _ _ _ _ _ (fun z => h0 _) (fun z => h1' _) (fun z => h2 _)) y

theorem da_eq (b : Arr) (h0 : AllReal (V c main_arg0 : Arr)) (h1 : (V c main_v0 : Arr) = hsArr (V c main_arg0) b)
    (h2 : AllReal (V c main_arg2 : Arr)) :
    (Gen.dat1 V c).arrAt 4 cfg1.N = daArr (V c main_arg0) b (V c main_arg2) := by
  have h1' : AllReal (V c main_v0 : Arr) := h1 ▸ hsArr_real _ _
  refine (Gen.dat1 V c).arrAt_eq_of_covers 4 _ (by decide +kernel) fun t hf y => ?_
  blk_simp
  rw [Gen.after1_4]
  refine Eq.trans ?_ (congrArg (daArr (V c main_arg0) b (V c main_arg2)) (emb1_4 t y)).symm
  rw [← da_place]
  unfold Gen.outsAt1
  rw [in1_0, in1_1, in1_2]
  refine (congrFun (bwd_out_da c _ _ _ _ _ _ _ _ _ _ _ _ _ _ (fun z => h0 _) (fun z => h1' _) (fun z => h2 _)) y).trans ?_
  rw [h1]

end Cert.KernelIdeal.Scan
-- ==== Proof.KernelRun.lean ====
/-
  The run of the two kernels, read at their results: the states, and the two gradients.

  The launch is the frame's, the postcondition says of every unscoped buffer that it ends at the last fold; the result
  arrays there are the regions' arrays after their grids, which `Proof/Arrays.lean` reads.
-/
module

public import proofs.«01_k».proof.Proof.Arrays
public import proofs.«01_k».proof.Proof.Gen.KernelIdeal.Frame

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

section Run
variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates with every unscoped buffer at the last fold. -/
theorem run_all : θ_run defs (onTc (τ := τ) (main (F := F))) ⟨m, fun _ => 0, ρ⟩
    (fun r => ∀ c : Dev nD, ∀ b ∈ Pipeline.ucRefs τ sig, r.2.mem (((c : Thread nD τ)).1, b) = Gen.W2 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (Gen.W2 m ρ c) s')
      isplitl [Hh] <;> iassumption)
    (hQ := fun s h hz => h)
end Run

/-! ### The results -/

section Value
variable (m : (ℓ : Loc nD τ sig) → Buf (Elt Ideal) ℓ) (ρ : Dev nD → PrngReg) (c : Dev nD)

/-- An argument array of the launch. -/
abbrev arg0 : Arr := m ((c : Thread nD τ).loc main_arg0)
abbrev arg1 : Arr := m ((c : Thread nD τ).loc main_arg1)
abbrev arg2 : Arr := m ((c : Thread nD τ).loc main_arg2)

/-- The states on entering the second region. -/
theorem states (h0 : AllReal (arg0 m c)) (h1 : AllReal (arg1 m c)) :
    (Gen.V1 m ρ c main_v0 : Arr) = hsArr (arg0 m c) (arg1 m c) :=
  (Gen.W1_arr m ρ c 2).trans (hs_eq (Gen.V0 m ρ) c h0 h1)

theorem V1_arg0 : (Gen.V1 m ρ c main_arg0 : Arr) = arg0 m c := Gen.W1_args m ρ c main_arg0 (by decide)
theorem V1_arg2 : (Gen.V1 m ρ c main_arg2 : Arr) = arg2 m c := Gen.W1_args m ρ c main_arg2 (by decide)

theorem out_hs (h0 : AllReal (arg0 m c)) (h1 : AllReal (arg1 m c)) :
    (Gen.W2 m ρ c (Proc.devRef .tc main_v0) : Arr) = hsArr (arg0 m c) (arg1 m c) :=
  (Gen.W2_of m ρ c main_v0 (by decide)).trans (states m ρ c h0 h1)

theorem out_db (h0 : AllReal (arg0 m c)) (h1 : AllReal (arg1 m c)) (h2 : AllReal (arg2 m c)) :
    (Gen.W2 m ρ c (Proc.devRef .tc main_v1_0) : Arr) = dbArr (arg0 m c) (arg2 m c) := by
  have e0 := V1_arg0 m ρ c
  have e2 := V1_arg2 m ρ c
  have h := db_eq (Gen.V1 m ρ) c (arg1 m c) (e0 ▸ h0) (by rw [e0]; exact states m ρ c h0 h1) (e2 ▸ h2)
  rw [e0, e2] at h
  exact (Gen.W2_arr m ρ c 3).trans h

theorem out_da (h0 : AllReal (arg0 m c)) (h1 : AllReal (arg1 m c)) (h2 : AllReal (arg2 m c)) :
    (Gen.W2 m ρ c (Proc.devRef .tc main_v1_1) : Arr) = daArr (arg0 m c) (arg1 m c) (arg2 m c) := by
  have e0 := V1_arg0 m ρ c
  have e2 := V1_arg2 m ρ c
  have h := da_eq (Gen.V1 m ρ) c (arg1 m c) (e0 ▸ h0) (by rw [e0]; exact states m ρ c h0 h1) (e2 ▸ h2)
  rw [e0, e2] at h
  exact (Gen.W2_arr m ρ c 4).trans h

end Value

/-- @main's results, the arguments' entries being numbers. -/
theorem run_value (m : (ℓ : Loc nD τ sig) → Buf (Elt Ideal) ℓ) (ρ : Dev nD → PrngReg)
    (h : ∀ c : Dev nD, AllReal (arg0 m c) ∧ AllReal (arg1 m c) ∧ AllReal (arg2 m c)) :
    θ_run defs (onTc (τ := τ) (main (F := Ideal))) ⟨m, fun _ => 0, ρ⟩ (fun r => ∀ c : Dev nD,
      r.2.mem ((c.tc : Thread nD τ).loc main_v0) = hsArr (arg0 m c) (arg1 m c)
      ∧ r.2.mem ((c.tc : Thread nD τ).loc main_v1_0) = dbArr (arg0 m c) (arg2 m c)
      ∧ r.2.mem ((c.tc : Thread nD τ).loc main_v1_1) = daArr (arg0 m c) (arg1 m c) (arg2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run _ _ _).mono (fun r hr c =>
    ⟨(hr c _ (mem_uc main_v0 (by decide))).trans (out_hs m ρ c (h c).1 (h c).2.1),
     (hr c _ (mem_uc main_v1_0 (by decide))).trans (out_db m ρ c (h c).1 (h c).2.1 (h c).2.2),
     (hr c _ (mem_uc main_v1_1 (by decide))).trans (out_da m ρ c (h c).1 (h c).2.1 (h c).2.2),
     (hr c _ (mem_uc main_arg0 (by decide))).trans (Gen.W2_main_arg0 m ρ c),
     (hr c _ (mem_uc main_arg1 (by decide))).trans (Gen.W2_main_arg1 m ρ c),
     (hr c _ (mem_uc main_arg2 (by decide))).trans (Gen.W2_main_arg2 m ρ c)⟩) (run_all m ρ)

end Cert.KernelIdeal.Scan
-- ==== Proof.RefOps.lean ====
/-
  The reference's @main as stretches of host operations around its two counted loops: the forward recurrence and the
  backward one. Each stretch comes with what it writes; a call of an indexing function comes with its value.
-/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

set_option maxRecDepth 16384

noncomputable section

namespace Cert.ReferenceIdeal.Scan

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-- The slice of a stack at a counter, and the stack with that slice replaced. -/
def pick (x : FVec F S2048x4x1024 .f32) (i : IVec S_ 32) : FVec F S4x1024 .f32 :=
  shapeCast S4x1024 (Host.dynamicSlice S1x4x1024 x (fun k => ((![i, constantI S_ 32 0#32, constantI S_ 32 0#32] : Fin 3 → IVec S_ 32) k (Shape.Idx.first h_S_)).toInt) sliceFits_S2048x4x1024_S1x4x1024) shapeCasts_S1x4x1024_S4x1024
def put (x : FVec F S2048x4x1024 .f32) (u : FVec F S4x1024 .f32) (i : IVec S_ 32) : FVec F S2048x4x1024 .f32 :=
  Host.dynamicUpdateSlice x (broadcastInDim S1x4x1024 ![1, 2] bcast_S4x1024_S1x4x1024_1_2 u) (fun k => ((![i, constantI S_ 32 0#32, constantI S_ 32 0#32] : Fin 3 → IVec S_ 32) k (Shape.Idx.first h_S_)).toInt) updateFits_S2048x4x1024_S1x4x1024

/-- @main's operations before the forward loop, in order. -/
abbrev preOps : List (HloOp τ sig (Elt F)) :=
  [ StableHlo.nullary main_cst (constant S_ .f32 0x00000000#32),
    StableHlo.unary main_cst main_v0 (broadcastInDim S4x1024 ![] bcast_S_S4x1024 : (⟨S_, .f32⟩ : BufTy).Contents (Elt F) → (⟨S4x1024, .f32⟩ : BufTy).Contents (Elt F)),
    StableHlo.reshape main_arg0 main_v1 (rfl : (.f32 : EltTy) = .f32) shapeCasts_S8192x1024_S4x2048x1024,
    StableHlo.unary main_v1 main_v2 ((transpose S2048x4x1024 [1, 0, 2] · transposes_S4x2048x1024_S2048x4x1024_1_0_2) : (⟨S4x2048x1024, .f32⟩ : BufTy).Contents (Elt F) → (⟨S2048x4x1024, .f32⟩ : BufTy).Contents (Elt F)),
    StableHlo.reshape main_arg1 main_v3 (rfl : (.f32 : EltTy) = .f32) shapeCasts_S8192x1024_S4x2048x1024,
    StableHlo.unary main_v3 main_v4 ((transpose S2048x4x1024 [1, 0, 2] · transposes_S4x2048x1024_S2048x4x1024_1_0_2) : (⟨S4x2048x1024, .f32⟩ : BufTy).Contents (Elt F) → (⟨S2048x4x1024, .f32⟩ : BufTy).Contents (Elt F)),
    StableHlo.nullary main_cst_0 (constant S_ .f32 0x00000000#32),
    StableHlo.unary main_cst_0 main_v5 (broadcastInDim S2048x4x1024 ![] bcast_S_S2048x4x1024 : (⟨S_, .f32⟩ : BufTy).Contents (Elt F) → (⟨S2048x4x1024, .f32⟩ : BufTy).Contents (Elt F)),
    StableHlo.nullary main_cst_1 (constant S_ .f32 0x00000000#32),
    StableHlo.unary main_cst_1 main_v6 (broadcastInDim S2048x4x1024 ![] bcast_S_S2048x4x1024 : (⟨S_, .f32⟩ : BufTy).Contents (Elt F) → (⟨S2048x4x1024, .f32⟩ : BufTy).Contents (Elt F)),
    StableHlo.nullary main_c (constantI S_ 32 0#32),
    StableHlo.unary main_v2 main_v7_0 id,
    StableHlo.unary main_v4 main_v7_1 id,
    StableHlo.unary main_c main_v7_2 id,
    StableHlo.unary main_v0 main_v7_3 id,
    StableHlo.unary main_v5 main_v7_4 id,
    StableHlo.unary main_v6 main_v7_5 id ]
theorem preOps_sub : (preOps : List (HloOp τ sig (Elt F))).Forall fun op => op.bufs ⊆ tcRefs τ sig :=
  ⟨StableHlo.nullary_bufs_sub .., StableHlo.unary_bufs_sub .., StableHlo.reshape_bufs_sub .., StableHlo.unary_bufs_sub .., StableHlo.reshape_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub ..⟩
theorem preOps_fresh : (preOps : List (HloOp τ sig (Elt F))).Forall fun op => op.fresh = ∅ := forall_fresh_of_map rfl
abbrev preOps_W : List (Ref sig .tc) := [main_cst, main_v0, main_v1, main_v2, main_v3, main_v4, main_cst_0, main_v5, main_cst_1, main_v6, main_c, main_v7_0, main_v7_1, main_v7_2, main_v7_3, main_v7_4, main_v7_5]
theorem preOps_writes : (preOps : List (HloOp τ sig (Elt F))).Forall fun op => op.writes ⊆ (preOps_W.map (Proc.devRef (τ := τ) .tc)).toFinset :=
  forall_writes_sub_of_map rfl

/-- @main's operations between the two loops, in order. -/
abbrev midOps : List (HloOp τ sig (Elt F)) :=
  [ StableHlo.unary main_v7_4 main_v8 ((transpose S4x2048x1024 [1, 0, 2] · transposes_S2048x4x1024_S4x2048x1024_1_0_2) : (⟨S2048x4x1024, .f32⟩ : BufTy).Contents (Elt F) → (⟨S4x2048x1024, .f32⟩ : BufTy).Contents (Elt F)),
    StableHlo.reshape main_v8 main_v9 (rfl : (.f32 : EltTy) = .f32) shapeCasts_S4x2048x1024_S8192x1024,
    StableHlo.nullary main_cst_2 (constant S_ .f32 0x00000000#32),
    StableHlo.unary main_cst_2 main_v10 (broadcastInDim S4x1024 ![] bcast_S_S4x1024 : (⟨S_, .f32⟩ : BufTy).Contents (Elt F) → (⟨S4x1024, .f32⟩ : BufTy).Contents (Elt F)),
    StableHlo.reshape main_arg2 main_v11 (rfl : (.f32 : EltTy) = .f32) shapeCasts_S8192x1024_S4x2048x1024,
    StableHlo.unary main_v11 main_v12 ((transpose S2048x4x1024 [1, 0, 2] · transposes_S4x2048x1024_S2048x4x1024_1_0_2) : (⟨S4x2048x1024, .f32⟩ : BufTy).Contents (Elt F) → (⟨S2048x4x1024, .f32⟩ : BufTy).Contents (Elt F)),
    StableHlo.nullary main_cst_3 (constant S_ .f32 0x00000000#32),
    StableHlo.unary main_cst_3 main_v13 (broadcastInDim S4x1024 ![] bcast_S_S4x1024 : (⟨S_, .f32⟩ : BufTy).Contents (Elt F) → (⟨S4x1024, .f32⟩ : BufTy).Contents (Elt F)),
    StableHlo.nullary main_cst_4 (constant S_ .f32 0x00000000#32),
    StableHlo.unary main_cst_4 main_v14 (broadcastInDim S2048x4x1024 ![] bcast_S_S2048x4x1024 : (⟨S_, .f32⟩ : BufTy).Contents (Elt F) → (⟨S2048x4x1024, .f32⟩ : BufTy).Contents (Elt F)),
    StableHlo.nullary main_cst_5 (constant S_ .f32 0x00000000#32),
    StableHlo.unary main_cst_5 main_v15 (broadcastInDim S2048x4x1024 ![] bcast_S_S2048x4x1024 : (⟨S_, .f32⟩ : BufTy).Contents (Elt F) → (⟨S2048x4x1024, .f32⟩ : BufTy).Contents (Elt F)),
    StableHlo.nullary main_c_6 (constantI S_ 32 0#32),
    StableHlo.unary main_v12 main_v16_0 id,
    StableHlo.unary main_v7_5 main_v16_1 id,
    StableHlo.unary main_v2 main_v16_2 id,
    StableHlo.unary main_c_6 main_v16_3 id,
    StableHlo.unary main_v13 main_v16_4 id,
    StableHlo.unary main_v14 main_v16_5 id,
    StableHlo.unary main_v15 main_v16_6 id ]
theorem midOps_sub : (midOps : List (HloOp τ sig (Elt F))).Forall fun op => op.bufs ⊆ tcRefs τ sig :=
  ⟨StableHlo.unary_bufs_sub .., StableHlo.reshape_bufs_sub .., StableHlo.nullary_bufs_sub .., StableHlo.unary_bufs_sub .., StableHlo.reshape_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
theorem midOps_fresh : (midOps : List (HloOp τ sig (Elt F))).Forall fun op => op.fresh = ∅ := forall_fresh_of_map rfl
abbrev midOps_W : List (Ref sig .tc) := [main_v8, main_v9, main_cst_2, main_v10, main_v11, main_v12, main_cst_3, main_v13, main_cst_4, main_v14, main_cst_5, main_v15, main_c_6, main_v16_0, main_v16_1, main_v16_2, main_v16_3, main_v16_4, main_v16_5, main_v16_6]
theorem midOps_writes : (midOps : List (HloOp τ sig (Elt F))).Forall fun op => op.writes ⊆ (midOps_W.map (Proc.devRef (τ := τ) .tc)).toFinset :=
  forall_writes_sub_of_map rfl

/-- @main's operations after the backward loop, in order. -/
abbrev postOps : List (HloOp τ sig (Elt F)) :=
  [ StableHlo.unary main_v16_6 main_v17 ((transpose S4x2048x1024 [1, 0, 2] · transposes_S2048x4x1024_S4x2048x1024_1_0_2) : (⟨S2048x4x1024, .f32⟩ : BufTy).Contents (Elt F) → (⟨S4x2048x1024, .f32⟩ : BufTy).Contents (Elt F)),
    StableHlo.reshape main_v17 main_v18 (rfl : (.f32 : EltTy) = .f32) shapeCasts_S4x2048x1024_S8192x1024,
    StableHlo.unary main_v16_5 main_v19 ((transpose S4x2048x1024 [1, 0, 2] · transposes_S2048x4x1024_S4x2048x1024_1_0_2) : (⟨S2048x4x1024, .f32⟩ : BufTy).Contents (Elt F) → (⟨S4x2048x1024, .f32⟩ : BufTy).Contents (Elt F)),
    StableHlo.reshape main_v19 main_v20 (rfl : (.f32 : EltTy) = .f32) shapeCasts_S4x2048x1024_S8192x1024 ]
theorem postOps_sub : (postOps : List (HloOp τ sig (Elt F))).Forall fun op => op.bufs ⊆ tcRefs τ sig :=
  ⟨StableHlo.unary_bufs_sub .., StableHlo.reshape_bufs_sub .., StableHlo.unary_bufs_sub .., StableHlo.reshape_bufs_sub ..⟩
theorem postOps_fresh : (postOps : List (HloOp τ sig (Elt F))).Forall fun op => op.fresh = ∅ := forall_fresh_of_map rfl
abbrev postOps_W : List (Ref sig .tc) := [main_v17, main_v18, main_v19, main_v20]
theorem postOps_writes : (postOps : List (HloOp τ sig (Elt F))).Forall fun op => op.writes ⊆ (postOps_W.map (Proc.devRef (τ := τ) .tc)).toFinset :=
  forall_writes_sub_of_map rfl

/-- The call `dynamic_index_in_dim` of main_v7_0, main_v7_2. -/
abbrev body0_0 : List (HloOp τ sig (Elt F)) :=
  [ StableHlo.TRef.nullary (.of main_while0b_call0_c : TRef sig ⟨S_, .i32⟩) (constantI S_ 32 0#32),
    StableHlo.TRef.nullary (.of main_while0b_call0_c_0 : TRef sig ⟨S_, .i32⟩) (constantI S_ 32 0#32),
    StableHlo.TRef.unaryIndexed (.of main_v7_0 : TRef sig ⟨S2048x4x1024, .f32⟩) ![(.of main_v7_2 : TRef sig ⟨S_, .i32⟩), (.of main_while0b_call0_c : TRef sig ⟨S_, .i32⟩), (.of main_while0b_call0_c_0 : TRef sig ⟨S_, .i32⟩)] (.of main_while0b_call0_v0 : TRef sig ⟨S1x4x1024, .f32⟩) (fun x i => Host.dynamicSlice S1x4x1024 x (fun k => (i k (Shape.Idx.first h_S_)).toInt) sliceFits_S2048x4x1024_S1x4x1024),
    StableHlo.TRef.reshape (.of main_while0b_call0_v0 : TRef sig ⟨S1x4x1024, .f32⟩) (.of main_while0b_v21 : TRef sig ⟨S4x1024, .f32⟩) (rfl : (.f32 : EltTy) = .f32) shapeCasts_S1x4x1024_S4x1024 ]
theorem body0_0_sub : (body0_0 : List (HloOp τ sig (Elt F))).Forall fun op => op.bufs ⊆ tcRefs τ sig :=
  ⟨StableHlo.nullary_bufs_sub .., StableHlo.nullary_bufs_sub .., StableHlo.unaryIndexed_bufs_sub .., StableHlo.reshape_bufs_sub ..⟩
theorem body0_0_fresh : (body0_0 : List (HloOp τ sig (Elt F))).Forall fun op => op.fresh = ∅ := forall_fresh_of_map rfl
abbrev body0_0_W : List (Ref sig .tc) := [main_while0b_call0_c, main_while0b_call0_c_0, main_while0b_call0_v0, main_while0b_v21]
theorem body0_0_writes : (body0_0 : List (HloOp τ sig (Elt F))).Forall fun op => op.writes ⊆ (body0_0_W.map (Proc.devRef (τ := τ) .tc)).toFinset :=
  forall_writes_sub_of_map rfl

theorem body0_0_val (V : Valuation τ sig (Elt F)) : after body0_0 V (Proc.devRef .tc main_while0b_v21) = pick (V (Proc.devRef .tc main_v7_0)) (V (Proc.devRef .tc main_v7_2)) := by
  after_results_entrywise [cast_eq]

/-- The call `dynamic_index_in_dim` of main_v7_1, main_v7_2. -/
abbrev body0_1 : List (HloOp τ sig (Elt F)) :=
  [ StableHlo.TRef.nullary (.of main_while0b_call1_c : TRef sig ⟨S_, .i32⟩) (constantI S_ 32 0#32),
    StableHlo.TRef.nullary (.of main_while0b_call1_c_0 : TRef sig ⟨S_, .i32⟩) (constantI S_ 32 0#32),
    StableHlo.TRef.unaryIndexed (.of main_v7_1 : TRef sig ⟨S2048x4x1024, .f32⟩) ![(.of main_v7_2 : TRef sig ⟨S_, .i32⟩), (.of main_while0b_call1_c : TRef sig ⟨S_, .i32⟩), (.of main_while0b_call1_c_0 : TRef sig ⟨S_, .i32⟩)] (.of main_while0b_call1_v0 : TRef sig ⟨S1x4x1024, .f32⟩) (fun x i => Host.dynamicSlice S1x4x1024 x (fun k => (i k (Shape.Idx.first h_S_)).toInt) sliceFits_S2048x4x1024_S1x4x1024),
    StableHlo.TRef.reshape (.of main_while0b_call1_v0 : TRef sig ⟨S1x4x1024, .f32⟩) (.of main_while0b_v22 : TRef sig ⟨S4x1024, .f32⟩) (rfl : (.f32 : EltTy) = .f32) shapeCasts_S1x4x1024_S4x1024 ]
theorem body0_1_sub : (body0_1 : List (HloOp τ sig (Elt F))).Forall fun op => op.bufs ⊆ tcRefs τ sig :=
  ⟨StableHlo.nullary_bufs_sub .., StableHlo.nullary_bufs_sub .., StableHlo.unaryIndexed_bufs_sub .., StableHlo.reshape_bufs_sub ..⟩
theorem body0_1_fresh : (body0_1 : List (HloOp τ sig (Elt F))).Forall fun op => op.fresh = ∅ := forall_fresh_of_map rfl
abbrev body0_1_W : List (Ref sig .tc) := [main_while0b_call1_c, main_while0b_call1_c_0, main_while0b_call1_v0, main_while0b_v22]
theorem body0_1_writes : (body0_1 : List (HloOp τ sig (Elt F))).Forall fun op => op.writes ⊆ (body0_1_W.map (Proc.devRef (τ := τ) .tc)).toFinset :=
  forall_writes_sub_of_map rfl

theorem body0_1_val (V : Valuation τ sig (Elt F)) : after body0_1 V (Proc.devRef .tc main_while0b_v22) = pick (V (Proc.devRef .tc main_v7_1)) (V (Proc.devRef .tc main_v7_2)) := by
  after_results_entrywise [cast_eq]

/-- Operations of loop 0's body. -/
abbrev body0_2 : List (HloOp τ sig (Elt F)) :=
  [ StableHlo.binary main_while0b_v21 main_v7_3 main_while0b_v23 (mulf : (⟨S4x1024, .f32⟩ : BufTy).Contents (Elt F) → (⟨S4x1024, .f32⟩ : BufTy).Contents (Elt F) → (⟨S4x1024, .f32⟩ : BufTy).Contents (Elt F)),
    StableHlo.binary main_while0b_v23 main_while0b_v22 main_while0b_v24 (addf : (⟨S4x1024, .f32⟩ : BufTy).Contents (Elt F) → (⟨S4x1024, .f32⟩ : BufTy).Contents (Elt F) → (⟨S4x1024, .f32⟩ : BufTy).Contents (Elt F)) ]
theorem body0_2_sub : (body0_2 : List (HloOp τ sig (Elt F))).Forall fun op => op.bufs ⊆ tcRefs τ sig :=
  ⟨StableHlo.binary_bufs_sub .., StableHlo.binary_bufs_sub ..⟩
theorem body0_2_fresh : (body0_2 : List (HloOp τ sig (Elt F))).Forall fun op => op.fresh = ∅ := forall_fresh_of_map rfl
abbrev body0_2_W : List (Ref sig .tc) := [main_while0b_v23, main_while0b_v24]
theorem body0_2_writes : (body0_2 : List (HloOp τ sig (Elt F))).Forall fun op => op.writes ⊆ (body0_2_W.map (Proc.devRef (τ := τ) .tc)).toFinset :=
  forall_writes_sub_of_map rfl

/-- The call `dynamic_update_index_in_dim` of main_v7_4, main_while0b_v24, main_v7_2. -/
abbrev body0_3 : List (HloOp τ sig (Elt F)) :=
  [ StableHlo.TRef.unary (.of main_while0b_v24 : TRef sig ⟨S4x1024, .f32⟩) (.of main_while0b_call2_v0 : TRef sig ⟨S1x4x1024, .f32⟩) (broadcastInDim S1x4x1024 ![1, 2] bcast_S4x1024_S1x4x1024_1_2),
    StableHlo.TRef.nullary (.of main_while0b_call2_c : TRef sig ⟨S_, .i32⟩) (constantI S_ 32 0#32),
    StableHlo.TRef.nullary (.of main_while0b_call2_c_0 : TRef sig ⟨S_, .i32⟩) (constantI S_ 32 0#32),
    StableHlo.TRef.binaryIndexed (.of main_v7_4 : TRef sig ⟨S2048x4x1024, .f32⟩) (.of main_while0b_call2_v0 : TRef sig ⟨S1x4x1024, .f32⟩) ![(.of main_v7_2 : TRef sig ⟨S_, .i32⟩), (.of main_while0b_call2_c : TRef sig ⟨S_, .i32⟩), (.of main_while0b_call2_c_0 : TRef sig ⟨S_, .i32⟩)] (.of main_while0b_v25 : TRef sig ⟨S2048x4x1024, .f32⟩) (fun x u i => Host.dynamicUpdateSlice x u (fun k => (i k (Shape.Idx.first h_S_)).toInt) updateFits_S2048x4x1024_S1x4x1024) ]
theorem body0_3_sub : (body0_3 : List (HloOp τ sig (Elt F))).Forall fun op => op.bufs ⊆ tcRefs τ sig :=
  ⟨StableHlo.unary_bufs_sub .., StableHlo.nullary_bufs_sub .., StableHlo.nullary_bufs_sub .., StableHlo.binaryIndexed_bufs_sub ..⟩
theorem body0_3_fresh : (body0_3 : List (HloOp τ sig (Elt F))).Forall fun op => op.fresh = ∅ := forall_fresh_of_map rfl
abbrev body0_3_W : List (Ref sig .tc) := [main_while0b_call2_v0, main_while0b_call2_c, main_while0b_call2_c_0, main_while0b_v25]
theorem body0_3_writes : (body0_3 : List (HloOp τ sig (Elt F))).Forall fun op => op.writes ⊆ (body0_3_W.map (Proc.devRef (τ := τ) .tc)).toFinset :=
  forall_writes_sub_of_map rfl

theorem body0_3_val (V : Valuation τ sig (Elt F)) : after body0_3 V (Proc.devRef .tc main_while0b_v25) = put (V (Proc.devRef .tc main_v7_4)) (V (Proc.devRef .tc main_while0b_v24)) (V (Proc.devRef .tc main_v7_2)) := by
  after_results_entrywise [cast_eq]

/-- The call `dynamic_update_index_in_dim` of main_v7_5, main_v7_3, main_v7_2. -/
abbrev body0_4 : List (HloOp τ sig (Elt F)) :=
  [ StableHlo.TRef.unary (.of main_v7_3 : TRef sig ⟨S4x1024, .f32⟩) (.of main_while0b_call3_v0 : TRef sig ⟨S1x4x1024, .f32⟩) (broadcastInDim S1x4x1024 ![1, 2] bcast_S4x1024_S1x4x1024_1_2),
    StableHlo.TRef.nullary (.of main_while0b_call3_c : TRef sig ⟨S_, .i32⟩) (constantI S_ 32 0#32),
    StableHlo.TRef.nullary (.of main_while0b_call3_c_0 : TRef sig ⟨S_, .i32⟩) (constantI S_ 32 0#32),
    StableHlo.TRef.binaryIndexed (.of main_v7_5 : TRef sig ⟨S2048x4x1024, .f32⟩) (.of main_while0b_call3_v0 : TRef sig ⟨S1x4x1024, .f32⟩) ![(.of main_v7_2 : TRef sig ⟨S_, .i32⟩), (.of main_while0b_call3_c : TRef sig ⟨S_, .i32⟩), (.of main_while0b_call3_c_0 : TRef sig ⟨S_, .i32⟩)] (.of main_while0b_v26 : TRef sig ⟨S2048x4x1024, .f32⟩) (fun x u i => Host.dynamicUpdateSlice x u (fun k => (i k (Shape.Idx.first h_S_)).toInt) updateFits_S2048x4x1024_S1x4x1024) ]
theorem body0_4_sub : (body0_4 : List (HloOp τ sig (Elt F))).Forall fun op => op.bufs ⊆ tcRefs τ sig :=
  ⟨StableHlo.unary_bufs_sub .., StableHlo.nullary_bufs_sub .., StableHlo.nullary_bufs_sub .., StableHlo.binaryIndexed_bufs_sub ..⟩
theorem body0_4_fresh : (body0_4 : List (HloOp τ sig (Elt F))).Forall fun op => op.fresh = ∅ := forall_fresh_of_map rfl
abbrev body0_4_W : List (Ref sig .tc) := [main_while0b_call3_v0, main_while0b_call3_c, main_while0b_call3_c_0, main_while0b_v26]
theorem body0_4_writes : (body0_4 : List (HloOp τ sig (Elt F))).Forall fun op => op.writes ⊆ (body0_4_W.map (Proc.devRef (τ := τ) .tc)).toFinset :=
  forall_writes_sub_of_map rfl

theorem body0_4_val (V : Valuation τ sig (Elt F)) : after body0_4 V (Proc.devRef .tc main_while0b_v26) = put (V (Proc.devRef .tc main_v7_5)) (V (Proc.devRef .tc main_v7_3)) (V (Proc.devRef .tc main_v7_2)) := by
  after_results_entrywise [cast_eq]

/-- Operations of loop 0's body. -/
abbrev body0_5 : List (HloOp τ sig (Elt F)) :=
  [ StableHlo.nullary main_while0b_c_12 (constantI S_ 32 1#32),
    StableHlo.binary main_v7_2 main_while0b_c_12 main_while0b_v27 (addi : (⟨S_, .i32⟩ : BufTy).Contents (Elt F) → (⟨S_, .i32⟩ : BufTy).Contents (Elt F) → (⟨S_, .i32⟩ : BufTy).Contents (Elt F)),
    StableHlo.unary main_while0b_v27 main_v7_2 id,
    StableHlo.unary main_while0b_v24 main_v7_3 id,
    StableHlo.unary main_while0b_v25 main_v7_4 id,
    StableHlo.unary main_while0b_v26 main_v7_5 id ]
theorem body0_5_sub : (body0_5 : List (HloOp τ sig (Elt F))).Forall fun op => op.bufs ⊆ tcRefs τ sig :=
  ⟨StableHlo.nullary_bufs_sub .., StableHlo.binary_bufs_sub .., StableHlo.unary_bufs_sub .., StableHlo.unary_bufs_sub .., StableHlo.unary_bufs_sub .., StableHlo.unary_bufs_sub ..⟩
theorem body0_5_fresh : (body0_5 : List (HloOp τ sig (Elt F))).Forall fun op => op.fresh = ∅ := forall_fresh_of_map rfl
abbrev body0_5_W : List (Ref sig .tc) := [main_while0b_c_12, main_while0b_v27, main_v7_2, main_v7_3, main_v7_4, main_v7_5]
theorem body0_5_writes : (body0_5 : List (HloOp τ sig (Elt F))).Forall fun op => op.writes ⊆ (body0_5_W.map (Proc.devRef (τ := τ) .tc)).toFinset :=
  forall_writes_sub_of_map rfl

abbrev body0 : List (List (HloOp τ sig (Elt F))) := [body0_0, body0_1, body0_2, body0_3, body0_4, body0_5]
theorem body0_plain : Plain (body0 (F := F)) := .cons body0_0_sub (hf := List.forall_iff_forall_mem.mp body0_0_fresh) (.cons body0_1_sub (hf := List.forall_iff_forall_mem.mp body0_1_fresh) (.cons body0_2_sub (hf := List.forall_iff_forall_mem.mp body0_2_fresh) (.cons body0_3_sub (hf := List.forall_iff_forall_mem.mp body0_3_fresh) (.cons body0_4_sub (hf := List.forall_iff_forall_mem.mp body0_4_fresh) (.cons body0_5_sub (hf := List.forall_iff_forall_mem.mp body0_5_fresh) (.nil))))))
/-- Loop 0's body is its stretches in order. -/
theorem body0_chain : main_while0_body (F := F) = (Pipeline.chain [seq body0_0, seq body0_1, seq body0_2, seq body0_3, seq body0_4, seq body0_5] : Prog (TpuEff nD τ sig (Elt F) (HostLoop.Sig (Pipeline.Sig Λ₀ (Fin 0) fun p => (pcfgs (F := F) p).Adm) 2) .tc) PUnit) := by
  rewrite [Pipeline.chain_cons, Pipeline.chain_cons, chain_seq_cons, Pipeline.chain_cons, Pipeline.chain_cons, chain_seq_cons]
  chain_rfl

/-- Loop 0's condition: the bound, and the counter compared with it. -/
abbrev cond0 : List (HloOp τ sig (Elt F)) :=
  [ StableHlo.nullary main_while0c_c_12 (constantI S_ 32 2048#32), StableHlo.binary main_v7_2 main_while0c_c_12 main_while0c_v21 (cmpi .slt) ]
abbrev cond0_W : List (Ref sig .tc) := [main_while0c_c_12, main_while0c_v21]
theorem cond0_writes : (cond0 : List (HloOp τ sig (Elt F))).Forall fun op => op.writes ⊆ (cond0_W.map (Proc.devRef (τ := τ) .tc)).toFinset :=
  forall_writes_sub_of_map rfl

/-- Operations of loop 1's body. -/
abbrev body1_0 : List (HloOp τ sig (Elt F)) :=
  [ StableHlo.nullary main_while1b_c_13 (constantI S_ 32 2048#32),
    StableHlo.binary main_while1b_c_13 main_v16_3 main_while1b_v21 (subi : (⟨S_, .i32⟩ : BufTy).Contents (Elt F) → (⟨S_, .i32⟩ : BufTy).Contents (Elt F) → (⟨S_, .i32⟩ : BufTy).Contents (Elt F)),
    StableHlo.nullary main_while1b_c_14 (constantI S_ 32 1#32),
    StableHlo.binary main_while1b_v21 main_while1b_c_14 main_while1b_v22 (subi : (⟨S_, .i32⟩ : BufTy).Contents (Elt F) → (⟨S_, .i32⟩ : BufTy).Contents (Elt F) → (⟨S_, .i32⟩ : BufTy).Contents (Elt F)) ]
theorem body1_0_sub : (body1_0 : List (HloOp τ sig (Elt F))).Forall fun op => op.bufs ⊆ tcRefs τ sig :=
  ⟨StableHlo.nullary_bufs_sub .., StableHlo.binary_bufs_sub .., StableHlo.nullary_bufs_sub .., StableHlo.binary_bufs_sub ..⟩
theorem body1_0_fresh : (body1_0 : List (HloOp τ sig (Elt F))).Forall fun op => op.fresh = ∅ := forall_fresh_of_map rfl
abbrev body1_0_W : List (Ref sig .tc) := [main_while1b_c_13, main_while1b_v21, main_while1b_c_14, main_while1b_v22]
theorem body1_0_writes : (body1_0 : List (HloOp τ sig (Elt F))).Forall fun op => op.writes ⊆ (body1_0_W.map (Proc.devRef (τ := τ) .tc)).toFinset :=
  forall_writes_sub_of_map rfl

/-- The call `dynamic_index_in_dim` of main_v16_0, main_while1b_v22. -/
abbrev body1_1 : List (HloOp τ sig (Elt F)) :=
  [ StableHlo.TRef.nullary (.of main_while1b_call4_c : TRef sig ⟨S_, .i32⟩) (constantI S_ 32 0#32),
    StableHlo.TRef.nullary (.of main_while1b_call4_c_0 : TRef sig ⟨S_, .i32⟩) (constantI S_ 32 0#32),
    StableHlo.TRef.unaryIndexed (.of main_v16_0 : TRef sig ⟨S2048x4x1024, .f32⟩) ![(.of main_while1b_v22 : TRef sig ⟨S_, .i32⟩), (.of main_while1b_call4_c : TRef sig ⟨S_, .i32⟩), (.of main_while1b_call4_c_0 : TRef sig ⟨S_, .i32⟩)] (.of main_while1b_call4_v0 : TRef sig ⟨S1x4x1024, .f32⟩) (fun x i => Host.dynamicSlice S1x4x1024 x (fun k => (i k (Shape.Idx.first h_S_)).toInt) sliceFits_S2048x4x1024_S1x4x1024),
    StableHlo.TRef.reshape (.of main_while1b_call4_v0 : TRef sig ⟨S1x4x1024, .f32⟩) (.of main_while1b_v23 : TRef sig ⟨S4x1024, .f32⟩) (rfl : (.f32 : EltTy) = .f32) shapeCasts_S1x4x1024_S4x1024 ]
theorem body1_1_sub : (body1_1 : List (HloOp τ sig (Elt F))).Forall fun op => op.bufs ⊆ tcRefs τ sig :=
  ⟨StableHlo.nullary_bufs_sub .., StableHlo.nullary_bufs_sub .., StableHlo.unaryIndexed_bufs_sub .., StableHlo.reshape_bufs_sub ..⟩
theorem body1_1_fresh : (body1_1 : List (HloOp τ sig (Elt F))).Forall fun op => op.fresh = ∅ := forall_fresh_of_map rfl
abbrev body1_1_W : List (Ref sig .tc) := [main_while1b_call4_c, main_while1b_call4_c_0, main_while1b_call4_v0, main_while1b_v23]
theorem body1_1_writes : (body1_1 : List (HloOp τ sig (Elt F))).Forall fun op => op.writes ⊆ (body1_1_W.map (Proc.devRef (τ := τ) .tc)).toFinset :=
  forall_writes_sub_of_map rfl

theorem body1_1_val (V : Valuation τ sig (Elt F)) : after body1_1 V (Proc.devRef .tc main_while1b_v23) = pick (V (Proc.devRef .tc main_v16_0)) (V (Proc.devRef .tc main_while1b_v22)) := by
  after_results_entrywise [cast_eq]

/-- The call `dynamic_index_in_dim` of main_v16_1, main_while1b_v22. -/
abbrev body1_2 : List (HloOp τ sig (Elt F)) :=
  [ StableHlo.TRef.nullary (.of main_while1b_call5_c : TRef sig ⟨S_, .i32⟩) (constantI S_ 32 0#32),
    StableHlo.TRef.nullary (.of main_while1b_call5_c_0 : TRef sig ⟨S_, .i32⟩) (constantI S_ 32 0#32),
    StableHlo.TRef.unaryIndexed (.of main_v16_1 : TRef sig ⟨S2048x4x1024, .f32⟩) ![(.of main_while1b_v22 : TRef sig ⟨S_, .i32⟩), (.of main_while1b_call5_c : TRef sig ⟨S_, .i32⟩), (.of main_while1b_call5_c_0 : TRef sig ⟨S_, .i32⟩)] (.of main_while1b_call5_v0 : TRef sig ⟨S1x4x1024, .f32⟩) (fun x i => Host.dynamicSlice S1x4x1024 x (fun k => (i k (Shape.Idx.first h_S_)).toInt) sliceFits_S2048x4x1024_S1x4x1024),
    StableHlo.TRef.reshape (.of main_while1b_call5_v0 : TRef sig ⟨S1x4x1024, .f32⟩) (.of main_while1b_v24 : TRef sig ⟨S4x1024, .f32⟩) (rfl : (.f32 : EltTy) = .f32) shapeCasts_S1x4x1024_S4x1024 ]
theorem body1_2_sub : (body1_2 : List (HloOp τ sig (Elt F))).Forall fun op => op.bufs ⊆ tcRefs τ sig :=
  ⟨StableHlo.nullary_bufs_sub .., StableHlo.nullary_bufs_sub .., StableHlo.unaryIndexed_bufs_sub .., StableHlo.reshape_bufs_sub ..⟩
theorem body1_2_fresh : (body1_2 : List (HloOp τ sig (Elt F))).Forall fun op => op.fresh = ∅ := forall_fresh_of_map rfl
abbrev body1_2_W : List (Ref sig .tc) := [main_while1b_call5_c, main_while1b_call5_c_0, main_while1b_call5_v0, main_while1b_v24]
theorem body1_2_writes : (body1_2 : List (HloOp τ sig (Elt F))).Forall fun op => op.writes ⊆ (body1_2_W.map (Proc.devRef (τ := τ) .tc)).toFinset :=
  forall_writes_sub_of_map rfl

theorem body1_2_val (V : Valuation τ sig (Elt F)) : after body1_2 V (Proc.devRef .tc main_while1b_v24) = pick (V (Proc.devRef .tc main_v16_1)) (V (Proc.devRef .tc main_while1b_v22)) := by
  after_results_entrywise [cast_eq]

/-- The call `dynamic_index_in_dim` of main_v16_2, main_while1b_v22. -/
abbrev body1_3 : List (HloOp τ sig (Elt F)) :=
  [ StableHlo.TRef.nullary (.of main_while1b_call6_c : TRef sig ⟨S_, .i32⟩) (constantI S_ 32 0#32),
    StableHlo.TRef.nullary (.of main_while1b_call6_c_0 : TRef sig ⟨S_, .i32⟩) (constantI S_ 32 0#32),
    StableHlo.TRef.unaryIndexed (.of main_v16_2 : TRef sig ⟨S2048x4x1024, .f32⟩) ![(.of main_while1b_v22 : TRef sig ⟨S_, .i32⟩), (.of main_while1b_call6_c : TRef sig ⟨S_, .i32⟩), (.of main_while1b_call6_c_0 : TRef sig ⟨S_, .i32⟩)] (.of main_while1b_call6_v0 : TRef sig ⟨S1x4x1024, .f32⟩) (fun x i => Host.dynamicSlice S1x4x1024 x (fun k => (i k (Shape.Idx.first h_S_)).toInt) sliceFits_S2048x4x1024_S1x4x1024),
    StableHlo.TRef.reshape (.of main_while1b_call6_v0 : TRef sig ⟨S1x4x1024, .f32⟩) (.of main_while1b_v25 : TRef sig ⟨S4x1024, .f32⟩) (rfl : (.f32 : EltTy) = .f32) shapeCasts_S1x4x1024_S4x1024 ]
theorem body1_3_sub : (body1_3 : List (HloOp τ sig (Elt F))).Forall fun op => op.bufs ⊆ tcRefs τ sig :=
  ⟨StableHlo.nullary_bufs_sub .., StableHlo.nullary_bufs_sub .., StableHlo.unaryIndexed_bufs_sub .., StableHlo.reshape_bufs_sub ..⟩
theorem body1_3_fresh : (body1_3 : List (HloOp τ sig (Elt F))).Forall fun op => op.fresh = ∅ := forall_fresh_of_map rfl
abbrev body1_3_W : List (Ref sig .tc) := [main_while1b_call6_c, main_while1b_call6_c_0, main_while1b_call6_v0, main_while1b_v25]
theorem body1_3_writes : (body1_3 : List (HloOp τ sig (Elt F))).Forall fun op => op.writes ⊆ (body1_3_W.map (Proc.devRef (τ := τ) .tc)).toFinset :=
  forall_writes_sub_of_map rfl

theorem body1_3_val (V : Valuation τ sig (Elt F)) : after body1_3 V (Proc.devRef .tc main_while1b_v25) = pick (V (Proc.devRef .tc main_v16_2)) (V (Proc.devRef .tc main_while1b_v22)) := by
  after_results_entrywise [cast_eq]

/-- Operations of loop 1's body. -/
abbrev body1_4 : List (HloOp τ sig (Elt F)) :=
  [ StableHlo.binary main_v16_4 main_while1b_v23 main_while1b_v26 (addf : (⟨S4x1024, .f32⟩ : BufTy).Contents (Elt F) → (⟨S4x1024, .f32⟩ : BufTy).Contents (Elt F) → (⟨S4x1024, .f32⟩ : BufTy).Contents (Elt F)),
    StableHlo.binary main_while1b_v25 main_while1b_v26 main_while1b_v27 (mulf : (⟨S4x1024, .f32⟩ : BufTy).Contents (Elt F) → (⟨S4x1024, .f32⟩ : BufTy).Contents (Elt F) → (⟨S4x1024, .f32⟩ : BufTy).Contents (Elt F)),
    StableHlo.binary main_while1b_v26 main_while1b_v24 main_while1b_v28 (mulf : (⟨S4x1024, .f32⟩ : BufTy).Contents (Elt F) → (⟨S4x1024, .f32⟩ : BufTy).Contents (Elt F) → (⟨S4x1024, .f32⟩ : BufTy).Contents (Elt F)) ]
theorem body1_4_sub : (body1_4 : List (HloOp τ sig (Elt F))).Forall fun op => op.bufs ⊆ tcRefs τ sig :=
  ⟨StableHlo.binary_bufs_sub .., StableHlo.binary_bufs_sub .., StableHlo.binary_bufs_sub ..⟩
theorem body1_4_fresh : (body1_4 : List (HloOp τ sig (Elt F))).Forall fun op => op.fresh = ∅ := forall_fresh_of_map rfl
abbrev body1_4_W : List (Ref sig .tc) := [main_while1b_v26, main_while1b_v27, main_while1b_v28]
theorem body1_4_writes : (body1_4 : List (HloOp τ sig (Elt F))).Forall fun op => op.writes ⊆ (body1_4_W.map (Proc.devRef (τ := τ) .tc)).toFinset :=
  forall_writes_sub_of_map rfl

/-- The call `dynamic_update_index_in_dim` of main_v16_5, main_while1b_v28, main_while1b_v22. -/
abbrev body1_5 : List (HloOp τ sig (Elt F)) :=
  [ StableHlo.TRef.unary (.of main_while1b_v28 : TRef sig ⟨S4x1024, .f32⟩) (.of main_while1b_call7_v0 : TRef sig ⟨S1x4x1024, .f32⟩) (broadcastInDim S1x4x1024 ![1, 2] bcast_S4x1024_S1x4x1024_1_2),
    StableHlo.TRef.nullary (.of main_while1b_call7_c : TRef sig ⟨S_, .i32⟩) (constantI S_ 32 0#32),
    StableHlo.TRef.nullary (.of main_while1b_call7_c_0 : TRef sig ⟨S_, .i32⟩) (constantI S_ 32 0#32),
    StableHlo.TRef.binaryIndexed (.of main_v16_5 : TRef sig ⟨S2048x4x1024, .f32⟩) (.of main_while1b_call7_v0 : TRef sig ⟨S1x4x1024, .f32⟩) ![(.of main_while1b_v22 : TRef sig ⟨S_, .i32⟩), (.of main_while1b_call7_c : TRef sig ⟨S_, .i32⟩), (.of main_while1b_call7_c_0 : TRef sig ⟨S_, .i32⟩)] (.of main_while1b_v29 : TRef sig ⟨S2048x4x1024, .f32⟩) (fun x u i => Host.dynamicUpdateSlice x u (fun k => (i k (Shape.Idx.first h_S_)).toInt) updateFits_S2048x4x1024_S1x4x1024) ]
theorem body1_5_sub : (body1_5 : List (HloOp τ sig (Elt F))).Forall fun op => op.bufs ⊆ tcRefs τ sig :=
  ⟨StableHlo.unary_bufs_sub .., StableHlo.nullary_bufs_sub .., StableHlo.nullary_bufs_sub .., StableHlo.binaryIndexed_bufs_sub ..⟩
theorem body1_5_fresh : (body1_5 : List (HloOp τ sig (Elt F))).Forall fun op => op.fresh = ∅ := forall_fresh_of_map rfl
abbrev body1_5_W : List (Ref sig .tc) := [main_while1b_call7_v0, main_while1b_call7_c, main_while1b_call7_c_0, main_while1b_v29]
theorem body1_5_writes : (body1_5 : List (HloOp τ sig (Elt F))).Forall fun op => op.writes ⊆ (body1_5_W.map (Proc.devRef (τ := τ) .tc)).toFinset :=
  forall_writes_sub_of_map rfl

theorem body1_5_val (V : Valuation τ sig (Elt F)) : after body1_5 V (Proc.devRef .tc main_while1b_v29) = put (V (Proc.devRef .tc main_v16_5)) (V (Proc.devRef .tc main_while1b_v28)) (V (Proc.devRef .tc main_while1b_v22)) := by
  after_results_entrywise [cast_eq]

/-- The call `dynamic_update_index_in_dim` of main_v16_6, main_while1b_v26, main_while1b_v22. -/
abbrev body1_6 : List (HloOp τ sig (Elt F)) :=
  [ StableHlo.TRef.unary (.of main_while1b_v26 : TRef sig ⟨S4x1024, .f32⟩) (.of main_while1b_call8_v0 : TRef sig ⟨S1x4x1024, .f32⟩) (broadcastInDim S1x4x1024 ![1, 2] bcast_S4x1024_S1x4x1024_1_2),
    StableHlo.TRef.nullary (.of main_while1b_call8_c : TRef sig ⟨S_, .i32⟩) (constantI S_ 32 0#32),
    StableHlo.TRef.nullary (.of main_while1b_call8_c_0 : TRef sig ⟨S_, .i32⟩) (constantI S_ 32 0#32),
    StableHlo.TRef.binaryIndexed (.of main_v16_6 : TRef sig ⟨S2048x4x1024, .f32⟩) (.of main_while1b_call8_v0 : TRef sig ⟨S1x4x1024, .f32⟩) ![(.of main_while1b_v22 : TRef sig ⟨S_, .i32⟩), (.of main_while1b_call8_c : TRef sig ⟨S_, .i32⟩), (.of main_while1b_call8_c_0 : TRef sig ⟨S_, .i32⟩)] (.of main_while1b_v30 : TRef sig ⟨S2048x4x1024, .f32⟩) (fun x u i => Host.dynamicUpdateSlice x u (fun k => (i k (Shape.Idx.first h_S_)).toInt) updateFits_S2048x4x1024_S1x4x1024) ]
theorem body1_6_sub : (body1_6 : List (HloOp τ sig (Elt F))).Forall fun op => op.bufs ⊆ tcRefs τ sig :=
  ⟨StableHlo.unary_bufs_sub .., StableHlo.nullary_bufs_sub .., StableHlo.nullary_bufs_sub .., StableHlo.binaryIndexed_bufs_sub ..⟩
theorem body1_6_fresh : (body1_6 : List (HloOp τ sig (Elt F))).Forall fun op => op.fresh = ∅ := forall_fresh_of_map rfl
abbrev body1_6_W : List (Ref sig .tc) := [main_while1b_call8_v0, main_while1b_call8_c, main_while1b_call8_c_0, main_while1b_v30]
theorem body1_6_writes : (body1_6 : List (HloOp τ sig (Elt F))).Forall fun op => op.writes ⊆ (body1_6_W.map (Proc.devRef (τ := τ) .tc)).toFinset :=
  forall_writes_sub_of_map rfl

theorem body1_6_val (V : Valuation τ sig (Elt F)) : after body1_6 V (Proc.devRef .tc main_while1b_v30) = put (V (Proc.devRef .tc main_v16_6)) (V (Proc.devRef .tc main_while1b_v26)) (V (Proc.devRef .tc main_while1b_v22)) := by
  after_results_entrywise [cast_eq]

/-- Operations of loop 1's body. -/
abbrev body1_7 : List (HloOp τ sig (Elt F)) :=
  [ StableHlo.nullary main_while1b_c_15 (constantI S_ 32 1#32),
    StableHlo.binary main_v16_3 main_while1b_c_15 main_while1b_v31 (addi : (⟨S_, .i32⟩ : BufTy).Contents (Elt F) → (⟨S_, .i32⟩ : BufTy).Contents (Elt F) → (⟨S_, .i32⟩ : BufTy).Contents (Elt F)),
    StableHlo.unary main_while1b_v31 main_v16_3 id,
    StableHlo.unary main_while1b_v27 main_v16_4 id,
    StableHlo.unary main_while1b_v29 main_v16_5 id,
    StableHlo.unary main_while1b_v30 main_v16_6 id ]
theorem body1_7_sub : (body1_7 : List (HloOp τ sig (Elt F))).Forall fun op => op.bufs ⊆ tcRefs τ sig :=
  ⟨StableHlo.nullary_bufs_sub .., StableHlo.binary_bufs_sub .., StableHlo.unary_bufs_sub .., StableHlo.unary_bufs_sub .., StableHlo.unary_bufs_sub .., StableHlo.unary_bufs_sub ..⟩
theorem body1_7_fresh : (body1_7 : List (HloOp τ sig (Elt F))).Forall fun op => op.fresh = ∅ := forall_fresh_of_map rfl
abbrev body1_7_W : List (Ref sig .tc) := [main_while1b_c_15, main_while1b_v31, main_v16_3, main_v16_4, main_v16_5, main_v16_6]
theorem body1_7_writes : (body1_7 : List (HloOp τ sig (Elt F))).Forall fun op => op.writes ⊆ (body1_7_W.map (Proc.devRef (τ := τ) .tc)).toFinset :=
  forall_writes_sub_of_map rfl

abbrev body1 : List (List (HloOp τ sig (Elt F))) := [body1_0, body1_1, body1_2, body1_3, body1_4, body1_5, body1_6, body1_7]
theorem body1_plain : Plain (body1 (F := F)) := .cons body1_0_sub (hf := List.forall_iff_forall_mem.mp body1_0_fresh) (.cons body1_1_sub (hf := List.forall_iff_forall_mem.mp body1_1_fresh) (.cons body1_2_sub (hf := List.forall_iff_forall_mem.mp body1_2_fresh) (.cons body1_3_sub (hf := List.forall_iff_forall_mem.mp body1_3_fresh) (.cons body1_4_sub (hf := List.forall_iff_forall_mem.mp body1_4_fresh) (.cons body1_5_sub (hf := List.forall_iff_forall_mem.mp body1_5_fresh) (.cons body1_6_sub (hf := List.forall_iff_forall_mem.mp body1_6_fresh) (.cons body1_7_sub (hf := List.forall_iff_forall_mem.mp body1_7_fresh) (.nil))))))))
/-- Loop 1's body is its stretches in order. -/
theorem body1_chain : main_while1_body (F := F) = (Pipeline.chain [seq body1_0, seq body1_1, seq body1_2, seq body1_3, seq body1_4, seq body1_5, seq body1_6, seq body1_7] : Prog (TpuEff nD τ sig (Elt F) (HostLoop.Sig (Pipeline.Sig Λ₀ (Fin 0) fun p => (pcfgs (F := F) p).Adm) 2) .tc) PUnit) := by
  rewrite [chain_seq_cons, Pipeline.chain_cons, Pipeline.chain_cons, Pipeline.chain_cons, chain_seq_cons, Pipeline.chain_cons, Pipeline.chain_cons, chain_seq_cons]
  chain_rfl

/-- Loop 1's condition: the bound, and the counter compared with it. -/
abbrev cond1 : List (HloOp τ sig (Elt F)) :=
  [ StableHlo.nullary main_while1c_c_13 (constantI S_ 32 2048#32), StableHlo.binary main_v16_3 main_while1c_c_13 main_while1c_v21 (cmpi .slt) ]
abbrev cond1_W : List (Ref sig .tc) := [main_while1c_c_13, main_while1c_v21]
theorem cond1_writes : (cond1 : List (HloOp τ sig (Elt F))).Forall fun op => op.writes ⊆ (cond1_W.map (Proc.devRef (τ := τ) .tc)).toFinset :=
  forall_writes_sub_of_map rfl

theorem preOps_plain : Plain [preOps (F := F)] := .cons preOps_sub (hf := List.forall_iff_forall_mem.mp preOps_fresh) .nil
theorem midOps_plain : Plain [midOps (F := F)] := .cons midOps_sub (hf := List.forall_iff_forall_mem.mp midOps_fresh) .nil
theorem postOps_plain : Plain [postOps (F := F)] := .cons postOps_sub (hf := List.forall_iff_forall_mem.mp postOps_fresh) .nil
/-- @main is its stretches and the two loops, in order. -/
theorem main_chain (c : Dev nD) : main (F := F) c = (Pipeline.chain [seq preOps, HostLoop.enter 0, seq midOps, HostLoop.enter 1, seq postOps] : Prog (TpuEff nD τ sig (Elt F) (HostLoop.Sig (Pipeline.Sig Λ₀ (Fin 0) fun p => (pcfgs (F := F) p).Adm) 2) .tc) PUnit) := by
  rewrite [chain_seq_cons, Pipeline.chain_cons, chain_seq_cons, Pipeline.chain_cons, chain_seq_cons]
  chain_rfl

end Cert.ReferenceIdeal.Scan
-- ==== Proof.RefRun.lean ====
/-
  The run of the reference: every weakly fair execution of @main terminates with every buffer at a fold (`final`) of the
  operations around and inside its two loops, and with every counter at zero.
-/
module

public import proofs.«01_k».proof.Proof.RefOps

@[expose] public section

set_option maxRecDepth 16384

noncomputable section

namespace Cert.ReferenceIdeal.Scan

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs CSeg Ticket)

variable {F : FTy → Type} [FloatOps F]

/-! ### A stretch leaves alone what it does not write -/

section Keep
variable (V : Valuation τ sig (Elt F)) (r : Ref sig .tc)
theorem pre_keep (h : r ∉ preOps_W) : after preOps V (Proc.devRef .tc r) = V (Proc.devRef .tc r) := after_of_writes_sub preOps V preOps_writes h
theorem mid_keep (h : r ∉ midOps_W) : after midOps V (Proc.devRef .tc r) = V (Proc.devRef .tc r) := after_of_writes_sub midOps V midOps_writes h
theorem post_keep (h : r ∉ postOps_W) : after postOps V (Proc.devRef .tc r) = V (Proc.devRef .tc r) := after_of_writes_sub postOps V postOps_writes h
theorem c0_keep (h : r ∉ cond0_W) : after cond0 V (Proc.devRef .tc r) = V (Proc.devRef .tc r) := after_of_writes_sub cond0 V cond0_writes h
theorem k0_0 (h : r ∉ body0_0_W) : after body0_0 V (Proc.devRef .tc r) = V (Proc.devRef .tc r) := after_of_writes_sub body0_0 V body0_0_writes h
theorem k0_1 (h : r ∉ body0_1_W) : after body0_1 V (Proc.devRef .tc r) = V (Proc.devRef .tc r) := after_of_writes_sub body0_1 V body0_1_writes h
theorem k0_2 (h : r ∉ body0_2_W) : after body0_2 V (Proc.devRef .tc r) = V (Proc.devRef .tc r) := after_of_writes_sub body0_2 V body0_2_writes h
theorem k0_3 (h : r ∉ body0_3_W) : after body0_3 V (Proc.devRef .tc r) = V (Proc.devRef .tc r) := after_of_writes_sub body0_3 V body0_3_writes h
theorem k0_4 (h : r ∉ body0_4_W) : after body0_4 V (Proc.devRef .tc r) = V (Proc.devRef .tc r) := after_of_writes_sub body0_4 V body0_4_writes h
theorem k0_5 (h : r ∉ body0_5_W) : after body0_5 V (Proc.devRef .tc r) = V (Proc.devRef .tc r) := after_of_writes_sub body0_5 V body0_5_writes h
theorem c1_keep (h : r ∉ cond1_W) : after cond1 V (Proc.devRef .tc r) = V (Proc.devRef .tc r) := after_of_writes_sub cond1 V cond1_writes h
theorem k1_0 (h : r ∉ body1_0_W) : after body1_0 V (Proc.devRef .tc r) = V (Proc.devRef .tc r) := after_of_writes_sub body1_0 V body1_0_writes h
theorem k1_1 (h : r ∉ body1_1_W) : after body1_1 V (Proc.devRef .tc r) = V (Proc.devRef .tc r) := after_of_writes_sub body1_1 V body1_1_writes h
theorem k1_2 (h : r ∉ body1_2_W) : after body1_2 V (Proc.devRef .tc r) = V (Proc.devRef .tc r) := after_of_writes_sub body1_2 V body1_2_writes h
theorem k1_3 (h : r ∉ body1_3_W) : after body1_3 V (Proc.devRef .tc r) = V (Proc.devRef .tc r) := after_of_writes_sub body1_3 V body1_3_writes h
theorem k1_4 (h : r ∉ body1_4_W) : after body1_4 V (Proc.devRef .tc r) = V (Proc.devRef .tc r) := after_of_writes_sub body1_4 V body1_4_writes h
theorem k1_5 (h : r ∉ body1_5_W) : after body1_5 V (Proc.devRef .tc r) = V (Proc.devRef .tc r) := after_of_writes_sub body1_5 V body1_5_writes h
theorem k1_6 (h : r ∉ body1_6_W) : after body1_6 V (Proc.devRef .tc r) = V (Proc.devRef .tc r) := after_of_writes_sub body1_6 V body1_6_writes h
theorem k1_7 (h : r ∉ body1_7_W) : after body1_7 V (Proc.devRef .tc r) = V (Proc.devRef .tc r) := after_of_writes_sub body1_7 V body1_7_writes h

/-- One trip of a loop: its condition and its body. -/
abbrev trip0 (V : Valuation τ sig (Elt F)) : Valuation τ sig (Elt F) := afterL body0 (after cond0 V)
abbrev trip1 (V : Valuation τ sig (Elt F)) : Valuation τ sig (Elt F) := afterL body1 (after cond1 V)

theorem trip0_keep (hc : r ∉ cond0_W) (h0 : r ∉ body0_0_W) (h1 : r ∉ body0_1_W) (h2 : r ∉ body0_2_W) (h3 : r ∉ body0_3_W)
    (h4 : r ∉ body0_4_W) (h5 : r ∉ body0_5_W) : trip0 V (Proc.devRef .tc r) = V (Proc.devRef .tc r) :=
  (k0_5 _ r h5).trans <| (k0_4 _ r h4).trans <| (k0_3 _ r h3).trans <| (k0_2 _ r h2).trans <| (k0_1 _ r h1).trans <|
    (k0_0 _ r h0).trans (c0_keep _ r hc)

theorem trip1_keep (hc : r ∉ cond1_W) (h0 : r ∉ body1_0_W) (h1 : r ∉ body1_1_W) (h2 : r ∉ body1_2_W) (h3 : r ∉ body1_3_W)
    (h4 : r ∉ body1_4_W) (h5 : r ∉ body1_5_W) (h6 : r ∉ body1_6_W) (h7 : r ∉ body1_7_W) :
    trip1 V (Proc.devRef .tc r) = V (Proc.devRef .tc r) :=
  (k1_7 _ r h7).trans <| (k1_6 _ r h6).trans <| (k1_5 _ r h5).trans <| (k1_4 _ r h4).trans <| (k1_3 _ r h3).trans <|
    (k1_2 _ r h2).trans <| (k1_1 _ r h1).trans <| (k1_0 _ r h0).trans (c1_keep _ r hc)
end Keep

/-! ### The counters -/

theorem ctr0_step (X : Valuation τ sig (Elt F)) :
    after body0_5 X (Proc.devRef .tc main_v7_2) = addi (X (Proc.devRef .tc main_v7_2)) (constantI S_ 32 1#32) := by
  after_results
  rfl

theorem ctr1_step (X : Valuation τ sig (Elt F)) :
    after body1_7 X (Proc.devRef .tc main_v16_3) = addi (X (Proc.devRef .tc main_v16_3)) (constantI S_ 32 1#32) := by
  after_results
  rfl

/-- A trip's buffers before its last stretch. -/
abbrev head0 (V : Valuation τ sig (Elt F)) : Valuation τ sig (Elt F) :=
  after body0_4 (after body0_3 (after body0_2 (after body0_1 (after body0_0 (after cond0 V)))))
abbrev head1 (V : Valuation τ sig (Elt F)) : Valuation τ sig (Elt F) :=
  after body1_6 (after body1_5 (after body1_4 (after body1_3 (after body1_2 (after body1_1 (after body1_0 (after cond1 V)))))))

theorem trip0_eq (V : Valuation τ sig (Elt F)) : trip0 V = after body0_5 (head0 V) := rfl
theorem trip1_eq (V : Valuation τ sig (Elt F)) : trip1 V = after body1_7 (head1 V) := rfl

theorem head0_keep (V : Valuation τ sig (Elt F)) (r : Ref sig .tc) (hc : r ∉ cond0_W) (h0 : r ∉ body0_0_W) (h1 : r ∉ body0_1_W) (h2 : r ∉ body0_2_W) (h3 : r ∉ body0_3_W)
    (h4 : r ∉ body0_4_W) : head0 V (Proc.devRef .tc r) = V (Proc.devRef .tc r) :=
  (k0_4 _ r h4).trans <| (k0_3 _ r h3).trans <| (k0_2 _ r h2).trans <| (k0_1 _ r h1).trans <| (k0_0 _ r h0).trans (c0_keep _ r hc)

theorem head1_keep (V : Valuation τ sig (Elt F)) (r : Ref sig .tc) (hc : r ∉ cond1_W) (h0 : r ∉ body1_0_W) (h1 : r ∉ body1_1_W) (h2 : r ∉ body1_2_W) (h3 : r ∉ body1_3_W)
    (h4 : r ∉ body1_4_W) (h5 : r ∉ body1_5_W) (h6 : r ∉ body1_6_W) : head1 V (Proc.devRef .tc r) = V (Proc.devRef .tc r) :=
  (k1_6 _ r h6).trans <| (k1_5 _ r h5).trans <| (k1_4 _ r h4).trans <| (k1_3 _ r h3).trans <| (k1_2 _ r h2).trans <| (k1_1 _ r h1).trans <|
    (k1_0 _ r h0).trans (c1_keep _ r hc)

theorem head0_ctr (V : Valuation τ sig (Elt F)) : head0 V (Proc.devRef .tc main_v7_2) = V (Proc.devRef .tc main_v7_2) :=
  head0_keep V main_v7_2 (by decide) (by decide) (by decide) (by decide) (by decide) (by decide)
theorem head1_ctr (V : Valuation τ sig (Elt F)) : head1 V (Proc.devRef .tc main_v16_3) = V (Proc.devRef .tc main_v16_3) :=
  head1_keep V main_v16_3 (by decide) (by decide) (by decide) (by decide) (by decide) (by decide) (by decide) (by decide)

theorem ctr0_trip (V : Valuation τ sig (Elt F)) : trip0 V (Proc.devRef .tc main_v7_2) = addi (V (Proc.devRef .tc main_v7_2)) (constantI S_ 32 1#32) := by
  have h := head0_ctr V
  rw [trip0_eq]
  generalize head0 V = X at h ⊢
  rw [ctr0_step, h]

theorem ctr1_trip (V : Valuation τ sig (Elt F)) : trip1 V (Proc.devRef .tc main_v16_3) = addi (V (Proc.devRef .tc main_v16_3)) (constantI S_ 32 1#32) := by
  have h := head1_ctr V
  rw [trip1_eq]
  generalize head1 V = X at h ⊢
  rw [ctr1_step, h]

variable (m : (ℓ : Loc nD τ sig) → Buf (Elt F) ℓ) (ρ : Dev nD → PrngReg)

/-- The buffers on entering the first loop, before its trip `k`, on entering the second, before its trip `k`, and at the end. -/
abbrev entry0 (c : Dev nD) : Valuation τ sig (Elt F) := after preOps (launchContents m c)
abbrev at0 (k : ℕ) (c : Dev nD) : Valuation τ sig (Elt F) := atTrip cond0 body0 (entry0 m) k c
abbrev entry1 (c : Dev nD) : Valuation τ sig (Elt F) := after midOps (after cond0 (at0 m 2048 c))
abbrev at1 (k : ℕ) (c : Dev nD) : Valuation τ sig (Elt F) := atTrip cond1 body1 (entry1 m) k c
abbrev final (c : Dev nD) : Valuation τ sig (Elt F) := after postOps (after cond1 (at1 m 2048 c))

theorem at0_succ (k : ℕ) (c : Dev nD) : at0 m (k + 1) c = trip0 (at0 m k c) := rfl
theorem at1_succ (k : ℕ) (c : Dev nD) : at1 m (k + 1) c = trip1 (at1 m k c) := rfl

theorem at0_ctr (c : Dev nD) : ∀ k, at0 m k c (Proc.devRef .tc main_v7_2) = fun _ => Scf.iv 0#32 1#32 k
  | 0 => by
    rw [Scf.iv_zero]
    show after preOps (launchContents m c) (Proc.devRef .tc main_v7_2) = _
    after_results
    rfl
  | k + 1 => by rw [at0_succ, ctr0_trip, at0_ctr c k, Scf.iv_succ]; rfl

theorem at1_ctr (c : Dev nD) : ∀ k, at1 m k c (Proc.devRef .tc main_v16_3) = fun _ => Scf.iv 0#32 1#32 k
  | 0 => by
    rw [Scf.iv_zero]
    show after midOps (after cond0 (at0 m 2048 c)) (Proc.devRef .tc main_v16_3) = _
    generalize after cond0 (at0 m 2048 c) = V
    after_results
    rfl
  | k + 1 => by rw [at1_succ, ctr1_trip, at1_ctr c k, Scf.iv_succ]; rfl

-- the condition is a rule for any thread, met here at the TensorCore's
set_option backward.isDefEq.respectTransparency.types false in
theorem spec0 : CondSpec (pcfgs (F := F)) defs₀ loops (main_while0_cond (F := F)) cond0 body0 (entry0 m) 2048 := by
  intro k hk c bd
  have hctr := at0_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (at0 m k c) main_v7_2 HostLoop.idx0)
        (HloOp.result _ (at0 m k c) main_while0c_c_12 HostLoop.idx0) = 1#1) (k < 2048)
    rw [nullary_result_ne _ _ _ _ (by decide), nullary_result, hctr]
    exact Scf.cmpi_slt_iv_ub_iff (lb := 0#32) (ub := 2048#32) (st := 1#32) (by decide) (show k ≤ Scf.trips 0#32 2048#32 1#32 from hk)
  isplitl [Hb]; · iexact Hb
  rw [after_cons, after_cons, after_nil]; iexact Hh

set_option backward.isDefEq.respectTransparency.types false in
theorem spec1 : CondSpec (pcfgs (F := F)) defs₀ loops (main_while1_cond (F := F)) cond1 body1 (entry1 m) 2048 := by
  intro k hk c bd
  have hctr := at1_ctr m c k
  unfold main_while1_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (at1 m k c) main_v16_3 HostLoop.idx0)
        (HloOp.result _ (at1 m k c) main_while1c_c_13 HostLoop.idx0) = 1#1) (k < 2048)
    rw [nullary_result_ne _ _ _ _ (by decide), nullary_result, hctr]
    exact Scf.cmpi_slt_iv_ub_iff (lb := 0#32) (ub := 2048#32) (st := 1#32) (by decide) (show k ≤ Scf.trips 0#32 2048#32 1#32 from hk)
  isplitl [Hb]; · iexact Hb
  rw [after_cons, after_cons, after_nil]; iexact Hh

/-! ### The launch -/

local notation "𝕄" => MT nD τ sig Unit (Elt F) ℕ (Option PUnit) ℕ

abbrev noAdm : (p : Fin 0) → (pcfgs (F := F) p).Adm := fun p => p.elim0
abbrev noTk : Fin 0 → Ticket (Ix := Unit) (Name := ℕ) (U := Option PUnit) (Lvl := ℕ) (nD := nD) (τ := τ) (pcfgs (F := F)) noAdm := fun j => j.elim0
abbrev noL : GSem nD τ sig → Finset Unit := fun _ => ∅
abbrev noLv : GSem nD τ sig → Unit → ℕ := fun _ _ => 0
theorem no_cells : Function.Injective (Pipeline.cellOf (nD := nD) (τ := τ) (Pipeline.pin (pcfgs (F := F)) noAdm)) := fun k => k.1.elim0
abbrev owing (c : Dev nD) : sProp 𝕄 := iprop(∃ W, owes (c : Thread nD τ) (0 : CellTallies nD τ sig Unit) W)

/-- A condition's specification, the core owing nothing carried through it. -/
theorem with_owing {cond : Prog (TpuEff nD τ sig (Elt F) (HostLoop.Sig (Pipeline.Sig Λ₀ (Fin 0) fun p => (pcfgs (F := F) p).Adm) 2) .tc) (Elt F .i1)}
    {ops : List (HloOp τ sig (Elt F))} {body : List (List (HloOp τ sig (Elt F)))} {W₀ : Dev nD → Valuation τ sig (Elt F)} {n : ℕ}
    (h : CondSpec (pcfgs (F := F)) defs₀ loops cond ops body W₀ n) :
    LoopCond (pcfgs (F := F)) defs₀ Variants.none loops owing cond ops body W₀ n := fun k hk c bd => by
  have h1 := (sep_mono_left (Q := owing c) (h k hk c bd)).trans (wp_frame_r _ _ _)
  refine BIBase.Entails.trans ?_ (h1.trans (wp_mono _ _ _ fun v => ?_))
  · iintro ⟨Hb, Hh, HO⟩
    isplitl [Hb Hh]; · isplitl [Hb] <;> iassumption
    iexact HO
  · iintro ⟨⟨%hv, Hb, Hh⟩, HO⟩
    isplitr; · ipureintro; exact hv
    isplitl [Hb]; · iexact Hb
    isplitl [Hh] <;> iassumption

/-- @main's five segments. -/
def mainSegs : List (CSeg (pcfgs (F := F)) noAdm defs₀ Variants.none noL noLv loops noTk) :=
  segsOf _ _ _ _ _ _ _ _ owing [preOps] preOps_plain (launchContents m)
    ++ (loopSeg _ _ _ _ _ _ _ _ 0 main_while0_cond main_while0_body rfl cond0 body0 body0_plain (by rw [body0_chain]; rfl) 2048 (entry0 m) owing (with_owing (spec0 m))
      :: (segsOf _ _ _ _ _ _ _ _ owing [midOps] midOps_plain (fun c => after cond0 (at0 m 2048 c))
        ++ (loopSeg _ _ _ _ _ _ _ _ 1 main_while1_cond main_while1_body rfl cond1 body1 body1_plain (by rw [body1_chain]; rfl) 2048 (entry1 m) owing (with_owing (spec1 m))
          :: segsOf _ _ _ _ _ _ _ _ owing [postOps] postOps_plain (fun c => after cond1 (at1 m 2048 c)))))

theorem mainSegs_prog : (mainSegs m).map CSeg.prog = [seq preOps, HostLoop.enter 0, seq midOps, HostLoop.enter 1, seq (postOps (F := F))] := by
  unfold mainSegs
  rw [List.map_append, List.map_cons, List.map_append, List.map_cons, segsOf_prog, segsOf_prog, segsOf_prog]
  rfl

theorem mainSegs_chains :
    CSeg.Chains (fun c => iprop(held (c : Thread nD τ) (ucRefs τ sig) (launchContents m c) ∗ owing c)) (mainSegs m)
      (fun c => iprop(iprop(held (c : Thread nD τ) (ucRefs τ sig) (final m c)) ∗ ∃ W, owes (c : Thread nD τ) (0 : CellTallies nD τ sig Unit) W)) := by
  unfold mainSegs
  exact CSeg.Chains.append (segsOf_chains _ _ _ _ _ _ _ _ owing _ preOps_plain _) ⟨fun _ => .rfl,
    CSeg.Chains.append (segsOf_chains _ _ _ _ _ _ _ _ owing _ midOps_plain _) ⟨fun _ => .rfl, segsOf_chains _ _ _ _ _ _ _ _ owing _ postOps_plain _⟩⟩

theorem no_sems : ∀ sm : SemLoc sig, sm.isScoped .tc = true := by decide

/-- Every weakly fair execution of @main terminates with every tensor buffer at the fold and every counter at zero. -/
theorem run : θ_run (defs (F := F)) (onTc (τ := τ) (main (F := F))) ⟨m, fun _ => 0, ρ⟩
    (fun r => (∀ (c : Dev nD) (b : Ref sig .tc), (Proc.devRef .tc b : DevRef τ sig).isScoped = false →
      r.2.mem ((c.tc : Thread nD τ).loc b) = final m c (Proc.devRef .tc b)) ∧ r.2.sem = fun _ => 0) :=
  Pipeline.θ_run_regions_loop_kit_sems (Ix := Unit) (Name := ℕ) (U := Option PUnit) (Lvl := ℕ) (J := Fin 0) (P := Fin 0) (Val := Elt F)
    (pcfgs (F := F)) noAdm no_cells defs₀ Variants.none noL noLv loops noTk m ρ main (mainSegs m)
    (fun c Q => by
      rw [main_chain c]
      show wp _ _ _ (Pipeline.chain ((mainSegs m).map CSeg.prog)) Q ⊢ _
      rw [mainSegs_prog])
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ owing c))
    (Tₙ := fun c => iprop(held (c : Thread nD τ) (ucRefs τ sig) (final m c)))
    (hch := mainSegs_chains m)
    (hinit := by
      refine Pipeline.initEach noL noLv fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = final m c b)
    (hfin := fun c s' => by
      unfold held
      iintro ⟨Hh, HSI⟩
      ihave Hr := (pointsTo_read_all (ucRefs τ sig) (fun b => ((c : Dev nD), b)) (fun b => final m c b) s') $$ [Hh HSI]
      · isplitl [Hh] <;> iassumption
      icases Hr with ⟨%h, HSI⟩
      imodintro
      isplitr; · ipureintro; exact h
      iexact HSI)
    (hQ := fun s h hz => ⟨fun c b hb => h c _ (devRef_mem_ucRefs b hb), funext fun g => hz g (.inr (no_sems g.2))⟩)

/-! ### The arguments -/

theorem at0_keep (r : Ref sig .tc) (hc : r ∉ cond0_W) (h0 : r ∉ body0_0_W) (h1 : r ∉ body0_1_W) (h2 : r ∉ body0_2_W) (h3 : r ∉ body0_3_W)
    (h4 : r ∉ body0_4_W) (h5 : r ∉ body0_5_W) (c : Dev nD) : ∀ k, at0 m k c (Proc.devRef .tc r) = entry0 m c (Proc.devRef .tc r)
  | 0 => rfl
  | k + 1 => by rw [at0_succ, trip0_keep _ r hc h0 h1 h2 h3 h4 h5, at0_keep r hc h0 h1 h2 h3 h4 h5 c k]

theorem at1_keep (r : Ref sig .tc) (hc : r ∉ cond1_W) (h0 : r ∉ body1_0_W) (h1 : r ∉ body1_1_W) (h2 : r ∉ body1_2_W) (h3 : r ∉ body1_3_W)
    (h4 : r ∉ body1_4_W) (h5 : r ∉ body1_5_W) (h6 : r ∉ body1_6_W) (h7 : r ∉ body1_7_W) (c : Dev nD) :
    ∀ k, at1 m k c (Proc.devRef .tc r) = entry1 m c (Proc.devRef .tc r)
  | 0 => rfl
  | k + 1 => by rw [at1_succ, trip1_keep _ r hc h0 h1 h2 h3 h4 h5 h6 h7, at1_keep r hc h0 h1 h2 h3 h4 h5 h6 h7 c k]

theorem final_arg (r : Ref sig .tc) (hr : r ∈ [main_arg0, main_arg1, main_arg2]) (c : Dev nD) :
    final m c (Proc.devRef .tc r) = m ((c.tc : Thread nD τ).loc r) := by
  have h : ∀ r ∈ [main_arg0, main_arg1, main_arg2], (r ∉ postOps_W ∧ r ∉ cond1_W ∧ r ∉ body1_0_W ∧ r ∉ body1_1_W ∧ r ∉ body1_2_W ∧ r ∉ body1_3_W
      ∧ r ∉ body1_4_W ∧ r ∉ body1_5_W ∧ r ∉ body1_6_W ∧ r ∉ body1_7_W) ∧ r ∉ midOps_W ∧ r ∉ cond0_W ∧ r ∉ body0_0_W ∧ r ∉ body0_1_W ∧ r ∉ body0_2_W
      ∧ r ∉ body0_3_W ∧ r ∉ body0_4_W ∧ r ∉ body0_5_W ∧ r ∉ preOps_W := by decide +kernel
  obtain ⟨⟨a1, a2, a3, a4, a5, a6, a7, a8, a9, a10⟩, b1, b2, b3, b4, b5, b6, b7, b8, b9⟩ := h r hr
  exact (post_keep _ r a1).trans <| (c1_keep _ r a2).trans <| (at1_keep m r a2 a3 a4 a5 a6 a7 a8 a9 a10 c 2048).trans <|
    (mid_keep _ r b1).trans <| (c0_keep _ r b2).trans <| (at0_keep m r b2 b3 b4 b5 b6 b7 b8 c 2048).trans <| pre_keep _ r b9

end Cert.ReferenceIdeal.Scan
-- ==== Proof.RefTrip.lean ====
/-
  The reference's operations at an index, and one trip of each of its loops as a function of the buffers it reads.
-/
module

public import proofs.«01_k».proof.Proof.RefRun
public import Idealize.ShloMosaic.Lib.Pointwise
public import Idealize.ShloMosaic.Lib.DynamicIndex

@[expose] public section

set_option maxRecDepth 16384

noncomputable section

namespace Cert.ReferenceIdeal.Scan

open Cert.ReferenceIdeal Cert.ReferenceIdeal.Gen
open Idealize.ShloMosaic Idealize.ShloMosaic.TcCoe Idealize.ShloMosaic.Tactic
open Idealize.SL.Sem
open Idealize.ShloMosaic.StableHlo

variable {F : FTy → Type} [FloatOps F]

/-- An array by sequence laid out by time, and back. -/
def toStack (x : FVec F S8192x1024 .f32) : FVec F S2048x4x1024 .f32 :=
  transpose S2048x4x1024 [1, 0, 2] (shapeCast S4x2048x1024 x shapeCasts_S8192x1024_S4x2048x1024) transposes_S4x2048x1024_S2048x4x1024_1_0_2
def ofStack (x : FVec F S2048x4x1024 .f32) : FVec F S8192x1024 .f32 :=
  shapeCast S8192x1024 (transpose S4x2048x1024 [1, 0, 2] x transposes_S2048x4x1024_S4x2048x1024_1_0_2) shapeCasts_S4x2048x1024_S8192x1024

theorem toStack_apply (x : FVec F S8192x1024 .f32) (t : Fin 2048) (s : Fin 4) (d : Fin 1024) :
    toStack x (ix3 t s d) = x (ix2 ⟨s.val * 2048 + t.val, by omega⟩ d) := by
  unfold toStack
  pointwise

theorem ofStack_apply (x : FVec F S2048x4x1024 .f32) (i : S8192x1024.Idx) :
    ofStack x i = x (ix3 ⟨(i 0 : Fin 8192).val % 2048, Nat.mod_lt _ (by decide)⟩
      ⟨(i 0 : Fin 8192).val / 2048, by have : (i 0 : Fin 8192).val < 8192 := (i 0 : Fin 8192).isLt; omega⟩ (i 1)) := by
  unfold ofStack
  pointwise

theorem iv_toInt {t : ℕ} (h : t < 2048) : (Scf.iv 0#32 1#32 t).toInt = (t : Int) := by
  rw [show Scf.iv 0#32 1#32 t = BitVec.ofNat 32 t by simp [Scf.iv]]
  exact toInt_ofNat_of_lt (by omega)

theorem pick_apply (x : FVec F S2048x4x1024 .f32) (i : IVec S_ 32) (t : ℕ) (h : t < 2048) (hi : (i (Shape.Idx.first h_S_)).toInt = (t : Int))
    (s : Fin 4) (d : Fin 1024) : pick x i (ix2 s d) = x (ix3 ⟨t, h⟩ s d) := by
  unfold pick
  rw [Host.dynamicSlice_eq_extractStridedSlice S1x4x1024 x _ ![t, 0, 0] _ ⟨rfl, fun a => by fin_cases a <;> dsimp <;> omega⟩
    (fun a => by fin_cases a <;> first | exact hi | rfl)]
  pointwise

theorem put_apply (x : FVec F S2048x4x1024 .f32) (u : FVec F S4x1024 .f32) (i : IVec S_ 32) (t : ℕ) (h : t < 2048)
    (hi : (i (Shape.Idx.first h_S_)).toInt = (t : Int)) (t' : Fin 2048) (s : Fin 4) (d : Fin 1024) :
    put x u i (ix3 t' s d) = if t'.val = t then u (ix2 s d) else x (ix3 t' s d) := by
  unfold put
  rw [Host.dynamicUpdateSlice_apply]
  have hc : ∀ a, Host.clampedStart S2048x4x1024 S1x4x1024 updateFits_S2048x4x1024_S1x4x1024.1
      (fun k => ((![i, constantI S_ 32 0#32, constantI S_ 32 0#32] : Fin 3 → IVec S_ 32) k (Shape.Idx.first h_S_)).toInt) a = (![t, 0, 0] : Fin 3 → ℕ) a := by
    intro a
    fin_cases a
    · show (min (max (i (Shape.Idx.first h_S_)).toInt 0) ((2048 - 1 : ℕ) : Int)).toNat = t
      rw [hi]; omega
    · rfl
    · rfl
  by_cases e : t'.val = t
  · rw [if_pos e, dif_pos (fun a => by rw [hc]; fin_cases a <;> dsimp <;> omega)]
    pointwise
    refine congrArg u (congrArg₂ ix2 (Fin.ext ?_) (Fin.ext ?_))
    · exact (congrArg (s.val - ·) (hc 1)).trans (Nat.sub_zero _)
    · exact (congrArg (d.val - ·) (hc 2)).trans (Nat.sub_zero _)
  · rw [if_neg e, dif_neg (fun h' => e (by have := h' 0; rw [hc] at this; dsimp at this; omega))]

/-! ### The forward loop's trip -/

section Forward
variable (V : Valuation τ sig (Elt F))

theorem step0_2 : after body0_2 V (Proc.devRef .tc main_while0b_v24)
    = addf (mulf (V (Proc.devRef .tc main_while0b_v21)) (V (Proc.devRef .tc main_v7_3))) (V (Proc.devRef .tc main_while0b_v22)) := by
  after_results
theorem step0_5_3 : after body0_5 V (Proc.devRef .tc main_v7_3) = V (Proc.devRef .tc main_while0b_v24) := by after_results; rfl
theorem step0_5_4 : after body0_5 V (Proc.devRef .tc main_v7_4) = V (Proc.devRef .tc main_while0b_v25) := by after_results; rfl
theorem step0_5_5 : after body0_5 V (Proc.devRef .tc main_v7_5) = V (Proc.devRef .tc main_while0b_v26) := by after_results; rfl

/-- The next state. -/
def next0 : FVec F S4x1024 .f32 :=
  addf (mulf (pick (V (Proc.devRef .tc main_v7_0)) (V (Proc.devRef .tc main_v7_2))) (V (Proc.devRef .tc main_v7_3)))
    (pick (V (Proc.devRef .tc main_v7_1)) (V (Proc.devRef .tc main_v7_2)))

theorem next0_at : after body0_2 (after body0_1 (after body0_0 (after cond0 V))) (Proc.devRef .tc main_while0b_v24) = next0 V := by
  rw [step0_2, k0_1 _ main_while0b_v21 (by decide), body0_0_val, body0_1_val, k0_1 _ main_v7_3 (by decide), k0_0 _ main_v7_3 (by decide),
    k0_0 _ main_v7_1 (by decide), k0_0 _ main_v7_2 (by decide), c0_keep _ main_v7_0 (by decide), c0_keep _ main_v7_1 (by decide),
    c0_keep _ main_v7_2 (by decide), c0_keep _ main_v7_3 (by decide)]
  rfl

theorem head0_eq : head0 V = after body0_4 (after body0_3 (after body0_2 (after body0_1 (after body0_0 (after cond0 V))))) := rfl

theorem trip0_3 : trip0 V (Proc.devRef .tc main_v7_3) = next0 V := by
  rw [trip0_eq, step0_5_3, head0_eq, k0_4 _ main_while0b_v24 (by decide), k0_3 _ main_while0b_v24 (by decide), next0_at]

theorem trip0_4 : trip0 V (Proc.devRef .tc main_v7_4) = put (V (Proc.devRef .tc main_v7_4)) (next0 V) (V (Proc.devRef .tc main_v7_2)) := by
  rw [trip0_eq, step0_5_4, head0_eq, k0_4 _ main_while0b_v25 (by decide), body0_3_val, next0_at]
  rw [k0_2 _ main_v7_4 (by decide), k0_1 _ main_v7_4 (by decide), k0_0 _ main_v7_4 (by decide), c0_keep _ main_v7_4 (by decide),
    k0_2 _ main_v7_2 (by decide), k0_1 _ main_v7_2 (by decide), k0_0 _ main_v7_2 (by decide), c0_keep _ main_v7_2 (by decide)]

theorem trip0_5 : trip0 V (Proc.devRef .tc main_v7_5) = put (V (Proc.devRef .tc main_v7_5)) (V (Proc.devRef .tc main_v7_3)) (V (Proc.devRef .tc main_v7_2)) := by
  rw [trip0_eq, step0_5_5, head0_eq, body0_4_val, k0_3 _ main_v7_5 (by decide), k0_3 _ main_v7_3 (by decide), k0_3 _ main_v7_2 (by decide)]
  rw [k0_2 _ main_v7_5 (by decide), k0_1 _ main_v7_5 (by decide), k0_0 _ main_v7_5 (by decide), c0_keep _ main_v7_5 (by decide),
    k0_2 _ main_v7_3 (by decide), k0_1 _ main_v7_3 (by decide), k0_0 _ main_v7_3 (by decide), c0_keep _ main_v7_3 (by decide),
    k0_2 _ main_v7_2 (by decide), k0_1 _ main_v7_2 (by decide), k0_0 _ main_v7_2 (by decide), c0_keep _ main_v7_2 (by decide)]

end Forward

/-! ### The backward loop's trip -/

section Backward
variable (V : Valuation τ sig (Elt F))

theorem step1_0 : after body1_0 V (Proc.devRef .tc main_while1b_v22)
    = subi (subi (constantI S_ 32 2048#32) (V (Proc.devRef .tc main_v16_3))) (constantI S_ 32 1#32) := by
  after_results
theorem step1_4_26 : after body1_4 V (Proc.devRef .tc main_while1b_v26)
    = addf (V (Proc.devRef .tc main_v16_4)) (V (Proc.devRef .tc main_while1b_v23)) := by
  after_results
theorem step1_4_27 : after body1_4 V (Proc.devRef .tc main_while1b_v27)
    = mulf (V (Proc.devRef .tc main_while1b_v25)) (addf (V (Proc.devRef .tc main_v16_4)) (V (Proc.devRef .tc main_while1b_v23))) := by
  after_results
theorem step1_4_28 : after body1_4 V (Proc.devRef .tc main_while1b_v28)
    = mulf (addf (V (Proc.devRef .tc main_v16_4)) (V (Proc.devRef .tc main_while1b_v23))) (V (Proc.devRef .tc main_while1b_v24)) := by
  after_results
theorem step1_7_4 : after body1_7 V (Proc.devRef .tc main_v16_4) = V (Proc.devRef .tc main_while1b_v27) := by after_results; rfl
theorem step1_7_5 : after body1_7 V (Proc.devRef .tc main_v16_5) = V (Proc.devRef .tc main_while1b_v29) := by after_results; rfl
theorem step1_7_6 : after body1_7 V (Proc.devRef .tc main_v16_6) = V (Proc.devRef .tc main_while1b_v30) := by after_results; rfl

/-- The time step a trip is at, the gradient there, and what the next trip takes over. -/
def when1 : IVec S_ 32 := subi (subi (constantI S_ 32 2048#32) (V (Proc.devRef .tc main_v16_3))) (constantI S_ 32 1#32)
def grad1 : FVec F S4x1024 .f32 := addf (V (Proc.devRef .tc main_v16_4)) (pick (V (Proc.devRef .tc main_v16_0)) (when1 V))
def carry1 : FVec F S4x1024 .f32 := mulf (pick (V (Proc.devRef .tc main_v16_2)) (when1 V)) (grad1 V)

/-- The buffers before the gradient is computed: the time step and the three slices are in place, the loop's values as they were. -/
abbrev read1 : Valuation τ sig (Elt F) := after body1_3 (after body1_2 (after body1_1 (after body1_0 (after cond1 V))))

theorem read1_eq : read1 V = after body1_3 (after body1_2 (after body1_1 (after body1_0 (after cond1 V)))) := rfl

theorem read1_22 : read1 V (Proc.devRef .tc main_while1b_v22) = when1 V := by
  rw [read1_eq, k1_3 _ main_while1b_v22 (by decide), k1_2 _ main_while1b_v22 (by decide), k1_1 _ main_while1b_v22 (by decide), step1_0,
    c1_keep _ main_v16_3 (by decide)]
  rfl
theorem read1_23 : read1 V (Proc.devRef .tc main_while1b_v23) = pick (V (Proc.devRef .tc main_v16_0)) (when1 V) := by
  rw [read1_eq, k1_3 _ main_while1b_v23 (by decide), k1_2 _ main_while1b_v23 (by decide), body1_1_val, step1_0, k1_0 _ main_v16_0 (by decide),
    c1_keep _ main_v16_0 (by decide), c1_keep _ main_v16_3 (by decide)]
  rfl
theorem read1_24 : read1 V (Proc.devRef .tc main_while1b_v24) = pick (V (Proc.devRef .tc main_v16_1)) (when1 V) := by
  rw [read1_eq, k1_3 _ main_while1b_v24 (by decide), body1_2_val, k1_1 _ main_while1b_v22 (by decide), step1_0, k1_1 _ main_v16_1 (by decide),
    k1_0 _ main_v16_1 (by decide), c1_keep _ main_v16_1 (by decide), c1_keep _ main_v16_3 (by decide)]
  rfl
theorem read1_25 : read1 V (Proc.devRef .tc main_while1b_v25) = pick (V (Proc.devRef .tc main_v16_2)) (when1 V) := by
  rw [read1_eq, body1_3_val, k1_2 _ main_while1b_v22 (by decide), k1_1 _ main_while1b_v22 (by decide), step1_0, k1_2 _ main_v16_2 (by decide),
    k1_1 _ main_v16_2 (by decide), k1_0 _ main_v16_2 (by decide), c1_keep _ main_v16_2 (by decide), c1_keep _ main_v16_3 (by decide)]
  rfl
theorem read1_carry (r : Ref sig .tc) (h : r ∈ [main_v16_4, main_v16_5, main_v16_6]) : read1 V (Proc.devRef .tc r) = V (Proc.devRef .tc r) := by
  have h' : ∀ r ∈ [main_v16_4, main_v16_5, main_v16_6], r ∉ body1_3_W ∧ r ∉ body1_2_W ∧ r ∉ body1_1_W ∧ r ∉ body1_0_W ∧ r ∉ cond1_W := by decide
  obtain ⟨a, b, c, d, e⟩ := h' r h
  rw [read1_eq, k1_3 _ r a, k1_2 _ r b, k1_1 _ r c, k1_0 _ r d, c1_keep _ r e]

theorem head1_eq : head1 V = after body1_6 (after body1_5 (after body1_4 (read1 V))) := rfl

theorem trip1_4 : trip1 V (Proc.devRef .tc main_v16_4) = carry1 V := by
  have h4 := read1_carry V main_v16_4 (by decide)
  have h23 := read1_23 V
  have h25 := read1_25 V
  rw [trip1_eq, head1_eq]
  generalize read1 V = X at h4 h23 h25 ⊢
  rw [step1_7_4, k1_6 _ main_while1b_v27 (by decide), k1_5 _ main_while1b_v27 (by decide), step1_4_27, h4, h23, h25]
  rfl

theorem trip1_5 : trip1 V (Proc.devRef .tc main_v16_5)
    = put (V (Proc.devRef .tc main_v16_5)) (mulf (grad1 V) (pick (V (Proc.devRef .tc main_v16_1)) (when1 V))) (when1 V) := by
  have h4 := read1_carry V main_v16_4 (by decide)
  have h5 := read1_carry V main_v16_5 (by decide)
  have h22 := read1_22 V
  have h23 := read1_23 V
  have h24 := read1_24 V
  rw [trip1_eq, head1_eq]
  generalize read1 V = X at h4 h5 h22 h23 h24 ⊢
  rw [step1_7_5, k1_6 _ main_while1b_v29 (by decide), body1_5_val, step1_4_28, k1_4 _ main_v16_5 (by decide), k1_4 _ main_while1b_v22 (by decide),
    h4, h5, h22, h23, h24]
  rfl

theorem trip1_6 : trip1 V (Proc.devRef .tc main_v16_6) = put (V (Proc.devRef .tc main_v16_6)) (grad1 V) (when1 V) := by
  have h4 := read1_carry V main_v16_4 (by decide)
  have h6 := read1_carry V main_v16_6 (by decide)
  have h22 := read1_22 V
  have h23 := read1_23 V
  rw [trip1_eq, head1_eq]
  generalize read1 V = X at h4 h6 h22 h23 ⊢
  rw [step1_7_6, body1_6_val, k1_5 _ main_while1b_v26 (by decide), step1_4_26, k1_5 _ main_v16_6 (by decide), k1_4 _ main_v16_6 (by decide),
    k1_5 _ main_while1b_v22 (by decide), k1_4 _ main_while1b_v22 (by decide), h4, h6, h22, h23]
  rfl

end Backward

end Cert.ReferenceIdeal.Scan
-- ==== Proof.RefValue.lean ====
/-
  The reference's results: what its two loops have stored before each trip, and the three arrays it ends with.
-/
module

public import proofs.«01_k».proof.Proof.RefTrip
public import proofs.«01_k».proof.Proof.Arrays

@[expose] public section

set_option maxRecDepth 16384

noncomputable section

namespace Cert.ReferenceIdeal.Scan

open Cert.ReferenceIdeal Cert.ReferenceIdeal.Gen
open Idealize.ShloMosaic Idealize.ShloMosaic.TcCoe Idealize.ShloMosaic.Tactic
open Idealize.SL.Sem
open Idealize.ShloMosaic.StableHlo hiding seq
open Cert.KernelIdeal.Scan (Arr AllReal seq hseq gat gat_step sq tm cl hsArr dbArr daArr)

/-! ### What the loops start from -/

section Entry
variable (V : Valuation τ sig (Elt Ideal))

theorem pre_0 : after preOps V (Proc.devRef .tc main_v7_0) = toStack (F := Ideal) (V (Proc.devRef .tc main_arg0)) := by
  after_results_entrywise [cast_eq]
theorem pre_1 : after preOps V (Proc.devRef .tc main_v7_1) = toStack (F := Ideal) (V (Proc.devRef .tc main_arg1)) := by
  after_results_entrywise [cast_eq]
theorem pre_2 : after preOps V (Proc.devRef .tc main_v2) = toStack (F := Ideal) (V (Proc.devRef .tc main_arg0)) := by
  after_results_entrywise [cast_eq]
theorem zero_word : @Eq EReal ((constant S_ .f32 0x00000000#32 : FVec Ideal S_ .f32) (Shape.Idx.first h_S_)) 0 := by
  pointwise

theorem pre_3 (y : S4x1024.Idx) : @Eq EReal (after preOps V (Proc.devRef .tc main_v7_3) y) 0 := by
  after_results
  exact zero_word

theorem mid_0 : after midOps V (Proc.devRef .tc main_v16_0) = toStack (F := Ideal) (V (Proc.devRef .tc main_arg2)) := by
  after_results_entrywise [cast_eq]
theorem mid_1 : after midOps V (Proc.devRef .tc main_v16_1) = V (Proc.devRef .tc main_v7_5) := by
  after_results_entrywise [cast_eq]
theorem mid_2 : after midOps V (Proc.devRef .tc main_v16_2) = V (Proc.devRef .tc main_v2) := by
  after_results_entrywise [cast_eq]
theorem mid_4 (y : S4x1024.Idx) : @Eq EReal (after midOps V (Proc.devRef .tc main_v16_4) y) 0 := by
  after_results
  exact zero_word
theorem mid_9 : after midOps V (Proc.devRef .tc main_v9) = ofStack (F := Ideal) (V (Proc.devRef .tc main_v7_4)) := by
  after_results_entrywise [cast_eq]
theorem post_18 : after postOps V (Proc.devRef .tc main_v18) = ofStack (F := Ideal) (V (Proc.devRef .tc main_v16_6)) := by
  after_results_entrywise [cast_eq]
theorem post_20 : after postOps V (Proc.devRef .tc main_v20) = ofStack (F := Ideal) (V (Proc.devRef .tc main_v16_5)) := by
  after_results_entrywise [cast_eq]
end Entry

variable (m : (ℓ : Loc nD τ sig) → Buf (Elt Ideal) ℓ) (c : Dev nD)

abbrev arg0 : Arr := m ((c : Thread nD τ).loc main_arg0)
abbrev arg1 : Arr := m ((c : Thread nD τ).loc main_arg1)
abbrev arg2 : Arr := m ((c : Thread nD τ).loc main_arg2)

theorem seq_real {x : Arr} (h : AllReal x) (s : Fin 4) (d : Fin 1024) (t : ℕ) (ht : t < 2048) :
    x (ix2 ⟨s.val * 2048 + t, by omega⟩ d) = ((seq x s d t : ℝ) : EReal) := by
  unfold seq
  rw [dif_pos ht]
  exact h _

/-! ### The forward loop -/

theorem at0_0 (k : ℕ) : at0 m k c (Proc.devRef .tc main_v7_0) = toStack (F := Ideal) (arg0 m c) :=
  (at0_keep m main_v7_0 (by decide) (by decide) (by decide) (by decide) (by decide) (by decide) (by decide) c k).trans (pre_0 _)
theorem at0_1 (k : ℕ) : at0 m k c (Proc.devRef .tc main_v7_1) = toStack (F := Ideal) (arg1 m c) :=
  (at0_keep m main_v7_1 (by decide) (by decide) (by decide) (by decide) (by decide) (by decide) (by decide) c k).trans (pre_1 _)
theorem at0_v2 (k : ℕ) : at0 m k c (Proc.devRef .tc main_v2) = toStack (F := Ideal) (arg0 m c) :=
  (at0_keep m main_v2 (by decide) (by decide) (by decide) (by decide) (by decide) (by decide) (by decide) c k).trans (pre_2 _)

theorem at0_when (k : ℕ) (hk : k < 2048) : ((at0 m k c (Proc.devRef .tc main_v7_2) : IVec S_ 32) (Shape.Idx.first h_S_)).toInt = (k : Int) := by
  rw [at0_ctr m c k]
  exact iv_toInt hk

/-- The loop's state, and the two stacks it writes, as arrays of extended reals. -/
abbrev state0 (k : ℕ) : S4x1024.Idx → EReal := at0 m k c (Proc.devRef .tc main_v7_3)
abbrev after0 (k : ℕ) : S2048x4x1024.Idx → EReal := at0 m k c (Proc.devRef .tc main_v7_4)
abbrev before0 (k : ℕ) : S2048x4x1024.Idx → EReal := at0 m k c (Proc.devRef .tc main_v7_5)

theorem next0_apply (h0 : AllReal (arg0 m c)) (h1 : AllReal (arg1 m c)) (s : Fin 4) (d : Fin 1024) (k : ℕ) (hk : k < 2048)
    (h : state0 m c k (ix2 s d) = ((hseq (seq (arg0 m c) s d) (seq (arg1 m c) s d) k : ℝ) : EReal)) :
    (next0 (at0 m k c) : S4x1024.Idx → EReal) (ix2 s d) = ((hseq (seq (arg0 m c) s d) (seq (arg1 m c) s d) (k + 1) : ℝ) : EReal) := by
  unfold next0
  rw [at0_0, at0_1]
  show pick (toStack (F := Ideal) (arg0 m c)) _ (ix2 s d) * state0 m c k (ix2 s d) + pick (toStack (F := Ideal) (arg1 m c)) _ (ix2 s d) = _
  rw [h, pick_apply _ _ k hk (at0_when m c k hk), pick_apply _ _ k hk (at0_when m c k hk), toStack_apply, toStack_apply,
    seq_real h0 s d k hk, seq_real h1 s d k hk, ← EReal.coe_mul, ← EReal.coe_add]
  rfl

theorem forward_inv (h0 : AllReal (arg0 m c)) (h1 : AllReal (arg1 m c)) (s : Fin 4) (d : Fin 1024) : ∀ k, k ≤ 2048 →
    state0 m c k (ix2 s d) = ((hseq (seq (arg0 m c) s d) (seq (arg1 m c) s d) k : ℝ) : EReal)
    ∧ (∀ t : Fin 2048, t.val < k → after0 m c k (ix3 t s d) = ((hseq (seq (arg0 m c) s d) (seq (arg1 m c) s d) (t.val + 1) : ℝ) : EReal))
    ∧ (∀ t : Fin 2048, t.val < k → before0 m c k (ix3 t s d) = ((hseq (seq (arg0 m c) s d) (seq (arg1 m c) s d) t.val : ℝ) : EReal))
  | 0, _ => ⟨pre_3 _ _, fun t h => absurd h (Nat.not_lt_zero _), fun t h => absurd h (Nat.not_lt_zero _)⟩
  | k + 1, hk => by
    obtain ⟨i3, i4, i5⟩ := forward_inv h0 h1 s d k (by omega)
    have hn := next0_apply m c h0 h1 s d k (by omega) i3
    have hw := at0_when m c k (by omega)
    refine ⟨?_, fun t ht => ?_, fun t ht => ?_⟩
    · show (trip0 (at0 m k c) (Proc.devRef .tc main_v7_3) : S4x1024.Idx → EReal) (ix2 s d) = _
      rw [trip0_3]
      exact hn
    · show (trip0 (at0 m k c) (Proc.devRef .tc main_v7_4) : S2048x4x1024.Idx → EReal) (ix3 t s d) = _
      rw [trip0_4, put_apply _ _ _ k (by omega) hw]
      split
      · next e => rw [e]; exact hn
      · next e => exact i4 t (by omega)
    · show (trip0 (at0 m k c) (Proc.devRef .tc main_v7_5) : S2048x4x1024.Idx → EReal) (ix3 t s d) = _
      rw [trip0_5, put_apply _ _ _ k (by omega) hw]
      split
      · next e => rw [e]; exact i3
      · next e => exact i5 t (by omega)

/-! ### The backward loop -/

theorem at1_0 (k : ℕ) : at1 m k c (Proc.devRef .tc main_v16_0) = toStack (F := Ideal) (arg2 m c) := by
  refine (at1_keep m main_v16_0 (by decide) (by decide) (by decide) (by decide) (by decide) (by decide) (by decide) (by decide) (by decide) c k).trans ?_
  rw [show entry1 m c = after midOps (after cond0 (at0 m 2048 c)) from rfl, mid_0, c0_keep _ main_arg2 (by decide),
    at0_keep m main_arg2 (by decide) (by decide) (by decide) (by decide) (by decide) (by decide) (by decide) c 2048,
    show entry0 m c = after preOps (launchContents m c) from rfl, pre_keep _ main_arg2 (by decide)]
theorem at1_1 (k : ℕ) : at1 m k c (Proc.devRef .tc main_v16_1) = at0 m 2048 c (Proc.devRef .tc main_v7_5) := by
  refine (at1_keep m main_v16_1 (by decide) (by decide) (by decide) (by decide) (by decide) (by decide) (by decide) (by decide) (by decide) c k).trans ?_
  rw [show entry1 m c = after midOps (after cond0 (at0 m 2048 c)) from rfl, mid_1, c0_keep _ main_v7_5 (by decide)]
theorem at1_2 (k : ℕ) : at1 m k c (Proc.devRef .tc main_v16_2) = toStack (F := Ideal) (arg0 m c) := by
  refine (at1_keep m main_v16_2 (by decide) (by decide) (by decide) (by decide) (by decide) (by decide) (by decide) (by decide) (by decide) c k).trans ?_
  rw [show entry1 m c = after midOps (after cond0 (at0 m 2048 c)) from rfl, mid_2, c0_keep _ main_v2 (by decide), at0_v2]

theorem at1_when (k : ℕ) (hk : k < 2048) : ((when1 (at1 m k c) : IVec S_ 32) (Shape.Idx.first h_S_)).toInt = ((2047 - k : ℕ) : Int) := by
  unfold when1
  rw [at1_ctr m c k]
  show ((2048#32 - Scf.iv 0#32 1#32 k) - 1#32).toInt = _
  rw [show (2048#32 - Scf.iv 0#32 1#32 k) - 1#32 = BitVec.ofNat 32 (2047 - k) from by
    apply BitVec.eq_of_toNat_eq
    simp [Scf.iv, BitVec.toNat_sub]
    omega]
  exact toInt_ofNat_of_lt (by omega)

abbrev carried1 (k : ℕ) : S4x1024.Idx → EReal := at1 m k c (Proc.devRef .tc main_v16_4)
abbrev da1 (k : ℕ) : S2048x4x1024.Idx → EReal := at1 m k c (Proc.devRef .tc main_v16_5)
abbrev db1 (k : ℕ) : S2048x4x1024.Idx → EReal := at1 m k c (Proc.devRef .tc main_v16_6)

theorem grad1_apply (h2 : AllReal (arg2 m c)) (s : Fin 4) (d : Fin 1024) (k : ℕ) (hk : k < 2048)
    (h : carried1 m c k (ix2 s d) = ((seq (arg0 m c) s d (2048 - k) * gat (seq (arg0 m c) s d) (seq (arg2 m c) s d) (2048 - k) : ℝ) : EReal)) :
    (grad1 (at1 m k c) : S4x1024.Idx → EReal) (ix2 s d) = ((gat (seq (arg0 m c) s d) (seq (arg2 m c) s d) (2047 - k) : ℝ) : EReal) := by
  unfold grad1
  rw [at1_0]
  show carried1 m c k (ix2 s d) + pick (toStack (F := Ideal) (arg2 m c)) _ (ix2 s d) = _
  rw [h, pick_apply _ _ (2047 - k) (by omega) (at1_when m c k hk), toStack_apply, seq_real h2 s d (2047 - k) (by omega), ← EReal.coe_add,
    gat_step _ _ (2047 - k) (by omega), show 2047 - k + 1 = 2048 - k by omega, add_comm]

theorem backward_inv (h0 : AllReal (arg0 m c)) (h1 : AllReal (arg1 m c)) (h2 : AllReal (arg2 m c)) (s : Fin 4) (d : Fin 1024) : ∀ k, k ≤ 2048 →
    carried1 m c k (ix2 s d) = ((seq (arg0 m c) s d (2048 - k) * gat (seq (arg0 m c) s d) (seq (arg2 m c) s d) (2048 - k) : ℝ) : EReal)
    ∧ (∀ t : Fin 2048, 2048 - k ≤ t.val → da1 m c k (ix3 t s d)
        = ((gat (seq (arg0 m c) s d) (seq (arg2 m c) s d) t.val * hseq (seq (arg0 m c) s d) (seq (arg1 m c) s d) t.val : ℝ) : EReal))
    ∧ (∀ t : Fin 2048, 2048 - k ≤ t.val → db1 m c k (ix3 t s d) = ((gat (seq (arg0 m c) s d) (seq (arg2 m c) s d) t.val : ℝ) : EReal))
  | 0, _ => ⟨by
      refine (mid_4 _ _).trans ?_
      rw [show seq (arg0 m c) s d (2048 - 0) = 0 from dif_neg (by omega), zero_mul]
      rfl, fun t h => absurd t.isLt (by omega), fun t h => absurd t.isLt (by omega)⟩
  | k + 1, hk => by
    obtain ⟨i4, i5, i6⟩ := backward_inv h0 h1 h2 s d k (by omega)
    have hg := grad1_apply m c h2 s d k (by omega) i4
    have hw := at1_when m c k (by omega)
    have hb := (forward_inv m c h0 h1 s d 2048 le_rfl).2.2 ⟨2047 - k, by omega⟩ (by show 2047 - k < 2048; omega)
    refine ⟨?_, fun t ht => ?_, fun t ht => ?_⟩
    · show (trip1 (at1 m k c) (Proc.devRef .tc main_v16_4) : S4x1024.Idx → EReal) (ix2 s d) = _
      rw [trip1_4]
      unfold carry1
      rw [at1_2]
      show pick (toStack (F := Ideal) (arg0 m c)) _ (ix2 s d) * (grad1 (at1 m k c) : S4x1024.Idx → EReal) (ix2 s d) = _
      rw [hg, pick_apply _ _ (2047 - k) (by omega) hw, toStack_apply, seq_real h0 s d (2047 - k) (by omega), ← EReal.coe_mul,
        show 2048 - (k + 1) = 2047 - k by omega]
    · show (trip1 (at1 m k c) (Proc.devRef .tc main_v16_5) : S2048x4x1024.Idx → EReal) (ix3 t s d) = _
      rw [trip1_5, put_apply _ _ _ (2047 - k) (by omega) hw]
      split
      · next e =>
        rw [at1_1]
        show (grad1 (at1 m k c) : S4x1024.Idx → EReal) (ix2 s d) * pick (before0 m c 2048) _ (ix2 s d) = _
        rw [hg, pick_apply _ _ (2047 - k) (by omega) hw, hb, ← EReal.coe_mul, e]
      · next e => exact i5 t (by omega)
    · show (trip1 (at1 m k c) (Proc.devRef .tc main_v16_6) : S2048x4x1024.Idx → EReal) (ix3 t s d) = _
      rw [trip1_6, put_apply _ _ _ (2047 - k) (by omega) hw]
      split
      · next e => rw [e]; exact hg
      · next e => exact i6 t (by omega)

/-! ### The results -/

theorem out_hs (h0 : AllReal (arg0 m c)) (h1 : AllReal (arg1 m c)) :
    (final m c (Proc.devRef .tc main_v9) : Arr) = hsArr (arg0 m c) (arg1 m c) := by
  have e : final m c (Proc.devRef .tc main_v9) = ofStack (F := Ideal) (after0 m c 2048) := by
    refine (post_keep _ main_v9 (by decide)).trans <| (c1_keep _ main_v9 (by decide)).trans <|
      (at1_keep m main_v9 (by decide) (by decide) (by decide) (by decide) (by decide) (by decide) (by decide) (by decide) (by decide) c 2048).trans ?_
    rw [show entry1 m c = after midOps (after cond0 (at0 m 2048 c)) from rfl, mid_9, c0_keep _ main_v7_4 (by decide)]
  rw [e]
  funext i
  rw [ofStack_apply]
  exact (forward_inv m c h0 h1 (sq i) (cl i) 2048 le_rfl).2.1 ⟨tm i, Nat.mod_lt _ (by decide)⟩ (Nat.mod_lt _ (by decide))

theorem out_db (h0 : AllReal (arg0 m c)) (h1 : AllReal (arg1 m c)) (h2 : AllReal (arg2 m c)) :
    (final m c (Proc.devRef .tc main_v18) : Arr) = dbArr (arg0 m c) (arg2 m c) := by
  have e : final m c (Proc.devRef .tc main_v18) = ofStack (F := Ideal) (db1 m c 2048) := by
    rw [show final m c = after postOps (after cond1 (at1 m 2048 c)) from rfl, post_18, c1_keep _ main_v16_6 (by decide)]
  rw [e]
  funext i
  rw [ofStack_apply]
  exact (backward_inv m c h0 h1 h2 (sq i) (cl i) 2048 le_rfl).2.2 ⟨tm i, Nat.mod_lt _ (by decide)⟩ (by omega)

theorem out_da (h0 : AllReal (arg0 m c)) (h1 : AllReal (arg1 m c)) (h2 : AllReal (arg2 m c)) :
    (final m c (Proc.devRef .tc main_v20) : Arr) = daArr (arg0 m c) (arg1 m c) (arg2 m c) := by
  have e : final m c (Proc.devRef .tc main_v20) = ofStack (F := Ideal) (da1 m c 2048) := by
    rw [show final m c = after postOps (after cond1 (at1 m 2048 c)) from rfl, post_20, c1_keep _ main_v16_5 (by decide)]
  rw [e]
  funext i
  rw [ofStack_apply]
  exact (backward_inv m c h0 h1 h2 (sq i) (cl i) 2048 le_rfl).2.1 ⟨tm i, Nat.mod_lt _ (by decide)⟩ (by omega)

end Cert.ReferenceIdeal.Scan
-- ==== Proof.lean ====
/-
  The proof of `Cert.Claim` (proofs.«01_k».proof.Defs). The kernels' frames are the generated ones; the scan reference's is
  its run (`Proof/RefRun.lean`), the other references' are the runs of their operations. The value claim of the scan is the
  kernels' results (`Proof/KernelRun.lean`) against the reference's (`Proof/RefValue.lean`), both the arrays `hsArr`, `dbArr`,
  `daArr` of `Proof/Arrays.lean`. Those of the other calls are in the modules named
  after them.
-/
module

public import proofs.«01_k».proof.Proof.Gen.FfnUp.Frame
public import proofs.«01_k».proof.Proof.Gen.FfnUpIdeal.Value
public import proofs.«01_k».proof.Proof.Gen.FfnUpRefIdeal.Run
public import proofs.«01_k».proof.Proof.FfnUpValue
public import proofs.«01_k».proof.Proof.Gen.FfnDown.Frame
public import proofs.«01_k».proof.Proof.Gen.FfnDownIdeal.Value
public import proofs.«01_k».proof.Proof.Gen.FfnDownRefIdeal.Run
public import proofs.«01_k».proof.Proof.FfnDownValue
public import proofs.«01_k».proof.Proof.Gen.FfnDownDx.Frame
public import proofs.«01_k».proof.Proof.Gen.FfnDownDxIdeal.Value
public import proofs.«01_k».proof.Proof.Gen.FfnDownDxRefIdeal.Run
public import proofs.«01_k».proof.Proof.FfnDownDxValue
public import proofs.«01_k».proof.Proof.Gen.FfnDownDw.Frame
public import proofs.«01_k».proof.Proof.Gen.FfnDownDwIdeal.Value
public import proofs.«01_k».proof.Proof.Gen.FfnDownDwRefIdeal.Run
public import proofs.«01_k».proof.Proof.FfnDownDwValue
public import proofs.«01_k».proof.Proof.Gen.FfnUpDx.Frame
public import proofs.«01_k».proof.Proof.Gen.FfnUpDxIdeal.Value
public import proofs.«01_k».proof.Proof.Gen.FfnUpDxRefIdeal.Run
public import proofs.«01_k».proof.Proof.FfnUpDxValue
public import proofs.«01_k».proof.Proof.Gen.FfnUp1.Frame
public import proofs.«01_k».proof.Proof.Gen.FfnUp1Ideal.Value
public import proofs.«01_k».proof.Proof.Gen.FfnUp1RefIdeal.Run
public import proofs.«01_k».proof.Proof.FfnUp1Value
public import proofs.«01_k».proof.Proof.Gen.FfnUp1Dx.Frame
public import proofs.«01_k».proof.Proof.Gen.FfnUp1DxIdeal.Value
public import proofs.«01_k».proof.Proof.Gen.FfnUp1DxRefIdeal.Run
public import proofs.«01_k».proof.Proof.FfnUp1DxValue
public import proofs.«01_k».proof.Proof.Gen.FfnUpDw.Frame
public import proofs.«01_k».proof.Proof.Gen.FfnUpDwIdeal.Value
public import proofs.«01_k».proof.Proof.Gen.FfnUpDwRefIdeal.Run
public import proofs.«01_k».proof.Proof.FfnUpDwValue
public import proofs.«01_k».proof.Proof.Gen.LruIn.Frame
public import proofs.«01_k».proof.Proof.Gen.LruInIdeal.Value
public import proofs.«01_k».proof.Proof.Gen.LruInRefIdeal.Run
public import proofs.«01_k».proof.Proof.LruInValue
public import proofs.«01_k».proof.Proof.Gen.LruInDx.Frame
public import proofs.«01_k».proof.Proof.Gen.LruInDxIdeal.Value
public import proofs.«01_k».proof.Proof.Gen.LruInDxRefIdeal.Run
public import proofs.«01_k».proof.Proof.LruInDxValue
public import proofs.«01_k».proof.Proof.Gen.LruInDw.Frame
public import proofs.«01_k».proof.Proof.Gen.LruInDwIdeal.Value
public import proofs.«01_k».proof.Proof.Gen.LruInDwRefIdeal.Run
public import proofs.«01_k».proof.Proof.LruInDwValue
public import proofs.«01_k».proof.Proof.Gen.LruOut.Frame
public import proofs.«01_k».proof.Proof.Gen.LruOutIdeal.Value
public import proofs.«01_k».proof.Proof.Gen.LruOutRefIdeal.Run
public import proofs.«01_k».proof.Proof.LruOutValue
public import proofs.«01_k».proof.Proof.Gen.LruOutDx.Frame
public import proofs.«01_k».proof.Proof.Gen.LruOutDxIdeal.Value
public import proofs.«01_k».proof.Proof.Gen.LruOutDxRefIdeal.Run
public import proofs.«01_k».proof.Proof.LruOutDxValue
public import proofs.«01_k».proof.Proof.Gen.LruOutDw.Frame
public import proofs.«01_k».proof.Proof.Gen.LruOutDwIdeal.Value
public import proofs.«01_k».proof.Proof.Gen.LruOutDwRefIdeal.Run
public import proofs.«01_k».proof.Proof.LruOutDwValue
public import proofs.«01_k».proof.Proof.Gen.RwkvR.Frame
public import proofs.«01_k».proof.Proof.Gen.RwkvRIdeal.Value
public import proofs.«01_k».proof.Proof.Gen.RwkvRRefIdeal.Run
public import proofs.«01_k».proof.Proof.RwkvRValue
public import proofs.«01_k».proof.Proof.Gen.RwkvOut.Frame
public import proofs.«01_k».proof.Proof.Gen.RwkvOutIdeal.Value
public import proofs.«01_k».proof.Proof.Gen.RwkvOutRefIdeal.Run
public import proofs.«01_k».proof.Proof.RwkvOutValue
public import proofs.«01_k».proof.Proof.Gen.NormBwd.Frame
public import proofs.«01_k».proof.Proof.Gen.NormBwdIdeal.Value
public import proofs.«01_k».proof.Proof.Gen.NormBwdRefIdeal.Run
public import proofs.«01_k».proof.Proof.NormBwdValue
public import proofs.«01_k».proof.Proof.Gen.FfnAct.Frame
public import proofs.«01_k».proof.Proof.Gen.FfnActIdeal.Value
public import proofs.«01_k».proof.Proof.Gen.FfnActRefIdeal.Run
public import proofs.«01_k».proof.Proof.FfnActValue
public import proofs.«01_k».proof.Proof.Gen.FfnActBwd.Frame
public import proofs.«01_k».proof.Proof.Gen.FfnActBwdIdeal.Value
public import proofs.«01_k».proof.Proof.Gen.FfnActBwdRefIdeal.Run
public import proofs.«01_k».proof.Proof.FfnActBwdRef
public import proofs.«01_k».proof.Proof.Gen.LruMixBwd.Frame
public import proofs.«01_k».proof.Proof.Gen.LruMixBwdIdeal.Value
public import proofs.«01_k».proof.Proof.Gen.LruMixBwdRefIdeal.Run
public import proofs.«01_k».proof.Proof.LruMixBwdRef
public import proofs.«01_k».proof.Proof.Gen.RwkvMixBwd.Frame
public import proofs.«01_k».proof.Proof.Gen.RwkvMixBwdIdeal.Value
public import proofs.«01_k».proof.Proof.Gen.RwkvMixBwdRefIdeal.Run
public import proofs.«01_k».proof.Proof.RwkvMixBwdRef
public import proofs.«01_k».proof.Proof.Gen.RwkvPostBwd.Frame
public import proofs.«01_k».proof.Proof.Gen.RwkvPostBwdIdeal.Value
public import proofs.«01_k».proof.Proof.Gen.RwkvPostBwdRefIdeal.Run
public import proofs.«01_k».proof.Proof.RwkvPostBwdRef
public import proofs.«01_k».proof.Proof.Gen.LossHead.Frame
public import proofs.«01_k».proof.Proof.Gen.LossHeadIdeal.Value
public import proofs.«01_k».proof.Proof.Gen.LossHeadRefIdeal.Run
public import proofs.«01_k».proof.Proof.LossHeadValue
public import proofs.«01_k».proof.Proof.Gen.Norm.Frame
public import proofs.«01_k».proof.Proof.Gen.NormIdeal.Value
public import proofs.«01_k».proof.Proof.Gen.NormRefIdeal.Run
public import proofs.«01_k».proof.Proof.NormValue
public import proofs.«01_k».proof.Proof.Gen.LruMix.Frame
public import proofs.«01_k».proof.Proof.Gen.LruMixIdeal.Value
public import proofs.«01_k».proof.Proof.Gen.LruMixRefIdeal.Run
public import proofs.«01_k».proof.Proof.LruMixValue
public import proofs.«01_k».proof.Proof.Gen.RwkvMix.Frame
public import proofs.«01_k».proof.Proof.Gen.RwkvMixIdeal.Value
public import proofs.«01_k».proof.Proof.Gen.RwkvMixRefIdeal.Run
public import proofs.«01_k».proof.Proof.RwkvMixValue
public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.ReferenceIdeal
public import proofs.«01_k».proof.Proof.KernelRun
public import proofs.«01_k».proof.Proof.RefValue
public import proofs.«01_k».proof.Proof.Pre

@[expose] public section

noncomputable section

namespace Cert.Proof

open Idealize.ShloMosaic Idealize.SL.Sem

/-- The reference's frame. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
        ∧ r.2.sem = fun _ => 0) :=
  (θ_run _ _ _).mono (fun r h => ⟨fun c =>
    ⟨(h.1 c Cert.ReferenceIdeal.main_arg0 rfl).trans (Cert.ReferenceIdeal.Scan.final_arg m _ (by decide) c),
     (h.1 c Cert.ReferenceIdeal.main_arg1 rfl).trans (Cert.ReferenceIdeal.Scan.final_arg m _ (by decide) c),
     (h.1 c Cert.ReferenceIdeal.main_arg2 rfl).trans (Cert.ReferenceIdeal.Scan.final_arg m _ (by decide) c)⟩, h.2⟩)
    (Cert.ReferenceIdeal.Scan.run m g)

theorem algebraic : @Cert.algebraic_KernelIdeal_ReferenceIdeal_pre_finite Cert.KernelIdeal.Gen.facts Cert.ReferenceIdeal.Gen.facts
    Cert.Pre_finite.Scan.facts := by
  intro m g m' g' hpre hargs
  have hr := @Cert.Pre_finite.Scan.args m hpre
  have e0 : ∀ c, Cert.ReferenceIdeal.Scan.arg0 m' c = Cert.KernelIdeal.Scan.arg0 m c := fun c => (hargs c).1
  have e1 : ∀ c, Cert.ReferenceIdeal.Scan.arg1 m' c = Cert.KernelIdeal.Scan.arg1 m c := fun c => (hargs c).2.1
  have e2 : ∀ c, Cert.ReferenceIdeal.Scan.arg2 m' c = Cert.KernelIdeal.Scan.arg2 m c := fun c => (hargs c).2.2
  have h0 : ∀ c, Cert.KernelIdeal.Scan.AllReal (Cert.ReferenceIdeal.Scan.arg0 m' c) := fun c => (e0 c).symm ▸ (hr c).1
  have h1 : ∀ c, Cert.KernelIdeal.Scan.AllReal (Cert.ReferenceIdeal.Scan.arg1 m' c) := fun c => (e1 c).symm ▸ (hr c).2.1
  have h2 : ∀ c, Cert.KernelIdeal.Scan.AllReal (Cert.ReferenceIdeal.Scan.arg2 m' c) := fun c => (e2 c).symm ▸ (hr c).2.2
  refine ⟨fun c => Cert.KernelIdeal.Scan.hsArr (Cert.KernelIdeal.Scan.arg0 m c) (Cert.KernelIdeal.Scan.arg1 m c),
    fun c => Cert.KernelIdeal.Scan.dbArr (Cert.KernelIdeal.Scan.arg0 m c) (Cert.KernelIdeal.Scan.arg2 m c),
    fun c => Cert.KernelIdeal.Scan.daArr (Cert.KernelIdeal.Scan.arg0 m c) (Cert.KernelIdeal.Scan.arg1 m c) (Cert.KernelIdeal.Scan.arg2 m c),
    Cert.KernelIdeal.Scan.run_value m g hr, ?_⟩
  refine (θ_run _ _ _).mono (fun r h c => ?_) (Cert.ReferenceIdeal.Scan.run m' g')
  refine ⟨(h.1 c Cert.ReferenceIdeal.main_v9 rfl).trans ?_, (h.1 c Cert.ReferenceIdeal.main_v18 rfl).trans ?_,
    (h.1 c Cert.ReferenceIdeal.main_v20 rfl).trans ?_,
    (h.1 c Cert.ReferenceIdeal.main_arg0 rfl).trans (Cert.ReferenceIdeal.Scan.final_arg m' _ (by decide) c),
    (h.1 c Cert.ReferenceIdeal.main_arg1 rfl).trans (Cert.ReferenceIdeal.Scan.final_arg m' _ (by decide) c),
    (h.1 c Cert.ReferenceIdeal.main_arg2 rfl).trans (Cert.ReferenceIdeal.Scan.final_arg m' _ (by decide) c)⟩
  · refine (Cert.ReferenceIdeal.Scan.out_hs m' c (h0 c) (h1 c)).trans ?_
    rw [e0 c, e1 c]
  · refine (Cert.ReferenceIdeal.Scan.out_db m' c (h0 c) (h1 c) (h2 c)).trans ?_
    rw [e0 c, e2 c]
  · refine (Cert.ReferenceIdeal.Scan.out_da m' c (h0 c) (h1 c) (h2 c)).trans ?_
    rw [e0 c, e1 c, e2 c]

theorem claim : Cert.Claim := ⟨Cert.Kernel.Gen.facts, Cert.KernelIdeal.Gen.facts, Cert.ReferenceIdeal.Gen.facts, Cert.FfnUp.Gen.facts, Cert.FfnUpIdeal.Gen.facts, Cert.FfnUpRefIdeal.Gen.facts, Cert.FfnDown.Gen.facts, Cert.FfnDownIdeal.Gen.facts, Cert.FfnDownRefIdeal.Gen.facts, Cert.FfnDownDx.Gen.facts, Cert.FfnDownDxIdeal.Gen.facts, Cert.FfnDownDxRefIdeal.Gen.facts, Cert.FfnDownDw.Gen.facts, Cert.FfnDownDwIdeal.Gen.facts, Cert.FfnDownDwRefIdeal.Gen.facts, Cert.FfnUpDx.Gen.facts, Cert.FfnUpDxIdeal.Gen.facts, Cert.FfnUpDxRefIdeal.Gen.facts, Cert.FfnUp1.Gen.facts, Cert.FfnUp1Ideal.Gen.facts, Cert.FfnUp1RefIdeal.Gen.facts, Cert.FfnUp1Dx.Gen.facts, Cert.FfnUp1DxIdeal.Gen.facts, Cert.FfnUp1DxRefIdeal.Gen.facts, Cert.FfnUpDw.Gen.facts, Cert.FfnUpDwIdeal.Gen.facts, Cert.FfnUpDwRefIdeal.Gen.facts, Cert.LruIn.Gen.facts, Cert.LruInIdeal.Gen.facts, Cert.LruInRefIdeal.Gen.facts, Cert.LruInDx.Gen.facts, Cert.LruInDxIdeal.Gen.facts, Cert.LruInDxRefIdeal.Gen.facts, Cert.LruInDw.Gen.facts, Cert.LruInDwIdeal.Gen.facts, Cert.LruInDwRefIdeal.Gen.facts, Cert.LruOut.Gen.facts, Cert.LruOutIdeal.Gen.facts, Cert.LruOutRefIdeal.Gen.facts, Cert.LruOutDx.Gen.facts, Cert.LruOutDxIdeal.Gen.facts, Cert.LruOutDxRefIdeal.Gen.facts, Cert.LruOutDw.Gen.facts, Cert.LruOutDwIdeal.Gen.facts, Cert.LruOutDwRefIdeal.Gen.facts, Cert.RwkvR.Gen.facts, Cert.RwkvRIdeal.Gen.facts, Cert.RwkvRRefIdeal.Gen.facts, Cert.RwkvOut.Gen.facts, Cert.RwkvOutIdeal.Gen.facts, Cert.RwkvOutRefIdeal.Gen.facts, Cert.NormBwd.Gen.facts, Cert.NormBwdIdeal.Gen.facts, Cert.NormBwdRefIdeal.Gen.facts, Cert.FfnAct.Gen.facts, Cert.FfnActIdeal.Gen.facts, Cert.FfnActRefIdeal.Gen.facts, Cert.FfnActBwd.Gen.facts, Cert.FfnActBwdIdeal.Gen.facts, Cert.FfnActBwdRefIdeal.Gen.facts, Cert.LruMixBwd.Gen.facts, Cert.LruMixBwdIdeal.Gen.facts, Cert.LruMixBwdRefIdeal.Gen.facts, Cert.RwkvMixBwd.Gen.facts, Cert.RwkvMixBwdIdeal.Gen.facts, Cert.RwkvMixBwdRefIdeal.Gen.facts, Cert.RwkvPostBwd.Gen.facts, Cert.RwkvPostBwdIdeal.Gen.facts, Cert.RwkvPostBwdRefIdeal.Gen.facts, Cert.LossHead.Gen.facts, Cert.LossHeadIdeal.Gen.facts, Cert.LossHeadRefIdeal.Gen.facts, Cert.Norm.Gen.facts, Cert.NormIdeal.Gen.facts, Cert.NormRefIdeal.Gen.facts, Cert.LruMix.Gen.facts, Cert.LruMixIdeal.Gen.facts, Cert.LruMixRefIdeal.Gen.facts, Cert.RwkvMix.Gen.facts, Cert.RwkvMixIdeal.Gen.facts, Cert.RwkvMixRefIdeal.Gen.facts, Cert.Pre_finite.Scan.facts, Cert.Pre_finite_act.Gate.facts, Cert.Pre_finite_mix.Gate.facts, Cert.Pre_finite_shift.Gate.facts, Cert.Pre_finite_post.Gate.facts,
  fun m ρ _ => Cert.Kernel.Gen.frame m ρ,
  fun m ρ _ => Cert.KernelIdeal.Gen.frame m ρ,
  fun m ρ _ => Cert.KernelIdeal.Gen.frame m ρ,
  fun m ρ _ => frame_reference m ρ,
  fun m ρ _ => frame_reference m ρ,
  fun m ρ _ => Cert.FfnUp.Gen.frame m ρ,
  fun m ρ _ => Cert.FfnUpIdeal.Gen.frame m ρ,
  frame_FfnUpRef,
  fun m ρ _ => Cert.FfnDown.Gen.frame m ρ,
  fun m ρ _ => Cert.FfnDownIdeal.Gen.frame m ρ,
  frame_FfnDownRef,
  fun m ρ _ => Cert.FfnDownDx.Gen.frame m ρ,
  fun m ρ _ => Cert.FfnDownDxIdeal.Gen.frame m ρ,
  frame_FfnDownDxRef,
  fun m ρ _ => Cert.FfnDownDw.Gen.frame m ρ,
  fun m ρ _ => Cert.FfnDownDwIdeal.Gen.frame m ρ,
  frame_FfnDownDwRef,
  fun m ρ _ => Cert.FfnUpDx.Gen.frame m ρ,
  fun m ρ _ => Cert.FfnUpDxIdeal.Gen.frame m ρ,
  frame_FfnUpDxRef,
  fun m ρ _ => Cert.FfnUp1.Gen.frame m ρ,
  fun m ρ _ => Cert.FfnUp1Ideal.Gen.frame m ρ,
  frame_FfnUp1Ref,
  fun m ρ _ => Cert.FfnUp1Dx.Gen.frame m ρ,
  fun m ρ _ => Cert.FfnUp1DxIdeal.Gen.frame m ρ,
  frame_FfnUp1DxRef,
  fun m ρ _ => Cert.FfnUpDw.Gen.frame m ρ,
  fun m ρ _ => Cert.FfnUpDwIdeal.Gen.frame m ρ,
  frame_FfnUpDwRef,
  fun m ρ _ => Cert.LruIn.Gen.frame m ρ,
  fun m ρ _ => Cert.LruInIdeal.Gen.frame m ρ,
  frame_LruInRef,
  fun m ρ _ => Cert.LruInDx.Gen.frame m ρ,
  fun m ρ _ => Cert.LruInDxIdeal.Gen.frame m ρ,
  frame_LruInDxRef,
  fun m ρ _ => Cert.LruInDw.Gen.frame m ρ,
  fun m ρ _ => Cert.LruInDwIdeal.Gen.frame m ρ,
  frame_LruInDwRef,
  fun m ρ _ => Cert.LruOut.Gen.frame m ρ,
  fun m ρ _ => Cert.LruOutIdeal.Gen.frame m ρ,
  frame_LruOutRef,
  fun m ρ _ => Cert.LruOutDx.Gen.frame m ρ,
  fun m ρ _ => Cert.LruOutDxIdeal.Gen.frame m ρ,
  frame_LruOutDxRef,
  fun m ρ _ => Cert.LruOutDw.Gen.frame m ρ,
  fun m ρ _ => Cert.LruOutDwIdeal.Gen.frame m ρ,
  frame_LruOutDwRef,
  fun m ρ _ => Cert.RwkvR.Gen.frame m ρ,
  fun m ρ _ => Cert.RwkvRIdeal.Gen.frame m ρ,
  frame_RwkvRRef,
  fun m ρ _ => Cert.RwkvOut.Gen.frame m ρ,
  fun m ρ _ => Cert.RwkvOutIdeal.Gen.frame m ρ,
  frame_RwkvOutRef,
  fun m ρ _ => Cert.NormBwd.Gen.frame m ρ,
  fun m ρ _ => Cert.NormBwdIdeal.Gen.frame m ρ,
  frame_NormBwdRef,
  fun m ρ _ => Cert.FfnAct.Gen.frame m ρ,
  fun m ρ _ => Cert.FfnActIdeal.Gen.frame m ρ,
  frame_FfnActRef,
  fun m ρ _ => Cert.FfnActBwd.Gen.frame m ρ,
  fun m ρ _ => Cert.FfnActBwdIdeal.Gen.frame m ρ,
  fun m ρ _ => Cert.FfnActBwdIdeal.Gen.frame m ρ,
  frame_FfnActBwdRef,
  fun m ρ _ => frame_FfnActBwdRef m ρ trivial,
  fun m ρ _ => Cert.LruMixBwd.Gen.frame m ρ,
  fun m ρ _ => Cert.LruMixBwdIdeal.Gen.frame m ρ,
  fun m ρ _ => Cert.LruMixBwdIdeal.Gen.frame m ρ,
  frame_LruMixBwdRef,
  fun m ρ _ => frame_LruMixBwdRef m ρ trivial,
  fun m ρ _ => Cert.RwkvMixBwd.Gen.frame m ρ,
  fun m ρ _ => Cert.RwkvMixBwdIdeal.Gen.frame m ρ,
  fun m ρ _ => Cert.RwkvMixBwdIdeal.Gen.frame m ρ,
  frame_RwkvMixBwdRef,
  fun m ρ _ => frame_RwkvMixBwdRef m ρ trivial,
  fun m ρ _ => Cert.RwkvPostBwd.Gen.frame m ρ,
  fun m ρ _ => Cert.RwkvPostBwdIdeal.Gen.frame m ρ,
  fun m ρ _ => Cert.RwkvPostBwdIdeal.Gen.frame m ρ,
  frame_RwkvPostBwdRef,
  fun m ρ _ => frame_RwkvPostBwdRef m ρ trivial,
  fun m ρ _ => Cert.LossHead.Gen.frame m ρ,
  fun m ρ _ => Cert.LossHeadIdeal.Gen.frame m ρ,
  frame_LossHeadRef,
  fun m ρ _ => Cert.Norm.Gen.frame m ρ,
  fun m ρ _ => Cert.NormIdeal.Gen.frame m ρ,
  frame_NormRef,
  fun m ρ _ => Cert.LruMix.Gen.frame m ρ,
  fun m ρ _ => Cert.LruMixIdeal.Gen.frame m ρ,
  frame_LruMixRef,
  fun m ρ _ => Cert.RwkvMix.Gen.frame m ρ,
  fun m ρ _ => Cert.RwkvMixIdeal.Gen.frame m ρ,
  frame_RwkvMixRef,
  trivial,
  algebraic,
  trivial,
  ffnUp,
  trivial,
  ffnDown,
  trivial,
  ffnDownDx,
  trivial,
  ffnDownDw,
  trivial,
  ffnUpDx,
  trivial,
  ffnUp1,
  trivial,
  ffnUp1Dx,
  trivial,
  ffnUpDw,
  trivial,
  lruIn,
  trivial,
  lruInDx,
  trivial,
  lruInDw,
  trivial,
  lruOut,
  trivial,
  lruOutDx,
  trivial,
  lruOutDw,
  trivial,
  rwkvR,
  trivial,
  rwkvOut,
  trivial,
  normBwd,
  trivial,
  ffnAct,
  trivial,
  ffnActBwd,
  trivial,
  lruMixBwd,
  trivial,
  rwkvMixBwd,
  trivial,
  rwkvPostBwd,
  trivial,
  lossHead,
  trivial,
  norm,
  trivial,
  lruMix,
  trivial,
  rwkvMix⟩

end Cert.Proof

end
